-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v83) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v32) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v29) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v29_0)) (v1 : (c : Dev Cert.Kernel8Ideal.nD) → Buf (Elt Ideal) ((c.tc : Thread Cert.Kernel8Ideal.nD Cert.Kernel8Ideal.τ).loc Cert.Kernel8Ideal.main_v29_1)) (v2 : (c : Dev Cert.Kernel8Ideal.nD) → Buf (Elt Ideal) ((c.tc : Thread Cert.Kernel8Ideal.nD Cert.Kernel8Ideal.τ).loc Cert.Kernel8Ideal.main_v29_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29_0) = v0 c
          ∧ r.2.mem ((c.tc : Thread Cert.Kernel8Ideal.nD Cert.Kernel8Ideal.τ).loc Cert.Kernel8Ideal.main_v29_1) = v1 c
          ∧ r.2.mem ((c.tc : Thread Cert.Kernel8Ideal.nD Cert.Kernel8Ideal.τ).loc Cert.Kernel8Ideal.main_v29_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v63) = v1 c
          ∧ r.2.mem ((c.tc : Thread Cert.Reference8Ideal.nD Cert.Reference8Ideal.τ).loc Cert.Reference8Ideal.main_v67) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite9 : Cert.Pre_finite9.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite9.lean ====
abbrev S2x8192x800 : Shape := ⟨3, ![2, 8192, 800]⟩
abbrev S2x16x128 : Shape := ⟨3, ![2, 16, 128]⟩
abbrev S2x128 : Shape := ⟨2, ![2, 128]⟩
abbrev S256 : Shape := ⟨1, ![256]⟩
abbrev S2x8192x256 : Shape := ⟨3, ![2, 8192, 256]⟩
abbrev S2x8192x512 : Shape := ⟨3, ![2, 8192, 512]⟩
abbrev S_ : Shape := ⟨0, ![]⟩
abbrev S2x8192x16 : Shape := ⟨3, ![2, 8192, 16]⟩
abbrev S1x16x128 : Shape := ⟨3, ![1, 16, 128]⟩
abbrev S16x128 : Shape := ⟨2, ![16, 128]⟩
abbrev S1x128 : Shape := ⟨2, ![1, 128]⟩
abbrev S128 : Shape := ⟨1, ![128]⟩

class Facts : Prop where
  slices_S2x8192x800_S2x8192x512_0_0_0 : S2x8192x800.Slices ![0, 0, 0] S2x8192x512
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  slices_S2x8192x800_S2x8192x16_0_0_784 : S2x8192x800.Slices ![0, 0, 784] S2x8192x16
  bcast_S_S2x8192x16 : S_.BroadcastsInDim S2x8192x16 (![] : Fin 0 → Fin S2x8192x16.rank)
  reducesTo_S2x8192x16_S_d0_1_2 : S2x8192x16.ReducesTo [0, 1, 2] S_
  slices_S2x16x128_S1x16x128_1_0_0 : S2x16x128.Slices ![1, 0, 0] S1x16x128
  shapeCasts_S1x16x128_S16x128 : S1x16x128.ShapeCasts S16x128
  bcast_S_S16x128 : S_.BroadcastsInDim S16x128 (![] : Fin 0 → Fin S16x128.rank)
  reducesTo_S16x128_S_d0_1 : S16x128.ReducesTo [0, 1] S_
  slices_S2x128_S1x128_1_0 : S2x128.Slices ![1, 0] S1x128
  shapeCasts_S1x128_S128 : S1x128.ShapeCasts S128
  bcast_S_S128 : S_.BroadcastsInDim S128 (![] : Fin 0 → Fin S128.rank)
  reducesTo_S128_S_d0 : S128.ReducesTo [0] S_
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn_part1 {F : FTy → Type} [FloatOps F] (main_arg2 : FVec F S2x128 .f32) (main_arg4 : FVec F S2x8192x256 .f32) (main_v17 : IVec S_ 1) : IVec S_ 1 :=
  let main_v18 : FVec F S1x128 .f32 := (extractStridedSlice S1x128 ![1, 0] · slices_S2x128_S1x128_1_0) main_arg2
  let main_v19 : FVec F S128 .f32 := shapeCast S128 main_v18 shapeCasts_S1x128_S128
  let main_v20 : FVec F S128 .f32 := Host.absf main_v19
  let main_cst_4 : FVec F S_ .f32 := constant S_ .f32 0x7F800000#32
  let main_v21 : FVec F S128 .f32 := broadcastInDim S128 ![] bcast_S_S128 main_cst_4
  let main_v22 : IVec S128 1 := cmpf .olt main_v20 main_v21
  let main_c_5 : IVec S_ 1 := constantI S_ 1 1#1
  let main_v23 : IVec S_ 1 := (fun x v => Host.reduce IntOp.andi x v reducesTo_S128_S_d0 h_S_) main_v22 main_c_5
  let main_v24 : IVec S_ 1 := andi main_v17 main_v23
  let main_v25 : FVec F S2x8192x256 .f32 := Host.absf main_arg4
  let main_cst_6 : FVec F S_ .f32 := constant S_ .f32 0x7F800000#32
  let main_v26 : FVec F S2x8192x256 .f32 := broadcastInDim S2x8192x256 ![] bcast_S_S2x8192x256 main_cst_6
  let main_v27 : IVec S2x8192x256 1 := cmpf .olt main_v25 main_v26
  let main_c_7 : IVec S_ 1 := constantI S_ 1 1#1
  let main_v28 : IVec S_ 1 := (fun x v => Host.reduce IntOp.andi x v reducesTo_S2x8192x256_S_d0_1_2 h_S_) main_v27 main_c_7
  let main_v29 : IVec S_ 1 := andi main_v24 main_v28
  main_v29

def fn {F : FTy → Type} [FloatOps F] (main_arg0 : FVec F S2x8192x800 .f32) (main_arg1 : FVec F S2x16x128 .f32) (main_arg2 : FVec F S2x128 .f32) (main_arg3 : FVec F S256 .f32) (main_arg4 : FVec F S2x8192x256 .f32) : IVec S_ 1 :=
  let main_v0 : FVec F S2x8192x512 .f32 := (extractStridedSlice S2x8192x512 ![0, 0, 0] · slices_S2x8192x800_S2x8192x512_0_0_0) main_arg0
  let main_v1 : FVec F S2x8192x512 .f32 := Host.absf main_v0
  let main_cst : FVec F S_ .f32 := constant S_ .f32 0x7F800000#32
  let main_v2 : FVec F S2x8192x512 .f32 := broadcastInDim S2x8192x512 ![] bcast_S_S2x8192x512 main_cst
  let main_v3 : IVec S2x8192x512 1 := cmpf .olt main_v1 main_v2
  let main_c : IVec S_ 1 := constantI S_ 1 1#1
  let main_v4 : IVec S_ 1 := (fun x v => Host.reduce IntOp.andi x v reducesTo_S2x8192x512_S_d0_1_2 h_S_) main_v3 main_c
  let main_v5 : FVec F S2x8192x16 .f32 := (extractStridedSlice S2x8192x16 ![0, 0, 784] · slices_S2x8192x800_S2x8192x16_0_0_784) main_arg0
  let main_v6 : FVec F S2x8192x16 .f32 := Host.absf main_v5
  let main_cst_0 : FVec F S_ .f32 := constant S_ .f32 0x7F800000#32
  let main_v7 : FVec F S2x8192x16 .f32 := broadcastInDim S2x8192x16 ![] bcast_S_S2x8192x16 main_cst_0
  let main_v8 : IVec S2x8192x16 1 := cmpf .olt main_v6 main_v7
  let main_c_1 : IVec S_ 1 := constantI S_ 1 1#1
  let main_v9 : IVec S_ 1 := (fun x v => Host.reduce IntOp.andi x v reducesTo_S2x8192x16_S_d0_1_2 h_S_) main_v8 main_c_1
  let main_v10 : IVec S_ 1 := andi main_v4 main_v9
  let main_v11 : FVec F S1x16x128 .f32 := (extractStridedSlice S1x16x128 ![1, 0, 0] · slices_S2x16x128_S1x16x128_1_0_0) main_arg1
  let main_v12 : FVec F S16x128 .f32 := shapeCast S16x128 main_v11 shapeCasts_S1x16x128_S16x128
  let main_v13 : FVec F S16x128 .f32 := Host.absf main_v12
  let main_cst_2 : FVec F S_ .f32 := constant S_ .f32 0x7F800000#32
  let main_v14 : FVec F S16x128 .f32 := broadcastInDim S16x128 ![] bcast_S_S16x128 main_cst_2
  let main_v15 : IVec S16x128 1 := cmpf .olt main_v13 main_v14
  let main_c_3 : IVec S_ 1 := constantI S_ 1 1#1
  let main_v16 : IVec S_ 1 := (fun x v => Host.reduce IntOp.andi x v reducesTo_S16x128_S_d0_1 h_S_) main_v15 main_c_3
  let main_v17 : IVec S_ 1 := andi main_v10 main_v16
  fn_part1 (F := F) main_arg2 main_arg4 main_v17
-- ==== Kernel.lean ====
abbrev S2x8192x800 : Shape := ⟨3, ![2, 8192, 800]⟩
abbrev S2x16x128 : Shape := ⟨3, ![2, 16, 128]⟩
abbrev S2x128 : Shape := ⟨2, ![2, 128]⟩
abbrev S_ : Shape := ⟨0, ![]⟩
abbrev S2x8192x896 : Shape := ⟨3, ![2, 8192, 896]⟩
abbrev S128x128 : Shape := ⟨2, ![128, 128]⟩
abbrev S1x16x128 : Shape := ⟨3, ![1, 16, 128]⟩
abbrev S16x128 : Shape := ⟨2, ![16, 128]⟩
abbrev S1 : Shape := ⟨1, ![1]⟩
abbrev S1x128 : Shape := ⟨2, ![1, 128]⟩
abbrev S128 : Shape := ⟨1, ![128]⟩
abbrev S2x8192x256 : Shape := ⟨3, ![2, 8192, 256]⟩
abbrev S2x512x128 : Shape := ⟨3, ![2, 512, 128]⟩
abbrev S2x512x256 : Shape := ⟨3, ![2, 512, 256]⟩
abbrev S2x256x128 : Shape := ⟨3, ![2, 256, 128]⟩
abbrev S256x128 : Shape := ⟨2, ![256, 128]⟩
abbrev S256x256 : Shape := ⟨2, ![256, 256]⟩
abbrev S64x256 : Shape := ⟨2, ![64, 256]⟩
abbrev S64x64 : Shape := ⟨2, ![64, 64]⟩
abbrev S1x256x128 : Shape := ⟨3, ![1, 256, 128]⟩
abbrev S1x64x128 : Shape := ⟨3, ![1, 64, 128]⟩
abbrev S64x128 : Shape := ⟨2, ![64, 128]⟩
abbrev S1x64x256 : Shape := ⟨3, ![1, 64, 256]⟩
abbrev S512x128 : Shape := ⟨2, ![512, 128]⟩
abbrev S64x3072 : Shape := ⟨2, ![64, 3072]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x800, .f32⟩
  | .hbm, ⟨1, _⟩ => ⟨S2x16x128, .f32⟩
  | .hbm, ⟨2, _⟩ => ⟨S2x128, .f32⟩
  | .hbm, ⟨3, _⟩ => ⟨S_, .i32⟩
  | .hbm, ⟨4, _⟩ => ⟨S_, .f32⟩
  | .hbm, ⟨5, _⟩ => ⟨S2x8192x896, .f32⟩
  | .hbm, ⟨6, _⟩ => ⟨S_, .f32⟩
  | .hbm, ⟨7, _⟩ => ⟨S128x128, .f32⟩
  | .hbm, ⟨8, _⟩ => ⟨S1x16x128, .f32⟩
  | .hbm, ⟨9, _⟩ => ⟨S16x128, .f32⟩
  | .hbm, ⟨10, _⟩ => ⟨S_, .i32⟩
  | .hbm, ⟨11, _⟩ => ⟨S1, .i32⟩
  | .hbm, ⟨12, _⟩ => ⟨S128x128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S2x8192x256, .f32⟩
  | .local _ .vmem, ⟨0, _⟩ => ⟨S2x512x128, .f32⟩
  | .local _ .vmem, ⟨1, _⟩ => ⟨S2x512x128, .f32⟩
  | .local _ .vmem, ⟨2, _⟩ => ⟨S2x512x128, .f32⟩
  | .local _ .vmem, ⟨3, _⟩ => ⟨S2x512x128, .f32⟩
  | .local _ .vmem, ⟨4, _⟩ => ⟨S2x512x256, .f32⟩
  | .local _ .vmem, ⟨5, _⟩ => ⟨S2x512x256, .f32⟩
  | .local _ .vmem, ⟨6, _⟩ => ⟨S2x512x128, .f32⟩
  | .local _ .vmem, ⟨7, _⟩ => ⟨S2x512x128, .f32⟩
  | .local _ .vmem, ⟨8, _⟩ => ⟨S128x128, .f32⟩
  | .local _ .vmem, ⟨9, _⟩ => ⟨S1x128, .f32⟩
  | .local _ .vmem, ⟨10, _⟩ => ⟨S2x512x256, .f32⟩
  | .local _ .vmem, ⟨11, _⟩ => ⟨S2x512x256, .f32⟩
  | .local _ .vmem, ⟨12, _⟩ => ⟨S2x256x128, .f32⟩
  | _, _ => ⟨S2x8192x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x8192x800 : Shape := ⟨3, ![2, 8192, 800]⟩
abbrev S2x16x128 : Shape := ⟨3, ![2, 16, 128]⟩
abbrev S2x128 : Shape := ⟨2, ![2, 128]⟩
abbrev S2x8192x128 : Shape := ⟨3, ![2, 8192, 128]⟩
abbrev S2x8192x256 : Shape := ⟨3, ![2, 8192, 256]⟩
abbrev S2x8192x32 : Shape := ⟨3, ![2, 8192, 32]⟩
abbrev S2x8192x4x32 : Shape := ⟨4, ![2, 8192, 4, 32]⟩
abbrev S_ : Shape := ⟨0, ![]⟩
abbrev S2x8192x4x64 : Shape := ⟨4, ![2, 8192, 4, 64]⟩
abbrev S2x8192x2x16 : Shape := ⟨4, ![2, 8192, 2, 16]⟩
abbrev S2x128x2x8192 : Shape := ⟨4, ![2, 128, 2, 8192]⟩
abbrev S2x8192x2x128 : Shape := ⟨4, ![2, 8192, 2, 128]⟩
abbrev S1x1x2x128 : Shape := ⟨4, ![1, 1, 2, 128]⟩
abbrev S2x8192x2x4x32 : Shape := ⟨5, ![2, 8192, 2, 4, 32]⟩
abbrev S2x8192x1x4x32 : Shape := ⟨5, ![2, 8192, 1, 4, 32]⟩
abbrev S2x128x64x4x32 : Shape := ⟨5, ![2, 128, 64, 4, 32]⟩
abbrev S2x128x64x4x64 : Shape := ⟨5, ![2, 128, 64, 4, 64]⟩
abbrev S2x128x1x4x32 : Shape := ⟨5, ![2, 128, 1, 4, 32]⟩
abbrev S2x128x4x64x64 : Shape := ⟨5, ![2, 128, 4, 64, 64]⟩
abbrev S64x64 : Shape := ⟨2, ![64, 64]⟩
abbrev S128x2x4x32x64 : Shape := ⟨5, ![128, 2, 4, 32, 64]⟩
abbrev S2x128x4x32 : Shape := ⟨4, ![2, 128, 4, 32]⟩
abbrev S128x2x4x32 : Shape := ⟨4, ![128, 2, 4, 32]⟩
abbrev S2x4x32x64 : Shape := ⟨4, ![2, 4, 32, 64]⟩
abbrev S1x2x4x32 : Shape := ⟨4, ![1, 2, 4, 32]⟩
abbrev S2x4x32 : Shape := ⟨3, ![2, 4, 32]⟩
abbrev S1x2x4x32x64 : Shape := ⟨5, ![1, 2, 4, 32, 64]⟩
abbrev S2x4x32x1 : Shape := ⟨4, ![2, 4, 32, 1]⟩

abbrev nBuf : Space → Nat
  | .hbm => 128
  | .vmem => 0
  | .smem => 0
  | _ => 0

abbrev bufTy : (tb : Table) → Fin (tcTables nBuf tb) → BufTy
  | .hbm, ⟨0, _⟩ => ⟨S2x8192x800, .f32⟩
  | .hbm, ⟨1, _⟩ => ⟨S2x16x128, .f32⟩
  | .hbm, ⟨2, _⟩ => ⟨S2x128, .f32⟩
  | .hbm, ⟨3, _⟩ => ⟨S2x8192x128, .f32⟩
  | .hbm, ⟨4, _⟩ => ⟨S2x8192x128, .f32⟩
  | .hbm, ⟨5, _⟩ => ⟨S2x8192x256, .f32⟩
  | .hbm, ⟨6, _⟩ => ⟨S2x8192x256, .f32⟩
  | .hbm, ⟨7, _⟩ => ⟨S2x8192x32, .f32⟩
  | .hbm, ⟨8, _⟩ => ⟨S2x8192x4x32, .f32⟩
  | .hbm, ⟨9, _⟩ => ⟨S_, .f32⟩
  | .hbm, ⟨10, _⟩ => ⟨S2x8192x4x32, .f32⟩
  | .hbm, ⟨11, _⟩ => ⟨S2x8192x4x32, .f32⟩
  | .hbm, ⟨12, _⟩ => ⟨S2x8192x4x32, .f32⟩
  | .hbm, ⟨13, _⟩ => ⟨S2x8192x4x64, .f32⟩
  | .hbm, ⟨14, _⟩ => ⟨S2x8192x2x16, .f32⟩
  | .hbm, ⟨15, _⟩ => ⟨S2x128x2x8192, .f32⟩
  | .hbm, ⟨16, _⟩ => ⟨S2x8192x2x128, .f32⟩
  | .hbm, ⟨17, _⟩ => ⟨S1x1x2x128, .f32⟩
  | .hbm, ⟨18, _⟩ => ⟨S2x8192x2x128, .f32⟩
  | .hbm, ⟨19, _⟩ => ⟨S2x8192x2x128, .f32⟩
  | .hbm, ⟨20, _⟩ => ⟨S2x8192x2x128, .f32⟩
  | .hbm, ⟨21, _⟩ => ⟨S_, .f32⟩
  | .hbm, ⟨22, _⟩ => ⟨S2x8192x2x128, .f32⟩
  | .hbm, ⟨23, _⟩ => ⟨S2x8192x2x128, .f32⟩
  | .hbm, ⟨24, _⟩ => ⟨S2x8192x2x128, .f32⟩
  | .hbm, ⟨25, _⟩ => ⟨S2x8192x2x128, .f32⟩
  | .hbm, ⟨26, _⟩ => ⟨S2x8192x2x128, .i1⟩
  | .hbm, ⟨27, _⟩ => ⟨S2x8192x2x128, .f32⟩
  | .hbm, ⟨28, _⟩ => ⟨S2x8192x2x128, .f32⟩
  | .hbm, ⟨29, _⟩ => ⟨S2x8192x2x128, .f32⟩
  | .hbm, ⟨30, _⟩ => ⟨S2x8192x2x128, .f32⟩
  | .hbm, ⟨31, _⟩ => ⟨S2x8192x2x128, .f32⟩
  | .hbm, ⟨32, _⟩ => ⟨S2x8192x2x128, .f32⟩
  | .hbm, ⟨33, _⟩ => ⟨S2x8192x2x128, .f32⟩
  | .hbm, ⟨34, _⟩ => ⟨S2x8192x2x128, .f32⟩
  | .hbm, ⟨35, _⟩ => ⟨S2x8192x2x128, .f32⟩
  | .hbm, ⟨36, _⟩ => ⟨S_, .f32⟩
  | .hbm, ⟨37, _⟩ => ⟨S2x8192x2x128, .f32⟩
  | .hbm, ⟨38, _⟩ => ⟨S2x8192x2x128, .f32⟩
  | .hbm, ⟨39, _⟩ => ⟨S2x8192x2x4x32, .f32⟩
  | .hbm, ⟨40, _⟩ => ⟨S2x8192x1x4x32, .f32⟩
  | .hbm, ⟨41, _⟩ => ⟨S2x8192x4x32, .f32⟩
  | .hbm, ⟨42, _⟩ => ⟨S2x128x64x4x32, .f32⟩
  | .hbm, ⟨43, _⟩ => ⟨S2x128x64x4x32, .f32⟩
  | .hbm, ⟨44, _⟩ => ⟨S2x128x64x4x32, .f32⟩
  | .hbm, ⟨45, _⟩ => ⟨S2x128x64x4x64, .f32⟩
  | .hbm, ⟨46, _⟩ => ⟨S_, .f32⟩
  | .hbm, ⟨47, _⟩ => ⟨S_, .f32⟩
  | .hbm, ⟨48, _⟩ => ⟨S2x128x64x4x32, .f32⟩
  | .hbm, ⟨49, _⟩ => ⟨S2x128x1x4x32, .f32⟩
  | .hbm, ⟨50, _⟩ => ⟨S2x128x1x4x32, .f32⟩
  | .hbm, ⟨51, _⟩ => ⟨S2x128x64x4x32, .f32⟩
  | .hbm, ⟨52, _⟩ => ⟨S2x128x64x4x32, .f32⟩
  | .hbm, ⟨53, _⟩ => ⟨S2x128x64x4x32, .f32⟩
  | .hbm, ⟨54, _⟩ => ⟨S2x128x64x4x32, .f32⟩
  | .hbm, ⟨55, _⟩ => ⟨S2x128x64x4x32, .f32⟩
  | .hbm, ⟨56, _⟩ => ⟨S2x128x64x4x32, .f32⟩
  | .hbm, ⟨57, _⟩ => ⟨S2x128x64x4x32, .f32⟩
  | .hbm, ⟨58, _⟩ => ⟨S2x128x64x4x32, .f32⟩
  | .hbm, ⟨59, _⟩ => ⟨S2x128x4x64x64, .f32⟩
  | .hbm, ⟨60, _⟩ => ⟨S_, .i1⟩
  | .hbm, ⟨61, _⟩ => ⟨S64x64, .i1⟩
  | .hbm, ⟨62, _⟩ => ⟨S64x64, .i32⟩
  | .hbm, ⟨63, _⟩ => ⟨S_, .i32⟩
  | .hbm, ⟨64, _⟩ => ⟨S64x64, .i32⟩
  | .hbm, ⟨65, _⟩ => ⟨S64x64, .i32⟩
  | .hbm, ⟨66, _⟩ => ⟨S64x64, .i32⟩
  | .hbm, ⟨67, _⟩ => ⟨S64x64, .i1⟩
  | .hbm, ⟨68, _⟩ => ⟨S_, .i1⟩
  | .hbm, ⟨69, _⟩ => ⟨S64x64, .i1⟩
  | .hbm, ⟨70, _⟩ => ⟨S64x64, .i1⟩
  | .hbm, ⟨71, _⟩ => ⟨S_, .f32⟩
  | .hbm, ⟨72, _⟩ => ⟨S_, .f32⟩
  | .hbm, ⟨73, _⟩ => ⟨S2x128x4x64x64, .i1⟩
  | .hbm, ⟨74, _⟩ => ⟨S2x128x4x64x64, .f32⟩
  | .hbm, ⟨75, _⟩ => ⟨S2x128x4x64x64, .f32⟩
  | .hbm, ⟨76, _⟩ => ⟨S2x128x4x64x64, .f32⟩
  | .hbm, ⟨77, _⟩ => ⟨S2x128x64x4x64, .f32⟩
  | .hbm, ⟨78, _⟩ => ⟨S2x128x64x4x32, .f32⟩
  | .hbm, ⟨79, _⟩ => ⟨S2x128x64x4x32, .f32⟩
  | .hbm, ⟨80, _⟩ => ⟨S2x128x64x4x32, .f32⟩
  | .hbm, ⟨81, _⟩ => ⟨S2x128x64x4x32, .f32⟩
  | .hbm, ⟨82, _⟩ => ⟨S128x2x4x32x64, .f32⟩
  | .hbm, ⟨83, _⟩ => ⟨S2x128x4x32, .f32⟩
  | .hbm, ⟨84, _⟩ => ⟨S2x128x4x32, .f32⟩
  | .hbm, ⟨85, _⟩ => ⟨S128x2x4x32, .f32⟩
  | .hbm, ⟨86, _⟩ => ⟨S_, .f32⟩
  | .hbm, ⟨87, _⟩ => ⟨S2x4x32x64, .f32⟩
  | .hbm, ⟨88, _⟩ => ⟨S_, .f32⟩
  | .hbm, ⟨89, _⟩ => ⟨S128x2x4x32x64, .f32⟩
  | .hbm, ⟨90, _⟩ => ⟨S_, .i32⟩
  | .hbm, ⟨91, _⟩ => ⟨S128x2x4x32, .f32⟩
  | .hbm, ⟨92, _⟩ => ⟨S128x2x4x32x64, .f32⟩
  | .hbm, ⟨93, _⟩ => ⟨S_, .i32⟩
  | .hbm, ⟨94, _⟩ => ⟨S2x4x32x64, .f32⟩
  | .hbm, ⟨95, _⟩ => ⟨S128x2x4x32x64, .f32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S1x2x4x32, .f32⟩
  | .hbm, ⟨102, _⟩ => ⟨S2x4x32, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S1x2x4x32x64, .f32⟩
  | .hbm, ⟨108, _⟩ => ⟨S2x4x32x64, .f32⟩
  | .hbm, ⟨109, _⟩ => ⟨S2x4x32x1, .f32⟩
  | .hbm, ⟨110, _⟩ => ⟨S2x4x32x64, .f32⟩
  | .hbm, ⟨111, _⟩ => ⟨S2x4x32x64, .f32⟩
  | .hbm, ⟨112, _⟩ => ⟨S2x4x32x64, .f32⟩
  | .hbm, ⟨113, _⟩ => ⟨S1x2x4x32x64, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S128x2x4x32x64, .f32⟩
  | .hbm, ⟨119, _⟩ => ⟨S_, .i32⟩
  | .hbm, ⟨120, _⟩ => ⟨S_, .i32⟩
  | .hbm, ⟨121, _⟩ => ⟨S2x128x64x4x32, .f32⟩
  | .hbm, ⟨122, _⟩ => ⟨S2x128x64x4x32, .f32⟩
  | .hbm, ⟨123, _⟩ => ⟨S2x128x4x64x64, .f32⟩
  | .hbm, ⟨124, _⟩ => ⟨S2x128x64x4x64, .f32⟩
  | .hbm, ⟨125, _⟩ => ⟨S2x128x64x4x64, .f32⟩
  | .hbm, ⟨126, _⟩ => ⟨S2x8192x4x64, .f32⟩
  | .hbm, ⟨127, _⟩ => ⟨S2x8192x256, .f32⟩
  | _, _ => ⟨S2x8192x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_call0_cst : Ref sig .tc := ⟨.hbm, 46, rfl⟩
abbrev main_call1_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v39 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_2 : Ref sig .tc := ⟨.hbm, 86, rfl⟩
abbrev main_v51 : Ref sig .tc := ⟨.hbm, 87, rfl⟩
abbrev main_cst_3 : Ref sig .tc := ⟨.hbm, 88, rfl⟩
abbrev main_v52 : Ref sig .tc := ⟨.hbm, 89, rfl⟩
abbrev main_c_4 : Ref sig .tc := ⟨.hbm, 90, rfl⟩
abbrev main_v53_0 : Ref sig .tc := ⟨.hbm, 91, rfl⟩
abbrev main_v53_1 : Ref sig .tc := ⟨.hbm, 92, rfl⟩
abbrev main_v53_2 : Ref sig .tc := ⟨.hbm, 93, rfl⟩
abbrev main_v53_3 : Ref sig .tc := ⟨.hbm, 94, rfl⟩
abbrev main_v53_4 : Ref sig .tc := ⟨.hbm, 95, rfl⟩
abbrev main_while0c_c_9 : Ref sig .tc := ⟨.hbm, 96, rfl⟩
abbrev main_while0c_v61 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_v0 : Ref sig .tc := ⟨.hbm, 101, rfl⟩
abbrev main_while0b_v61 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_call6_v0 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_v67 : Ref sig .tc := ⟨.hbm, 118, rfl⟩
abbrev main_while0b_c_9 : Ref sig .tc := ⟨.hbm, 119, rfl⟩
abbrev main_while0b_v68 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x6144 : Shape := ⟨2, ![2, 6144]⟩
abbrev S1024 : Shape := ⟨1, ![1024]⟩
abbrev S1024x6944 : Shape := ⟨2, ![1024, 6944]⟩
abbrev S4x256x1024 : Shape := ⟨3, ![4, 256, 1024]⟩
abbrev S1024x1024 : Shape := ⟨2, ![1024, 1024]⟩
abbrev S2x8192x256 : Shape := ⟨3, ![2, 8192, 256]⟩
abbrev S1024x4096 : Shape := ⟨2, ![1024, 4096]⟩
abbrev S2x6x1024 : Shape := ⟨3, ![2, 6, 1024]⟩
abbrev S1x1024 : Shape := ⟨2, ![1, 1024]⟩
abbrev S1x512x1024 : Shape := ⟨3, ![1, 512, 1024]⟩
abbrev S1x6x1024 : Shape := ⟨3, ![1, 6, 1024]⟩
abbrev S1x512x256 : Shape := ⟨3, ![1, 512, 256]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 23
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x6944, .f32⟩
  | .hbm, ⟨5, _⟩ => ⟨S4x256x1024, .f32⟩
  | .hbm, ⟨6, _⟩ => ⟨S1024x1024, .f32⟩
  | .hbm, ⟨7, _⟩ => ⟨S2x8192x256, .f32⟩
  | .hbm, ⟨8, _⟩ => ⟨S2x8192x256, .f32⟩
  | .hbm, ⟨9, _⟩ => ⟨S2x8192x256, .f32⟩
  | .hbm, ⟨10, _⟩ => ⟨S2x8192x256, .f32⟩
  | .hbm, ⟨11, _⟩ => ⟨S1024x4096, .f32⟩
  | .hbm, ⟨12, _⟩ => ⟨S1024x4096, .bf16⟩
  | .hbm, ⟨13, _⟩ => ⟨S2x6x1024, .f32⟩
  | .hbm, ⟨14, _⟩ => ⟨S4x256x1024, .bf16⟩
  | .hbm, ⟨15, _⟩ => ⟨S1024x1024, .bf16⟩
  | .hbm, ⟨16, _⟩ => ⟨S2x8192x256, .bf16⟩
  | .hbm, ⟨17, _⟩ => ⟨S2x8192x256, .bf16⟩
  | .hbm, ⟨18, _⟩ => ⟨S2x8192x256, .bf16⟩
  | .hbm, ⟨19, _⟩ => ⟨S2x8192x256, .bf16⟩
  | .hbm, ⟨20, _⟩ => ⟨S1x1024, .f32⟩
  | .hbm, ⟨21, _⟩ => ⟨S1x1024, .f32⟩
  | .hbm, ⟨22, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S4x256x1024, .bf16⟩
  | .local _ .vmem, ⟨8, _⟩ => ⟨S1024x1024, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x1024, .f32⟩
  | .local _ .vmem, ⟨18, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S2x8192x1024 : Shape := ⟨3, ![2, 8192, 1024]⟩
abbrev S2x6144 : Shape := ⟨2, ![2, 6144]⟩
abbrev S1024 : Shape := ⟨1, ![1024]⟩
abbrev S1024x6944 : Shape := ⟨2, ![1024, 6944]⟩
abbrev S4x256x1024 : Shape := ⟨3, ![4, 256, 1024]⟩
abbrev S1024x1024 : Shape := ⟨2, ![1024, 1024]⟩
abbrev S2x8192x256 : Shape := ⟨3, ![2, 8192, 256]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6944 : Shape := ⟨3, ![2, 8192, 6944]⟩
abbrev S2x8192x4096 : Shape := ⟨3, ![2, 8192, 4096]⟩
abbrev S2x8192x1x256 : Shape := ⟨4, ![2, 8192, 1, 256]⟩
abbrev S2x8192x4x256 : Shape := ⟨4, ![2, 8192, 4, 256]⟩
abbrev S4x1024x2x8192 : Shape := ⟨4, ![4, 1024, 2, 8192]⟩
abbrev S2x8192x4x1024 : Shape := ⟨4, ![2, 8192, 4, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x6944, .f32⟩
  | .hbm, ⟨5, _⟩ => ⟨S4x256x1024, .f32⟩
  | .hbm, ⟨6, _⟩ => ⟨S1024x1024, .f32⟩
  | .hbm, ⟨7, _⟩ => ⟨S2x8192x256, .f32⟩
  | .hbm, ⟨8, _⟩ => ⟨S2x8192x256, .f32⟩
  | .hbm, ⟨9, _⟩ => ⟨S2x8192x256, .f32⟩
  | .hbm, ⟨10, _⟩ => ⟨S2x8192x256, .f32⟩
  | .hbm, ⟨11, _⟩ => ⟨S2x1x6144, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x8192x1024, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S1x1x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x6944, .f32⟩
  | .hbm, ⟨42, _⟩ => ⟨S2x8192x4096, .f32⟩
  | .hbm, ⟨43, _⟩ => ⟨S2x8192x1x256, .f32⟩
  | .hbm, ⟨44, _⟩ => ⟨S2x8192x1x256, .f32⟩
  | .hbm, ⟨45, _⟩ => ⟨S2x8192x1x256, .f32⟩
  | .hbm, ⟨46, _⟩ => ⟨S2x8192x1x256, .f32⟩
  | .hbm, ⟨47, _⟩ => ⟨S2x8192x4x256, .f32⟩
  | .hbm, ⟨48, _⟩ => ⟨S4x1024x2x8192, .f32⟩
  | .hbm, ⟨49, _⟩ => ⟨S2x8192x4x1024, .f32⟩
  | .hbm, ⟨50, _⟩ => ⟨S2x8192x4x1024, .f32⟩
  | .hbm, ⟨51, _⟩ => ⟨S2x8192x4x1024, .f32⟩
  | .hbm, ⟨52, _⟩ => ⟨S2x8192x4x1024, .f32⟩
  | .hbm, ⟨53, _⟩ => ⟨S_, .f32⟩
  | .hbm, ⟨54, _⟩ => ⟨S2x8192x4x1024, .f32⟩
  | .hbm, ⟨55, _⟩ => ⟨S2x8192x4x1024, .f32⟩
  | .hbm, ⟨56, _⟩ => ⟨S_, .f32⟩
  | .hbm, ⟨57, _⟩ => ⟨S2x8192x4x1024, .f32⟩
  | .hbm, ⟨58, _⟩ => ⟨S2x8192x4x1024, .f32⟩
  | .hbm, ⟨59, _⟩ => ⟨S2x8192x4x1024, .f32⟩
  | .hbm, ⟨60, _⟩ => ⟨S_, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x6x1024 : Shape := ⟨3, ![2, 6, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x6x1024 : Shape := ⟨3, ![1, 6, 1024]⟩
abbrev S512x2816 : Shape := ⟨2, ![512, 2816]⟩
abbrev S512x1024 : Shape := ⟨2, ![512, 1024]⟩
abbrev S8x1024 : Shape := ⟨2, ![8, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S64x8x256 : Shape := ⟨3, ![64, 8, 256]⟩
abbrev S1024x256 : Shape := ⟨2, ![1024, 256]⟩
abbrev S528x256 : Shape := ⟨2, ![528, 256]⟩
abbrev S66x8x256 : Shape := ⟨3, ![66, 8, 256]⟩
abbrev S1x256 : Shape := ⟨2, ![1, 256]⟩
abbrev S1x1x256 : Shape := ⟨3, ![1, 1, 256]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S2x6x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel3Ideal.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x6x1024 : Shape := ⟨3, ![2, 6, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x6x1024 : Shape := ⟨3, ![1, 6, 1024]⟩
abbrev S512x2816 : Shape := ⟨2, ![512, 2816]⟩
abbrev S512x1024 : Shape := ⟨2, ![512, 1024]⟩
abbrev S8x1024 : Shape := ⟨2, ![8, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S64x8x256 : Shape := ⟨3, ![64, 8, 256]⟩
abbrev S1024x256 : Shape := ⟨2, ![1024, 256]⟩
abbrev S528x256 : Shape := ⟨2, ![528, 256]⟩
abbrev S66x8x256 : Shape := ⟨3, ![66, 8, 256]⟩
abbrev S1x256 : Shape := ⟨2, ![1, 256]⟩
abbrev S1x1x256 : Shape := ⟨3, ![1, 1, 256]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S2x6x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S2x8192x1024 : Shape := ⟨3, ![2, 8192, 1024]⟩
abbrev S2x6144 : Shape := ⟨2, ![2, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S2x1x6144, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S_, .i32⟩
  | .hbm, ⟨40, _⟩ => ⟨S_, .f32⟩
  | .hbm, ⟨41, _⟩ => ⟨S2x8194x5632, .f32⟩
  | .hbm, ⟨42, _⟩ => ⟨S2x8192x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S2x8192x5632, .f32⟩
  | .hbm, ⟨47, _⟩ => ⟨S2x8192x5632, .f32⟩
  | .hbm, ⟨48, _⟩ => ⟨S2x8192x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S2x8192x5632, .f32⟩
  | .hbm, ⟨53, _⟩ => ⟨S2x8192x5632, .f32⟩
  | .hbm, ⟨54, _⟩ => ⟨S2x8192x5632, .f32⟩
  | .hbm, ⟨55, _⟩ => ⟨S2x8192x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S2x8192x5632, .f32⟩
  | .hbm, ⟨60, _⟩ => ⟨S2x8192x5632, .f32⟩
  | .hbm, ⟨61, _⟩ => ⟨S2x8192x5632, .f32⟩
  | .hbm, ⟨62, _⟩ => ⟨S1x1x5632, .f32⟩
  | .hbm, ⟨63, _⟩ => ⟨S2x8192x5632, .f32⟩
  | .hbm, ⟨64, _⟩ => ⟨S2x8192x5632, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S_, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S_, .f32⟩
  | .hbm, ⟨78, _⟩ => ⟨S2x8192x2816, .f32⟩
  | .hbm, ⟨79, _⟩ => ⟨S2x8192x2816, .f32⟩
  | .hbm, ⟨80, _⟩ => ⟨S_, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2x8192x2816, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x8192, .f32⟩
  | .hbm, ⟨89, _⟩ => ⟨S2x8192x1, .f32⟩
  | .hbm, ⟨90, _⟩ => ⟨S_, .f32⟩
  | .hbm, ⟨91, _⟩ => ⟨S2x8192x1, .f32⟩
  | .hbm, ⟨92, _⟩ => ⟨S2x8192x1, .f32⟩
  | .hbm, ⟨93, _⟩ => ⟨S_, .f32⟩
  | .hbm, ⟨94, _⟩ => ⟨S2x8192x1, .f32⟩
  | .hbm, ⟨95, _⟩ => ⟨S2x8192x1, .f32⟩
  | .hbm, ⟨96, _⟩ => ⟨S2x8192x1, .f32⟩
  | .hbm, ⟨97, _⟩ => ⟨S2x8192x1024, .f32⟩
  | .hbm, ⟨98, _⟩ => ⟨S2x8192x1024, .f32⟩
  | .hbm, ⟨99, _⟩ => ⟨S1x1x1024, .f32⟩
  | .hbm, ⟨100, _⟩ => ⟨S2x8192x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x6x1024 : Shape := ⟨3, ![4, 6, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x6x1024 : Shape := ⟨3, ![1, 6, 1024]⟩
abbrev S512x2816 : Shape := ⟨2, ![512, 2816]⟩
abbrev S512x1024 : Shape := ⟨2, ![512, 1024]⟩
abbrev S8x1024 : Shape := ⟨2, ![8, 1024]⟩
abbrev S528x1024 : Shape := ⟨2, ![528, 1024]⟩
abbrev S1x1x1024 : Shape := ⟨3, ![1, 1, 1024]⟩
abbrev S528 : Shape := ⟨1, ![528]⟩
abbrev S528x1 : Shape := ⟨2, ![528, 1]⟩
abbrev S64x8x256 : Shape := ⟨3, ![64, 8, 256]⟩
abbrev S1024x256 : Shape := ⟨2, ![1024, 256]⟩
abbrev S528x256 : Shape := ⟨2, ![528, 256]⟩
abbrev S66x8x256 : Shape := ⟨3, ![66, 8, 256]⟩
abbrev S1x256 : Shape := ⟨2, ![1, 256]⟩
abbrev S1x1x256 : Shape := ⟨3, ![1, 1, 256]⟩
abbrev S512x256 : Shape := ⟨2, ![512, 256]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S4x6x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1x5632, .f32⟩
  | .hbm, ⟨14, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S1x5632, .f32⟩
  | .local _ .vmem, ⟨13, _⟩ => ⟨S2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S512x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x5632, .f32⟩
  | .hbm, ⟨39, _⟩ => ⟨S_, .i32⟩
  | .hbm, ⟨40, _⟩ => ⟨S_, .f32⟩
  | .hbm, ⟨41, _⟩ => ⟨S4x4098x5632, .f32⟩
  | .hbm, ⟨42, _⟩ => ⟨S4x4096x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S1x5632, .f32⟩
  | .hbm, ⟨50, _⟩ => ⟨S5632, .f32⟩
  | .hbm, ⟨51, _⟩ => ⟨S1x1x5632, .f32⟩
  | .hbm, ⟨52, _⟩ => ⟨S4x4096x5632, .f32⟩
  | .hbm, ⟨53, _⟩ => ⟨S4x4096x5632, .f32⟩
  | .hbm, ⟨54, _⟩ => ⟨S4x4096x5632, .f32⟩
  | .hbm, ⟨55, _⟩ => ⟨S4x4096x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S4x4096x5632, .f32⟩
  | .hbm, ⟨60, _⟩ => ⟨S4x4096x5632, .f32⟩
  | .hbm, ⟨61, _⟩ => ⟨S4x4096x5632, .f32⟩
  | .hbm, ⟨62, _⟩ => ⟨S1x1x5632, .f32⟩
  | .hbm, ⟨63, _⟩ => ⟨S4x4096x5632, .f32⟩
  | .hbm, ⟨64, _⟩ => ⟨S4x4096x5632, .f32⟩
  | .hbm, ⟨65, _⟩ => ⟨S4x4096x2816, .f32⟩
  | .hbm, ⟨66, _⟩ => ⟨S4x4096x2816, .f32⟩
  | .hbm, ⟨67, _⟩ => ⟨S4x4096x2816, .f32⟩
  | .hbm, ⟨68, _⟩ => ⟨S4x4096x2816, .f32⟩
  | .hbm, ⟨69, _⟩ => ⟨S_, .f32⟩
  | .hbm, ⟨70, _⟩ => ⟨S4x4096x2816, .f32⟩
  | .hbm, ⟨71, _⟩ => ⟨S4x4096x2816, .f32⟩
  | .hbm, ⟨72, _⟩ => ⟨S4x4096x2816, .f32⟩
  | .hbm, ⟨73, _⟩ => ⟨S_, .f32⟩
  | .hbm, ⟨74, _⟩ => ⟨S4x4096x2816, .f32⟩
  | .hbm, ⟨75, _⟩ => ⟨S4x4096x2816, .f32⟩
  | .hbm, ⟨76, _⟩ => ⟨S4x4096x2816, .f32⟩
  | .hbm, ⟨77, _⟩ => ⟨S_, .f32⟩
  | .hbm, ⟨78, _⟩ => ⟨S4x4096x2816, .f32⟩
  | .hbm, ⟨79, _⟩ => ⟨S4x4096x2816, .f32⟩
  | .hbm, ⟨80, _⟩ => ⟨S_, .f32⟩
  | .hbm, ⟨81, _⟩ => ⟨S4x4096x2816, .f32⟩
  | .hbm, ⟨82, _⟩ => ⟨S4x4096x2816, .f32⟩
  | .hbm, ⟨83, _⟩ => ⟨S4x4096x2816, .f32⟩
  | .hbm, ⟨84, _⟩ => ⟨S4x4096x2816, .f32⟩
  | .hbm, ⟨85, _⟩ => ⟨S4x4096x1024, .f32⟩
  | .hbm, ⟨86, _⟩ => ⟨S4x4096x1024, .f32⟩
  | .hbm, ⟨87, _⟩ => ⟨S_, .f32⟩
  | .hbm, ⟨88, _⟩ => ⟨S4x4096, .f32⟩
  | .hbm, ⟨89, _⟩ => ⟨S4x4096x1, .f32⟩
  | .hbm, ⟨90, _⟩ => ⟨S_, .f32⟩
  | .hbm, ⟨91, _⟩ => ⟨S4x4096x1, .f32⟩
  | .hbm, ⟨92, _⟩ => ⟨S4x4096x1, .f32⟩
  | .hbm, ⟨93, _⟩ => ⟨S_, .f32⟩
  | .hbm, ⟨94, _⟩ => ⟨S4x4096x1, .f32⟩
  | .hbm, ⟨95, _⟩ => ⟨S4x4096x1, .f32⟩
  | .hbm, ⟨96, _⟩ => ⟨S4x4096x1, .f32⟩
  | .hbm, ⟨97, _⟩ => ⟨S4x4096x1024, .f32⟩
  | .hbm, ⟨98, _⟩ => ⟨S4x4096x1024, .f32⟩
  | .hbm, ⟨99, _⟩ => ⟨S1x1x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S4x4096x1024, .f32⟩
  | .hbm, ⟨104, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_3 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_5 : Ref sig .tc := ⟨.hbm, 77, rfl⟩
abbrev main_v61 : Ref sig .tc := ⟨.hbm, 78, rfl⟩
abbrev main_v62 : Ref sig .tc := ⟨.hbm, 79, rfl⟩
abbrev main_cst_6 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_v72 : Ref sig .tc := ⟨.hbm, 92, rfl⟩
abbrev main_cst_9 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x6144 : Shape := ⟨2, ![2, 6144]⟩
abbrev S1024 : Shape := ⟨1, ![1024]⟩
abbrev S1024x6944 : Shape := ⟨2, ![1024, 6944]⟩
abbrev S1024x2848 : Shape := ⟨2, ![1024, 2848]⟩
abbrev S_ : Shape := ⟨0, ![]⟩
abbrev S1024x2944 : Shape := ⟨2, ![1024, 2944]⟩
abbrev S2x6x1024 : Shape := ⟨3, ![2, 6, 1024]⟩
abbrev S1x1024 : Shape := ⟨2, ![1, 1024]⟩
abbrev S2x8192x256 : Shape := ⟨3, ![2, 8192, 256]⟩
abbrev S2x8192x768 : Shape := ⟨3, ![2, 8192, 768]⟩
abbrev S2x8192x896 : Shape := ⟨3, ![2, 8192, 896]⟩
abbrev S1x1024x1024 : Shape := ⟨3, ![1, 1024, 1024]⟩
abbrev S1x6x1024 : Shape := ⟨3, ![1, 6, 1024]⟩
abbrev S1x1024x256 : Shape := ⟨3, ![1, 1024, 256]⟩
abbrev S1x1024x768 : Shape := ⟨3, ![1, 1024, 768]⟩
abbrev S1x1024x896 : Shape := ⟨3, ![1, 1024, 896]⟩
abbrev S1024x1024 : Shape := ⟨2, ![1024, 1024]⟩
abbrev S1x1x1024 : Shape := ⟨3, ![1, 1, 1024]⟩
abbrev S1024x1 : Shape := ⟨2, ![1024, 1]⟩
abbrev S1024x256 : Shape := ⟨2, ![1024, 256]⟩
abbrev S1024x768 : Shape := ⟨2, ![1024, 768]⟩
abbrev S1024x896 : Shape := ⟨2, ![1024, 896]⟩

abbrev nBuf : Space → Nat
  | .hbm => 15
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x6944, .f32⟩
  | .hbm, ⟨4, _⟩ => ⟨S1024x2848, .f32⟩
  | .hbm, ⟨5, _⟩ => ⟨S_, .i32⟩
  | .hbm, ⟨6, _⟩ => ⟨S_, .f32⟩
  | .hbm, ⟨7, _⟩ => ⟨S1024x2944, .f32⟩
  | .hbm, ⟨8, _⟩ => ⟨S1024x2944, .bf16⟩
  | .hbm, ⟨9, _⟩ => ⟨S2x6x1024, .f32⟩
  | .hbm, ⟨10, _⟩ => ⟨S1x1024, .f32⟩
  | .hbm, ⟨11, _⟩ => ⟨S2x8192x256, .f32⟩
  | .hbm, ⟨12, _⟩ => ⟨S2x8192x1024, .f32⟩
  | .hbm, ⟨13, _⟩ => ⟨S2x8192x768, .f32⟩
  | .hbm, ⟨14, _⟩ => ⟨S2x8192x896, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x768, .f32⟩
  | .local _ .vmem, ⟨11, _⟩ => ⟨S1x1024x768, .f32⟩
  | .local _ .vmem, ⟨12, _⟩ => ⟨S1x1024x896, .f32⟩
  | .local _ .vmem, ⟨13, _⟩ => ⟨S1x1024x896, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x8192x1024 : Shape := ⟨3, ![2, 8192, 1024]⟩
abbrev S2x6144 : Shape := ⟨2, ![2, 6144]⟩
abbrev S1024 : Shape := ⟨1, ![1024]⟩
abbrev S1024x6944 : Shape := ⟨2, ![1024, 6944]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6944 : Shape := ⟨3, ![2, 8192, 6944]⟩
abbrev S2x8192x256 : Shape := ⟨3, ![2, 8192, 256]⟩
abbrev S2x8192x768 : Shape := ⟨3, ![2, 8192, 768]⟩
abbrev S2x8192x800 : Shape := ⟨3, ![2, 8192, 800]⟩
abbrev S2x8192x4096 : Shape := ⟨3, ![2, 8192, 4096]⟩
abbrev S2x8192x896 : Shape := ⟨3, ![2, 8192, 896]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x6944, .f32⟩
  | .hbm, ⟨4, _⟩ => ⟨S2x1x6144, .f32⟩
  | .hbm, ⟨5, _⟩ => ⟨S2x1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x6944, .f32⟩
  | .hbm, ⟨35, _⟩ => ⟨S2x8192x256, .f32⟩
  | .hbm, ⟨36, _⟩ => ⟨S2x8192x1024, .f32⟩
  | .hbm, ⟨37, _⟩ => ⟨S2x8192x768, .f32⟩
  | .hbm, ⟨38, _⟩ => ⟨S2x8192x800, .f32⟩
  | .hbm, ⟨39, _⟩ => ⟨S2x8192x4096, .f32⟩
  | .hbm, ⟨40, _⟩ => ⟨S_, .i32⟩
  | .hbm, ⟨41, _⟩ => ⟨S_, .f32⟩
  | .hbm, ⟨42, _⟩ => ⟨S2x8192x896, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel6.lean ====
abbrev S2x1024 : Shape := ⟨2, ![2, 1024]⟩
abbrev S4x1024 : Shape := ⟨2, ![4, 1024]⟩
abbrev S1024x6144 : Shape := ⟨2, ![1024, 6144]⟩
abbrev S6144 : Shape := ⟨1, ![6144]⟩
abbrev S6x1024 : Shape := ⟨2, ![6, 1024]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S4x1024, .f32⟩
  | .hbm, ⟨2, _⟩ => ⟨S1024x6144, .f32⟩
  | .hbm, ⟨3, _⟩ => ⟨S6144, .f32⟩
  | .hbm, ⟨4, _⟩ => ⟨S6x1024, .f32⟩
  | .hbm, ⟨5, _⟩ => ⟨S_, .i32⟩
  | .hbm, ⟨6, _⟩ => ⟨S_, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2x1024 : Shape := ⟨2, ![2, 1024]⟩
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 20
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S4x1024, .f32⟩
  | .hbm, ⟨2, _⟩ => ⟨S1024x6144, .f32⟩
  | .hbm, ⟨3, _⟩ => ⟨S6144, .f32⟩
  | .hbm, ⟨4, _⟩ => ⟨S_, .f32⟩
  | .hbm, ⟨5, _⟩ => ⟨S2x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x6144, .f32⟩
  | .hbm, ⟨17, _⟩ => ⟨S1x6144, .f32⟩
  | .hbm, ⟨18, _⟩ => ⟨S8x6144, .f32⟩
  | .hbm, ⟨19, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel7.lean ====
abbrev S2x8192x768 : Shape := ⟨3, ![2, 8192, 768]⟩
abbrev S3x768 : Shape := ⟨2, ![3, 768]⟩
abbrev S768 : Shape := ⟨1, ![768]⟩
abbrev S1x768 : Shape := ⟨2, ![1, 768]⟩
abbrev S2x8192x256 : Shape := ⟨3, ![2, 8192, 256]⟩
abbrev S1x512x768 : Shape := ⟨3, ![1, 512, 768]⟩
abbrev S1x8x768 : Shape := ⟨3, ![1, 8, 768]⟩
abbrev S1x512x256 : Shape := ⟨3, ![1, 512, 256]⟩
abbrev S512x768 : Shape := ⟨2, ![512, 768]⟩
abbrev S1x1x768 : Shape := ⟨3, ![1, 1, 768]⟩
abbrev S512x256 : Shape := ⟨2, ![512, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x8192x768, .f32⟩
  | .hbm, ⟨1, _⟩ => ⟨S3x768, .f32⟩
  | .hbm, ⟨2, _⟩ => ⟨S768, .f32⟩
  | .hbm, ⟨3, _⟩ => ⟨S1x768, .f32⟩
  | .hbm, ⟨4, _⟩ => ⟨S2x8192x256, .bf16⟩
  | .hbm, ⟨5, _⟩ => ⟨S2x8192x256, .bf16⟩
  | .hbm, ⟨6, _⟩ => ⟨S2x8192x256, .bf16⟩
  | .local _ .vmem, ⟨0, _⟩ => ⟨S1x512x768, .f32⟩
  | .local _ .vmem, ⟨1, _⟩ => ⟨S1x512x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S3x768, .f32⟩
  | .local _ .vmem, ⟨7, _⟩ => ⟨S1x768, .f32⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | _, _ => ⟨S2x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S2x8192x768 : Shape := ⟨3, ![2, 8192, 768]⟩
abbrev S3x768 : Shape := ⟨2, ![3, 768]⟩
abbrev S768 : Shape := ⟨1, ![768]⟩
abbrev S_ : Shape := ⟨0, ![]⟩
abbrev S2x8194x768 : Shape := ⟨3, ![2, 8194, 768]⟩
abbrev S1x768 : Shape := ⟨2, ![1, 768]⟩
abbrev S1x1x768 : Shape := ⟨3, ![1, 1, 768]⟩
abbrev S2x8192x256 : Shape := ⟨3, ![2, 8192, 256]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x768, .f32⟩
  | .hbm, ⟨1, _⟩ => ⟨S3x768, .f32⟩
  | .hbm, ⟨2, _⟩ => ⟨S768, .f32⟩
  | .hbm, ⟨3, _⟩ => ⟨S_, .i32⟩
  | .hbm, ⟨4, _⟩ => ⟨S_, .f32⟩
  | .hbm, ⟨5, _⟩ => ⟨S2x8194x768, .f32⟩
  | .hbm, ⟨6, _⟩ => ⟨S2x8192x768, .f32⟩
  | .hbm, ⟨7, _⟩ => ⟨S1x768, .f32⟩
  | .hbm, ⟨8, _⟩ => ⟨S768, .f32⟩
  | .hbm, ⟨9, _⟩ => ⟨S1x1x768, .f32⟩
  | .hbm, ⟨10, _⟩ => ⟨S2x8192x768, .f32⟩
  | .hbm, ⟨11, _⟩ => ⟨S2x8192x768, .f32⟩
  | .hbm, ⟨12, _⟩ => ⟨S2x8192x768, .f32⟩
  | .hbm, ⟨13, _⟩ => ⟨S1x768, .f32⟩
  | .hbm, ⟨14, _⟩ => ⟨S768, .f32⟩
  | .hbm, ⟨15, _⟩ => ⟨S1x1x768, .f32⟩
  | .hbm, ⟨16, _⟩ => ⟨S2x8192x768, .f32⟩
  | .hbm, ⟨17, _⟩ => ⟨S2x8192x768, .f32⟩
  | .hbm, ⟨18, _⟩ => ⟨S2x8192x768, .f32⟩
  | .hbm, ⟨19, _⟩ => ⟨S2x8192x768, .f32⟩
  | .hbm, ⟨20, _⟩ => ⟨S1x768, .f32⟩
  | .hbm, ⟨21, _⟩ => ⟨S768, .f32⟩
  | .hbm, ⟨22, _⟩ => ⟨S1x1x768, .f32⟩
  | .hbm, ⟨23, _⟩ => ⟨S2x8192x768, .f32⟩
  | .hbm, ⟨24, _⟩ => ⟨S2x8192x768, .f32⟩
  | .hbm, ⟨25, _⟩ => ⟨S2x8192x768, .f32⟩
  | .hbm, ⟨26, _⟩ => ⟨S1x1x768, .f32⟩
  | .hbm, ⟨27, _⟩ => ⟨S2x8192x768, .f32⟩
  | .hbm, ⟨28, _⟩ => ⟨S2x8192x768, .f32⟩
  | .hbm, ⟨29, _⟩ => ⟨S2x8192x256, .f32⟩
  | .hbm, ⟨30, _⟩ => ⟨S2x8192x256, .f32⟩
  | .hbm, ⟨31, _⟩ => ⟨S2x8192x256, .f32⟩
  | .hbm, ⟨32, _⟩ => ⟨S2x8192x256, .bf16⟩
  | .hbm, ⟨33, _⟩ => ⟨S2x8192x256, .bf16⟩
  | .hbm, ⟨34, _⟩ => ⟨S2x8192x256, .bf16⟩
  | _, _ => ⟨S2x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Kernel8.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1024 : Shape := ⟨1, ![1024]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x40 : Shape := ⟨2, ![8192, 40]⟩
abbrev S255 : Shape := ⟨1, ![255]⟩
abbrev S256 : Shape := ⟨1, ![256]⟩
abbrev S40x64 : Shape := ⟨2, ![40, 64]⟩
abbrev S1x64 : Shape := ⟨2, ![1, 64]⟩
abbrev S1x1024 : Shape := ⟨2, ![1, 1024]⟩
abbrev S1x256 : Shape := ⟨2, ![1, 256]⟩
abbrev S8192x512 : Shape := ⟨2, ![8192, 512]⟩
abbrev S1x512 : Shape := ⟨2, ![1, 512]⟩
abbrev S1024x40 : Shape := ⟨2, ![1024, 40]⟩
abbrev S1024x512 : Shape := ⟨2, ![1024, 512]⟩
abbrev S1024x64 : Shape := ⟨2, ![1024, 64]⟩
abbrev S1024x1024 : Shape := ⟨2, ![1024, 1024]⟩
abbrev S1024x1 : Shape := ⟨2, ![1024, 1]⟩
abbrev S1024x256 : Shape := ⟨2, ![1024, 256]⟩

abbrev nBuf : Space → Nat
  | .hbm => 111
  | .vmem => 15
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x1024, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8191, .f32⟩
  | .hbm, ⟨15, _⟩ => ⟨S_, .f32⟩
  | .hbm, ⟨16, _⟩ => ⟨S8191, .f32⟩
  | .hbm, ⟨17, _⟩ => ⟨S8191, .f32⟩
  | .hbm, ⟨18, _⟩ => ⟨S1, .f32⟩
  | .hbm, ⟨19, _⟩ => ⟨S_, .f32⟩
  | .hbm, ⟨20, _⟩ => ⟨S8191, .f32⟩
  | .hbm, ⟨21, _⟩ => ⟨S8191, .f32⟩
  | .hbm, ⟨22, _⟩ => ⟨S8191, .f32⟩
  | .hbm, ⟨23, _⟩ => ⟨S8191, .f32⟩
  | .hbm, ⟨24, _⟩ => ⟨S1, .f32⟩
  | .hbm, ⟨25, _⟩ => ⟨S8191, .f32⟩
  | .hbm, ⟨26, _⟩ => ⟨S8191, .f32⟩
  | .hbm, ⟨27, _⟩ => ⟨S8191, .f32⟩
  | .hbm, ⟨28, _⟩ => ⟨S1, .f32⟩
  | .hbm, ⟨29, _⟩ => ⟨S8192, .f32⟩
  | .hbm, ⟨30, _⟩ => ⟨S8192x1, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .i32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S15, .f32⟩
  | .hbm, ⟨47, _⟩ => ⟨S_, .f32⟩
  | .hbm, ⟨48, _⟩ => ⟨S15, .f32⟩
  | .hbm, ⟨49, _⟩ => ⟨S15, .f32⟩
  | .hbm, ⟨50, _⟩ => ⟨S1, .f32⟩
  | .hbm, ⟨51, _⟩ => ⟨S_, .f32⟩
  | .hbm, ⟨52, _⟩ => ⟨S15, .f32⟩
  | .hbm, ⟨53, _⟩ => ⟨S15, .f32⟩
  | .hbm, ⟨54, _⟩ => ⟨S15, .f32⟩
  | .hbm, ⟨55, _⟩ => ⟨S15, .f32⟩
  | .hbm, ⟨56, _⟩ => ⟨S1, .f32⟩
  | .hbm, ⟨57, _⟩ => ⟨S15, .f32⟩
  | .hbm, ⟨58, _⟩ => ⟨S15, .f32⟩
  | .hbm, ⟨59, _⟩ => ⟨S15, .f32⟩
  | .hbm, ⟨60, _⟩ => ⟨S1, .f32⟩
  | .hbm, ⟨61, _⟩ => ⟨S16, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x33, .f32⟩
  | .hbm, ⟨73, _⟩ => ⟨S_, .i32⟩
  | .hbm, ⟨74, _⟩ => ⟨S_, .f32⟩
  | .hbm, ⟨75, _⟩ => ⟨S8192x40, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S255, .f32⟩
  | .hbm, ⟨84, _⟩ => ⟨S_, .f32⟩
  | .hbm, ⟨85, _⟩ => ⟨S255, .f32⟩
  | .hbm, ⟨86, _⟩ => ⟨S255, .f32⟩
  | .hbm, ⟨87, _⟩ => ⟨S1, .f32⟩
  | .hbm, ⟨88, _⟩ => ⟨S_, .f32⟩
  | .hbm, ⟨89, _⟩ => ⟨S255, .f32⟩
  | .hbm, ⟨90, _⟩ => ⟨S255, .f32⟩
  | .hbm, ⟨91, _⟩ => ⟨S255, .f32⟩
  | .hbm, ⟨92, _⟩ => ⟨S255, .f32⟩
  | .hbm, ⟨93, _⟩ => ⟨S1, .f32⟩
  | .hbm, ⟨94, _⟩ => ⟨S255, .f32⟩
  | .hbm, ⟨95, _⟩ => ⟨S255, .f32⟩
  | .hbm, ⟨96, _⟩ => ⟨S255, .f32⟩
  | .hbm, ⟨97, _⟩ => ⟨S1, .f32⟩
  | .hbm, ⟨98, _⟩ => ⟨S256, .f32⟩
  | .hbm, ⟨99, _⟩ => ⟨S256, .f32⟩
  | .hbm, ⟨100, _⟩ => ⟨S_, .i32⟩
  | .hbm, ⟨101, _⟩ => ⟨S_, .f32⟩
  | .hbm, ⟨102, _⟩ => ⟨S40x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S1x1024, .f32⟩
  | .hbm, ⟨107, _⟩ => ⟨S1x256, .f32⟩
  | .hbm, ⟨108, _⟩ => ⟨S8192x512, .f32⟩
  | .hbm, ⟨109, _⟩ => ⟨S8192x512, .f32⟩
  | .hbm, ⟨110, _⟩ => ⟨S1x512, .f32⟩
  | .local _ .vmem, ⟨0, _⟩ => ⟨S1024x40, .f32⟩
  | .local _ .vmem, ⟨1, _⟩ => ⟨S1024x40, .f32⟩
  | .local _ .vmem, ⟨2, _⟩ => ⟨S40x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S64x1024, .f32⟩
  | .local _ .vmem, ⟨8, _⟩ => ⟨S1x1024, .f32⟩
  | .local _ .vmem, ⟨9, _⟩ => ⟨S1x256, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1x512, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_c : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_cst : Ref sig .tc := ⟨.hbm, 44, rfl⟩
abbrev main_call1_v3 : Ref sig .tc := ⟨.hbm, 45, rfl⟩
abbrev main_call1_v4 : Ref sig .tc := ⟨.hbm, 46, rfl⟩
abbrev main_call1_cst_0 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_c_4 : Ref sig .tc := ⟨.hbm, 73, rfl⟩
abbrev main_call2_v0 : Ref sig .tc := ⟨.hbm, 74, rfl⟩
abbrev main_v20 : Ref sig .tc := ⟨.hbm, 75, rfl⟩
abbrev main_cst_5 : Ref sig .tc := ⟨.hbm, 76, rfl⟩
abbrev main_cst_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_cst : Ref sig .tc := ⟨.hbm, 81, rfl⟩
abbrev main_call3_v3 : Ref sig .tc := ⟨.hbm, 82, rfl⟩
abbrev main_call3_v4 : Ref sig .tc := ⟨.hbm, 83, rfl⟩
abbrev main_call3_cst_0 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_cst_1 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_v15 : Ref sig .tc := ⟨.hbm, 96, rfl⟩
abbrev main_call3_v16 : Ref sig .tc := ⟨.hbm, 97, rfl⟩
abbrev main_v21 : Ref sig .tc := ⟨.hbm, 98, rfl⟩
abbrev main_v22 : Ref sig .tc := ⟨.hbm, 99, rfl⟩
abbrev main_c_7 : Ref sig .tc := ⟨.hbm, 100, rfl⟩
abbrev main_call4_v0 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_v29_0 : Ref sig .tc := ⟨.hbm, 108, rfl⟩
abbrev main_v29_1 : Ref sig .tc := ⟨.hbm, 109, rfl⟩
abbrev main_v29_2 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_32 : BitVec 32 := 0#32
  let v73 : BitVec 1 := Scalar.cmpi .eq arg0 c0_i32_32
  let v74 : BitVec 32 := Scalar.extui v73
  let c0_i32_33 : BitVec 32 := 0#32
  let v75 : BitVec 1 := Scalar.cmpi .ne v74 c0_i32_33
  v75

def k0_cond2 (i : grid0.Coords) : BitVec 1 :=
  let arg0 : BitVec 32 := BitVec.ofNat 32 (i 0).val
  let c0_i32_34 : BitVec 32 := 0#32
  let v76 : BitVec 1 := Scalar.cmpi .sgt arg0 c0_i32_34
  let v77 : BitVec 32 := Scalar.extui v76
  let c0_i32_35 : BitVec 32 := 0#32
  let v78 : BitVec 1 := Scalar.cmpi .ne v77 c0_i32_35
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1024 : Shape := ⟨1, ![1024]⟩
abbrev S_ : Shape := ⟨0, ![]⟩
abbrev S8191 : Shape := ⟨1, ![8191]⟩
abbrev S1 : Shape := ⟨1, ![1]⟩
abbrev S8192 : Shape := ⟨1, ![8192]⟩
abbrev S8192x1 : Shape := ⟨2, ![8192, 1]⟩
abbrev S15 : Shape := ⟨1, ![15]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S1x64 : Shape := ⟨2, ![1, 64]⟩
abbrev S8192x1024 : Shape := ⟨2, ![8192, 1024]⟩
abbrev S1x1024 : Shape := ⟨2, ![1, 1024]⟩
abbrev S8192x2x2x256 : Shape := ⟨4, ![8192, 2, 2, 256]⟩
abbrev S255 : Shape := ⟨1, ![255]⟩
abbrev S256 : Shape := ⟨1, ![256]⟩
abbrev S8192x1x1x1 : Shape := ⟨4, ![8192, 1, 1, 1]⟩
abbrev S1x1x1x256 : Shape := ⟨4, ![1, 1, 1, 256]⟩
abbrev S8192x1x1x256 : Shape := ⟨4, ![8192, 1, 1, 256]⟩
abbrev S8192x2x1x256 : Shape := ⟨4, ![8192, 2, 1, 256]⟩
abbrev S8192x2x256 : Shape := ⟨3, ![8192, 2, 256]⟩
abbrev S1x2x256 : Shape := ⟨3, ![1, 2, 256]⟩
abbrev S8191x2x256 : Shape := ⟨3, ![8191, 2, 256]⟩
abbrev S16384x2x256 : Shape := ⟨3, ![16384, 2, 256]⟩
abbrev S8192x512 : Shape := ⟨2, ![8192, 512]⟩
abbrev S2x256 : Shape := ⟨2, ![2, 256]⟩
abbrev S1x512 : Shape := ⟨2, ![1, 512]⟩

abbrev nBuf : Space → Nat
  | .hbm => 145
  | .vmem => 0
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64x1024, .f32⟩
  | 6 => ⟨S1024, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S8191, .f32⟩
  | 15 => ⟨S_, .f32⟩
  | 16 => ⟨S8191, .f32⟩
  | 17 => ⟨S8191, .f32⟩
  | 18 => ⟨S1, .f32⟩
  | 19 => ⟨S_, .f32⟩
  | 20 => ⟨S8191, .f32⟩
  | 21 => ⟨S8191, .f32⟩
  | 22 => ⟨S8191, .f32⟩
  | 23 => ⟨S8191, .f32⟩
  | 24 => ⟨S1, .f32⟩
  | 25 => ⟨S8191, .f32⟩
  | 26 => ⟨S8191, .f32⟩
  | 27 => ⟨S8191, .f32⟩
  | 28 => ⟨S1, .f32⟩
  | 29 => ⟨S8192, .f32⟩
  | 30 => ⟨S8192x1, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S_, .i32⟩
  | 41 => ⟨S_, .f32⟩
  | 42 => ⟨S_, .f32⟩
  | 43 => ⟨S_, .f32⟩
  | 44 => ⟨S_, .f32⟩
  | 45 => ⟨S_, .f32⟩
  | 46 => ⟨S15, .f32⟩
  | 47 => ⟨S_, .f32⟩
  | 48 => ⟨S15, .f32⟩
  | 49 => ⟨S15, .f32⟩
  | 50 => ⟨S1, .f32⟩
  | 51 => ⟨S_, .f32⟩
  | 52 => ⟨S15, .f32⟩
  | 53 => ⟨S15, .f32⟩
  | 54 => ⟨S15, .f32⟩
  | 55 => ⟨S15, .f32⟩
  | 56 => ⟨S1, .f32⟩
  | 57 => ⟨S15, .f32⟩
  | 58 => ⟨S15, .f32⟩
  | 59 => ⟨S15, .f32⟩
  | 60 => ⟨S1, .f32⟩
  | 61 => ⟨S16, .f32⟩
  | 62 => ⟨S1x16, .f32⟩
  | 63 => ⟨S8192x16, .f32⟩
  | 64 => ⟨S8192x16, .f32⟩
  | 65 => ⟨S8192x16, .f32⟩
  | 66 => ⟨S8192x16, .f32⟩
  | 67 => ⟨S8192x16, .f32⟩
  | 68 => ⟨S8192x16, .f32⟩
  | 69 => ⟨S8192x16, .f32⟩
  | 70 => ⟨S8192x16, .f32⟩
  | 71 => ⟨S8192x16, .f32⟩
  | 72 => ⟨S8192x33, .f32⟩
  | 73 => ⟨S8192x64, .f32⟩
  | 74 => ⟨S1x64, .f32⟩
  | 75 => ⟨S8192x64, .f32⟩
  | 76 => ⟨S8192x64, .f32⟩
  | 77 => ⟨S1x64, .f32⟩
  | 78 => ⟨S8192x64, .f32⟩
  | 79 => ⟨S8192x64, .f32⟩
  | 80 => ⟨S8192x64, .f32⟩
  | 81 => ⟨S8192x64, .f32⟩
  | 82 => ⟨S1x64, .f32⟩
  | 83 => ⟨S8192x64, .f32⟩
  | 84 => ⟨S8192x64, .f32⟩
  | 85 => ⟨S1x64, .f32⟩
  | 86 => ⟨S8192x64, .f32⟩
  | 87 => ⟨S8192x64, .f32⟩
  | 88 => ⟨S8192x64, .f32⟩
  | 89 => ⟨S8192x1024, .f32⟩
  | 90 => ⟨S1x1024, .f32⟩
  | 91 => ⟨S8192x1024, .f32⟩
  | 92 => ⟨S8192x1024, .f32⟩
  | 93 => ⟨S8192x2x2x256, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S255, .f32⟩
  | 102 => ⟨S_, .f32⟩
  | 103 => ⟨S255, .f32⟩
  | 104 => ⟨S255, .f32⟩
  | 105 => ⟨S1, .f32⟩
  | 106 => ⟨S_, .f32⟩
  | 107 => ⟨S255, .f32⟩
  | 108 => ⟨S255, .f32⟩
  | 109 => ⟨S255, .f32⟩
  | 110 => ⟨S255, .f32⟩
  | 111 => ⟨S1, .f32⟩
  | 112 => ⟨S255, .f32⟩
  | 113 => ⟨S255, .f32⟩
  | 114 => ⟨S255, .f32⟩
  | 115 => ⟨S1, .f32⟩
  | 116 => ⟨S256, .f32⟩
  | 117 => ⟨S256, .f32⟩
  | 118 => ⟨S8192x1x1x1, .f32⟩
  | 119 => ⟨S8192x1x1x1, .f32⟩
  | 120 => ⟨S1x1x1x256, .f32⟩
  | 121 => ⟨S8192x1x1x256, .f32⟩
  | 122 => ⟨S8192x1x1x256, .f32⟩
  | 123 => ⟨S8192x1x1x256, .f32⟩
  | 124 => ⟨S8192x1x1x256, .f32⟩
  | 125 => ⟨S8192x2x2x256, .f32⟩
  | 126 => ⟨S8192x2x2x256, .f32⟩
  | 127 => ⟨S8192x2x1x256, .f32⟩
  | _ => ⟨S33x64, .f32⟩

abbrev hbmTy0_1 (i : Nat) : BufTy := match i % 128 with
  | 0 => ⟨S8192x2x256, .f32⟩
  | 1 => ⟨S8192x2x1x256, .f32⟩
  | 2 => ⟨S8192x2x256, .f32⟩
  | 3 => ⟨S_, .f32⟩
  | 4 => ⟨S1x2x256, .f32⟩
  | 5 => ⟨S8191x2x256, .f32⟩
  | 6 => ⟨S8191x2x256, .f32⟩
  | 7 => ⟨S16384x2x256, .f32⟩
  | 8 => ⟨S8192x512, .f32⟩
  | 9 => ⟨S8191x2x256, .f32⟩
  | 10 => ⟨S8192x2x256, .f32⟩
  | 11 => ⟨S8192x512, .f32⟩
  | 12 => ⟨S16384x2x256, .f32⟩
  | 13 => ⟨S_, .f32⟩
  | 14 => ⟨S2x256, .f32⟩
  | 15 => ⟨S1x2x256, .f32⟩
  | 16 => ⟨S1x512, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_cst_3 : Ref sig .tc := ⟨.hbm, 39, rfl⟩
abbrev main_c : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_cst : Ref sig .tc := ⟨.hbm, 44, rfl⟩
abbrev main_call1_v3 : Ref sig .tc := ⟨.hbm, 45, rfl⟩
abbrev main_call1_v4 : Ref sig .tc := ⟨.hbm, 46, rfl⟩
abbrev main_call1_cst_0 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_v15 : Ref sig .tc := ⟨.hbm, 59, rfl⟩
abbrev main_call1_v16 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_cst_4 : Ref sig .tc := ⟨.hbm, 94, rfl⟩
abbrev main_cst_5 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_cst : Ref sig .tc := ⟨.hbm, 99, rfl⟩
abbrev main_call2_v3 : Ref sig .tc := ⟨.hbm, 100, rfl⟩
abbrev main_call2_v4 : Ref sig .tc := ⟨.hbm, 101, rfl⟩
abbrev main_call2_cst_0 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_v15 : Ref sig .tc := ⟨.hbm, 114, rfl⟩
abbrev main_call2_v16 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_6 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_cst_7 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩

abbrev nD : Nat := 1
abbrev τ : Topo := Topo.v7x

variable {F : FTy → Type} [FloatOps F]
-- ==== Kernel9.lean ====
abbrev S2x8192x800 : Shape := ⟨3, ![2, 8192, 800]⟩
abbrev S2x16x128 : Shape := ⟨3, ![2, 16, 128]⟩
abbrev S2x128 : Shape := ⟨2, ![2, 128]⟩
abbrev S256 : Shape := ⟨1, ![256]⟩
abbrev S2x8192x256 : Shape := ⟨3, ![2, 8192, 256]⟩
abbrev S256x256 : Shape := ⟨2, ![256, 256]⟩
abbrev S_ : Shape := ⟨0, ![]⟩
abbrev S2x8192x896 : Shape := ⟨3, ![2, 8192, 896]⟩
abbrev S128x128 : Shape := ⟨2, ![128, 128]⟩
abbrev S1x16x128 : Shape := ⟨3, ![1, 16, 128]⟩
abbrev S16x128 : Shape := ⟨2, ![16, 128]⟩
abbrev S1 : Shape := ⟨1, ![1]⟩
abbrev S1x128 : Shape := ⟨2, ![1, 128]⟩
abbrev S128 : Shape := ⟨1, ![128]⟩
abbrev S1x256 : Shape := ⟨2, ![1, 256]⟩
abbrev S2x512x128 : Shape := ⟨3, ![2, 512, 128]⟩
abbrev S2x512x256 : Shape := ⟨3, ![2, 512, 256]⟩
abbrev S2x256x128 : Shape := ⟨3, ![2, 256, 128]⟩
abbrev S256x128 : Shape := ⟨2, ![256, 128]⟩
abbrev S64x256 : Shape := ⟨2, ![64, 256]⟩
abbrev S64x64 : Shape := ⟨2, ![64, 64]⟩
abbrev S1x256x128 : Shape := ⟨3, ![1, 256, 128]⟩
abbrev S1x64x128 : Shape := ⟨3, ![1, 64, 128]⟩
abbrev S64x128 : Shape := ⟨2, ![64, 128]⟩
abbrev S1x64x256 : Shape := ⟨3, ![1, 64, 256]⟩
abbrev S512x128 : Shape := ⟨2, ![512, 128]⟩
abbrev S64x3072 : Shape := ⟨2, ![64, 3072]⟩
abbrev S512x256 : Shape := ⟨2, ![512, 256]⟩

abbrev nBuf : Space → Nat
  | .hbm => 21
  | .vmem => 19
  | .smem => 0
  | _ => 0

abbrev bufTy : (tb : Table) → Fin (tcTables nBuf tb) → BufTy
  | .hbm, ⟨0, _⟩ => ⟨S2x8192x800, .f32⟩
  | .hbm, ⟨1, _⟩ => ⟨S2x16x128, .f32⟩
  | .hbm, ⟨2, _⟩ => ⟨S2x128, .f32⟩
  | .hbm, ⟨3, _⟩ => ⟨S256, .f32⟩
  | .hbm, ⟨4, _⟩ => ⟨S2x8192x256, .f32⟩
  | .hbm, ⟨5, _⟩ => ⟨S256x256, .bf16⟩
  | .hbm, ⟨6, _⟩ => ⟨S_, .i32⟩
  | .hbm, ⟨7, _⟩ => ⟨S_, .f32⟩
  | .hbm, ⟨8, _⟩ => ⟨S2x8192x896, .f32⟩
  | .hbm, ⟨9, _⟩ => ⟨S_, .f32⟩
  | .hbm, ⟨10, _⟩ => ⟨S128x128, .f32⟩
  | .hbm, ⟨11, _⟩ => ⟨S1x16x128, .f32⟩
  | .hbm, ⟨12, _⟩ => ⟨S16x128, .f32⟩
  | .hbm, ⟨13, _⟩ => ⟨S_, .i32⟩
  | .hbm, ⟨14, _⟩ => ⟨S1, .i32⟩
  | .hbm, ⟨15, _⟩ => ⟨S128x128, .f32⟩
  | .hbm, ⟨16, _⟩ => ⟨S1x128, .f32⟩
  | .hbm, ⟨17, _⟩ => ⟨S128, .f32⟩
  | .hbm, ⟨18, _⟩ => ⟨S1x128, .f32⟩
  | .hbm, ⟨19, _⟩ => ⟨S1x256, .f32⟩
  | .hbm, ⟨20, _⟩ => ⟨S2x8192x256, .bf16⟩
  | .local _ .vmem, ⟨0, _⟩ => ⟨S2x512x128, .f32⟩
  | .local _ .vmem, ⟨1, _⟩ => ⟨S2x512x128, .f32⟩
  | .local _ .vmem, ⟨2, _⟩ => ⟨S2x512x128, .f32⟩
  | .local _ .vmem, ⟨3, _⟩ => ⟨S2x512x128, .f32⟩
  | .local _ .vmem, ⟨4, _⟩ => ⟨S2x512x256, .f32⟩
  | .local _ .vmem, ⟨5, _⟩ => ⟨S2x512x256, .f32⟩
  | .local _ .vmem, ⟨6, _⟩ => ⟨S2x512x128, .f32⟩
  | .local _ .vmem, ⟨7, _⟩ => ⟨S2x512x128, .f32⟩
  | .local _ .vmem, ⟨8, _⟩ => ⟨S128x128, .f32⟩
  | .local _ .vmem, ⟨9, _⟩ => ⟨S1x128, .f32⟩
  | .local _ .vmem, ⟨10, _⟩ => ⟨S2x512x256, .f32⟩
  | .local _ .vmem, ⟨11, _⟩ => ⟨S2x512x256, .f32⟩
  | .local _ .vmem, ⟨12, _⟩ => ⟨S2x512x256, .f32⟩
  | .local _ .vmem, ⟨13, _⟩ => ⟨S2x512x256, .f32⟩
  | .local _ .vmem, ⟨14, _⟩ => ⟨S1x256, .f32⟩
  | .local _ .vmem, ⟨15, _⟩ => ⟨S256x256, .bf16⟩
  | .local _ .vmem, ⟨16, _⟩ => ⟨S2x512x256, .bf16⟩
  | .local _ .vmem, ⟨17, _⟩ => ⟨S2x512x256, .bf16⟩
  | .local _ .vmem, ⟨18, _⟩ => ⟨S2x256x128, .f32⟩
  | _, _ => ⟨S2x8192x800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  ![arg0.toNat, v0.toNat, c1_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  ![arg0.toNat, v0.toNat, c1_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let c0_i32 : BitVec 32 := 0#32
  ![arg0.toNat, v0.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let c0_i32 : BitVec 32 := 0#32
  ![arg0.toNat, v0.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S2x8192x800 : Shape := ⟨3, ![2, 8192, 800]⟩
abbrev S2x16x128 : Shape := ⟨3, ![2, 16, 128]⟩
abbrev S2x128 : Shape := ⟨2, ![2, 128]⟩
abbrev S256 : Shape := ⟨1, ![256]⟩
abbrev S2x8192x256 : Shape := ⟨3, ![2, 8192, 256]⟩
abbrev S2x8192x128 : Shape := ⟨3, ![2, 8192, 128]⟩
abbrev S2x8192x32 : Shape := ⟨3, ![2, 8192, 32]⟩
abbrev S2x8192x4x32 : Shape := ⟨4, ![2, 8192, 4, 32]⟩
abbrev S_ : Shape := ⟨0, ![]⟩
abbrev S2x8192x4x64 : Shape := ⟨4, ![2, 8192, 4, 64]⟩
abbrev S2x8192x2x16 : Shape := ⟨4, ![2, 8192, 2, 16]⟩
abbrev S2x128x2x8192 : Shape := ⟨4, ![2, 128, 2, 8192]⟩
abbrev S2x8192x2x128 : Shape := ⟨4, ![2, 8192, 2, 128]⟩
abbrev S1x1x2x128 : Shape := ⟨4, ![1, 1, 2, 128]⟩
abbrev S2x8192x2x4x32 : Shape := ⟨5, ![2, 8192, 2, 4, 32]⟩
abbrev S2x8192x1x4x32 : Shape := ⟨5, ![2, 8192, 1, 4, 32]⟩
abbrev S2x128x64x4x32 : Shape := ⟨5, ![2, 128, 64, 4, 32]⟩
abbrev S2x128x64x4x64 : Shape := ⟨5, ![2, 128, 64, 4, 64]⟩
abbrev S2x128x1x4x32 : Shape := ⟨5, ![2, 128, 1, 4, 32]⟩
abbrev S2x128x4x64x64 : Shape := ⟨5, ![2, 128, 4, 64, 64]⟩
abbrev S64x64 : Shape := ⟨2, ![64, 64]⟩
abbrev S128x2x4x32x64 : Shape := ⟨5, ![128, 2, 4, 32, 64]⟩
abbrev S2x128x4x32 : Shape := ⟨4, ![2, 128, 4, 32]⟩
abbrev S128x2x4x32 : Shape := ⟨4, ![128, 2, 4, 32]⟩
abbrev S2x4x32x64 : Shape := ⟨4, ![2, 4, 32, 64]⟩
abbrev S1x2x4x32 : Shape := ⟨4, ![1, 2, 4, 32]⟩
abbrev S2x4x32 : Shape := ⟨3, ![2, 4, 32]⟩
abbrev S1x2x4x32x64 : Shape := ⟨5, ![1, 2, 4, 32, 64]⟩
abbrev S2x4x32x1 : Shape := ⟨4, ![2, 4, 32, 1]⟩
abbrev S2x8192x4 : Shape := ⟨3, ![2, 8192, 4]⟩
abbrev S2x8192x4x1 : Shape := ⟨4, ![2, 8192, 4, 1]⟩
abbrev S1x1x256 : Shape := ⟨3, ![1, 1, 256]⟩

abbrev nBuf : Space → Nat
  | .hbm => 164
  | .vmem => 0
  | .smem => 0
  | _ => 0

abbrev hbmTy0_0 (i : Nat) : BufTy := match i % 128 with
  | 0 => ⟨S2x8192x800, .f32⟩
  | 1 => ⟨S2x16x128, .f32⟩
  | 2 => ⟨S2x128, .f32⟩
  | 3 => ⟨S256, .f32⟩
  | 4 => ⟨S2x8192x256, .f32⟩
  | 5 => ⟨S2x8192x128, .f32⟩
  | 6 => ⟨S2x8192x128, .f32⟩
  | 7 => ⟨S2x8192x256, .f32⟩
  | 8 => ⟨S2x8192x256, .f32⟩
  | 9 => ⟨S2x8192x32, .f32⟩
  | 10 => ⟨S2x8192x4x32, .f32⟩
  | 11 => ⟨S_, .f32⟩
  | 12 => ⟨S2x8192x4x32, .f32⟩
  | 13 => ⟨S2x8192x4x32, .f32⟩
  | 14 => ⟨S2x8192x4x32, .f32⟩
  | 15 => ⟨S2x8192x4x64, .f32⟩
  | 16 => ⟨S2x8192x2x16, .f32⟩
  | 17 => ⟨S2x128x2x8192, .f32⟩
  | 18 => ⟨S2x8192x2x128, .f32⟩
  | 19 => ⟨S1x1x2x128, .f32⟩
  | 20 => ⟨S2x8192x2x128, .f32⟩
  | 21 => ⟨S2x8192x2x128, .f32⟩
  | 22 => ⟨S2x8192x2x128, .f32⟩
  | 23 => ⟨S_, .f32⟩
  | 24 => ⟨S2x8192x2x128, .f32⟩
  | 25 => ⟨S2x8192x2x128, .f32⟩
  | 26 => ⟨S2x8192x2x128, .f32⟩
  | 27 => ⟨S2x8192x2x128, .f32⟩
  | 28 => ⟨S2x8192x2x128, .i1⟩
  | 29 => ⟨S2x8192x2x128, .f32⟩
  | 30 => ⟨S2x8192x2x128, .f32⟩
  | 31 => ⟨S2x8192x2x128, .f32⟩
  | 32 => ⟨S2x8192x2x128, .f32⟩
  | 33 => ⟨S2x8192x2x128, .f32⟩
  | 34 => ⟨S2x8192x2x128, .f32⟩
  | 35 => ⟨S2x8192x2x128, .f32⟩
  | 36 => ⟨S2x8192x2x128, .f32⟩
  | 37 => ⟨S2x8192x2x128, .f32⟩
  | 38 => ⟨S_, .f32⟩
  | 39 => ⟨S2x8192x2x128, .f32⟩
  | 40 => ⟨S2x8192x2x128, .f32⟩
  | 41 => ⟨S2x8192x2x4x32, .f32⟩
  | 42 => ⟨S2x8192x4x32, .f32⟩
  | 43 => ⟨S2x8192x4x32, .f32⟩
  | 44 => ⟨S2x8192x4x64, .f32⟩
  | 45 => ⟨S2x8192x1x4x32, .f32⟩
  | 46 => ⟨S2x8192x4x32, .f32⟩
  | 47 => ⟨S2x8192x4x32, .f32⟩
  | 48 => ⟨S2x128x64x4x32, .f32⟩
  | 49 => ⟨S2x128x64x4x32, .f32⟩
  | 50 => ⟨S2x128x64x4x32, .f32⟩
  | 51 => ⟨S2x128x64x4x64, .f32⟩
  | 52 => ⟨S_, .f32⟩
  | 53 => ⟨S_, .f32⟩
  | 54 => ⟨S2x128x64x4x32, .f32⟩
  | 55 => ⟨S2x128x1x4x32, .f32⟩
  | 56 => ⟨S2x128x1x4x32, .f32⟩
  | 57 => ⟨S2x128x64x4x32, .f32⟩
  | 58 => ⟨S2x128x64x4x32, .f32⟩
  | 59 => ⟨S2x128x64x4x32, .f32⟩
  | 60 => ⟨S2x128x64x4x32, .f32⟩
  | 61 => ⟨S2x128x64x4x32, .f32⟩
  | 62 => ⟨S2x128x64x4x32, .f32⟩
  | 63 => ⟨S2x128x64x4x32, .f32⟩
  | 64 => ⟨S2x128x64x4x32, .f32⟩
  | 65 => ⟨S2x128x4x64x64, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S_, .f32⟩
  | 78 => ⟨S_, .f32⟩
  | 79 => ⟨S2x128x4x64x64, .i1⟩
  | 80 => ⟨S2x128x4x64x64, .f32⟩
  | 81 => ⟨S2x128x4x64x64, .f32⟩
  | 82 => ⟨S2x128x4x64x64, .f32⟩
  | 83 => ⟨S2x128x64x4x64, .f32⟩
  | 84 => ⟨S2x128x64x4x32, .f32⟩
  | 85 => ⟨S2x128x64x4x32, .f32⟩
  | 86 => ⟨S2x128x64x4x32, .f32⟩
  | 87 => ⟨S2x128x64x4x32, .f32⟩
  | 88 => ⟨S128x2x4x32x64, .f32⟩
  | 89 => ⟨S2x128x4x32, .f32⟩
  | 90 => ⟨S2x128x4x32, .f32⟩
  | 91 => ⟨S128x2x4x32, .f32⟩
  | 92 => ⟨S_, .f32⟩
  | 93 => ⟨S2x4x32x64, .f32⟩
  | 94 => ⟨S_, .f32⟩
  | 95 => ⟨S128x2x4x32x64, .f32⟩
  | 96 => ⟨S_, .i32⟩
  | 97 => ⟨S128x2x4x32, .f32⟩
  | 98 => ⟨S128x2x4x32x64, .f32⟩
  | 99 => ⟨S_, .i32⟩
  | 100 => ⟨S2x4x32x64, .f32⟩
  | 101 => ⟨S128x2x4x32x64, .f32⟩
  | 102 => ⟨S_, .i32⟩
  | 103 => ⟨S_, .i1⟩
  | 104 => ⟨S_, .i32⟩
  | 105 => ⟨S_, .i32⟩
  | 106 => ⟨S_, .i32⟩
  | 107 => ⟨S1x2x4x32, .f32⟩
  | 108 => ⟨S2x4x32, .f32⟩
  | 109 => ⟨S_, .i32⟩
  | 110 => ⟨S_, .i32⟩
  | 111 => ⟨S_, .i32⟩
  | 112 => ⟨S_, .i32⟩
  | 113 => ⟨S1x2x4x32x64, .f32⟩
  | 114 => ⟨S2x4x32x64, .f32⟩
  | 115 => ⟨S2x4x32x1, .f32⟩
  | 116 => ⟨S2x4x32x64, .f32⟩
  | 117 => ⟨S2x4x32x64, .f32⟩
  | 118 => ⟨S2x4x32x64, .f32⟩
  | 119 => ⟨S1x2x4x32x64, .f32⟩
  | 120 => ⟨S_, .i32⟩
  | 121 => ⟨S_, .i32⟩
  | 122 => ⟨S_, .i32⟩
  | 123 => ⟨S_, .i32⟩
  | 124 => ⟨S128x2x4x32x64, .f32⟩
  | 125 => ⟨S_, .i32⟩
  | 126 => ⟨S_, .i32⟩
  | 127 => ⟨S2x128x64x4x32, .f32⟩
  | _ => ⟨S2x8192x800, .f32⟩

abbrev hbmTy0_1 (i : Nat) : BufTy := match i % 128 with
  | 0 => ⟨S2x128x64x4x32, .f32⟩
  | 1 => ⟨S2x128x4x64x64, .f32⟩
  | 2 => ⟨S2x128x64x4x64, .f32⟩
  | 3 => ⟨S2x128x64x4x64, .f32⟩
  | 4 => ⟨S2x8192x4x64, .f32⟩
  | 5 => ⟨S2x8192x4x64, .f32⟩
  | 6 => ⟨S2x8192x4x64, .f32⟩
  | 7 => ⟨S2x8192x4x64, .f32⟩
  | 8 => ⟨S2x8192x4x64, .f32⟩
  | 9 => ⟨S_, .f32⟩
  | 10 => ⟨S2x8192x4, .f32⟩
  | 11 => ⟨S2x8192x4x1, .f32⟩
  | 12 => ⟨S_, .f32⟩
  | 13 => ⟨S2x8192x4x1, .f32⟩
  | 14 => ⟨S2x8192x4x1, .f32⟩
  | 15 => ⟨S_, .f32⟩
  | 16 => ⟨S2x8192x4x1, .f32⟩
  | 17 => ⟨S2x8192x4x1, .f32⟩
  | 18 => ⟨S2x8192x4x1, .f32⟩
  | 19 => ⟨S2x8192x4x64, .f32⟩
  | 20 => ⟨S2x8192x4x64, .f32⟩
  | 21 => ⟨S2x8192x256, .f32⟩
  | 22 => ⟨S1x1x256, .f32⟩
  | 23 => ⟨S2x8192x256, .f32⟩
  | 24 => ⟨S2x8192x256, .f32⟩
  | 25 => ⟨S2x8192x256, .f32⟩
  | 26 => ⟨S2x8192x256, .f32⟩
  | 27 => ⟨S_, .f32⟩
  | 28 => ⟨S2x8192x256, .f32⟩
  | 29 => ⟨S2x8192x256, .f32⟩
  | 30 => ⟨S_, .f32⟩
  | 31 => ⟨S2x8192x256, .f32⟩
  | 32 => ⟨S2x8192x256, .f32⟩
  | 33 => ⟨S2x8192x256, .f32⟩
  | 34 => ⟨S2x8192x256, .f32⟩
  | 35 => ⟨S2x8192x256, .bf16⟩
  | _ => ⟨S2x8192x800, .f32⟩

abbrev hbmTy (i : Nat) : BufTy := match i / 128 with
  | 0 => hbmTy0_0 i
  | 1 => hbmTy0_1 i
  | _ => ⟨S2x8192x800, .f32⟩

abbrev bufTy : (tb : Table) → Fin (tcTables nBuf tb) → BufTy
  | .hbm, ⟨i, _⟩ => hbmTy i
  | _, _ => ⟨S2x8192x800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v16 : Ref sig .tc := ⟨.hbm, 37, rfl⟩
abbrev main_cst_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_call0_cst : Ref sig .tc := ⟨.hbm, 52, rfl⟩
abbrev main_call1_call0_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c : Ref sig .tc := ⟨.hbm, 66, rfl⟩
abbrev main_v42 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v43 : Ref sig .tc := ⟨.hbm, 76, rfl⟩
abbrev main_cst_1 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_2 : Ref sig .tc := ⟨.hbm, 92, rfl⟩
abbrev main_v55 : Ref sig .tc := ⟨.hbm, 93, rfl⟩
abbrev main_cst_3 : Ref sig .tc := ⟨.hbm, 94, rfl⟩
abbrev main_v56 : Ref sig .tc := ⟨.hbm, 95, rfl⟩
abbrev main_c_4 : Ref sig .tc := ⟨.hbm, 96, rfl⟩
abbrev main_v57_0 : Ref sig .tc := ⟨.hbm, 97, rfl⟩
abbrev main_v57_1 : Ref sig .tc := ⟨.hbm, 98, rfl⟩
abbrev main_v57_2 : Ref sig .tc := ⟨.hbm, 99, rfl⟩
abbrev main_v57_3 : Ref sig .tc := ⟨.hbm, 100, rfl⟩
abbrev main_v57_4 : Ref sig .tc := ⟨.hbm, 101, rfl⟩
abbrev main_while0c_c_12 : Ref sig .tc := ⟨.hbm, 102, rfl⟩
abbrev main_while0c_v84 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_v0 : Ref sig .tc := ⟨.hbm, 107, rfl⟩
abbrev main_while0b_v84 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_c_2 : Ref sig .tc := ⟨.hbm, 112, rfl⟩
abbrev main_while0b_call5_v0 : Ref sig .tc := ⟨.hbm, 113, rfl⟩
abbrev main_while0b_v85 : Ref sig .tc := ⟨.hbm, 114, rfl⟩
abbrev main_while0b_v86 : Ref sig .tc := ⟨.hbm, 115, rfl⟩
abbrev main_while0b_v87 : Ref sig .tc := ⟨.hbm, 116, rfl⟩
abbrev main_while0b_v88 : Ref sig .tc := ⟨.hbm, 117, rfl⟩
abbrev main_while0b_v89 : Ref sig .tc := ⟨.hbm, 118, rfl⟩
abbrev main_while0b_call6_v0 : Ref sig .tc := ⟨.hbm, 119, rfl⟩
abbrev main_while0b_call6_c : Ref sig .tc := ⟨.hbm, 120, rfl⟩
abbrev main_while0b_call6_c_0 : Ref sig .tc := ⟨.hbm, 121, rfl⟩
abbrev main_while0b_call6_c_1 : Ref sig .tc := ⟨.hbm, 122, rfl⟩
abbrev main_while0b_call6_c_2 : Ref sig .tc := ⟨.hbm, 123, rfl⟩
abbrev main_while0b_v90 : Ref sig .tc := ⟨.hbm, 124, rfl⟩
abbrev main_while0b_c_12 : Ref sig .tc := ⟨.hbm, 125, rfl⟩
abbrev main_while0b_v91 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_5 : Ref sig .tc := ⟨.hbm, 137, rfl⟩
abbrev main_v68 : Ref sig .tc := ⟨.hbm, 138, rfl⟩
abbrev main_v69 : Ref sig .tc := ⟨.hbm, 139, rfl⟩
abbrev main_cst_6 : Ref sig .tc := ⟨.hbm, 140, rfl⟩
abbrev main_v70 : Ref sig .tc := ⟨.hbm, 141, rfl⟩
abbrev main_v71 : Ref sig .tc := ⟨.hbm, 142, rfl⟩
abbrev main_cst_7 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_call7_v0 : Ref sig .tc := ⟨.hbm, 153, rfl⟩
abbrev main_call7_v1 : Ref sig .tc := ⟨.hbm, 154, rfl⟩
abbrev main_call7_cst : Ref sig .tc := ⟨.hbm, 155, rfl⟩
abbrev main_call7_v2 : Ref sig .tc := ⟨.hbm, 156, rfl⟩
abbrev main_call7_v3 : Ref sig .tc := ⟨.hbm, 157, rfl⟩
abbrev main_call7_cst_0 : Ref sig .tc := ⟨.hbm, 158, rfl⟩
abbrev main_call7_v4 : Ref sig .tc := ⟨.hbm, 159, rfl⟩
abbrev main_call7_v5 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩

abbrev nD : Nat := 1
abbrev τ : Topo := Topo.v7x

variable {F : FTy → Type} [FloatOps F]

abbrev main_while0_count : Scf.Loop 32 := ⟨0#32, 128#32, 1#32⟩
-- ==== Proof.GlaSpec.lean ====
/-
  Gated linear attention in one direction, over chunks of 64 rows: the running log decay within a chunk, the state that
  enters a chunk, and what a row gives.  The queries, keys, values and log decays are functions of batch, row and column.
-/
module

public import Idealize.ShloMosaic.Lib.Pointwise

@[expose] public section

noncomputable section

namespace Cert.GlaSpec

open Idealize.ShloMosaic

/-- Column κ of head h among the 128 key columns. -/
def hk (h : Fin 4) (κ : Fin 32) : Fin 128 := ⟨32 * h.val + κ.val, by omega⟩
/-- Column v of head h among the 256 value columns. -/
def hv (h : Fin 4) (v : Fin 64) : Fin 256 := ⟨64 * h.val + v.val, by omega⟩

theorem sum_hk {M : Type} [AddCommMonoid M] (f : Fin 128 → M) : ∑ x, f x = ∑ h : Fin 4, ∑ κ : Fin 32, f (hk h κ) := by
  rw [← Fintype.sum_prod_type', ← (finProdFinEquiv (m := 4) (n := 32)).sum_comp]
  refine Finset.sum_congr rfl fun p _ => congrArg f (Fin.ext ?_)
  show p.2.val + 32 * p.1.val = 32 * p.1.val + p.2.val
  omega

theorem sum_hv {M : Type} [AddCommMonoid M] (f : Fin 256 → M) : ∑ x, f x = ∑ h : Fin 4, ∑ v : Fin 64, f (hv h v) := by
  rw [← Fintype.sum_prod_type', ← (finProdFinEquiv (m := 4) (n := 64)).sum_comp]
  refine Finset.sum_congr rfl fun p _ => congrArg f (Fin.ext ?_)
  show p.2.val + 64 * p.1.val = 64 * p.1.val + p.2.val
  omega

theorem hk_div (h : Fin 4) (κ : Fin 32) : (hk h κ).val / 32 = h.val := by show (32 * h.val + κ.val) / 32 = h.val; omega
theorem hv_div (h : Fin 4) (v : Fin 64) : (hv h v).val / 64 = h.val := by show (64 * h.val + v.val) / 64 = h.val; omega
theorem hv_mod (h : Fin 4) (v : Fin 64) : (hv h v).val % 64 = v.val := by show (64 * h.val + v.val) % 64 = v.val; omega

theorem exists_hk (c : Fin 128) : ∃ h κ, c = hk h κ :=
  ⟨⟨c.val / 32, by omega⟩, ⟨c.val % 32, by omega⟩, Fin.ext (by show c.val = 32 * (c.val / 32) + c.val % 32; omega)⟩
theorem exists_hv (c : Fin 256) : ∃ h v, c = hv h v :=
  ⟨⟨c.val / 64, by omega⟩, ⟨c.val % 64, by omega⟩, Fin.ext (by show c.val = 64 * (c.val / 64) + c.val % 64; omega)⟩

section
variable (s : EReal) (q k g : Fin 2 → ℕ → Fin 128 → EReal) (v : Fin 2 → ℕ → Fin 256 → EReal)

/-- The log decay of chunk n summed up to row i. -/
def bc (b : Fin 2) (n : ℕ) (i : Fin 64) (c : Fin 128) : EReal := ∑ j : Fin 64, if j ≤ i then g b (64 * n + j.val) c else 0

/-- Row i's score against row j of the same chunk, in head h. -/
def sc (b : Fin 2) (n : ℕ) (h : Fin 4) (i j : Fin 64) : EReal :=
  ∑ κ : Fin 32, (q b (64 * n + i.val) (hk h κ) * s * Ideal.exp (bc g b n i (hk h κ) - bc g b n 32 (hk h κ)))
    * (k b (64 * n + j.val) (hk h κ) * Ideal.exp (bc g b n 32 (hk h κ) - bc g b n j (hk h κ)))

/-- The state that enters chunk n. -/
def st (b : Fin 2) (h : Fin 4) (κ : Fin 32) (w : Fin 64) : ℕ → EReal
  | 0 => 0
  | n + 1 => st b h κ w n * Ideal.exp (bc g b n 63 (hk h κ))
      + ∑ j : Fin 64, v b (64 * n + j.val) (hv h w) * (k b (64 * n + j.val) (hk h κ) * Ideal.exp (bc g b n 63 (hk h κ) - bc g b n j (hk h κ)))

/-- What row i of chunk n gives in column w of head h. -/
def out (b : Fin 2) (n : ℕ) (i : Fin 64) (h : Fin 4) (w : Fin 64) : EReal :=
  (∑ j : Fin 64, (if j ≤ i then sc s q k g b n h i j else 0) * v b (64 * n + j.val) (hv h w))
    + ∑ κ : Fin 32, (q b (64 * n + i.val) (hk h κ) * s * Ideal.exp (bc g b n i (hk h κ))) * st k g v b h κ w n
end

end Cert.GlaSpec

end
-- ==== Proof.GlaRefA.lean ====
/-
  The lines of the reference around its scan over the chunks, read at an index one stretch at a time: the projections'
  columns, the log decays, their running sums within a chunk, the masked scores, and the last lines that put the rows
  together.
-/
module

public import proofs.«01_k».proof.Proof.GlaSpec
public import proofs.«01_k».proof.Proof.Gen.ReferenceIdeal.Run
public import Idealize.ShloMosaic.Lib.StableHlo.ReadAt

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.GlaSpec
open Idealize.ShloMosaic.StableHlo (after)

/-! ## A running sum along the rows of a chunk -/

theorem foldl_add {ι : Type} (f : ι → EReal) (l : List ι) (v : EReal) : l.foldl (fun r n => r + f n) v = v + (l.map f).sum := by
  induction l generalizing v with
  | nil => simp
  | cons a l ih => simp [ih, add_assoc]

/-- The window's positions: one for each of 64 rows. -/
def winEquiv : Fin 64 ≃ (⟨5, ![1, 1, 64, 1, 1]⟩ : Shape).Idx where
  toFun k := ix5 (0 : Fin 1) (0 : Fin 1) k (0 : Fin 1) (0 : Fin 1)
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

theorem cum_apply (x : FVec Ideal S2x128x64x4x32 .f32) (init : FVec Ideal S_ .f32) (h0 : init (Shape.Idx.first h_S_) = (0 : EReal))
    (b : Fin 2) (n : Fin 128) (i : Fin 64) (h : Fin 4) (κ : Fin 32) :
    (Host.reduceWindowAdd ![1, 1, 64, 1, 1] ![1, 1, 1, 1, 1] ![0, 0, 63, 0, 0] ![0, 0, 0, 0, 0] x init reduceWindows_S2x128x64x4x32_S2x128x64x4x32_w1s1p0_0_w1s1p0_0_w64s1p63_0_w1s1p0_0_w1s1p0_0 h_S_ : FVec Ideal S2x128x64x4x32 .f32) (ix5 b n i h κ)
      = ∑ j : Fin 64, (if j ≤ i then x (ix5 b n j h κ) else 0 : EReal) := by
  unfold Host.reduceWindowAdd
  rw [h0]
  show Ideal.hostReduceWindowAdd _ _ _ _ _ x 0 _ = _
  unfold Ideal.hostReduceWindowAdd Host.reduceWindow
  dsimp only
  rw [foldl_add, zero_add, ← Fin.sum_univ_def]
  refine (Fintype.sum_equiv ((⟨5, ![1, 1, 64, 1, 1]⟩ : Shape).rowMajor.symm.trans winEquiv.symm) _ (fun w : Fin 64 => if 63 ≤ i.val + w.val then x (ix5 b n ⟨(i.val + w.val + 1) % 64, Nat.mod_lt _ (by decide)⟩ h κ) else (0 : EReal)) fun k => ?_).trans ?_
  · obtain ⟨w, hw⟩ : ∃ w, winEquiv w = (⟨5, ![1, 1, 64, 1, 1]⟩ : Shape).rowMajor.symm k := ⟨_, winEquiv.apply_symm_apply _⟩
    have hs : w = ((⟨5, ![1, 1, 64, 1, 1]⟩ : Shape).rowMajor.symm.trans winEquiv.symm) k := by
      rw [Equiv.trans_apply, ← hw, Equiv.symm_apply_apply]
    have hv : ∀ a, ((⟨5, ![1, 1, 64, 1, 1]⟩ : Shape).rowMajor.symm k a).val = (winEquiv w a).val := fun a => by rw [hw]
    have v0 : ((⟨5, ![1, 1, 64, 1, 1]⟩ : Shape).rowMajor.symm k ⟨0, by decide⟩).val = 0 := hv _
    have v1 : ((⟨5, ![1, 1, 64, 1, 1]⟩ : Shape).rowMajor.symm k ⟨1, by decide⟩).val = 0 := hv _
    have v2 : ((⟨5, ![1, 1, 64, 1, 1]⟩ : Shape).rowMajor.symm k ⟨2, by decide⟩).val = w.val := hv _
    have v3 : ((⟨5, ![1, 1, 64, 1, 1]⟩ : Shape).rowMajor.symm k ⟨3, by decide⟩).val = 0 := hv _
    have v4 : ((⟨5, ![1, 1, 64, 1, 1]⟩ : Shape).rowMajor.symm k ⟨4, by decide⟩).val = 0 := hv _
    refine Eq.trans ?_ (congrArg (fun w : Fin 64 => if 63 ≤ i.val + w.val then x (ix5 b n ⟨(i.val + w.val + 1) % 64, Nat.mod_lt _ (by decide)⟩ h κ) else (0 : EReal)) hs)
    by_cases hc : 63 ≤ i.val + w.val
    · rw [if_pos hc, dif_pos]
      · congr 1
        funext a
        apply Fin.ext
        match a with
        | ⟨0, _⟩ => show b.val * 1 + ((⟨5, ![1, 1, 64, 1, 1]⟩ : Shape).rowMajor.symm k ⟨0, _⟩).val - 0 = b.val; rw [v0]; omega
        | ⟨1, _⟩ => show n.val * 1 + ((⟨5, ![1, 1, 64, 1, 1]⟩ : Shape).rowMajor.symm k ⟨1, _⟩).val - 0 = n.val; rw [v1]; omega
        | ⟨2, _⟩ => show i.val * 1 + ((⟨5, ![1, 1, 64, 1, 1]⟩ : Shape).rowMajor.symm k ⟨2, _⟩).val - 63 = (i.val + w.val + 1) % 64; rw [v2]; omega
        | ⟨3, _⟩ => show h.val * 1 + ((⟨5, ![1, 1, 64, 1, 1]⟩ : Shape).rowMajor.symm k ⟨3, _⟩).val - 0 = h.val; rw [v3]; omega
        | ⟨4, _⟩ => show κ.val * 1 + ((⟨5, ![1, 1, 64, 1, 1]⟩ : Shape).rowMajor.symm k ⟨4, _⟩).val - 0 = κ.val; rw [v4]; omega
      · intro a
        match a with
        | ⟨0, _⟩ => show 0 ≤ b.val * 1 + ((⟨5, ![1, 1, 64, 1, 1]⟩ : Shape).rowMajor.symm k ⟨0, _⟩).val ∧ b.val * 1 + ((⟨5, ![1, 1, 64, 1, 1]⟩ : Shape).rowMajor.symm k ⟨0, _⟩).val - 0 < 2; rw [v0]; omega
        | ⟨1, _⟩ => show 0 ≤ n.val * 1 + ((⟨5, ![1, 1, 64, 1, 1]⟩ : Shape).rowMajor.symm k ⟨1, _⟩).val ∧ n.val * 1 + ((⟨5, ![1, 1, 64, 1, 1]⟩ : Shape).rowMajor.symm k ⟨1, _⟩).val - 0 < 128; rw [v1]; omega
        | ⟨2, _⟩ => show 63 ≤ i.val * 1 + ((⟨5, ![1, 1, 64, 1, 1]⟩ : Shape).rowMajor.symm k ⟨2, _⟩).val ∧ i.val * 1 + ((⟨5, ![1, 1, 64, 1, 1]⟩ : Shape).rowMajor.symm k ⟨2, _⟩).val - 63 < 64; rw [v2]; omega
        | ⟨3, _⟩ => show 0 ≤ h.val * 1 + ((⟨5, ![1, 1, 64, 1, 1]⟩ : Shape).rowMajor.symm k ⟨3, _⟩).val ∧ h.val * 1 + ((⟨5, ![1, 1, 64, 1, 1]⟩ : Shape).rowMajor.symm k ⟨3, _⟩).val - 0 < 4; rw [v3]; omega
        | ⟨4, _⟩ => show 0 ≤ κ.val * 1 + ((⟨5, ![1, 1, 64, 1, 1]⟩ : Shape).rowMajor.symm k ⟨4, _⟩).val ∧ κ.val * 1 + ((⟨5, ![1, 1, 64, 1, 1]⟩ : Shape).rowMajor.symm k ⟨4, _⟩).val - 0 < 32; rw [v4]; omega
    · rw [if_neg hc, dif_neg]
      intro hin
      have h2 : 63 ≤ i.val * 1 + ((⟨5, ![1, 1, 64, 1, 1]⟩ : Shape).rowMajor.symm k ⟨2, by decide⟩).val ∧ i.val * 1 + ((⟨5, ![1, 1, 64, 1, 1]⟩ : Shape).rowMajor.symm k ⟨2, by decide⟩).val - 63 < 64 := hin ⟨2, Nat.lt_of_sub_eq_succ (n := 2) (m := 5) rfl⟩
      rw [v2] at h2
      omega
  · refine Fintype.sum_equiv (Equiv.addRight (i + 1)) _ _ fun w => ?_
    have e : ((Equiv.addRight (i + 1)) w : Fin 64) = ⟨(i.val + w.val + 1) % 64, Nat.mod_lt _ (by decide)⟩ := by
      apply Fin.ext
      show (w.val + (i.val + 1 % 64) % 64) % 64 = (i.val + w.val + 1) % 64
      omega
    rw [e]
    by_cases hc : 63 ≤ i.val + w.val
    · rw [if_pos hc, if_pos (by show (i.val + w.val + 1) % 64 ≤ i.val; omega)]
    · rw [if_neg hc, if_neg (by show ¬ (i.val + w.val + 1) % 64 ≤ i.val; omega)]

variable (V : (b : DevRef τ sig) → b.ty.Contents (Elt Ideal))

/-! ## Before the scan -/

theorem a_v7 (b : Fin 2) (y : Fin 8192) (h : Fin 4) (κ : Fin 32) : (after hostOps0 V (Proc.devRef .tc main_v7) : Vec Ideal S2x8192x4x32 .f32) (ix4 b y h κ)
    = (fun p : EReal => p * Ideal.ofBits .f32 0x3E3504F3#32) ((V (Proc.devRef .tc main_arg0) : Vec Ideal S2x8192x800 .f32) (ix3 b y ⟨32 * h.val + κ.val, by omega⟩)) := by
  after_reads_at
  simp only [show h.val * 32 + κ.val = 32 * h.val + κ.val by omega]
theorem a_v8 (b : Fin 2) (y : Fin 8192) (h : Fin 4) (κ : Fin 32) : (after hostOps0 V (Proc.devRef .tc main_v8) : Vec Ideal S2x8192x4x32 .f32) (ix4 b y h κ)
    = (V (Proc.devRef .tc main_arg0) : Vec Ideal S2x8192x800 .f32) (ix3 b y ⟨128 + (32 * h.val + κ.val), by omega⟩) := by
  after_reads_at
  simp only [show h.val * 32 + κ.val = 32 * h.val + κ.val by omega]
theorem a_v9 (b : Fin 2) (y : Fin 8192) (h : Fin 4) (κ : Fin 64) : (after hostOps0 V (Proc.devRef .tc main_v9) : Vec Ideal S2x8192x4x64 .f32) (ix4 b y h κ)
    = (V (Proc.devRef .tc main_arg0) : Vec Ideal S2x8192x800 .f32) (ix3 b y ⟨256 + (64 * h.val + κ.val), by omega⟩) := by
  after_reads_at
  simp only [show h.val * 64 + κ.val = 64 * h.val + κ.val by omega]
/-- The projected log decays of the forward direction. -/
theorem a_v15 (b : Fin 2) (y : Fin 8192) (x : Fin 128) : (after hostOps0 V (Proc.devRef .tc main_v15) : Vec Ideal S2x8192x2x128 .f32) (ix4 b y 0 x)
    = (∑ r : Fin 16, (fun p q : EReal => p * q) ((V (Proc.devRef .tc main_arg1) : Vec Ideal S2x16x128 .f32) (ix3 0 r x)) ((V (Proc.devRef .tc main_arg0) : Vec Ideal S2x8192x800 .f32) (ix3 b y ⟨768 + r.val, by omega⟩)))
      + (fun p : EReal => p) ((V (Proc.devRef .tc main_arg2) : Vec Ideal S2x128 .f32) (ix2 0 x)) := by
  after_reads_at

/-- The log of the logistic function, as the reference writes it. -/
def lsg (z : EReal) : EReal := -(max (-z) 0 + Ideal.log1p (Ideal.exp (-FloatOps.absf (F := Ideal) (φ := .f32) (-z))))

theorem a_v16 (b : Fin 2) (y : Fin 8192) (d : Fin 2) (x : Fin 128) : (after hostOps0_1 V (Proc.devRef .tc main_v16) : Vec Ideal S2x8192x2x128 .f32) (ix4 b y d x)
    = lsg ((V (Proc.devRef .tc main_v15) : Vec Ideal S2x8192x2x128 .f32) (ix4 b y d x)) := by
  after_reads_at
  rw [if_neg (fun h => h rfl)]
  rfl

theorem a_v24 (b : Fin 2) (n : Fin 128) (i : Fin 64) (h : Fin 4) (κ : Fin 32) : (after hostOps0_2 V (Proc.devRef .tc main_v24) : Vec Ideal S2x128x64x4x32 .f32) (ix5 b n i h κ)
    = Ideal.div ((V (Proc.devRef .tc main_v16) : Vec Ideal S2x8192x2x128 .f32) (ix4 b ⟨n.val * 64 + i.val, by omega⟩ 0 (hk h κ))) (Ideal.ofBits .f32 0x41800000#32) := by
  after_reads_at
  simp only [show h.val * 32 + κ.val = 32 * h.val + κ.val by omega]
  rfl
theorem a_v22 (b : Fin 2) (n : Fin 128) (i : Fin 64) (h : Fin 4) (κ : Fin 32) : (after hostOps0_2 V (Proc.devRef .tc main_v22) : Vec Ideal S2x128x64x4x32 .f32) (ix5 b n i h κ)
    = (V (Proc.devRef .tc main_v7) : Vec Ideal S2x8192x4x32 .f32) (ix4 b ⟨n.val * 64 + i.val, by omega⟩ h κ) := by
  after_reads_at
theorem a_v23 (b : Fin 2) (n : Fin 128) (i : Fin 64) (h : Fin 4) (κ : Fin 32) : (after hostOps0_2 V (Proc.devRef .tc main_v23) : Vec Ideal S2x128x64x4x32 .f32) (ix5 b n i h κ)
    = (V (Proc.devRef .tc main_v8) : Vec Ideal S2x8192x4x32 .f32) (ix4 b ⟨n.val * 64 + i.val, by omega⟩ h κ) := by
  after_reads_at
theorem a_v25 (b : Fin 2) (n : Fin 128) (i : Fin 64) (h : Fin 4) (w : Fin 64) : (after hostOps0_2 V (Proc.devRef .tc main_v25) : Vec Ideal S2x128x64x4x64 .f32) (ix5 b n i h w)
    = (V (Proc.devRef .tc main_v9) : Vec Ideal S2x8192x4x64 .f32) (ix4 b ⟨n.val * 64 + i.val, by omega⟩ h w) := by
  after_reads_at

theorem a_v26 (b : Fin 2) (n : Fin 128) (i : Fin 64) (h : Fin 4) (κ : Fin 32) : (after hostOps0_3 V (Proc.devRef .tc main_v26) : Vec Ideal S2x128x64x4x32 .f32) (ix5 b n i h κ)
    = ∑ j : Fin 64, (if j ≤ i then (V (Proc.devRef .tc main_v24) : Vec Ideal S2x128x64x4x32 .f32) (ix5 b n j h κ) else 0 : EReal) := by
  after_reads_simp
  exact cum_apply _ _ Ideal.ofBits_zero_f32 b n i h κ

theorem a_v37 (b : Fin 2) (n : Fin 128) (i j : Fin 64) (h : Fin 4) : (after hostOps0_4 V (Proc.devRef .tc main_v37) : Vec Ideal S2x128x4x64x64 .f32) (ix5 b n h i j)
    = ∑ x : Fin 32, (fun q k b0 bi bj : EReal => q * Ideal.exp (bi - b0) * (k * Ideal.exp (b0 - bj)))
        ((V (Proc.devRef .tc main_v22) : Vec Ideal S2x128x64x4x32 .f32) (ix5 b n i h x)) ((V (Proc.devRef .tc main_v23) : Vec Ideal S2x128x64x4x32 .f32) (ix5 b n j h x))
        ((V (Proc.devRef .tc main_v26) : Vec Ideal S2x128x64x4x32 .f32) (ix5 b n 32 h x)) ((V (Proc.devRef .tc main_v26) : Vec Ideal S2x128x64x4x32 .f32) (ix5 b n i h x))
        ((V (Proc.devRef .tc main_v26) : Vec Ideal S2x128x64x4x32 .f32) (ix5 b n j h x)) := by
  after_reads_at
theorem a_v28 (b : Fin 2) (n : Fin 128) (i : Fin 1) (h : Fin 4) (κ : Fin 32) : (after hostOps0_4 V (Proc.devRef .tc main_v28) : Vec Ideal S2x128x1x4x32 .f32) (ix5 b n i h κ)
    = (V (Proc.devRef .tc main_v26) : Vec Ideal S2x128x64x4x32 .f32) (ix5 b n 63 h κ) := by
  after_reads_at
theorem a_v38 (i j : Fin 64) : (after hostOps0_4 V (Proc.devRef .tc main_v38) : Vec Ideal S64x64 .i1) (ix2 i j) = 1#1 := by
  after_reads_at
theorem tril_word (i j : Fin 64) : Scalar.select (IntOp.cmpi CmpIPredicate.sge (IntOp.addi (BitVec.ofNat 32 i.val) 0#32) (BitVec.ofNat 32 j.val)) (1#1) (0#1) = if j ≤ i then 1#1 else 0#1 := by
  revert i j
  decide +kernel
theorem a_v39 (i j : Fin 64) (h1 : (V (Proc.devRef .tc main_v38) : Vec Ideal S64x64 .i1) (ix2 i j) = 1#1) : (after hostOps0_5 V (Proc.devRef .tc main_v39) : Vec Ideal S64x64 .i1) (ix2 i j) = if j ≤ i then 1#1 else 0#1 := by
  after_reads_at
  rw [h1]
  exact tril_word i j
theorem a_v40 (b : Fin 2) (n : Fin 128) (h : Fin 4) (i j : Fin 64) : (after hostOps0_7 V (Proc.devRef .tc main_v40) : Vec Ideal S2x128x4x64x64 .f32) (ix5 b n h i j)
    = if (V (Proc.devRef .tc main_v39) : Vec Ideal S64x64 .i1) (ix2 i j) = 1#1 then (V (Proc.devRef .tc main_v37) : Vec Ideal S2x128x4x64x64 .f32) (ix5 b n h i j) else (V (Proc.devRef .tc main_cst_1) : Vec Ideal S_ .f32) ix0 := by
  after_reads_at
  rfl
theorem a_cst1 : (after hostOps0_6 V (Proc.devRef .tc main_cst_1) : Vec Ideal S_ .f32) ix0 = (0 : EReal) := by
  after_reads_at

theorem a_v42 (b : Fin 2) (n : Fin 128) (i : Fin 64) (h : Fin 4) (w : Fin 64) : (after hostOps0_8 V (Proc.devRef .tc main_v42) : Vec Ideal S2x128x64x4x64 .f32) (ix5 b n i h w)
    = ∑ x : Fin 64, (fun p q : EReal => p * q) ((V (Proc.devRef .tc main_v25) : Vec Ideal S2x128x64x4x64 .f32) (ix5 b n x h w)) ((V (Proc.devRef .tc main_v40) : Vec Ideal S2x128x4x64x64 .f32) (ix5 b n h i x)) := by
  after_reads_at
theorem a_v530 (n : Fin 128) (b : Fin 2) (h : Fin 4) (κ : Fin 32) : (after hostOps0_8 V (Proc.devRef .tc main_v53_0) : Vec Ideal S128x2x4x32 .f32) (ix4 n b h κ)
    = Ideal.exp ((V (Proc.devRef .tc main_v28) : Vec Ideal S2x128x1x4x32 .f32) (ix5 b n 0 h κ)) := by
  after_reads_simp
  simp only [id]
  pointwise []
theorem a_v531 (n : Fin 128) (b : Fin 2) (h : Fin 4) (κ : Fin 32) (w : Fin 64) : (after hostOps0_8 V (Proc.devRef .tc main_v53_1) : Vec Ideal S128x2x4x32x64 .f32) (ix5 n b h κ w)
    = ∑ j : Fin 64, (fun k bl bj v : EReal => k * Ideal.exp (bl - bj) * v)
        ((V (Proc.devRef .tc main_v23) : Vec Ideal S2x128x64x4x32 .f32) (ix5 b n j h κ)) ((V (Proc.devRef .tc main_v28) : Vec Ideal S2x128x1x4x32 .f32) (ix5 b n 0 h κ))
        ((V (Proc.devRef .tc main_v26) : Vec Ideal S2x128x64x4x32 .f32) (ix5 b n j h κ)) ((V (Proc.devRef .tc main_v25) : Vec Ideal S2x128x64x4x64 .f32) (ix5 b n j h w)) := by
  after_reads_simp
  simp only [id]
  pointwise []
theorem a_v533 (b : Fin 2) (h : Fin 4) (κ : Fin 32) (w : Fin 64) : (after hostOps0_8 V (Proc.devRef .tc main_v53_3) : Vec Ideal S2x4x32x64 .f32) (ix4 b h κ w) = (0 : EReal) := by
  after_reads_simp
  simp only [id]
  pointwise []

/-! ## After the scan -/

theorem a_v60 (b : Fin 2) (y : Fin 8192) (x : Fin 256) : (after hostOps0_9 V (Proc.devRef .tc main_v60) : Vec Ideal S2x8192x256 .f32) (ix3 b y x)
    = (fun p q : EReal => p + q) ((V (Proc.devRef .tc main_v42) : Vec Ideal S2x128x64x4x64 .f32) (ix5 b ⟨y.val / 64, by omega⟩ ⟨y.val % 64, by omega⟩ ⟨x.val / 64, by omega⟩ ⟨x.val % 64, by omega⟩))
      (∑ κ : Fin 32, (fun s q e : EReal => s * (q * Ideal.exp e)) ((V (Proc.devRef .tc main_v53_4) : Vec Ideal S128x2x4x32x64 .f32) (ix5 ⟨y.val / 64, by omega⟩ b ⟨x.val / 64, by omega⟩ κ ⟨x.val % 64, by omega⟩))
        ((V (Proc.devRef .tc main_v22) : Vec Ideal S2x128x64x4x32 .f32) (ix5 b ⟨y.val / 64, by omega⟩ ⟨y.val % 64, by omega⟩ ⟨x.val / 64, by omega⟩ κ))
        ((V (Proc.devRef .tc main_v26) : Vec Ideal S2x128x64x4x32 .f32) (ix5 b ⟨y.val / 64, by omega⟩ ⟨y.val % 64, by omega⟩ ⟨x.val / 64, by omega⟩ κ))) := by
  after_reads_at

end Cert.ReferenceIdeal.Hand

end
-- ==== Proof.GlaRefLoop.lean ====
/-
  The reference's scan over the chunks: before trip `k` the carried array is the state carried into chunk `k`, and the
  first `k` chunks of the array it stacks hold the states carried into them.
-/
module

public import proofs.«01_k».proof.Proof.GlaRefA
public import Idealize.ShloMosaic.Lib.WordCmp

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.GlaSpec
open Idealize.ShloMosaic.StableHlo
open Idealize.ShloMosaic.WordCmp (toInt_ofNat_of_lt dynamicSlice_eq_extract dynamicUpdateSlice_eq_update)

variable (V : (b : DevRef τ sig) → b.ty.Contents (Elt Ideal))

/-- The carried array after a trip at counter `k`. -/
theorem step3_apply (k : Nat) (hk : k < 128) (hc : V (Proc.devRef .tc main_v53_2) = fun _ => BitVec.ofNat 32 k) (b : Fin 2) (h : Fin 4) (κ : Fin 32) (w : Fin 64) :
    (step_main_v53_3 V : Vec Ideal S2x4x32x64 .f32) (ix4 b h κ w)
      = (fun d s u : EReal => d * s + u) ((V (Proc.devRef .tc main_v53_0) : Vec Ideal S128x2x4x32 .f32) (ix4 ⟨k, hk⟩ b h κ))
          ((V (Proc.devRef .tc main_v53_3) : Vec Ideal S2x4x32x64 .f32) (ix4 b h κ w)) ((V (Proc.devRef .tc main_v53_1) : Vec Ideal S128x2x4x32x64 .f32) (ix5 ⟨k, hk⟩ b h κ w)) := by
  have e : (BitVec.ofNat 32 k).toInt = (k : Int) := toInt_ofNat_of_lt (by omega)
  unfold step_main_v53_3
  rw [dynamicSlice_eq_extract (s := S128x2x4x32) S1x2x4x32 _ _ _ ![k, 0, 0, 0] ⟨rfl, by intro a; fin_cases a <;> simp <;> omega⟩ (by
      intro a; fin_cases a
      · show ((V (Proc.devRef .tc main_v53_2) : Vec Ideal S_ .i32) _).toInt = _
        rw [hc]; exact e
      · rfl
      · rfl
      · rfl),
    dynamicSlice_eq_extract (s := S128x2x4x32x64) S1x2x4x32x64 _ _ _ ![k, 0, 0, 0, 0] ⟨rfl, by intro a; fin_cases a <;> simp <;> omega⟩ (by
      intro a; fin_cases a
      · show ((V (Proc.devRef .tc main_v53_2) : Vec Ideal S_ .i32) _).toInt = _
        rw [hc]; exact e
      · rfl
      · rfl
      · rfl
      · rfl)]
  simp only [id]
  pointwise []

/-- The stacked array after a trip at counter `k`. -/
theorem step4_apply (k : Nat) (hk : k < 128) (hc : V (Proc.devRef .tc main_v53_2) = fun _ => BitVec.ofNat 32 k) (n : Fin 128) (b : Fin 2) (h : Fin 4) (κ : Fin 32) (w : Fin 64) :
    (step_main_v53_4 V : Vec Ideal S128x2x4x32x64 .f32) (ix5 n b h κ w)
      = if n.val = k then (V (Proc.devRef .tc main_v53_3) : Vec Ideal S2x4x32x64 .f32) (ix4 b h κ w) else (V (Proc.devRef .tc main_v53_4) : Vec Ideal S128x2x4x32x64 .f32) (ix5 n b h κ w) := by
  have e : (BitVec.ofNat 32 k).toInt = (k : Int) := toInt_ofNat_of_lt (by omega)
  unfold step_main_v53_4
  rw [dynamicUpdateSlice_eq_update (s := S128x2x4x32x64) (u := S1x2x4x32x64) _ _ _ _ ![k, 0, 0, 0, 0] ⟨rfl, by intro a; fin_cases a <;> simp <;> omega⟩ (by
      intro a; fin_cases a
      · show ((V (Proc.devRef .tc main_v53_2) : Vec Ideal S_ .i32) _).toInt = _
        rw [hc]; exact e
      · rfl
      · rfl
      · rfl
      · rfl)]
  simp only [id]
  unfold updateSlice
  by_cases hn : n.val = k
  · rw [if_pos hn, dif_pos]
    · pointwise []
    · intro a
      match a with
      | ⟨0, _⟩ => show k ≤ n.val ∧ n.val < k + 1; omega
      | ⟨1, _⟩ => show 0 ≤ b.val ∧ b.val < 0 + 2; omega
      | ⟨2, _⟩ => show 0 ≤ h.val ∧ h.val < 0 + 4; omega
      | ⟨3, _⟩ => show 0 ≤ κ.val ∧ κ.val < 0 + 32; omega
      | ⟨4, _⟩ => show 0 ≤ w.val ∧ w.val < 0 + 64; omega
  · rw [if_neg hn, dif_neg]
    intro hin
    have h0 : k ≤ n.val ∧ n.val < k + 1 := hin ⟨0, Nat.zero_lt_succ 4⟩
    omega

variable (m : (ℓ : Loc nD τ sig) → Buf (Elt Ideal) ℓ) (c : Dev nD)

/-- What the scan makes of the decays `D` and the additions `U` of the chunks before the `k`-th. -/
def scanSt (D U : ℕ → EReal) : ℕ → EReal
  | 0 => 0
  | k + 1 => D k * scanSt D U k + U k

/-- A buffer that neither the condition nor the body writes is as it was at the loop's entry. -/
theorem loop_keeps (r : Ref sig .tc) (h : ∀ V : Valuation τ sig (Elt Ideal), after condOps V (Proc.devRef .tc r) = V (Proc.devRef .tc r) ∧ afterL bodyI V (Proc.devRef .tc r) = V (Proc.devRef .tc r)) :
    ∀ k : ℕ, atK m k c (Proc.devRef .tc r) = entryContents preI m c (Proc.devRef .tc r)
  | 0 => rfl
  | k + 1 => by
    rw [show atK m (k + 1) c = afterL bodyI (after condOps (atK m k c)) from rfl, (h _).2, (h _).1, loop_keeps r h k]

theorem atK_step (k : ℕ) (j : Ref sig .tc) (hj : j ∈ carriedRefs) : atK m (k + 1) c (Proc.devRef .tc j) = STEP (atK m k c) (Proc.devRef .tc j) :=
  trip_agree (atK m k c) j hj

theorem atK_counter (k : ℕ) : atK m k c (Proc.devRef .tc main_v53_2) = fun _ => BitVec.ofNat 32 k := by
  rw [atK_ctr]; funext _; simp [Scf.iv]

theorem atK_v530 : ∀ k : ℕ, atK m k c (Proc.devRef .tc main_v53_0) = entryContents preI m c (Proc.devRef .tc main_v53_0)
  | 0 => rfl
  | k + 1 => by rw [atK_step m c k _ (by decide), STEP_main_v53_0, atK_v530 k]

theorem atK_v531 : ∀ k : ℕ, atK m k c (Proc.devRef .tc main_v53_1) = entryContents preI m c (Proc.devRef .tc main_v53_1)
  | 0 => rfl
  | k + 1 => by rw [atK_step m c k _ (by decide), STEP_main_v53_1, atK_v531 k]

/-- The decay of chunk `k` and what it adds, as the loop's entry holds them. -/
def decay (b : Fin 2) (h : Fin 4) (κ : Fin 32) (k : ℕ) : EReal :=
  (entryContents preI m c (Proc.devRef .tc main_v53_0) : Vec Ideal S128x2x4x32 .f32) (ix4 ⟨k % 128, Nat.mod_lt _ (by decide)⟩ b h κ)
def added (b : Fin 2) (h : Fin 4) (κ : Fin 32) (w : Fin 64) (k : ℕ) : EReal :=
  (entryContents preI m c (Proc.devRef .tc main_v53_1) : Vec Ideal S128x2x4x32x64 .f32) (ix5 ⟨k % 128, Nat.mod_lt _ (by decide)⟩ b h κ w)

/-- Before trip `k` the carried array holds the state carried into chunk `k`. -/
theorem atK_v533 (h0 : ∀ b h κ w, (entryContents preI m c (Proc.devRef .tc main_v53_3) : Vec Ideal S2x4x32x64 .f32) (ix4 b h κ w) = (0 : EReal)) (b : Fin 2) (h : Fin 4) (κ : Fin 32) (w : Fin 64) :
    ∀ k : ℕ, k ≤ 128 → (atK m k c (Proc.devRef .tc main_v53_3) : Vec Ideal S2x4x32x64 .f32) (ix4 b h κ w) = scanSt (decay m c b h κ) (added m c b h κ w) k
  | 0, _ => h0 b h κ w
  | k + 1, hk => by
    rw [atK_step m c k _ (by decide), STEP_main_v53_3]
    refine (step3_apply (atK m k c) k (by omega) (atK_counter m c k) b h κ w).trans ?_
    rw [atK_v533 h0 b h κ w k (by omega), atK_v530, atK_v531]
    show _ = decay m c b h κ k * _ + added m c b h κ w k
    unfold decay added
    simp only [Nat.mod_eq_of_lt (show k < 128 by omega)]

/-- Before trip `k` the stacked array's first `k` chunks hold the states carried into them. -/
theorem atK_v534 (h0 : ∀ b h κ w, (entryContents preI m c (Proc.devRef .tc main_v53_3) : Vec Ideal S2x4x32x64 .f32) (ix4 b h κ w) = (0 : EReal)) (n : Fin 128) (b : Fin 2) (h : Fin 4) (κ : Fin 32) (w : Fin 64) :
    ∀ k : ℕ, k ≤ 128 → n.val < k → (atK m k c (Proc.devRef .tc main_v53_4) : Vec Ideal S128x2x4x32x64 .f32) (ix5 n b h κ w) = scanSt (decay m c b h κ) (added m c b h κ w) n.val
  | 0, _, hn => absurd hn (Nat.not_lt_zero _)
  | k + 1, hk, hn => by
    rw [atK_step m c k _ (by decide), STEP_main_v53_4]
    refine (step4_apply (atK m k c) k (by omega) (atK_counter m c k) n b h κ w).trans ?_
    by_cases e : n.val = k
    · rw [if_pos e, atK_v533 m c h0 b h κ w k (by omega), e]
    · rw [if_neg e, atK_v534 h0 n b h κ w k (by omega) (by omega)]

theorem keep_all (r : Ref sig .tc) (h1 : r ∉ condOps_W) (h2 : r ∉ while0Ops0_W) (h3 : r ∉ while0Ops0_1_W) (h4 : r ∉ while0Ops0_2_W) (h5 : r ∉ while0Ops0_3_W) (h6 : r ∉ while0Ops0_4_W) (k : ℕ) :
    atK m k c (Proc.devRef .tc r) = entryContents preI m c (Proc.devRef .tc r) := by
  refine loop_keeps m c r (fun V => ⟨after_of_writes_sub condOps V condOps_writes h1, ?_⟩) k
  simp only [afterL_cons, afterL_nil]
  rw [after_of_writes_sub while0Ops0_4 _ while0Ops0_4_writes h6, after_of_writes_sub while0Ops0_3 _ while0Ops0_3_writes h5, after_of_writes_sub while0Ops0_2 _ while0Ops0_2_writes h4,
    after_of_writes_sub while0Ops0_1 _ while0Ops0_1_writes h3, after_of_writes_sub while0Ops0 _ while0Ops0_writes h2]

end Cert.ReferenceIdeal.Hand

end
-- ==== Proof.GlaModel.lean ====
/-
  What one point of the GLA recurrence kernel computes, in the kernel's own operations: the log decay of a group of
  eight 64-row items, its running sums within each item, and from those what an item adds to the output and to the state.
-/
module

public import proofs.«01_k».proof.Proof.Gen.KernelIdeal.Value

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-- Which head a state row belongs to: the integer quotient by 64, as the kernel spells a floor division. -/
abbrev headK : IVec S256x128 1 :=
  k0_pay9 k0_pay6 (iota .tc S256x128 32 [1] iota_S256x128_d1_w32) 32#32 k0_pay7 k0_pay8
    (Scalar.subi (Scalar.extui (Scalar.cmpi .sgt 32#32 0#32)) (Scalar.extui (Scalar.cmpi .slt 32#32 0#32)))

/-- The 24 columns blocks' first part: the value rounded. -/
def sg1 (g : FVec F S64x128 .f32) : FVec F S64x128 .bf16 := truncf .bf16 g bitsLt_bf16_f32
/-- What the first part leaves. -/
def sgr (g : FVec F S64x128 .f32) : FVec F S64x128 .f32 := subf g (extf .f32 (sg1 g) bitsLt_bf16_f32)
/-- The second part. -/
def sg2 (g : FVec F S64x128 .f32) : FVec F S64x128 .bf16 := truncf .bf16 (sgr g) bitsLt_bf16_f32
/-- The third part. -/
def sg3 (g : FVec F S64x128 .f32) : FVec F S64x128 .bf16 :=
  truncf .bf16 (subf (sgr g) (extf .f32 (sg2 g) bitsLt_bf16_f32)) bitsLt_bf16_f32

/-- A loaded item as a matrix. -/
def m128 (x : Vec F S1x64x128 .f32) : FVec F S64x128 .f32 := shapeCast S64x128 x shapeCasts_S1x64x128_S64x128
/-- A loaded value item as a matrix. -/
def m256 (x : Vec F S1x64x256 .f32) : FVec F S64x256 .f32 := shapeCast S64x256 x shapeCasts_S1x64x256_S64x256

/-- The decay projection of a group of eight items. -/
def zG (l0 l1 l2 l3 l4 l5 l6 l7 : Vec F S1x64x128 .f32) (wd : Vec F S128x128 .f32) (bd : Vec F S1x128 .f32) : FVec F S512x128 .f32 :=
  addf (matmul dot_S512x128_S128x128_S512x128_1_0_0_1_n_n (some .fp32)
      (concatenate S512x128 0 [⟨S64x128, m128 l0⟩, ⟨S64x128, m128 l1⟩, ⟨S64x128, m128 l2⟩, ⟨S64x128, m128 l3⟩, ⟨S64x128, m128 l4⟩, ⟨S64x128, m128 l5⟩, ⟨S64x128, m128 l6⟩, ⟨S64x128, m128 l7⟩] concatenates_S64x128_S64x128_S64x128_S64x128_S64x128_S64x128_S64x128_S64x128_S512x128_d0)
      (shapeCast S128x128 wd shapeCasts_S128x128_S128x128) (constant S512x128 .f32 0x00000000#32))
    (broadcastTo S512x128 (shapeCast S1x128 bd shapeCasts_S1x128_S1x128) broadcasts_S1x128_S512x128)

/-- The log decay. -/
def gG (z : FVec F S512x128 .f32) : FVec F S512x128 .f32 :=
  mulf (subf (minimumf z (broadcast S512x128 (Scalar.ofBits .f32 0x00000000#32)))
      (log1p (exp (subf (broadcast S512x128 (Scalar.ofBits .f32 0x00000000#32)) (absf z)))))
    (broadcast S512x128 (Scalar.ofBits .f32 0x3D800000#32))

/-- One item's rows of a group. -/
abbrev rowsG (n : Nat) (h : S512x128.Slices ![n, 0] S64x128) (g : FVec F S512x128 .f32) : FVec F S64x128 .f32 :=
  extractStridedSlice S64x128 ![n, 0] g h

/-- The running sums of the eight items' three parts. -/
def cumG (g : FVec F S512x128 .f32) : FVec F S64x3072 .f32 :=
  matmul dot_S64x64_S64x3072_S64x3072_1_0_0_1_n_n none k0_pay20
    (concatenate S64x3072 1 [⟨S64x128, sg1 (rowsG 0 slices_S512x128_o0_0_S64x128 g)⟩, ⟨S64x128, sg2 (rowsG 0 slices_S512x128_o0_0_S64x128 g)⟩, ⟨S64x128, sg3 (rowsG 0 slices_S512x128_o0_0_S64x128 g)⟩, ⟨S64x128, sg1 (rowsG 64 slices_S512x128_o64_0_S64x128 g)⟩, ⟨S64x128, sg2 (rowsG 64 slices_S512x128_o64_0_S64x128 g)⟩, ⟨S64x128, sg3 (rowsG 64 slices_S512x128_o64_0_S64x128 g)⟩, ⟨S64x128, sg1 (rowsG 128 slices_S512x128_o128_0_S64x128 g)⟩, ⟨S64x128, sg2 (rowsG 128 slices_S512x128_o128_0_S64x128 g)⟩, ⟨S64x128, sg3 (rowsG 128 slices_S512x128_o128_0_S64x128 g)⟩, ⟨S64x128, sg1 (rowsG 192 slices_S512x128_o192_0_S64x128 g)⟩, ⟨S64x128, sg2 (rowsG 192 slices_S512x128_o192_0_S64x128 g)⟩, ⟨S64x128, sg3 (rowsG 192 slices_S512x128_o192_0_S64x128 g)⟩, ⟨S64x128, sg1 (rowsG 256 slices_S512x128_o256_0_S64x128 g)⟩, ⟨S64x128, sg2 (rowsG 256 slices_S512x128_o256_0_S64x128 g)⟩, ⟨S64x128, sg3 (rowsG 256 slices_S512x128_o256_0_S64x128 g)⟩, ⟨S64x128, sg1 (rowsG 320 slices_S512x128_o320_0_S64x128 g)⟩, ⟨S64x128, sg2 (rowsG 320 slices_S512x128_o320_0_S64x128 g)⟩, ⟨S64x128, sg3 (rowsG 320 slices_S512x128_o320_0_S64x128 g)⟩, ⟨S64x128, sg1 (rowsG 384 slices_S512x128_o384_0_S64x128 g)⟩, ⟨S64x128, sg2 (rowsG 384 slices_S512x128_o384_0_S64x128 g)⟩, ⟨S64x128, sg3 (rowsG 384 slices_S512x128_o384_0_S64x128 g)⟩, ⟨S64x128, sg1 (rowsG 448 slices_S512x128_o448_0_S64x128 g)⟩, ⟨S64x128, sg2 (rowsG 448 slices_S512x128_o448_0_S64x128 g)⟩, ⟨S64x128, sg3 (rowsG 448 slices_S512x128_o448_0_S64x128 g)⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x3072_d1)
    (constant S64x3072 .f32 0x00000000#32)

/-- An item's running sum: its three parts added. -/
def bG (a b c : Nat) (ha : S64x3072.Slices ![0, a] S64x128) (hb : S64x3072.Slices ![0, b] S64x128) (hc : S64x3072.Slices ![0, c] S64x128)
    (cum : FVec F S64x3072 .f32) : FVec F S64x128 .f32 :=
  addf (addf (extractStridedSlice S64x128 ![0, a] cum ha) (extractStridedSlice S64x128 ![0, b] cum hb)) (extractStridedSlice S64x128 ![0, c] cum hc)

/-- The scaled query. -/
def qs (q : FVec F S64x128 .f32) : FVec F S64x128 .f32 := mulf q (broadcast S64x128 (Scalar.ofBits .f32 0x3E3504F3#32))
/-- The running sum's middle row. -/
abbrev midR (b : FVec F S64x128 .f32) : FVec F S1x128 .f32 := extractStridedSlice S1x128 ![32, 0] b slices_S64x128_o32_0_S1x128
/-- The running sum's last row. -/
abbrev edgeR (b : FVec F S64x128 .f32) : FVec F S1x128 .f32 := extractStridedSlice S1x128 ![63, 0] b slices_S64x128_o63_0_S1x128
abbrev over64 (r : FVec F S1x128 .f32) : FVec F S64x128 .f32 := broadcastTo S64x128 r broadcasts_S1x128_S64x128

/-- The masked scores within a chunk, the heads side by side. -/
def scoresI (q k b : FVec F S64x128 .f32) : FVec F S64x256 .bf16 :=
  truncf .bf16 (select k0_pay19
    (matmul dot_S64x128_S256x128_S64x256_1_1_0_0_n_n none
      (truncf .bf16 (mulf (qs q) (exp (subf b (over64 (midR b))))) bitsLt_bf16_f32)
      (truncf .bf16 (select headK
        (concatenate S256x128 0 [⟨S64x128, mulf k (exp (subf (over64 (midR b)) b))⟩, ⟨S64x128, mulf k (exp (subf (over64 (midR b)) b))⟩, ⟨S64x128, mulf k (exp (subf (over64 (midR b)) b))⟩, ⟨S64x128, mulf k (exp (subf (over64 (midR b)) b))⟩] concatenates_S64x128_S64x128_S64x128_S64x128_S256x128_d0)
        (broadcast S256x128 (Scalar.ofBits .f32 0x00000000#32))) bitsLt_bf16_f32)
      (constant S64x256 .f32 0x00000000#32))
    (broadcast S64x256 (Scalar.ofBits .f32 0x00000000#32))) bitsLt_bf16_f32

/-- The mask that keeps a value row with its own head. -/
abbrev headV : IVec S256x256 1 :=
  k0_pay13 k0_pay10 (iota .tc S256x256 32 [1] iota_S256x256_d1_w32) 64#32 k0_pay11 k0_pay12 (Scalar.cmpi .sgt 64#32 0#32)
/-- The mask that keeps a state entry within its head. -/
abbrev headS : IVec S256x128 1 :=
  k0_pay18 k0_pay14 (iota .tc S256x128 32 [1] iota_S256x128_d1_w32) 32#32 k0_pay15 k0_pay16 k0_pay17

/-- What an item reads from its own chunk. -/
def intraI (q k : FVec F S64x128 .f32) (v : FVec F S64x256 .f32) (b : FVec F S64x128 .f32) : FVec F S64x256 .f32 :=
  matmul dot_S64x256_S256x256_S64x256_1_0_0_1_n_n none (scoresI q k b)
    (truncf .bf16 (select headV
      (concatenate S256x256 0 [⟨S64x256, v⟩, ⟨S64x256, v⟩, ⟨S64x256, v⟩, ⟨S64x256, v⟩] concatenates_S64x256_S64x256_S64x256_S64x256_S256x256_d0)
      (broadcast S256x256 (Scalar.ofBits .f32 0x00000000#32))) bitsLt_bf16_f32)
    (constant S64x256 .f32 0x00000000#32)

/-- What an item gives: its own chunk's part and the state's part. -/
def outI (q k : FVec F S64x128 .f32) (v : FVec F S64x256 .f32) (b : FVec F S64x128 .f32) (S : FVec F S256x128 .f32) : FVec F S64x256 .f32 :=
  addf (intraI q k v b)
    (matmul dot_S64x128_S256x128_S64x256_1_1_0_0_n_n none (truncf .bf16 (mulf (qs q) (exp b)) bitsLt_bf16_f32)
      (truncf .bf16 S bitsLt_bf16_f32) (constant S64x256 .f32 0x00000000#32))

/-- The state after an item. -/
def stI (k : FVec F S64x128 .f32) (v : FVec F S64x256 .f32) (b : FVec F S64x128 .f32) (S : FVec F S256x128 .f32) : FVec F S256x128 .f32 :=
  addf (mulf S (broadcastTo S256x128 (exp (edgeR b)) broadcasts_S1x128_S256x128))
    (select headS
      (matmul dot_S64x256_S64x128_S256x128_0_0_1_1_n_n none (truncf .bf16 v bitsLt_bf16_f32)
        (truncf .bf16 (mulf k (exp (subf (over64 (edgeR b)) b))) bitsLt_bf16_f32) (constant S256x128 .f32 0x00000000#32))
      (broadcast S256x128 (Scalar.ofBits .f32 0x00000000#32)))

/-- An item's output as it is stored. -/
abbrev put256 (x : FVec F S64x256 .f32) : Vec F S1x64x256 .f32 := shapeCast S1x64x256 x shapeCasts_S64x256_S1x64x256
/-- The state as it is loaded. -/
abbrev getS (x : Vec F S1x256x128 .f32) : FVec F S256x128 .f32 := shapeCast S256x128 x shapeCasts_S1x256x128_S256x128
/-- The state as it is stored. -/
abbrev putS (x : FVec F S256x128 .f32) : Vec F S1x256x128 .f32 := shapeCast S1x256x128 x shapeCasts_S256x128_S1x256x128

/-- Item (b, r)'s rows of a 128-wide block: 64 rows from row 64·r of batch b. -/
def rows128 (x : Vec F S2x512x128 .f32) (b : Fin 2) (r : Fin 8) : Vec F S1x64x128 .f32 :=
  View.ld (Val := Elt F) (e' := .f32) x (Rect.unit (s := S2x512x128) ![b.val, 64 * r.val, 0] S1x64x128.size
    (fun a => match a with
      | ⟨0, _⟩ => by have := b.isLt; show b.val + 1 ≤ 2; omega
      | ⟨1, _⟩ => by have := r.isLt; show 64 * r.val + 64 ≤ 512; omega
      | ⟨2, _⟩ => by show 0 + 128 ≤ 128; omega))
/-- Item (b, r)'s rows of a 256-wide block. -/
def rows256 (x : Vec F S2x512x256 .f32) (b : Fin 2) (r : Fin 8) : Vec F S1x64x256 .f32 :=
  View.ld (Val := Elt F) (e' := .f32) x (Rect.unit (s := S2x512x256) ![b.val, 64 * r.val, 0] S1x64x256.size
    (fun a => match a with
      | ⟨0, _⟩ => by have := b.isLt; show b.val + 1 ≤ 2; omega
      | ⟨1, _⟩ => by have := r.isLt; show 64 * r.val + 64 ≤ 512; omega
      | ⟨2, _⟩ => by show 0 + 256 ≤ 256; omega))
/-- Batch b's state. -/
def stateOf (x : Vec F S2x256x128 .f32) (b : Fin 2) : Vec F S1x256x128 .f32 :=
  View.ld (Val := Elt F) (e' := .f32) x (Rect.unit (s := S2x256x128) ![b.val, 0, 0] S1x256x128.size
    (fun a => match a with
      | ⟨0, _⟩ => by have := b.isLt; show b.val + 1 ≤ 2; omega
      | ⟨1, _⟩ => by show 0 + 256 ≤ 256; omega
      | ⟨2, _⟩ => by show 0 + 128 ≤ 128; omega))

/-- The decay projection of the first four chunks' eight items … -/
def zA (x3 : Vec F S2x512x128 .f32) (x4 : Vec F S128x128 .f32) (x5 : Vec F S1x128 .f32) : FVec F S512x128 .f32 :=
  zG (rows128 x3 0 0) (rows128 x3 1 0) (rows128 x3 0 1) (rows128 x3 1 1) (rows128 x3 0 2) (rows128 x3 1 2) (rows128 x3 0 3) (rows128 x3 1 3) x4 x5
/-- … and of the last four chunks' eight. -/
def zB (x3 : Vec F S2x512x128 .f32) (x4 : Vec F S128x128 .f32) (x5 : Vec F S1x128 .f32) : FVec F S512x128 .f32 :=
  zG (rows128 x3 0 4) (rows128 x3 1 4) (rows128 x3 0 5) (rows128 x3 1 5) (rows128 x3 0 6) (rows128 x3 1 6) (rows128 x3 0 7) (rows128 x3 1 7) x4 x5

/-- Item n's running sum of a group. -/
def bN (n : Fin 8) (cum : FVec F S64x3072 .f32) : FVec F S64x128 .f32 :=
  match n with
  | 0 => bG 0 128 256 slices_S64x3072_o0_0_S64x128 slices_S64x3072_o0_128_S64x128 slices_S64x3072_o0_256_S64x128 cum
  | 1 => bG 384 512 640 slices_S64x3072_o0_384_S64x128 slices_S64x3072_o0_512_S64x128 slices_S64x3072_o0_640_S64x128 cum
  | 2 => bG 768 896 1024 slices_S64x3072_o0_768_S64x128 slices_S64x3072_o0_896_S64x128 slices_S64x3072_o0_1024_S64x128 cum
  | 3 => bG 1152 1280 1408 slices_S64x3072_o0_1152_S64x128 slices_S64x3072_o0_1280_S64x128 slices_S64x3072_o0_1408_S64x128 cum
  | 4 => bG 1536 1664 1792 slices_S64x3072_o0_1536_S64x128 slices_S64x3072_o0_1664_S64x128 slices_S64x3072_o0_1792_S64x128 cum
  | 5 => bG 1920 2048 2176 slices_S64x3072_o0_1920_S64x128 slices_S64x3072_o0_2048_S64x128 slices_S64x3072_o0_2176_S64x128 cum
  | 6 => bG 2304 2432 2560 slices_S64x3072_o0_2304_S64x128 slices_S64x3072_o0_2432_S64x128 slices_S64x3072_o0_2560_S64x128 cum
  | 7 => bG 2688 2816 2944 slices_S64x3072_o0_2688_S64x128 slices_S64x3072_o0_2816_S64x128 slices_S64x3072_o0_2944_S64x128 cum

/-- Item (b, r)'s running sum of the log decay. -/
def bT (x3 : Vec F S2x512x128 .f32) (x4 : Vec F S128x128 .f32) (x5 : Vec F S1x128 .f32) (b : Fin 2) (r : Fin 8) : FVec F S64x128 .f32 :=
  match r with
  | 0 => bN (2 * 0 + b.castLE (by omega)) (cumG (gG (zA x3 x4 x5)))
  | 1 => bN (2 * 1 + b.castLE (by omega)) (cumG (gG (zA x3 x4 x5)))
  | 2 => bN (2 * 2 + b.castLE (by omega)) (cumG (gG (zA x3 x4 x5)))
  | 3 => bN (2 * 3 + b.castLE (by omega)) (cumG (gG (zA x3 x4 x5)))
  | 4 => bN (2 * 0 + b.castLE (by omega)) (cumG (gG (zB x3 x4 x5)))
  | 5 => bN (2 * 1 + b.castLE (by omega)) (cumG (gG (zB x3 x4 x5)))
  | 6 => bN (2 * 2 + b.castLE (by omega)) (cumG (gG (zB x3 x4 x5)))
  | 7 => bN (2 * 3 + b.castLE (by omega)) (cumG (gG (zB x3 x4 x5)))

/-- The state of batch b after item (b, r), from the state before it. -/
def stepT (x1 : Vec F S2x512x128 .f32) (x2 : Vec F S2x512x256 .f32) (x3 : Vec F S2x512x128 .f32) (x4 : Vec F S128x128 .f32) (x5 : Vec F S1x128 .f32)
    (b : Fin 2) (r : Fin 8) (S : FVec F S256x128 .f32) : FVec F S256x128 .f32 :=
  stI (m128 (rows128 x1 b r)) (m256 (rows256 x2 b r)) (bT x3 x4 x5 b r) S
/-- What item (b, r) stores, from the state before it. -/
def outT (x0 x1 : Vec F S2x512x128 .f32) (x2 : Vec F S2x512x256 .f32) (x3 : Vec F S2x512x128 .f32) (x4 : Vec F S128x128 .f32) (x5 : Vec F S1x128 .f32)
    (b : Fin 2) (r : Fin 8) (S : FVec F S256x128 .f32) : FVec F S64x256 .f32 :=
  outI (m128 (rows128 x0 b r)) (m128 (rows128 x1 b r)) (m256 (rows256 x2 b r)) (bT x3 x4 x5 b r) S

/-- Batch b's state after the point's first r chunks. -/
def stT (x1 : Vec F S2x512x128 .f32) (x2 : Vec F S2x512x256 .f32) (x3 : Vec F S2x512x128 .f32) (x4 : Vec F S128x128 .f32) (x5 : Vec F S1x128 .f32)
    (b : Fin 2) (S0 : FVec F S256x128 .f32) : ℕ → FVec F S256x128 .f32
  | 0 => S0
  | r + 1 => if h : r < 8 then stepT x1 x2 x3 x4 x5 b ⟨r, h⟩ (stT x1 x2 x3 x4 x5 b S0 r) else stT x1 x2 x3 x4 x5 b S0 r

end Cert.KernelIdeal.Hand

end
-- ==== Proof.GlaMask.lean ====
/-
  The masks of the GLA recurrence kernel read at an index: which head a row or a column belongs to, and which rows of a
  chunk come before which.
-/
module

public import proofs.«01_k».proof.Proof.GlaModel
public import Idealize.ShloMosaic.Lib.Pointwise

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Floor division as the kernel spells it on words. -/
def fl (d x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

theorem fl_64 : ∀ x : Fin 256, fl 64#32 (BitVec.ofNat 32 x.val) = BitVec.ofNat 32 (x.val / 64) := by decide +kernel
theorem fl_32 : ∀ x : Fin 128, fl 32#32 (BitVec.ofNat 32 x.val) = BitVec.ofNat 32 (x.val / 32) := by decide +kernel

theorem cmpi_eq_small : ∀ a b : Fin 8, IntOp.cmpi .eq (BitVec.ofNat 32 a.val) (BitVec.ofNat 32 b.val) = if a = b then 1#1 else 0#1 := by decide +kernel

theorem headK_apply (r : Fin 256) (c : Fin 128) : headK (ix2 r c) = if r.val / 64 = c.val / 32 then 1#1 else 0#1 := by
  have h : headK (ix2 r c) = IntOp.cmpi .eq (fl 64#32 (BitVec.ofNat 32 r.val)) (fl 32#32 (BitVec.ofNat 32 c.val)) := by
    pointwise [headK, k0_pay9, k0_pay6, k0_pay7, k0_pay8]; rfl
  rw [h, fl_64, fl_32]
  have := cmpi_eq_small ⟨r.val / 64, by omega⟩ ⟨c.val / 32, by omega⟩
  simpa only [Fin.mk.injEq] using this

theorem headS_apply (r : Fin 256) (c : Fin 128) : headS (ix2 r c) = if r.val / 64 = c.val / 32 then 1#1 else 0#1 := by
  have h : headS (ix2 r c) = IntOp.cmpi .eq (fl 64#32 (BitVec.ofNat 32 r.val)) (fl 32#32 (BitVec.ofNat 32 c.val)) := by
    pointwise [headS, k0_pay18, k0_pay14, k0_pay15, k0_pay16, k0_pay17]; rfl
  rw [h, fl_64, fl_32]
  have := cmpi_eq_small ⟨r.val / 64, by omega⟩ ⟨c.val / 32, by omega⟩
  simpa only [Fin.mk.injEq] using this

theorem headV_apply (r : Fin 256) (c : Fin 256) : headV (ix2 r c) = if r.val / 64 = c.val / 64 then 1#1 else 0#1 := by
  have h : headV (ix2 r c) = IntOp.cmpi .eq (fl 64#32 (BitVec.ofNat 32 r.val)) (fl 64#32 (BitVec.ofNat 32 c.val)) := by
    pointwise [headV, k0_pay13, k0_pay10, k0_pay11, k0_pay12]; rfl
  rw [h, fl_64, fl_64]
  have := cmpi_eq_small ⟨r.val / 64, by omega⟩ ⟨c.val / 64, by omega⟩
  simpa only [Fin.mk.injEq] using this

/-- The remainder by 64 as the kernel spells it on words. -/
def rm (x : BitVec 32) : BitVec 32 :=
  Scalar.select
    (IntOp.andi
      (IntOp.xori
        (IntOp.cmpi CmpIPredicate.slt
          (IntOp.remsi ArithUnit.vector x (Scalar.select (Scalar.cmpi CmpIPredicate.eq 64#32 0#32) 1#32 64#32)) 0#32)
        (Scalar.cmpi CmpIPredicate.slt (Scalar.select (Scalar.cmpi CmpIPredicate.eq 64#32 0#32) 1#32 64#32) 0#32))
      (IntOp.cmpi CmpIPredicate.ne
        (IntOp.remsi ArithUnit.vector x (Scalar.select (Scalar.cmpi CmpIPredicate.eq 64#32 0#32) 1#32 64#32)) 0#32))
    (IntOp.addi
      (IntOp.remsi ArithUnit.vector x (Scalar.select (Scalar.cmpi CmpIPredicate.eq 64#32 0#32) 1#32 64#32))
      (Scalar.select (Scalar.cmpi CmpIPredicate.eq 64#32 0#32) 1#32 64#32))
    (IntOp.remsi ArithUnit.vector x (Scalar.select (Scalar.cmpi CmpIPredicate.eq 64#32 0#32) 1#32 64#32))

theorem rm_64 : ∀ x : Fin 256, rm (BitVec.ofNat 32 x.val) = BitVec.ofNat 32 (x.val % 64) := by decide +kernel

theorem cmpi_sle_small : ∀ a b : Fin 64, IntOp.cmpi .sle (BitVec.ofNat 32 a.val) (BitVec.ofNat 32 b.val) = if a ≤ b then 1#1 else 0#1 := by decide +kernel

theorem keep_apply (r : Fin 64) (c : Fin 256) : k0_pay19 (ix2 r c) = if c.val % 64 ≤ r.val then 1#1 else 0#1 := by
  have h : k0_pay19 (ix2 r c) = IntOp.cmpi .sle (rm (BitVec.ofNat 32 c.val)) (BitVec.ofNat 32 r.val) := by
    pointwise [k0_pay19]; rfl
  rw [h, rm_64]
  have := cmpi_sle_small ⟨c.val % 64, by omega⟩ r
  simpa only [Fin.le_def] using this

theorem tri_apply (r c : Fin 64) : (k0_pay20 (F := Ideal)) (ix2 r c) = if c ≤ r then 1 else 0 := by
  pointwise [k0_pay20]
  rw [cmpi_sle_small]
  split_ifs <;> simp [Scalar.select, Scalar.ofBits, Ideal.ofBits_one_f32, Ideal.ofBits_zero_f32]

end Cert.KernelIdeal.Hand

end
-- ==== Proof.GlaItem.lean ====
/-
  What one 64-row item of the GLA recurrence kernel computes, read at an index over the extended reals.
-/
module

public import proofs.«01_k».proof.Proof.GlaMask
public import proofs.«01_k».proof.Proof.GlaSpec
public import Idealize.ShloMosaic.Lib.Pipeline.ValueKit.Tiles

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.GlaSpec

/-- Four copies of a 64-row matrix on top of each other. -/
def cat4K128 (x : FVec Ideal S64x128 .f32) : FVec Ideal S256x128 .f32 :=
  concatenate S256x128 0 [⟨S64x128, x⟩, ⟨S64x128, x⟩, ⟨S64x128, x⟩, ⟨S64x128, x⟩] concatenates_S64x128_S64x128_S64x128_S64x128_S256x128_d0

theorem cat4_128 (x : FVec Ideal S64x128 .f32) (h : Fin 4) (j : Fin 64) (c : Fin 128) :
    cat4K128 x (ix2 (hv h j) c)
      = x (ix2 j c) :=
  concatenate_ofFn_apply (t := S256x128) (s₁ := S64x128) 0 (N := 4) (fun _ => x) concatenates_S64x128_S64x128_S64x128_S64x128_S256x128_d0 rfl 64 rfl
    (ix2 (hv h j) c) h (hv_div h j) (ix2 j c) (hv_mod h j).symm (fun b hb => by
      match b, hb with
      | ⟨0, _⟩, hb => exact absurd rfl hb
      | ⟨1, _⟩, _ => rfl)

def cat4K256 (x : FVec Ideal S64x256 .f32) : FVec Ideal S256x256 .f32 :=
  concatenate S256x256 0 [⟨S64x256, x⟩, ⟨S64x256, x⟩, ⟨S64x256, x⟩, ⟨S64x256, x⟩] concatenates_S64x256_S64x256_S64x256_S64x256_S256x256_d0

theorem cat4_256 (x : FVec Ideal S64x256 .f32) (h : Fin 4) (j : Fin 64) (c : Fin 256) :
    cat4K256 x (ix2 (hv h j) c)
      = x (ix2 j c) :=
  concatenate_ofFn_apply (t := S256x256) (s₁ := S64x256) 0 (N := 4) (fun _ => x) concatenates_S64x256_S64x256_S64x256_S64x256_S256x256_d0 rfl 64 rfl
    (ix2 (hv h j) c) h (hv_div h j) (ix2 j c) (hv_mod h j).symm (fun b hb => by
      match b, hb with
      | ⟨0, _⟩, hb => exact absurd rfl hb
      | ⟨1, _⟩, _ => rfl)

/-- The 24 blocks of 128 columns whose running sums are taken together. -/
def parts (g : FVec Ideal S512x128 .f32) : Fin 24 → FVec Ideal S64x128 .bf16 :=
  ![sg1 (rowsG 0 slices_S512x128_o0_0_S64x128 g), sg2 (rowsG 0 slices_S512x128_o0_0_S64x128 g), sg3 (rowsG 0 slices_S512x128_o0_0_S64x128 g),
    sg1 (rowsG 64 slices_S512x128_o64_0_S64x128 g), sg2 (rowsG 64 slices_S512x128_o64_0_S64x128 g), sg3 (rowsG 64 slices_S512x128_o64_0_S64x128 g),
    sg1 (rowsG 128 slices_S512x128_o128_0_S64x128 g), sg2 (rowsG 128 slices_S512x128_o128_0_S64x128 g), sg3 (rowsG 128 slices_S512x128_o128_0_S64x128 g),
    sg1 (rowsG 192 slices_S512x128_o192_0_S64x128 g), sg2 (rowsG 192 slices_S512x128_o192_0_S64x128 g), sg3 (rowsG 192 slices_S512x128_o192_0_S64x128 g),
    sg1 (rowsG 256 slices_S512x128_o256_0_S64x128 g), sg2 (rowsG 256 slices_S512x128_o256_0_S64x128 g), sg3 (rowsG 256 slices_S512x128_o256_0_S64x128 g),
    sg1 (rowsG 320 slices_S512x128_o320_0_S64x128 g), sg2 (rowsG 320 slices_S512x128_o320_0_S64x128 g), sg3 (rowsG 320 slices_S512x128_o320_0_S64x128 g),
    sg1 (rowsG 384 slices_S512x128_o384_0_S64x128 g), sg2 (rowsG 384 slices_S512x128_o384_0_S64x128 g), sg3 (rowsG 384 slices_S512x128_o384_0_S64x128 g),
    sg1 (rowsG 448 slices_S512x128_o448_0_S64x128 g), sg2 (rowsG 448 slices_S512x128_o448_0_S64x128 g), sg3 (rowsG 448 slices_S512x128_o448_0_S64x128 g)]

/-- Twenty-four blocks of 128 columns side by side. -/
def cat24 (p : Fin 24 → FVec Ideal S64x128 .bf16) : FVec Ideal S64x3072 .bf16 :=
  concatenate S64x3072 1 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩, ⟨S64x128, p 8⟩, ⟨S64x128, p 9⟩, ⟨S64x128, p 10⟩, ⟨S64x128, p 11⟩, ⟨S64x128, p 12⟩, ⟨S64x128, p 13⟩, ⟨S64x128, p 14⟩, ⟨S64x128, p 15⟩, ⟨S64x128, p 16⟩, ⟨S64x128, p 17⟩, ⟨S64x128, p 18⟩, ⟨S64x128, p 19⟩, ⟨S64x128, p 20⟩, ⟨S64x128, p 21⟩, ⟨S64x128, p 22⟩, ⟨S64x128, p 23⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x3072_d1

theorem cat24_apply (p : Fin 24 → FVec Ideal S64x128 .bf16) (n : Fin 24) (j : Fin 64) (c : Fin 128) (x : Fin 3072) (hx : x.val = 128 * n.val + c.val) :
    cat24 p (ix2 j x) = p n (ix2 j c) :=
  concatenate_ofFn_apply (t := S64x3072) (s₁ := S64x128) 1 (N := 24) p concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x3072_d1 rfl 128 rfl (ix2 j x) n
      (by show x.val / 128 = n.val; omega) (ix2 j c) (by show c.val = x.val % 128; omega) (fun b hb => by
        match b, hb with
        | ⟨0, _⟩, _ => rfl
        | ⟨1, _⟩, hb => exact absurd rfl hb)

theorem cumG_eq (g : FVec Ideal S512x128 .f32) : cumG g
    = matmul dot_S64x64_S64x3072_S64x3072_1_0_0_1_n_n none k0_pay20 (cat24 (parts g)) (constant S64x3072 .f32 0x00000000#32) := rfl

theorem cumG_apply (g : FVec Ideal S512x128 .f32) (n : Fin 24) (i : Fin 64) (c : Fin 128) (x : Fin 3072) (hx : x.val = 128 * n.val + c.val) :
    cumG g (ix2 i x) = ∑ j : Fin 64, (if j ≤ i then (1 : EReal) else 0) * parts g n (ix2 j c) := by
  rw [cumG_eq]
  pointwise []
  simp only [cat24_apply _ n _ c x hx, tri_apply]

/-- The three parts of a number that is not ⊤ give it back. -/
theorem split3 (x : EReal) (hx : x ≠ ⊤) : x + (x - x) + (x - x - (x - x)) = x := by
  induction x with
  | bot => simp
  | top => exact absurd rfl hx
  | coe r => simp [← EReal.coe_sub, ← EReal.coe_add]

theorem sum3 (x : Fin 64 → EReal) (hx : ∀ j, x j ≠ ⊤) (i : Fin 64) :
    (∑ j : Fin 64, (if j ≤ i then (1 : EReal) else 0) * x j) + (∑ j : Fin 64, (if j ≤ i then (1 : EReal) else 0) * (x j - x j))
      + (∑ j : Fin 64, (if j ≤ i then (1 : EReal) else 0) * (x j - x j - (x j - x j)))
      = ∑ j : Fin 64, if j ≤ i then x j else 0 := by
  rw [← Finset.sum_add_distrib, ← Finset.sum_add_distrib]
  refine Finset.sum_congr rfl fun j _ => ?_
  split_ifs with h
  · rw [one_mul, one_mul, one_mul, split3 _ (hx j)]
  · simp

theorem bN_apply (g : FVec Ideal S512x128 .f32) (hg : ∀ x, g x ≠ (⊤ : EReal)) (n : Fin 8) (i : Fin 64) (c : Fin 128) :
    bN n (cumG g) (ix2 i c) = ∑ j : Fin 64, if j ≤ i then g (ix2 ⟨64 * n.val + j.val, by omega⟩ c) else 0 := by
  rw [← sum3 (fun j => g (ix2 ⟨64 * n.val + j.val, by omega⟩ c)) (fun j => hg _) i]
  have key : ∀ (a b d : Fin 3072) (m : Fin 24) (m' : Fin 24) (m'' : Fin 24), a.val = 128 * m.val + c.val → b.val = 128 * m'.val + c.val → d.val = 128 * m''.val + c.val →
      cumG g (ix2 i a) + cumG g (ix2 i b) + cumG g (ix2 i d) = (∑ j : Fin 64, (if j ≤ i then (1 : EReal) else 0) * parts g m (ix2 j c))
        + (∑ j : Fin 64, (if j ≤ i then (1 : EReal) else 0) * parts g m' (ix2 j c)) + (∑ j : Fin 64, (if j ≤ i then (1 : EReal) else 0) * parts g m'' (ix2 j c)) :=
    fun a b d m m' m'' ha hb hd => by rw [cumG_apply g m i c a ha, cumG_apply g m' i c b hb, cumG_apply g m'' i c d hd]
  match n with
  | 0 =>
    pointwise [bN, bG]
    rw [key _ _ _ 0 1 2 (by simp) (by simp) (by simp)]
    simp only [show ∀ j, parts g 0 (ix2 j c) = sg1 (rowsG 0 slices_S512x128_o0_0_S64x128 g) (ix2 j c) from fun _ => rfl, show ∀ j, parts g 1 (ix2 j c) = sg2 (rowsG 0 slices_S512x128_o0_0_S64x128 g) (ix2 j c) from fun _ => rfl, show ∀ j, parts g 2 (ix2 j c) = sg3 (rowsG 0 slices_S512x128_o0_0_S64x128 g) (ix2 j c) from fun _ => rfl]
    pointwise [sg1, sg2, sg3, sgr]
  | 1 =>
    pointwise [bN, bG]
    rw [key _ _ _ 3 4 5 (by simp) (by simp) (by simp)]
    simp only [show ∀ j, parts g 3 (ix2 j c) = sg1 (rowsG 64 slices_S512x128_o64_0_S64x128 g) (ix2 j c) from fun _ => rfl, show ∀ j, parts g 4 (ix2 j c) = sg2 (rowsG 64 slices_S512x128_o64_0_S64x128 g) (ix2 j c) from fun _ => rfl, show ∀ j, parts g 5 (ix2 j c) = sg3 (rowsG 64 slices_S512x128_o64_0_S64x128 g) (ix2 j c) from fun _ => rfl]
    pointwise [sg1, sg2, sg3, sgr]
  | 2 =>
    pointwise [bN, bG]
    rw [key _ _ _ 6 7 8 (by simp) (by simp) (by simp)]
    simp only [show ∀ j, parts g 6 (ix2 j c) = sg1 (rowsG 128 slices_S512x128_o128_0_S64x128 g) (ix2 j c) from fun _ => rfl, show ∀ j, parts g 7 (ix2 j c) = sg2 (rowsG 128 slices_S512x128_o128_0_S64x128 g) (ix2 j c) from fun _ => rfl, show ∀ j, parts g 8 (ix2 j c) = sg3 (rowsG 128 slices_S512x128_o128_0_S64x128 g) (ix2 j c) from fun _ => rfl]
    pointwise [sg1, sg2, sg3, sgr]
  | 3 =>
    pointwise [bN, bG]
    rw [key _ _ _ 9 10 11 (by simp) (by simp) (by simp)]
    simp only [show ∀ j, parts g 9 (ix2 j c) = sg1 (rowsG 192 slices_S512x128_o192_0_S64x128 g) (ix2 j c) from fun _ => rfl, show ∀ j, parts g 10 (ix2 j c) = sg2 (rowsG 192 slices_S512x128_o192_0_S64x128 g) (ix2 j c) from fun _ => rfl, show ∀ j, parts g 11 (ix2 j c) = sg3 (rowsG 192 slices_S512x128_o192_0_S64x128 g) (ix2 j c) from fun _ => rfl]
    pointwise [sg1, sg2, sg3, sgr]
  | 4 =>
    pointwise [bN, bG]
    rw [key _ _ _ 12 13 14 (by simp) (by simp) (by simp)]
    simp only [show ∀ j, parts g 12 (ix2 j c) = sg1 (rowsG 256 slices_S512x128_o256_0_S64x128 g) (ix2 j c) from fun _ => rfl, show ∀ j, parts g 13 (ix2 j c) = sg2 (rowsG 256 slices_S512x128_o256_0_S64x128 g) (ix2 j c) from fun _ => rfl, show ∀ j, parts g 14 (ix2 j c) = sg3 (rowsG 256 slices_S512x128_o256_0_S64x128 g) (ix2 j c) from fun _ => rfl]
    pointwise [sg1, sg2, sg3, sgr]
  | 5 =>
    pointwise [bN, bG]
    rw [key _ _ _ 15 16 17 (by simp) (by simp) (by simp)]
    simp only [show ∀ j, parts g 15 (ix2 j c) = sg1 (rowsG 320 slices_S512x128_o320_0_S64x128 g) (ix2 j c) from fun _ => rfl, show ∀ j, parts g 16 (ix2 j c) = sg2 (rowsG 320 slices_S512x128_o320_0_S64x128 g) (ix2 j c) from fun _ => rfl, show ∀ j, parts g 17 (ix2 j c) = sg3 (rowsG 320 slices_S512x128_o320_0_S64x128 g) (ix2 j c) from fun _ => rfl]
    pointwise [sg1, sg2, sg3, sgr]
  | 6 =>
    pointwise [bN, bG]
    rw [key _ _ _ 18 19 20 (by simp) (by simp) (by simp)]
    simp only [show ∀ j, parts g 18 (ix2 j c) = sg1 (rowsG 384 slices_S512x128_o384_0_S64x128 g) (ix2 j c) from fun _ => rfl, show ∀ j, parts g 19 (ix2 j c) = sg2 (rowsG 384 slices_S512x128_o384_0_S64x128 g) (ix2 j c) from fun _ => rfl, show ∀ j, parts g 20 (ix2 j c) = sg3 (rowsG 384 slices_S512x128_o384_0_S64x128 g) (ix2 j c) from fun _ => rfl]
    pointwise [sg1, sg2, sg3, sgr]
  | 7 =>
    pointwise [bN, bG]
    rw [key _ _ _ 21 22 23 (by simp) (by simp) (by simp)]
    simp only [show ∀ j, parts g 21 (ix2 j c) = sg1 (rowsG 448 slices_S512x128_o448_0_S64x128 g) (ix2 j c) from fun _ => rfl, show ∀ j, parts g 22 (ix2 j c) = sg2 (rowsG 448 slices_S512x128_o448_0_S64x128 g) (ix2 j c) from fun _ => rfl, show ∀ j, parts g 23 (ix2 j c) = sg3 (rowsG 448 slices_S512x128_o448_0_S64x128 g) (ix2 j c) from fun _ => rfl]
    pointwise [sg1, sg2, sg3, sgr]

theorem select_ite {α : Type} (p : Prop) [Decidable p] (a b : α) : Scalar.select (if p then 1#1 else 0#1) a b = if p then a else b := by
  split_ifs <;> rfl

theorem sum_head (F : Fin 128 → EReal) (h : Fin 4) :
    (∑ x : Fin 128, if h.val = x.val / 32 then F x else 0) = ∑ κ : Fin 32, F (hk h κ) := by
  rw [sum_hk, Finset.sum_eq_single h]
  · simp only [hk_div, if_true]
  · intro h' _ hh
    have hn : ¬h.val = h'.val := fun e => hh (Fin.ext e.symm)
    simp only [hk_div, hn, if_false, Finset.sum_const_zero]
  · intro hh; exact absurd (Finset.mem_univ h) hh

theorem scoresI_eq (q k b : FVec Ideal S64x128 .f32) : scoresI q k b =
    truncf .bf16 (select k0_pay19
    (matmul dot_S64x128_S256x128_S64x256_1_1_0_0_n_n none
      (truncf .bf16 (mulf (qs q) (exp (subf b (over64 (midR b))))) bitsLt_bf16_f32)
      (truncf .bf16 (select headK (cat4K128 (mulf k (exp (subf (over64 (midR b)) b))))
        (broadcast S256x128 (Scalar.ofBits .f32 0x00000000#32))) bitsLt_bf16_f32)
      (constant S64x256 .f32 0x00000000#32))
    (broadcast S64x256 (Scalar.ofBits .f32 0x00000000#32))) bitsLt_bf16_f32 := rfl

theorem scoresI_apply (q k b : FVec Ideal S64x128 .f32) (i : Fin 64) (h : Fin 4) (j : Fin 64) :
    scoresI q k b (ix2 i (hv h j)) = if j ≤ i then
      ∑ κ : Fin 32, (q (ix2 i (hk h κ)) * Ideal.ofBits .f32 0x3E3504F3#32 * Ideal.exp (b (ix2 i (hk h κ)) - b (ix2 32 (hk h κ))))
        * (k (ix2 j (hk h κ)) * Ideal.exp (b (ix2 32 (hk h κ)) - b (ix2 j (hk h κ)))) else 0 := by
  rw [scoresI_eq]
  have e : ∀ c : Fin 128, cat4K128 (mulf k (exp (subf (over64 (midR b)) b))) (ix2 (hv h j) c) = k (ix2 j c) * Ideal.exp (b (ix2 32 c) - b (ix2 j c)) := fun c => by
    rw [cat4_128]; pointwise [midR, over64]
  generalize cat4K128 (mulf k (exp (subf (over64 (midR b)) b))) = X at e ⊢
  pointwise [qs, midR, over64]
  simp only [e, keep_apply, headK_apply, hv_mod, hv_div, select_ite, sum_head, Fin.le_def]

theorem intraI_eq (q k b : FVec Ideal S64x128 .f32) (v : FVec Ideal S64x256 .f32) : intraI q k v b =
  matmul dot_S64x256_S256x256_S64x256_1_0_0_1_n_n none (scoresI q k b)
    (truncf .bf16 (select headV (cat4K256 v)
      (broadcast S256x256 (Scalar.ofBits .f32 0x00000000#32))) bitsLt_bf16_f32)
    (constant S64x256 .f32 0x00000000#32) := rfl

theorem intraI_apply (q k b : FVec Ideal S64x128 .f32) (v : FVec Ideal S64x256 .f32) (i : Fin 64) (h : Fin 4) (w : Fin 64) :
    intraI q k v b (ix2 i (hv h w)) = ∑ j : Fin 64, scoresI q k b (ix2 i (hv h j)) * v (ix2 j (hv h w)) := by
  rw [intraI_eq]
  generalize scoresI q k b = Y
  pointwise []
  simp only [headV_apply, select_ite]
  rw [sum_hv, Finset.sum_eq_single h]
  · refine Finset.sum_congr rfl fun j _ => ?_
    simp only [hv_div, if_true, cat4_256]
  · intro h' _ hh
    refine Finset.sum_eq_zero fun j _ => ?_
    have hn : ¬h'.val = h.val := fun e => hh (Fin.ext e)
    simp only [hv_div, hn, if_false]
  · intro hh; exact absurd (Finset.mem_univ h) hh

theorem outI_apply (q k b : FVec Ideal S64x128 .f32) (v : FVec Ideal S64x256 .f32) (S : FVec Ideal S256x128 .f32)
    (hS : ∀ h w h' κ, h ≠ h' → S (ix2 (hv h w) (hk h' κ)) = (0 : EReal)) (i : Fin 64) (h : Fin 4) (w : Fin 64) :
    outI q k v b S (ix2 i (hv h w)) = (∑ j : Fin 64, scoresI q k b (ix2 i (hv h j)) * v (ix2 j (hv h w)))
      + ∑ κ : Fin 32, (q (ix2 i (hk h κ)) * Ideal.ofBits .f32 0x3E3504F3#32 * Ideal.exp (b (ix2 i (hk h κ)))) * S (ix2 (hv h w) (hk h κ)) := by
  rw [← intraI_apply]
  unfold outI
  generalize intraI q k v b = Y
  pointwise [qs]
  rw [sum_hk, Finset.sum_eq_single h]
  · intro h' _ hh
    refine Finset.sum_eq_zero fun κ _ => ?_
    rw [hS h w h' κ (Ne.symm hh), mul_zero]
  · intro hh; exact absurd (Finset.mem_univ h) hh

theorem stI_apply (k b : FVec Ideal S64x128 .f32) (v : FVec Ideal S64x256 .f32) (S : FVec Ideal S256x128 .f32) (h h' : Fin 4) (w : Fin 64) (κ : Fin 32) :
    stI k v b S (ix2 (hv h w) (hk h' κ)) = S (ix2 (hv h w) (hk h' κ)) * Ideal.exp (b (ix2 63 (hk h' κ)))
      + if h = h' then ∑ j : Fin 64, v (ix2 j (hv h w)) * (k (ix2 j (hk h' κ)) * Ideal.exp (b (ix2 63 (hk h' κ)) - b (ix2 j (hk h' κ)))) else 0 := by
  pointwise [stI, edgeR, over64]
  simp only [headS_apply, hv_div, hk_div, select_ite, Fin.ext_iff]

/-- The log decay of one projected number. -/
def gf (z : EReal) : EReal := (min z 0 - Ideal.log1p (Ideal.exp (0 - FloatOps.absf (F := Ideal) (φ := .f32) z))) * Ideal.ofBits .f32 0x3D800000#32

theorem gG_apply (z : FVec Ideal S512x128 .f32) (x : S512x128.Idx) : gG z x = gf (z x) := by
  obtain ⟨i, c, rfl⟩ : ∃ i c, x = ix2 i c := ⟨x 0, x 1, by funext a; match a with | ⟨0, _⟩ => rfl | ⟨1, _⟩ => rfl⟩
  pointwise [gG, gf]

theorem m128_rows (x : Vec Ideal S2x512x128 .f32) (b : Fin 2) (r : Fin 8) (i : Fin 64) (c : Fin 128) :
    m128 (rows128 x b r) (ix2 i c) = x (ix3 b ⟨64 * r.val + i.val, by omega⟩ c) := by
  have e : m128 (rows128 x b r) (ix2 i c) = rows128 x b r (ix3 0 i c) := by pointwise [m128]
  rw [e]
  exact View.ld_unit_apply_of x _ _ _ _ (ix3 b ⟨64 * r.val + i.val, by omega⟩ c) fun a => by
    match a with
    | ⟨0, _⟩ => rfl
    | ⟨1, _⟩ => rfl
    | ⟨2, _⟩ => show c.val = 0 + c.val; omega

theorem m256_rows (x : Vec Ideal S2x512x256 .f32) (b : Fin 2) (r : Fin 8) (i : Fin 64) (c : Fin 256) :
    m256 (rows256 x b r) (ix2 i c) = x (ix3 b ⟨64 * r.val + i.val, by omega⟩ c) := by
  have e : m256 (rows256 x b r) (ix2 i c) = rows256 x b r (ix3 0 i c) := by pointwise [m256]
  rw [e]
  exact View.ld_unit_apply_of x _ _ _ _ (ix3 b ⟨64 * r.val + i.val, by omega⟩ c) fun a => by
    match a with
    | ⟨0, _⟩ => rfl
    | ⟨1, _⟩ => rfl
    | ⟨2, _⟩ => show c.val = 0 + c.val; omega

theorem getS_stateOf (x : Vec Ideal S2x256x128 .f32) (b : Fin 2) (r : Fin 256) (c : Fin 128) :
    getS (stateOf x b) (ix2 r c) = x (ix3 b r c) := by
  have e : getS (stateOf x b) (ix2 r c) = stateOf x b (ix3 0 r c) := by pointwise []
  rw [e]
  exact View.ld_unit_apply_of x _ _ _ _ (ix3 b r c) fun a => by
    match a with
    | ⟨0, _⟩ => rfl
    | ⟨1, _⟩ => show r.val = 0 + r.val; omega
    | ⟨2, _⟩ => show c.val = 0 + c.val; omega

def cat8 (p : Fin 8 → FVec Ideal S64x128 .f32) : FVec Ideal S512x128 .f32 :=
  concatenate S512x128 0 [⟨S64x128, p 0⟩, ⟨S64x128, p 1⟩, ⟨S64x128, p 2⟩, ⟨S64x128, p 3⟩, ⟨S64x128, p 4⟩, ⟨S64x128, p 5⟩, ⟨S64x128, p 6⟩, ⟨S64x128, p 7⟩] concatenates_S64x128_S64x128_S64x128_S64x128_S64x128_S64x128_S64x128_S64x128_S512x128_d0

theorem cat8_apply (p : Fin 8 → FVec Ideal S64x128 .f32) (n : Fin 8) (j : Fin 64) (c : Fin 128) :
    cat8 p (ix2 ⟨64 * n.val + j.val, by omega⟩ c) = p n (ix2 j c) :=
  concatenate_ofFn_apply (t := S512x128) (s₁ := S64x128) 0 (N := 8) p concatenates_S64x128_S64x128_S64x128_S64x128_S64x128_S64x128_S64x128_S64x128_S512x128_d0 rfl 64 rfl (ix2 ⟨64 * n.val + j.val, by omega⟩ c) n
      (by show (64 * n.val + j.val) / 64 = n.val; omega) (ix2 j c) (by show j.val = (64 * n.val + j.val) % 64; omega) (fun b hb => by
        match b, hb with
        | ⟨0, _⟩, hb => exact absurd rfl hb
        | ⟨1, _⟩, _ => rfl)

theorem zG_apply (p : Fin 8 → FVec Ideal S64x128 .f32) (l0 l1 l2 l3 l4 l5 l6 l7 : Vec Ideal S1x64x128 .f32) (wd : Vec Ideal S128x128 .f32) (bd : Vec Ideal S1x128 .f32)
    (h0 : m128 l0 = p 0) (h1 : m128 l1 = p 1) (h2 : m128 l2 = p 2) (h3 : m128 l3 = p 3) (h4 : m128 l4 = p 4) (h5 : m128 l5 = p 5) (h6 : m128 l6 = p 6) (h7 : m128 l7 = p 7)
    (n : Fin 8) (j : Fin 64) (c : Fin 128) :
    zG l0 l1 l2 l3 l4 l5 l6 l7 wd bd (ix2 ⟨64 * n.val + j.val, by omega⟩ c) = (∑ x : Fin 128, p n (ix2 j x) * wd (ix2 x c)) + bd (ix2 0 c) := by
  have e : zG l0 l1 l2 l3 l4 l5 l6 l7 wd bd = addf (matmul dot_S512x128_S128x128_S512x128_1_0_0_1_n_n (some .fp32) (cat8 p)
      (φ₂ := .f32) (shapeCast S128x128 (α := EReal) wd shapeCasts_S128x128_S128x128) (constant S512x128 .f32 0x00000000#32))
    (broadcastTo S512x128 (shapeCast S1x128 bd shapeCasts_S1x128_S1x128) broadcasts_S1x128_S512x128) := by
    unfold zG cat8; rw [h0, h1, h2, h3, h4, h5, h6, h7]
  rw [e]
  pointwise []
  simp only [cat8_apply]

end Cert.KernelIdeal.Hand

end
-- ==== Proof.GlaPieces.lean ====
/-
  What the recurrence kernel's body leaves at one point: sixteen stores of 64 rows each, item by item, and the two states.
-/
module

public import proofs.«01_k».proof.Proof.GlaModel

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

/-- The sixteen stores of a point, last first, from the two states at its start. -/
def outPieces (x0 : Vec F S2x512x128 .f32) (x1 : Vec F S2x512x128 .f32) (x2 : Vec F S2x512x256 .f32) (x3 : Vec F S2x512x128 .f32) (x4 : Vec F S128x128 .f32) (x5 : Vec F S1x128 .f32) (S : Fin 2 → FVec F S256x128 .f32) : List (View.Piece (Elt F) S2x512x256 .f32) :=
  [⟨Rect.unit (s := S2x512x256) ![1, 448, 0] ![1, 64, 256] inb_S2x512x256_S1x64x256_1_448_0, put256 (outT x0 x1 x2 x3 x4 x5 1 7 (stT x1 x2 x3 x4 x5 1 (S 1) 7))⟩,
   ⟨Rect.unit (s := S2x512x256) ![0, 448, 0] ![1, 64, 256] inb_S2x512x256_S1x64x256_0_448_0, put256 (outT x0 x1 x2 x3 x4 x5 0 7 (stT x1 x2 x3 x4 x5 0 (S 0) 7))⟩,
   ⟨Rect.unit (s := S2x512x256) ![1, 384, 0] ![1, 64, 256] inb_S2x512x256_S1x64x256_1_384_0, put256 (outT x0 x1 x2 x3 x4 x5 1 6 (stT x1 x2 x3 x4 x5 1 (S 1) 6))⟩,
   ⟨Rect.unit (s := S2x512x256) ![0, 384, 0] ![1, 64, 256] inb_S2x512x256_S1x64x256_0_384_0, put256 (outT x0 x1 x2 x3 x4 x5 0 6 (stT x1 x2 x3 x4 x5 0 (S 0) 6))⟩,
   ⟨Rect.unit (s := S2x512x256) ![1, 320, 0] ![1, 64, 256] inb_S2x512x256_S1x64x256_1_320_0, put256 (outT x0 x1 x2 x3 x4 x5 1 5 (stT x1 x2 x3 x4 x5 1 (S 1) 5))⟩,
   ⟨Rect.unit (s := S2x512x256) ![0, 320, 0] ![1, 64, 256] inb_S2x512x256_S1x64x256_0_320_0, put256 (outT x0 x1 x2 x3 x4 x5 0 5 (stT x1 x2 x3 x4 x5 0 (S 0) 5))⟩,
   ⟨Rect.unit (s := S2x512x256) ![1, 256, 0] ![1, 64, 256] inb_S2x512x256_S1x64x256_1_256_0, put256 (outT x0 x1 x2 x3 x4 x5 1 4 (stT x1 x2 x3 x4 x5 1 (S 1) 4))⟩,
   ⟨Rect.unit (s := S2x512x256) ![0, 256, 0] ![1, 64, 256] inb_S2x512x256_S1x64x256_0_256_0, put256 (outT x0 x1 x2 x3 x4 x5 0 4 (stT x1 x2 x3 x4 x5 0 (S 0) 4))⟩,
   ⟨Rect.unit (s := S2x512x256) ![1, 192, 0] ![1, 64, 256] inb_S2x512x256_S1x64x256_1_192_0, put256 (outT x0 x1 x2 x3 x4 x5 1 3 (stT x1 x2 x3 x4 x5 1 (S 1) 3))⟩,
   ⟨Rect.unit (s := S2x512x256) ![0, 192, 0] ![1, 64, 256] inb_S2x512x256_S1x64x256_0_192_0, put256 (outT x0 x1 x2 x3 x4 x5 0 3 (stT x1 x2 x3 x4 x5 0 (S 0) 3))⟩,
   ⟨Rect.unit (s := S2x512x256) ![1, 128, 0] ![1, 64, 256] inb_S2x512x256_S1x64x256_1_128_0, put256 (outT x0 x1 x2 x3 x4 x5 1 2 (stT x1 x2 x3 x4 x5 1 (S 1) 2))⟩,
   ⟨Rect.unit (s := S2x512x256) ![0, 128, 0] ![1, 64, 256] inb_S2x512x256_S1x64x256_0_128_0, put256 (outT x0 x1 x2 x3 x4 x5 0 2 (stT x1 x2 x3 x4 x5 0 (S 0) 2))⟩,
   ⟨Rect.unit (s := S2x512x256) ![1, 64, 0] ![1, 64, 256] inb_S2x512x256_S1x64x256_1_64_0, put256 (outT x0 x1 x2 x3 x4 x5 1 1 (stT x1 x2 x3 x4 x5 1 (S 1) 1))⟩,
   ⟨Rect.unit (s := S2x512x256) ![0, 64, 0] ![1, 64, 256] inb_S2x512x256_S1x64x256_0_64_0, put256 (outT x0 x1 x2 x3 x4 x5 0 1 (stT x1 x2 x3 x4 x5 0 (S 0) 1))⟩,
   ⟨Rect.unit (s := S2x512x256) ![1, 0, 0] ![1, 64, 256] inb_S2x512x256_S1x64x256_1_0_0, put256 (outT x0 x1 x2 x3 x4 x5 1 0 (stT x1 x2 x3 x4 x5 1 (S 1) 0))⟩,
   ⟨Rect.unit (s := S2x512x256) ![0, 0, 0] ![1, 64, 256] inb_S2x512x256_S1x64x256_0_0_0, put256 (outT x0 x1 x2 x3 x4 x5 0 0 (stT x1 x2 x3 x4 x5 0 (S 0) 0))⟩]

/-- The store that clears the state. -/
abbrev clearPieces : List (View.Piece (Elt F) S2x256x128 .f32) :=
  [⟨Rect.unit (s := S2x256x128) ![0, 0, 0] S2x256x128.size inb_S2x256x128_S2x256x128_0_0_0, k0_pay5⟩]

/-- The two states stored at the end of a point, last first. -/
def stPieces (x1 : Vec F S2x512x128 .f32) (x2 : Vec F S2x512x256 .f32) (x3 : Vec F S2x512x128 .f32) (x4 : Vec F S128x128 .f32) (x5 : Vec F S1x128 .f32) (S : Fin 2 → FVec F S256x128 .f32) : List (View.Piece (Elt F) S2x256x128 .f32) :=
  [⟨Rect.unit (s := S2x256x128) ![1, 0, 0] ![1, 256, 128] inb_S2x256x128_S1x256x128_1_0_0, putS (stT x1 x2 x3 x4 x5 1 (S 1) 8)⟩,
   ⟨Rect.unit (s := S2x256x128) ![0, 0, 0] ![1, 256, 128] inb_S2x256x128_S1x256x128_0_0_0, putS (stT x1 x2 x3 x4 x5 0 (S 0) 8)⟩]

/-- The state buffer after it was cleared whole. -/
theorem fresh_state (arg9 : Memref sig .tc .vmem S2x256x128 .f32) :
    arg9.view.read (Elt F) (arg9.view.writes (Elt F) arg9.view.junk [⟨Rect.unit (s := S2x256x128) ![0, 0, 0] S2x256x128.size inb_S2x256x128_S2x256x128_0_0_0, k0_pay5⟩]) = k0_pay5 := by
  funext y
  rw [View.read_writes_junk_apply_eq_canon, View.canon_cons_unit_zero (by decide)]

theorem outPieces_congr {x0 y0 x1 y1 : Vec F S2x512x128 .f32} {x2 y2 : Vec F S2x512x256 .f32} {x3 y3 : Vec F S2x512x128 .f32} {x4 y4 : Vec F S128x128 .f32} {x5 y5 : Vec F S1x128 .f32} {S T : Fin 2 → FVec F S256x128 .f32}
    (h0 : x0 = y0) (h1 : x1 = y1) (h2 : x2 = y2) (h3 : x3 = y3) (h4 : x4 = y4) (h5 : x5 = y5) (hS : S = T) :
    outPieces x0 x1 x2 x3 x4 x5 S = outPieces y0 y1 y2 y3 y4 y5 T := by
  subst h0 h1 h2 h3 h4 h5 hS; rfl

theorem stPieces_congr {x1 y1 : Vec F S2x512x128 .f32} {x2 y2 : Vec F S2x512x256 .f32} {x3 y3 : Vec F S2x512x128 .f32} {x4 y4 : Vec F S128x128 .f32} {x5 y5 : Vec F S1x128 .f32} {S T : Fin 2 → FVec F S256x128 .f32}
    (h1 : x1 = y1) (h2 : x2 = y2) (h3 : x3 = y3) (h4 : x4 = y4) (h5 : x5 = y5) (hS : S = T) :
    stPieces x1 x2 x3 x4 x5 S = stPieces y1 y2 y3 y4 y5 T := by
  subst h1 h2 h3 h4 h5 hS; rfl

/-- What a body reads back of a whole array that holds x. -/
abbrev ra {s : Shape} {e : EltTy} {o : Fin s.rank → Nat} (a : Memref sig .tc .vmem s e) (h : a.IsWhole) (inb : ∀ b, o b + s.size b ≤ s.size b) (x : Vec F s e) : Vec F s e :=
  View.ld (Val := Elt F) (e' := e) (a.view.read (Elt F) (h.unread x)) (Rect.unit (s := s) o s.size inb)

theorem rd {s : Shape} {e : EltTy} {o : Fin s.rank → Nat} (a : Memref sig .tc .vmem s e) (h : a.IsWhole) (inb : ∀ b, o b + s.size b ≤ s.size b) (ho : o = fun _ => 0) (x : Vec F s e) : ra a h inb x = x :=
  (congrArg (fun z => View.ld (Val := Elt F) (e' := e) z (Rect.unit (s := s) o s.size inb)) (h.read_unread x)).trans (View.ld_unit_zero ho _ _)

variable (c : Dev nD) (i : grid0.Coords) (arg2 : Memref sig .tc .vmem S2x512x128 .f32) (harg2 : arg2.IsWhole) (arg3 : Memref sig .tc .vmem S2x512x128 .f32) (harg3 : arg3.IsWhole) (arg4 : Memref sig .tc .vmem S2x512x256 .f32) (harg4 : arg4.IsWhole) (arg5 : Memref sig .tc .vmem S2x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2x512x256 .f32) (harg8 : arg8.IsWhole) (arg9 : Memref sig .tc .vmem S2x256x128 .f32) (harg9 : arg9.IsWhole)

section first

variable (hc0 : cond0_0 i)
  (x0 : Vec F S2x512x128 .f32) (x1 : Vec F S2x512x128 .f32) (x2 : Vec F S2x512x256 .f32) (x3 : Vec F S2x512x128 .f32) (x4 : Vec F S128x128 .f32) (x5 : Vec F S1x128 .f32)

theorem rawPiecesA :
    (kernelRun0_A c i arg2 harg2 arg3 harg3 arg4 harg4 arg5 harg5 arg6 harg6 arg7 harg7 arg8 harg8 arg9 harg9 hc0 x0 x1 x2 x3 x4 x5).1 = outPieces (arg2.view.read (Elt F) (harg2.unread x0)) (arg3.view.read (Elt F) (harg3.unread x1)) (arg4.view.read (Elt F) (harg4.unread x2)) (arg5.view.read (Elt F) (harg5.unread x3)) (ra arg6 harg6 inb_S128x128_S128x128_0_0 x4) (ra arg7 harg7 inb_S1x128_S1x128_0_0 x5) (fun b => getS (stateOf (arg9.view.read (Elt F) (arg9.view.writes (Elt F) arg9.view.junk (clearPieces (F := F)))) b)) := by rfl

theorem rawStoresA :
    (kernelRun0_A c i arg2 harg2 arg3 harg3 arg4 harg4 arg5 harg5 arg6 harg6 arg7 harg7 arg8 harg8 arg9 harg9 hc0 x0 x1 x2 x3 x4 x5).2.1 = stPieces (arg3.view.read (Elt F) (harg3.unread x1)) (arg4.view.read (Elt F) (harg4.unread x2)) (arg5.view.read (Elt F) (harg5.unread x3)) (ra arg6 harg6 inb_S128x128_S128x128_0_0 x4) (ra arg7 harg7 inb_S1x128_S1x128_0_0 x5) (fun b => getS (stateOf (arg9.view.read (Elt F) (arg9.view.writes (Elt F) arg9.view.junk (clearPieces (F := F)))) b)) ++ clearPieces (F := F) := by rfl

/-- The stores into the output block in case A. -/
theorem piecesA :
    (kernelRun0_A c i arg2 harg2 arg3 harg3 arg4 harg4 arg5 harg5 arg6 harg6 arg7 harg7 arg8 harg8 arg9 harg9 hc0 x0 x1 x2 x3 x4 x5).1 = outPieces x0 x1 x2 x3 x4 x5 (fun b => getS (stateOf k0_pay5 b)) := by
  exact (rawPiecesA c i arg2 harg2 arg3 harg3 arg4 harg4 arg5 harg5 arg6 harg6 arg7 harg7 arg8 harg8 arg9 harg9 hc0 x0 x1 x2 x3 x4 x5).trans (outPieces_congr (harg2.read_unread x0) (harg3.read_unread x1) (harg4.read_unread x2) (harg5.read_unread x3)
    (rd arg6 harg6 inb_S128x128_S128x128_0_0 (by decide) x4) (rd arg7 harg7 inb_S1x128_S1x128_0_0 (by decide) x5) (funext fun b => congrArg (fun z => getS (stateOf z b)) (fresh_state arg9)))

/-- The stores into the state buffer that remain in case A. -/
theorem storesA :
    (kernelRun0_A c i arg2 harg2 arg3 harg3 arg4 harg4 arg5 harg5 arg6 harg6 arg7 harg7 arg8 harg8 arg9 harg9 hc0 x0 x1 x2 x3 x4 x5).2.1 = stPieces x1 x2 x3 x4 x5 (fun b => getS (stateOf k0_pay5 b)) ++ clearPieces (F := F) := by
  exact (rawStoresA c i arg2 harg2 arg3 harg3 arg4 harg4 arg5 harg5 arg6 harg6 arg7 harg7 arg8 harg8 arg9 harg9 hc0 x0 x1 x2 x3 x4 x5).trans (congrArg (fun l => l ++ clearPieces (F := F)) (stPieces_congr (harg3.read_unread x1) (harg4.read_unread x2) (harg5.read_unread x3)
    (rd arg6 harg6 inb_S128x128_S128x128_0_0 (by decide) x4) (rd arg7 harg7 inb_S1x128_S1x128_0_0 (by decide) x5) (funext fun b => congrArg (fun z => getS (stateOf z b)) (fresh_state arg9))))

end first

section later

variable (hc0 : ¬cond0_0 i)
  (x0 : Vec F S2x512x128 .f32) (x1 : Vec F S2x512x128 .f32) (x2 : Vec F S2x512x256 .f32) (x3 : Vec F S2x512x128 .f32) (x4 : Vec F S128x128 .f32) (x5 : Vec F S1x128 .f32) (xs0 : Vec F S2x256x128 .f32)

theorem rawPiecesB :
    (kernelRun0_B c i arg2 harg2 arg3 harg3 arg4 harg4 arg5 harg5 arg6 harg6 arg7 harg7 arg8 harg8 arg9 harg9 hc0 x0 x1 x2 x3 x4 x5 xs0).1 = outPieces (arg2.view.read (Elt F) (harg2.unread x0)) (arg3.view.read (Elt F) (harg3.unread x1)) (arg4.view.read (Elt F) (harg4.unread x2)) (arg5.view.read (Elt F) (harg5.unread x3)) (ra arg6 harg6 inb_S128x128_S128x128_0_0 x4) (ra arg7 harg7 inb_S1x128_S1x128_0_0 x5) (fun b => getS (stateOf (arg9.view.read (Elt F) (harg9.unread xs0)) b)) := by rfl

theorem rawStoresB :
    (kernelRun0_B c i arg2 harg2 arg3 harg3 arg4 harg4 arg5 harg5 arg6 harg6 arg7 harg7 arg8 harg8 arg9 harg9 hc0 x0 x1 x2 x3 x4 x5 xs0).2.1 = stPieces (arg3.view.read (Elt F) (harg3.unread x1)) (arg4.view.read (Elt F) (harg4.unread x2)) (arg5.view.read (Elt F) (harg5.unread x3)) (ra arg6 harg6 inb_S128x128_S128x128_0_0 x4) (ra arg7 harg7 inb_S1x128_S1x128_0_0 x5) (fun b => getS (stateOf (arg9.view.read (Elt F) (harg9.unread xs0)) b)) := by rfl

/-- The stores into the output block in case B. -/
theorem piecesB :
    (kernelRun0_B c i arg2 harg2 arg3 harg3 arg4 harg4 arg5 harg5 arg6 harg6 arg7 harg7 arg8 harg8 arg9 harg9 hc0 x0 x1 x2 x3 x4 x5 xs0).1 = outPieces x0 x1 x2 x3 x4 x5 (fun b => getS (stateOf xs0 b)) := by
  exact (rawPiecesB c i arg2 harg2 arg3 harg3 arg4 harg4 arg5 harg5 arg6 harg6 arg7 harg7 arg8 harg8 arg9 harg9 hc0 x0 x1 x2 x3 x4 x5 xs0).trans (outPieces_congr (harg2.read_unread x0) (harg3.read_unread x1) (harg4.read_unread x2) (harg5.read_unread x3)
    (rd arg6 harg6 inb_S128x128_S128x128_0_0 (by decide) x4) (rd arg7 harg7 inb_S1x128_S1x128_0_0 (by decide) x5) (funext fun b => congrArg (fun z => getS (stateOf z b)) (harg9.read_unread xs0)))

/-- The stores into the state buffer that remain in case B. -/
theorem storesB :
    (kernelRun0_B c i arg2 harg2 arg3 harg3 arg4 harg4 arg5 harg5 arg6 harg6 arg7 harg7 arg8 harg8 arg9 harg9 hc0 x0 x1 x2 x3 x4 x5 xs0).2.1 = stPieces x1 x2 x3 x4 x5 (fun b => getS (stateOf xs0 b)) := by
  exact (rawStoresB c i arg2 harg2 arg3 harg3 arg4 harg4 arg5 harg5 arg6 harg6 arg7 harg7 arg8 harg8 arg9 harg9 hc0 x0 x1 x2 x3 x4 x5 xs0).trans (stPieces_congr (harg3.read_unread x1) (harg4.read_unread x2) (harg5.read_unread x3)
    (rd arg6 harg6 inb_S128x128_S128x128_0_0 (by decide) x4) (rd arg7 harg7 inb_S1x128_S1x128_0_0 (by decide) x5) (funext fun b => congrArg (fun z => getS (stateOf z b)) (harg9.read_unread xs0)))

end later

end Cert.KernelIdeal.Hand

end
-- ==== Proof.GlaPoint.lean ====
/-
  One grid point of the GLA recurrence kernel over the extended reals: from blocks that hold eight chunks of the queries,
  keys, values and log decays, and from the states that enter the first of them, the point leaves the eight chunks' rows
  and the states that enter the next chunk.
-/
module

public import proofs.«01_k».proof.Proof.GlaItem
public import proofs.«01_k».proof.Proof.GlaPieces
public import Idealize.ShloMosaic.Lib.Pipeline.CanonAppend

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.GlaSpec

theorem exp_nonneg (x : EReal) : 0 ≤ Ideal.exp x := by
  induction x with
  | bot => exact le_rfl
  | top => exact le_top
  | coe r => exact EReal.coe_nonneg.mpr (Real.exp_pos r).le

theorem log1p_nonneg (y : EReal) (hy : 0 ≤ y) : 0 ≤ Ideal.log1p y := by
  induction y with
  | bot => exact absurd hy (by simp)
  | top => exact le_top
  | coe r =>
    have hr : 0 ≤ r := EReal.coe_nonneg.mp hy
    have e : Ideal.log1p (r : EReal) = ((if 1 + r ≤ 0 then ⊥ else (Real.log (1 + r) : EReal)) : EReal) := rfl
    rw [e, if_neg (by linarith)]
    exact EReal.coe_nonneg.mpr (Real.log_nonneg (by linarith))

theorem sixteenth : Ideal.ofBits .f32 0x3D800000#32 = (((1 : ℝ) / 16 : ℝ) : EReal) := by
  simp [Ideal.ofBits, Ideal.ieee, -EReal.coe_mul]; norm_num

theorem gf_ne_top (z : EReal) : gf z ≠ ⊤ := by
  have h1 := log1p_nonneg _ (exp_nonneg (0 - FloatOps.absf (F := Ideal) (φ := .f32) z))
  have h2 : min z 0 ≤ 0 := min_le_right _ _
  have h3 : min z 0 - Ideal.log1p (Ideal.exp (0 - FloatOps.absf (F := Ideal) (φ := .f32) z)) ≤ 0 := by
    rw [sub_eq_add_neg]
    exact add_nonpos h2 (EReal.neg_le_zero.mpr h1)
  unfold gf
  rw [sixteenth]
  refine ne_of_lt (lt_of_le_of_lt ?_ EReal.zero_lt_top)
  exact mul_nonpos_of_nonpos_of_nonneg h3 (EReal.coe_nonneg.mpr (by norm_num))

theorem gG_ne_top (z : FVec Ideal S512x128 .f32) (x : S512x128.Idx) : gG z x ≠ (⊤ : EReal) := by
  rw [gG_apply]; exact gf_ne_top _

/-- The log decay of row y of batch b, from the blocks. -/
def gB (x3 : Vec Ideal S2x512x128 .f32) (x4 : Vec Ideal S128x128 .f32) (x5 : Vec Ideal S1x128 .f32) (b : Fin 2) (y : Fin 512) (c : Fin 128) : EReal :=
  gf ((∑ x : Fin 128, x3 (ix3 b y x) * x4 (ix2 x c)) + x5 (ix2 0 c))

def pA (x3 : Vec Ideal S2x512x128 .f32) : Fin 8 → FVec Ideal S64x128 .f32 :=
  ![m128 (rows128 x3 0 0), m128 (rows128 x3 1 0), m128 (rows128 x3 0 1), m128 (rows128 x3 1 1), m128 (rows128 x3 0 2), m128 (rows128 x3 1 2), m128 (rows128 x3 0 3), m128 (rows128 x3 1 3)]
def pB (x3 : Vec Ideal S2x512x128 .f32) : Fin 8 → FVec Ideal S64x128 .f32 :=
  ![m128 (rows128 x3 0 4), m128 (rows128 x3 1 4), m128 (rows128 x3 0 5), m128 (rows128 x3 1 5), m128 (rows128 x3 0 6), m128 (rows128 x3 1 6), m128 (rows128 x3 0 7), m128 (rows128 x3 1 7)]

theorem kA (x3 : Vec Ideal S2x512x128 .f32) (x4 : Vec Ideal S128x128 .f32) (x5 : Vec Ideal S1x128 .f32) (n : Fin 8) (b : Fin 2) (r : Fin 8)
    (e : pA x3 n = m128 (rows128 x3 b r)) (i : Fin 64) (c : Fin 128) :
    bN n (cumG (gG (zA x3 x4 x5))) (ix2 i c) = ∑ j : Fin 64, if j ≤ i then gB x3 x4 x5 b ⟨64 * r.val + j.val, by omega⟩ c else 0 := by
  rw [bN_apply _ (gG_ne_top _)]
  refine Finset.sum_congr rfl fun j _ => ?_
  have hz := zG_apply (pA x3) (rows128 x3 0 0) (rows128 x3 1 0) (rows128 x3 0 1) (rows128 x3 1 1) (rows128 x3 0 2) (rows128 x3 1 2) (rows128 x3 0 3) (rows128 x3 1 3) x4 x5
    rfl rfl rfl rfl rfl rfl rfl rfl n j c
  rw [gG_apply, zA, hz, e]
  simp only [m128_rows, gB]

theorem kB (x3 : Vec Ideal S2x512x128 .f32) (x4 : Vec Ideal S128x128 .f32) (x5 : Vec Ideal S1x128 .f32) (n : Fin 8) (b : Fin 2) (r : Fin 8)
    (e : pB x3 n = m128 (rows128 x3 b r)) (i : Fin 64) (c : Fin 128) :
    bN n (cumG (gG (zB x3 x4 x5))) (ix2 i c) = ∑ j : Fin 64, if j ≤ i then gB x3 x4 x5 b ⟨64 * r.val + j.val, by omega⟩ c else 0 := by
  rw [bN_apply _ (gG_ne_top _)]
  refine Finset.sum_congr rfl fun j _ => ?_
  have hz := zG_apply (pB x3) (rows128 x3 0 4) (rows128 x3 1 4) (rows128 x3 0 5) (rows128 x3 1 5) (rows128 x3 0 6) (rows128 x3 1 6) (rows128 x3 0 7) (rows128 x3 1 7) x4 x5
    rfl rfl rfl rfl rfl rfl rfl rfl n j c
  rw [gG_apply, zB, hz, e]
  simp only [m128_rows, gB]

theorem bT_apply (x3 : Vec Ideal S2x512x128 .f32) (x4 : Vec Ideal S128x128 .f32) (x5 : Vec Ideal S1x128 .f32) (b : Fin 2) (r : Fin 8) (i : Fin 64) (c : Fin 128) :
    bT x3 x4 x5 b r (ix2 i c) = ∑ j : Fin 64, if j ≤ i then gB x3 x4 x5 b ⟨64 * r.val + j.val, by omega⟩ c else 0 := by
  match b, r with
  | 0, 0 => exact kA x3 x4 x5 0 0 0 rfl i c
  | 0, 1 => exact kA x3 x4 x5 2 0 1 rfl i c
  | 0, 2 => exact kA x3 x4 x5 4 0 2 rfl i c
  | 0, 3 => exact kA x3 x4 x5 6 0 3 rfl i c
  | 0, 4 => exact kB x3 x4 x5 0 0 4 rfl i c
  | 0, 5 => exact kB x3 x4 x5 2 0 5 rfl i c
  | 0, 6 => exact kB x3 x4 x5 4 0 6 rfl i c
  | 0, 7 => exact kB x3 x4 x5 6 0 7 rfl i c
  | 1, 0 => exact kA x3 x4 x5 1 1 0 rfl i c
  | 1, 1 => exact kA x3 x4 x5 3 1 1 rfl i c
  | 1, 2 => exact kA x3 x4 x5 5 1 2 rfl i c
  | 1, 3 => exact kA x3 x4 x5 7 1 3 rfl i c
  | 1, 4 => exact kB x3 x4 x5 1 1 4 rfl i c
  | 1, 5 => exact kB x3 x4 x5 3 1 5 rfl i c
  | 1, 6 => exact kB x3 x4 x5 5 1 6 rfl i c
  | 1, 7 => exact kB x3 x4 x5 7 1 7 rfl i c

section
variable (Q K G : Fin 2 → ℕ → Fin 128 → EReal) (W : Fin 2 → ℕ → Fin 256 → EReal)

/-- The blocks of a point hold eight chunks from chunk n on. -/
structure Blocks (n : ℕ) (x0 x1 : Vec Ideal S2x512x128 .f32) (x2 : Vec Ideal S2x512x256 .f32) (x3 : Vec Ideal S2x512x128 .f32) (x4 : Vec Ideal S128x128 .f32) (x5 : Vec Ideal S1x128 .f32) : Prop where
  hq : ∀ b y c, x0 (ix3 b y c) = Q b (64 * n + y.val) c
  hk : ∀ b y c, x1 (ix3 b y c) = K b (64 * n + y.val) c
  hv : ∀ b y c, x2 (ix3 b y c) = W b (64 * n + y.val) c
  hg : ∀ b y c, gB x3 x4 x5 b y c = G b (64 * n + y.val) c

/-- A matrix holds the state of batch b that enters chunk n, each head in its own place and zero elsewhere. -/
structure IsSt (b : Fin 2) (n : ℕ) (S : FVec Ideal S256x128 .f32) : Prop where
  same : ∀ h w κ, S (ix2 (hv h w) (hk h κ)) = st K G W b h κ w n
  off : ∀ h w h' κ, h ≠ h' → S (ix2 (hv h w) (hk h' κ)) = (0 : EReal)

variable {Q K G W}
variable {n : ℕ} {x0 x1 : Vec Ideal S2x512x128 .f32} {x2 : Vec Ideal S2x512x256 .f32} {x3 : Vec Ideal S2x512x128 .f32} {x4 : Vec Ideal S128x128 .f32} {x5 : Vec Ideal S1x128 .f32}
variable (H : Blocks Q K G W n x0 x1 x2 x3 x4 x5)
include H

theorem bT_bc (b : Fin 2) (r : Fin 8) (i : Fin 64) (c : Fin 128) : bT x3 x4 x5 b r (ix2 i c) = bc G b (n + r.val) i c := by
  rw [bT_apply, bc]
  simp only [H.hg, show ∀ j : Fin 64, 64 * n + (64 * r.val + j.val) = 64 * (n + r.val) + j.val from fun j => by omega]

theorem q_row (b : Fin 2) (r : Fin 8) (i : Fin 64) (c : Fin 128) : m128 (rows128 x0 b r) (ix2 i c) = Q b (64 * (n + r.val) + i.val) c := by
  rw [m128_rows, H.hq]; congr 1; show 64 * n + (64 * r.val + i.val) = _; omega
theorem k_row (b : Fin 2) (r : Fin 8) (i : Fin 64) (c : Fin 128) : m128 (rows128 x1 b r) (ix2 i c) = K b (64 * (n + r.val) + i.val) c := by
  rw [m128_rows, H.hk]; congr 1; show 64 * n + (64 * r.val + i.val) = _; omega
theorem v_row (b : Fin 2) (r : Fin 8) (i : Fin 64) (c : Fin 256) : m256 (rows256 x2 b r) (ix2 i c) = W b (64 * (n + r.val) + i.val) c := by
  rw [m256_rows, H.hv]; congr 1; show 64 * n + (64 * r.val + i.val) = _; omega

theorem stepT_isSt (b : Fin 2) (r : Fin 8) (S : FVec Ideal S256x128 .f32) (hS : IsSt K G W b (n + r.val) S) :
    IsSt K G W b (n + r.val + 1) (stepT x1 x2 x3 x4 x5 b r S) where
  same h w κ := by
    rw [stepT, stI_apply, if_pos rfl, hS.same, st]
    simp only [bT_bc H, k_row H, v_row H]
  off h w h' κ hh := by
    rw [stepT, stI_apply, if_neg hh, hS.off h w h' κ hh, zero_mul, zero_add]

theorem stT_isSt (b : Fin 2) (S : FVec Ideal S256x128 .f32) (hS : IsSt K G W b n S) : ∀ r : ℕ, r ≤ 8 → IsSt K G W b (n + r) (stT x1 x2 x3 x4 x5 b S r)
  | 0, _ => hS
  | r + 1, h => by
    have := stepT_isSt H b ⟨r, h⟩ _ (stT_isSt b S hS r (by omega))
    rw [stT, dif_pos (show r < 8 from h)]
    exact this

theorem outT_out (b : Fin 2) (r : Fin 8) (S : FVec Ideal S256x128 .f32) (hS : IsSt K G W b (n + r.val) S) (i : Fin 64) (h : Fin 4) (w : Fin 64) :
    outT x0 x1 x2 x3 x4 x5 b r S (ix2 i (hv h w)) = out (Ideal.ofBits .f32 0x3E3504F3#32) Q K G W b (n + r.val) i h w := by
  rw [outT, outI_apply _ _ _ _ _ hS.off, out]
  simp only [scoresI_apply, hS.same, bT_bc H, q_row H, k_row H, v_row H, sc]

omit H

variable (Q K G W) in
/-- The block of rows that eight chunks from chunk n on give. -/
def outB (n : ℕ) : S2x512x256.Idx → EReal := fun y =>
  out (Ideal.ofBits .f32 0x3E3504F3#32) Q K G W (y 0) (n + (y 1).val / 64) ⟨(y 1).val % 64, Nat.mod_lt _ (by decide)⟩
    ⟨(y 2).val / 64, by have : (y 2).val < 256 := (y 2).isLt; omega⟩ ⟨(y 2).val % 64, Nat.mod_lt _ (by decide)⟩

variable (K G W) in
/-- The states that enter chunk n, as the kernel keeps them. -/
def stB (n : ℕ) : S2x256x128.Idx → EReal := fun y =>
  if (y 1).val / 64 = (y 2).val / 32 then
    st K G W (y 0) ⟨(y 1).val / 64, by have : (y 1).val < 256 := (y 1).isLt; omega⟩ ⟨(y 2).val % 32, Nat.mod_lt _ (by decide)⟩ ⟨(y 1).val % 64, Nat.mod_lt _ (by decide)⟩ n
  else 0

theorem stB_isSt (X : Vec Ideal S2x256x128 .f32) (b : Fin 2) (n : ℕ) (hX : X = stB K G W n) : IsSt K G W b n (getS (stateOf X b)) where
  same h w κ := by
    rw [getS_stateOf, hX]
    show (if (hv h w).val / 64 = (hk h κ).val / 32 then _ else _) = _
    rw [if_pos (by rw [hv_div, hk_div])]
    congr 1
    · exact Fin.ext (hv_div h w)
    · exact Fin.ext (by show (32 * h.val + κ.val) % 32 = κ.val; omega)
    · exact Fin.ext (hv_mod h w)
  off h w h' κ hh := by
    rw [getS_stateOf, hX]
    show (if (hv h w).val / 64 = (hk h' κ).val / 32 then _ else _) = _
    rw [if_neg (by rw [hv_div, hk_div]; exact fun e => hh (Fin.ext e))]

theorem isSt_stB (S : FVec Ideal S256x128 .f32) (b : Fin 2) (n : ℕ) (hS : IsSt K G W b n S) (r : Fin 256) (c : Fin 128) : S (ix2 r c) = stB K G W n (ix3 b r c) := by
  obtain ⟨h, w, rfl⟩ := exists_hv r
  obtain ⟨h', κ, rfl⟩ := exists_hk c
  show _ = if (hv h w).val / 64 = (hk h' κ).val / 32 then _ else _
  rw [hv_div, hk_div]
  by_cases hh : h = h'
  · subst hh
    rw [if_pos rfl, hS.same]
    congr 1
    · exact Fin.ext (hv_div h w).symm
    · exact Fin.ext (by show κ.val = (32 * h.val + κ.val) % 32; omega)
    · exact Fin.ext (hv_mod h w).symm
  · rw [if_neg (fun e => hh (Fin.ext e)), hS.off h w h' κ hh]

theorem clear_stB : (k0_pay5 (F := Ideal)) = stB K G W 0 := by
  funext y
  have e : (k0_pay5 (F := Ideal)) y = (0 : EReal) := by
    show Ideal.ofBits .f32 0x00000000#32 = 0
    exact Ideal.ofBits_zero_f32
  rw [e, stB]
  split_ifs <;> rfl

include H

theorem out_piece (b : Fin 2) (r : Fin 8) (S : FVec Ideal S256x128 .f32) (hS : IsSt K G W b (n + r.val) S) (off : Fin 3 → ℕ) (hoff : off = ![b.val, 64 * r.val, 0])
    (inb : ∀ a, off a + (![1, 64, 256] : Fin 3 → ℕ) a ≤ S2x512x256.size a) (x : (Rect.unit (s := S2x512x256) off ![1, 64, 256] inb).shape.Idx) :
    put256 (outT x0 x1 x2 x3 x4 x5 b r S) x = outB Q K G W n ((Rect.unit (s := S2x512x256) off ![1, 64, 256] inb).emb x) := by
  subst hoff
  obtain ⟨z, i, c, rfl⟩ : ∃ (z : Fin 1) (i : Fin 64) (c : Fin 256), x = ix3 z i c := ⟨x 0, x 1, x 2, by funext a; match a with | ⟨0, _⟩ => rfl | ⟨1, _⟩ => rfl | ⟨2, _⟩ => rfl⟩
  obtain ⟨h, w, rfl⟩ := exists_hv c
  have e : put256 (outT x0 x1 x2 x3 x4 x5 b r S) (ix3 z i (hv h w)) = outT x0 x1 x2 x3 x4 x5 b r S (ix2 i (hv h w)) := by
    pointwise []
  have hz : z.val = 0 := by omega
  refine e.trans ((outT_out H b r S hS i h w).trans ?_)
  unfold outB
  have v0 : ((Rect.unit (s := S2x512x256) ![b.val, 64 * r.val, 0] ![1, 64, 256] inb).emb (ix3 z i (hv h w)) 0).val = b.val := by
    show b.val + 1 * z.val = b.val; omega
  have v1 : ((Rect.unit (s := S2x512x256) ![b.val, 64 * r.val, 0] ![1, 64, 256] inb).emb (ix3 z i (hv h w)) 1).val = 64 * r.val + i.val := by
    show 64 * r.val + 1 * i.val = _; omega
  have v2 : ((Rect.unit (s := S2x512x256) ![b.val, 64 * r.val, 0] ![1, 64, 256] inb).emb (ix3 z i (hv h w)) 2).val = (hv h w).val := by
    show 0 + 1 * (hv h w).val = _; omega
  congr 1
  · exact Fin.ext v0.symm
  · rw [v1]; omega
  · exact Fin.ext (by show i.val = _ % 64; rw [v1]; omega)
  · exact Fin.ext (by show h.val = _ / 64; rw [v2, hv_div])
  · exact Fin.ext (by show w.val = _ % 64; rw [v2, hv_mod])

omit H in
theorem st_piece (b : Fin 2) (S : FVec Ideal S256x128 .f32) (hS : IsSt K G W b n S) (off : Fin 3 → ℕ) (hoff : off = ![b.val, 0, 0])
    (inb : ∀ a, off a + (![1, 256, 128] : Fin 3 → ℕ) a ≤ S2x256x128.size a) (x : (Rect.unit (s := S2x256x128) off ![1, 256, 128] inb).shape.Idx) :
    putS S x = stB K G W n ((Rect.unit (s := S2x256x128) off ![1, 256, 128] inb).emb x) := by
  subst hoff
  obtain ⟨z, r, c, rfl⟩ : ∃ (z : Fin 1) (i : Fin 256) (c : Fin 128), x = ix3 z i c := ⟨x 0, x 1, x 2, by funext a; match a with | ⟨0, _⟩ => rfl | ⟨1, _⟩ => rfl | ⟨2, _⟩ => rfl⟩
  have e : putS S (ix3 z r c) = S (ix2 r c) := by pointwise []
  have hz : z.val = 0 := by omega
  refine e.trans ((isSt_stB S b n hS r c).trans (congrArg _ ?_))
  funext a; apply Fin.ext
  match a with
  | ⟨0, _⟩ => show b.val = b.val + 1 * z.val; omega
  | ⟨1, _⟩ => show r.val = 0 + 1 * r.val; omega
  | ⟨2, _⟩ => show c.val = 0 + 1 * c.val; omega

theorem outPieces_out (S : Fin 2 → FVec Ideal S256x128 .f32) (hS : ∀ b, IsSt K G W b n (S b)) :
    ∀ p ∈ outPieces x0 x1 x2 x3 x4 x5 S, ∀ x : p.1.shape.Idx, p.2 x = outB Q K G W n (p.1.emb x) := by
  intro p hp
  simp only [outPieces, List.mem_cons, List.not_mem_nil, or_false] at hp
  rcases hp with rfl | rfl | rfl | rfl | rfl | rfl | rfl | rfl | rfl | rfl | rfl | rfl | rfl | rfl | rfl | rfl
  · exact out_piece H 1 7 _ (stT_isSt H 1 _ (hS 1) 7 (by decide)) _ rfl inb_S2x512x256_S1x64x256_1_448_0
  · exact out_piece H 0 7 _ (stT_isSt H 0 _ (hS 0) 7 (by decide)) _ rfl inb_S2x512x256_S1x64x256_0_448_0
  · exact out_piece H 1 6 _ (stT_isSt H 1 _ (hS 1) 6 (by decide)) _ rfl inb_S2x512x256_S1x64x256_1_384_0
  · exact out_piece H 0 6 _ (stT_isSt H 0 _ (hS 0) 6 (by decide)) _ rfl inb_S2x512x256_S1x64x256_0_384_0
  · exact out_piece H 1 5 _ (stT_isSt H 1 _ (hS 1) 5 (by decide)) _ rfl inb_S2x512x256_S1x64x256_1_320_0
  · exact out_piece H 0 5 _ (stT_isSt H 0 _ (hS 0) 5 (by decide)) _ rfl inb_S2x512x256_S1x64x256_0_320_0
  · exact out_piece H 1 4 _ (stT_isSt H 1 _ (hS 1) 4 (by decide)) _ rfl inb_S2x512x256_S1x64x256_1_256_0
  · exact out_piece H 0 4 _ (stT_isSt H 0 _ (hS 0) 4 (by decide)) _ rfl inb_S2x512x256_S1x64x256_0_256_0
  · exact out_piece H 1 3 _ (stT_isSt H 1 _ (hS 1) 3 (by decide)) _ rfl inb_S2x512x256_S1x64x256_1_192_0
  · exact out_piece H 0 3 _ (stT_isSt H 0 _ (hS 0) 3 (by decide)) _ rfl inb_S2x512x256_S1x64x256_0_192_0
  · exact out_piece H 1 2 _ (stT_isSt H 1 _ (hS 1) 2 (by decide)) _ rfl inb_S2x512x256_S1x64x256_1_128_0
  · exact out_piece H 0 2 _ (stT_isSt H 0 _ (hS 0) 2 (by decide)) _ rfl inb_S2x512x256_S1x64x256_0_128_0
  · exact out_piece H 1 1 _ (stT_isSt H 1 _ (hS 1) 1 (by decide)) _ rfl inb_S2x512x256_S1x64x256_1_64_0
  · exact out_piece H 0 1 _ (stT_isSt H 0 _ (hS 0) 1 (by decide)) _ rfl inb_S2x512x256_S1x64x256_0_64_0
  · exact out_piece H 1 0 _ (stT_isSt H 1 _ (hS 1) 0 (by decide)) _ rfl inb_S2x512x256_S1x64x256_1_0_0
  · exact out_piece H 0 0 _ (stT_isSt H 0 _ (hS 0) 0 (by decide)) _ rfl inb_S2x512x256_S1x64x256_0_0_0

theorem stPieces_st (S : Fin 2 → FVec Ideal S256x128 .f32) (hS : ∀ b, IsSt K G W b n (S b)) :
    ∀ p ∈ stPieces x1 x2 x3 x4 x5 S, ∀ x : p.1.shape.Idx, p.2 x = stB K G W (n + 8) (p.1.emb x) := by
  intro p hp
  simp only [stPieces, List.mem_cons, List.not_mem_nil, or_false] at hp
  rcases hp with rfl | rfl
  · exact st_piece 1 _ (stT_isSt H 1 _ (hS 1) 8 le_rfl) _ rfl inb_S2x256x128_S1x256x128_1_0_0
  · exact st_piece 0 _ (stT_isSt H 0 _ (hS 0) 8 le_rfl) _ rfl inb_S2x256x128_S1x256x128_0_0_0

omit H in
theorem stPieces_cover (S : Fin 2 → FVec Ideal S256x128 .f32) (y : S2x256x128.Idx) : ∃ p ∈ stPieces x1 x2 x3 x4 x5 S, y ∈ p.1.set :=
  View.cover_of_tiledL (stPieces x1 x2 x3 x4 x5 S) S1x256x128.size (by sl_kernel_rfl) y

end

end Cert.KernelIdeal.Hand

end
-- ==== Proof.GlaHost.lean ====
/-
  What the host lines before the GLA kernel leave in the arrays it reads: the projection padded by zero columns, the
  decay weights of the forward direction over zero rows, and the decay bias of the forward direction.
-/
module

public import proofs.«01_k».proof.Proof.GlaPoint
public import proofs.«01_k».proof.Proof.Gen.KernelIdeal.Value
public import Idealize.ShloMosaic.Lib.StableHlo.ReadAt
public import Idealize.ShloMosaic.Lib.Routing.OpsPair
public import Idealize.ShloMosaic.Lib.Routing.OpsSet

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.GlaSpec

variable (m : (ℓ : Loc nD τ sig) → Buf (Elt Ideal) ℓ) (c : Dev nD)

theorem V_v8 (x : Fin 128) : (V m c main_v8 : Vec Ideal S1x128 .f32) (ix2 0 x) = (m ((c : Thread nD τ).loc main_arg2) : Vec Ideal S2x128 .f32) (ix2 0 x) := by
  unfold V
  after_reads_at

theorem V_v0 (b : Fin 2) (y : Fin 8192) (x : Fin 896) : (V m c main_v0 : Vec Ideal S2x8192x896 .f32) (ix3 b y x) = if h : x.val < 800 then (m ((c : Thread nD τ).loc main_arg0) : Vec Ideal S2x8192x800 .f32) (ix3 b y ⟨x.val, h⟩) else (0 : EReal) := by
  unfold V
  after_reads_at
  have e : (FloatOps.sitofp (F := Ideal) FTy.f32 (0#32 : BitVec 32) : EReal) = 0 := by
    show (((0#32 : BitVec 32).toInt : ℝ) : EReal) = 0
    simp
  split
  · rfl
  · exact e

/-- The host's zero matrix with the direction's sixteen rows of weights set into its first rows. -/
theorem scatter_rows (z : Vec Ideal S128x128 .f32) (u : Vec Ideal S16x128 .f32) (y x : Fin 128) :
    Host.scatter scatter_S128x128_S1_S16x128_01_n_0_0 (fun _ b => b) z (broadcastInDim S1 ![] bcast_S_S1 (constantI S_ 32 0#32)) u (ix2 y x)
      = if h : y.val < 16 then u (ix2 ⟨y.val, h⟩ x) else z (ix2 y x) := by
  have hk : ∀ k : S16x128.Idx, scatter_S128x128_S1_S16x128_01_n_0_0.resultIdx? k (broadcastInDim S1 ![] bcast_S_S1 (constantI S_ 32 0#32)) = some (ix2 y x)
      ↔ (k 0).val = y.val ∧ (k 1).val = x.val := fun k => by
    have w0 : scatter_S128x128_S1_S16x128_01_n_0_0.window k (0 : Fin 2) = (k 0).val := rfl
    have w1 : scatter_S128x128_S1_S16x128_01_n_0_0.window k (1 : Fin 2) = (k 1).val := rfl
    have s0 : scatter_S128x128_S1_S16x128_01_n_0_0.start k (broadcastInDim S1 ![] bcast_S_S1 (constantI S_ 32 0#32)) (0 : Fin 2) = 0 := rfl
    have s1 : scatter_S128x128_S1_S16x128_01_n_0_0.start k (broadcastInDim S1 ![] bcast_S_S1 (constantI S_ 32 0#32)) (1 : Fin 2) = 0 := rfl
    refine (Routing.resultIdx?_ix2 _ k _ y x).trans ?_
    rw [w0, w1, s0, s1]
    omega
  by_cases h : y.val < 16
  · rw [dif_pos h]
    refine Routing.scatter_set_hit _ z _ u _ _ (fun k e => ?_) (ix2 ⟨y.val, h⟩ x) ((hk _).mpr ⟨rfl, rfl⟩)
    obtain ⟨e0, e1⟩ := (hk k).mp e
    congr 1
    funext a
    match a with
    | ⟨0, _⟩ => exact Fin.ext e0
    | ⟨1, _⟩ => exact Fin.ext e1
  · rw [dif_neg h]
    refine Routing.scatter_set_miss _ z _ u _ fun k e => ?_
    have e0 := ((hk k).mp e).1
    have : (k 0).val < 16 := (k 0).isLt
    omega

theorem V_v5 (y x : Fin 128) : (V m c main_v5 : Vec Ideal S128x128 .f32) (ix2 y x) = if h : y.val < 16 then (m ((c : Thread nD τ).loc main_arg1) : Vec Ideal S2x16x128 .f32) (ix3 0 ⟨y.val, h⟩ x) else (0 : EReal) := by
  unfold V
  after_reads_at
  rw [scatter_rows]
  split
  · rfl
  · show Ideal.ofBits .f32 0x00000000#32 = 0
    exact Ideal.ofBits_zero_f32

end Cert.KernelIdeal.Hand

end
-- ==== Proof.GlaRun.lean ====
/-
  The GLA kernel's grid over the extended reals: the blocks that each point reads, the rows and states that it leaves,
  and by induction over the sixteen points what the result array holds.
-/
module

public import proofs.«01_k».proof.Proof.GlaHost

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen Cert.KernelIdeal.Value Cert.GlaSpec

/-! ## The queries, keys, values and log decays, row by row -/

section
variable (P : Fin 2 → Fin 8192 → Fin 800 → EReal) (w : Fin 16 → Fin 128 → EReal) (β : Fin 128 → EReal)

/-- Row n of the sequence. -/
def rowN (n : ℕ) : Fin 8192 := ⟨n % 8192, Nat.mod_lt _ (by decide)⟩
def qN (b : Fin 2) (n : ℕ) (c : Fin 128) : EReal := P b (rowN n) ⟨c.val, by omega⟩
def kN (b : Fin 2) (n : ℕ) (c : Fin 128) : EReal := P b (rowN n) ⟨128 + c.val, by omega⟩
def vN (b : Fin 2) (n : ℕ) (c : Fin 256) : EReal := P b (rowN n) ⟨256 + c.val, by omega⟩
/-- The log decay of a row: the sixteen low-rank columns through the decay weights, plus the bias. -/
def gN (b : Fin 2) (n : ℕ) (c : Fin 128) : EReal := gf ((∑ x : Fin 16, P b (rowN n) ⟨768 + x.val, by omega⟩ * w x c) + β c)
end

variable (m : (ℓ : Loc nD τ sig) → Buf (Elt Ideal) ℓ) (c : Dev nD)

def pM (b : Fin 2) (y : Fin 8192) (x : Fin 800) : EReal := (m ((c : Thread nD τ).loc main_arg0) : Vec Ideal S2x8192x800 .f32) (ix3 b y x)
def wM (x : Fin 16) (y : Fin 128) : EReal := (m ((c : Thread nD τ).loc main_arg1) : Vec Ideal S2x16x128 .f32) (ix3 0 x y)
def βM (y : Fin 128) : EReal := (m ((c : Thread nD τ).loc main_arg2) : Vec Ideal S2x128 .f32) (ix2 0 y)

/-! ## The blocks -/

theorem idx0 : ∀ t : Fin cfg0.N, win0_0.index t (0 : Fin 3) = 0 ∧ win0_0.index t (1 : Fin 3) = t.val ∧ win0_0.index t (2 : Fin 3) = 0 := by decide +kernel
theorem idx1 : ∀ t : Fin cfg0.N, win0_1.index t (0 : Fin 3) = 0 ∧ win0_1.index t (1 : Fin 3) = t.val ∧ win0_1.index t (2 : Fin 3) = 1 := by decide +kernel
theorem idx2 : ∀ t : Fin cfg0.N, win0_2.index t (0 : Fin 3) = 0 ∧ win0_2.index t (1 : Fin 3) = t.val ∧ win0_2.index t (2 : Fin 3) = 1 := by decide +kernel
theorem idx3 : ∀ t : Fin cfg0.N, win0_3.index t (0 : Fin 3) = 0 ∧ win0_3.index t (1 : Fin 3) = t.val ∧ win0_3.index t (2 : Fin 3) = 6 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel

theorem tlt (t : Fin cfg0.N) : t.val < 16 := lt_of_lt_of_eq t.isLt N_0

theorem blk0 (t : Fin cfg0.N) (b : Fin 2) (y : Fin 512) (x : Fin 128) :
    (iblk m c 0 t : Vec Ideal S2x512x128 .f32) (ix3 b y x) = (V m c main_v0 : Vec Ideal S2x8192x896 .f32) (ix3 b ⟨512 * t.val + y.val, by have := tlt t; omega⟩ ⟨x.val, by omega⟩) := by
  unfold iblk
  rw [View.read_apply]
  show V m c main_v0 _ = _
  congr 1
  obtain ⟨h0, h1, h2⟩ := idx0 t
  funext a; apply Fin.ext
  match a with
  | ⟨0, _⟩ => show win0_0.index t (0 : Fin 3) * 2 + 1 * b.val = b.val; rw [h0]; omega
  | ⟨1, _⟩ => show win0_0.index t (1 : Fin 3) * 512 + 1 * y.val = 512 * t.val + y.val; rw [h1]; omega
  | ⟨2, _⟩ => show win0_0.index t (2 : Fin 3) * 128 + 1 * x.val = x.val; rw [h2]; omega

theorem blk1 (t : Fin cfg0.N) (b : Fin 2) (y : Fin 512) (x : Fin 128) :
    (iblk m c 1 t : Vec Ideal S2x512x128 .f32) (ix3 b y x) = (V m c main_v0 : Vec Ideal S2x8192x896 .f32) (ix3 b ⟨512 * t.val + y.val, by have := tlt t; omega⟩ ⟨128 + x.val, by omega⟩) := by
  unfold iblk
  rw [View.read_apply]
  show V m c main_v0 _ = _
  congr 1
  obtain ⟨h0, h1, h2⟩ := idx1 t
  funext a; apply Fin.ext
  match a with
  | ⟨0, _⟩ => show win0_1.index t (0 : Fin 3) * 2 + 1 * b.val = b.val; rw [h0]; omega
  | ⟨1, _⟩ => show win0_1.index t (1 : Fin 3) * 512 + 1 * y.val = 512 * t.val + y.val; rw [h1]; omega
  | ⟨2, _⟩ => show win0_1.index t (2 : Fin 3) * 128 + 1 * x.val = 128 + x.val; rw [h2]; omega

theorem blk3 (t : Fin cfg0.N) (b : Fin 2) (y : Fin 512) (x : Fin 128) :
    (iblk m c 3 t : Vec Ideal S2x512x128 .f32) (ix3 b y x) = (V m c main_v0 : Vec Ideal S2x8192x896 .f32) (ix3 b ⟨512 * t.val + y.val, by have := tlt t; omega⟩ ⟨768 + x.val, by omega⟩) := by
  unfold iblk
  rw [View.read_apply]
  show V m c main_v0 _ = _
  congr 1
  obtain ⟨h0, h1, h2⟩ := idx3 t
  funext a; apply Fin.ext
  match a with
  | ⟨0, _⟩ => show win0_3.index t (0 : Fin 3) * 2 + 1 * b.val = b.val; rw [h0]; omega
  | ⟨1, _⟩ => show win0_3.index t (1 : Fin 3) * 512 + 1 * y.val = 512 * t.val + y.val; rw [h1]; omega
  | ⟨2, _⟩ => show win0_3.index t (2 : Fin 3) * 128 + 1 * x.val = 768 + x.val; rw [h2]; omega

theorem blk4 (t : Fin cfg0.N) (y x : Fin 128) :
    (iblk m c 4 t : Vec Ideal S128x128 .f32) (ix2 y x) = (V m c main_v5 : Vec Ideal S128x128 .f32) (ix2 y x) := by
  unfold iblk
  rw [View.read_apply]
  show V m c main_v5 _ = _
  congr 1
  obtain ⟨h0, h1⟩ := idx4 t
  funext a; apply Fin.ext
  match a with
  | ⟨0, _⟩ => show win0_4.index t (0 : Fin 2) * 128 + 1 * y.val = y.val; rw [h0]; omega
  | ⟨1, _⟩ => show win0_4.index t (1 : Fin 2) * 128 + 1 * x.val = x.val; rw [h1]; omega

theorem blk5 (t : Fin cfg0.N) (x : Fin 128) :
    (iblk m c 5 t : Vec Ideal S1x128 .f32) (ix2 0 x) = (V m c main_v8 : Vec Ideal S1x128 .f32) (ix2 0 x) := by
  unfold iblk
  rw [View.read_apply]
  show V m c main_v8 _ = _
  congr 1
  obtain ⟨h0, h1⟩ := idx5 t
  funext a; apply Fin.ext
  match a with
  | ⟨0, _⟩ => show win0_5.index t (0 : Fin 2) * 1 + 1 * 0 = 0; rw [h0]
  | ⟨1, _⟩ => show win0_5.index t (1 : Fin 2) * 128 + 1 * x.val = x.val; rw [h1]; omega

theorem blk2 (t : Fin cfg0.N) (b : Fin 2) (y : Fin 512) (x : Fin 256) :
    (X0_2 m c t : Vec Ideal S2x512x256 .f32) (ix3 b y x) = (V m c main_v0 : Vec Ideal S2x8192x896 .f32) (ix3 b ⟨512 * t.val + y.val, by have := tlt t; omega⟩ ⟨256 + x.val, by omega⟩) := by
  unfold X0_2 Pipeline.Window.fill
  rw [dif_pos (moved0_2 t _)]
  unfold iblk
  rw [View.read_apply]
  show V m c main_v0 _ = _
  congr 1
  obtain ⟨h0, h1, h2⟩ := idx2 t
  funext a; apply Fin.ext
  match a with
  | ⟨0, _⟩ => show win0_2.index t (0 : Fin 3) * 2 + 1 * b.val = b.val; rw [h0]; omega
  | ⟨1, _⟩ => show win0_2.index t (1 : Fin 3) * 512 + 1 * y.val = 512 * t.val + y.val; rw [h1]; omega
  | ⟨2, _⟩ => show win0_2.index t (2 : Fin 3) * 256 + 1 * x.val = 256 + x.val; rw [h2]; omega

theorem row_eq (t : Fin cfg0.N) (y : Fin 512) (h) : (⟨512 * t.val + y.val, h⟩ : Fin 8192) = rowN (64 * (8 * t.val) + y.val) :=
  Fin.ext (by show 512 * t.val + y.val = (64 * (8 * t.val) + y.val) % 8192; have := tlt t; omega)

/-- The low-rank block and the decay weights' block of a point, as arrays. -/
def lrB (t : Fin cfg0.N) : Vec Ideal S2x512x128 .f32 := iblk m c 3 t
def wdB (t : Fin cfg0.N) : Vec Ideal S128x128 .f32 := iblk m c 4 t

/-- Every point's blocks hold eight chunks of the padded projection's rows. -/
theorem blocks (t : Fin cfg0.N) :
    Blocks (qN (pM m c)) (kN (pM m c)) (gN (pM m c) (wM m c) (βM m c)) (vN (pM m c)) (8 * t.val)
      (iblk m c 0 t) (iblk m c 1 t) (X0_2 m c t) (iblk m c 3 t) (iblk m c 4 t) (iblk m c 5 t) where
  hq b y x := by
    refine (blk0 m c t b y x).trans ?_
    rw [V_v0, dif_pos (show x.val < 800 by omega), row_eq]; rfl
  hk b y x := by
    refine (blk1 m c t b y x).trans ?_
    rw [V_v0, dif_pos (show 128 + x.val < 800 by omega), row_eq]; rfl
  hv b y x := by
    refine (blk2 m c t b y x).trans ?_
    rw [V_v0, dif_pos (show 256 + x.val < 800 by omega), row_eq]; rfl
  hg b y x := by
    unfold gB gN
    congr 1
    congr 1
    · have e : ∀ z : Fin 128, lrB m c t (ix3 b y z) * wdB m c t (ix2 z x)
          = if h : z.val < 16 then pM m c b (rowN (64 * (8 * t.val) + y.val)) ⟨768 + z.val, by omega⟩ * wM m c ⟨z.val, h⟩ x else (0 : EReal) := fun z => by
        rw [lrB, wdB, blk3, blk4, V_v5, V_v0, row_eq]
        by_cases h : z.val < 16
        · rw [dif_pos h, dif_pos h, dif_pos (show 768 + z.val < 800 by omega)]; rfl
        · rw [dif_neg h, dif_neg h]; exact mul_zero _
      refine (Finset.sum_congr rfl fun z _ => e z).trans ?_
      refine (Fin.sum_univ_add (a := 16) (b := 112) (fun z : Fin (16 + 112) => if h : z.val < 16 then pM m c b (rowN (64 * (8 * t.val) + y.val)) ⟨768 + z.val, by omega⟩ * wM m c ⟨z.val, h⟩ x else (0 : EReal))).trans ?_
      refine (congrArg₂ (· + ·) (Finset.sum_congr rfl fun z _ => ?_) (Finset.sum_eq_zero fun z _ => ?_)).trans (add_zero _)
      · exact dif_pos z.isLt
      · exact dif_neg (by show ¬ (16 + z.val < 16); omega)
    · rw [blk5, V_v8]; rfl

/-! ## What a point leaves -/

section
variable {Q K G : Fin 2 → ℕ → Fin 128 → EReal} {W : Fin 2 → ℕ → Fin 256 → EReal} {n : ℕ}
variable (t : Fin cfg0.N) (H : Blocks Q K G W n (iblk m c 0 t) (iblk m c 1 t) (X0_2 m c t) (iblk m c 3 t) (iblk m c 4 t) (iblk m c 5 t))
include H

theorem pointA (h0 : t.val % 16 = 0) (hn : n = 0) : outsAt0 m c t.val t.isLt = (outB Q K G W n, stB K G W (n + 8)) := by
  rw [outsAt0_A m c t h0]
  have hs : ∀ b, IsSt K G W b n (getS (stateOf (k0_pay5 (F := Ideal)) b)) := fun b => stB_isSt _ b n (by rw [hn]; exact clear_stB)
  have e1 := piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t) (iblk m c 5 t)
  have e2 := storesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t) (iblk m c 5 t)
  have c1 := cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t) (iblk m c 5 t)
  refine Prod.ext ?_ ?_
  · dsimp only
    unfold out0_A_6
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t) (iblk m c 5 t)).1 = L at e1 c1 ⊢
    subst e1
    funext y
    exact View.read_writes_apply_of_pieces _ _ _ _ (outPieces_out H _ hs) y (c1 y)
  · dsimp only
    unfold sout0_A_0
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t) (iblk m c 5 t)).2.1 = L at e2 ⊢
    subst e2
    funext y
    refine (View.read_writes_junk_apply_eq_canon _ y _).trans ?_
    exact View.canon_append_of_pieces _ _ _ (stPieces_st H _ hs) y (stPieces_cover _ y)

theorem pointB (h0 : ¬ t.val % 16 = 0) (hp : (outsAt0 m c (t.val - 1) (Nat.lt_of_le_of_lt (Nat.sub_le _ _) t.isLt)).2 = stB K G W n) :
    outsAt0 m c t.val t.isLt = (outB Q K G W n, stB K G W (n + 8)) := by
  rw [outsAt0_B m c t h0]
  generalize (outsAt0 m c (t.val - 1) (Nat.lt_of_le_of_lt (Nat.sub_le _ _) t.isLt)).2 = xs at hp ⊢
  have hs : ∀ b, IsSt K G W b n (getS (stateOf xs b)) := fun b => stB_isSt _ b n hp
  have e1 := piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (iblk m c 5 t) xs
  have e2 := storesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (iblk m c 5 t) xs
  have c1 := cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (iblk m c 5 t) xs
  refine Prod.ext ?_ ?_
  · dsimp only
    unfold out0_B_6
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (iblk m c 5 t) xs).1 = L at e1 c1 ⊢
    subst e1
    funext y
    exact View.read_writes_apply_of_pieces _ _ _ _ (outPieces_out H _ hs) y (c1 y)
  · dsimp only
    unfold sout0_B_0
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (iblk m c 5 t) xs).2.1 = L at e2 ⊢
    subst e2
    funext y
    exact View.read_writes_apply_of_pieces _ _ _ _ (stPieces_st H _ hs) y (stPieces_cover _ y)
end

/-- What the buffers hold after each point: its rows, and the states that enter the next chunk. -/
theorem outsAt_eq : ∀ (n : ℕ) (hn : n < cfg0.N), outsAt0 m c n hn
    = (outB (qN (pM m c)) (kN (pM m c)) (gN (pM m c) (wM m c) (βM m c)) (vN (pM m c)) (8 * n), stB (kN (pM m c)) (gN (pM m c) (wM m c) (βM m c)) (vN (pM m c)) (8 * n + 8))
  | 0, hn => pointA m c ⟨0, hn⟩ (blocks m c ⟨0, hn⟩) rfl rfl
  | n + 1, hn => pointB m c ⟨n + 1, hn⟩ (blocks m c ⟨n + 1, hn⟩) (by have h : n + 1 < 16 := tlt ⟨n + 1, hn⟩; show ¬ (n + 1) % 16 = 0; omega)
      (by
        show (outsAt0 m c n _).2 = _
        rw [outsAt_eq n]
        rfl)

/-- The result array, at an index. -/
theorem result_apply (b : Fin 2) (y : Fin 8192) (x : Fin 256) : (G6 m c : Vec Ideal S2x8192x256 .f32) (ix3 b y x)
    = out (Ideal.ofBits .f32 0x3E3504F3#32) (qN (pM m c)) (kN (pM m c)) (gN (pM m c) (wM m c) (βM m c)) (vN (pM m c)) b (y.val / 64) ⟨y.val % 64, Nat.mod_lt _ (by decide)⟩
        ⟨x.val / 64, by omega⟩ ⟨x.val % 64, Nat.mod_lt _ (by decide)⟩ := by
  have hp : pt6Of (ix3 b y x) = y.val / 512 := by
    show 16 * (b.val / 2 - 0) + 1 * (y.val / 512 - 0) + 1 * (x.val / 256 - 0) = _
    omega
  have hN : cfg0.N = 16 := N_0
  have h : pt6Of (ix3 b y x) < cfg0.N := by rw [hp, hN]; omega
  unfold G6
  rw [dif_pos h, ← outsAt0_sweep m c _ h, outsAt_eq]
  show outB _ _ _ _ _ (loc6Of (ix3 b y x)) = _
  unfold outB
  congr 1
  · exact Fin.ext (by show b.val % 2 = b.val; omega)
  · show 8 * pt6Of (ix3 b y x) + y.val % 512 / 64 = y.val / 64
    rw [hp]; omega
  · exact Fin.ext (by show y.val % 512 % 64 = y.val % 64; omega)
  · exact Fin.ext (by show x.val % 256 / 64 = x.val / 64; omega)
  · exact Fin.ext (by show x.val % 256 % 64 = x.val % 64; omega)

end Cert.KernelIdeal.Hand

end
-- ==== Proof.GlaRefB.lean ====
/-
  What the reference computes: read stretch by stretch from its arguments, its result at an index is the same
  specification of the gated recurrence as the kernel's.
-/
module

public import proofs.«01_k».proof.Proof.GlaRefLoop
public import proofs.«01_k».proof.Proof.GlaRun

@[expose] public section

set_option maxRecDepth 16384

noncomputable section

namespace Cert.ReferenceIdeal.Hand

open Idealize.ShloMosaic Idealize.ShloMosaic.TcCoe Idealize.ShloMosaic.Tactic
open Cert.ReferenceIdeal Cert.ReferenceIdeal.Gen Cert.ReferenceIdeal.Value Cert.GlaSpec
open Idealize.ShloMosaic.StableHlo
open Cert.KernelIdeal.Hand (gf qN kN vN gN rowN exp_nonneg log1p_nonneg sixteenth)

theorem sum_eq {ι : Type} [Fintype ι] {f g : ι → EReal} (h : ∀ i, f i = g i) : ∑ i, f i = ∑ i, g i := Finset.sum_congr rfl fun i _ => h i

/-- The reference's log decay is the kernel's: the two spellings of the logarithm of the logistic function agree, and a
    division by sixteen is a multiplication by a sixteenth. -/
theorem gate_eq (z : EReal) : Ideal.div (lsg z) (Ideal.ofBits .f32 0x41800000#32) = gf z := by
  have hz : FloatOps.absf (F := Ideal) (φ := .f32) (-z) = FloatOps.absf (F := Ideal) (φ := .f32) z := by
    show max (-z) (- -z) = max z (-z)
    rw [neg_neg, max_comm]
  have hm : -(max (-z) 0) = min z 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  have hl : 0 ≤ Ideal.log1p (Ideal.exp (-FloatOps.absf (F := Ideal) (φ := .f32) (-z))) := log1p_nonneg _ (exp_nonneg _)
  have h16 : Ideal.ofBits .f32 0x41800000#32 = ((16 : ℝ) : EReal) := by
    simp [Ideal.ofBits, Ideal.ieee, -EReal.coe_mul]; norm_num
  unfold lsg gf
  rw [EReal.neg_add (Or.inl (ne_of_gt (lt_of_lt_of_le EReal.bot_lt_zero (le_max_right _ _)))) (Or.inr (ne_of_gt (lt_of_lt_of_le EReal.bot_lt_zero hl))), hm, hz, zero_sub, sixteenth, h16]
  unfold Ideal.div
  rw [if_neg (by norm_num), ← EReal.coe_inv]
  norm_num

variable (V : Valuation τ sig (Elt Ideal))

/-- The reference's arguments as functions of their indices. -/
def aP (b : Fin 2) (y : Fin 8192) (x : Fin 800) : EReal := (V (Proc.devRef .tc main_arg0) : Vec Ideal S2x8192x800 .f32) (ix3 b y x)
def aW (r : Fin 16) (x : Fin 128) : EReal := (V (Proc.devRef .tc main_arg1) : Vec Ideal S2x16x128 .f32) (ix3 0 r x)
def aB (x : Fin 128) : EReal := (V (Proc.devRef .tc main_arg2) : Vec Ideal S2x128 .f32) (ix2 0 x)

/-! The contents after each stretch before the scan. -/
def U1 := after hostOps0 V
def U2 := after hostOps0_1 (U1 V)
def U3 := after hostOps0_2 (U2 V)
def U4 := after hostOps0_3 (U3 V)
def U5 := after hostOps0_4 (U4 V)
def U6 := after hostOps0_5 (U5 V)
def U7 := after hostOps0_6 (U6 V)
def U8 := after hostOps0_7 (U7 V)
def U9 := after hostOps0_8 (U8 V)

theorem k2 (r : Ref sig .tc) (h : r ∉ hostOps0_1_W) : U2 V (Proc.devRef .tc r) = U1 V (Proc.devRef .tc r) := after_of_writes_sub _ _ hostOps0_1_writes h
theorem k3 (r : Ref sig .tc) (h : r ∉ hostOps0_2_W) : U3 V (Proc.devRef .tc r) = U2 V (Proc.devRef .tc r) := after_of_writes_sub _ _ hostOps0_2_writes h
theorem k4 (r : Ref sig .tc) (h : r ∉ hostOps0_3_W) : U4 V (Proc.devRef .tc r) = U3 V (Proc.devRef .tc r) := after_of_writes_sub _ _ hostOps0_3_writes h
theorem k5 (r : Ref sig .tc) (h : r ∉ hostOps0_4_W) : U5 V (Proc.devRef .tc r) = U4 V (Proc.devRef .tc r) := after_of_writes_sub _ _ hostOps0_4_writes h
theorem k6 (r : Ref sig .tc) (h : r ∉ hostOps0_5_W) : U6 V (Proc.devRef .tc r) = U5 V (Proc.devRef .tc r) := after_of_writes_sub _ _ hostOps0_5_writes h
theorem k7 (r : Ref sig .tc) (h : r ∉ hostOps0_6_W) : U7 V (Proc.devRef .tc r) = U6 V (Proc.devRef .tc r) := after_of_writes_sub _ _ hostOps0_6_writes h
theorem k8 (r : Ref sig .tc) (h : r ∉ hostOps0_7_W) : U8 V (Proc.devRef .tc r) = U7 V (Proc.devRef .tc r) := after_of_writes_sub _ _ hostOps0_7_writes h
theorem k9 (r : Ref sig .tc) (h : r ∉ hostOps0_8_W) : U9 V (Proc.devRef .tc r) = U8 V (Proc.devRef .tc r) := after_of_writes_sub _ _ hostOps0_8_writes h

/-- From the third stretch to the loop's entry a buffer no later stretch writes is unchanged. -/
theorem k38 (r : Ref sig .tc) (h4 : r ∉ hostOps0_3_W) (h5 : r ∉ hostOps0_4_W) (h6 : r ∉ hostOps0_5_W) (h7 : r ∉ hostOps0_6_W) (h8 : r ∉ hostOps0_7_W) :
    U8 V (Proc.devRef .tc r) = U3 V (Proc.devRef .tc r) := by
  rw [k8 V r h8, k7 V r h7, k6 V r h6, k5 V r h5, k4 V r h4]

theorem row_eq (n : Fin 128) (i : Fin 64) (h : n.val * 64 + i.val < 8192) : (⟨n.val * 64 + i.val, h⟩ : Fin 8192) = rowN (64 * n.val + i.val) := by
  apply Fin.ext; show n.val * 64 + i.val = (64 * n.val + i.val) % 8192; omega

theorem u_v22 (b : Fin 2) (n : Fin 128) (i : Fin 64) (h : Fin 4) (κ : Fin 32) : (U3 V (Proc.devRef .tc main_v22) : Vec Ideal S2x128x64x4x32 .f32) (ix5 b n i h κ)
    = (fun p : EReal => p * Ideal.ofBits .f32 0x3E3504F3#32) (qN (aP V) b (64 * n.val + i.val) (hk h κ)) := by
  refine (a_v22 (U2 V) b n i h κ).trans ?_
  rw [k2 V _ (by decide), row_eq]
  exact a_v7 V b _ h κ
theorem u_v23 (b : Fin 2) (n : Fin 128) (i : Fin 64) (h : Fin 4) (κ : Fin 32) : (U3 V (Proc.devRef .tc main_v23) : Vec Ideal S2x128x64x4x32 .f32) (ix5 b n i h κ)
    = kN (aP V) b (64 * n.val + i.val) (hk h κ) := by
  refine (a_v23 (U2 V) b n i h κ).trans ?_
  rw [k2 V _ (by decide), row_eq]
  exact a_v8 V b _ h κ
theorem u_v25 (b : Fin 2) (n : Fin 128) (i : Fin 64) (h : Fin 4) (w : Fin 64) : (U3 V (Proc.devRef .tc main_v25) : Vec Ideal S2x128x64x4x64 .f32) (ix5 b n i h w)
    = vN (aP V) b (64 * n.val + i.val) (hv h w) := by
  refine (a_v25 (U2 V) b n i h w).trans ?_
  rw [k2 V _ (by decide), row_eq]
  exact a_v9 V b _ h w
theorem u_v24 (b : Fin 2) (n : Fin 128) (i : Fin 64) (h : Fin 4) (κ : Fin 32) : (U3 V (Proc.devRef .tc main_v24) : Vec Ideal S2x128x64x4x32 .f32) (ix5 b n i h κ)
    = gN (aP V) (aW V) (aB V) b (64 * n.val + i.val) (hk h κ) := by
  refine (a_v24 (U2 V) b n i h κ).trans ?_
  rw [show (U2 V (Proc.devRef .tc main_v16) : Vec Ideal S2x8192x2x128 .f32) (ix4 b ⟨n.val * 64 + i.val, by omega⟩ 0 (hk h κ)) = _ from a_v16 (U1 V) b _ 0 (hk h κ), gate_eq, row_eq,
    show (U1 V (Proc.devRef .tc main_v15) : Vec Ideal S2x8192x2x128 .f32) (ix4 b (rowN (64 * n.val + i.val)) 0 (hk h κ)) = _ from a_v15 V b _ (hk h κ)]
  unfold gN
  congr 2
  exact Finset.sum_congr rfl fun r _ => mul_comm (aW V r (hk h κ)) (aP V b (rowN (64 * n.val + i.val)) ⟨768 + r.val, by omega⟩)

theorem u_v26 (b : Fin 2) (n : Fin 128) (i : Fin 64) (h : Fin 4) (κ : Fin 32) : (U4 V (Proc.devRef .tc main_v26) : Vec Ideal S2x128x64x4x32 .f32) (ix5 b n i h κ)
    = bc (gN (aP V) (aW V) (aB V)) b n.val i (hk h κ) := by
  refine (a_v26 (U3 V) b n i h κ).trans ?_
  unfold bc
  refine sum_eq fun j => ?_
  rw [u_v24]

theorem u_v37 (b : Fin 2) (n : Fin 128) (i j : Fin 64) (h : Fin 4) : (U5 V (Proc.devRef .tc main_v37) : Vec Ideal S2x128x4x64x64 .f32) (ix5 b n h i j)
    = sc (Ideal.ofBits .f32 0x3E3504F3#32) (qN (aP V)) (kN (aP V)) (gN (aP V) (aW V) (aB V)) b n.val h i j := by
  refine (a_v37 (U4 V) b n i j h).trans ?_
  unfold sc
  refine sum_eq fun x => ?_
  rw [u_v26, u_v26, u_v26, k4 V main_v22 (by decide), k4 V main_v23 (by decide), u_v22, u_v23]
theorem u_v28 (b : Fin 2) (n : Fin 128) (i : Fin 1) (h : Fin 4) (κ : Fin 32) : (U5 V (Proc.devRef .tc main_v28) : Vec Ideal S2x128x1x4x32 .f32) (ix5 b n i h κ)
    = bc (gN (aP V) (aW V) (aB V)) b n.val 63 (hk h κ) :=
  (a_v28 (U4 V) b n i h κ).trans (u_v26 V b n 63 h κ)
theorem u_v39 (i j : Fin 64) : (U7 V (Proc.devRef .tc main_v39) : Vec Ideal S64x64 .i1) (ix2 i j) = if j ≤ i then 1#1 else 0#1 := by
  rw [k7 V _ (by decide)]
  exact a_v39 (U5 V) i j (a_v38 (U4 V) i j)
theorem u_v40 (b : Fin 2) (n : Fin 128) (h : Fin 4) (i j : Fin 64) : (U8 V (Proc.devRef .tc main_v40) : Vec Ideal S2x128x4x64x64 .f32) (ix5 b n h i j)
    = (if j ≤ i then sc (Ideal.ofBits .f32 0x3E3504F3#32) (qN (aP V)) (kN (aP V)) (gN (aP V) (aW V) (aB V)) b n.val h i j else 0 : EReal) := by
  refine (a_v40 (U7 V) b n h i j).trans ?_
  rw [u_v39, k7 V main_v37 (by decide), k6 V main_v37 (by decide), u_v37, show (U7 V (Proc.devRef .tc main_cst_1) : Vec Ideal S_ .f32) ix0 = (0 : EReal) from a_cst1 (U6 V)]
  by_cases e : j ≤ i
  · rw [if_pos e, if_pos e, if_pos rfl]
  · rw [if_neg e, if_neg e, if_neg (fun h => absurd h (by decide : ¬ (0#1 : BitVec 1) = 1#1))]
theorem u_v42 (b : Fin 2) (n : Fin 128) (i : Fin 64) (h : Fin 4) (w : Fin 64) : (U9 V (Proc.devRef .tc main_v42) : Vec Ideal S2x128x64x4x64 .f32) (ix5 b n i h w)
    = ∑ j : Fin 64, (if j ≤ i then sc (Ideal.ofBits .f32 0x3E3504F3#32) (qN (aP V)) (kN (aP V)) (gN (aP V) (aW V) (aB V)) b n.val h i j else 0) * vN (aP V) b (64 * n.val + j.val) (hv h w) := by
  refine (a_v42 (U8 V) b n i h w).trans ?_
  refine sum_eq fun x => ?_
  rw [u_v40, k38 V main_v25 (by decide) (by decide) (by decide) (by decide) (by decide), u_v25]
  exact mul_comm _ _
theorem u_v530 (n : Fin 128) (b : Fin 2) (h : Fin 4) (κ : Fin 32) : (U9 V (Proc.devRef .tc main_v53_0) : Vec Ideal S128x2x4x32 .f32) (ix4 n b h κ)
    = Ideal.exp (bc (gN (aP V) (aW V) (aB V)) b n.val 63 (hk h κ)) := by
  refine (a_v530 (U8 V) n b h κ).trans ?_
  rw [k8 V main_v28 (by decide), k7 V main_v28 (by decide), k6 V main_v28 (by decide), u_v28]
theorem u_v531 (n : Fin 128) (b : Fin 2) (h : Fin 4) (κ : Fin 32) (w : Fin 64) : (U9 V (Proc.devRef .tc main_v53_1) : Vec Ideal S128x2x4x32x64 .f32) (ix5 n b h κ w)
    = ∑ j : Fin 64, vN (aP V) b (64 * n.val + j.val) (hv h w) * (kN (aP V) b (64 * n.val + j.val) (hk h κ) * Ideal.exp (bc (gN (aP V) (aW V) (aB V)) b n.val 63 (hk h κ) - bc (gN (aP V) (aW V) (aB V)) b n.val j (hk h κ))) := by
  refine (a_v531 (U8 V) n b h κ w).trans ?_
  refine sum_eq fun j => ?_
  rw [k8 V main_v28 (by decide), k7 V main_v28 (by decide), k6 V main_v28 (by decide), u_v28, k38 V main_v23 (by decide) (by decide) (by decide) (by decide) (by decide), u_v23,
    k38 V main_v25 (by decide) (by decide) (by decide) (by decide) (by decide), u_v25, k8 V main_v26 (by decide), k7 V main_v26 (by decide), k6 V main_v26 (by decide), k5 V main_v26 (by decide), u_v26]
  exact mul_comm _ _

variable (m : (ℓ : Loc nD τ sig) → Buf (Elt Ideal) ℓ) (c : Dev nD)

theorem entry_eq : entryContents preI m c = U9 (launchContents m c) := rfl

theorem scan_eq (b : Fin 2) (h : Fin 4) (κ : Fin 32) (w : Fin 64) : ∀ k : ℕ, k ≤ 128 → scanSt (decay m c b h κ) (added m c b h κ w) k
    = st (kN (aP (launchContents m c))) (gN (aP (launchContents m c)) (aW (launchContents m c)) (aB (launchContents m c))) (vN (aP (launchContents m c))) b h κ w k
  | 0, _ => rfl
  | k + 1, hk => by
    unfold scanSt st
    rw [scan_eq b h κ w k (by omega)]
    unfold decay added
    simp only [Nat.mod_eq_of_lt (show k < 128 by omega)]
    rw [entry_eq, u_v530, u_v531, mul_comm]

/-- The reference's result. -/
theorem ref_apply (b : Fin 2) (y : Fin 8192) (x : Fin 256) : (finalContents condOps preI bodyI postI 128 m c (Proc.devRef .tc main_v60) : Vec Ideal S2x8192x256 .f32) (ix3 b y x)
    = out (Ideal.ofBits .f32 0x3E3504F3#32) (qN (aP (launchContents m c))) (kN (aP (launchContents m c))) (gN (aP (launchContents m c)) (aW (launchContents m c)) (aB (launchContents m c))) (vN (aP (launchContents m c)))
        b (y.val / 64) ⟨y.val % 64, by omega⟩ ⟨x.val / 64, by omega⟩ ⟨x.val % 64, by omega⟩ := by
  have kc : ∀ r : Ref sig .tc, r ∉ condOps_W → after condOps (atK m 128 c) (Proc.devRef .tc r) = atK m 128 c (Proc.devRef .tc r) := fun r h => after_of_writes_sub condOps _ condOps_writes h
  rw [show finalContents condOps preI bodyI postI 128 m c = afterL postI (after condOps (atK m 128 c)) from rfl]
  simp only [afterL_cons, afterL_nil]
  refine (a_v60 _ b y x).trans ?_
  unfold out
  have e42 : (after condOps (atK m 128 c) (Proc.devRef .tc main_v42) : Vec Ideal S2x128x64x4x64 .f32) = U9 (launchContents m c) (Proc.devRef .tc main_v42) := by
    rw [kc _ (by decide), keep_all m c main_v42 (by decide) (by decide) (by decide) (by decide) (by decide) (by decide), entry_eq]
  have e22 : (after condOps (atK m 128 c) (Proc.devRef .tc main_v22) : Vec Ideal S2x128x64x4x32 .f32) = U3 (launchContents m c) (Proc.devRef .tc main_v22) := by
    rw [kc _ (by decide), keep_all m c main_v22 (by decide) (by decide) (by decide) (by decide) (by decide) (by decide), entry_eq, k9 _ _ (by decide), k38 _ _ (by decide) (by decide) (by decide) (by decide) (by decide)]
  have e26 : (after condOps (atK m 128 c) (Proc.devRef .tc main_v26) : Vec Ideal S2x128x64x4x32 .f32) = U4 (launchContents m c) (Proc.devRef .tc main_v26) := by
    rw [kc _ (by decide), keep_all m c main_v26 (by decide) (by decide) (by decide) (by decide) (by decide) (by decide), entry_eq, k9 _ _ (by decide), k8 _ _ (by decide), k7 _ _ (by decide), k6 _ _ (by decide), k5 _ _ (by decide)]
  rw [e42, e22, e26, kc _ (by decide), u_v42]
  refine congrArg₂ (fun p q : EReal => p + q) rfl (sum_eq fun κ => ?_)
  rw [u_v22, u_v26, atK_v534 m c (fun b h κ w => by rw [entry_eq]; exact a_v533 (U8 (launchContents m c)) b h κ w) _ b _ κ _ 128 le_rfl (by show y.val / 64 < 128; omega), scan_eq _ _ _ _ _ _ _ (by show y.val / 64 ≤ 128; omega)]
  exact mul_comm _ _

end Cert.ReferenceIdeal.Hand

end
-- ==== Proof.GlaClaim.lean ====
/-
  The conjuncts of the claim about the gated recurrence: the reference's run leaves its arguments as they were, and the
  two programs end with the same array.
-/
module

public import proofs.«01_k».proof.Defs
public import proofs.«01_k».proof.Proof.GlaRefB
public import Idealize.ShloMosaic.Lib.Quiescent
public import Idealize.ShloMosaic.Lib.Claim
public import Idealize.ShloMosaic.Lib.StableHlo.RunRead

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value
open Idealize.ShloMosaic.StableHlo

variable (m : (ℓ : Loc nD τ sig) → Buf (Elt Ideal) ℓ) (c : Dev nD)

/-- A buffer that no operation of the reference writes ends as it started. -/
theorem kept (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W)
    (h6 : r ∉ hostOps0_6_W) (h7 : r ∉ hostOps0_7_W) (h8 : r ∉ hostOps0_8_W) (h9 : ∀ V : Valuation τ sig (Elt Ideal), after hostOps0_9 V (Proc.devRef .tc r) = V (Proc.devRef .tc r)) (hc : r ∉ condOps_W) (b0 : r ∉ while0Ops0_W) (b1 : r ∉ while0Ops0_1_W)
    (b2 : r ∉ while0Ops0_2_W) (b3 : r ∉ while0Ops0_3_W) (b4 : r ∉ while0Ops0_4_W) :
    finalContents condOps preI bodyI postI 128 m c (Proc.devRef .tc r) = launchContents m c (Proc.devRef .tc r) := by
  rw [show finalContents condOps preI bodyI postI 128 m c = afterL postI (after condOps (atK m 128 c)) from rfl]
  simp only [afterL_cons, afterL_nil]
  rw [h9, after_of_writes_sub condOps _ condOps_writes hc, keep_all m c r hc b0 b1 b2 b3 b4, entry_eq, k9 _ _ h8, k8 _ _ h7, k7 _ _ h6, k6 _ _ h5, k5 _ _ h4,
    k4 _ _ h3, k3 _ _ h2, k2 _ _ h1]
  exact after_of_writes_sub _ _ hostOps0_writes h0

theorem kept0 : finalContents condOps preI bodyI postI 128 m c (Proc.devRef .tc main_arg0) = m ((c.tc : Thread nD τ).loc main_arg0) :=
  kept m c _ (by decide) (by decide) (by decide) (by decide) (by decide) (by decide) (by decide) (by decide) (by decide) (fun V => by after_reads_simp) (by decide) (by decide) (by decide) (by decide) (by decide) (by decide)
theorem kept1 : finalContents condOps preI bodyI postI 128 m c (Proc.devRef .tc main_arg1) = m ((c.tc : Thread nD τ).loc main_arg1) :=
  kept m c _ (by decide) (by decide) (by decide) (by decide) (by decide) (by decide) (by decide) (by decide) (by decide) (fun V => by after_reads_simp) (by decide) (by decide) (by decide) (by decide) (by decide) (by decide)
theorem kept2 : finalContents condOps preI bodyI postI 128 m c (Proc.devRef .tc main_arg2) = m ((c.tc : Thread nD τ).loc main_arg2) :=
  kept m c _ (by decide) (by decide) (by decide) (by decide) (by decide) (by decide) (by decide) (by decide) (by decide) (fun V => by after_reads_simp) (by decide) (by decide) (by decide) (by decide) (by decide) (by decide)

/-- The reference's run: its result is the last stretch's, its arguments are as they were. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v60) = finalContents condOps preI bodyI postI 128 m c (Proc.devRef .tc main_v60)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨h c main_v60 (by decide), (h c main_arg0 (by decide)).trans (kept0 m c), (h c main_arg1 (by decide)).trans (kept1 m c), (h c main_arg2 (by decide)).trans (kept2 m c)⟩)
    (run_fold m g)

end Cert.ReferenceIdeal.Hand

namespace Cert.Proof

open Idealize.ShloMosaic Idealize.ShloMosaic.TcCoe Idealize.SL.Sem

theorem quiescent_gla_reference : Cert.quiescent_ReferenceIdeal := fun m g _ =>
  (θ_run Cert.ReferenceIdeal.defs _ _).mono (fun r h => ⟨fun c => (h c).2, sem_eq_zero_of_no_sems (by decide) r.2⟩) (Cert.ReferenceIdeal.Hand.run m g)

/-- The two results are one array: both are the recurrence's specification at the same arguments. -/
theorem algebraic_gla : Cert.algebraic_KernelIdeal_ReferenceIdeal := by
  intro m g m' g' _ hagree
  refine ⟨fun c => Cert.KernelIdeal.Value.G6 m c, Cert.KernelIdeal.Value.run (F := Ideal) m g, ?_⟩
  refine (θ_run Cert.ReferenceIdeal.defs _ _).mono (fun r h c => ⟨(h c).1.trans ?_, (h c).2⟩) (Cert.ReferenceIdeal.Hand.run m' g')
  have eP : Cert.ReferenceIdeal.Hand.aP (StableHlo.launchContents m' c) = Cert.KernelIdeal.Hand.pM m c := by
    funext b y x; exact congrFun (hagree c).1 (ix3 b y x)
  have eW : Cert.ReferenceIdeal.Hand.aW (StableHlo.launchContents m' c) = Cert.KernelIdeal.Hand.wM m c := by
    funext y x; exact congrFun (hagree c).2.1 (ix3 0 y x)
  have eB : Cert.ReferenceIdeal.Hand.aB (StableHlo.launchContents m' c) = Cert.KernelIdeal.Hand.βM m c := by
    funext x; exact congrFun (hagree c).2.2 (ix2 0 x)
  funext i
  obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
  refine (Cert.ReferenceIdeal.Hand.ref_apply m' c b y x).trans (Eq.trans ?_ (Cert.KernelIdeal.Hand.result_apply m c b y x).symm)
  rw [eP, eW, eB]

end Cert.Proof

end
-- ==== Proof.RowSpec.lean ====
/-
  A row of the layer's branch merge and of its convolutional feed-forward network as functions over the extended reals:
  what the kernels' blocks and the reference's lines both compute, row by row.
-/
module

public import Idealize.ShloMosaic.Lib.Pointwise

@[expose] public section

noncomputable section

namespace Cert.RowSpec

open Idealize.ShloMosaic

/-- The f32 words of 1024 and of 1e-6, as extended reals. -/
def nW : EReal := Ideal.ofBits .f32 0x44800000#32
def εW : EReal := Ideal.ofBits .f32 0x358637BD#32

/-- A row over its root mean square. -/
def rmsR (x : Fin 1024 → EReal) (d : Fin 1024) : EReal := x d * Ideal.rsqrt (Ideal.div (∑ k : Fin 1024, x k * x k) nW + εW)

/-- The scaled and shifted normal row. -/
def modR (x np sc sh : Fin 1024 → EReal) (d : Fin 1024) : EReal := rmsR x d * np d * (1 + sc d) + sh d

/-- One branch's contribution to the merged row: its gate times its projection. -/
def brR (h : Fin 1024 → EReal) (wg : Fin 1024 → EReal) (o : Fin 256 → EReal) (wb : Fin 256 → EReal) : EReal :=
  Ideal.logistic (∑ k : Fin 1024, h k * wg k) * ∑ k : Fin 256, o k * wb k

/-- The merged row. -/
def mergedR (h : Fin 1024 → EReal) (wg : Fin 4 → Fin 1024 → Fin 1024 → EReal) (o : Fin 4 → Fin 256 → EReal) (wb : Fin 4 → Fin 256 → Fin 1024 → EReal) (d : Fin 1024) : EReal :=
  brR h (fun k => wg 0 k d) (o 0) (fun k => wb 0 k d) + brR h (fun k => wg 1 k d) (o 1) (fun k => wb 1 k d)
    + brR h (fun k => wg 2 k d) (o 2) (fun k => wb 2 k d) + brR h (fun k => wg 3 k d) (o 3) (fun k => wb 3 k d)

/-- The residual row: the input plus the gated, normalized row y. -/
def resR (x y np gt : Fin 1024 → EReal) (d : Fin 1024) : EReal := x d + gt d * (rmsR y d * np d)

/-- The row that the merge leaves. -/
def mergeR (x np sc sh np2 gt : Fin 1024 → EReal) (wg : Fin 4 → Fin 1024 → Fin 1024 → EReal) (o : Fin 4 → Fin 256 → EReal) (wb : Fin 4 → Fin 256 → Fin 1024 → EReal)
    (wo : Fin 1024 → Fin 1024 → EReal) : Fin 1024 → EReal :=
  resR x (fun d => ∑ k : Fin 1024, mergedR (modR x np sc sh) wg o wb k * wo k d) np2 gt

end Cert.RowSpec

end
-- ==== Proof.MergeBlock.lean ====
/-
  One block of the merge kernel, read at an index over the extended reals: every row of it is the merge's row.
-/
module

public import proofs.«01_k».proof.Proof.Gen.Kernel2Ideal.Value
public import proofs.«01_k».proof.Proof.RowSpec
public import Idealize.ShloMosaic.Lib.Pipeline.ValueKit.Tiles

@[expose] public section

set_option maxRecDepth 16384

noncomputable section

namespace Cert.Kernel2Ideal.Hand

open Idealize.ShloMosaic Idealize.ShloMosaic.TcCoe Idealize.ShloMosaic.Tactic
open Cert.Kernel2Ideal Cert.Kernel2Ideal.Gen Cert.RowSpec

theorem pay3_apply (v0 : Vec Ideal S1x512x1024 .f32) (v2 : Vec Ideal S1x1024 .f32) (v4 v6 : Vec Ideal S1x1x1024 .f32) (r : Fin 512) (d : Fin 1024) :
    k0_pay3 v0 v2 v4 v6 (ix2 r d) = modR (fun k => v0 (ix3 0 r k)) (fun k => v2 (ix2 0 k)) (fun k => v4 (ix3 0 0 k)) (fun k => v6 (ix3 0 0 k)) d := by
  pointwise [k0_pay3, k0_pay2]
  rfl

theorem pay4_apply (v0 : Vec Ideal S1x512x1024 .f32) (v2 : Vec Ideal S1x1024 .f32) (v4 v6 : Vec Ideal S1x1x1024 .f32) (v27 : Vec Ideal S1024x1024 .bf16) (r : Fin 512) (d : Fin 1024) :
    k0_pay4 v0 v2 v4 v6 v27 (ix2 r d) = Ideal.logistic (∑ k : Fin 1024, k0_pay3 v0 v2 v4 v6 (ix2 r k) * v27 (ix2 k d) : EReal) := by
  pointwise [k0_pay4]

theorem pay7_apply (h : FVec Ideal S512x1024 .bf16) (w : Vec Ideal S1024x1024 .bf16) (r : Fin 512) (d : Fin 1024) :
    k0_pay7 h w (ix2 r d) = Ideal.logistic (∑ k : Fin 1024, h (ix2 r k) * w (ix2 k d) : EReal) := by
  pointwise [k0_pay7]

theorem pay6_apply (h : FVec Ideal S512x1024 .bf16) (g0 : FVec Ideal S512x1024 .f32) (o0 : FVec Ideal S512x256 .bf16) (w0 : Vec Ideal S1x256x1024 .bf16)
    (g1 : Vec Ideal S1024x1024 .bf16) (o1 : Vec Ideal S1x512x256 .bf16) (w1 : Vec Ideal S1x256x1024 .bf16)
    (g2 : Vec Ideal S1024x1024 .bf16) (o2 : Vec Ideal S1x512x256 .bf16) (w2 : Vec Ideal S1x256x1024 .bf16) (r : Fin 512) (d : Fin 1024) :
    k0_pay6 h g0 o0 w0 g1 o1 w1 g2 o2 w2 (ix2 r d)
      = (g0 (ix2 r d) * (∑ k : Fin 256, o0 (ix2 r k) * w0 (ix3 0 k d) : EReal)
        + brR (fun k => h (ix2 r k)) (fun k => g1 (ix2 k d)) (fun k => o1 (ix3 0 r k)) (fun k => w1 (ix3 0 k d))
        + brR (fun k => h (ix2 r k)) (fun k => g2 (ix2 k d)) (fun k => o2 (ix3 0 r k)) (fun k => w2 (ix3 0 k d)) : EReal) := by
  pointwise [k0_pay6]
  rfl

theorem pay1_apply (x : FVec Ideal S512x1024 .f32) (s g : FVec Ideal S512x1024 .f32) (o : FVec Ideal S512x256 .bf16) (w : Vec Ideal S1x256x1024 .bf16)
    (wo : Vec Ideal S1024x1024 .bf16) (gt : Vec Ideal S1x1x1024 .f32) (np : Vec Ideal S1x1024 .f32) (r : Fin 512) (d : Fin 1024) :
    k0_pay1 x s g o w wo gt np (ix3 0 r d)
      = resR (fun k => x (ix2 r k))
          (fun d => ∑ k : Fin 1024, ((s (ix2 r k) : EReal) + g (ix2 r k) * ∑ l : Fin 256, (o (ix2 r l) : EReal) * w (ix3 0 l k)) * wo (ix2 k d))
          (fun k => np (ix2 0 k)) (fun k => gt (ix3 0 0 k)) d := by
  pointwise [k0_pay1]
  rfl

/-- Every row of the block that a point leaves is the merge's row at the blocks it reads. -/
theorem out_apply (x0 : Vec Ideal S1x512x1024 .f32) (x1 : Vec Ideal S1x6x1024 .f32) (x2 x3 : Vec Ideal S1x1024 .f32) (x4 : Vec Ideal S1024x4096 .bf16) (x5 : Vec Ideal S4x256x1024 .bf16)
    (x6 : Vec Ideal S1024x1024 .bf16) (x7 x8 x9 x10 : Vec Ideal S1x512x256 .bf16) (r : Fin 512) (d : Fin 1024) :
    out0_11 x0 x1 x2 x3 x4 x5 x6 x7 x8 x9 x10 (ix3 0 r d)
      = mergeR (fun k => x0 (ix3 0 r k)) (fun k => x2 (ix2 0 k)) (fun k => x1 (ix3 0 1 k)) (fun k => x1 (ix3 0 0 k)) (fun k => x3 (ix2 0 k)) (fun k => x1 (ix3 0 2 k))
          (fun n k d => x4 (ix2 k ⟨1024 * n.val + d.val, by omega⟩)) (fun n => ![fun l => x7 (ix3 0 r l), fun l => x8 (ix3 0 r l), fun l => x9 (ix3 0 r l), fun l => x10 (ix3 0 r l)] n)
          (fun n k d => x5 (ix3 n k d)) (fun k d => x6 (ix2 k d)) d := by
  unfold_out out0_11
  rw [View.canon_unit_zero (by funext a; fin_cases a <;> rfl)]
  refine (pay1_apply _ _ _ _ _ _ _ _ r d).trans ?_
  unfold mergeR mergedR
  simp only [pay6_apply, pay7_apply, pay4_apply, pay3_apply]
  pointwise [k0_pay2, k0_pay5, k0_pay8, pay3_apply, View.ld]
  rfl

end Cert.Kernel2Ideal.Hand

end
-- ==== Proof.MergeRun.lean ====
/-
  The merge kernel's grid over the extended reals: the blocks that each point reads, and what the result array holds.
-/
module

public import proofs.«01_k».proof.Proof.MergeBlock
public import Idealize.ShloMosaic.Lib.StableHlo.ReadAt

@[expose] public section

set_option maxRecDepth 16384

noncomputable section

namespace Cert.Kernel2Ideal.Hand

open Idealize.ShloMosaic Idealize.ShloMosaic.TcCoe Idealize.ShloMosaic.Tactic
open Cert.Kernel2Ideal Cert.Kernel2Ideal.Gen Cert.Kernel2Ideal.Value Cert.RowSpec

variable (m : (ℓ : Loc nD τ sig) → Buf (Elt Ideal) ℓ) (c : Dev nD)

theorem tlt (t : Fin cfg0.N) : t.val < 32 := lt_of_lt_of_eq t.isLt N_0

/-- The batch and the row of the sequence that row r of point t's block is. -/
def tb (t : Fin cfg0.N) : Fin 2 := ⟨t.val / 16, by have := tlt t; omega⟩
def ty (t : Fin cfg0.N) (r : Fin 512) : Fin 8192 := ⟨512 * (t.val % 16) + r.val, by omega⟩

/-! ## What the host lines leave in the arrays that the kernel reads -/

theorem V_v1 (y : Fin 1024) (x : Fin 4096) : (V m c main_v1 : Vec Ideal S1024x4096 .bf16) (ix2 y x) = (m ((c : Thread nD τ).loc main_arg4) : Vec Ideal S1024x6944 .f32) (ix2 y ⟨2848 + x.val, by omega⟩) := by
  unfold V
  after_reads_at

theorem V_v2 (b : Fin 2) (k : Fin 6) (x : Fin 1024) : (V m c main_v2 : Vec Ideal S2x6x1024 .f32) (ix3 b k x) = (m ((c : Thread nD τ).loc main_arg1) : Vec Ideal S2x6144 .f32) (ix2 b ⟨k.val * 1024 + x.val, by omega⟩) := by
  unfold V
  after_reads_at

theorem V_v3 (n : Fin 4) (y : Fin 256) (x : Fin 1024) : (V m c main_v3 : Vec Ideal S4x256x1024 .bf16) (ix3 n y x) = (m ((c : Thread nD τ).loc main_arg5) : Vec Ideal S4x256x1024 .f32) (ix3 n y x) := by
  unfold V
  after_reads_at

theorem V_v4 (y x : Fin 1024) : (V m c main_v4 : Vec Ideal S1024x1024 .bf16) (ix2 y x) = (m ((c : Thread nD τ).loc main_arg6) : Vec Ideal S1024x1024 .f32) (ix2 y x) := by
  unfold V
  after_reads_at

theorem V_v9 (x : Fin 1024) : (V m c main_v9 : Vec Ideal S1x1024 .f32) (ix2 0 x) = (m ((c : Thread nD τ).loc main_arg2) : Vec Ideal S1024 .f32) (ix1 x) := by
  unfold V
  after_reads_at

theorem V_v10 (x : Fin 1024) : (V m c main_v10 : Vec Ideal S1x1024 .f32) (ix2 0 x) = (m ((c : Thread nD τ).loc main_arg3) : Vec Ideal S1024 .f32) (ix1 x) := by
  unfold V
  after_reads_at

theorem V_v5 (b : Fin 2) (y : Fin 8192) (x : Fin 256) : (V m c main_v5 : Vec Ideal S2x8192x256 .bf16) (ix3 b y x) = (m ((c : Thread nD τ).loc main_arg7) : Vec Ideal S2x8192x256 .f32) (ix3 b y x) := by
  unfold V
  after_reads_at

theorem V_v6 (b : Fin 2) (y : Fin 8192) (x : Fin 256) : (V m c main_v6 : Vec Ideal S2x8192x256 .bf16) (ix3 b y x) = (m ((c : Thread nD τ).loc main_arg8) : Vec Ideal S2x8192x256 .f32) (ix3 b y x) := by
  unfold V
  after_reads_at

theorem V_v7 (b : Fin 2) (y : Fin 8192) (x : Fin 256) : (V m c main_v7 : Vec Ideal S2x8192x256 .bf16) (ix3 b y x) = (m ((c : Thread nD τ).loc main_arg9) : Vec Ideal S2x8192x256 .f32) (ix3 b y x) := by
  unfold V
  after_reads_at

theorem V_v8 (b : Fin 2) (y : Fin 8192) (x : Fin 256) : (V m c main_v8 : Vec Ideal S2x8192x256 .bf16) (ix3 b y x) = (m ((c : Thread nD τ).loc main_arg10) : Vec Ideal S2x8192x256 .f32) (ix3 b y x) := by
  unfold V
  after_reads_at

/-! ## The blocks -/

theorem idx0 : ∀ t : Fin cfg0.N, win0_0.index t (0 : Fin 3) = t.val / 16 ∧ win0_0.index t (1 : Fin 3) = t.val % 16 ∧ win0_0.index t (2 : Fin 3) = 0 := by decide +kernel
theorem idx7 : ∀ t : Fin cfg0.N, win0_7.index t (0 : Fin 3) = t.val / 16 ∧ win0_7.index t (1 : Fin 3) = t.val % 16 ∧ win0_7.index t (2 : Fin 3) = 0 := by decide +kernel
theorem idx8 : ∀ t : Fin cfg0.N, win0_8.index t (0 : Fin 3) = t.val / 16 ∧ win0_8.index t (1 : Fin 3) = t.val % 16 ∧ win0_8.index t (2 : Fin 3) = 0 := by decide +kernel
theorem idx9 : ∀ t : Fin cfg0.N, win0_9.index t (0 : Fin 3) = t.val / 16 ∧ win0_9.index t (1 : Fin 3) = t.val % 16 ∧ win0_9.index t (2 : Fin 3) = 0 := by decide +kernel
theorem idx10 : ∀ t : Fin cfg0.N, win0_10.index t (0 : Fin 3) = t.val / 16 ∧ win0_10.index t (1 : Fin 3) = t.val % 16 ∧ win0_10.index t (2 : Fin 3) = 0 := by decide +kernel
theorem idx11 : ∀ t : Fin cfg0.N, win0_11.index t (0 : Fin 3) = t.val / 16 ∧ win0_11.index t (1 : Fin 3) = t.val % 16 ∧ win0_11.index t (2 : Fin 3) = 0 := by decide +kernel
theorem idx1 : ∀ t : Fin cfg0.N, win0_1.index t (0 : Fin 3) = t.val / 16 ∧ win0_1.index t (1 : Fin 3) = 0 ∧ win0_1.index t (2 : Fin 3) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx6 : ∀ t : Fin cfg0.N, win0_6.index t (0 : Fin 2) = 0 ∧ win0_6.index t (1 : Fin 2) = 0 := by decide +kernel
theorem idx5 : ∀ t : Fin cfg0.N, win0_5.index t (0 : Fin 3) = 0 ∧ win0_5.index t (1 : Fin 3) = 0 ∧ win0_5.index t (2 : Fin 3) = 0 := by decide +kernel

theorem blk0 (t : Fin cfg0.N) (r : Fin 512) (x : Fin 1024) :
    (iblk m c 0 t : Vec Ideal S1x512x1024 .f32) (ix3 0 r x) = (V m c main_arg0 : Vec Ideal S2x8192x1024 .f32) (ix3 (tb t) (ty t r) x) := by
  unfold iblk
  rw [View.read_apply]
  show V m c main_arg0 _ = _
  congr 1
  obtain ⟨h0, h1, h2⟩ := idx0 t
  funext a; apply Fin.ext
  match a with
  | ⟨0, _⟩ => show win0_0.index t (0 : Fin 3) * 1 + 1 * 0 = t.val / 16; rw [h0]; omega
  | ⟨1, _⟩ => show win0_0.index t (1 : Fin 3) * 512 + 1 * r.val = 512 * (t.val % 16) + r.val; rw [h1]; omega
  | ⟨2, _⟩ => show win0_0.index t (2 : Fin 3) * 1024 + 1 * x.val = x.val; rw [h2]; omega

theorem blk1 (t : Fin cfg0.N) (k : Fin 6) (x : Fin 1024) :
    (iblk m c 1 t : Vec Ideal S1x6x1024 .f32) (ix3 0 k x) = (V m c main_v2 : Vec Ideal S2x6x1024 .f32) (ix3 (tb t) k x) := by
  unfold iblk
  rw [View.read_apply]
  show V m c main_v2 _ = _
  congr 1
  obtain ⟨h0, h1, h2⟩ := idx1 t
  funext a; apply Fin.ext
  match a with
  | ⟨0, _⟩ => show win0_1.index t (0 : Fin 3) * 1 + 1 * 0 = t.val / 16; rw [h0]; omega
  | ⟨1, _⟩ => show win0_1.index t (1 : Fin 3) * 6 + 1 * k.val = k.val; rw [h1]; omega
  | ⟨2, _⟩ => show win0_1.index t (2 : Fin 3) * 1024 + 1 * x.val = x.val; rw [h2]; omega

theorem blk2 (t : Fin cfg0.N) (x : Fin 1024) :
    (iblk m c 2 t : Vec Ideal S1x1024 .f32) (ix2 0 x) = (V m c main_v9 : Vec Ideal S1x1024 .f32) (ix2 0 x) := by
  unfold iblk
  rw [View.read_apply]
  show V m c main_v9 _ = _
  congr 1
  obtain ⟨h0, h1⟩ := idx2 t
  funext a; apply Fin.ext
  match a with
  | ⟨0, _⟩ => show win0_2.index t (0 : Fin 2) * 1 + 1 * 0 = 0; rw [h0]
  | ⟨1, _⟩ => show win0_2.index t (1 : Fin 2) * 1024 + 1 * x.val = x.val; rw [h1]; omega

theorem blk3 (t : Fin cfg0.N) (x : Fin 1024) :
    (iblk m c 3 t : Vec Ideal S1x1024 .f32) (ix2 0 x) = (V m c main_v10 : Vec Ideal S1x1024 .f32) (ix2 0 x) := by
  unfold iblk
  rw [View.read_apply]
  show V m c main_v10 _ = _
  congr 1
  obtain ⟨h0, h1⟩ := idx3 t
  funext a; apply Fin.ext
  match a with
  | ⟨0, _⟩ => show win0_3.index t (0 : Fin 2) * 1 + 1 * 0 = 0; rw [h0]
  | ⟨1, _⟩ => show win0_3.index t (1 : Fin 2) * 1024 + 1 * x.val = x.val; rw [h1]; omega

theorem blk4 (t : Fin cfg0.N) (y : Fin 1024) (x : Fin 4096) :
    (iblk m c 4 t : Vec Ideal S1024x4096 .bf16) (ix2 y x) = (V m c main_v1 : Vec Ideal S1024x4096 .bf16) (ix2 y x) := by
  unfold iblk
  rw [View.read_apply]
  show V m c main_v1 _ = _
  congr 1
  obtain ⟨h0, h1⟩ := idx4 t
  funext a; apply Fin.ext
  match a with
  | ⟨0, _⟩ => show win0_4.index t (0 : Fin 2) * 1024 + 1 * y.val = y.val; rw [h0]; omega
  | ⟨1, _⟩ => show win0_4.index t (1 : Fin 2) * 4096 + 1 * x.val = x.val; rw [h1]; omega

theorem blk5 (t : Fin cfg0.N) (n : Fin 4) (y : Fin 256) (x : Fin 1024) :
    (iblk m c 5 t : Vec Ideal S4x256x1024 .bf16) (ix3 n y x) = (V m c main_v3 : Vec Ideal S4x256x1024 .bf16) (ix3 n y x) := by
  unfold iblk
  rw [View.read_apply]
  show V m c main_v3 _ = _
  congr 1
  obtain ⟨h0, h1, h2⟩ := idx5 t
  funext a; apply Fin.ext
  match a with
  | ⟨0, _⟩ => show win0_5.index t (0 : Fin 3) * 4 + 1 * n.val = n.val; rw [h0]; omega
  | ⟨1, _⟩ => show win0_5.index t (1 : Fin 3) * 256 + 1 * y.val = y.val; rw [h1]; omega
  | ⟨2, _⟩ => show win0_5.index t (2 : Fin 3) * 1024 + 1 * x.val = x.val; rw [h2]; omega

theorem blk6 (t : Fin cfg0.N) (y x : Fin 1024) :
    (iblk m c 6 t : Vec Ideal S1024x1024 .bf16) (ix2 y x) = (V m c main_v4 : Vec Ideal S1024x1024 .bf16) (ix2 y x) := by
  unfold iblk
  rw [View.read_apply]
  show V m c main_v4 _ = _
  congr 1
  obtain ⟨h0, h1⟩ := idx6 t
  funext a; apply Fin.ext
  match a with
  | ⟨0, _⟩ => show win0_6.index t (0 : Fin 2) * 1024 + 1 * y.val = y.val; rw [h0]; omega
  | ⟨1, _⟩ => show win0_6.index t (1 : Fin 2) * 1024 + 1 * x.val = x.val; rw [h1]; omega

theorem blk7 (t : Fin cfg0.N) (r : Fin 512) (x : Fin 256) :
    (iblk m c 7 t : Vec Ideal S1x512x256 .bf16) (ix3 0 r x) = (V m c main_v5 : Vec Ideal S2x8192x256 .bf16) (ix3 (tb t) (ty t r) x) := by
  unfold iblk
  rw [View.read_apply]
  show V m c main_v5 _ = _
  congr 1
  obtain ⟨h0, h1, h2⟩ := idx7 t
  funext a; apply Fin.ext
  match a with
  | ⟨0, _⟩ => show win0_7.index t (0 : Fin 3) * 1 + 1 * 0 = t.val / 16; rw [h0]; omega
  | ⟨1, _⟩ => show win0_7.index t (1 : Fin 3) * 512 + 1 * r.val = 512 * (t.val % 16) + r.val; rw [h1]; omega
  | ⟨2, _⟩ => show win0_7.index t (2 : Fin 3) * 256 + 1 * x.val = x.val; rw [h2]; omega

theorem blk8 (t : Fin cfg0.N) (r : Fin 512) (x : Fin 256) :
    (iblk m c 8 t : Vec Ideal S1x512x256 .bf16) (ix3 0 r x) = (V m c main_v6 : Vec Ideal S2x8192x256 .bf16) (ix3 (tb t) (ty t r) x) := by
  unfold iblk
  rw [View.read_apply]
  show V m c main_v6 _ = _
  congr 1
  obtain ⟨h0, h1, h2⟩ := idx8 t
  funext a; apply Fin.ext
  match a with
  | ⟨0, _⟩ => show win0_8.index t (0 : Fin 3) * 1 + 1 * 0 = t.val / 16; rw [h0]; omega
  | ⟨1, _⟩ => show win0_8.index t (1 : Fin 3) * 512 + 1 * r.val = 512 * (t.val % 16) + r.val; rw [h1]; omega
  | ⟨2, _⟩ => show win0_8.index t (2 : Fin 3) * 256 + 1 * x.val = x.val; rw [h2]; omega

theorem blk9 (t : Fin cfg0.N) (r : Fin 512) (x : Fin 256) :
    (iblk m c 9 t : Vec Ideal S1x512x256 .bf16) (ix3 0 r x) = (V m c main_v7 : Vec Ideal S2x8192x256 .bf16) (ix3 (tb t) (ty t r) x) := by
  unfold iblk
  rw [View.read_apply]
  show V m c main_v7 _ = _
  congr 1
  obtain ⟨h0, h1, h2⟩ := idx9 t
  funext a; apply Fin.ext
  match a with
  | ⟨0, _⟩ => show win0_9.index t (0 : Fin 3) * 1 + 1 * 0 = t.val / 16; rw [h0]; omega
  | ⟨1, _⟩ => show win0_9.index t (1 : Fin 3) * 512 + 1 * r.val = 512 * (t.val % 16) + r.val; rw [h1]; omega
  | ⟨2, _⟩ => show win0_9.index t (2 : Fin 3) * 256 + 1 * x.val = x.val; rw [h2]; omega

theorem blk10 (t : Fin cfg0.N) (r : Fin 512) (x : Fin 256) :
    (iblk m c 10 t : Vec Ideal S1x512x256 .bf16) (ix3 0 r x) = (V m c main_v8 : Vec Ideal S2x8192x256 .bf16) (ix3 (tb t) (ty t r) x) := by
  unfold iblk
  rw [View.read_apply]
  show V m c main_v8 _ = _
  congr 1
  obtain ⟨h0, h1, h2⟩ := idx10 t
  funext a; apply Fin.ext
  match a with
  | ⟨0, _⟩ => show win0_10.index t (0 : Fin 3) * 1 + 1 * 0 = t.val / 16; rw [h0]; omega
  | ⟨1, _⟩ => show win0_10.index t (1 : Fin 3) * 512 + 1 * r.val = 512 * (t.val % 16) + r.val; rw [h1]; omega
  | ⟨2, _⟩ => show win0_10.index t (2 : Fin 3) * 256 + 1 * x.val = x.val; rw [h2]; omega

/-! ## The result -/

/-- Row y of batch b of the merge, at the arguments. -/
def rowM (b : Fin 2) (y : Fin 8192) (d : Fin 1024) : EReal :=
  mergeR (fun k => (m ((c : Thread nD τ).loc main_arg0) : Vec Ideal S2x8192x1024 .f32) (ix3 b y k))
          (fun k => (m ((c : Thread nD τ).loc main_arg2) : Vec Ideal S1024 .f32) (ix1 k))
          (fun k => (m ((c : Thread nD τ).loc main_arg1) : Vec Ideal S2x6144 .f32) (ix2 b ⟨1024 + k.val, by omega⟩))
          (fun k => (m ((c : Thread nD τ).loc main_arg1) : Vec Ideal S2x6144 .f32) (ix2 b ⟨k.val, by omega⟩))
          (fun k => (m ((c : Thread nD τ).loc main_arg3) : Vec Ideal S1024 .f32) (ix1 k))
          (fun k => (m ((c : Thread nD τ).loc main_arg1) : Vec Ideal S2x6144 .f32) (ix2 b ⟨2048 + k.val, by omega⟩))
          (fun n k d => (m ((c : Thread nD τ).loc main_arg4) : Vec Ideal S1024x6944 .f32) (ix2 k ⟨2848 + (n.val * 1024 + d.val), by omega⟩))
          (fun n => ![fun l => (m ((c : Thread nD τ).loc main_arg7) : Vec Ideal S2x8192x256 .f32) (ix3 b y l), fun l => (m ((c : Thread nD τ).loc main_arg8) : Vec Ideal S2x8192x256 .f32) (ix3 b y l),
            fun l => (m ((c : Thread nD τ).loc main_arg9) : Vec Ideal S2x8192x256 .f32) (ix3 b y l), fun l => (m ((c : Thread nD τ).loc main_arg10) : Vec Ideal S2x8192x256 .f32) (ix3 b y l)] n)
          (fun n k d => (m ((c : Thread nD τ).loc main_arg5) : Vec Ideal S4x256x1024 .f32) (ix3 n k d))
          (fun k d => (m ((c : Thread nD τ).loc main_arg6) : Vec Ideal S1024x1024 .f32) (ix2 k d)) d

/-- Every row of the block that point t leaves. -/
theorem point_apply (t : Fin cfg0.N) (r : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r d)
      = rowM m c (tb t) (ty t r) d := by
  refine (out_apply _ _ _ _ _ _ _ _ _ _ _ r d).trans ?_
  have e0 := fun x => blk0 m c t r x
  rw [V_main_arg0] at e0
  have e7 := fun x => (blk7 m c t r x).trans (V_v5 m c _ _ _)
  have e8 := fun x => (blk8 m c t r x).trans (V_v6 m c _ _ _)
  have e9 := fun x => (blk9 m c t r x).trans (V_v7 m c _ _ _)
  have e10 := fun x => (blk10 m c t r x).trans (V_v8 m c _ _ _)
  have e1 := fun k x => (blk1 m c t k x).trans (V_v2 m c _ _ _)
  have e2 := fun x => (blk2 m c t x).trans (V_v9 m c _)
  have e3 := fun x => (blk3 m c t x).trans (V_v10 m c _)
  have e4 := fun y x => (blk4 m c t y x).trans (V_v1 m c _ _)
  have e5 := fun n y x => (blk5 m c t n y x).trans (V_v3 m c _ _ _)
  have e6 := fun y x => (blk6 m c t y x).trans (V_v4 m c _ _)
  simp only [e0, e1, e2, e3, e4, e5, e6, e7, e8, e9, e10]
  unfold rowM
  congr 1
  · funext k; congr 2; apply Fin.ext; show 0 * 1024 + k.val = k.val; omega
  · funext n k d
    refine congrArg (fun z : Fin 6944 => (m ((c : Thread nD τ).loc main_arg4) : Vec Ideal S1024x6944 .f32) (ix2 k z)) (Fin.ext ?_)
    show 2848 + (1024 * n.val + d.val) = 2848 + (n.val * 1024 + d.val)
    rw [Nat.mul_comm]

theorem flush11 : ∀ t : Fin cfg0.N, (cfg0.win 11).flush t = true := by decide +kernel

theorem result_at (t : Fin cfg0.N) (r : Fin 512) (d : Fin 1024) :
    ((dats m 0 c).arrAt 11 cfg0.N : Vec Ideal S2x8192x1024 .f32) (ix3 (tb t) (ty t r) d) = rowM m c (tb t) (ty t r) d := by
  have h := congrFun ((blocks11 m c t (flush11 t)).trans (flushed11 m c t)) (ix3 (0 : Fin 1) r d)
  rw [View.read_apply] at h
  refine Eq.trans (congrArg ((dats m 0 c).arrAt 11 cfg0.N : Vec Ideal S2x8192x1024 .f32) ?_) (h.trans (Eq.trans (congrArg (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) ?_) (point_apply m c t r d)))
  · obtain ⟨h0, h1, h2⟩ := idx11 t
    funext a; apply Fin.ext
    match a with
    | ⟨0, _⟩ => show t.val / 16 = win0_11.index t (0 : Fin 3) * 1 + 1 * 0; rw [h0]; omega
    | ⟨1, _⟩ => show 512 * (t.val % 16) + r.val = win0_11.index t (1 : Fin 3) * 512 + 1 * r.val; rw [h1]; omega
    | ⟨2, _⟩ => show d.val = win0_11.index t (2 : Fin 3) * 1024 + 1 * d.val; rw [h2]; omega
  · funext a; apply Fin.ext
    match a with
    | ⟨0, _⟩ => rfl
    | ⟨1, _⟩ => rfl
    | ⟨2, _⟩ => rfl

/-- Every row of the result array. -/
theorem result_apply (b : Fin 2) (y : Fin 8192) (d : Fin 1024) :
    ((dats m 0 c).arrAt 11 cfg0.N : Vec Ideal S2x8192x1024 .f32) (ix3 b y d) = rowM m c b y d := by
  have hN : 16 * b.val + y.val / 512 < cfg0.N := lt_of_lt_of_eq (by omega) N_0.symm
  have h := result_at m c ⟨16 * b.val + y.val / 512, hN⟩ ⟨y.val % 512, by omega⟩ d
  have eb : tb ⟨16 * b.val + y.val / 512, hN⟩ = b := Fin.ext (by show (16 * b.val + y.val / 512) / 16 = b.val; omega)
  have ey : ty ⟨16 * b.val + y.val / 512, hN⟩ ⟨y.val % 512, by omega⟩ = y := Fin.ext (by show 512 * ((16 * b.val + y.val / 512) % 16) + y.val % 512 = y.val; omega)
  rw [eb, ey] at h
  exact h

end Cert.Kernel2Ideal.Hand

end
-- ==== Proof.MergeRef.lean ====
/-
  The merge's reference, read at an index over the extended reals: every row of its result is the merge's row.
-/
module

public import proofs.«01_k».proof.Proof.Gen.Reference2Ideal.Run
public import proofs.«01_k».proof.Proof.RowSpec
public import Idealize.ShloMosaic.Lib.Pipeline.ValueKit.Tiles
public import Idealize.ShloMosaic.Lib.StableHlo.ReadAt

@[expose] public section

set_option maxRecDepth 16384

noncomputable section

namespace Cert.Reference2Ideal.Hand

open Idealize.ShloMosaic Idealize.ShloMosaic.TcCoe Idealize.ShloMosaic.Tactic
open Cert.Reference2Ideal Cert.Reference2Ideal.Gen Cert.Reference2Ideal.Value Cert.RowSpec

variable (m : (ℓ : Loc nD τ sig) → Buf (Elt Ideal) ℓ) (c : Dev nD)

/-- The normalized input, the merged branches and their projection, as the reference's lines compute them. -/
def hT : FVec Ideal S2x8192x1024 .f32 := addf (mulf (mulf (mulf (m ((c.tc : Thread nD τ).loc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (m ((c.tc : Thread nD τ).loc main_arg0)) (m ((c.tc : Thread nD τ).loc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (m ((c.tc : Thread nD τ).loc main_arg2))))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 (m ((c.tc : Thread nD τ).loc main_arg1))) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 (m ((c.tc : Thread nD τ).loc main_arg1))) slices_S2x1x6144_S2x1x1024_0_0_0))
def mT : FVec Ideal S2x8192x1024 .f32 := Host.reduceAdd (mulf (Host.divf (broadcastInDim S2x8192x4x1024 ![] bcast_S_S2x8192x4x1024 (constant S_ .f32 0x3F800000#32)) (addf (broadcastInDim S2x8192x4x1024 ![] bcast_S_S2x8192x4x1024 (constant S_ .f32 0x3F800000#32)) (Host.exp (Host.negf (shapeCast _ (extractStridedSlice S2x8192x4096 ![0, 0, 2848] (Host.dotGeneral (φ₁ := .f32) (φ₂ := .f32) dot_S2x8192x1024_S1024x6944_S2x8192x6944_2_0_01_1_n_n none (hT m c) (m ((c.tc : Thread nD τ).loc main_arg4))) slices_S2x8192x6944_S2x8192x4096_0_0_2848) shapeCasts_S2x8192x4096_S2x8192x4x1024))))) (transpose S2x8192x4x1024 [2, 3, 0, 1] (Host.dotGeneral (φ₁ := .f32) (φ₂ := .f32) dot_S4x256x1024_S2x8192x4x256_S4x1024x2x8192_1_3_2_01_0_2 none (m ((c.tc : Thread nD τ).loc main_arg5)) ((concatenate S2x8192x4x256 2 [⟨S2x8192x1x256, ((broadcastInDim S2x8192x1x256 ![0, 1, 3] bcast_S2x8192x256_S2x8192x1x256_0_1_3 (m ((c.tc : Thread nD τ).loc main_arg7))) : (⟨S2x8192x1x256, .f32⟩ : BufTy).Contents (Elt Ideal))⟩, ⟨S2x8192x1x256, ((broadcastInDim S2x8192x1x256 ![0, 1, 3] bcast_S2x8192x256_S2x8192x1x256_0_1_3 (m ((c.tc : Thread nD τ).loc main_arg8))) : (⟨S2x8192x1x256, .f32⟩ : BufTy).Contents (Elt Ideal))⟩, ⟨S2x8192x1x256, ((broadcastInDim S2x8192x1x256 ![0, 1, 3] bcast_S2x8192x256_S2x8192x1x256_0_1_3 (m ((c.tc : Thread nD τ).loc main_arg9))) : (⟨S2x8192x1x256, .f32⟩ : BufTy).Contents (Elt Ideal))⟩, ⟨S2x8192x1x256, ((broadcastInDim S2x8192x1x256 ![0, 1, 3] bcast_S2x8192x256_S2x8192x1x256_0_1_3 (m ((c.tc : Thread nD τ).loc main_arg10))) : (⟨S2x8192x1x256, .f32⟩ : BufTy).Contents (Elt Ideal))⟩] concatenates_S2x8192x1x256_S2x8192x1x256_S2x8192x1x256_S2x8192x1x256_S2x8192x4x256_d2 : (⟨S2x8192x4x256, .f32⟩ : BufTy).Contents (Elt Ideal)))) transposes_S4x1024x2x8192_S2x8192x4x1024_2_3_0_1)) (constant S_ .f32 0x00000000#32) reducesTo_S2x8192x4x1024_S2x8192x1024_d2 h_S_
def yT : FVec Ideal S2x8192x1024 .f32 := Host.dotGeneral (φ₁ := .f32) (φ₂ := .f32) dot_S2x8192x1024_S1024x1024_S2x8192x1024_2_0_01_1_n_n none (mT m c) (m ((c.tc : Thread nD τ).loc main_arg6))

theorem res_eq : res_main_v60 m c = addf (m ((c.tc : Thread nD τ).loc main_arg0)) (mulf (broadcastInDim S2x8192x1024 ![0, 1, 2] bcast_S2x1x1024_S2x8192x1024_0_1_2 (extractStridedSlice S2x1x1024 ![0, 0, 2048] (broadcastInDim S2x1x6144 ![0, 2] bcast_S2x6144_S2x1x6144_0_2 (m ((c.tc : Thread nD τ).loc main_arg1))) slices_S2x1x6144_S2x1x1024_0_0_2048)) (mulf (mulf (yT m c) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (yT m c) (yT m c)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (m ((c.tc : Thread nD τ).loc main_arg3)))))) := rfl

def aM (b : Fin 2) (y : Fin 8192) (k : Fin 1024) : EReal := (m ((c : Thread nD τ).loc main_arg0) : Vec Ideal S2x8192x1024 .f32) (ix3 b y k)
def modM (b : Fin 2) (y : Fin 6144) : EReal := (m ((c : Thread nD τ).loc main_arg1) : Vec Ideal S2x6144 .f32) (ix2 b y)
def hM (b : Fin 2) (y : Fin 8192) : Fin 1024 → EReal :=
  modR (aM m c b y) (fun k => (m ((c : Thread nD τ).loc main_arg2) : Vec Ideal S1024 .f32) (ix1 k)) (fun k => modM m c b ⟨1024 + k.val, by omega⟩) (fun k => modM m c b ⟨k.val, by omega⟩)
def oM (b : Fin 2) (y : Fin 8192) (n : Fin 4) : Fin 256 → EReal :=
  ![fun l => (m ((c : Thread nD τ).loc main_arg7) : Vec Ideal S2x8192x256 .f32) (ix3 b y l), fun l => (m ((c : Thread nD τ).loc main_arg8) : Vec Ideal S2x8192x256 .f32) (ix3 b y l),
    fun l => (m ((c : Thread nD τ).loc main_arg9) : Vec Ideal S2x8192x256 .f32) (ix3 b y l), fun l => (m ((c : Thread nD τ).loc main_arg10) : Vec Ideal S2x8192x256 .f32) (ix3 b y l)] n
def wgM (n : Fin 4) (k d : Fin 1024) : EReal := (m ((c : Thread nD τ).loc main_arg4) : Vec Ideal S1024x6944 .f32) (ix2 k ⟨2848 + (n.val * 1024 + d.val), by omega⟩)
def wbM (n : Fin 4) (k : Fin 256) (d : Fin 1024) : EReal := (m ((c : Thread nD τ).loc main_arg5) : Vec Ideal S4x256x1024 .f32) (ix3 n k d)

theorem hT_apply (b : Fin 2) (y : Fin 8192) (d : Fin 1024) : hT m c (ix3 b y d) = hM m c b y d := by
  pointwise [hT]
  rfl

theorem mT_apply (b : Fin 2) (y : Fin 8192) (d : Fin 1024) : mT m c (ix3 b y d) = mergedR (hM m c b y) (wgM m c) (oM m c b y) (wbM m c) d := by
  pointwise [mT, fn_main_v32]
  have e : ∀ n : Fin 4, brR (hM m c b y) (fun k => wgM m c n k d) (oM m c b y n) (fun k => wbM m c n k d)
      = Ideal.logistic (∑ k : Fin 1024, hM m c b y k * wgM m c n k d) * ∑ k : Fin 256, wbM m c n k d * oM m c b y n k := fun n => by
    unfold brR
    congr 1
    exact Finset.sum_congr rfl fun k _ => mul_comm _ _
  unfold mergedR
  rw [e 0, e 1, e 2, e 3]
  refine (Fin.sum_univ_four (M := EReal) _).trans ?_
  simp only [hT_apply]
  rfl

theorem yT_apply (b : Fin 2) (y : Fin 8192) (d : Fin 1024) :
    yT m c (ix3 b y d) = (∑ k : Fin 1024, mergedR (hM m c b y) (wgM m c) (oM m c b y) (wbM m c) k * (m ((c : Thread nD τ).loc main_arg6) : Vec Ideal S1024x1024 .f32) (ix2 k d) : EReal) := by
  pointwise [yT]
  simp only [mT_apply]

/-- Row y of batch b of the merge, at the arguments. -/
def rowM (b : Fin 2) (y : Fin 8192) (d : Fin 1024) : EReal :=
  mergeR (fun k => (m ((c : Thread nD τ).loc main_arg0) : Vec Ideal S2x8192x1024 .f32) (ix3 b y k))
          (fun k => (m ((c : Thread nD τ).loc main_arg2) : Vec Ideal S1024 .f32) (ix1 k))
          (fun k => (m ((c : Thread nD τ).loc main_arg1) : Vec Ideal S2x6144 .f32) (ix2 b ⟨1024 + k.val, by omega⟩))
          (fun k => (m ((c : Thread nD τ).loc main_arg1) : Vec Ideal S2x6144 .f32) (ix2 b ⟨k.val, by omega⟩))
          (fun k => (m ((c : Thread nD τ).loc main_arg3) : Vec Ideal S1024 .f32) (ix1 k))
          (fun k => (m ((c : Thread nD τ).loc main_arg1) : Vec Ideal S2x6144 .f32) (ix2 b ⟨2048 + k.val, by omega⟩))
          (fun n k d => (m ((c : Thread nD τ).loc main_arg4) : Vec Ideal S1024x6944 .f32) (ix2 k ⟨2848 + (n.val * 1024 + d.val), by omega⟩))
          (fun n => ![fun l => (m ((c : Thread nD τ).loc main_arg7) : Vec Ideal S2x8192x256 .f32) (ix3 b y l), fun l => (m ((c : Thread nD τ).loc main_arg8) : Vec Ideal S2x8192x256 .f32) (ix3 b y l),
            fun l => (m ((c : Thread nD τ).loc main_arg9) : Vec Ideal S2x8192x256 .f32) (ix3 b y l), fun l => (m ((c : Thread nD τ).loc main_arg10) : Vec Ideal S2x8192x256 .f32) (ix3 b y l)] n)
          (fun n k d => (m ((c : Thread nD τ).loc main_arg5) : Vec Ideal S4x256x1024 .f32) (ix3 n k d))
          (fun k d => (m ((c : Thread nD τ).loc main_arg6) : Vec Ideal S1024x1024 .f32) (ix2 k d)) d

theorem res_apply (b : Fin 2) (y : Fin 8192) (d : Fin 1024) :
    (res_main_v60 m c : Vec Ideal S2x8192x1024 .f32) (ix3 b y d) = rowM m c b y d := by
  rw [res_eq]
  pointwise []
  simp only [yT_apply]
  rfl

end Cert.Reference2Ideal.Hand

end
-- ==== Proof.MergeClaim.lean ====
/-
  The conjuncts of the claim about the branch merge: the reference's run leaves its arguments as they were, and the two
  programs end with the same array.
-/
module

public import proofs.«01_k».proof.Defs
public import proofs.«01_k».proof.Proof.MergeRun
public import proofs.«01_k».proof.Proof.MergeRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_merge_reference : Cert.quiescent_Reference2Ideal := fun m g _ =>
  (θ_run Cert.Reference2Ideal.defs _ _).mono (fun r h => ⟨fun c => (h c).2, sem_eq_zero_of_no_sems (by decide) r.2⟩) (Cert.Reference2Ideal.Value.run (F := Ideal) m g)

/-- The two results are one array: every row of both is the merge's row at the same arguments. -/
theorem algebraic_merge : Cert.algebraic_Kernel2Ideal_Reference2Ideal := by
  intro m g m' g' _ hagree
  refine ⟨_, Cert.Kernel2Ideal.Value.run_blocks (F := Ideal) m g, ?_⟩
  refine (θ_run Cert.Reference2Ideal.defs _ _).mono (fun r h c => ⟨(h c).1.trans ?_, (h c).2⟩) (Cert.Reference2Ideal.Value.run (F := Ideal) m' g')
  obtain ⟨h0, h1, h2, h3, h4, h5, h6, h7, h8, h9, h10⟩ := hagree c
  funext i
  obtain ⟨b, y, x, rfl⟩ : ∃ (b : Fin 2) (y : Fin 8192) (x : Fin 1024), i = ix3 b y x := ⟨i 0, i 1, i 2, by funext a; match a with | ⟨0, _⟩ => rfl | ⟨1, _⟩ => rfl | ⟨2, _⟩ => rfl⟩
  refine (Cert.Reference2Ideal.Hand.res_apply m' c b y x).trans (Eq.trans ?_ (Cert.Kernel2Ideal.Hand.result_apply m c b y x).symm)
  unfold Cert.Reference2Ideal.Hand.rowM Cert.Kernel2Ideal.Hand.rowM
  rw [h0, h1, h2, h3, h4, h5, h6, h7, h8, h9, h10]

end Cert.Proof

end
-- ==== Proof.FfnPieces.lean ====
/-
  The stores of one point of the ConvFFN kernel, named: eleven column tiles of the activation, then the output block.
-/
module

public import proofs.«01_k».proof.Proof.Gen.Kernel3Ideal.Value
public import proofs.«01_k».proof.Proof.RowSpec
public import Idealize.ShloMosaic.Lib.Pipeline.ValueKit.Tiles
public import Idealize.ShloMosaic.Lib.Pipeline.ReadBack

@[expose] public section

set_option maxRecDepth 65536

noncomputable section

namespace Cert.Kernel3Ideal.Hand

open Idealize.ShloMosaic Idealize.ShloMosaic.TcCoe Idealize.ShloMosaic.Tactic
open Cert.Kernel3Ideal Cert.Kernel3Ideal.Gen

variable {F : FTy → Type} [FloatOps F]

/-- The normalized and modulated rows of a block and its halo, with zeros on the halo rows outside the sequence. -/
def hT (arg1 : BitVec 32) (x0 : Vec F S1x512x1024 .f32) (x1 x2 : Vec F S1x8x1024 .f32) (x4 : Vec F S1x1024 .f32) (x3 : Vec F S1x6x1024 .f32) : FVec F S528x1024 .bf16 :=
  k0_pay5 arg1 (k0_pay3 x0 x1 x2 x4 (View.ld (Val := Elt F) x3 (Rect.unit (s := S1x6x1024) ![0, 4, 0] S1x1x1024.size inb_S1x6x1024_S1x1x1024_0_4_0)) (View.ld (Val := Elt F) x3 (Rect.unit (s := S1x6x1024) ![0, 3, 0] S1x1x1024.size inb_S1x6x1024_S1x1x1024_0_3_0)))
    (iota .tc S528x1024 32 [0] iota_S528x1024_d0_w32) k0_pay4 (Scalar.cmpi .sgt arg1 0#32)

/-- 256 columns of the depthwise convolution along the rows. -/
def colT (h : FVec F S528x1024 .bf16) (w : Vec F S1024x256 .bf16) (c0 c1 c2 b : Vec F S1x256 .f32) : FVec F S512x256 .f32 :=
  k0_pay8 h (iota .tc S64x8x256 32 [1] iota_S64x8x256_d1_w32) w c0 c1 c2 b

/-- 256 columns of the gated activation. -/
def actT (g v : FVec F S512x256 .f32) : FVec F S512x256 .bf16 := k0_pay10 g v (mulf g g)

theorem inb_col {m n : ℕ} (k o : ℕ) (hk : k + m ≤ n) (ho : o + 256 ≤ 5632) : ∀ a, (![k, o] : Fin 2 → Nat) a + (![m, 256] : Fin 2 → Nat) a ≤ (![n, 5632] : Fin 2 → Nat) a :=
  Fin.forall_fin_two.2 ⟨hk, ho⟩

/-- The 256 columns of the convolution from column o. -/
def colAt (h : FVec F S528x1024 .bf16) (x6 : Vec F S1024x5632 .bf16) (x7 : Vec F S3x5632 .f32) (x8 : Vec F S1x5632 .f32) (o : ℕ) (ho : o + 256 ≤ 5632) : FVec F S512x256 .f32 :=
  colT h (View.ld (Val := Elt F) x6 (Rect.unit (s := S1024x5632) ![0, o] S1024x256.size (inb_col 0 o (by decide) ho)))
    (View.ld (Val := Elt F) x7 (Rect.unit (s := S3x5632) ![0, o] S1x256.size (inb_col 0 o (by decide) ho)))
    (View.ld (Val := Elt F) x7 (Rect.unit (s := S3x5632) ![1, o] S1x256.size (inb_col 1 o (by decide) ho)))
    (View.ld (Val := Elt F) x7 (Rect.unit (s := S3x5632) ![2, o] S1x256.size (inb_col 2 o (by decide) ho)))
    (View.ld (Val := Elt F) x8 (Rect.unit (s := S1x5632) ![0, o] S1x256.size (inb_col 0 o (by decide) ho)))

/-- The 256 columns of the gated activation from column o. -/
def act (h : FVec F S528x1024 .bf16) (x6 : Vec F S1024x5632 .bf16) (x7 : Vec F S3x5632 .f32) (x8 : Vec F S1x5632 .f32) (o : ℕ) (ho : o + 256 ≤ 2816) : FVec F S512x256 .bf16 :=
  actT (colAt h x6 x7 x8 o (by omega)) (colAt h x6 x7 x8 (2816 + o) (by omega))

/-- The stores into the activation buffer, last first. -/
def actPieces (h : FVec F S528x1024 .bf16) (x6 : Vec F S1024x5632 .bf16) (x7 : Vec F S3x5632 .f32) (x8 : Vec F S1x5632 .f32) : List (View.Piece (Elt F) S512x2816 .bf16) :=
  [⟨Rect.unit (s := S512x2816) ![0, 2560] S512x256.size inb_S512x2816_S512x256_0_2560, act h x6 x7 x8 2560 (by decide)⟩,
   ⟨Rect.unit (s := S512x2816) ![0, 2304] S512x256.size inb_S512x2816_S512x256_0_2304, act h x6 x7 x8 2304 (by decide)⟩,
   ⟨Rect.unit (s := S512x2816) ![0, 2048] S512x256.size inb_S512x2816_S512x256_0_2048, act h x6 x7 x8 2048 (by decide)⟩,
   ⟨Rect.unit (s := S512x2816) ![0, 1792] S512x256.size inb_S512x2816_S512x256_0_1792, act h x6 x7 x8 1792 (by decide)⟩,
   ⟨Rect.unit (s := S512x2816) ![0, 1536] S512x256.size inb_S512x2816_S512x256_0_1536, act h x6 x7 x8 1536 (by decide)⟩,
   ⟨Rect.unit (s := S512x2816) ![0, 1280] S512x256.size inb_S512x2816_S512x256_0_1280, act h x6 x7 x8 1280 (by decide)⟩,
   ⟨Rect.unit (s := S512x2816) ![0, 1024] S512x256.size inb_S512x2816_S512x256_0_1024, act h x6 x7 x8 1024 (by decide)⟩,
   ⟨Rect.unit (s := S512x2816) ![0, 768] S512x256.size inb_S512x2816_S512x256_0_768, act h x6 x7 x8 768 (by decide)⟩,
   ⟨Rect.unit (s := S512x2816) ![0, 512] S512x256.size inb_S512x2816_S512x256_0_512, act h x6 x7 x8 512 (by decide)⟩,
   ⟨Rect.unit (s := S512x2816) ![0, 256] S512x256.size inb_S512x2816_S512x256_0_256, act h x6 x7 x8 256 (by decide)⟩,
   ⟨Rect.unit (s := S512x2816) ![0, 0] S512x256.size inb_S512x2816_S512x256_0_0, act h x6 x7 x8 0 (by decide)⟩]

/-- What a body reads back of a whole array that holds x. -/
abbrev ra {s : Shape} {e : EltTy} {o : Fin s.rank → Nat} (a : Memref sig .tc .vmem s e) (h : a.IsWhole) (inb : ∀ b, o b + s.size b ≤ s.size b) (x : Vec F s e) : Vec F s e :=
  View.ld (Val := Elt F) (e' := e) (a.view.read (Elt F) (h.unread x)) (Rect.unit (s := s) o s.size inb)

theorem rd {s : Shape} {e : EltTy} {o : Fin s.rank → Nat} (a : Memref sig .tc .vmem s e) (h : a.IsWhole) (inb : ∀ b, o b + s.size b ≤ s.size b) (ho : o = fun _ => 0) (x : Vec F s e) : ra a h inb x = x :=
  (congrArg (fun z => View.ld (Val := Elt F) (e' := e) z (Rect.unit (s := s) o s.size inb)) (h.read_unread x)).trans (View.ld_unit_zero ho _ _)

section point

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S512x2816 .bf16) (harg13 : arg13.IsWhole)
  (x0 : Vec F S1x512x1024 .f32) (x1 : Vec F S1x8x1024 .f32) (x2 : Vec F S1x8x1024 .f32) (x3 : Vec F S1x6x1024 .f32) (x4 : Vec F S1x1024 .f32) (x5 : Vec F S1x1024 .f32) (x6 : Vec F S1024x5632 .bf16) (x7 : Vec F S3x5632 .f32) (x8 : Vec F S1x5632 .f32) (x9 : Vec F S2816x1024 .bf16)

theorem rawStores :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1 = actPieces (hT (BitVec.ofNat 32 (i 1).val) (ra arg2 harg2 inb_S1x512x1024_S1x512x1024_0_0_0 x0) (ra arg3 harg3 inb_S1x8x1024_S1x8x1024_0_0_0 x1) (ra arg4 harg4 inb_S1x8x1024_S1x8x1024_0_0_0 x2) (ra arg6 harg6 inb_S1x1024_S1x1024_0_0 x4) (arg5.view.read (Elt F) (harg5.unread x3))) (arg8.view.read (Elt F) (harg8.unread x6)) (arg9.view.read (Elt F) (harg9.unread x7)) (arg10.view.read (Elt F) (harg10.unread x8)) := by rfl

/-- The stores into the output block. -/
def outPieces (x0 : Vec F S1x512x1024 .f32) (x3 : Vec F S1x6x1024 .f32) (x5 : Vec F S1x1024 .f32) (x9 : Vec F S2816x1024 .bf16) (a : Vec F S512x2816 .bf16) : List (View.Piece (Elt F) S1x512x1024 .f32) :=
  [⟨Rect.unit (s := S1x512x1024) ![0, 0, 0] S1x512x1024.size inb_S1x512x1024_S1x512x1024_0_0_0, k0_pay1 (k0_pay93 (k0_pay2 x0) a x9 (View.ld (Val := Elt F) x3 (Rect.unit (s := S1x6x1024) ![0, 5, 0] S1x1x1024.size inb_S1x6x1024_S1x1x1024_0_5_0)) x5)⟩]

theorem rawOut :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 = outPieces (ra arg2 harg2 inb_S1x512x1024_S1x512x1024_0_0_0 x0) (arg5.view.read (Elt F) (harg5.unread x3)) (ra arg7 harg7 inb_S1x1024_S1x1024_0_0 x5) (ra arg11 harg11 inb_S2816x1024_S2816x1024_0_0 x9)
      (View.readCov arg13.view (actPieces (hT (BitVec.ofNat 32 (i 1).val) (ra arg2 harg2 inb_S1x512x1024_S1x512x1024_0_0_0 x0) (ra arg3 harg3 inb_S1x8x1024_S1x8x1024_0_0_0 x1) (ra arg4 harg4 inb_S1x8x1024_S1x8x1024_0_0_0 x2) (ra arg6 harg6 inb_S1x1024_S1x1024_0_0 x4) (arg5.view.read (Elt F) (harg5.unread x3))) (arg8.view.read (Elt F) (harg8.unread x6)) (arg9.view.read (Elt F) (harg9.unread x7)) (arg10.view.read (Elt F) (harg10.unread x8))) (Rect.unit (s := S512x2816) ![0, 0] S512x2816.size inb_S512x2816_S512x2816_0_0).toLoadRect) := by rfl

theorem stores_canon (v : View sig .tc .vmem S512x2816 .bf16) (L : List (View.Piece (Elt F) S512x2816 .bf16)) :
    View.readCov v L (Rect.unit (s := S512x2816) ![0, 0] S512x2816.size inb_S512x2816_S512x2816_0_0).toLoadRect = View.canon L := by
  rw [View.readCov_eq_canon']
  exact View.ld_unit_zero (by decide) _ _

/-- The block that one point leaves, from the blocks it reads. -/
theorem out_eq :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay1 (k0_pay93 (k0_pay2 x0) (View.canon (actPieces (hT (BitVec.ofNat 32 (i 1).val) x0 x1 x2 x4 x3) x6 x7 x8)) x9 (View.ld (Val := Elt F) x3 (Rect.unit (s := S1x6x1024) ![0, 5, 0] S1x1x1024.size inb_S1x6x1024_S1x1x1024_0_5_0)) x5) := by
  have e0 : (ra arg2 harg2 inb_S1x512x1024_S1x512x1024_0_0_0 x0) = x0 := rd arg2 harg2 inb_S1x512x1024_S1x512x1024_0_0_0 (by decide) x0
  have e1 : (ra arg3 harg3 inb_S1x8x1024_S1x8x1024_0_0_0 x1) = x1 := rd arg3 harg3 inb_S1x8x1024_S1x8x1024_0_0_0 (by decide) x1
  have e2 : (ra arg4 harg4 inb_S1x8x1024_S1x8x1024_0_0_0 x2) = x2 := rd arg4 harg4 inb_S1x8x1024_S1x8x1024_0_0_0 (by decide) x2
  have e4 : (ra arg6 harg6 inb_S1x1024_S1x1024_0_0 x4) = x4 := rd arg6 harg6 inb_S1x1024_S1x1024_0_0 (by decide) x4
  have e5 : (ra arg7 harg7 inb_S1x1024_S1x1024_0_0 x5) = x5 := rd arg7 harg7 inb_S1x1024_S1x1024_0_0 (by decide) x5
  have e9 : (ra arg11 harg11 inb_S2816x1024_S2816x1024_0_0 x9) = x9 := rd arg11 harg11 inb_S2816x1024_S2816x1024_0_0 (by decide) x9
  unfold out0_A_10
  rw [rawOut, stores_canon, e0, e1, e2, e4, e5, e9, harg5.read_unread, harg8.read_unread, harg9.read_unread, harg10.read_unread]
  rw [View.read_writes_junk_eq_canon]
  exact View.canon_unit_zero (by decide) _ _

end point

end Cert.Kernel3Ideal.Hand

end
-- ==== Proof.FfnSpec.lean ====
/-
  A row of the layer's convolutional feed-forward network as a function over the extended reals, from all the rows of
  its sequence: what the kernel's blocks and the reference's lines both compute.
-/
module

public import proofs.«01_k».proof.Proof.RowSpec

@[expose] public section

noncomputable section

namespace Cert.RowSpec

open Idealize.ShloMosaic

/-- The gated linear unit's gate, with the tanh form of the error function. -/
def geluR (g : EReal) : EReal :=
  g * (Ideal.ofBits .f32 0x3F000000#32 * (1 + Ideal.tanh (Ideal.ofBits .f32 0x3F4C422A#32 * (g + Ideal.ofBits .f32 0x3D372713#32 * (g * (g * g))))))

/-- Three taps and a bias. -/
def tapR (a0 a1 a2 c0 c1 c2 b : EReal) : EReal := a0 * c0 + a1 * c1 + a2 * c2 + b

/-- Column j of the widened rows of a sequence, with one row of zeros before the first and after the last. -/
def padR {L : ℕ} (H : Fin L → Fin 1024 → EReal) (wu : Fin 1024 → Fin 5632 → EReal) (e : ℕ) (j : Fin 5632) : EReal :=
  if h : 1 ≤ e ∧ e < L + 1 then ∑ k : Fin 1024, H ⟨e - 1, by omega⟩ k * wu k j else 0

/-- The convolution along the rows, at row s. -/
def convR {L : ℕ} (H : Fin L → Fin 1024 → EReal) (wu : Fin 1024 → Fin 5632 → EReal) (cw : Fin 3 → Fin 5632 → EReal) (cb : Fin 5632 → EReal) (s : ℕ) (j : Fin 5632) : EReal :=
  tapR (padR H wu s j) (padR H wu (s + 1) j) (padR H wu (s + 2) j) (cw 0 j) (cw 1 j) (cw 2 j) (cb j)

/-- The gate of column j times the value beside it. -/
def gluR (v : Fin 5632 → EReal) (j : Fin 2816) : EReal := geluR (v ⟨j.val, by omega⟩) * v ⟨2816 + j.val, by omega⟩

/-- The row that the network leaves. -/
def ffnR {L : ℕ} (X : Fin L → Fin 1024 → EReal) (np sc sh np2 gt : Fin 1024 → EReal) (wu : Fin 1024 → Fin 5632 → EReal) (cw : Fin 3 → Fin 5632 → EReal) (cb : Fin 5632 → EReal)
    (wd : Fin 2816 → Fin 1024 → EReal) (s : Fin L) : Fin 1024 → EReal :=
  resR (X s) (fun d => ∑ j : Fin 2816, gluR (convR (fun y => modR (X y) np sc sh) wu cw cb s.val) j * wd j d) np2 gt

end Cert.RowSpec

end
-- ==== Proof.FfnBlock.lean ====
/-
  One block of the ConvFFN kernel, read at an index over the extended reals.
-/
module

public import proofs.«01_k».proof.Proof.FfnPieces
public import proofs.«01_k».proof.Proof.FfnSpec
public import Idealize.ShloMosaic.Lib.WordCmp
public import Idealize.ShloMosaic.Lib.Pointwise

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen Cert.RowSpec

/-! ## One tile of columns -/

/-- Column d of extended row e. -/
def dotK {n : ℕ} (h : FVec Ideal S528x1024 .bf16) (w : Fin 1024 → Fin n → EReal) (e : Fin 528) (d : Fin n) : EReal := ∑ k : Fin 1024, h (ix2 e k) * w k d

theorem bit_eq (a : Fin 8) (b : Fin 8) : IntOp.cmpi CmpIPredicate.eq (BitVec.ofNat 32 a.val) (BitVec.ofNat 32 b.val) = if a = b then 1#1 else 0#1 := by
  revert a b; decide +kernel

theorem colT_apply (h : FVec Ideal S528x1024 .bf16) (w : Vec Ideal S1024x256 .bf16) (c0 c1 c2 b : Vec Ideal S1x256 .f32) (r : Fin 512) (d : Fin 256) :
    colT h w c0 c1 c2 b (ix2 r d)
      = tapR (dotK h (fun k d => w (ix2 k d)) ⟨r.val + 7, by omega⟩ d) (dotK h (fun k d => w (ix2 k d)) ⟨r.val + 8, by omega⟩ d) (dotK h (fun k d => w (ix2 k d)) ⟨r.val + 9, by omega⟩ d)
          (c0 (ix2 0 d)) (c1 (ix2 0 d)) (c2 (ix2 0 d)) (b (ix2 0 d)) := by
  unfold colT
  pointwise [k0_pay8]
  have E : ∀ (e e' : Fin 528), e.val = e'.val → (∑ k : Fin 1024, (h (ix2 e k) : EReal) * w (ix2 k d) : EReal) = dotK h (fun k d => w (ix2 k d)) e' d :=
    fun e e' he => by obtain rfl := Fin.ext he; rfl
  have s0 := bit_eq ⟨r.val % 8, by omega⟩ 0
  have s7 := bit_eq ⟨r.val % 8, by omega⟩ 7
  have B : ∀ X Y : EReal, Scalar.select (IntOp.cmpi CmpIPredicate.eq (BitVec.ofNat 32 (r.val % 8)) 0#32) X Y = if r.val % 8 = 0 then X else Y := by
    intro X Y
    by_cases hc : r.val % 8 = 0
    · rw [if_pos hc]; refine WordCmp.select_of_eq_one ?_ X Y; exact s0.trans (if_pos (Fin.ext hc))
    · rw [if_neg hc]; refine WordCmp.select_of_eq_zero ?_ X Y; exact s0.trans (if_neg fun hh => hc (congrArg Fin.val hh))
  have C : ∀ X Y : EReal, Scalar.select (IntOp.cmpi CmpIPredicate.eq (BitVec.ofNat 32 (r.val % 8)) 7#32) X Y = if r.val % 8 = 7 then X else Y := by
    intro X Y
    by_cases hc : r.val % 8 = 7
    · rw [if_pos hc]; refine WordCmp.select_of_eq_one ?_ X Y; exact s7.trans (if_pos (Fin.ext hc))
    · rw [if_neg hc]; refine WordCmp.select_of_eq_zero ?_ X Y; exact s7.trans (if_neg fun hh => hc (congrArg Fin.val hh))
  rw [B, C]
  unfold tapR
  refine congrArg (fun z : EReal => z + b (ix2 0 d)) (congrArg₂ (fun y z : EReal => y + z * c2 (ix2 0 d)) (congrArg₂ (fun y z : EReal => y * c0 (ix2 0 d) + z * c1 (ix2 0 d)) ?_ ?_) ?_)
  · split_ifs with hc
    · refine E _ ⟨r.val + 7, by omega⟩ ?_
      show r.val / 8 * 8 + (r.val % 8 + 8 - 1) % 8 = r.val + 7
      omega
    · refine E _ ⟨r.val + 7, by omega⟩ ?_
      show (1 + r.val / 8) * 8 + (r.val % 8 + 8 - 1) % 8 = r.val + 7
      omega
  · refine E _ ⟨r.val + 8, by omega⟩ ?_
    show (1 + r.val / 8) * 8 + r.val % 8 = r.val + 8
    omega
  · split_ifs with hc
    · refine E _ ⟨r.val + 9, by omega⟩ ?_
      show (2 + r.val / 8) * 8 + (r.val % 8 + 8 - 7) % 8 = r.val + 9
      omega
    · refine E _ ⟨r.val + 9, by omega⟩ ?_
      show (1 + r.val / 8) * 8 + (r.val % 8 + 8 - 7) % 8 = r.val + 9
      omega

theorem actT_apply (g v : FVec Ideal S512x256 .f32) (r : Fin 512) (d : Fin 256) :
    actT g v (ix2 r d) = geluR (g (ix2 r d)) * v (ix2 r d) := by
  unfold actT
  pointwise [k0_pay10]
  rfl

/-- Column j of the convolution at row r of the block. -/
def cvK (h : FVec Ideal S528x1024 .bf16) (x6 : Vec Ideal S1024x5632 .bf16) (x7 : Vec Ideal S3x5632 .f32) (x8 : Vec Ideal S1x5632 .f32) (r : Fin 512) (j : Fin 5632) : EReal :=
  tapR (dotK h (fun k j => x6 (ix2 k j)) ⟨r.val + 7, by omega⟩ j) (dotK h (fun k j => x6 (ix2 k j)) ⟨r.val + 8, by omega⟩ j) (dotK h (fun k j => x6 (ix2 k j)) ⟨r.val + 9, by omega⟩ j)
    (x7 (ix2 0 j)) (x7 (ix2 1 j)) (x7 (ix2 2 j)) (x8 (ix2 0 j))

/-! ## The activation buffer -/

theorem colAt_apply (h : FVec Ideal S528x1024 .bf16) (x6 : Vec Ideal S1024x5632 .bf16) (x7 : Vec Ideal S3x5632 .f32) (x8 : Vec Ideal S1x5632 .f32) (o : ℕ) (ho : o + 256 ≤ 5632) (r : Fin 512) (d : Fin 256) :
    colAt h x6 x7 x8 o ho (ix2 r d) = cvK h x6 x7 x8 r ⟨o + d.val, by omega⟩ := by
  unfold colAt
  rw [colT_apply]
  unfold cvK dotK
  pointwise [View.ld]

theorem act_apply (h : FVec Ideal S528x1024 .bf16) (x6 : Vec Ideal S1024x5632 .bf16) (x7 : Vec Ideal S3x5632 .f32) (x8 : Vec Ideal S1x5632 .f32) (o : ℕ) (ho : o + 256 ≤ 2816) (r : Fin 512) (d : Fin 256) :
    act h x6 x7 x8 o ho (ix2 r d) = gluR (cvK h x6 x7 x8 r) ⟨o + d.val, by omega⟩ := by
  unfold act gluR
  rw [actT_apply, colAt_apply, colAt_apply]
  exact congrArg (fun j => _ * cvK h x6 x7 x8 r j) (Fin.ext (Nat.add_assoc 2816 o d.val))

/-- The activation buffer at the end of a point. -/
def glu (h : FVec Ideal S528x1024 .bf16) (x6 : Vec Ideal S1024x5632 .bf16) (x7 : Vec Ideal S3x5632 .f32) (x8 : Vec Ideal S1x5632 .f32) : Vec Ideal S512x2816 .bf16 :=
  fun y => gluR (cvK h x6 x7 x8 (y (0 : Fin 2))) (y (1 : Fin 2))

theorem tile_ok (h : FVec Ideal S528x1024 .bf16) (x6 : Vec Ideal S1024x5632 .bf16) (x7 : Vec Ideal S3x5632 .f32) (x8 : Vec Ideal S1x5632 .f32) (y : S512x2816.Idx) (lo : ℕ) (hlo : lo ≤ 2560)
    (w : FVec Ideal S512x256 .bf16) (hw : ∀ (r : Fin 512) (d : Fin 256), w (ix2 r d) = gluR (cvK h x6 x7 x8 r) ⟨lo + d.val, by omega⟩) :
    View.TileAt (Val := Elt Ideal) (S := S512x2816) (e := .bf16) y ![0, lo] S512x256.size w (glu h x6 x7 x8 y) := by
  intro x hx
  have h0 : 0 + (x (0 : Fin 2)).val = (y (0 : Fin 2)).val := (hx 0).symm
  have h1 : lo + (x (1 : Fin 2)).val = (y (1 : Fin 2)).val := (hx 1).symm
  rw [eq_ix2 x]
  refine (hw (x (0 : Fin 2)) (x (1 : Fin 2))).trans ?_
  unfold glu
  have e0 : (x (0 : Fin 2) : Fin 512) = y (0 : Fin 2) := Fin.ext (by omega)
  have e1 : (⟨lo + (x (1 : Fin 2)).val, by have := (x (1 : Fin 2)).isLt; change _ < 256 at this; omega⟩ : Fin 2816) = y (1 : Fin 2) := Fin.ext h1
  rw [e1, e0]

theorem canon_acts (h : FVec Ideal S528x1024 .bf16) (x6 : Vec Ideal S1024x5632 .bf16) (x7 : Vec Ideal S3x5632 .f32) (x8 : Vec Ideal S1x5632 .f32) :
    View.canon (actPieces h x6 x7 x8) = glu h x6 x7 x8 := by
  funext y
  refine View.canon_eq_of_allAt _ y _ (View.cover_of_tiled (actPieces h x6 x7 x8) ![512, 256] (by rfl) y) ?_
  unfold actPieces
  refine View.allAt_cons_unit _ _ _ _ _ (tile_ok h x6 x7 x8 y 2560 (by decide) _ (fun r d => act_apply h x6 x7 x8 2560 (by decide) r d)) ?_
  refine View.allAt_cons_unit _ _ _ _ _ (tile_ok h x6 x7 x8 y 2304 (by decide) _ (fun r d => act_apply h x6 x7 x8 2304 (by decide) r d)) ?_
  refine View.allAt_cons_unit _ _ _ _ _ (tile_ok h x6 x7 x8 y 2048 (by decide) _ (fun r d => act_apply h x6 x7 x8 2048 (by decide) r d)) ?_
  refine View.allAt_cons_unit _ _ _ _ _ (tile_ok h x6 x7 x8 y 1792 (by decide) _ (fun r d => act_apply h x6 x7 x8 1792 (by decide) r d)) ?_
  refine View.allAt_cons_unit _ _ _ _ _ (tile_ok h x6 x7 x8 y 1536 (by decide) _ (fun r d => act_apply h x6 x7 x8 1536 (by decide) r d)) ?_
  refine View.allAt_cons_unit _ _ _ _ _ (tile_ok h x6 x7 x8 y 1280 (by decide) _ (fun r d => act_apply h x6 x7 x8 1280 (by decide) r d)) ?_
  refine View.allAt_cons_unit _ _ _ _ _ (tile_ok h x6 x7 x8 y 1024 (by decide) _ (fun r d => act_apply h x6 x7 x8 1024 (by decide) r d)) ?_
  refine View.allAt_cons_unit _ _ _ _ _ (tile_ok h x6 x7 x8 y 768 (by decide) _ (fun r d => act_apply h x6 x7 x8 768 (by decide) r d)) ?_
  refine View.allAt_cons_unit _ _ _ _ _ (tile_ok h x6 x7 x8 y 512 (by decide) _ (fun r d => act_apply h x6 x7 x8 512 (by decide) r d)) ?_
  refine View.allAt_cons_unit _ _ _ _ _ (tile_ok h x6 x7 x8 y 256 (by decide) _ (fun r d => act_apply h x6 x7 x8 256 (by decide) r d)) ?_
  refine View.allAt_cons_unit _ _ _ _ _ (tile_ok h x6 x7 x8 y 0 (by decide) _ (fun r d => act_apply h x6 x7 x8 0 (by decide) r d)) ?_
  exact View.allAt_nil _ _

/-! ## The extended rows -/

/-- Extended row e of a block: eight rows before it, its own, eight after it. -/
def extR (x0 : Vec Ideal S1x512x1024 .f32) (x1 x2 : Vec Ideal S1x8x1024 .f32) (e : Fin 528) (k : Fin 1024) : EReal :=
  if h : e.val < 8 then x1 (ix3 0 ⟨e.val, h⟩ k) else if h : e.val - 8 < 512 then x0 (ix3 0 ⟨e.val - 8, h⟩ k) else x2 (ix3 0 ⟨e.val - 8 - 512, by omega⟩ k)

theorem mask_eq (n : ℕ) (hn : n < 16) (e : Fin 528) :
    IntOp.andi (IntOp.ori (IntOp.cmpi CmpIPredicate.sge (BitVec.ofNat 32 e.val) 8#32) (Scalar.cmpi CmpIPredicate.sgt (BitVec.ofNat 32 n) 0#32))
        (IntOp.ori (IntOp.cmpi CmpIPredicate.slt (BitVec.ofNat 32 e.val) 520#32) (Scalar.cmpi CmpIPredicate.slt (BitVec.ofNat 32 n) 15#32))
      = if (8 ≤ e.val ∨ 0 < n) ∧ (e.val < 520 ∨ n < 15) then 1#1 else 0#1 := by
  have a : IntOp.cmpi CmpIPredicate.sge (BitVec.ofNat 32 e.val) 8#32 = BitVec.ofBool (decide (8 ≤ e.val)) := WordCmp.cmpi_sge_ofNat (by omega) (by decide)
  have b : Scalar.cmpi CmpIPredicate.sgt (BitVec.ofNat 32 n) 0#32 = BitVec.ofBool (decide (0 < n)) := WordCmp.cmpi_sgt_ofNat (by omega) (by decide)
  have c : IntOp.cmpi CmpIPredicate.slt (BitVec.ofNat 32 e.val) 520#32 = BitVec.ofBool (decide (e.val < 520)) := WordCmp.cmpi_slt_ofNat (by omega) (by decide)
  have d : Scalar.cmpi CmpIPredicate.slt (BitVec.ofNat 32 n) 15#32 = BitVec.ofBool (decide (n < 15)) := WordCmp.cmpi_slt_ofNat (by omega) (by decide)
  rw [a, b, c, d]
  by_cases h1 : 8 ≤ e.val <;> by_cases h2 : 0 < n <;> by_cases h3 : e.val < 520 <;> by_cases h4 : n < 15 <;> simp [h1, h2, h3, h4] <;> rfl

theorem hT_apply (n : ℕ) (hn : n < 16) (x0 : Vec Ideal S1x512x1024 .f32) (x1 x2 : Vec Ideal S1x8x1024 .f32) (x4 : Vec Ideal S1x1024 .f32) (x3 : Vec Ideal S1x6x1024 .f32) (e : Fin 528) (k : Fin 1024) :
    hT (BitVec.ofNat 32 n) x0 x1 x2 x4 x3 (ix2 e k)
      = if (8 ≤ e.val ∨ 0 < n) ∧ (e.val < 520 ∨ n < 15) then modR (extR x0 x1 x2 e) (fun k => x4 (ix2 0 k)) (fun k => x3 (ix3 0 4 k)) (fun k => x3 (ix3 0 3 k)) k else 0 := by
  unfold hT
  pointwise [k0_pay5, k0_pay4, k0_pay3, k0_pay2, View.ld]
  rw [mask_eq n hn e]
  by_cases hc : (8 ≤ e.val ∨ 0 < n) ∧ (e.val < 520 ∨ n < 15)
  · rw [if_pos hc, if_pos hc]; rfl
  · rw [if_neg hc, if_neg hc]; rfl

/-! ## The block -/

theorem pay93_apply (x : FVec Ideal S512x1024 .f32) (a : Vec Ideal S512x2816 .bf16) (wd : Vec Ideal S2816x1024 .bf16) (gt : Vec Ideal S1x1x1024 .f32) (np : Vec Ideal S1x1024 .f32) (r : Fin 512) (d : Fin 1024) :
    k0_pay1 (k0_pay93 x a wd gt np) (ix3 0 r d)
      = resR (fun k => x (ix2 r k)) (fun d => ∑ j : Fin 2816, (a (ix2 r j) : EReal) * wd (ix2 j d)) (fun k => np (ix2 0 k)) (fun k => gt (ix3 0 0 k)) d := by
  pointwise [k0_pay1, k0_pay93]
  rfl

/-- Every row of the block that a point leaves. -/
theorem out_apply (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S512x2816 .bf16) (harg13 : arg13.IsWhole)
    (x0 : Vec Ideal S1x512x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (r : Fin 512) (d : Fin 1024) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix3 0 r d)
      = resR (fun k => x0 (ix3 0 r k)) (fun d => ∑ j : Fin 2816, gluR (cvK (hT (BitVec.ofNat 32 (i 1).val) x0 x1 x2 x4 x3) x6 x7 x8 r) j * x9 (ix2 j d)) (fun k => x5 (ix2 0 k)) (fun k => x3 (ix3 0 5 k)) d := by
  rw [out_eq, canon_acts, pay93_apply]
  pointwise [k0_pay2, View.ld]
  rfl

end Cert.Kernel3Ideal.Hand

end
-- ==== Proof.FfnRun.lean ====
/-
  The network kernel's grid over the extended reals: the blocks that each point reads, and what the result array holds.
-/
module

public import proofs.«01_k».proof.Proof.FfnBlock
public import Idealize.ShloMosaic.Lib.StableHlo.ReadAt

@[expose] public section

set_option maxRecDepth 16384

noncomputable section

namespace Cert.Kernel3Ideal.Hand

open Idealize.ShloMosaic Idealize.ShloMosaic.TcCoe Idealize.ShloMosaic.Tactic
open Cert.Kernel3Ideal Cert.Kernel3Ideal.Gen Cert.Kernel3Ideal.Value Cert.RowSpec

variable (m : (ℓ : Loc nD τ sig) → Buf (Elt Ideal) ℓ) (c : Dev nD)

theorem tlt (t : Fin cfg0.N) : t.val < 32 := lt_of_lt_of_eq t.isLt N_0

/-- The batch and the row of the sequence that row r of point t's block is. -/
def tb (t : Fin cfg0.N) : Fin 2 := ⟨t.val / 16, by have := tlt t; omega⟩
def ty (t : Fin cfg0.N) (r : Fin 512) : Fin 8192 := ⟨512 * (t.val % 16) + r.val, by omega⟩

/-! ## What the host lines leave in the arrays that the kernel reads -/

theorem V_v0 (b : Fin 2) (k : Fin 6) (x : Fin 1024) : (V m c main_v0 : Vec Ideal S2x6x1024 .f32) (ix3 b k x) = (m ((c : Thread nD τ).loc main_arg1) : Vec Ideal S2x6144 .f32) (ix2 b ⟨k.val * 1024 + x.val, by omega⟩) := by
  unfold V
  after_reads_at

theorem V_v1 (y : Fin 1024) (x : Fin 5632) : (V m c main_v1 : Vec Ideal S1024x5632 .bf16) (ix2 y x) = (m ((c : Thread nD τ).loc main_arg4) : Vec Ideal S1024x5632 .f32) (ix2 y x) := by
  unfold V
  after_reads_at

theorem V_v2 (y : Fin 2816) (x : Fin 1024) : (V m c main_v2 : Vec Ideal S2816x1024 .bf16) (ix2 y x) = (m ((c : Thread nD τ).loc main_arg7) : Vec Ideal S2816x1024 .f32) (ix2 y x) := by
  unfold V
  after_reads_at

theorem V_v3 (x : Fin 1024) : (V m c main_v3 : Vec Ideal S1x1024 .f32) (ix2 0 x) = (m ((c : Thread nD τ).loc main_arg2) : Vec Ideal S1024 .f32) (ix1 x) := by
  unfold V
  after_reads_at

theorem V_v4 (x : Fin 1024) : (V m c main_v4 : Vec Ideal S1x1024 .f32) (ix2 0 x) = (m ((c : Thread nD τ).loc main_arg3) : Vec Ideal S1024 .f32) (ix1 x) := by
  unfold V
  after_reads_at

theorem V_v5 (x : Fin 5632) : (V m c main_v5 : Vec Ideal S1x5632 .f32) (ix2 0 x) = (m ((c : Thread nD τ).loc main_arg6) : Vec Ideal S5632 .f32) (ix1 x) := by
  unfold V
  after_reads_at

/-! ## The blocks -/

theorem coord1 : ∀ t : Fin cfg0.N, (grid0.coords t 1).val = t.val % 16 := by decide +kernel
theorem idx0 : ∀ t : Fin cfg0.N, win0_0.index t (0 : Fin 3) = t.val / 16 ∧ win0_0.index t (1 : Fin 3) = t.val % 16 ∧ win0_0.index t (2 : Fin 3) = 0 := by decide +kernel
theorem idx10 : ∀ t : Fin cfg0.N, win0_10.index t (0 : Fin 3) = t.val / 16 ∧ win0_10.index t (1 : Fin 3) = t.val % 16 ∧ win0_10.index t (2 : Fin 3) = 0 := by decide +kernel
theorem idx1 : ∀ t : Fin cfg0.N, win0_1.index t (0 : Fin 3) = t.val / 16 ∧ win0_1.index t (1 : Fin 3) = 64 * (t.val % 16) - 1 ∧ win0_1.index t (2 : Fin 3) = 0 := by decide +kernel
theorem idx2 : ∀ t : Fin cfg0.N, win0_2.index t (0 : Fin 3) = t.val / 16 ∧ win0_2.index t (1 : Fin 3) = min (64 * (t.val % 16) + 64) 1023 ∧ win0_2.index t (2 : Fin 3) = 0 := by decide +kernel
theorem idx3 : ∀ t : Fin cfg0.N, win0_3.index t (0 : Fin 3) = t.val / 16 ∧ win0_3.index t (1 : Fin 3) = 0 ∧ win0_3.index t (2 : Fin 3) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = 0 ∧ win0_6.index t (1 : Fin 2) = 0 := by decide +kernel
theorem idx7 : ∀ t : Fin cfg0.N, win0_7.index t (0 : Fin 2) = 0 ∧ win0_7.index t (1 : Fin 2) = 0 := by decide +kernel
theorem idx8 : ∀ t : Fin cfg0.N, win0_8.index t (0 : Fin 2) = 0 ∧ win0_8.index t (1 : Fin 2) = 0 := by decide +kernel
theorem idx9 : ∀ t : Fin cfg0.N, win0_9.index t (0 : Fin 2) = 0 ∧ win0_9.index t (1 : Fin 2) = 0 := by decide +kernel

theorem blk0 (t : Fin cfg0.N) (r : Fin 512) (x : Fin 1024) :
    (iblk m c 0 t : Vec Ideal S1x512x1024 .f32) (ix3 0 r x) = (V m c main_arg0 : Vec Ideal S2x8192x1024 .f32) (ix3 (tb t) (ty t r) x) := by
  unfold iblk
  rw [View.read_apply]
  show V m c main_arg0 _ = _
  congr 1
  obtain ⟨h0, h1, h2⟩ := idx0 t
  funext a; apply Fin.ext
  match a with
  | ⟨0, _⟩ => show win0_0.index t (0 : Fin 3) * 1 + 1 * 0 = t.val / 16; rw [h0]; omega
  | ⟨1, _⟩ => show win0_0.index t (1 : Fin 3) * 512 + 1 * r.val = 512 * (t.val % 16) + r.val; rw [h1]; omega
  | ⟨2, _⟩ => show win0_0.index t (2 : Fin 3) * 1024 + 1 * x.val = x.val; rw [h2]; omega

theorem blk1 (t : Fin cfg0.N) (r : Fin 8) (x : Fin 1024) :
    (iblk m c 1 t : Vec Ideal S1x8x1024 .f32) (ix3 0 r x) = (V m c main_arg0 : Vec Ideal S2x8192x1024 .f32) (ix3 (tb t) ⟨(64 * (t.val % 16) - 1) * 8 + r.val, by omega⟩ x) := by
  unfold iblk
  rw [View.read_apply]
  show V m c main_arg0 _ = _
  congr 1
  obtain ⟨h0, h1, h2⟩ := idx1 t
  funext a; apply Fin.ext
  match a with
  | ⟨0, _⟩ => show win0_1.index t (0 : Fin 3) * 1 + 1 * 0 = t.val / 16; rw [h0]; omega
  | ⟨1, _⟩ => show win0_1.index t (1 : Fin 3) * 8 + 1 * r.val = (64 * (t.val % 16) - 1) * 8 + r.val; rw [h1]; omega
  | ⟨2, _⟩ => show win0_1.index t (2 : Fin 3) * 1024 + 1 * x.val = x.val; rw [h2]; omega

theorem blk2 (t : Fin cfg0.N) (r : Fin 8) (x : Fin 1024) :
    (iblk m c 2 t : Vec Ideal S1x8x1024 .f32) (ix3 0 r x) = (V m c main_arg0 : Vec Ideal S2x8192x1024 .f32) (ix3 (tb t) ⟨min (64 * (t.val % 16) + 64) 1023 * 8 + r.val, by omega⟩ x) := by
  unfold iblk
  rw [View.read_apply]
  show V m c main_arg0 _ = _
  congr 1
  obtain ⟨h0, h1, h2⟩ := idx2 t
  funext a; apply Fin.ext
  match a with
  | ⟨0, _⟩ => show win0_2.index t (0 : Fin 3) * 1 + 1 * 0 = t.val / 16; rw [h0]; omega
  | ⟨1, _⟩ => show win0_2.index t (1 : Fin 3) * 8 + 1 * r.val = min (64 * (t.val % 16) + 64) 1023 * 8 + r.val; rw [h1]; omega
  | ⟨2, _⟩ => show win0_2.index t (2 : Fin 3) * 1024 + 1 * x.val = x.val; rw [h2]; omega

theorem blk3 (t : Fin cfg0.N) (k : Fin 6) (x : Fin 1024) :
    (iblk m c 3 t : Vec Ideal S1x6x1024 .f32) (ix3 0 k x) = (V m c main_v0 : Vec Ideal S2x6x1024 .f32) (ix3 (tb t) k x) := by
  unfold iblk
  rw [View.read_apply]
  show V m c main_v0 _ = _
  congr 1
  obtain ⟨h0, h1, h2⟩ := idx3 t
  funext a; apply Fin.ext
  match a with
  | ⟨0, _⟩ => show win0_3.index t (0 : Fin 3) * 1 + 1 * 0 = t.val / 16; rw [h0]; omega
  | ⟨1, _⟩ => show win0_3.index t (1 : Fin 3) * 6 + 1 * k.val = k.val; rw [h1]; omega
  | ⟨2, _⟩ => show win0_3.index t (2 : Fin 3) * 1024 + 1 * x.val = x.val; rw [h2]; omega

theorem blk4 (t : Fin cfg0.N) (x : Fin 1024) :
    (iblk m c 4 t : Vec Ideal S1x1024 .f32) (ix2 0 x) = (V m c main_v3 : Vec Ideal S1x1024 .f32) (ix2 0 x) := by
  unfold iblk
  rw [View.read_apply]
  show V m c main_v3 _ = _
  congr 1
  obtain ⟨h0, h1⟩ := idx4 t
  funext a; apply Fin.ext
  match a with
  | ⟨0, _⟩ => show win0_4.index t (0 : Fin 2) * 1 + 1 * 0 = 0; rw [h0]
  | ⟨1, _⟩ => show win0_4.index t (1 : Fin 2) * 1024 + 1 * x.val = x.val; rw [h1]; omega

theorem blk5 (t : Fin cfg0.N) (x : Fin 1024) :
    (iblk m c 5 t : Vec Ideal S1x1024 .f32) (ix2 0 x) = (V m c main_v4 : Vec Ideal S1x1024 .f32) (ix2 0 x) := by
  unfold iblk
  rw [View.read_apply]
  show V m c main_v4 _ = _
  congr 1
  obtain ⟨h0, h1⟩ := idx5 t
  funext a; apply Fin.ext
  match a with
  | ⟨0, _⟩ => show win0_5.index t (0 : Fin 2) * 1 + 1 * 0 = 0; rw [h0]
  | ⟨1, _⟩ => show win0_5.index t (1 : Fin 2) * 1024 + 1 * x.val = x.val; rw [h1]; omega

theorem blk6 (t : Fin cfg0.N) (y : Fin 1024) (x : Fin 5632) :
    (iblk m c 6 t : Vec Ideal S1024x5632 .bf16) (ix2 y x) = (V m c main_v1 : Vec Ideal S1024x5632 .bf16) (ix2 y x) := by
  unfold iblk
  rw [View.read_apply]
  show V m c main_v1 _ = _
  congr 1
  obtain ⟨h0, h1⟩ := idx6 t
  funext a; apply Fin.ext
  match a with
  | ⟨0, _⟩ => show win0_6.index t (0 : Fin 2) * 1024 + 1 * y.val = y.val; rw [h0]; omega
  | ⟨1, _⟩ => show win0_6.index t (1 : Fin 2) * 5632 + 1 * x.val = x.val; rw [h1]; omega

theorem blk7 (t : Fin cfg0.N) (y : Fin 3) (x : Fin 5632) :
    (iblk m c 7 t : Vec Ideal S3x5632 .f32) (ix2 y x) = (V m c main_arg5 : Vec Ideal S3x5632 .f32) (ix2 y x) := by
  unfold iblk
  rw [View.read_apply]
  show V m c main_arg5 _ = _
  congr 1
  obtain ⟨h0, h1⟩ := idx7 t
  funext a; apply Fin.ext
  match a with
  | ⟨0, _⟩ => show win0_7.index t (0 : Fin 2) * 3 + 1 * y.val = y.val; rw [h0]; omega
  | ⟨1, _⟩ => show win0_7.index t (1 : Fin 2) * 5632 + 1 * x.val = x.val; rw [h1]; omega

theorem blk8 (t : Fin cfg0.N) (x : Fin 5632) :
    (iblk m c 8 t : Vec Ideal S1x5632 .f32) (ix2 0 x) = (V m c main_v5 : Vec Ideal S1x5632 .f32) (ix2 0 x) := by
  unfold iblk
  rw [View.read_apply]
  show V m c main_v5 _ = _
  congr 1
  obtain ⟨h0, h1⟩ := idx8 t
  funext a; apply Fin.ext
  match a with
  | ⟨0, _⟩ => show win0_8.index t (0 : Fin 2) * 1 + 1 * 0 = 0; rw [h0]
  | ⟨1, _⟩ => show win0_8.index t (1 : Fin 2) * 5632 + 1 * x.val = x.val; rw [h1]; omega

theorem blk9 (t : Fin cfg0.N) (y : Fin 2816) (x : Fin 1024) :
    (iblk m c 9 t : Vec Ideal S2816x1024 .bf16) (ix2 y x) = (V m c main_v2 : Vec Ideal S2816x1024 .bf16) (ix2 y x) := by
  unfold iblk
  rw [View.read_apply]
  show V m c main_v2 _ = _
  congr 1
  obtain ⟨h0, h1⟩ := idx9 t
  funext a; apply Fin.ext
  match a with
  | ⟨0, _⟩ => show win0_9.index t (0 : Fin 2) * 2816 + 1 * y.val = y.val; rw [h0]; omega
  | ⟨1, _⟩ => show win0_9.index t (1 : Fin 2) * 1024 + 1 * x.val = x.val; rw [h1]; omega

/-! ## The extended rows of a block are rows of the sequence -/

theorem ext_row (t : Fin cfg0.N) (e : Fin 528) (h : 8 ≤ 512 * (t.val % 16) + e.val ∧ 512 * (t.val % 16) + e.val < 8200) (k : Fin 1024) :
    extR (iblk m c 0 t) (iblk m c 1 t) (iblk m c 2 t) e k = (m ((c : Thread nD τ).loc main_arg0) : Vec Ideal S2x8192x1024 .f32) (ix3 (tb t) ⟨512 * (t.val % 16) + e.val - 8, by omega⟩ k) := by
  have e0 := fun r x => blk0 m c t r x
  rw [V_main_arg0] at e0
  have e1 := fun r x => blk1 m c t r x
  rw [V_main_arg0] at e1
  have e2 := fun r x => blk2 m c t r x
  rw [V_main_arg0] at e2
  have R : ∀ y y' : Fin 8192, y.val = y'.val → (m ((c : Thread nD τ).loc main_arg0) : Vec Ideal S2x8192x1024 .f32) (ix3 (tb t) y k) = (m ((c : Thread nD τ).loc main_arg0) : Vec Ideal S2x8192x1024 .f32) (ix3 (tb t) y' k) :=
    fun y y' hy => by obtain rfl := Fin.ext hy; rfl
  unfold extR
  split_ifs with h1 h2
  · rw [e1]
    refine R _ _ ?_
    show (64 * (t.val % 16) - 1) * 8 + e.val = 512 * (t.val % 16) + e.val - 8
    omega
  · rw [e0]
    refine R _ _ ?_
    show 512 * (t.val % 16) + (e.val - 8) = 512 * (t.val % 16) + e.val - 8
    omega
  · rw [e2]
    refine R _ _ ?_
    show min (64 * (t.val % 16) + 64) 1023 * 8 + (e.val - 8 - 512) = 512 * (t.val % 16) + e.val - 8
    have := e.isLt
    omega

/-- Column j of extended row e is column j of the padded rows of the sequence. -/
theorem dot_row (H : FVec Ideal S528x1024 .bf16) (G : Fin 8192 → Fin 1024 → EReal) (wu : Fin 1024 → Fin 5632 → EReal) (n : ℕ) (hn : n < 16)
    (hH : ∀ e k, H (ix2 e k) = if h : 8 ≤ 512 * n + e.val ∧ 512 * n + e.val < 8200 then G ⟨512 * n + e.val - 8, by omega⟩ k else 0)
    (e : Fin 528) (s : ℕ) (hs : 512 * n + e.val = s + 7) (j : Fin 5632) : dotK H wu e j = padR G wu s j := by
  unfold dotK padR
  by_cases h : 1 ≤ s ∧ s < 8193
  · rw [dif_pos h]
    have h' : 8 ≤ 512 * n + e.val ∧ 512 * n + e.val < 8200 := by omega
    have ei : (⟨512 * n + e.val - 8, by omega⟩ : Fin 8192) = ⟨s - 1, by omega⟩ := Fin.ext (by show 512 * n + e.val - 8 = s - 1; omega)
    refine Finset.sum_congr rfl fun k _ => ?_
    rw [hH e k, dif_pos h', ei]
  · rw [dif_neg h]
    have h' : ¬ (8 ≤ 512 * n + e.val ∧ 512 * n + e.val < 8200) := by omega
    refine Finset.sum_eq_zero fun k _ => ?_
    rw [hH e k, dif_neg h', zero_mul]

/-! ## The result -/

/-- Row y of batch b of the network, at the arguments. -/
def rowF (b : Fin 2) (y : Fin 8192) (d : Fin 1024) : EReal :=
  ffnR (fun y k => (m ((c : Thread nD τ).loc main_arg0) : Vec Ideal S2x8192x1024 .f32) (ix3 b y k))
    (fun k => (m ((c : Thread nD τ).loc main_arg2) : Vec Ideal S1024 .f32) (ix1 k))
    (fun k => (m ((c : Thread nD τ).loc main_arg1) : Vec Ideal S2x6144 .f32) (ix2 b ⟨4096 + k.val, by omega⟩))
    (fun k => (m ((c : Thread nD τ).loc main_arg1) : Vec Ideal S2x6144 .f32) (ix2 b ⟨3072 + k.val, by omega⟩))
    (fun k => (m ((c : Thread nD τ).loc main_arg3) : Vec Ideal S1024 .f32) (ix1 k))
    (fun k => (m ((c : Thread nD τ).loc main_arg1) : Vec Ideal S2x6144 .f32) (ix2 b ⟨5120 + k.val, by omega⟩))
    (fun k j => (m ((c : Thread nD τ).loc main_arg4) : Vec Ideal S1024x5632 .f32) (ix2 k j))
    (fun i j => (m ((c : Thread nD τ).loc main_arg5) : Vec Ideal S3x5632 .f32) (ix2 i j))
    (fun j => (m ((c : Thread nD τ).loc main_arg6) : Vec Ideal S5632 .f32) (ix1 j))
    (fun j d => (m ((c : Thread nD τ).loc main_arg7) : Vec Ideal S2816x1024 .f32) (ix2 j d)) y d

/-- Every row of the block that point t leaves. -/
theorem point_apply (t : Fin cfg0.N) (r : Fin 512) (d : Fin 1024) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)) (ix3 0 r d)
      = rowF m c (tb t) (ty t r) d := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) r d).trans ?_
  have ht : t.val % 16 < 16 := Nat.mod_lt _ (by decide)
  have e0 := fun r x => blk0 m c t r x
  rw [V_main_arg0] at e0
  have e3 := fun k x => (blk3 m c t k x).trans (V_v0 m c _ _ _)
  have e4 := fun x => (blk4 m c t x).trans (V_v3 m c _)
  have e5 := fun x => (blk5 m c t x).trans (V_v4 m c _)
  have e6 := fun y x => (blk6 m c t y x).trans (V_v1 m c _ _)
  have e7 := fun y x => blk7 m c t y x
  rw [V_main_arg5] at e7
  have e8 := fun x => (blk8 m c t x).trans (V_v5 m c _)
  have e9 := fun y x => (blk9 m c t y x).trans (V_v2 m c _ _)
  have hc : BitVec.ofNat 32 (grid0.coords t 1).val = BitVec.ofNat 32 (t.val % 16) := by rw [coord1 t]
  rw [hc]
  have hH : ∀ (e : Fin 528) (k : Fin 1024), hT (BitVec.ofNat 32 (t.val % 16)) (iblk m c 0 t) (iblk m c 1 t) (iblk m c 2 t) (iblk m c 4 t) (iblk m c 3 t) (ix2 e k)
      = if h : 8 ≤ 512 * (t.val % 16) + e.val ∧ 512 * (t.val % 16) + e.val < 8200 then
          (fun y => modR (fun k => (m ((c : Thread nD τ).loc main_arg0) : Vec Ideal S2x8192x1024 .f32) (ix3 (tb t) y k)) (fun k => (m ((c : Thread nD τ).loc main_arg2) : Vec Ideal S1024 .f32) (ix1 k)) (fun k => (m ((c : Thread nD τ).loc main_arg1) : Vec Ideal S2x6144 .f32) (ix2 (tb t) ⟨4096 + k.val, by omega⟩)) (fun k => (m ((c : Thread nD τ).loc main_arg1) : Vec Ideal S2x6144 .f32) (ix2 (tb t) ⟨3072 + k.val, by omega⟩))) ⟨512 * (t.val % 16) + e.val - 8, by omega⟩ k else 0 := by
    intro e k
    rw [hT_apply (t.val % 16) ht]
    have he := e.isLt
    by_cases h : 8 ≤ 512 * (t.val % 16) + e.val ∧ 512 * (t.val % 16) + e.val < 8200
    · rw [dif_pos h, if_pos (by omega), funext (ext_row m c t e h)]
      simp only [e3, e4]
      rfl
    · rw [dif_neg h, if_neg (by omega)]
  generalize hT (BitVec.ofNat 32 (t.val % 16)) (iblk m c 0 t) (iblk m c 1 t) (iblk m c 2 t) (iblk m c 4 t) (iblk m c 3 t) = H at hH ⊢
  have hcv : cvK H (iblk m c 6 t) (iblk m c 7 t) (iblk m c 8 t) r
      = convR (fun y => modR (fun k => (m ((c : Thread nD τ).loc main_arg0) : Vec Ideal S2x8192x1024 .f32) (ix3 (tb t) y k)) (fun k => (m ((c : Thread nD τ).loc main_arg2) : Vec Ideal S1024 .f32) (ix1 k)) (fun k => (m ((c : Thread nD τ).loc main_arg1) : Vec Ideal S2x6144 .f32) (ix2 (tb t) ⟨4096 + k.val, by omega⟩)) (fun k => (m ((c : Thread nD τ).loc main_arg1) : Vec Ideal S2x6144 .f32) (ix2 (tb t) ⟨3072 + k.val, by omega⟩)))
          (fun k j => (m ((c : Thread nD τ).loc main_arg4) : Vec Ideal S1024x5632 .f32) (ix2 k j)) (fun i j => (m ((c : Thread nD τ).loc main_arg5) : Vec Ideal S3x5632 .f32) (ix2 i j)) (fun j => (m ((c : Thread nD τ).loc main_arg6) : Vec Ideal S5632 .f32) (ix1 j)) (ty t r).val := by
    funext j
    unfold cvK convR
    simp only [e6, e7, e8]
    rw [dot_row H (fun y => modR (fun k => (m ((c : Thread nD τ).loc main_arg0) : Vec Ideal S2x8192x1024 .f32) (ix3 (tb t) y k)) (fun k => (m ((c : Thread nD τ).loc main_arg2) : Vec Ideal S1024 .f32) (ix1 k)) (fun k => (m ((c : Thread nD τ).loc main_arg1) : Vec Ideal S2x6144 .f32) (ix2 (tb t) ⟨4096 + k.val, by omega⟩)) (fun k => (m ((c : Thread nD τ).loc main_arg1) : Vec Ideal S2x6144 .f32) (ix2 (tb t) ⟨3072 + k.val, by omega⟩))) _ (t.val % 16) ht hH ⟨r.val + 7, by omega⟩ (ty t r).val (by show 512 * (t.val % 16) + (r.val + 7) = 512 * (t.val % 16) + r.val + 7; omega) j,
      dot_row H (fun y => modR (fun k => (m ((c : Thread nD τ).loc main_arg0) : Vec Ideal S2x8192x1024 .f32) (ix3 (tb t) y k)) (fun k => (m ((c : Thread nD τ).loc main_arg2) : Vec Ideal S1024 .f32) (ix1 k)) (fun k => (m ((c : Thread nD τ).loc main_arg1) : Vec Ideal S2x6144 .f32) (ix2 (tb t) ⟨4096 + k.val, by omega⟩)) (fun k => (m ((c : Thread nD τ).loc main_arg1) : Vec Ideal S2x6144 .f32) (ix2 (tb t) ⟨3072 + k.val, by omega⟩))) _ (t.val % 16) ht hH ⟨r.val + 8, by omega⟩ ((ty t r).val + 1) (by show 512 * (t.val % 16) + (r.val + 8) = 512 * (t.val % 16) + r.val + 1 + 7; omega) j,
      dot_row H (fun y => modR (fun k => (m ((c : Thread nD τ).loc main_arg0) : Vec Ideal S2x8192x1024 .f32) (ix3 (tb t) y k)) (fun k => (m ((c : Thread nD τ).loc main_arg2) : Vec Ideal S1024 .f32) (ix1 k)) (fun k => (m ((c : Thread nD τ).loc main_arg1) : Vec Ideal S2x6144 .f32) (ix2 (tb t) ⟨4096 + k.val, by omega⟩)) (fun k => (m ((c : Thread nD τ).loc main_arg1) : Vec Ideal S2x6144 .f32) (ix2 (tb t) ⟨3072 + k.val, by omega⟩))) _ (t.val % 16) ht hH ⟨r.val + 9, by omega⟩ ((ty t r).val + 2) (by show 512 * (t.val % 16) + (r.val + 9) = 512 * (t.val % 16) + r.val + 2 + 7; omega) j]
  rw [hcv]
  simp only [e0, e3, e5, e9]
  rfl

theorem flush10 : ∀ t : Fin cfg0.N, (cfg0.win 10).flush t = true := by decide +kernel

theorem result_at (t : Fin cfg0.N) (r : Fin 512) (d : Fin 1024) :
    ((dats m 0 c).arrAt 10 cfg0.N : Vec Ideal S2x8192x1024 .f32) (ix3 (tb t) (ty t r) d) = rowF m c (tb t) (ty t r) d := by
  have h := congrFun ((blocks10 m c t (flush10 t)).trans (flushed10_A m c t)) (ix3 (0 : Fin 1) r d)
  rw [View.read_apply] at h
  refine Eq.trans (congrArg ((dats m 0 c).arrAt 10 cfg0.N : Vec Ideal S2x8192x1024 .f32) ?_) (h.trans (Eq.trans (congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)) ?_) (point_apply m c t r d)))
  · obtain ⟨h0, h1, h2⟩ := idx10 t
    funext a; apply Fin.ext
    match a with
    | ⟨0, _⟩ => show t.val / 16 = win0_10.index t (0 : Fin 3) * 1 + 1 * 0; rw [h0]; omega
    | ⟨1, _⟩ => show 512 * (t.val % 16) + r.val = win0_10.index t (1 : Fin 3) * 512 + 1 * r.val; rw [h1]; omega
    | ⟨2, _⟩ => show d.val = win0_10.index t (2 : Fin 3) * 1024 + 1 * d.val; rw [h2]; omega
  · funext a; apply Fin.ext
    match a with
    | ⟨0, _⟩ => rfl
    | ⟨1, _⟩ => rfl
    | ⟨2, _⟩ => rfl

/-- Every row of the result array. -/
theorem result_apply (b : Fin 2) (y : Fin 8192) (d : Fin 1024) :
    ((dats m 0 c).arrAt 10 cfg0.N : Vec Ideal S2x8192x1024 .f32) (ix3 b y d) = rowF m c b y d := by
  have hN : 16 * b.val + y.val / 512 < cfg0.N := lt_of_lt_of_eq (by omega) N_0.symm
  have h := result_at m c ⟨16 * b.val + y.val / 512, hN⟩ ⟨y.val % 512, by omega⟩ d
  have eb : tb ⟨16 * b.val + y.val / 512, hN⟩ = b := Fin.ext (by show (16 * b.val + y.val / 512) / 16 = b.val; omega)
  have ey : ty ⟨16 * b.val + y.val / 512, hN⟩ ⟨y.val % 512, by omega⟩ = y := Fin.ext (by show 512 * ((16 * b.val + y.val / 512) % 16) + y.val % 512 = y.val; omega)
  rw [eb, ey] at h
  exact h

end Cert.Kernel3Ideal.Hand

end
-- ==== Proof.FfnRef.lean ====
/-
  The network's reference, read at an index over the extended reals: every row of its result is the network's row.
-/
module

public import proofs.«01_k».proof.Proof.Gen.Reference3Ideal.Run
public import proofs.«01_k».proof.Proof.FfnSpec
public import Idealize.ShloMosaic.Lib.Pipeline.ValueKit.Tiles
public import Idealize.ShloMosaic.Lib.StableHlo.ReadAt

@[expose] public section

set_option maxRecDepth 16384

noncomputable section

namespace Cert.Reference3Ideal.Hand

open Idealize.ShloMosaic Idealize.ShloMosaic.TcCoe Idealize.ShloMosaic.Tactic
open Cert.Reference3Ideal Cert.Reference3Ideal.Gen Cert.Reference3Ideal.Value Cert.RowSpec

variable (V0 : Valuation τ sig (Elt Ideal))

/-- The modulated normal rows, the widened rows and the result, as the reference's lines compute them. -/
def hT : FVec Ideal S2x8192x1024 .f32 := addf (mulf (mulf (mulf (V0 (Proc.devRef .tc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (V0 (Proc.devRef .tc main_arg0)) (V0 (Proc.devRef .tc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg2))))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] (res_main_v0 V0) slices_S2x1x6144_S2x1x1024_0_0_4096)))) (broadcastInDim S2x8192x1024 ![0, 1, 2] bcast_S2x1x1024_S2x8192x1024_0_1_2 (extractStridedSlice S2x1x1024 ![0, 0, 3072] (res_main_v0 V0) slices_S2x1x6144_S2x1x1024_0_0_3072))
def wT : FVec Ideal S2x8192x5632 .f32 := Host.dotGeneral (φ₁ := .f32) (φ₂ := .f32) dot_S2x8192x1024_S1024x5632_S2x8192x5632_2_0_01_1_n_n none (hT V0) (V0 (Proc.devRef .tc main_arg4))
def pT : FVec Ideal S2x8194x5632 .f32 := pad S2x8194x5632 ![0, 1, 0] ![0, 1, 0] ![0, 0, 0] (wT V0) (sitofp .f32 (constantI S_ 32 0#32)) pads_S2x8192x5632_S2x8194x5632_000_110_000 h_S_
def resT : FVec Ideal S2x8192x1024 .f32 := addf (V0 (Proc.devRef .tc main_arg0)) (mulf (broadcastInDim S2x8192x1024 ![0, 1, 2] bcast_S2x1x1024_S2x8192x1024_0_1_2 (extractStridedSlice S2x1x1024 ![0, 0, 5120] (res_main_v0 V0) slices_S2x1x6144_S2x1x1024_0_0_5120)) (mulf (mulf (res_main_v67 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v67 V0) (res_main_v67 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg3))))))

theorem pT_eq : res_main_v27 V0 = pT V0 := rfl

def xM (b : Fin 2) (y : Fin 8192) (k : Fin 1024) : EReal := (V0 (Proc.devRef .tc main_arg0) : Vec Ideal S2x8192x1024 .f32) (ix3 b y k)
def hM (b : Fin 2) (y : Fin 8192) : Fin 1024 → EReal :=
  modR (xM V0 b y) (fun k => (V0 (Proc.devRef .tc main_arg2) : Vec Ideal S1024 .f32) (ix1 k)) (fun k => (V0 (Proc.devRef .tc main_arg1) : Vec Ideal S2x6144 .f32) (ix2 b ⟨4096 + k.val, by omega⟩)) (fun k => (V0 (Proc.devRef .tc main_arg1) : Vec Ideal S2x6144 .f32) (ix2 b ⟨3072 + k.val, by omega⟩))
def wuM (k : Fin 1024) (j : Fin 5632) : EReal := (V0 (Proc.devRef .tc main_arg4) : Vec Ideal S1024x5632 .f32) (ix2 k j)
def cwM (i : Fin 3) (j : Fin 5632) : EReal := (V0 (Proc.devRef .tc main_arg5) : Vec Ideal S3x5632 .f32) (ix2 i j)
def cbM (j : Fin 5632) : EReal := (V0 (Proc.devRef .tc main_arg6) : Vec Ideal S5632 .f32) (ix1 j)
def wdM (j : Fin 2816) (d : Fin 1024) : EReal := (V0 (Proc.devRef .tc main_arg7) : Vec Ideal S2816x1024 .f32) (ix2 j d)

theorem hT_apply (b : Fin 2) (y : Fin 8192) (d : Fin 1024) : hT V0 (ix3 b y d) = hM V0 b y d := by
  pointwise [hT, res_main_v0]
  rfl

theorem wT_apply (b : Fin 2) (y : Fin 8192) (j : Fin 5632) : wT V0 (ix3 b y j) = (∑ k : Fin 1024, hM V0 b y k * wuM V0 k j : EReal) := by
  pointwise [wT]
  simp only [hT_apply]
  rfl

theorem pT_apply (b : Fin 2) (e : Fin 8194) (j : Fin 5632) : pT V0 (ix3 b e j) = padR (hM V0 b) (wuM V0) e.val j := by
  pointwise [pT]
  simp only [wT_apply]
  have z : FloatOps.sitofp (F := Ideal) FTy.f32 0#32 = (0 : EReal) := by
    show (((0#32 : BitVec 32).toInt : ℝ) : EReal) = 0
    simp
  rw [z]
  unfold padR
  by_cases h : 1 ≤ e.val ∧ e.val < 8193
  · rw [dif_pos h, dif_pos (by omega)]
  · rw [dif_neg h, dif_neg (by omega)]

theorem v50_apply (b : Fin 2) (y : Fin 8192) (j : Fin 5632) : (res_main_v50 V0 : Vec Ideal S2x8192x5632 .f32) (ix3 b y j) = convR (hM V0 b) (wuM V0) (cwM V0) (cbM V0) y.val j := by
  pointwise [res_main_v50]
  simp only [pT_eq, pT_apply]
  rw [Nat.add_comm 1 y.val, Nat.add_comm 2 y.val]
  rfl

theorem v67_apply (b : Fin 2) (y : Fin 8192) (d : Fin 1024) :
    (res_main_v67 V0 : Vec Ideal S2x8192x1024 .f32) (ix3 b y d) = (∑ j : Fin 2816, gluR (convR (hM V0 b) (wuM V0) (cwM V0) (cbM V0) y.val) j * wdM V0 j d : EReal) := by
  pointwise [res_main_v67, res_main_v51]
  simp only [v50_apply]
  have cube : ∀ g : EReal, g * g * g = g * (g * g) := fun g => mul_comm _ _
  simp only [cube]
  rfl

def rowV (b : Fin 2) (y : Fin 8192) (d : Fin 1024) : EReal :=
  ffnR (fun y k => (V0 (Proc.devRef .tc main_arg0) : Vec Ideal S2x8192x1024 .f32) (ix3 b y k))
    (fun k => (V0 (Proc.devRef .tc main_arg2) : Vec Ideal S1024 .f32) (ix1 k))
    (fun k => (V0 (Proc.devRef .tc main_arg1) : Vec Ideal S2x6144 .f32) (ix2 b ⟨4096 + k.val, by omega⟩))
    (fun k => (V0 (Proc.devRef .tc main_arg1) : Vec Ideal S2x6144 .f32) (ix2 b ⟨3072 + k.val, by omega⟩))
    (fun k => (V0 (Proc.devRef .tc main_arg3) : Vec Ideal S1024 .f32) (ix1 k))
    (fun k => (V0 (Proc.devRef .tc main_arg1) : Vec Ideal S2x6144 .f32) (ix2 b ⟨5120 + k.val, by omega⟩))
    (fun k j => (V0 (Proc.devRef .tc main_arg4) : Vec Ideal S1024x5632 .f32) (ix2 k j))
    (fun i j => (V0 (Proc.devRef .tc main_arg5) : Vec Ideal S3x5632 .f32) (ix2 i j))
    (fun j => (V0 (Proc.devRef .tc main_arg6) : Vec Ideal S5632 .f32) (ix1 j))
    (fun j d => (V0 (Proc.devRef .tc main_arg7) : Vec Ideal S2816x1024 .f32) (ix2 j d)) y d

theorem res_apply (b : Fin 2) (y : Fin 8192) (d : Fin 1024) : resT V0 (ix3 b y d) = rowV V0 b y d := by
  pointwise [resT, res_main_v0]
  simp only [v67_apply]
  rfl

/-- Row y of batch b of the network, at the arguments. -/
def rowF (m : (ℓ : Loc nD τ sig) → Buf (Elt Ideal) ℓ) (c : Dev nD) (b : Fin 2) (y : Fin 8192) (d : Fin 1024) : EReal :=
  ffnR (fun y k => (m ((c : Thread nD τ).loc main_arg0) : Vec Ideal S2x8192x1024 .f32) (ix3 b y k))
    (fun k => (m ((c : Thread nD τ).loc main_arg2) : Vec Ideal S1024 .f32) (ix1 k))
    (fun k => (m ((c : Thread nD τ).loc main_arg1) : Vec Ideal S2x6144 .f32) (ix2 b ⟨4096 + k.val, by omega⟩))
    (fun k => (m ((c : Thread nD τ).loc main_arg1) : Vec Ideal S2x6144 .f32) (ix2 b ⟨3072 + k.val, by omega⟩))
    (fun k => (m ((c : Thread nD τ).loc main_arg3) : Vec Ideal S1024 .f32) (ix1 k))
    (fun k => (m ((c : Thread nD τ).loc main_arg1) : Vec Ideal S2x6144 .f32) (ix2 b ⟨5120 + k.val, by omega⟩))
    (fun k j => (m ((c : Thread nD τ).loc main_arg4) : Vec Ideal S1024x5632 .f32) (ix2 k j))
    (fun i j => (m ((c : Thread nD τ).loc main_arg5) : Vec Ideal S3x5632 .f32) (ix2 i j))
    (fun j => (m ((c : Thread nD τ).loc main_arg6) : Vec Ideal S5632 .f32) (ix1 j))
    (fun j d => (m ((c : Thread nD τ).loc main_arg7) : Vec Ideal S2816x1024 .f32) (ix2 j d)) y d

theorem result_apply (m : (ℓ : Loc nD τ sig) → Buf (Elt Ideal) ℓ) (c : Dev nD) (b : Fin 2) (y : Fin 8192) (d : Fin 1024) :
    resT (StableHlo.launchContents m c) (ix3 b y d) = rowF m c b y d := res_apply (StableHlo.launchContents m c) b y d

end Cert.Reference3Ideal.Hand

end
-- ==== Proof.FfnClaim.lean ====
/-
  The conjuncts of the claim about the feed-forward network: the reference's run leaves its arguments as they were, and the two
  programs end with the same array.
-/
module

public import proofs.«01_k».proof.Defs
public import proofs.«01_k».proof.Proof.FfnRun
public import proofs.«01_k».proof.Proof.FfnRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_ffn_reference : Cert.quiescent_Reference3Ideal := fun m g _ =>
  (θ_run Cert.Reference3Ideal.defs _ _).mono (fun r h => ⟨fun c => (h c).2, sem_eq_zero_of_no_sems (by decide) r.2⟩) (Cert.Reference3Ideal.Value.run (F := Ideal) m g)

/-- The two results are one array: every row of both is the network's row at the same arguments. -/
theorem algebraic_ffn : Cert.algebraic_Kernel3Ideal_Reference3Ideal := by
  intro m g m' g' _ hagree
  refine ⟨_, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7⟩ := hagree c
  funext i
  obtain ⟨b, y, x, rfl⟩ : ∃ (b : Fin 2) (y : Fin 8192) (x : Fin 1024), i = ix3 b y x := ⟨i 0, i 1, i 2, by funext a; match a with | ⟨0, _⟩ => rfl | ⟨1, _⟩ => rfl | ⟨2, _⟩ => rfl⟩
  refine (Cert.Reference3Ideal.Hand.result_apply m' c b y x).trans (Eq.trans ?_ (Cert.Kernel3Ideal.Hand.result_apply m c b y x).symm)
  unfold Cert.Reference3Ideal.Hand.rowF Cert.Kernel3Ideal.Hand.rowF
  rw [h0, h1, h2, h3, h4, h5, h6, h7]

end Cert.Proof

end
-- ==== Proof.FfnSampleBlock.lean ====
/-
  One block of the ConvFFN kernel at the sample's shape, read at an index over the extended reals. Its column tiles are
  the ones of FfnPieces and FfnBlock; the sequence has eight blocks of rows in place of sixteen.
-/
module

public import proofs.«01_k».proof.Proof.FfnBlock
public import proofs.«01_k».proof.Proof.Gen.Kernel4Ideal.Value

@[expose] public section

set_option maxRecDepth 65536

noncomputable section

namespace Cert.Kernel4Ideal.Hand

open Idealize.ShloMosaic Idealize.ShloMosaic.TcCoe Idealize.ShloMosaic.Tactic
open Cert.Kernel4Ideal Cert.Kernel4Ideal.Gen Cert.RowSpec
open Cert.Kernel3Ideal.Hand (actPieces canon_acts cvK extR dotK)

section
variable {F : FTy → Type} [FloatOps F]

/-- The normalized and modulated rows of a block and its halo, with zeros on the halo rows outside the sequence. -/
def hT (arg1 : BitVec 32) (x0 : Vec F S1x512x1024 .f32) (x1 x2 : Vec F S1x8x1024 .f32) (x4 : Vec F S1x1024 .f32) (x3 : Vec F S1x6x1024 .f32) : FVec F S528x1024 .bf16 :=
  k0_pay5 arg1 (k0_pay3 x0 x1 x2 x4 (View.ld (Val := Elt F) x3 (Rect.unit (s := S1x6x1024) ![0, 4, 0] S1x1x1024.size inb_S1x6x1024_S1x1x1024_0_4_0)) (View.ld (Val := Elt F) x3 (Rect.unit (s := S1x6x1024) ![0, 3, 0] S1x1x1024.size inb_S1x6x1024_S1x1x1024_0_3_0)))
    (iota .tc S528x1024 32 [0] iota_S528x1024_d0_w32) k0_pay4 (Scalar.cmpi .sgt arg1 0#32)

/-- What a body reads back of a whole array that holds x. -/
abbrev ra {s : Shape} {e : EltTy} {o : Fin s.rank → Nat} (a : Memref sig .tc .vmem s e) (h : a.IsWhole) (inb : ∀ b, o b + s.size b ≤ s.size b) (x : Vec F s e) : Vec F s e :=
  View.ld (Val := Elt F) (e' := e) (a.view.read (Elt F) (h.unread x)) (Rect.unit (s := s) o s.size inb)

theorem rd {s : Shape} {e : EltTy} {o : Fin s.rank → Nat} (a : Memref sig .tc .vmem s e) (h : a.IsWhole) (inb : ∀ b, o b + s.size b ≤ s.size b) (ho : o = fun _ => 0) (x : Vec F s e) : ra a h inb x = x :=
  (congrArg (fun z => View.ld (Val := Elt F) (e' := e) z (Rect.unit (s := s) o s.size inb)) (h.read_unread x)).trans (View.ld_unit_zero ho _ _)

section point

variable (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S512x2816 .bf16) (harg13 : arg13.IsWhole)
  (x0 : Vec F S1x512x1024 .f32) (x1 : Vec F S1x8x1024 .f32) (x2 : Vec F S1x8x1024 .f32) (x3 : Vec F S1x6x1024 .f32) (x4 : Vec F S1x1024 .f32) (x5 : Vec F S1x1024 .f32) (x6 : Vec F S1024x5632 .bf16) (x7 : Vec F S3x5632 .f32) (x8 : Vec F S1x5632 .f32) (x9 : Vec F S2816x1024 .bf16)

theorem rawStores :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).2.1 = actPieces (hT (BitVec.ofNat 32 (i 1).val) (ra arg2 harg2 inb_S1x512x1024_S1x512x1024_0_0_0 x0) (ra arg3 harg3 inb_S1x8x1024_S1x8x1024_0_0_0 x1) (ra arg4 harg4 inb_S1x8x1024_S1x8x1024_0_0_0 x2) (ra arg6 harg6 inb_S1x1024_S1x1024_0_0 x4) (arg5.view.read (Elt F) (harg5.unread x3))) (arg8.view.read (Elt F) (harg8.unread x6)) (arg9.view.read (Elt F) (harg9.unread x7)) (arg10.view.read (Elt F) (harg10.unread x8)) := by rfl

/-- The stores into the output block. -/
def outPieces (x0 : Vec F S1x512x1024 .f32) (x3 : Vec F S1x6x1024 .f32) (x5 : Vec F S1x1024 .f32) (x9 : Vec F S2816x1024 .bf16) (a : Vec F S512x2816 .bf16) : List (View.Piece (Elt F) S1x512x1024 .f32) :=
  [⟨Rect.unit (s := S1x512x1024) ![0, 0, 0] S1x512x1024.size inb_S1x512x1024_S1x512x1024_0_0_0, k0_pay1 (k0_pay93 (k0_pay2 x0) a x9 (View.ld (Val := Elt F) x3 (Rect.unit (s := S1x6x1024) ![0, 5, 0] S1x1x1024.size inb_S1x6x1024_S1x1x1024_0_5_0)) x5)⟩]

theorem rawOut :
    (kernelRun0_A c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 = outPieces (ra arg2 harg2 inb_S1x512x1024_S1x512x1024_0_0_0 x0) (arg5.view.read (Elt F) (harg5.unread x3)) (ra arg7 harg7 inb_S1x1024_S1x1024_0_0 x5) (ra arg11 harg11 inb_S2816x1024_S2816x1024_0_0 x9)
      (View.readCov arg13.view (actPieces (hT (BitVec.ofNat 32 (i 1).val) (ra arg2 harg2 inb_S1x512x1024_S1x512x1024_0_0_0 x0) (ra arg3 harg3 inb_S1x8x1024_S1x8x1024_0_0_0 x1) (ra arg4 harg4 inb_S1x8x1024_S1x8x1024_0_0_0 x2) (ra arg6 harg6 inb_S1x1024_S1x1024_0_0 x4) (arg5.view.read (Elt F) (harg5.unread x3))) (arg8.view.read (Elt F) (harg8.unread x6)) (arg9.view.read (Elt F) (harg9.unread x7)) (arg10.view.read (Elt F) (harg10.unread x8))) (Rect.unit (s := S512x2816) ![0, 0] S512x2816.size inb_S512x2816_S512x2816_0_0).toLoadRect) := by rfl

theorem stores_canon (v : View sig .tc .vmem S512x2816 .bf16) (L : List (View.Piece (Elt F) S512x2816 .bf16)) :
    View.readCov v L (Rect.unit (s := S512x2816) ![0, 0] S512x2816.size inb_S512x2816_S512x2816_0_0).toLoadRect = View.canon L := by
  rw [View.readCov_eq_canon']
  exact View.ld_unit_zero (by decide) _ _

/-- The block that one point leaves, from the blocks it reads. -/
theorem out_eq :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = k0_pay1 (k0_pay93 (k0_pay2 x0) (View.canon (actPieces (hT (BitVec.ofNat 32 (i 1).val) x0 x1 x2 x4 x3) x6 x7 x8)) x9 (View.ld (Val := Elt F) x3 (Rect.unit (s := S1x6x1024) ![0, 5, 0] S1x1x1024.size inb_S1x6x1024_S1x1x1024_0_5_0)) x5) := by
  have e0 : (ra arg2 harg2 inb_S1x512x1024_S1x512x1024_0_0_0 x0) = x0 := rd arg2 harg2 inb_S1x512x1024_S1x512x1024_0_0_0 (by decide) x0
  have e1 : (ra arg3 harg3 inb_S1x8x1024_S1x8x1024_0_0_0 x1) = x1 := rd arg3 harg3 inb_S1x8x1024_S1x8x1024_0_0_0 (by decide) x1
  have e2 : (ra arg4 harg4 inb_S1x8x1024_S1x8x1024_0_0_0 x2) = x2 := rd arg4 harg4 inb_S1x8x1024_S1x8x1024_0_0_0 (by decide) x2
  have e4 : (ra arg6 harg6 inb_S1x1024_S1x1024_0_0 x4) = x4 := rd arg6 harg6 inb_S1x1024_S1x1024_0_0 (by decide) x4
  have e5 : (ra arg7 harg7 inb_S1x1024_S1x1024_0_0 x5) = x5 := rd arg7 harg7 inb_S1x1024_S1x1024_0_0 (by decide) x5
  have e9 : (ra arg11 harg11 inb_S2816x1024_S2816x1024_0_0 x9) = x9 := rd arg11 harg11 inb_S2816x1024_S2816x1024_0_0 (by decide) x9
  unfold out0_A_10
  rw [rawOut, stores_canon, e0, e1, e2, e4, e5, e9, harg5.read_unread, harg8.read_unread, harg9.read_unread, harg10.read_unread]
  rw [View.read_writes_junk_eq_canon]
  exact View.canon_unit_zero (by decide) _ _

end point

end

/-! ## The extended rows -/

theorem mask_eq (n : ℕ) (hn : n < 8) (e : Fin 528) :
    IntOp.andi (IntOp.ori (IntOp.cmpi CmpIPredicate.sge (BitVec.ofNat 32 e.val) 8#32) (Scalar.cmpi CmpIPredicate.sgt (BitVec.ofNat 32 n) 0#32))
        (IntOp.ori (IntOp.cmpi CmpIPredicate.slt (BitVec.ofNat 32 e.val) 520#32) (Scalar.cmpi CmpIPredicate.slt (BitVec.ofNat 32 n) 7#32))
      = if (8 ≤ e.val ∨ 0 < n) ∧ (e.val < 520 ∨ n < 7) then 1#1 else 0#1 := by
  have a : IntOp.cmpi CmpIPredicate.sge (BitVec.ofNat 32 e.val) 8#32 = BitVec.ofBool (decide (8 ≤ e.val)) := WordCmp.cmpi_sge_ofNat (by omega) (by decide)
  have b : Scalar.cmpi CmpIPredicate.sgt (BitVec.ofNat 32 n) 0#32 = BitVec.ofBool (decide (0 < n)) := WordCmp.cmpi_sgt_ofNat (by omega) (by decide)
  have c : IntOp.cmpi CmpIPredicate.slt (BitVec.ofNat 32 e.val) 520#32 = BitVec.ofBool (decide (e.val < 520)) := WordCmp.cmpi_slt_ofNat (by omega) (by decide)
  have d : Scalar.cmpi CmpIPredicate.slt (BitVec.ofNat 32 n) 7#32 = BitVec.ofBool (decide (n < 7)) := WordCmp.cmpi_slt_ofNat (by omega) (by decide)
  rw [a, b, c, d]
  by_cases h1 : 8 ≤ e.val <;> by_cases h2 : 0 < n <;> by_cases h3 : e.val < 520 <;> by_cases h4 : n < 7 <;> simp [h1, h2, h3, h4] <;> rfl

theorem hT_apply (n : ℕ) (hn : n < 8) (x0 : Vec Ideal S1x512x1024 .f32) (x1 x2 : Vec Ideal S1x8x1024 .f32) (x4 : Vec Ideal S1x1024 .f32) (x3 : Vec Ideal S1x6x1024 .f32) (e : Fin 528) (k : Fin 1024) :
    hT (BitVec.ofNat 32 n) x0 x1 x2 x4 x3 (ix2 e k)
      = if (8 ≤ e.val ∨ 0 < n) ∧ (e.val < 520 ∨ n < 7) then modR (extR x0 x1 x2 e) (fun k => x4 (ix2 0 k)) (fun k => x3 (ix3 0 4 k)) (fun k => x3 (ix3 0 3 k)) k else 0 := by
  unfold hT
  pointwise [k0_pay5, k0_pay4, k0_pay3, k0_pay2, View.ld]
  rw [mask_eq n hn e]
  by_cases hc : (8 ≤ e.val ∨ 0 < n) ∧ (e.val < 520 ∨ n < 7)
  · rw [if_pos hc, if_pos hc]; rfl
  · rw [if_neg hc, if_neg hc]; rfl

/-! ## The block -/

theorem pay93_apply (x : FVec Ideal S512x1024 .f32) (a : Vec Ideal S512x2816 .bf16) (wd : Vec Ideal S2816x1024 .bf16) (gt : Vec Ideal S1x1x1024 .f32) (np : Vec Ideal S1x1024 .f32) (r : Fin 512) (d : Fin 1024) :
    k0_pay1 (k0_pay93 x a wd gt np) (ix3 0 r d)
      = resR (fun k => x (ix2 r k)) (fun d => ∑ j : Fin 2816, (a (ix2 r j) : EReal) * wd (ix2 j d)) (fun k => np (ix2 0 k)) (fun k => gt (ix3 0 0 k)) d := by
  pointwise [k0_pay1, k0_pay93]
  rfl

/-- Every row of the block that a point leaves. -/
theorem out_apply (c : Dev nD) (i : grid0.Coords) (arg2 : Memref sig .tc .vmem S1x512x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S1x5632 .f32) (harg10 : arg10.IsWhole) (arg11 : Memref sig .tc .vmem S2816x1024 .bf16) (harg11 : arg11.IsWhole) (arg12 : Memref sig .tc .vmem S1x512x1024 .f32) (harg12 : arg12.IsWhole) (arg13 : Memref sig .tc .vmem S512x2816 .bf16) (harg13 : arg13.IsWhole)
    (x0 : Vec Ideal S1x512x1024 .f32) (x1 : Vec Ideal S1x8x1024 .f32) (x2 : Vec Ideal S1x8x1024 .f32) (x3 : Vec Ideal S1x6x1024 .f32) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (r : Fin 512) (d : Fin 1024) :
    out0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix3 0 r d)
      = resR (fun k => x0 (ix3 0 r k)) (fun d => ∑ j : Fin 2816, gluR (cvK (hT (BitVec.ofNat 32 (i 1).val) x0 x1 x2 x4 x3) x6 x7 x8 r) j * x9 (ix2 j d)) (fun k => x5 (ix2 0 k)) (fun k => x3 (ix3 0 5 k)) d := by
  rw [out_eq, canon_acts, pay93_apply]
  pointwise [k0_pay2, View.ld]
  rfl

end Cert.Kernel4Ideal.Hand

end
-- ==== Proof.FfnSampleRun.lean ====
/-
  The network kernel of the sample's grid over the extended reals: the blocks that each point reads, and what the result array holds.
-/
module

public import proofs.«01_k».proof.Proof.FfnSampleBlock
public import Idealize.ShloMosaic.Lib.StableHlo.ReadAt

@[expose] public section

set_option maxRecDepth 16384

noncomputable section

namespace Cert.Kernel4Ideal.Hand

open Idealize.ShloMosaic Idealize.ShloMosaic.TcCoe Idealize.ShloMosaic.Tactic
open Cert.Kernel4Ideal Cert.Kernel4Ideal.Gen Cert.Kernel4Ideal.Value Cert.RowSpec
open Cert.Kernel3Ideal.Hand (extR dotK cvK)

variable (m : (ℓ : Loc nD τ sig) → Buf (Elt Ideal) ℓ) (c : Dev nD)

theorem tlt (t : Fin cfg0.N) : t.val < 32 := lt_of_lt_of_eq t.isLt N_0

/-- The batch and the row of the sequence that row r of point t's block is. -/
def tb (t : Fin cfg0.N) : Fin 4 := ⟨t.val / 8, by have := tlt t; omega⟩
def ty (t : Fin cfg0.N) (r : Fin 512) : Fin 4096 := ⟨512 * (t.val % 8) + r.val, by omega⟩

/-! ## What the host lines leave in the arrays that the kernel reads -/

theorem V_v0 (b : Fin 4) (k : Fin 6) (x : Fin 1024) : (V m c main_v0 : Vec Ideal S4x6x1024 .f32) (ix3 b k x) = (m ((c : Thread nD τ).loc main_arg1) : Vec Ideal S4x6144 .f32) (ix2 b ⟨k.val * 1024 + x.val, by omega⟩) := by
  unfold V
  after_reads_at

theorem V_v1 (y : Fin 1024) (x : Fin 5632) : (V m c main_v1 : Vec Ideal S1024x5632 .bf16) (ix2 y x) = (m ((c : Thread nD τ).loc main_arg4) : Vec Ideal S1024x5632 .f32) (ix2 y x) := by
  unfold V
  after_reads_at

theorem V_v2 (y : Fin 2816) (x : Fin 1024) : (V m c main_v2 : Vec Ideal S2816x1024 .bf16) (ix2 y x) = (m ((c : Thread nD τ).loc main_arg7) : Vec Ideal S2816x1024 .f32) (ix2 y x) := by
  unfold V
  after_reads_at

theorem V_v3 (x : Fin 1024) : (V m c main_v3 : Vec Ideal S1x1024 .f32) (ix2 0 x) = (m ((c : Thread nD τ).loc main_arg2) : Vec Ideal S1024 .f32) (ix1 x) := by
  unfold V
  after_reads_at

theorem V_v4 (x : Fin 1024) : (V m c main_v4 : Vec Ideal S1x1024 .f32) (ix2 0 x) = (m ((c : Thread nD τ).loc main_arg3) : Vec Ideal S1024 .f32) (ix1 x) := by
  unfold V
  after_reads_at

theorem V_v5 (x : Fin 5632) : (V m c main_v5 : Vec Ideal S1x5632 .f32) (ix2 0 x) = (m ((c : Thread nD τ).loc main_arg6) : Vec Ideal S5632 .f32) (ix1 x) := by
  unfold V
  after_reads_at

/-! ## The blocks -/

theorem coord1 : ∀ t : Fin cfg0.N, (grid0.coords t 1).val = t.val % 8 := by decide +kernel
theorem idx0 : ∀ t : Fin cfg0.N, win0_0.index t (0 : Fin 3) = t.val / 8 ∧ win0_0.index t (1 : Fin 3) = t.val % 8 ∧ win0_0.index t (2 : Fin 3) = 0 := by decide +kernel
theorem idx10 : ∀ t : Fin cfg0.N, win0_10.index t (0 : Fin 3) = t.val / 8 ∧ win0_10.index t (1 : Fin 3) = t.val % 8 ∧ win0_10.index t (2 : Fin 3) = 0 := by decide +kernel
theorem idx1 : ∀ t : Fin cfg0.N, win0_1.index t (0 : Fin 3) = t.val / 8 ∧ win0_1.index t (1 : Fin 3) = 64 * (t.val % 8) - 1 ∧ win0_1.index t (2 : Fin 3) = 0 := by decide +kernel
theorem idx2 : ∀ t : Fin cfg0.N, win0_2.index t (0 : Fin 3) = t.val / 8 ∧ win0_2.index t (1 : Fin 3) = min (64 * (t.val % 8) + 64) 511 ∧ win0_2.index t (2 : Fin 3) = 0 := by decide +kernel
theorem idx3 : ∀ t : Fin cfg0.N, win0_3.index t (0 : Fin 3) = t.val / 8 ∧ win0_3.index t (1 : Fin 3) = 0 ∧ win0_3.index t (2 : Fin 3) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = 0 ∧ win0_6.index t (1 : Fin 2) = 0 := by decide +kernel
theorem idx7 : ∀ t : Fin cfg0.N, win0_7.index t (0 : Fin 2) = 0 ∧ win0_7.index t (1 : Fin 2) = 0 := by decide +kernel
theorem idx8 : ∀ t : Fin cfg0.N, win0_8.index t (0 : Fin 2) = 0 ∧ win0_8.index t (1 : Fin 2) = 0 := by decide +kernel
theorem idx9 : ∀ t : Fin cfg0.N, win0_9.index t (0 : Fin 2) = 0 ∧ win0_9.index t (1 : Fin 2) = 0 := by decide +kernel

theorem blk0 (t : Fin cfg0.N) (r : Fin 512) (x : Fin 1024) :
    (iblk m c 0 t : Vec Ideal S1x512x1024 .f32) (ix3 0 r x) = (V m c main_arg0 : Vec Ideal S4x4096x1024 .f32) (ix3 (tb t) (ty t r) x) := by
  unfold iblk
  rw [View.read_apply]
  show V m c main_arg0 _ = _
  congr 1
  obtain ⟨h0, h1, h2⟩ := idx0 t
  funext a; apply Fin.ext
  match a with
  | ⟨0, _⟩ => show win0_0.index t (0 : Fin 3) * 1 + 1 * 0 = t.val / 8; rw [h0]; omega
  | ⟨1, _⟩ => show win0_0.index t (1 : Fin 3) * 512 + 1 * r.val = 512 * (t.val % 8) + r.val; rw [h1]; omega
  | ⟨2, _⟩ => show win0_0.index t (2 : Fin 3) * 1024 + 1 * x.val = x.val; rw [h2]; omega

theorem blk1 (t : Fin cfg0.N) (r : Fin 8) (x : Fin 1024) :
    (iblk m c 1 t : Vec Ideal S1x8x1024 .f32) (ix3 0 r x) = (V m c main_arg0 : Vec Ideal S4x4096x1024 .f32) (ix3 (tb t) ⟨(64 * (t.val % 8) - 1) * 8 + r.val, by omega⟩ x) := by
  unfold iblk
  rw [View.read_apply]
  show V m c main_arg0 _ = _
  congr 1
  obtain ⟨h0, h1, h2⟩ := idx1 t
  funext a; apply Fin.ext
  match a with
  | ⟨0, _⟩ => show win0_1.index t (0 : Fin 3) * 1 + 1 * 0 = t.val / 8; rw [h0]; omega
  | ⟨1, _⟩ => show win0_1.index t (1 : Fin 3) * 8 + 1 * r.val = (64 * (t.val % 8) - 1) * 8 + r.val; rw [h1]; omega
  | ⟨2, _⟩ => show win0_1.index t (2 : Fin 3) * 1024 + 1 * x.val = x.val; rw [h2]; omega

theorem blk2 (t : Fin cfg0.N) (r : Fin 8) (x : Fin 1024) :
    (iblk m c 2 t : Vec Ideal S1x8x1024 .f32) (ix3 0 r x) = (V m c main_arg0 : Vec Ideal S4x4096x1024 .f32) (ix3 (tb t) ⟨min (64 * (t.val % 8) + 64) 511 * 8 + r.val, by omega⟩ x) := by
  unfold iblk
  rw [View.read_apply]
  show V m c main_arg0 _ = _
  congr 1
  obtain ⟨h0, h1, h2⟩ := idx2 t
  funext a; apply Fin.ext
  match a with
  | ⟨0, _⟩ => show win0_2.index t (0 : Fin 3) * 1 + 1 * 0 = t.val / 8; rw [h0]; omega
  | ⟨1, _⟩ => show win0_2.index t (1 : Fin 3) * 8 + 1 * r.val = min (64 * (t.val % 8) + 64) 511 * 8 + r.val; rw [h1]; omega
  | ⟨2, _⟩ => show win0_2.index t (2 : Fin 3) * 1024 + 1 * x.val = x.val; rw [h2]; omega

theorem blk3 (t : Fin cfg0.N) (k : Fin 6) (x : Fin 1024) :
    (iblk m c 3 t : Vec Ideal S1x6x1024 .f32) (ix3 0 k x) = (V m c main_v0 : Vec Ideal S4x6x1024 .f32) (ix3 (tb t) k x) := by
  unfold iblk
  rw [View.read_apply]
  show V m c main_v0 _ = _
  congr 1
  obtain ⟨h0, h1, h2⟩ := idx3 t
  funext a; apply Fin.ext
  match a with
  | ⟨0, _⟩ => show win0_3.index t (0 : Fin 3) * 1 + 1 * 0 = t.val / 8; rw [h0]; omega
  | ⟨1, _⟩ => show win0_3.index t (1 : Fin 3) * 6 + 1 * k.val = k.val; rw [h1]; omega
  | ⟨2, _⟩ => show win0_3.index t (2 : Fin 3) * 1024 + 1 * x.val = x.val; rw [h2]; omega

theorem blk4 (t : Fin cfg0.N) (x : Fin 1024) :
    (iblk m c 4 t : Vec Ideal S1x1024 .f32) (ix2 0 x) = (V m c main_v3 : Vec Ideal S1x1024 .f32) (ix2 0 x) := by
  unfold iblk
  rw [View.read_apply]
  show V m c main_v3 _ = _
  congr 1
  obtain ⟨h0, h1⟩ := idx4 t
  funext a; apply Fin.ext
  match a with
  | ⟨0, _⟩ => show win0_4.index t (0 : Fin 2) * 1 + 1 * 0 = 0; rw [h0]
  | ⟨1, _⟩ => show win0_4.index t (1 : Fin 2) * 1024 + 1 * x.val = x.val; rw [h1]; omega

theorem blk5 (t : Fin cfg0.N) (x : Fin 1024) :
    (iblk m c 5 t : Vec Ideal S1x1024 .f32) (ix2 0 x) = (V m c main_v4 : Vec Ideal S1x1024 .f32) (ix2 0 x) := by
  unfold iblk
  rw [View.read_apply]
  show V m c main_v4 _ = _
  congr 1
  obtain ⟨h0, h1⟩ := idx5 t
  funext a; apply Fin.ext
  match a with
  | ⟨0, _⟩ => show win0_5.index t (0 : Fin 2) * 1 + 1 * 0 = 0; rw [h0]
  | ⟨1, _⟩ => show win0_5.index t (1 : Fin 2) * 1024 + 1 * x.val = x.val; rw [h1]; omega

theorem blk6 (t : Fin cfg0.N) (y : Fin 1024) (x : Fin 5632) :
    (iblk m c 6 t : Vec Ideal S1024x5632 .bf16) (ix2 y x) = (V m c main_v1 : Vec Ideal S1024x5632 .bf16) (ix2 y x) := by
  unfold iblk
  rw [View.read_apply]
  show V m c main_v1 _ = _
  congr 1
  obtain ⟨h0, h1⟩ := idx6 t
  funext a; apply Fin.ext
  match a with
  | ⟨0, _⟩ => show win0_6.index t (0 : Fin 2) * 1024 + 1 * y.val = y.val; rw [h0]; omega
  | ⟨1, _⟩ => show win0_6.index t (1 : Fin 2) * 5632 + 1 * x.val = x.val; rw [h1]; omega

theorem blk7 (t : Fin cfg0.N) (y : Fin 3) (x : Fin 5632) :
    (iblk m c 7 t : Vec Ideal S3x5632 .f32) (ix2 y x) = (V m c main_arg5 : Vec Ideal S3x5632 .f32) (ix2 y x) := by
  unfold iblk
  rw [View.read_apply]
  show V m c main_arg5 _ = _
  congr 1
  obtain ⟨h0, h1⟩ := idx7 t
  funext a; apply Fin.ext
  match a with
  | ⟨0, _⟩ => show win0_7.index t (0 : Fin 2) * 3 + 1 * y.val = y.val; rw [h0]; omega
  | ⟨1, _⟩ => show win0_7.index t (1 : Fin 2) * 5632 + 1 * x.val = x.val; rw [h1]; omega

theorem blk8 (t : Fin cfg0.N) (x : Fin 5632) :
    (iblk m c 8 t : Vec Ideal S1x5632 .f32) (ix2 0 x) = (V m c main_v5 : Vec Ideal S1x5632 .f32) (ix2 0 x) := by
  unfold iblk
  rw [View.read_apply]
  show V m c main_v5 _ = _
  congr 1
  obtain ⟨h0, h1⟩ := idx8 t
  funext a; apply Fin.ext
  match a with
  | ⟨0, _⟩ => show win0_8.index t (0 : Fin 2) * 1 + 1 * 0 = 0; rw [h0]
  | ⟨1, _⟩ => show win0_8.index t (1 : Fin 2) * 5632 + 1 * x.val = x.val; rw [h1]; omega

theorem blk9 (t : Fin cfg0.N) (y : Fin 2816) (x : Fin 1024) :
    (iblk m c 9 t : Vec Ideal S2816x1024 .bf16) (ix2 y x) = (V m c main_v2 : Vec Ideal S2816x1024 .bf16) (ix2 y x) := by
  unfold iblk
  rw [View.read_apply]
  show V m c main_v2 _ = _
  congr 1
  obtain ⟨h0, h1⟩ := idx9 t
  funext a; apply Fin.ext
  match a with
  | ⟨0, _⟩ => show win0_9.index t (0 : Fin 2) * 2816 + 1 * y.val = y.val; rw [h0]; omega
  | ⟨1, _⟩ => show win0_9.index t (1 : Fin 2) * 1024 + 1 * x.val = x.val; rw [h1]; omega

/-! ## The extended rows of a block are rows of the sequence -/

theorem ext_row (t : Fin cfg0.N) (e : Fin 528) (h : 8 ≤ 512 * (t.val % 8) + e.val ∧ 512 * (t.val % 8) + e.val < 4104) (k : Fin 1024) :
    extR (iblk m c 0 t) (iblk m c 1 t) (iblk m c 2 t) e k = (m ((c : Thread nD τ).loc main_arg0) : Vec Ideal S4x4096x1024 .f32) (ix3 (tb t) ⟨512 * (t.val % 8) + e.val - 8, by omega⟩ k) := by
  have e0 := fun r x => blk0 m c t r x
  rw [V_main_arg0] at e0
  have e1 := fun r x => blk1 m c t r x
  rw [V_main_arg0] at e1
  have e2 := fun r x => blk2 m c t r x
  rw [V_main_arg0] at e2
  have R : ∀ y y' : Fin 4096, y.val = y'.val → (m ((c : Thread nD τ).loc main_arg0) : Vec Ideal S4x4096x1024 .f32) (ix3 (tb t) y k) = (m ((c : Thread nD τ).loc main_arg0) : Vec Ideal S4x4096x1024 .f32) (ix3 (tb t) y' k) :=
    fun y y' hy => by obtain rfl := Fin.ext hy; rfl
  unfold extR
  split_ifs with h1 h2
  · rw [e1]
    refine R _ _ ?_
    show (64 * (t.val % 8) - 1) * 8 + e.val = 512 * (t.val % 8) + e.val - 8
    omega
  · rw [e0]
    refine R _ _ ?_
    show 512 * (t.val % 8) + (e.val - 8) = 512 * (t.val % 8) + e.val - 8
    omega
  · rw [e2]
    refine R _ _ ?_
    show min (64 * (t.val % 8) + 64) 511 * 8 + (e.val - 8 - 512) = 512 * (t.val % 8) + e.val - 8
    have := e.isLt
    omega

/-- Column j of extended row e is column j of the padded rows of the sequence. -/
theorem dot_row (H : FVec Ideal S528x1024 .bf16) (G : Fin 4096 → Fin 1024 → EReal) (wu : Fin 1024 → Fin 5632 → EReal) (n : ℕ) (hn : n < 8)
    (hH : ∀ e k, H (ix2 e k) = if h : 8 ≤ 512 * n + e.val ∧ 512 * n + e.val < 4104 then G ⟨512 * n + e.val - 8, by omega⟩ k else 0)
    (e : Fin 528) (s : ℕ) (hs : 512 * n + e.val = s + 7) (j : Fin 5632) : dotK H wu e j = padR G wu s j := by
  unfold dotK padR
  by_cases h : 1 ≤ s ∧ s < 4097
  · rw [dif_pos h]
    have h' : 8 ≤ 512 * n + e.val ∧ 512 * n + e.val < 4104 := by omega
    have ei : (⟨512 * n + e.val - 8, by omega⟩ : Fin 4096) = ⟨s - 1, by omega⟩ := Fin.ext (by show 512 * n + e.val - 8 = s - 1; omega)
    refine Finset.sum_congr rfl fun k _ => ?_
    rw [hH e k, dif_pos h', ei]
  · rw [dif_neg h]
    have h' : ¬ (8 ≤ 512 * n + e.val ∧ 512 * n + e.val < 4104) := by omega
    refine Finset.sum_eq_zero fun k _ => ?_
    rw [hH e k, dif_neg h', zero_mul]

/-! ## The result -/

/-- Row y of batch b of the network, at the arguments. -/
def rowF (b : Fin 4) (y : Fin 4096) (d : Fin 1024) : EReal :=
  ffnR (fun y k => (m ((c : Thread nD τ).loc main_arg0) : Vec Ideal S4x4096x1024 .f32) (ix3 b y k))
    (fun k => (m ((c : Thread nD τ).loc main_arg2) : Vec Ideal S1024 .f32) (ix1 k))
    (fun k => (m ((c : Thread nD τ).loc main_arg1) : Vec Ideal S4x6144 .f32) (ix2 b ⟨4096 + k.val, by omega⟩))
    (fun k => (m ((c : Thread nD τ).loc main_arg1) : Vec Ideal S4x6144 .f32) (ix2 b ⟨3072 + k.val, by omega⟩))
    (fun k => (m ((c : Thread nD τ).loc main_arg3) : Vec Ideal S1024 .f32) (ix1 k))
    (fun k => (m ((c : Thread nD τ).loc main_arg1) : Vec Ideal S4x6144 .f32) (ix2 b ⟨5120 + k.val, by omega⟩))
    (fun k j => (m ((c : Thread nD τ).loc main_arg4) : Vec Ideal S1024x5632 .f32) (ix2 k j))
    (fun i j => (m ((c : Thread nD τ).loc main_arg5) : Vec Ideal S3x5632 .f32) (ix2 i j))
    (fun j => (m ((c : Thread nD τ).loc main_arg6) : Vec Ideal S5632 .f32) (ix1 j))
    (fun j d => (m ((c : Thread nD τ).loc main_arg7) : Vec Ideal S2816x1024 .f32) (ix2 j d)) y d

/-- Every row of the block that point t leaves. -/
theorem point_apply (t : Fin cfg0.N) (r : Fin 512) (d : Fin 1024) :
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)) (ix3 0 r d)
      = rowF m c (tb t) (ty t r) d := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) r d).trans ?_
  have ht : t.val % 8 < 8 := Nat.mod_lt _ (by decide)
  have e0 := fun r x => blk0 m c t r x
  rw [V_main_arg0] at e0
  have e3 := fun k x => (blk3 m c t k x).trans (V_v0 m c _ _ _)
  have e4 := fun x => (blk4 m c t x).trans (V_v3 m c _)
  have e5 := fun x => (blk5 m c t x).trans (V_v4 m c _)
  have e6 := fun y x => (blk6 m c t y x).trans (V_v1 m c _ _)
  have e7 := fun y x => blk7 m c t y x
  rw [V_main_arg5] at e7
  have e8 := fun x => (blk8 m c t x).trans (V_v5 m c _)
  have e9 := fun y x => (blk9 m c t y x).trans (V_v2 m c _ _)
  have hc : BitVec.ofNat 32 (grid0.coords t 1).val = BitVec.ofNat 32 (t.val % 8) := by rw [coord1 t]
  rw [hc]
  have hH : ∀ (e : Fin 528) (k : Fin 1024), hT (BitVec.ofNat 32 (t.val % 8)) (iblk m c 0 t) (iblk m c 1 t) (iblk m c 2 t) (iblk m c 4 t) (iblk m c 3 t) (ix2 e k)
      = if h : 8 ≤ 512 * (t.val % 8) + e.val ∧ 512 * (t.val % 8) + e.val < 4104 then
          (fun y => modR (fun k => (m ((c : Thread nD τ).loc main_arg0) : Vec Ideal S4x4096x1024 .f32) (ix3 (tb t) y k)) (fun k => (m ((c : Thread nD τ).loc main_arg2) : Vec Ideal S1024 .f32) (ix1 k)) (fun k => (m ((c : Thread nD τ).loc main_arg1) : Vec Ideal S4x6144 .f32) (ix2 (tb t) ⟨4096 + k.val, by omega⟩)) (fun k => (m ((c : Thread nD τ).loc main_arg1) : Vec Ideal S4x6144 .f32) (ix2 (tb t) ⟨3072 + k.val, by omega⟩))) ⟨512 * (t.val % 8) + e.val - 8, by omega⟩ k else 0 := by
    intro e k
    rw [hT_apply (t.val % 8) ht]
    have he := e.isLt
    by_cases h : 8 ≤ 512 * (t.val % 8) + e.val ∧ 512 * (t.val % 8) + e.val < 4104
    · rw [dif_pos h, if_pos (by omega), funext (ext_row m c t e h)]
      simp only [e3, e4]
      rfl
    · rw [dif_neg h, if_neg (by omega)]
  generalize hT (BitVec.ofNat 32 (t.val % 8)) (iblk m c 0 t) (iblk m c 1 t) (iblk m c 2 t) (iblk m c 4 t) (iblk m c 3 t) = H at hH ⊢
  have hcv : cvK H (iblk m c 6 t) (iblk m c 7 t) (iblk m c 8 t) r
      = convR (fun y => modR (fun k => (m ((c : Thread nD τ).loc main_arg0) : Vec Ideal S4x4096x1024 .f32) (ix3 (tb t) y k)) (fun k => (m ((c : Thread nD τ).loc main_arg2) : Vec Ideal S1024 .f32) (ix1 k)) (fun k => (m ((c : Thread nD τ).loc main_arg1) : Vec Ideal S4x6144 .f32) (ix2 (tb t) ⟨4096 + k.val, by omega⟩)) (fun k => (m ((c : Thread nD τ).loc main_arg1) : Vec Ideal S4x6144 .f32) (ix2 (tb t) ⟨3072 + k.val, by omega⟩)))
          (fun k j => (m ((c : Thread nD τ).loc main_arg4) : Vec Ideal S1024x5632 .f32) (ix2 k j)) (fun i j => (m ((c : Thread nD τ).loc main_arg5) : Vec Ideal S3x5632 .f32) (ix2 i j)) (fun j => (m ((c : Thread nD τ).loc main_arg6) : Vec Ideal S5632 .f32) (ix1 j)) (ty t r).val := by
    funext j
    unfold cvK convR
    simp only [e6, e7, e8]
    rw [dot_row H (fun y => modR (fun k => (m ((c : Thread nD τ).loc main_arg0) : Vec Ideal S4x4096x1024 .f32) (ix3 (tb t) y k)) (fun k => (m ((c : Thread nD τ).loc main_arg2) : Vec Ideal S1024 .f32) (ix1 k)) (fun k => (m ((c : Thread nD τ).loc main_arg1) : Vec Ideal S4x6144 .f32) (ix2 (tb t) ⟨4096 + k.val, by omega⟩)) (fun k => (m ((c : Thread nD τ).loc main_arg1) : Vec Ideal S4x6144 .f32) (ix2 (tb t) ⟨3072 + k.val, by omega⟩))) _ (t.val % 8) ht hH ⟨r.val + 7, by omega⟩ (ty t r).val (by show 512 * (t.val % 8) + (r.val + 7) = 512 * (t.val % 8) + r.val + 7; omega) j,
      dot_row H (fun y => modR (fun k => (m ((c : Thread nD τ).loc main_arg0) : Vec Ideal S4x4096x1024 .f32) (ix3 (tb t) y k)) (fun k => (m ((c : Thread nD τ).loc main_arg2) : Vec Ideal S1024 .f32) (ix1 k)) (fun k => (m ((c : Thread nD τ).loc main_arg1) : Vec Ideal S4x6144 .f32) (ix2 (tb t) ⟨4096 + k.val, by omega⟩)) (fun k => (m ((c : Thread nD τ).loc main_arg1) : Vec Ideal S4x6144 .f32) (ix2 (tb t) ⟨3072 + k.val, by omega⟩))) _ (t.val % 8) ht hH ⟨r.val + 8, by omega⟩ ((ty t r).val + 1) (by show 512 * (t.val % 8) + (r.val + 8) = 512 * (t.val % 8) + r.val + 1 + 7; omega) j,
      dot_row H (fun y => modR (fun k => (m ((c : Thread nD τ).loc main_arg0) : Vec Ideal S4x4096x1024 .f32) (ix3 (tb t) y k)) (fun k => (m ((c : Thread nD τ).loc main_arg2) : Vec Ideal S1024 .f32) (ix1 k)) (fun k => (m ((c : Thread nD τ).loc main_arg1) : Vec Ideal S4x6144 .f32) (ix2 (tb t) ⟨4096 + k.val, by omega⟩)) (fun k => (m ((c : Thread nD τ).loc main_arg1) : Vec Ideal S4x6144 .f32) (ix2 (tb t) ⟨3072 + k.val, by omega⟩))) _ (t.val % 8) ht hH ⟨r.val + 9, by omega⟩ ((ty t r).val + 2) (by show 512 * (t.val % 8) + (r.val + 9) = 512 * (t.val % 8) + r.val + 2 + 7; omega) j]
  rw [hcv]
  simp only [e0, e3, e5, e9]
  rfl

theorem flush10 : ∀ t : Fin cfg0.N, (cfg0.win 10).flush t = true := by decide +kernel

theorem result_at (t : Fin cfg0.N) (r : Fin 512) (d : Fin 1024) :
    ((dats m 0 c).arrAt 10 cfg0.N : Vec Ideal S4x4096x1024 .f32) (ix3 (tb t) (ty t r) d) = rowF m c (tb t) (ty t r) d := by
  have h := congrFun ((blocks10 m c t (flush10 t)).trans (flushed10_A m c t)) (ix3 (0 : Fin 1) r d)
  rw [View.read_apply] at h
  refine Eq.trans (congrArg ((dats m 0 c).arrAt 10 cfg0.N : Vec Ideal S4x4096x1024 .f32) ?_) (h.trans (Eq.trans (congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)) ?_) (point_apply m c t r d)))
  · obtain ⟨h0, h1, h2⟩ := idx10 t
    funext a; apply Fin.ext
    match a with
    | ⟨0, _⟩ => show t.val / 8 = win0_10.index t (0 : Fin 3) * 1 + 1 * 0; rw [h0]; omega
    | ⟨1, _⟩ => show 512 * (t.val % 8) + r.val = win0_10.index t (1 : Fin 3) * 512 + 1 * r.val; rw [h1]; omega
    | ⟨2, _⟩ => show d.val = win0_10.index t (2 : Fin 3) * 1024 + 1 * d.val; rw [h2]; omega
  · funext a; apply Fin.ext
    match a with
    | ⟨0, _⟩ => rfl
    | ⟨1, _⟩ => rfl
    | ⟨2, _⟩ => rfl

/-- Every row of the result array. -/
theorem result_apply (b : Fin 4) (y : Fin 4096) (d : Fin 1024) :
    ((dats m 0 c).arrAt 10 cfg0.N : Vec Ideal S4x4096x1024 .f32) (ix3 b y d) = rowF m c b y d := by
  have hN : 8 * b.val + y.val / 512 < cfg0.N := lt_of_lt_of_eq (by omega) N_0.symm
  have h := result_at m c ⟨8 * b.val + y.val / 512, hN⟩ ⟨y.val % 512, by omega⟩ d
  have eb : tb ⟨8 * b.val + y.val / 512, hN⟩ = b := Fin.ext (by show (8 * b.val + y.val / 512) / 8 = b.val; omega)
  have ey : ty ⟨8 * b.val + y.val / 512, hN⟩ ⟨y.val % 512, by omega⟩ = y := Fin.ext (by show 512 * ((8 * b.val + y.val / 512) % 8) + y.val % 512 = y.val; omega)
  rw [eb, ey] at h
  exact h

end Cert.Kernel4Ideal.Hand

end
-- ==== Proof.FfnSampleRef.lean ====
/-
  The network's reference for the sample, read at an index over the extended reals: every row of its result is the network's row.
-/
module

public import proofs.«01_k».proof.Proof.Gen.Reference4Ideal.Run
public import proofs.«01_k».proof.Proof.FfnSpec
public import Idealize.ShloMosaic.Lib.Pipeline.ValueKit.Tiles
public import Idealize.ShloMosaic.Lib.StableHlo.ReadAt

@[expose] public section

set_option maxRecDepth 16384

noncomputable section

namespace Cert.Reference4Ideal.Hand

open Idealize.ShloMosaic Idealize.ShloMosaic.TcCoe Idealize.ShloMosaic.Tactic
open Cert.Reference4Ideal Cert.Reference4Ideal.Gen Cert.Reference4Ideal.Value Cert.RowSpec

variable (V0 : Valuation τ sig (Elt Ideal))

/-- The modulated normal rows, the widened rows and the result, as the reference's lines compute them. -/
def hT : FVec Ideal S4x4096x1024 .f32 := addf (mulf (mulf (mulf (V0 (Proc.devRef .tc main_arg0)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (V0 (Proc.devRef .tc main_arg0)) (V0 (Proc.devRef .tc main_arg0))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V0 (Proc.devRef .tc main_arg2))))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 4096] (res_main_v0 V0) slices_S4x1x6144_S4x1x1024_0_0_4096)))) (broadcastInDim S4x4096x1024 ![0, 1, 2] bcast_S4x1x1024_S4x4096x1024_0_1_2 (extractStridedSlice S4x1x1024 ![0, 0, 3072] (res_main_v0 V0) slices_S4x1x6144_S4x1x1024_0_0_3072))
def wT : FVec Ideal S4x4096x5632 .f32 := Host.dotGeneral (φ₁ := .f32) (φ₂ := .f32) dot_S4x4096x1024_S1024x5632_S4x4096x5632_2_0_01_1_n_n none (hT V0) (V0 (Proc.devRef .tc main_arg4))
def pT : FVec Ideal S4x4098x5632 .f32 := pad S4x4098x5632 ![0, 1, 0] ![0, 1, 0] ![0, 0, 0] (wT V0) (sitofp .f32 (constantI S_ 32 0#32)) pads_S4x4096x5632_S4x4098x5632_000_110_000 h_S_
def resT : FVec Ideal S4x4096x1024 .f32 := addf (V0 (Proc.devRef .tc main_arg0)) (mulf (broadcastInDim S4x4096x1024 ![0, 1, 2] bcast_S4x1x1024_S4x4096x1024_0_1_2 (extractStridedSlice S4x1x1024 ![0, 0, 5120] (res_main_v0 V0) slices_S4x1x6144_S4x1x1024_0_0_5120)) (mulf (mulf (res_main_v67 V0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v67 V0) (res_main_v67 V0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (V0 (Proc.devRef .tc main_arg3))))))

theorem pT_eq : res_main_v27 V0 = pT V0 := rfl

def xM (b : Fin 4) (y : Fin 4096) (k : Fin 1024) : EReal := (V0 (Proc.devRef .tc main_arg0) : Vec Ideal S4x4096x1024 .f32) (ix3 b y k)
def hM (b : Fin 4) (y : Fin 4096) : Fin 1024 → EReal :=
  modR (xM V0 b y) (fun k => (V0 (Proc.devRef .tc main_arg2) : Vec Ideal S1024 .f32) (ix1 k)) (fun k => (V0 (Proc.devRef .tc main_arg1) : Vec Ideal S4x6144 .f32) (ix2 b ⟨4096 + k.val, by omega⟩)) (fun k => (V0 (Proc.devRef .tc main_arg1) : Vec Ideal S4x6144 .f32) (ix2 b ⟨3072 + k.val, by omega⟩))
def wuM (k : Fin 1024) (j : Fin 5632) : EReal := (V0 (Proc.devRef .tc main_arg4) : Vec Ideal S1024x5632 .f32) (ix2 k j)
def cwM (i : Fin 3) (j : Fin 5632) : EReal := (V0 (Proc.devRef .tc main_arg5) : Vec Ideal S3x5632 .f32) (ix2 i j)
def cbM (j : Fin 5632) : EReal := (V0 (Proc.devRef .tc main_arg6) : Vec Ideal S5632 .f32) (ix1 j)
def wdM (j : Fin 2816) (d : Fin 1024) : EReal := (V0 (Proc.devRef .tc main_arg7) : Vec Ideal S2816x1024 .f32) (ix2 j d)

theorem hT_apply (b : Fin 4) (y : Fin 4096) (d : Fin 1024) : hT V0 (ix3 b y d) = hM V0 b y d := by
  pointwise [hT, res_main_v0]
  rfl

theorem wT_apply (b : Fin 4) (y : Fin 4096) (j : Fin 5632) : wT V0 (ix3 b y j) = (∑ k : Fin 1024, hM V0 b y k * wuM V0 k j : EReal) := by
  pointwise [wT]
  simp only [hT_apply]
  rfl

theorem pT_apply (b : Fin 4) (e : Fin 4098) (j : Fin 5632) : pT V0 (ix3 b e j) = padR (hM V0 b) (wuM V0) e.val j := by
  pointwise [pT]
  simp only [wT_apply]
  have z : FloatOps.sitofp (F := Ideal) FTy.f32 0#32 = (0 : EReal) := by
    show (((0#32 : BitVec 32).toInt : ℝ) : EReal) = 0
    simp
  rw [z]
  unfold padR
  by_cases h : 1 ≤ e.val ∧ e.val < 4097
  · rw [dif_pos h, dif_pos (by omega)]
  · rw [dif_neg h, dif_neg (by omega)]

theorem v50_apply (b : Fin 4) (y : Fin 4096) (j : Fin 5632) : (res_main_v50 V0 : Vec Ideal S4x4096x5632 .f32) (ix3 b y j) = convR (hM V0 b) (wuM V0) (cwM V0) (cbM V0) y.val j := by
  pointwise [res_main_v50]
  simp only [pT_eq, pT_apply]
  rw [Nat.add_comm 1 y.val, Nat.add_comm 2 y.val]
  rfl

theorem v67_apply (b : Fin 4) (y : Fin 4096) (d : Fin 1024) :
    (res_main_v67 V0 : Vec Ideal S4x4096x1024 .f32) (ix3 b y d) = (∑ j : Fin 2816, gluR (convR (hM V0 b) (wuM V0) (cwM V0) (cbM V0) y.val) j * wdM V0 j d : EReal) := by
  pointwise [res_main_v67, res_main_v51]
  simp only [v50_apply]
  have cube : ∀ g : EReal, g * g * g = g * (g * g) := fun g => mul_comm _ _
  simp only [cube]
  rfl

def rowV (b : Fin 4) (y : Fin 4096) (d : Fin 1024) : EReal :=
  ffnR (fun y k => (V0 (Proc.devRef .tc main_arg0) : Vec Ideal S4x4096x1024 .f32) (ix3 b y k))
    (fun k => (V0 (Proc.devRef .tc main_arg2) : Vec Ideal S1024 .f32) (ix1 k))
    (fun k => (V0 (Proc.devRef .tc main_arg1) : Vec Ideal S4x6144 .f32) (ix2 b ⟨4096 + k.val, by omega⟩))
    (fun k => (V0 (Proc.devRef .tc main_arg1) : Vec Ideal S4x6144 .f32) (ix2 b ⟨3072 + k.val, by omega⟩))
    (fun k => (V0 (Proc.devRef .tc main_arg3) : Vec Ideal S1024 .f32) (ix1 k))
    (fun k => (V0 (Proc.devRef .tc main_arg1) : Vec Ideal S4x6144 .f32) (ix2 b ⟨5120 + k.val, by omega⟩))
    (fun k j => (V0 (Proc.devRef .tc main_arg4) : Vec Ideal S1024x5632 .f32) (ix2 k j))
    (fun i j => (V0 (Proc.devRef .tc main_arg5) : Vec Ideal S3x5632 .f32) (ix2 i j))
    (fun j => (V0 (Proc.devRef .tc main_arg6) : Vec Ideal S5632 .f32) (ix1 j))
    (fun j d => (V0 (Proc.devRef .tc main_arg7) : Vec Ideal S2816x1024 .f32) (ix2 j d)) y d

theorem res_apply (b : Fin 4) (y : Fin 4096) (d : Fin 1024) : resT V0 (ix3 b y d) = rowV V0 b y d := by
  pointwise [resT, res_main_v0]
  simp only [v67_apply]
  rfl

/-- Row y of batch b of the network, at the arguments. -/
def rowF (m : (ℓ : Loc nD τ sig) → Buf (Elt Ideal) ℓ) (c : Dev nD) (b : Fin 4) (y : Fin 4096) (d : Fin 1024) : EReal :=
  ffnR (fun y k => (m ((c : Thread nD τ).loc main_arg0) : Vec Ideal S4x4096x1024 .f32) (ix3 b y k))
    (fun k => (m ((c : Thread nD τ).loc main_arg2) : Vec Ideal S1024 .f32) (ix1 k))
    (fun k => (m ((c : Thread nD τ).loc main_arg1) : Vec Ideal S4x6144 .f32) (ix2 b ⟨4096 + k.val, by omega⟩))
    (fun k => (m ((c : Thread nD τ).loc main_arg1) : Vec Ideal S4x6144 .f32) (ix2 b ⟨3072 + k.val, by omega⟩))
    (fun k => (m ((c : Thread nD τ).loc main_arg3) : Vec Ideal S1024 .f32) (ix1 k))
    (fun k => (m ((c : Thread nD τ).loc main_arg1) : Vec Ideal S4x6144 .f32) (ix2 b ⟨5120 + k.val, by omega⟩))
    (fun k j => (m ((c : Thread nD τ).loc main_arg4) : Vec Ideal S1024x5632 .f32) (ix2 k j))
    (fun i j => (m ((c : Thread nD τ).loc main_arg5) : Vec Ideal S3x5632 .f32) (ix2 i j))
    (fun j => (m ((c : Thread nD τ).loc main_arg6) : Vec Ideal S5632 .f32) (ix1 j))
    (fun j d => (m ((c : Thread nD τ).loc main_arg7) : Vec Ideal S2816x1024 .f32) (ix2 j d)) y d

theorem result_apply (m : (ℓ : Loc nD τ sig) → Buf (Elt Ideal) ℓ) (c : Dev nD) (b : Fin 4) (y : Fin 4096) (d : Fin 1024) :
    resT (StableHlo.launchContents m c) (ix3 b y d) = rowF m c b y d := res_apply (StableHlo.launchContents m c) b y d

end Cert.Reference4Ideal.Hand

end
-- ==== Proof.FfnSampleClaim.lean ====
/-
  The conjuncts of the claim about the feed-forward network at the sample's shape: the reference's run leaves its arguments as they were, and the two
  programs end with the same array.
-/
module

public import proofs.«01_k».proof.Defs
public import proofs.«01_k».proof.Proof.FfnSampleRun
public import proofs.«01_k».proof.Proof.FfnSampleRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_ffn_sample_reference : Cert.quiescent_Reference4Ideal := fun m g _ =>
  (θ_run Cert.Reference4Ideal.defs _ _).mono (fun r h => ⟨fun c => (h c).2, sem_eq_zero_of_no_sems (by decide) r.2⟩) (Cert.Reference4Ideal.Value.run (F := Ideal) m g)

/-- The two results are one array: every row of both is the network's row at the same arguments. -/
theorem algebraic_ffn_sample : Cert.algebraic_Kernel4Ideal_Reference4Ideal := by
  intro m g m' g' _ hagree
  refine ⟨_, Cert.Kernel4Ideal.Value.run_blocks (F := Ideal) m g, ?_⟩
  refine (θ_run Cert.Reference4Ideal.defs _ _).mono (fun r h c => ⟨(h c).1.trans ?_, (h c).2⟩) (Cert.Reference4Ideal.Value.run (F := Ideal) m' g')
  obtain ⟨h0, h1, h2, h3, h4, h5, h6, h7⟩ := hagree c
  funext i
  obtain ⟨b, y, x, rfl⟩ : ∃ (b : Fin 4) (y : Fin 4096) (x : Fin 1024), i = ix3 b y x := ⟨i 0, i 1, i 2, by funext a; match a with | ⟨0, _⟩ => rfl | ⟨1, _⟩ => rfl | ⟨2, _⟩ => rfl⟩
  refine (Cert.Reference4Ideal.Hand.result_apply m' c b y x).trans (Eq.trans ?_ (Cert.Kernel4Ideal.Hand.result_apply m c b y x).symm)
  unfold Cert.Reference4Ideal.Hand.rowF Cert.Kernel4Ideal.Hand.rowF
  rw [h0, h1, h2, h3, h4, h5, h6, h7]

end Cert.Proof

end
-- ==== Proof.InSpec.lean ====
/-
  A row of the mixers' input projection over the extended reals.
-/
module

public import proofs.«01_k».proof.Proof.RowSpec

@[expose] public section

noncomputable section

namespace Cert.RowSpec

open Idealize.ShloMosaic

/-- Column j of the mixers' weights; past the last there are columns of zeros. -/
def colR (w : Fin 1024 → Fin 6944 → EReal) (j : ℕ) (k : Fin 1024) : EReal := if h : j < 2848 then w k ⟨j, by omega⟩ else 0

/-- Column j of the projection of a row. -/
def projR (x np sc sh : Fin 1024 → EReal) (w : Fin 1024 → EReal) : EReal := ∑ k : Fin 1024, modR x np sc sh k * w k

theorem projR_zero (x np sc sh : Fin 1024 → EReal) : projR x np sc sh (fun _ => 0) = 0 :=
  Finset.sum_eq_zero fun k _ => mul_zero _

end Cert.RowSpec

end
-- ==== Proof.InBlock.lean ====
/-
  One block of the input projection's kernel over the extended reals.
-/
module

public import proofs.«01_k».proof.Proof.InSpec
public import proofs.«01_k».proof.Proof.Gen.Kernel5Ideal.Value
public import Idealize.ShloMosaic.Lib.Pipeline.ValueKit.Tiles
public import Idealize.ShloMosaic.Lib.Pointwise

@[expose] public section

set_option maxRecDepth 16384

noncomputable section

namespace Cert.Kernel5Ideal.Hand

open Idealize.ShloMosaic Idealize.ShloMosaic.TcCoe Idealize.ShloMosaic.Tactic
open Cert.Kernel5Ideal Cert.Kernel5Ideal.Gen Cert.RowSpec

theorem out4_apply (x0 : Vec Ideal S1x1024x1024 .f32) (x1 : Vec Ideal S1x6x1024 .f32) (x2 : Vec Ideal S1x1024 .f32) (x3 : Vec Ideal S1024x2944 .bf16) (r : Fin 1024) (d : Fin 256) :
    out0_4 x0 x1 x2 x3 (ix3 0 r d)
      = projR (fun k => x0 (ix3 0 r k)) (fun k => x2 (ix2 0 k)) (fun k => x1 (ix3 0 1 k)) (fun k => x1 (ix3 0 0 k)) (fun k => x3 (ix2 k ⟨d.val, by omega⟩)) := by
  unfold_out out0_4
  rw [View.canon_unit_zero (by funext a; fin_cases a <;> rfl)]
  pointwise [k0_pay5, k0_pay6, k0_pay4, View.ld]
  rfl

theorem out5_apply (x0 : Vec Ideal S1x1024x1024 .f32) (x1 : Vec Ideal S1x6x1024 .f32) (x2 : Vec Ideal S1x1024 .f32) (x3 : Vec Ideal S1024x2944 .bf16) (r : Fin 1024) (d : Fin 1024) :
    out0_5 x0 x1 x2 x3 (ix3 0 r d)
      = projR (fun k => x0 (ix3 0 r k)) (fun k => x2 (ix2 0 k)) (fun k => x1 (ix3 0 1 k)) (fun k => x1 (ix3 0 0 k)) (fun k => x3 (ix2 k ⟨256 + d.val, by omega⟩)) := by
  unfold_out out0_5
  rw [View.canon_unit_zero (by funext a; fin_cases a <;> rfl)]
  pointwise [k0_pay1, k0_pay6, k0_pay4, View.ld]
  rfl

theorem out6_apply (x0 : Vec Ideal S1x1024x1024 .f32) (x1 : Vec Ideal S1x6x1024 .f32) (x2 : Vec Ideal S1x1024 .f32) (x3 : Vec Ideal S1024x2944 .bf16) (r : Fin 1024) (d : Fin 768) :
    out0_6 x0 x1 x2 x3 (ix3 0 r d)
      = projR (fun k => x0 (ix3 0 r k)) (fun k => x2 (ix2 0 k)) (fun k => x1 (ix3 0 1 k)) (fun k => x1 (ix3 0 0 k)) (fun k => x3 (ix2 k ⟨1280 + d.val, by omega⟩)) := by
  unfold_out out0_6
  rw [View.canon_unit_zero (by funext a; fin_cases a <;> rfl)]
  pointwise [k0_pay2, k0_pay6, k0_pay4, View.ld]
  rfl

theorem out7_apply (x0 : Vec Ideal S1x1024x1024 .f32) (x1 : Vec Ideal S1x6x1024 .f32) (x2 : Vec Ideal S1x1024 .f32) (x3 : Vec Ideal S1024x2944 .bf16) (r : Fin 1024) (d : Fin 896) :
    out0_7 x0 x1 x2 x3 (ix3 0 r d)
      = projR (fun k => x0 (ix3 0 r k)) (fun k => x2 (ix2 0 k)) (fun k => x1 (ix3 0 1 k)) (fun k => x1 (ix3 0 0 k)) (fun k => x3 (ix2 k ⟨2048 + d.val, by omega⟩)) := by
  unfold_out out0_7
  rw [View.canon_unit_zero (by funext a; fin_cases a <;> rfl)]
  pointwise [k0_pay3, k0_pay6, k0_pay4, View.ld]
  rfl

end Cert.Kernel5Ideal.Hand

end
-- ==== Proof.InRun.lean ====
/-
  The input projection's grid over the extended reals: the blocks that each point reads, and what the result arrays hold.
-/
module

public import proofs.«01_k».proof.Proof.InBlock
public import Idealize.ShloMosaic.Lib.StableHlo.ReadAt

@[expose] public section

set_option maxRecDepth 16384

noncomputable section

namespace Cert.Kernel5Ideal.Hand

open Idealize.ShloMosaic Idealize.ShloMosaic.TcCoe Idealize.ShloMosaic.Tactic
open Cert.Kernel5Ideal Cert.Kernel5Ideal.Gen Cert.Kernel5Ideal.Value Cert.RowSpec

variable (m : (ℓ : Loc nD τ sig) → Buf (Elt Ideal) ℓ) (c : Dev nD)

theorem tlt (t : Fin cfg0.N) : t.val < 16 := lt_of_lt_of_eq t.isLt N_0

/-- The batch and the row of the sequence that row r of point t's block is. -/
def tb (t : Fin cfg0.N) : Fin 2 := ⟨t.val / 8, by have := tlt t; omega⟩
def ty (t : Fin cfg0.N) (r : Fin 1024) : Fin 8192 := ⟨1024 * (t.val % 8) + r.val, by omega⟩

/-! ## What the host lines leave in the arrays that the kernel reads -/

theorem V_v2 (k : Fin 1024) (j : Fin 2944) : (V m c main_v2 : Vec Ideal S1024x2944 .bf16) (ix2 k j) = colR (fun k j => (m ((c : Thread nD τ).loc main_arg3) : Vec Ideal S1024x6944 .f32) (ix2 k j)) j.val k := by
  unfold V
  after_reads_at
  have z : FloatOps.sitofp (F := Ideal) FTy.f32 0#32 = (0 : EReal) := by
    show (((0#32 : BitVec 32).toInt : ℝ) : EReal) = 0
    simp
  try rw [z]
  rfl

theorem V_v3 (b : Fin 2) (k : Fin 6) (x : Fin 1024) : (V m c main_v3 : Vec Ideal S2x6x1024 .f32) (ix3 b k x) = (m ((c : Thread nD τ).loc main_arg1) : Vec Ideal S2x6144 .f32) (ix2 b ⟨k.val * 1024 + x.val, by omega⟩) := by
  unfold V
  after_reads_at

theorem V_v4 (x : Fin 1024) : (V m c main_v4 : Vec Ideal S1x1024 .f32) (ix2 0 x) = (m ((c : Thread nD τ).loc main_arg2) : Vec Ideal S1024 .f32) (ix1 x) := by
  unfold V
  after_reads_at

/-! ## The blocks -/

theorem idx0 : ∀ t : Fin cfg0.N, win0_0.index t (0 : Fin 3) = t.val / 8 ∧ win0_0.index t (1 : Fin 3) = t.val % 8 ∧ win0_0.index t (2 : Fin 3) = 0 := by decide +kernel
theorem idx4 : ∀ t : Fin cfg0.N, win0_4.index t (0 : Fin 3) = t.val / 8 ∧ win0_4.index t (1 : Fin 3) = t.val % 8 ∧ win0_4.index t (2 : Fin 3) = 0 := by decide +kernel
theorem idx5 : ∀ t : Fin cfg0.N, win0_5.index t (0 : Fin 3) = t.val / 8 ∧ win0_5.index t (1 : Fin 3) = t.val % 8 ∧ win0_5.index t (2 : Fin 3) = 0 := by decide +kernel
theorem idx6 : ∀ t : Fin cfg0.N, win0_6.index t (0 : Fin 3) = t.val / 8 ∧ win0_6.index t (1 : Fin 3) = t.val % 8 ∧ win0_6.index t (2 : Fin 3) = 0 := by decide +kernel
theorem idx7 : ∀ t : Fin cfg0.N, win0_7.index t (0 : Fin 3) = t.val / 8 ∧ win0_7.index t (1 : Fin 3) = t.val % 8 ∧ win0_7.index t (2 : Fin 3) = 0 := by decide +kernel
theorem idx1 : ∀ t : Fin cfg0.N, win0_1.index t (0 : Fin 3) = t.val / 8 ∧ win0_1.index t (1 : Fin 3) = 0 ∧ win0_1.index t (2 : Fin 3) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel

theorem blk0 (t : Fin cfg0.N) (r : Fin 1024) (x : Fin 1024) :
    (iblk m c 0 t : Vec Ideal S1x1024x1024 .f32) (ix3 0 r x) = (V m c main_arg0 : Vec Ideal S2x8192x1024 .f32) (ix3 (tb t) (ty t r) x) := by
  unfold iblk
  rw [View.read_apply]
  show V m c main_arg0 _ = _
  congr 1
  obtain ⟨h0, h1, h2⟩ := idx0 t
  funext a; apply Fin.ext
  match a with
  | ⟨0, _⟩ => show win0_0.index t (0 : Fin 3) * 1 + 1 * 0 = t.val / 8; rw [h0]; omega
  | ⟨1, _⟩ => show win0_0.index t (1 : Fin 3) * 1024 + 1 * r.val = 1024 * (t.val % 8) + r.val; rw [h1]; omega
  | ⟨2, _⟩ => show win0_0.index t (2 : Fin 3) * 1024 + 1 * x.val = x.val; rw [h2]; omega

theorem blk1 (t : Fin cfg0.N) (k : Fin 6) (x : Fin 1024) :
    (iblk m c 1 t : Vec Ideal S1x6x1024 .f32) (ix3 0 k x) = (V m c main_v3 : Vec Ideal S2x6x1024 .f32) (ix3 (tb t) k x) := by
  unfold iblk
  rw [View.read_apply]
  show V m c main_v3 _ = _
  congr 1
  obtain ⟨h0, h1, h2⟩ := idx1 t
  funext a; apply Fin.ext
  match a with
  | ⟨0, _⟩ => show win0_1.index t (0 : Fin 3) * 1 + 1 * 0 = t.val / 8; rw [h0]; omega
  | ⟨1, _⟩ => show win0_1.index t (1 : Fin 3) * 6 + 1 * k.val = k.val; rw [h1]; omega
  | ⟨2, _⟩ => show win0_1.index t (2 : Fin 3) * 1024 + 1 * x.val = x.val; rw [h2]; omega

theorem blk2 (t : Fin cfg0.N) (x : Fin 1024) :
    (iblk m c 2 t : Vec Ideal S1x1024 .f32) (ix2 0 x) = (V m c main_v4 : Vec Ideal S1x1024 .f32) (ix2 0 x) := by
  unfold iblk
  rw [View.read_apply]
  show V m c main_v4 _ = _
  congr 1
  obtain ⟨h0, h1⟩ := idx2 t
  funext a; apply Fin.ext
  match a with
  | ⟨0, _⟩ => show win0_2.index t (0 : Fin 2) * 1 + 1 * 0 = 0; rw [h0]
  | ⟨1, _⟩ => show win0_2.index t (1 : Fin 2) * 1024 + 1 * x.val = x.val; rw [h1]; omega

theorem blk3 (t : Fin cfg0.N) (y : Fin 1024) (x : Fin 2944) :
    (iblk m c 3 t : Vec Ideal S1024x2944 .bf16) (ix2 y x) = (V m c main_v2 : Vec Ideal S1024x2944 .bf16) (ix2 y x) := by
  unfold iblk
  rw [View.read_apply]
  show V m c main_v2 _ = _
  congr 1
  obtain ⟨h0, h1⟩ := idx3 t
  funext a; apply Fin.ext
  match a with
  | ⟨0, _⟩ => show win0_3.index t (0 : Fin 2) * 1024 + 1 * y.val = y.val; rw [h0]; omega
  | ⟨1, _⟩ => show win0_3.index t (1 : Fin 2) * 2944 + 1 * x.val = x.val; rw [h1]; omega

/-! ## The results -/

/-- Column j of row y of batch b of the projection, at the arguments. -/
def rowP (b : Fin 2) (y : Fin 8192) (j : ℕ) : EReal :=
  projR (fun k => (m ((c : Thread nD τ).loc main_arg0) : Vec Ideal S2x8192x1024 .f32) (ix3 b y k))
    (fun k => (m ((c : Thread nD τ).loc main_arg2) : Vec Ideal S1024 .f32) (ix1 k))
    (fun k => (m ((c : Thread nD τ).loc main_arg1) : Vec Ideal S2x6144 .f32) (ix2 b ⟨1024 + k.val, by omega⟩))
    (fun k => (m ((c : Thread nD τ).loc main_arg1) : Vec Ideal S2x6144 .f32) (ix2 b ⟨k.val, by omega⟩))
    (colR (fun k j => (m ((c : Thread nD τ).loc main_arg3) : Vec Ideal S1024x6944 .f32) (ix2 k j)) j)

theorem point4_apply (t : Fin cfg0.N) (r : Fin 1024) (d : Fin 256) : (out0_4 (iblk m c 0 t) (iblk m c 1 t) (iblk m c 2 t) (iblk m c 3 t)) (ix3 0 r d) = rowP m c (tb t) (ty t r) (d.val) := by
  refine (out4_apply _ _ _ _ r d).trans ?_
  have e0 := fun r x => blk0 m c t r x
  rw [V_main_arg0] at e0
  have e1 := fun k x => (blk1 m c t k x).trans (V_v3 m c _ _ _)
  have e2 := fun x => (blk2 m c t x).trans (V_v4 m c _)
  have e3 := fun y x => (blk3 m c t y x).trans (V_v2 m c _ _)
  simp only [e0, e1, e2, e3]
  unfold rowP
  congr 1
  funext k; congr 2; apply Fin.ext; show 0 * 1024 + k.val = k.val; omega

theorem flush4 : ∀ t : Fin cfg0.N, (cfg0.win 4).flush t = true := by decide +kernel

theorem result4_at (t : Fin cfg0.N) (r : Fin 1024) (d : Fin 256) :
    ((dats m 0 c).arrAt 4 cfg0.N : Vec Ideal S2x8192x256 .f32) (ix3 (tb t) (ty t r) d) = rowP m c (tb t) (ty t r) (d.val) := by
  have h := congrFun ((blocks4 m c t (flush4 t)).trans (flushed4 m c t)) (ix3 (0 : Fin 1) r d)
  rw [View.read_apply] at h
  refine Eq.trans (congrArg ((dats m 0 c).arrAt 4 cfg0.N : Vec Ideal S2x8192x256 .f32) ?_) (h.trans (Eq.trans (congrArg (out0_4 (iblk m c 0 t) (iblk m c 1 t) (iblk m c 2 t) (iblk m c 3 t)) ?_) (point4_apply m c t r d)))
  · obtain ⟨h0, h1, h2⟩ := idx4 t
    funext a; apply Fin.ext
    match a with
    | ⟨0, _⟩ => show t.val / 8 = win0_4.index t (0 : Fin 3) * 1 + 1 * 0; rw [h0]; omega
    | ⟨1, _⟩ => show 1024 * (t.val % 8) + r.val = win0_4.index t (1 : Fin 3) * 1024 + 1 * r.val; rw [h1]; omega
    | ⟨2, _⟩ => show d.val = win0_4.index t (2 : Fin 3) * 256 + 1 * d.val; rw [h2]; omega
  · funext a; apply Fin.ext
    match a with
    | ⟨0, _⟩ => rfl
    | ⟨1, _⟩ => rfl
    | ⟨2, _⟩ => rfl

theorem result4_apply (b : Fin 2) (y : Fin 8192) (d : Fin 256) :
    ((dats m 0 c).arrAt 4 cfg0.N : Vec Ideal S2x8192x256 .f32) (ix3 b y d) = rowP m c b y (d.val) := by
  have hN : 8 * b.val + y.val / 1024 < cfg0.N := lt_of_lt_of_eq (by omega) N_0.symm
  have h := result4_at m c ⟨8 * b.val + y.val / 1024, hN⟩ ⟨y.val % 1024, by omega⟩ d
  have eb : tb ⟨8 * b.val + y.val / 1024, hN⟩ = b := Fin.ext (by show (8 * b.val + y.val / 1024) / 8 = b.val; omega)
  have ey : ty ⟨8 * b.val + y.val / 1024, hN⟩ ⟨y.val % 1024, by omega⟩ = y := Fin.ext (by show 1024 * ((8 * b.val + y.val / 1024) % 8) + y.val % 1024 = y.val; omega)
  rw [eb, ey] at h
  exact h

theorem point5_apply (t : Fin cfg0.N) (r : Fin 1024) (d : Fin 1024) : (out0_5 (iblk m c 0 t) (iblk m c 1 t) (iblk m c 2 t) (iblk m c 3 t)) (ix3 0 r d) = rowP m c (tb t) (ty t r) (256 + d.val) := by
  refine (out5_apply _ _ _ _ r d).trans ?_
  have e0 := fun r x => blk0 m c t r x
  rw [V_main_arg0] at e0
  have e1 := fun k x => (blk1 m c t k x).trans (V_v3 m c _ _ _)
  have e2 := fun x => (blk2 m c t x).trans (V_v4 m c _)
  have e3 := fun y x => (blk3 m c t y x).trans (V_v2 m c _ _)
  simp only [e0, e1, e2, e3]
  unfold rowP
  congr 1
  funext k; congr 2; apply Fin.ext; show 0 * 1024 + k.val = k.val; omega

theorem flush5 : ∀ t : Fin cfg0.N, (cfg0.win 5).flush t = true := by decide +kernel

theorem result5_at (t : Fin cfg0.N) (r : Fin 1024) (d : Fin 1024) :
    ((dats m 0 c).arrAt 5 cfg0.N : Vec Ideal S2x8192x1024 .f32) (ix3 (tb t) (ty t r) d) = rowP m c (tb t) (ty t r) (256 + d.val) := by
  have h := congrFun ((blocks5 m c t (flush5 t)).trans (flushed5 m c t)) (ix3 (0 : Fin 1) r d)
  rw [View.read_apply] at h
  refine Eq.trans (congrArg ((dats m 0 c).arrAt 5 cfg0.N : Vec Ideal S2x8192x1024 .f32) ?_) (h.trans (Eq.trans (congrArg (out0_5 (iblk m c 0 t) (iblk m c 1 t) (iblk m c 2 t) (iblk m c 3 t)) ?_) (point5_apply m c t r d)))
  · obtain ⟨h0, h1, h2⟩ := idx5 t
    funext a; apply Fin.ext
    match a with
    | ⟨0, _⟩ => show t.val / 8 = win0_5.index t (0 : Fin 3) * 1 + 1 * 0; rw [h0]; omega
    | ⟨1, _⟩ => show 1024 * (t.val % 8) + r.val = win0_5.index t (1 : Fin 3) * 1024 + 1 * r.val; rw [h1]; omega
    | ⟨2, _⟩ => show d.val = win0_5.index t (2 : Fin 3) * 1024 + 1 * d.val; rw [h2]; omega
  · funext a; apply Fin.ext
    match a with
    | ⟨0, _⟩ => rfl
    | ⟨1, _⟩ => rfl
    | ⟨2, _⟩ => rfl

theorem result5_apply (b : Fin 2) (y : Fin 8192) (d : Fin 1024) :
    ((dats m 0 c).arrAt 5 cfg0.N : Vec Ideal S2x8192x1024 .f32) (ix3 b y d) = rowP m c b y (256 + d.val) := by
  have hN : 8 * b.val + y.val / 1024 < cfg0.N := lt_of_lt_of_eq (by omega) N_0.symm
  have h := result5_at m c ⟨8 * b.val + y.val / 1024, hN⟩ ⟨y.val % 1024, by omega⟩ d
  have eb : tb ⟨8 * b.val + y.val / 1024, hN⟩ = b := Fin.ext (by show (8 * b.val + y.val / 1024) / 8 = b.val; omega)
  have ey : ty ⟨8 * b.val + y.val / 1024, hN⟩ ⟨y.val % 1024, by omega⟩ = y := Fin.ext (by show 1024 * ((8 * b.val + y.val / 1024) % 8) + y.val % 1024 = y.val; omega)
  rw [eb, ey] at h
  exact h

theorem point6_apply (t : Fin cfg0.N) (r : Fin 1024) (d : Fin 768) : (out0_6 (iblk m c 0 t) (iblk m c 1 t) (iblk m c 2 t) (iblk m c 3 t)) (ix3 0 r d) = rowP m c (tb t) (ty t r) (1280 + d.val) := by
  refine (out6_apply _ _ _ _ r d).trans ?_
  have e0 := fun r x => blk0 m c t r x
  rw [V_main_arg0] at e0
  have e1 := fun k x => (blk1 m c t k x).trans (V_v3 m c _ _ _)
  have e2 := fun x => (blk2 m c t x).trans (V_v4 m c _)
  have e3 := fun y x => (blk3 m c t y x).trans (V_v2 m c _ _)
  simp only [e0, e1, e2, e3]
  unfold rowP
  congr 1
  funext k; congr 2; apply Fin.ext; show 0 * 1024 + k.val = k.val; omega

theorem flush6 : ∀ t : Fin cfg0.N, (cfg0.win 6).flush t = true := by decide +kernel

theorem result6_at (t : Fin cfg0.N) (r : Fin 1024) (d : Fin 768) :
    ((dats m 0 c).arrAt 6 cfg0.N : Vec Ideal S2x8192x768 .f32) (ix3 (tb t) (ty t r) d) = rowP m c (tb t) (ty t r) (1280 + d.val) := by
  have h := congrFun ((blocks6 m c t (flush6 t)).trans (flushed6 m c t)) (ix3 (0 : Fin 1) r d)
  rw [View.read_apply] at h
  refine Eq.trans (congrArg ((dats m 0 c).arrAt 6 cfg0.N : Vec Ideal S2x8192x768 .f32) ?_) (h.trans (Eq.trans (congrArg (out0_6 (iblk m c 0 t) (iblk m c 1 t) (iblk m c 2 t) (iblk m c 3 t)) ?_) (point6_apply m c t r d)))
  · obtain ⟨h0, h1, h2⟩ := idx6 t
    funext a; apply Fin.ext
    match a with
    | ⟨0, _⟩ => show t.val / 8 = win0_6.index t (0 : Fin 3) * 1 + 1 * 0; rw [h0]; omega
    | ⟨1, _⟩ => show 1024 * (t.val % 8) + r.val = win0_6.index t (1 : Fin 3) * 1024 + 1 * r.val; rw [h1]; omega
    | ⟨2, _⟩ => show d.val = win0_6.index t (2 : Fin 3) * 768 + 1 * d.val; rw [h2]; omega
  · funext a; apply Fin.ext
    match a with
    | ⟨0, _⟩ => rfl
    | ⟨1, _⟩ => rfl
    | ⟨2, _⟩ => rfl

theorem result6_apply (b : Fin 2) (y : Fin 8192) (d : Fin 768) :
    ((dats m 0 c).arrAt 6 cfg0.N : Vec Ideal S2x8192x768 .f32) (ix3 b y d) = rowP m c b y (1280 + d.val) := by
  have hN : 8 * b.val + y.val / 1024 < cfg0.N := lt_of_lt_of_eq (by omega) N_0.symm
  have h := result6_at m c ⟨8 * b.val + y.val / 1024, hN⟩ ⟨y.val % 1024, by omega⟩ d
  have eb : tb ⟨8 * b.val + y.val / 1024, hN⟩ = b := Fin.ext (by show (8 * b.val + y.val / 1024) / 8 = b.val; omega)
  have ey : ty ⟨8 * b.val + y.val / 1024, hN⟩ ⟨y.val % 1024, by omega⟩ = y := Fin.ext (by show 1024 * ((8 * b.val + y.val / 1024) % 8) + y.val % 1024 = y.val; omega)
  rw [eb, ey] at h
  exact h

theorem point7_apply (t : Fin cfg0.N) (r : Fin 1024) (d : Fin 896) : (out0_7 (iblk m c 0 t) (iblk m c 1 t) (iblk m c 2 t) (iblk m c 3 t)) (ix3 0 r d) = rowP m c (tb t) (ty t r) (2048 + d.val) := by
  refine (out7_apply _ _ _ _ r d).trans ?_
  have e0 := fun r x => blk0 m c t r x
  rw [V_main_arg0] at e0
  have e1 := fun k x => (blk1 m c t k x).trans (V_v3 m c _ _ _)
  have e2 := fun x => (blk2 m c t x).trans (V_v4 m c _)
  have e3 := fun y x => (blk3 m c t y x).trans (V_v2 m c _ _)
  simp only [e0, e1, e2, e3]
  unfold rowP
  congr 1
  funext k; congr 2; apply Fin.ext; show 0 * 1024 + k.val = k.val; omega

theorem flush7 : ∀ t : Fin cfg0.N, (cfg0.win 7).flush t = true := by decide +kernel

theorem result7_at (t : Fin cfg0.N) (r : Fin 1024) (d : Fin 896) :
    ((dats m 0 c).arrAt 7 cfg0.N : Vec Ideal S2x8192x896 .f32) (ix3 (tb t) (ty t r) d) = rowP m c (tb t) (ty t r) (2048 + d.val) := by
  have h := congrFun ((blocks7 m c t (flush7 t)).trans (flushed7 m c t)) (ix3 (0 : Fin 1) r d)
  rw [View.read_apply] at h
  refine Eq.trans (congrArg ((dats m 0 c).arrAt 7 cfg0.N : Vec Ideal S2x8192x896 .f32) ?_) (h.trans (Eq.trans (congrArg (out0_7 (iblk m c 0 t) (iblk m c 1 t) (iblk m c 2 t) (iblk m c 3 t)) ?_) (point7_apply m c t r d)))
  · obtain ⟨h0, h1, h2⟩ := idx7 t
    funext a; apply Fin.ext
    match a with
    | ⟨0, _⟩ => show t.val / 8 = win0_7.index t (0 : Fin 3) * 1 + 1 * 0; rw [h0]; omega
    | ⟨1, _⟩ => show 1024 * (t.val % 8) + r.val = win0_7.index t (1 : Fin 3) * 1024 + 1 * r.val; rw [h1]; omega
    | ⟨2, _⟩ => show d.val = win0_7.index t (2 : Fin 3) * 896 + 1 * d.val; rw [h2]; omega
  · funext a; apply Fin.ext
    match a with
    | ⟨0, _⟩ => rfl
    | ⟨1, _⟩ => rfl
    | ⟨2, _⟩ => rfl

theorem result7_apply (b : Fin 2) (y : Fin 8192) (d : Fin 896) :
    ((dats m 0 c).arrAt 7 cfg0.N : Vec Ideal S2x8192x896 .f32) (ix3 b y d) = rowP m c b y (2048 + d.val) := by
  have hN : 8 * b.val + y.val / 1024 < cfg0.N := lt_of_lt_of_eq (by omega) N_0.symm
  have h := result7_at m c ⟨8 * b.val + y.val / 1024, hN⟩ ⟨y.val % 1024, by omega⟩ d
  have eb : tb ⟨8 * b.val + y.val / 1024, hN⟩ = b := Fin.ext (by show (8 * b.val + y.val / 1024) / 8 = b.val; omega)
  have ey : ty ⟨8 * b.val + y.val / 1024, hN⟩ ⟨y.val % 1024, by omega⟩ = y := Fin.ext (by show 1024 * ((8 * b.val + y.val / 1024) % 8) + y.val % 1024 = y.val; omega)
  rw [eb, ey] at h
  exact h

end Cert.Kernel5Ideal.Hand

end
-- ==== Proof.InRef.lean ====
/-
  The input projection's reference, read at an index over the extended reals.
-/
module

public import proofs.«01_k».proof.Proof.Gen.Reference5Ideal.Run
public import proofs.«01_k».proof.Proof.InSpec
public import Idealize.ShloMosaic.Lib.Pipeline.ValueKit.Tiles
public import Idealize.ShloMosaic.Lib.StableHlo.ReadAt

@[expose] public section

set_option maxRecDepth 16384

noncomputable section

namespace Cert.Reference5Ideal.Hand

open Idealize.ShloMosaic Idealize.ShloMosaic.TcCoe Idealize.ShloMosaic.Tactic
open Cert.Reference5Ideal Cert.Reference5Ideal.Gen Cert.Reference5Ideal.Value Cert.RowSpec

variable (m : (ℓ : Loc nD τ sig) → Buf (Elt Ideal) ℓ) (c : Dev nD)

/-- The modulated normal rows, the projection and the four results, as the reference's lines compute them. -/
def hT : FVec Ideal S2x8192x1024 .f32 := addf (mulf (mulf (mulf (m ((c.tc : Thread nD τ).loc main_arg0)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (m ((c.tc : Thread nD τ).loc main_arg0)) (m ((c.tc : Thread nD τ).loc main_arg0))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (m ((c.tc : Thread nD τ).loc main_arg2))))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 (m ((c.tc : Thread nD τ).loc main_arg1))) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 (m ((c.tc : Thread nD τ).loc main_arg1))) slices_S2x1x6144_S2x1x1024_0_0_0))
def pT : FVec Ideal S2x8192x6944 .f32 := Host.dotGeneral (φ₁ := .f32) (φ₂ := .f32) dot_S2x8192x1024_S1024x6944_S2x8192x6944_2_0_01_1_n_n none (hT m c) (m ((c.tc : Thread nD τ).loc main_arg3))
def res4 : FVec Ideal S2x8192x256 .f32 := extractStridedSlice S2x8192x256 ![0, 0, 0] (pT m c) slices_S2x8192x6944_S2x8192x256_0_0_0
def res5 : FVec Ideal S2x8192x1024 .f32 := extractStridedSlice S2x8192x1024 ![0, 0, 256] (pT m c) slices_S2x8192x6944_S2x8192x1024_0_0_256
def res6 : FVec Ideal S2x8192x768 .f32 := extractStridedSlice S2x8192x768 ![0, 0, 1280] (pT m c) slices_S2x8192x6944_S2x8192x768_0_0_1280
def res7 : FVec Ideal S2x8192x896 .f32 := pad S2x8192x896 ![0, 0, 0] ![0, 0, 96] ![0, 0, 0] (extractStridedSlice S2x8192x800 ![0, 0, 2048] (pT m c) slices_S2x8192x6944_S2x8192x800_0_0_2048) (sitofp .f32 (constantI S_ 32 0#32)) pads_S2x8192x800_S2x8192x896_000_000_0960 h_S_

/-- Column j of row y of batch b of the projection, at the arguments. -/
def rowP (b : Fin 2) (y : Fin 8192) (j : ℕ) : EReal :=
  projR (fun k => (m ((c : Thread nD τ).loc main_arg0) : Vec Ideal S2x8192x1024 .f32) (ix3 b y k))
    (fun k => (m ((c : Thread nD τ).loc main_arg2) : Vec Ideal S1024 .f32) (ix1 k))
    (fun k => (m ((c : Thread nD τ).loc main_arg1) : Vec Ideal S2x6144 .f32) (ix2 b ⟨1024 + k.val, by omega⟩))
    (fun k => (m ((c : Thread nD τ).loc main_arg1) : Vec Ideal S2x6144 .f32) (ix2 b ⟨k.val, by omega⟩))
    (colR (fun k j => (m ((c : Thread nD τ).loc main_arg3) : Vec Ideal S1024x6944 .f32) (ix2 k j)) j)

theorem hT_apply (b : Fin 2) (y : Fin 8192) (k : Fin 1024) : hT m c (ix3 b y k)
    = modR (fun k => (m ((c : Thread nD τ).loc main_arg0) : Vec Ideal S2x8192x1024 .f32) (ix3 b y k)) (fun k => (m ((c : Thread nD τ).loc main_arg2) : Vec Ideal S1024 .f32) (ix1 k))
    (fun k => (m ((c : Thread nD τ).loc main_arg1) : Vec Ideal S2x6144 .f32) (ix2 b ⟨1024 + k.val, by omega⟩)) (fun k => (m ((c : Thread nD τ).loc main_arg1) : Vec Ideal S2x6144 .f32) (ix2 b ⟨k.val, by omega⟩)) k := by
  pointwise [hT]
  rfl

theorem pT_apply (b : Fin 2) (y : Fin 8192) (j : Fin 6944) (hj : j.val < 2848) : pT m c (ix3 b y j) = rowP m c b y j.val := by
  pointwise [pT]
  simp only [hT_apply]
  unfold rowP projR colR
  simp only [dif_pos hj]

theorem res4_apply (b : Fin 2) (y : Fin 8192) (d : Fin 256) : res4 m c (ix3 b y d) = rowP m c b y (d.val) := by
  pointwise [res4]
  exact pT_apply m c b y ⟨d.val, by omega⟩ (by show d.val < 2848; omega)

theorem res5_apply (b : Fin 2) (y : Fin 8192) (d : Fin 1024) : res5 m c (ix3 b y d) = rowP m c b y (256 + d.val) := by
  pointwise [res5]
  exact pT_apply m c b y ⟨256 + d.val, by omega⟩ (by show 256 + d.val < 2848; omega)

theorem res6_apply (b : Fin 2) (y : Fin 8192) (d : Fin 768) : res6 m c (ix3 b y d) = rowP m c b y (1280 + d.val) := by
  pointwise [res6]
  exact pT_apply m c b y ⟨1280 + d.val, by omega⟩ (by show 1280 + d.val < 2848; omega)

theorem res7_apply (b : Fin 2) (y : Fin 8192) (d : Fin 896) : res7 m c (ix3 b y d) = rowP m c b y (2048 + d.val) := by
  pointwise [res7]
  have z : FloatOps.sitofp (F := Ideal) FTy.f32 0#32 = (0 : EReal) := by
    show (((0#32 : BitVec 32).toInt : ℝ) : EReal) = 0
    simp
  rw [z]
  by_cases h : d.val < 800
  · rw [dif_pos h]
    exact pT_apply m c b y ⟨2048 + d.val, by omega⟩ (by show 2048 + d.val < 2848; omega)
  · rw [dif_neg h]
    have e : ∀ w : Fin 1024 → Fin 6944 → EReal, colR w (2048 + d.val) = fun _ => 0 := fun w => by
      funext k; unfold colR; rw [dif_neg (by omega)]
    unfold rowP
    rw [e, projR_zero]

end Cert.Reference5Ideal.Hand

end
-- ==== Proof.InClaim.lean ====
/-
  The conjuncts of the claim about the input projection: the reference's run leaves its arguments as they were, and the two
  programs end with the same arrays.
-/
module

public import proofs.«01_k».proof.Defs
public import proofs.«01_k».proof.Proof.InRun
public import proofs.«01_k».proof.Proof.InRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_inproj_reference : Cert.quiescent_Reference5Ideal := fun m g _ =>
  (θ_run Cert.Reference5Ideal.defs _ _).mono (fun r h => ⟨fun c => (h c).2.2.2.2, sem_eq_zero_of_no_sems (by decide) r.2⟩) (Cert.Reference5Ideal.Value.run (F := Ideal) m g)

/-- The results are the same four arrays: every column of every row of both is the projection's at the same arguments. -/
theorem algebraic_inproj : Cert.algebraic_Kernel5Ideal_Reference5Ideal := by
  intro m g m' g' _ hagree
  refine ⟨_, _, _, _, Cert.Kernel5Ideal.Value.run_blocks (F := Ideal) m g, ?_⟩
  refine (θ_run Cert.Reference5Ideal.defs _ _).mono (fun r h c => ⟨(h c).1.trans ?_, (h c).2.1.trans ?_, (h c).2.2.1.trans ?_, (h c).2.2.2.1.trans ?_, (h c).2.2.2.2⟩) (Cert.Reference5Ideal.Value.run (F := Ideal) m' g')
  · obtain ⟨h0, h1, h2, h3⟩ := hagree c
    funext i
    obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
    refine (Cert.Reference5Ideal.Hand.res4_apply m' c b y x).trans (Eq.trans ?_ (Cert.Kernel5Ideal.Hand.result4_apply m c b y x).symm)
    unfold Cert.Reference5Ideal.Hand.rowP Cert.Kernel5Ideal.Hand.rowP
    rw [h0, h1, h2, h3]
  · obtain ⟨h0, h1, h2, h3⟩ := hagree c
    funext i
    obtain ⟨b, y, x, rfl⟩ : ∃ (b : Fin 2) (y : Fin 8192) (x : Fin 1024), i = ix3 b y x := ⟨i 0, i 1, i 2, by funext a; match a with | ⟨0, _⟩ => rfl | ⟨1, _⟩ => rfl | ⟨2, _⟩ => rfl⟩
    refine (Cert.Reference5Ideal.Hand.res5_apply m' c b y x).trans (Eq.trans ?_ (Cert.Kernel5Ideal.Hand.result5_apply m c b y x).symm)
    unfold Cert.Reference5Ideal.Hand.rowP Cert.Kernel5Ideal.Hand.rowP
    rw [h0, h1, h2, h3]
  · obtain ⟨h0, h1, h2, h3⟩ := hagree c
    funext i
    obtain ⟨b, y, x, rfl⟩ : ∃ (b : Fin 2) (y : Fin 8192) (x : Fin 768), i = ix3 b y x := ⟨i 0, i 1, i 2, by funext a; match a with | ⟨0, _⟩ => rfl | ⟨1, _⟩ => rfl | ⟨2, _⟩ => rfl⟩
    refine (Cert.Reference5Ideal.Hand.res6_apply m' c b y x).trans (Eq.trans ?_ (Cert.Kernel5Ideal.Hand.result6_apply m c b y x).symm)
    unfold Cert.Reference5Ideal.Hand.rowP Cert.Kernel5Ideal.Hand.rowP
    rw [h0, h1, h2, h3]
  · obtain ⟨h0, h1, h2, h3⟩ := hagree c
    funext i
    obtain ⟨b, y, x, rfl⟩ : ∃ (b : Fin 2) (y : Fin 8192) (x : Fin 896), i = ix3 b y x := ⟨i 0, i 1, i 2, by funext a; match a with | ⟨0, _⟩ => rfl | ⟨1, _⟩ => rfl | ⟨2, _⟩ => rfl⟩
    refine (Cert.Reference5Ideal.Hand.res7_apply m' c b y x).trans (Eq.trans ?_ (Cert.Kernel5Ideal.Hand.result7_apply m c b y x).symm)
    unfold Cert.Reference5Ideal.Hand.rowP Cert.Kernel5Ideal.Hand.rowP
    rw [h0, h1, h2, h3]

end Cert.Proof

end
-- ==== Proof.ModSpec.lean ====
/-
  A row of the modulation over the extended reals.
-/
module

public import Idealize.ShloMosaic.Lib.Pointwise

@[expose] public section

noncomputable section

namespace Cert.ModSpec

open Idealize.ShloMosaic

/-- The conditions' rows: the prompt's two, the sample's four, and two rows of zeros. -/
def condR (cp : Fin 2 → Fin 1024 → EReal) (cs : Fin 4 → Fin 1024 → EReal) (r : Fin 8) (k : Fin 1024) : EReal :=
  if h : r.val < 2 then cp ⟨r.val, h⟩ k else if h' : r.val - 2 < 4 then cs ⟨r.val - 2, h'⟩ k else 0

/-- Column j of the modulation of a row of conditions: its SiLU against the weights' column, and the bias. -/
def modulR (x w : Fin 1024 → EReal) (b : EReal) : EReal := (∑ k : Fin 1024, x k * Ideal.logistic (x k) * w k) + b

end Cert.ModSpec

end
-- ==== Proof.ModRun.lean ====
/-
  The modulation's grid over the extended reals: the blocks that each point reads, and what the result array holds.
-/
module

public import proofs.«01_k».proof.Proof.ModSpec
public import proofs.«01_k».proof.Proof.Gen.Kernel6Ideal.Value
public import Idealize.ShloMosaic.Lib.Pipeline.ValueKit.Tiles
public import Idealize.ShloMosaic.Lib.StableHlo.ReadAt

@[expose] public section

set_option maxRecDepth 16384

noncomputable section

namespace Cert.Kernel6Ideal.Hand

open Idealize.ShloMosaic Idealize.ShloMosaic.TcCoe Idealize.ShloMosaic.Tactic
open Cert.Kernel6Ideal Cert.Kernel6Ideal.Gen Cert.Kernel6Ideal.Value Cert.ModSpec

theorem out_apply (x0 : Vec Ideal S8x1024 .f32) (x1 : Vec Ideal S1024x1024 .f32) (x2 : Vec Ideal S1x1024 .f32) (r : Fin 8) (d : Fin 1024) :
    out0_3 x0 x1 x2 (ix2 r d) = modulR (fun k => x0 (ix2 r k)) (fun k => x1 (ix2 k d)) (x2 (ix2 0 d)) := by
  unfold out0_3
  rw [View.canon_unit_zero (by funext a; fin_cases a <;> rfl)]
  pointwise [k0_pay1, View.ld]
  rfl

variable (m : (ℓ : Loc nD τ sig) → Buf (Elt Ideal) ℓ) (c : Dev nD)

theorem tlt (t : Fin cfg0.N) : t.val < 6 := lt_of_lt_of_eq t.isLt N_0

/-- The column that column d of point t's block is. -/
def td (t : Fin cfg0.N) (d : Fin 1024) : Fin 6144 := ⟨1024 * t.val + d.val, by have := tlt t; omega⟩

/-! ## What the host lines leave in the arrays that the kernel reads -/

theorem V_v1 (r : Fin 8) (k : Fin 1024) : (V m c main_v1 : Vec Ideal S8x1024 .f32) (ix2 r k)
    = condR (fun r k => (m ((c : Thread nD τ).loc main_arg0) : Vec Ideal S2x1024 .f32) (ix2 r k)) (fun r k => (m ((c : Thread nD τ).loc main_arg1) : Vec Ideal S4x1024 .f32) (ix2 r k)) r k := by
  unfold V
  after_reads_at
  have z : FloatOps.sitofp (F := Ideal) FTy.f32 0#32 = (0 : EReal) := by
    show (((0#32 : BitVec 32).toInt : ℝ) : EReal) = 0
    simp
  try rw [z]
  unfold condR
  by_cases h2 : r.val < 2
  · rw [dif_pos (show r.val < 6 by omega), dif_pos h2, dif_pos h2]
    rfl
  · rw [dif_neg h2]
    by_cases h6 : r.val < 6
    · rw [dif_pos h6, dif_neg h2, dif_pos (show r.val - 2 < 4 by omega)]
      rfl
    · rw [dif_neg h6, dif_neg (show ¬ r.val - 2 < 4 by omega)]

theorem V_v2 (x : Fin 6144) : (V m c main_v2 : Vec Ideal S1x6144 .f32) (ix2 0 x) = (m ((c : Thread nD τ).loc main_arg3) : Vec Ideal S6144 .f32) (ix1 x) := by
  unfold V
  after_reads_at

/-! ## The blocks -/

theorem idx0 : ∀ t : Fin cfg0.N, win0_0.index t (0 : Fin 2) = 0 ∧ win0_0.index t (1 : Fin 2) = 0 := by decide +kernel
theorem idx1 : ∀ t : Fin cfg0.N, win0_1.index t (0 : Fin 2) = 0 ∧ win0_1.index t (1 : Fin 2) = t.val := by decide +kernel
theorem idx2 : ∀ t : Fin cfg0.N, win0_2.index t (0 : Fin 2) = 0 ∧ win0_2.index t (1 : Fin 2) = t.val := by decide +kernel
theorem idx3 : ∀ t : Fin cfg0.N, win0_3.index t (0 : Fin 2) = 0 ∧ win0_3.index t (1 : Fin 2) = t.val := by decide +kernel

theorem blk0 (t : Fin cfg0.N) (r : Fin 8) (x : Fin 1024) :
    (iblk m c 0 t : Vec Ideal S8x1024 .f32) (ix2 r x) = (V m c main_v1 : Vec Ideal S8x1024 .f32) (ix2 r x) := by
  unfold iblk
  rw [View.read_apply]
  show V m c main_v1 _ = _
  congr 1
  obtain ⟨h0, h1⟩ := idx0 t
  funext a; apply Fin.ext
  match a with
  | ⟨0, _⟩ => show win0_0.index t (0 : Fin 2) * 8 + 1 * r.val = r.val; rw [h0]; omega
  | ⟨1, _⟩ => show win0_0.index t (1 : Fin 2) * 1024 + 1 * x.val = x.val; rw [h1]; omega

theorem blk1 (t : Fin cfg0.N) (y : Fin 1024) (x : Fin 1024) :
    (iblk m c 1 t : Vec Ideal S1024x1024 .f32) (ix2 y x) = (V m c main_arg2 : Vec Ideal S1024x6144 .f32) (ix2 y (td t x)) := by
  unfold iblk
  rw [View.read_apply]
  show V m c main_arg2 _ = _
  congr 1
  obtain ⟨h0, h1⟩ := idx1 t
  funext a; apply Fin.ext
  match a with
  | ⟨0, _⟩ => show win0_1.index t (0 : Fin 2) * 1024 + 1 * y.val = y.val; rw [h0]; omega
  | ⟨1, _⟩ => show win0_1.index t (1 : Fin 2) * 1024 + 1 * x.val = 1024 * t.val + x.val; rw [h1]; omega

theorem blk2 (t : Fin cfg0.N) (x : Fin 1024) :
    (iblk m c 2 t : Vec Ideal S1x1024 .f32) (ix2 0 x) = (V m c main_v2 : Vec Ideal S1x6144 .f32) (ix2 0 (td t x)) := by
  unfold iblk
  rw [View.read_apply]
  show V m c main_v2 _ = _
  congr 1
  obtain ⟨h0, h1⟩ := idx2 t
  funext a; apply Fin.ext
  match a with
  | ⟨0, _⟩ => show win0_2.index t (0 : Fin 2) * 1 + 1 * 0 = 0; rw [h0]
  | ⟨1, _⟩ => show win0_2.index t (1 : Fin 2) * 1024 + 1 * x.val = 1024 * t.val + x.val; rw [h1]; omega

/-! ## The result -/

/-- Column j of row r of the modulation, at the arguments. -/
def rowA (r : Fin 8) (j : Fin 6144) : EReal :=
  modulR (condR (fun r k => (m ((c : Thread nD τ).loc main_arg0) : Vec Ideal S2x1024 .f32) (ix2 r k)) (fun r k => (m ((c : Thread nD τ).loc main_arg1) : Vec Ideal S4x1024 .f32) (ix2 r k)) r)
    (fun k => (m ((c : Thread nD τ).loc main_arg2) : Vec Ideal S1024x6144 .f32) (ix2 k j)) ((m ((c : Thread nD τ).loc main_arg3) : Vec Ideal S6144 .f32) (ix1 j))

theorem point_apply (t : Fin cfg0.N) (r : Fin 8) (d : Fin 1024) : (out0_3 (iblk m c 0 t) (iblk m c 1 t) (iblk m c 2 t)) (ix2 r d) = rowA m c r (td t d) := by
  refine (out_apply _ _ _ r d).trans ?_
  have e0 := fun r x => (blk0 m c t r x).trans (V_v1 m c _ _)
  have e1 := fun y x => blk1 m c t y x
  rw [V_main_arg2] at e1
  have e2 := fun x => (blk2 m c t x).trans (V_v2 m c _)
  simp only [e0, e1, e2]
  rfl

theorem flush3 : ∀ t : Fin cfg0.N, (cfg0.win 3).flush t = true := by decide +kernel

theorem result_at (t : Fin cfg0.N) (r : Fin 8) (d : Fin 1024) :
    ((dats m 0 c).arrAt 3 cfg0.N : Vec Ideal S8x6144 .f32) (ix2 r (td t d)) = rowA m c r (td t d) := by
  have h := congrFun ((blocks3 m c t (flush3 t)).trans (flushed3 m c t)) (ix2 r d)
  rw [View.read_apply] at h
  refine Eq.trans (congrArg ((dats m 0 c).arrAt 3 cfg0.N : Vec Ideal S8x6144 .f32) ?_) (h.trans (Eq.trans (congrArg (out0_3 (iblk m c 0 t) (iblk m c 1 t) (iblk m c 2 t)) ?_) (point_apply m c t r d)))
  · obtain ⟨h0, h1⟩ := idx3 t
    funext a; apply Fin.ext
    match a with
    | ⟨0, _⟩ => show r.val = win0_3.index t (0 : Fin 2) * 8 + 1 * r.val; rw [h0]; omega
    | ⟨1, _⟩ => show 1024 * t.val + d.val = win0_3.index t (1 : Fin 2) * 1024 + 1 * d.val; rw [h1]; omega
  · funext a; apply Fin.ext
    match a with
    | ⟨0, _⟩ => rfl
    | ⟨1, _⟩ => rfl

theorem result_apply (r : Fin 8) (j : Fin 6144) :
    ((dats m 0 c).arrAt 3 cfg0.N : Vec Ideal S8x6144 .f32) (ix2 r j) = rowA m c r j := by
  have hN : j.val / 1024 < cfg0.N := lt_of_lt_of_eq (by omega) N_0.symm
  have h := result_at m c ⟨j.val / 1024, hN⟩ r ⟨j.val % 1024, by omega⟩
  have ej : td ⟨j.val / 1024, hN⟩ ⟨j.val % 1024, by omega⟩ = j := Fin.ext (by show 1024 * (j.val / 1024) + j.val % 1024 = j.val; omega)
  rw [ej] at h
  exact h

end Cert.Kernel6Ideal.Hand

end
-- ==== Proof.ModRef.lean ====
/-
  The modulation's reference, read at an index over the extended reals.
-/
module

public import proofs.«01_k».proof.Proof.Gen.Reference6Ideal.Run
public import proofs.«01_k».proof.Proof.ModSpec
public import Idealize.ShloMosaic.Lib.Pipeline.ValueKit.Tiles
public import Idealize.ShloMosaic.Lib.StableHlo.ReadAt

@[expose] public section

set_option maxRecDepth 16384

noncomputable section

namespace Cert.Reference6Ideal.Hand

open Idealize.ShloMosaic Idealize.ShloMosaic.TcCoe Idealize.ShloMosaic.Tactic
open Cert.Reference6Ideal Cert.Reference6Ideal.Gen Cert.Reference6Ideal.Value Cert.ModSpec

variable (m : (ℓ : Loc nD τ sig) → Buf (Elt Ideal) ℓ) (c : Dev nD)

/-- The conditions' rows and the result, as the reference's lines compute them. -/
def cT : FVec Ideal S8x1024 .f32 := concatenate S8x1024 0 [⟨S2x1024, ((m ((c.tc : Thread nD τ).loc main_arg0)) : (⟨S2x1024, .f32⟩ : BufTy).Contents (Elt Ideal))⟩, ⟨S4x1024, ((m ((c.tc : Thread nD τ).loc main_arg1)) : (⟨S4x1024, .f32⟩ : BufTy).Contents (Elt Ideal))⟩, ⟨S2x1024, ((broadcastInDim S2x1024 ![] bcast_S_S2x1024 (constant S_ .f32 0x00000000#32 : FVec Ideal S_ .f32)) : (⟨S2x1024, .f32⟩ : BufTy).Contents (Elt Ideal))⟩] concatenates_S2x1024_S4x1024_S2x1024_S8x1024_d0
def resT : FVec Ideal S8x6144 .f32 := addf (Host.dotGeneral (φ₁ := .f32) (φ₂ := .f32) dot_S8x1024_S1024x6144_S8x6144_1_0_0_1_n_n none (mulf ((cT m c)) (Host.divf (broadcastInDim S8x1024 ![] bcast_S_S8x1024 (constant S_ .f32 0x3F800000#32)) (addf (broadcastInDim S8x1024 ![] bcast_S_S8x1024 (constant S_ .f32 0x3F800000#32)) (Host.exp (Host.negf ((cT m c))))))) (m ((c.tc : Thread nD τ).loc main_arg2))) (broadcastInDim S8x6144 ![0, 1] bcast_S1x6144_S8x6144_0_1 (broadcastInDim S1x6144 ![1] bcast_S6144_S1x6144_1 (m ((c.tc : Thread nD τ).loc main_arg3))))

/-- Column j of row r of the modulation, at the arguments. -/
def rowA (r : Fin 8) (j : Fin 6144) : EReal :=
  modulR (condR (fun r k => (m ((c : Thread nD τ).loc main_arg0) : Vec Ideal S2x1024 .f32) (ix2 r k)) (fun r k => (m ((c : Thread nD τ).loc main_arg1) : Vec Ideal S4x1024 .f32) (ix2 r k)) r)
    (fun k => (m ((c : Thread nD τ).loc main_arg2) : Vec Ideal S1024x6144 .f32) (ix2 k j)) ((m ((c : Thread nD τ).loc main_arg3) : Vec Ideal S6144 .f32) (ix1 j))

theorem cT_apply (r : Fin 8) (k : Fin 1024) : cT m c (ix2 r k)
    = condR (fun r k => (m ((c : Thread nD τ).loc main_arg0) : Vec Ideal S2x1024 .f32) (ix2 r k)) (fun r k => (m ((c : Thread nD τ).loc main_arg1) : Vec Ideal S4x1024 .f32) (ix2 r k)) r k := by
  pointwise [cT]
  rfl

theorem res_apply (r : Fin 8) (j : Fin 6144) : resT m c (ix2 r j) = rowA m c r j := by
  pointwise [resT]
  simp only [cT_apply]
  rfl

end Cert.Reference6Ideal.Hand

end
-- ==== Proof.ModClaim.lean ====
/-
  The conjuncts of the claim about the modulation: the reference's run leaves its arguments as they were, and the two
  programs end with the same array.
-/
module

public import proofs.«01_k».proof.Defs
public import proofs.«01_k».proof.Proof.ModRun
public import proofs.«01_k».proof.Proof.ModRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_modulation_reference : Cert.quiescent_Reference6Ideal := fun m g _ =>
  (θ_run Cert.Reference6Ideal.defs _ _).mono (fun r h => ⟨fun c => (h c).2, sem_eq_zero_of_no_sems (by decide) r.2⟩) (Cert.Reference6Ideal.Value.run (F := Ideal) m g)

/-- The two results are one array: every entry of both is the modulation's at the same arguments. -/
theorem algebraic_modulation : Cert.algebraic_Kernel6Ideal_Reference6Ideal := by
  intro m g m' g' _ hagree
  refine ⟨_, Cert.Kernel6Ideal.Value.run_blocks (F := Ideal) m g, ?_⟩
  refine (θ_run Cert.Reference6Ideal.defs _ _).mono (fun r h c => ⟨(h c).1.trans ?_, (h c).2⟩) (Cert.Reference6Ideal.Value.run (F := Ideal) m' g')
  obtain ⟨h0, h1, h2, h3⟩ := hagree c
  funext i
  obtain ⟨y, x, rfl⟩ : ∃ (y : Fin 8) (x : Fin 6144), i = ix2 y x := ⟨i 0, i 1, by funext a; match a with | ⟨0, _⟩ => rfl | ⟨1, _⟩ => rfl⟩
  refine (Cert.Reference6Ideal.Hand.res_apply m' c y x).trans (Eq.trans ?_ (Cert.Kernel6Ideal.Hand.result_apply m c y x).symm)
  unfold Cert.Reference6Ideal.Hand.rowA Cert.Kernel6Ideal.Hand.rowA
  rw [h0, h1, h2, h3]

end Cert.Proof

end
-- ==== Proof.ConvSpec.lean ====
/-
  A row of the Hyena mixer's short convolution over the extended reals.
-/
module

public import Idealize.ShloMosaic.Lib.Pointwise

@[expose] public section

noncomputable section

namespace Cert.ConvSpec

open Idealize.ShloMosaic

/-- Row e of a column with one zero before the first and after the last row. -/
def padC (u : Fin 8192 → EReal) (e : ℕ) : EReal := if h : 1 ≤ e ∧ e - 1 < 8192 then u ⟨e - 1, h.2⟩ else 0

/-- Row s of the convolution of a column by three taps, and the bias. -/
def conv3C (u : Fin 8192 → EReal) (w0 w1 w2 b : EReal) (s : ℕ) : EReal := padC u s * w0 + padC u (s + 1) * w1 + padC u (s + 2) * w2 + b

theorem padC_of (u : Fin 8192 → EReal) (e : ℕ) (y : Fin 8192) (h : e = y.val + 1) : padC u e = u y := by
  subst h
  unfold padC
  rw [dif_pos ⟨by omega, by omega⟩]
  rfl

theorem padC_zero (u : Fin 8192 → EReal) (e : ℕ) (h : e = 0 ∨ 8193 ≤ e) : padC u e = 0 := by
  unfold padC
  rw [dif_neg (by omega)]

end Cert.ConvSpec

end
-- ==== Proof.ConvRun.lean ====
/-
  The short convolution's grid over the extended reals: the blocks that each point reads, and what the result arrays hold.
-/
module

public import proofs.«01_k».proof.Proof.ConvSpec
public import proofs.«01_k».proof.Proof.Gen.Kernel7Ideal.Value
public import Idealize.ShloMosaic.Lib.WordCmp
public import Idealize.ShloMosaic.Lib.Pipeline.ValueKit.Tiles
public import Idealize.ShloMosaic.Lib.StableHlo.ReadAt

@[expose] public section

set_option maxRecDepth 16384

noncomputable section

namespace Cert.Kernel7Ideal.Hand

open Idealize.ShloMosaic Idealize.ShloMosaic.TcCoe Idealize.ShloMosaic.Tactic
open Cert.Kernel7Ideal Cert.Kernel7Ideal.Gen Cert.Kernel7Ideal.Value Cert.ConvSpec

/-! ## One block -/

theorem eq_bit (r : Fin 512) (k : Fin 512) : IntOp.cmpi CmpIPredicate.eq (BitVec.ofNat 32 r.val) (BitVec.ofNat 32 k.val) = if r.val = k.val then 1#1 else 0#1 := by
  by_cases h : r.val = k.val
  · rw [if_pos h, h]; unfold IntOp.cmpi; simp
  · rw [if_neg h]
    have : BitVec.ofNat 32 r.val ≠ BitVec.ofNat 32 k.val := fun e => h (by
      have := congrArg BitVec.toNat e
      rw [BitVec.toNat_ofNat, BitVec.toNat_ofNat, Nat.mod_eq_of_lt (by omega), Nat.mod_eq_of_lt (by omega)] at this
      exact this)
    unfold IntOp.cmpi; show BitVec.ofBool (_ == _) = 0#1; rw [beq_false_of_ne this]; rfl

theorem gt_bit : ∀ n : Fin 16, Scalar.cmpi CmpIPredicate.sgt (BitVec.ofNat 32 n.val) 0#32 = if 0 < n.val then 1#1 else 0#1 := by decide +kernel
theorem lt_bit : ∀ n : Fin 16, Scalar.cmpi CmpIPredicate.slt (BitVec.ofNat 32 n.val) 15#32 = if n.val < 15 then 1#1 else 0#1 := by decide +kernel

theorem select_bit (p : Prop) [Decidable p] (w : BitVec 1) (h : w = if p then 1#1 else 0#1) (X Y : EReal) : Scalar.select w X Y = if p then X else Y := by
  by_cases hp : p
  · rw [if_pos hp] at h ⊢; exact WordCmp.select_of_eq_one h X Y
  · rw [if_neg hp] at h ⊢; exact WordCmp.select_of_eq_zero h X Y

/-- Column d of row r of the block's convolution, from the rows beside and of the block. -/
def convK (n : ℕ) (x0 : Vec Ideal S1x512x768 .f32) (x1 x2 : Vec Ideal S1x8x768 .f32) (x3 : Vec Ideal S3x768 .f32) (x4 : Vec Ideal S1x768 .f32) (r : Fin 512) (d : Fin 768) : EReal :=
  (if r.val = 0 then (if 0 < n then x1 (ix3 0 7 d) else 0) else x0 (ix3 0 ⟨(r.val + 512 - 1) % 512, by omega⟩ d)) * x3 (ix2 0 d)
    + x0 (ix3 0 r d) * x3 (ix2 1 d)
    + (if r.val = 511 then (if n < 15 then x2 (ix3 0 0 d) else 0) else x0 (ix3 0 ⟨(r.val + 512 - 511) % 512, by omega⟩ d)) * x3 (ix2 2 d)
    + x4 (ix2 0 d)

theorem y_apply (i : grid0.Coords) (n : Fin 16) (hn : (i 1).val = n.val) (x0 : Vec Ideal S1x512x768 .f32) (x1 x2 : Vec Ideal S1x8x768 .f32) (x3 : Vec Ideal S3x768 .f32) (x4 : Vec Ideal S1x768 .f32) (r : Fin 512) (d : Fin 768) :
    k0_pay1 (k0_pay8 i x0 x1 x2 x3 x4) (k0_pay9 i x0 x1 x2 x3 x4) (View.ld x4 r0_6) (ix2 r d) = convK n.val x0 x1 x2 x3 x4 r d := by
  pointwise [k0_pay1, k0_pay8, k0_pay9, k0_pay6, k0_pay7, k0_pay5, View.ld]
  rw [hn, select_bit _ _ (gt_bit n), select_bit _ _ (lt_bit n), select_bit _ _ (eq_bit r ⟨0, by omega⟩), select_bit _ _ (eq_bit r ⟨511, by omega⟩)]
  rfl

theorem out5_apply (i : grid0.Coords) (n : Fin 16) (hn : (i 1).val = n.val) (x0 : Vec Ideal S1x512x768 .f32) (x1 x2 : Vec Ideal S1x8x768 .f32) (x3 : Vec Ideal S3x768 .f32) (x4 : Vec Ideal S1x768 .f32) (r : Fin 512) (d : Fin 256) :
    out0_5 i x0 x1 x2 x3 x4 (ix3 0 r d) = convK n.val x0 x1 x2 x3 x4 r ⟨d.val, by omega⟩ := by
  refine Eq.trans ?_ (y_apply i n hn x0 x1 x2 x3 x4 r ⟨d.val, by omega⟩)
  unfold out0_5
  rw [View.canon_unit_zero (by funext a; fin_cases a <;> rfl)]
  pointwise [k0_pay2]

theorem out6_apply (i : grid0.Coords) (n : Fin 16) (hn : (i 1).val = n.val) (x0 : Vec Ideal S1x512x768 .f32) (x1 x2 : Vec Ideal S1x8x768 .f32) (x3 : Vec Ideal S3x768 .f32) (x4 : Vec Ideal S1x768 .f32) (r : Fin 512) (d : Fin 256) :
    out0_6 i x0 x1 x2 x3 x4 (ix3 0 r d) = convK n.val x0 x1 x2 x3 x4 r ⟨256 + d.val, by omega⟩ := by
  refine Eq.trans ?_ (y_apply i n hn x0 x1 x2 x3 x4 r ⟨256 + d.val, by omega⟩)
  unfold out0_6
  rw [View.canon_unit_zero (by funext a; fin_cases a <;> rfl)]
  pointwise [k0_pay3]

theorem out7_apply (i : grid0.Coords) (n : Fin 16) (hn : (i 1).val = n.val) (x0 : Vec Ideal S1x512x768 .f32) (x1 x2 : Vec Ideal S1x8x768 .f32) (x3 : Vec Ideal S3x768 .f32) (x4 : Vec Ideal S1x768 .f32) (r : Fin 512) (d : Fin 256) :
    out0_7 i x0 x1 x2 x3 x4 (ix3 0 r d) = convK n.val x0 x1 x2 x3 x4 r ⟨512 + d.val, by omega⟩ := by
  refine Eq.trans ?_ (y_apply i n hn x0 x1 x2 x3 x4 r ⟨512 + d.val, by omega⟩)
  unfold out0_7
  rw [View.canon_unit_zero (by funext a; fin_cases a <;> rfl)]
  pointwise [k0_pay4]

variable (m : (ℓ : Loc nD τ sig) → Buf (Elt Ideal) ℓ) (c : Dev nD)

theorem tlt (t : Fin cfg0.N) : t.val < 32 := lt_of_lt_of_eq t.isLt N_0

/-- The batch and the row of the sequence that row r of point t's block is. -/
def tb (t : Fin cfg0.N) : Fin 2 := ⟨t.val / 16, by have := tlt t; omega⟩
def ty (t : Fin cfg0.N) (r : Fin 512) : Fin 8192 := ⟨512 * (t.val % 16) + r.val, by omega⟩

theorem V_v0 (x : Fin 768) : (V m c main_v0 : Vec Ideal S1x768 .f32) (ix2 0 x) = (m ((c : Thread nD τ).loc main_arg2) : Vec Ideal S768 .f32) (ix1 x) := by
  unfold V
  after_reads_at

/-! ## The blocks -/

theorem coord1 : ∀ t : Fin cfg0.N, (grid0.coords t 1).val = t.val % 16 := by decide +kernel
theorem idx0 : ∀ t : Fin cfg0.N, win0_0.index t (0 : Fin 3) = t.val / 16 ∧ win0_0.index t (1 : Fin 3) = t.val % 16 ∧ win0_0.index t (2 : Fin 3) = 0 := by decide +kernel
theorem idx5 : ∀ t : Fin cfg0.N, win0_5.index t (0 : Fin 3) = t.val / 16 ∧ win0_5.index t (1 : Fin 3) = t.val % 16 ∧ win0_5.index t (2 : Fin 3) = 0 := by decide +kernel
theorem idx6 : ∀ t : Fin cfg0.N, win0_6.index t (0 : Fin 3) = t.val / 16 ∧ win0_6.index t (1 : Fin 3) = t.val % 16 ∧ win0_6.index t (2 : Fin 3) = 0 := by decide +kernel
theorem idx7 : ∀ t : Fin cfg0.N, win0_7.index t (0 : Fin 3) = t.val / 16 ∧ win0_7.index t (1 : Fin 3) = t.val % 16 ∧ win0_7.index t (2 : Fin 3) = 0 := by decide +kernel
theorem idx1 : ∀ t : Fin cfg0.N, win0_1.index t (0 : Fin 3) = t.val / 16 ∧ win0_1.index t (1 : Fin 3) = 64 * (t.val % 16) - 1 ∧ win0_1.index t (2 : Fin 3) = 0 := by decide +kernel
theorem idx2 : ∀ t : Fin cfg0.N, win0_2.index t (0 : Fin 3) = t.val / 16 ∧ win0_2.index t (1 : Fin 3) = min (64 * (t.val % 16) + 64) 1023 ∧ win0_2.index t (2 : Fin 3) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel

theorem blk0 (t : Fin cfg0.N) (r : Fin 512) (x : Fin 768) :
    (iblk m c 0 t : Vec Ideal S1x512x768 .f32) (ix3 0 r x) = (V m c main_arg0 : Vec Ideal S2x8192x768 .f32) (ix3 (tb t) (ty t r) x) := by
  unfold iblk
  rw [View.read_apply]
  show V m c main_arg0 _ = _
  congr 1
  obtain ⟨h0, h1, h2⟩ := idx0 t
  funext a; apply Fin.ext
  match a with
  | ⟨0, _⟩ => show win0_0.index t (0 : Fin 3) * 1 + 1 * 0 = t.val / 16; rw [h0]; omega
  | ⟨1, _⟩ => show win0_0.index t (1 : Fin 3) * 512 + 1 * r.val = 512 * (t.val % 16) + r.val; rw [h1]; omega
  | ⟨2, _⟩ => show win0_0.index t (2 : Fin 3) * 768 + 1 * x.val = x.val; rw [h2]; omega

theorem blk1 (t : Fin cfg0.N) (r : Fin 8) (x : Fin 768) :
    (iblk m c 1 t : Vec Ideal S1x8x768 .f32) (ix3 0 r x) = (V m c main_arg0 : Vec Ideal S2x8192x768 .f32) (ix3 (tb t) ⟨(64 * (t.val % 16) - 1) * 8 + r.val, by omega⟩ x) := by
  unfold iblk
  rw [View.read_apply]
  show V m c main_arg0 _ = _
  congr 1
  obtain ⟨h0, h1, h2⟩ := idx1 t
  funext a; apply Fin.ext
  match a with
  | ⟨0, _⟩ => show win0_1.index t (0 : Fin 3) * 1 + 1 * 0 = t.val / 16; rw [h0]; omega
  | ⟨1, _⟩ => show win0_1.index t (1 : Fin 3) * 8 + 1 * r.val = (64 * (t.val % 16) - 1) * 8 + r.val; rw [h1]; omega
  | ⟨2, _⟩ => show win0_1.index t (2 : Fin 3) * 768 + 1 * x.val = x.val; rw [h2]; omega

theorem blk2 (t : Fin cfg0.N) (r : Fin 8) (x : Fin 768) :
    (iblk m c 2 t : Vec Ideal S1x8x768 .f32) (ix3 0 r x) = (V m c main_arg0 : Vec Ideal S2x8192x768 .f32) (ix3 (tb t) ⟨min (64 * (t.val % 16) + 64) 1023 * 8 + r.val, by omega⟩ x) := by
  unfold iblk
  rw [View.read_apply]
  show V m c main_arg0 _ = _
  congr 1
  obtain ⟨h0, h1, h2⟩ := idx2 t
  funext a; apply Fin.ext
  match a with
  | ⟨0, _⟩ => show win0_2.index t (0 : Fin 3) * 1 + 1 * 0 = t.val / 16; rw [h0]; omega
  | ⟨1, _⟩ => show win0_2.index t (1 : Fin 3) * 8 + 1 * r.val = min (64 * (t.val % 16) + 64) 1023 * 8 + r.val; rw [h1]; omega
  | ⟨2, _⟩ => show win0_2.index t (2 : Fin 3) * 768 + 1 * x.val = x.val; rw [h2]; omega

theorem blk3 (t : Fin cfg0.N) (y : Fin 3) (x : Fin 768) :
    (iblk m c 3 t : Vec Ideal S3x768 .f32) (ix2 y x) = (V m c main_arg1 : Vec Ideal S3x768 .f32) (ix2 y x) := by
  unfold iblk
  rw [View.read_apply]
  show V m c main_arg1 _ = _
  congr 1
  obtain ⟨h0, h1⟩ := idx3 t
  funext a; apply Fin.ext
  match a with
  | ⟨0, _⟩ => show win0_3.index t (0 : Fin 2) * 3 + 1 * y.val = y.val; rw [h0]; omega
  | ⟨1, _⟩ => show win0_3.index t (1 : Fin 2) * 768 + 1 * x.val = x.val; rw [h1]; omega

theorem blk4 (t : Fin cfg0.N) (x : Fin 768) :
    (iblk m c 4 t : Vec Ideal S1x768 .f32) (ix2 0 x) = (V m c main_v0 : Vec Ideal S1x768 .f32) (ix2 0 x) := by
  unfold iblk
  rw [View.read_apply]
  show V m c main_v0 _ = _
  congr 1
  obtain ⟨h0, h1⟩ := idx4 t
  funext a; apply Fin.ext
  match a with
  | ⟨0, _⟩ => show win0_4.index t (0 : Fin 2) * 1 + 1 * 0 = 0; rw [h0]
  | ⟨1, _⟩ => show win0_4.index t (1 : Fin 2) * 768 + 1 * x.val = x.val; rw [h1]; omega

/-! ## The results -/

/-- Column j of row y of batch b of the convolution, at the arguments. -/
def rowC (b : Fin 2) (y : Fin 8192) (j : Fin 768) : EReal :=
  conv3C (fun s => (m ((c : Thread nD τ).loc main_arg0) : Vec Ideal S2x8192x768 .f32) (ix3 b s j)) ((m ((c : Thread nD τ).loc main_arg1) : Vec Ideal S3x768 .f32) (ix2 0 j)) ((m ((c : Thread nD τ).loc main_arg1) : Vec Ideal S3x768 .f32) (ix2 1 j)) ((m ((c : Thread nD τ).loc main_arg1) : Vec Ideal S3x768 .f32) (ix2 2 j)) ((m ((c : Thread nD τ).loc main_arg2) : Vec Ideal S768 .f32) (ix1 j)) y.val

theorem conv_point (t : Fin cfg0.N) (r : Fin 512) (j : Fin 768) : convK (t.val % 16) (iblk m c 0 t) (iblk m c 1 t) (iblk m c 2 t) (iblk m c 3 t) (iblk m c 4 t) r j = rowC m c (tb t) (ty t r) j := by
  have ht := tlt t
  have e0 := fun r x => blk0 m c t r x
  rw [V_main_arg0] at e0
  have e1 := fun r x => blk1 m c t r x
  rw [V_main_arg0] at e1
  have e2 := fun r x => blk2 m c t r x
  rw [V_main_arg0] at e2
  have e3 := fun y x => blk3 m c t y x
  rw [V_main_arg1] at e3
  have e4 := fun x => (blk4 m c t x).trans (V_v0 m c x)
  unfold convK rowC conv3C
  simp only [e0, e1, e2, e3, e4]
  refine congrArg₂ (fun p q : EReal => p + q) (congrArg₂ (fun p q : EReal => p + q) (congrArg₂ (fun p q : EReal => p + q) (congrArg (fun p : EReal => p * _) ?_) (congrArg (fun p : EReal => p * _) ?_)) (congrArg (fun p : EReal => p * _) ?_)) rfl
  · by_cases h0 : r.val = 0
    · rw [if_pos h0]
      by_cases hn : 0 < t.val % 16
      · rw [if_pos hn]
        exact (padC_of (fun s => (m ((c : Thread nD τ).loc main_arg0) : Vec Ideal S2x8192x768 .f32) (ix3 (tb t) s j)) _ ⟨(64 * (t.val % 16) - 1) * 8 + (7 : Fin 8).val, by omega⟩ (by show 512 * (t.val % 16) + r.val = (64 * (t.val % 16) - 1) * 8 + 7 + 1; omega)).symm
      · rw [if_neg hn]
        exact (padC_zero (fun s => (m ((c : Thread nD τ).loc main_arg0) : Vec Ideal S2x8192x768 .f32) (ix3 (tb t) s j)) _ (Or.inl (by show 512 * (t.val % 16) + r.val = 0; omega))).symm
    · rw [if_neg h0]
      exact (padC_of (fun s => (m ((c : Thread nD τ).loc main_arg0) : Vec Ideal S2x8192x768 .f32) (ix3 (tb t) s j)) _ (ty t ⟨(r.val + 512 - 1) % 512, by omega⟩) (by show 512 * (t.val % 16) + r.val = 512 * (t.val % 16) + (r.val + 512 - 1) % 512 + 1; omega)).symm
  · exact (padC_of (fun s => (m ((c : Thread nD τ).loc main_arg0) : Vec Ideal S2x8192x768 .f32) (ix3 (tb t) s j)) _ (ty t r) rfl).symm
  · by_cases h0 : r.val = 511
    · rw [if_pos h0]
      by_cases hn : t.val % 16 < 15
      · rw [if_pos hn]
        exact (padC_of (fun s => (m ((c : Thread nD τ).loc main_arg0) : Vec Ideal S2x8192x768 .f32) (ix3 (tb t) s j)) _ ⟨min (64 * (t.val % 16) + 64) 1023 * 8 + (0 : Fin 8).val, by omega⟩ (by show 512 * (t.val % 16) + r.val + 2 = min (64 * (t.val % 16) + 64) 1023 * 8 + 0 + 1; omega)).symm
      · rw [if_neg hn]
        exact (padC_zero (fun s => (m ((c : Thread nD τ).loc main_arg0) : Vec Ideal S2x8192x768 .f32) (ix3 (tb t) s j)) _ (Or.inr (by show 8193 ≤ 512 * (t.val % 16) + r.val + 2; omega))).symm
    · rw [if_neg h0]
      exact (padC_of (fun s => (m ((c : Thread nD τ).loc main_arg0) : Vec Ideal S2x8192x768 .f32) (ix3 (tb t) s j)) _ (ty t ⟨(r.val + 512 - 511) % 512, by omega⟩) (by show 512 * (t.val % 16) + r.val + 2 = 512 * (t.val % 16) + (r.val + 512 - 511) % 512 + 1; omega)).symm

theorem flush5 : ∀ t : Fin cfg0.N, (cfg0.win 5).flush t = true := by decide +kernel

theorem result5_at (t : Fin cfg0.N) (r : Fin 512) (d : Fin 256) :
    ((dats m 0 c).arrAt 5 cfg0.N : Vec Ideal S2x8192x256 .bf16) (ix3 (tb t) (ty t r) d) = rowC m c (tb t) (ty t r) ⟨d.val, by omega⟩ := by
  have h := congrFun ((blocks5 m c t (flush5 t)).trans (flushed5 m c t)) (ix3 (0 : Fin 1) r d)
  rw [View.read_apply] at h
  refine Eq.trans (congrArg ((dats m 0 c).arrAt 5 cfg0.N : Vec Ideal S2x8192x256 .bf16) ?_) (h.trans (Eq.trans (congrArg (out0_5 (grid0.coords t) (iblk m c 0 t) (iblk m c 1 t) (iblk m c 2 t) (iblk m c 3 t) (iblk m c 4 t)) ?_) ((out5_apply (grid0.coords t) ⟨t.val % 16, by omega⟩ (coord1 t) _ _ _ _ _ r d).trans (conv_point m c t r _))))
  · obtain ⟨h0, h1, h2⟩ := idx5 t
    funext a; apply Fin.ext
    match a with
    | ⟨0, _⟩ => show t.val / 16 = win0_5.index t (0 : Fin 3) * 1 + 1 * 0; rw [h0]; omega
    | ⟨1, _⟩ => show 512 * (t.val % 16) + r.val = win0_5.index t (1 : Fin 3) * 512 + 1 * r.val; rw [h1]; omega
    | ⟨2, _⟩ => show d.val = win0_5.index t (2 : Fin 3) * 256 + 1 * d.val; rw [h2]; omega
  · funext a; apply Fin.ext
    match a with
    | ⟨0, _⟩ => rfl
    | ⟨1, _⟩ => rfl
    | ⟨2, _⟩ => rfl

theorem result5_apply (b : Fin 2) (y : Fin 8192) (d : Fin 256) :
    ((dats m 0 c).arrAt 5 cfg0.N : Vec Ideal S2x8192x256 .bf16) (ix3 b y d) = rowC m c b y ⟨d.val, by omega⟩ := by
  have hN : 16 * b.val + y.val / 512 < cfg0.N := lt_of_lt_of_eq (by omega) N_0.symm
  have h := result5_at m c ⟨16 * b.val + y.val / 512, hN⟩ ⟨y.val % 512, by omega⟩ d
  have eb : tb ⟨16 * b.val + y.val / 512, hN⟩ = b := Fin.ext (by show (16 * b.val + y.val / 512) / 16 = b.val; omega)
  have ey : ty ⟨16 * b.val + y.val / 512, hN⟩ ⟨y.val % 512, by omega⟩ = y := Fin.ext (by show 512 * ((16 * b.val + y.val / 512) % 16) + y.val % 512 = y.val; omega)
  rw [eb, ey] at h
  exact h

theorem flush6 : ∀ t : Fin cfg0.N, (cfg0.win 6).flush t = true := by decide +kernel

theorem result6_at (t : Fin cfg0.N) (r : Fin 512) (d : Fin 256) :
    ((dats m 0 c).arrAt 6 cfg0.N : Vec Ideal S2x8192x256 .bf16) (ix3 (tb t) (ty t r) d) = rowC m c (tb t) (ty t r) ⟨256 + d.val, by omega⟩ := by
  have h := congrFun ((blocks6 m c t (flush6 t)).trans (flushed6 m c t)) (ix3 (0 : Fin 1) r d)
  rw [View.read_apply] at h
  refine Eq.trans (congrArg ((dats m 0 c).arrAt 6 cfg0.N : Vec Ideal S2x8192x256 .bf16) ?_) (h.trans (Eq.trans (congrArg (out0_6 (grid0.coords t) (iblk m c 0 t) (iblk m c 1 t) (iblk m c 2 t) (iblk m c 3 t) (iblk m c 4 t)) ?_) ((out6_apply (grid0.coords t) ⟨t.val % 16, by omega⟩ (coord1 t) _ _ _ _ _ r d).trans (conv_point m c t r _))))
  · obtain ⟨h0, h1, h2⟩ := idx6 t
    funext a; apply Fin.ext
    match a with
    | ⟨0, _⟩ => show t.val / 16 = win0_6.index t (0 : Fin 3) * 1 + 1 * 0; rw [h0]; omega
    | ⟨1, _⟩ => show 512 * (t.val % 16) + r.val = win0_6.index t (1 : Fin 3) * 512 + 1 * r.val; rw [h1]; omega
    | ⟨2, _⟩ => show d.val = win0_6.index t (2 : Fin 3) * 256 + 1 * d.val; rw [h2]; omega
  · funext a; apply Fin.ext
    match a with
    | ⟨0, _⟩ => rfl
    | ⟨1, _⟩ => rfl
    | ⟨2, _⟩ => rfl

theorem result6_apply (b : Fin 2) (y : Fin 8192) (d : Fin 256) :
    ((dats m 0 c).arrAt 6 cfg0.N : Vec Ideal S2x8192x256 .bf16) (ix3 b y d) = rowC m c b y ⟨256 + d.val, by omega⟩ := by
  have hN : 16 * b.val + y.val / 512 < cfg0.N := lt_of_lt_of_eq (by omega) N_0.symm
  have h := result6_at m c ⟨16 * b.val + y.val / 512, hN⟩ ⟨y.val % 512, by omega⟩ d
  have eb : tb ⟨16 * b.val + y.val / 512, hN⟩ = b := Fin.ext (by show (16 * b.val + y.val / 512) / 16 = b.val; omega)
  have ey : ty ⟨16 * b.val + y.val / 512, hN⟩ ⟨y.val % 512, by omega⟩ = y := Fin.ext (by show 512 * ((16 * b.val + y.val / 512) % 16) + y.val % 512 = y.val; omega)
  rw [eb, ey] at h
  exact h

theorem flush7 : ∀ t : Fin cfg0.N, (cfg0.win 7).flush t = true := by decide +kernel

theorem result7_at (t : Fin cfg0.N) (r : Fin 512) (d : Fin 256) :
    ((dats m 0 c).arrAt 7 cfg0.N : Vec Ideal S2x8192x256 .bf16) (ix3 (tb t) (ty t r) d) = rowC m c (tb t) (ty t r) ⟨512 + d.val, by omega⟩ := by
  have h := congrFun ((blocks7 m c t (flush7 t)).trans (flushed7 m c t)) (ix3 (0 : Fin 1) r d)
  rw [View.read_apply] at h
  refine Eq.trans (congrArg ((dats m 0 c).arrAt 7 cfg0.N : Vec Ideal S2x8192x256 .bf16) ?_) (h.trans (Eq.trans (congrArg (out0_7 (grid0.coords t) (iblk m c 0 t) (iblk m c 1 t) (iblk m c 2 t) (iblk m c 3 t) (iblk m c 4 t)) ?_) ((out7_apply (grid0.coords t) ⟨t.val % 16, by omega⟩ (coord1 t) _ _ _ _ _ r d).trans (conv_point m c t r _))))
  · obtain ⟨h0, h1, h2⟩ := idx7 t
    funext a; apply Fin.ext
    match a with
    | ⟨0, _⟩ => show t.val / 16 = win0_7.index t (0 : Fin 3) * 1 + 1 * 0; rw [h0]; omega
    | ⟨1, _⟩ => show 512 * (t.val % 16) + r.val = win0_7.index t (1 : Fin 3) * 512 + 1 * r.val; rw [h1]; omega
    | ⟨2, _⟩ => show d.val = win0_7.index t (2 : Fin 3) * 256 + 1 * d.val; rw [h2]; omega
  · funext a; apply Fin.ext
    match a with
    | ⟨0, _⟩ => rfl
    | ⟨1, _⟩ => rfl
    | ⟨2, _⟩ => rfl

theorem result7_apply (b : Fin 2) (y : Fin 8192) (d : Fin 256) :
    ((dats m 0 c).arrAt 7 cfg0.N : Vec Ideal S2x8192x256 .bf16) (ix3 b y d) = rowC m c b y ⟨512 + d.val, by omega⟩ := by
  have hN : 16 * b.val + y.val / 512 < cfg0.N := lt_of_lt_of_eq (by omega) N_0.symm
  have h := result7_at m c ⟨16 * b.val + y.val / 512, hN⟩ ⟨y.val % 512, by omega⟩ d
  have eb : tb ⟨16 * b.val + y.val / 512, hN⟩ = b := Fin.ext (by show (16 * b.val + y.val / 512) / 16 = b.val; omega)
  have ey : ty ⟨16 * b.val + y.val / 512, hN⟩ ⟨y.val % 512, by omega⟩ = y := Fin.ext (by show 512 * ((16 * b.val + y.val / 512) % 16) + y.val % 512 = y.val; omega)
  rw [eb, ey] at h
  exact h

end Cert.Kernel7Ideal.Hand

end
-- ==== Proof.ConvRef.lean ====
/-
  The short convolution's reference, read at an index over the extended reals.
-/
module

public import proofs.«01_k».proof.Proof.Gen.Reference7Ideal.Run
public import proofs.«01_k».proof.Proof.ConvSpec
public import Idealize.ShloMosaic.Lib.Pipeline.ValueKit.Tiles
public import Idealize.ShloMosaic.Lib.StableHlo.ReadAt

@[expose] public section

set_option maxRecDepth 16384

noncomputable section

namespace Cert.Reference7Ideal.Hand

open Idealize.ShloMosaic Idealize.ShloMosaic.TcCoe Idealize.ShloMosaic.Tactic
open Cert.Reference7Ideal Cert.Reference7Ideal.Gen Cert.Reference7Ideal.Value Cert.ConvSpec

variable (m : (ℓ : Loc nD τ sig) → Buf (Elt Ideal) ℓ) (c : Dev nD)

/-- The sequence as an array of its shape. -/
def uT : FVec Ideal S2x8192x768 .f32 := m ((c : Thread nD τ).loc main_arg0)

/-- The convolution and the three results, as the reference's lines compute them. -/
def cvT : FVec Ideal S2x8192x768 .f32 := addf (addf (addf (mulf (extractStridedSlice S2x8192x768 ![0, 0, 0] (pad S2x8194x768 ![0, 1, 0] ![0, 1, 0] ![0, 0, 0] (uT m c) (sitofp .f32 (constantI S_ 32 0#32)) pads_S2x8192x768_S2x8194x768_000_110_000 h_S_) slices_S2x8194x768_S2x8192x768_0_0_0) (broadcastInDim S2x8192x768 ![0, 1, 2] bcast_S1x1x768_S2x8192x768_0_1_2 (broadcastInDim S1x1x768 ![2] bcast_S768_S1x1x768_2 (shapeCast _ (extractStridedSlice S1x768 ![0, 0] (m ((c.tc : Thread nD τ).loc main_arg1)) slices_S3x768_S1x768_0_0) shapeCasts_S1x768_S768)))) (mulf (extractStridedSlice S2x8192x768 ![0, 1, 0] (pad S2x8194x768 ![0, 1, 0] ![0, 1, 0] ![0, 0, 0] (uT m c) (sitofp .f32 (constantI S_ 32 0#32)) pads_S2x8192x768_S2x8194x768_000_110_000 h_S_) slices_S2x8194x768_S2x8192x768_0_1_0) (broadcastInDim S2x8192x768 ![0, 1, 2] bcast_S1x1x768_S2x8192x768_0_1_2 (broadcastInDim S1x1x768 ![2] bcast_S768_S1x1x768_2 (shapeCast _ (extractStridedSlice S1x768 ![1, 0] (m ((c.tc : Thread nD τ).loc main_arg1)) slices_S3x768_S1x768_1_0) shapeCasts_S1x768_S768))))) (mulf (extractStridedSlice S2x8192x768 ![0, 2, 0] (pad S2x8194x768 ![0, 1, 0] ![0, 1, 0] ![0, 0, 0] (uT m c) (sitofp .f32 (constantI S_ 32 0#32)) pads_S2x8192x768_S2x8194x768_000_110_000 h_S_) slices_S2x8194x768_S2x8192x768_0_2_0) (broadcastInDim S2x8192x768 ![0, 1, 2] bcast_S1x1x768_S2x8192x768_0_1_2 (broadcastInDim S1x1x768 ![2] bcast_S768_S1x1x768_2 (shapeCast _ (extractStridedSlice S1x768 ![2, 0] (m ((c.tc : Thread nD τ).loc main_arg1)) slices_S3x768_S1x768_2_0) shapeCasts_S1x768_S768))))) (broadcastInDim S2x8192x768 ![0, 1, 2] bcast_S1x1x768_S2x8192x768_0_1_2 (broadcastInDim S1x1x768 ![2] bcast_S768_S1x1x768_2 (m ((c.tc : Thread nD τ).loc main_arg2))))
def res5 : FVec Ideal S2x8192x256 .bf16 := truncf .bf16 (extractStridedSlice S2x8192x256 ![0, 0, 0] (cvT m c) slices_S2x8192x768_S2x8192x256_0_0_0) bitsLt_bf16_f32
def res6 : FVec Ideal S2x8192x256 .bf16 := truncf .bf16 (extractStridedSlice S2x8192x256 ![0, 0, 256] (cvT m c) slices_S2x8192x768_S2x8192x256_0_0_256) bitsLt_bf16_f32
def res7 : FVec Ideal S2x8192x256 .bf16 := truncf .bf16 (extractStridedSlice S2x8192x256 ![0, 0, 512] (cvT m c) slices_S2x8192x768_S2x8192x256_0_0_512) bitsLt_bf16_f32

/-- Column j of row y of batch b of the convolution, at the arguments. -/
def rowC (b : Fin 2) (y : Fin 8192) (j : Fin 768) : EReal :=
  conv3C (fun s => (m ((c : Thread nD τ).loc main_arg0) : Vec Ideal S2x8192x768 .f32) (ix3 b s j)) ((m ((c : Thread nD τ).loc main_arg1) : Vec Ideal S3x768 .f32) (ix2 0 j)) ((m ((c : Thread nD τ).loc main_arg1) : Vec Ideal S3x768 .f32) (ix2 1 j)) ((m ((c : Thread nD τ).loc main_arg1) : Vec Ideal S3x768 .f32) (ix2 2 j)) ((m ((c : Thread nD τ).loc main_arg2) : Vec Ideal S768 .f32) (ix1 j)) y.val

theorem cvT_apply (b : Fin 2) (y : Fin 8192) (j : Fin 768) : cvT m c (ix3 b y j) = rowC m c b y j := by
  pointwise [cvT]
  have z : FloatOps.sitofp (F := Ideal) FTy.f32 0#32 = (0 : EReal) := by
    show (((0#32 : BitVec 32).toInt : ℝ) : EReal) = 0
    simp
  rw [z]
  unfold rowC conv3C padC
  refine congrArg₂ (fun p q : EReal => p + q) (congrArg₂ (fun p q : EReal => p + q) (congrArg₂ (fun p q : EReal => p + q) (congrArg (fun p : EReal => p * _) ?_) (congrArg (fun p : EReal => p * _) ?_)) (congrArg (fun p : EReal => p * _) ?_)) rfl
  · by_cases h : 1 ≤ y.val
    · rw [dif_pos (by omega), dif_pos (by omega)]; rfl
    · rw [dif_neg (by omega), dif_neg (by omega)]
  · rw [dif_pos (by omega)]; rfl
  · by_cases h : y.val + 2 - 1 < 8192
    · rw [dif_pos (by omega), dif_pos (by omega)]
      exact congrArg (fun s => uT m c (ix3 b s j)) (Fin.ext (by show 2 + y.val - 1 = y.val + 2 - 1; omega))
    · rw [dif_neg (by omega), dif_neg (by omega)]

theorem res5_apply (b : Fin 2) (y : Fin 8192) (d : Fin 256) : res5 m c (ix3 b y d) = rowC m c b y ⟨d.val, by omega⟩ := by
  refine Eq.trans ?_ (cvT_apply m c b y ⟨d.val, by omega⟩)
  pointwise [res5]

theorem res6_apply (b : Fin 2) (y : Fin 8192) (d : Fin 256) : res6 m c (ix3 b y d) = rowC m c b y ⟨256 + d.val, by omega⟩ := by
  refine Eq.trans ?_ (cvT_apply m c b y ⟨256 + d.val, by omega⟩)
  pointwise [res6]

theorem res7_apply (b : Fin 2) (y : Fin 8192) (d : Fin 256) : res7 m c (ix3 b y d) = rowC m c b y ⟨512 + d.val, by omega⟩ := by
  refine Eq.trans ?_ (cvT_apply m c b y ⟨512 + d.val, by omega⟩)
  pointwise [res7]

end Cert.Reference7Ideal.Hand

end
-- ==== Proof.ConvClaim.lean ====
/-
  The conjuncts of the claim about the short convolution: the reference's run leaves its arguments as they were, and the two
  programs end with the same arrays.
-/
module

public import proofs.«01_k».proof.Defs
public import proofs.«01_k».proof.Proof.ConvRun
public import proofs.«01_k».proof.Proof.ConvRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_conv_reference : Cert.quiescent_Reference7Ideal := fun m g _ =>
  (θ_run Cert.Reference7Ideal.defs _ _).mono (fun r h => ⟨fun c => (h c).2.2.2, sem_eq_zero_of_no_sems (by decide) r.2⟩) (Cert.Reference7Ideal.Value.run (F := Ideal) m g)

/-- The results are the same three arrays: every entry of both is the convolution's at the same arguments. -/
theorem algebraic_conv : Cert.algebraic_Kernel7Ideal_Reference7Ideal := by
  intro m g m' g' _ hagree
  refine ⟨_, _, _, Cert.Kernel7Ideal.Value.run_blocks (F := Ideal) m g, ?_⟩
  refine (θ_run Cert.Reference7Ideal.defs _ _).mono (fun r h c => ⟨(h c).1.trans ?_, (h c).2.1.trans ?_, (h c).2.2.1.trans ?_, (h c).2.2.2⟩) (Cert.Reference7Ideal.Value.run (F := Ideal) m' g')
  · obtain ⟨h0, h1, h2⟩ := hagree c
    funext i
    obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
    refine (Cert.Reference7Ideal.Hand.res5_apply m' c b y x).trans (Eq.trans ?_ (Cert.Kernel7Ideal.Hand.result5_apply m c b y x).symm)
    unfold Cert.Reference7Ideal.Hand.rowC Cert.Kernel7Ideal.Hand.rowC
    rw [h0, h1, h2]
  · obtain ⟨h0, h1, h2⟩ := hagree c
    funext i
    obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
    refine (Cert.Reference7Ideal.Hand.res6_apply m' c b y x).trans (Eq.trans ?_ (Cert.Kernel7Ideal.Hand.result6_apply m c b y x).symm)
    unfold Cert.Reference7Ideal.Hand.rowC Cert.Kernel7Ideal.Hand.rowC
    rw [h0, h1, h2]
  · obtain ⟨h0, h1, h2⟩ := hagree c
    funext i
    obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
    refine (Cert.Reference7Ideal.Hand.res7_apply m' c b y x).trans (Eq.trans ?_ (Cert.Kernel7Ideal.Hand.result7_apply m c b y x).symm)
    unfold Cert.Reference7Ideal.Hand.rowC Cert.Kernel7Ideal.Hand.rowC
    rw [h0, h1, h2]

end Cert.Proof

end
-- ==== Proof.FilterSpec.lean ====
/-
  A row of the convolution filters over the extended reals: a small network over a row of features, times a decay.
-/
module

public import proofs.«01_k».proof.Proof.RowSpec

@[expose] public section

noncomputable section

namespace Cert.FilterSpec

open Idealize.ShloMosaic

/-- One unit of a layer with a sine: the sum over the inputs and a shift, times the unit's frequency. -/
def unitF {n : ℕ} (f : Fin n → EReal) (w : Fin n → EReal) (b fq : EReal) : EReal := Ideal.sin (fq * ((∑ k : Fin n, f k * w k) + b))

/-- The weights of the network. -/
structure Net where
  w1 : Fin 33 → Fin 64 → EReal
  b1 : Fin 64 → EReal
  fq : Fin 64 → EReal
  w2 : Fin 64 → Fin 64 → EReal
  b2 : Fin 64 → EReal
  w3 : Fin 64 → Fin 1024 → EReal
  b3 : Fin 1024 → EReal

/-- Output j of the network at a row of features. -/
def netF (N : Net) (f : Fin 33 → EReal) (j : Fin 1024) : EReal :=
  (∑ k : Fin 64, unitF (fun q => unitF f (fun p => N.w1 p q) (N.b1 q) (N.fq q)) (fun q => N.w2 q k) (N.b2 k) (N.fq k) * N.w3 k j) + N.b3 j

/-- Tap j of a row: the network's output times the decay of its channel. -/
def tapF (N : Net) (f : Fin 33 → EReal) (dl : EReal) (j : Fin 1024) : EReal := netF N f j * Ideal.exp (-(f 0) * dl)

/-- The forward taps: channel d of lag y. -/
def fwdF (N : Net) (f : Fin 8192 → Fin 33 → EReal) (dl : Fin 256 → EReal) (y : Fin 8192) (d : Fin 512) : EReal :=
  tapF N (f y) (dl ⟨d.val % 256, Nat.mod_lt _ (by decide)⟩) ⟨512 * (d.val / 256) + d.val % 256, by omega⟩

/-- The backward taps, which start at lag one. -/
def bwdF (N : Net) (f : Fin 8192 → Fin 33 → EReal) (dl : Fin 256 → EReal) (y : Fin 8192) (d : Fin 512) : EReal :=
  if 0 < y.val then tapF N (f y) (dl ⟨d.val % 256, Nat.mod_lt _ (by decide)⟩) ⟨512 * (d.val / 256) + 256 + d.val % 256, by omega⟩ else 0

/-- The size of a number. -/
abbrev absE (x : EReal) : EReal := max x (-x)

/-- The sum of the sizes of the taps of a channel. -/
def sumF (N : Net) (f : Fin 8192 → Fin 33 → EReal) (dl : Fin 256 → EReal) (d : Fin 512) : EReal :=
  ∑ y : Fin 8192, (absE (fwdF N f dl y d) + absE (bwdF N f dl y d))

/-- A sum over the forward taps, a zero and the backward taps from the last, as a sum over the lags. -/
theorem sum_split (F : Fin 16384 → EReal) (A B : Fin 8192 → EReal) (h1 : ∀ y : Fin 8192, F ⟨y.val, by omega⟩ = A y) (h0 : F ⟨8192, by omega⟩ = B 0)
    (h2 : ∀ y : Fin 8191, F ⟨8193 + y.val, by omega⟩ = B ⟨8191 - y.val, by omega⟩) : (∑ x : Fin 16384, F x) = ∑ y : Fin 8192, (A y + B y) := by
  have e : (∑ x : Fin 16384, F x) = (∑ y : Fin 8192, F (Fin.castAdd 8192 y)) + ∑ y : Fin 8192, F (Fin.natAdd 8192 y) := Fin.sum_univ_add (a := 8192) (b := 8192) F
  have e2 : (∑ y : Fin 8192, F (Fin.natAdd 8192 y)) = F (Fin.natAdd 8192 (0 : Fin 8192)) + ∑ y : Fin 8191, F (Fin.natAdd 8192 (y.succ : Fin 8192)) := Fin.sum_univ_succ (n := 8191) _
  have e3 : (∑ y : Fin 8192, B y) = B 0 + ∑ y : Fin 8191, B (y.succ : Fin 8192) := Fin.sum_univ_succ (n := 8191) _
  have e4 : (∑ y : Fin 8191, B (y.succ : Fin 8192)) = ∑ y : Fin 8191, B ((Fin.revPerm y).succ : Fin 8192) := (Equiv.sum_comp Fin.revPerm fun y : Fin 8191 => B (y.succ : Fin 8192)).symm
  rw [e, Finset.sum_add_distrib, e2, e3, e4]
  refine congrArg₂ (· + ·) (Finset.sum_congr rfl fun y _ => h1 y) (congrArg₂ (· + ·) h0 (Finset.sum_congr rfl fun y _ => ?_))
  refine Eq.trans (congrArg F (Fin.ext ?_)) ((h2 y).trans (congrArg B (Fin.ext ?_)))
  · show 8192 + (y.val + 1) = 8193 + y.val; omega
  · show 8191 - y.val = 8191 - (y.val + 1) + 1; omega

/-- A sum over forty, of which the last seven are zeros. -/
theorem sum40 (F : Fin 40 → EReal) (G : Fin 33 → EReal) (h1 : ∀ k : Fin 33, F ⟨k.val, by omega⟩ = G k) (h2 : ∀ k : Fin 7, F ⟨33 + k.val, by omega⟩ = 0) :
    (∑ k : Fin 40, F k) = ∑ k : Fin 33, G k := by
  have e : (∑ k : Fin 40, F k) = (∑ k : Fin 33, F (Fin.castAdd 7 k)) + ∑ k : Fin 7, F (Fin.natAdd 33 k) := Fin.sum_univ_add (a := 33) (b := 7) F
  have z : (∑ k : Fin 7, F (Fin.natAdd 33 k)) = 0 := Finset.sum_eq_zero (fun (k : Fin 7) _ => h2 k)
  rw [e, z, add_zero]
  exact Finset.sum_congr rfl fun k _ => h1 k

/-- The sum over the lags, in eight runs of 1024. -/
def runF (A : Fin 8192 → EReal) (n : ℕ) : EReal := ∑ r : Fin 1024, if h : 1024 * n + r.val < 8192 then A ⟨1024 * n + r.val, h⟩ else 0

theorem sum_runs (A : Fin 8192 → EReal) : (∑ n ∈ Finset.range 8, runF A n) = ∑ y : Fin 8192, A y := by
  have e : (∑ y : Fin 8192, A y) = ∑ p : Fin 8 × Fin 1024, A (finProdFinEquiv p) := (Equiv.sum_comp (finProdFinEquiv (m := 8) (n := 1024)) A).symm
  rw [e, Fintype.sum_prod_type, Finset.sum_range]
  refine Finset.sum_congr rfl fun n _ => Finset.sum_congr rfl fun r _ => ?_
  rw [dif_pos (show 1024 * n.val + r.val < 8192 by omega)]
  exact congrArg A (Fin.ext (by show 1024 * n.val + r.val = r.val + 1024 * n.val; omega))

/-- A unit over forty inputs, of which the last seven and their weights are zeros. -/
theorem unit40 (f w : Fin 33 → EReal) (b fq : EReal) : unitF (fun p : Fin 40 => if h : p.val < 33 then f ⟨p.val, h⟩ else 0) (fun p => if h : p.val < 33 then w ⟨p.val, h⟩ else 0) b fq = unitF f w b fq := by
  unfold unitF
  rw [sum40 _ (fun k => f k * w k) (fun k => by dsimp only; rw [dif_pos k.isLt, dif_pos k.isLt]) (fun k => by dsimp only; rw [dif_neg (by omega), zero_mul])]

theorem fwd_lo (N : Net) (f : Fin 8192 → Fin 33 → EReal) (dl : Fin 256 → EReal) (y : Fin 8192) (d : Fin 512) (j : Fin 256) (h : d.val = j.val) :
    fwdF N f dl y d = tapF N (f y) (dl j) ⟨j.val, by omega⟩ := by
  unfold fwdF
  exact congrArg₂ (tapF N (f y)) (congrArg dl (Fin.ext (by show d.val % 256 = j.val; omega))) (Fin.ext (by show 512 * (d.val / 256) + d.val % 256 = j.val; omega))

theorem fwd_hi (N : Net) (f : Fin 8192 → Fin 33 → EReal) (dl : Fin 256 → EReal) (y : Fin 8192) (d : Fin 512) (j : Fin 256) (h : d.val = 256 + j.val) :
    fwdF N f dl y d = tapF N (f y) (dl j) ⟨512 + j.val, by omega⟩ := by
  unfold fwdF
  exact congrArg₂ (tapF N (f y)) (congrArg dl (Fin.ext (by show d.val % 256 = j.val; omega))) (Fin.ext (by show 512 * (d.val / 256) + d.val % 256 = 512 + j.val; omega))

theorem bwd_lo (N : Net) (f : Fin 8192 → Fin 33 → EReal) (dl : Fin 256 → EReal) (y : Fin 8192) (d : Fin 512) (j : Fin 256) (h : d.val = j.val) :
    bwdF N f dl y d = if 0 < y.val then tapF N (f y) (dl j) ⟨256 + j.val, by omega⟩ else 0 := by
  unfold bwdF
  exact congrArg (fun z : EReal => if 0 < y.val then z else 0) (congrArg₂ (tapF N (f y)) (congrArg dl (Fin.ext (by show d.val % 256 = j.val; omega))) (Fin.ext (by show 512 * (d.val / 256) + 256 + d.val % 256 = 256 + j.val; omega)))

theorem bwd_hi (N : Net) (f : Fin 8192 → Fin 33 → EReal) (dl : Fin 256 → EReal) (y : Fin 8192) (d : Fin 512) (j : Fin 256) (h : d.val = 256 + j.val) :
    bwdF N f dl y d = if 0 < y.val then tapF N (f y) (dl j) ⟨768 + j.val, by omega⟩ else 0 := by
  unfold bwdF
  exact congrArg (fun z : EReal => if 0 < y.val then z else 0) (congrArg₂ (tapF N (f y)) (congrArg dl (Fin.ext (by show d.val % 256 = j.val; omega))) (Fin.ext (by show 512 * (d.val / 256) + 256 + d.val % 256 = 768 + j.val; omega)))

end Cert.FilterSpec

end
-- ==== Proof.FilterHost.lean ====
/-
  The filters' grid over the extended reals: what the host lines leave in the arrays that the kernel reads, and the blocks that
  each point reads.
-/
module

public import proofs.«01_k».proof.Proof.FilterSpec
public import proofs.«01_k».proof.Proof.Gen.Kernel8Ideal.Value
public import Idealize.ShloMosaic.Lib.Pipeline.ValueKit.Tiles
public import Idealize.ShloMosaic.Lib.StableHlo.ReadAt

@[expose] public section

set_option maxRecDepth 16384

noncomputable section

namespace Cert.Kernel8Ideal.Hand

open Idealize.ShloMosaic Idealize.ShloMosaic.TcCoe Idealize.ShloMosaic.Tactic
open Cert.Kernel8Ideal Cert.Kernel8Ideal.Gen Cert.Kernel8Ideal.Value Cert.FilterSpec

/-- The times of the lags. -/
def tK : FVec Ideal S8192 .f32 := (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)
/-- The frequencies of the features. -/
def fK : FVec Ideal S16 .f32 := (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)
/-- The decays of the channels, before their sizes are taken. -/
def dK : FVec Ideal S256 .f32 := (concatenate S256 0 [⟨S255, (addf (mulf (broadcastInDim S255 ![0] bcast_S1_S255_0 (shapeCast _ (id (constant S_ .f32 0xC1759BEC#32)) shapeCasts_S_S1)) (subf (broadcastInDim S255 ![] bcast_S_S255 (constant S_ .f32 0x3F800000#32)) (Host.divf (sitofp .f32 (iotaInDim S255 32 0)) (broadcastInDim S255 ![] bcast_S_S255 (constant S_ .f32 0x437F0000#32))))) (mulf (broadcastInDim S255 ![0] bcast_S1_S255_0 (shapeCast _ (id (constant S_ .f32 0xC0447CBD#32)) shapeCasts_S_S1)) (Host.divf (sitofp .f32 (iotaInDim S255 32 0)) (broadcastInDim S255 ![] bcast_S_S255 (constant S_ .f32 0x437F0000#32)))))⟩, ⟨S1, (broadcastInDim S1 ![] bcast_S_S1 (id (constant S_ .f32 0xC0447CBD#32)))⟩] concatenates_S255_S1_S256_d0)
/-- The features of the lags. -/
def featK : FVec Ideal S8192x33 .f32 := ((concatenate S8192x33 1 [⟨S8192x1, ((broadcastInDim S8192x1 ![0] bcast_S8192_S8192x1_0 tK) : (⟨S8192x1, .f32⟩ : BufTy).Contents (Elt Ideal))⟩, ⟨S8192x16, ((Host.cos (mulf (broadcastInDim S8192x16 ![0, 1] bcast_S1x16_S8192x16_0_1 (broadcastInDim S1x16 ![1] bcast_S16_S1x16_1 fK)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32)))))) : (⟨S8192x16, .f32⟩ : BufTy).Contents (Elt Ideal))⟩, ⟨S8192x16, ((Host.negf (Host.sin (mulf (broadcastInDim S8192x16 ![0, 1] bcast_S1x16_S8192x16_0_1 (broadcastInDim S1x16 ![1] bcast_S16_S1x16_1 fK)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32))))))) : (⟨S8192x16, .f32⟩ : BufTy).Contents (Elt Ideal))⟩] concatenates_S8192x1_S8192x16_S8192x16_S8192x33_d1 : (⟨S8192x33, .f32⟩ : BufTy).Contents (Elt Ideal)))

variable (m : (ℓ : Loc nD τ sig) → Buf (Elt Ideal) ℓ) (c : Dev nD)

/-- The first layer's weights as an array of its shape. -/
def w1H : FVec Ideal S33x64 .f32 := m ((c : Thread nD τ).loc main_arg0)

theorem zero_word : FloatOps.sitofp (F := Ideal) FTy.f32 0#32 = (0 : EReal) := by
  show (((0#32 : BitVec 32).toInt : ℝ) : EReal) = 0
  simp

/-! ## What the host lines leave in the arrays that the kernel reads -/

set_option maxHeartbeats 2000000 in
theorem V_v20 : (V m c main_v20 : FVec Ideal S8192x40 .f32) = pad S8192x40 ![0, 0] ![0, 7] ![0, 0] featK (sitofp .f32 (constantI S_ 32 0#32) : FVec Ideal S_ .f32) pads_S8192x33_S8192x40_000_070 h_S_ := by
  unfold V
  after_reads_simp
  rfl

theorem V_v23 : (V m c main_v23 : FVec Ideal S40x64 .f32) = pad S40x64 ![0, 0] ![7, 0] ![0, 0] (w1H m c) (sitofp .f32 (constantI S_ 32 0#32) : FVec Ideal S_ .f32) pads_S33x64_S40x64_070_000 h_S_ := by
  unfold V
  after_reads_simp
  rfl

set_option maxHeartbeats 2000000 in
theorem V_v28 : (V m c main_v28 : FVec Ideal S1x256 .f32) = shapeCast S1x256 (Host.absf dK) shapeCasts_S256_S1x256 := by
  unfold V
  after_reads_simp
  rfl

theorem V_v24 (x : Fin 64) : (V m c main_v24 : Vec Ideal S1x64 .f32) (ix2 0 x) = (m ((c : Thread nD τ).loc main_arg1) : Vec Ideal S64 .f32) (ix1 x) := by
  unfold V
  after_reads_at

theorem V_v25 (x : Fin 64) : (V m c main_v25 : Vec Ideal S1x64 .f32) (ix2 0 x) = (m ((c : Thread nD τ).loc main_arg2) : Vec Ideal S64 .f32) (ix1 x) := by
  unfold V
  after_reads_at

theorem V_v26 (x : Fin 64) : (V m c main_v26 : Vec Ideal S1x64 .f32) (ix2 0 x) = (m ((c : Thread nD τ).loc main_arg4) : Vec Ideal S64 .f32) (ix1 x) := by
  unfold V
  after_reads_at

theorem V_v27 (x : Fin 1024) : (V m c main_v27 : Vec Ideal S1x1024 .f32) (ix2 0 x) = (m ((c : Thread nD τ).loc main_arg6) : Vec Ideal S1024 .f32) (ix1 x) := by
  unfold V
  after_reads_at

/-- The features, by lag. -/
def featH (y : Fin 8192) (k : Fin 33) : EReal := featK (ix2 y k)
/-- The decays, by channel. -/
def dlH (j : Fin 256) : EReal := absE (dK (ix1 j))

theorem feat_pad (y : Fin 8192) (k : Fin 40) : (V m c main_v20 : FVec Ideal S8192x40 .f32) (ix2 y k) = if h : k.val < 33 then featH y ⟨k.val, h⟩ else 0 := by
  rw [V_v20]
  pointwise
  rw [zero_word]
  rfl

theorem w1_pad (k : Fin 40) (j : Fin 64) : (V m c main_v23 : FVec Ideal S40x64 .f32) (ix2 k j) = if h : k.val < 33 then (w1H m c) (ix2 ⟨k.val, h⟩ j) else 0 := by
  rw [V_v23]
  pointwise
  rw [zero_word]

theorem dl_flat (j : Fin 256) : (V m c main_v28 : FVec Ideal S1x256 .f32) (ix2 0 j) = dlH j := by
  rw [V_v28]
  pointwise
  rfl

/-! ## The blocks -/

theorem tlt (t : Fin cfg0.N) : t.val < 8 := lt_of_lt_of_eq t.isLt N_0

/-- The row that row r of point t's block is. -/
def ty (t : Fin cfg0.N) (r : Fin 1024) : Fin 8192 := ⟨1024 * t.val + r.val, by have := tlt t; omega⟩

theorem coord0 : ∀ t : Fin cfg0.N, (grid0.coords t 0).val = t.val := by decide +kernel
theorem idx0 : ∀ t : Fin cfg0.N, win0_0.index t (0 : Fin 2) = t.val ∧ win0_0.index t (1 : Fin 2) = 0 := by decide +kernel
theorem idx1 : ∀ t : Fin cfg0.N, win0_1.index t (0 : Fin 2) = 0 ∧ win0_1.index t (1 : Fin 2) = 0 := by decide +kernel
theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx6 : ∀ t : Fin cfg0.N, win0_6.index t (0 : Fin 2) = 0 ∧ win0_6.index t (1 : Fin 2) = 0 := by decide +kernel
theorem idx7 : ∀ t : Fin cfg0.N, win0_7.index t (0 : Fin 2) = 0 ∧ win0_7.index t (1 : Fin 2) = 0 := by decide +kernel
theorem idx8 : ∀ t : Fin cfg0.N, win0_8.index t (0 : Fin 2) = 0 ∧ win0_8.index t (1 : Fin 2) = 0 := by decide +kernel
theorem idx9 : ∀ t : Fin cfg0.N, win0_9.index t (0 : Fin 2) = t.val ∧ win0_9.index t (1 : Fin 2) = 0 := by decide +kernel
theorem idx10 : ∀ t : Fin cfg0.N, win0_10.index t (0 : Fin 2) = t.val ∧ win0_10.index t (1 : Fin 2) = 0 := by decide +kernel
theorem idx11 : ∀ t : Fin cfg0.N, win0_11.index t (0 : Fin 2) = 0 ∧ win0_11.index t (1 : Fin 2) = 0 := by decide +kernel

theorem blk0 (t : Fin cfg0.N) (r : Fin 1024) (x : Fin 40) :
    (iblk m c 0 t : Vec Ideal S1024x40 .f32) (ix2 r x) = (V m c main_v20 : Vec Ideal S8192x40 .f32) (ix2 (ty t r) x) := by
  unfold iblk
  rw [View.read_apply]
  show V m c main_v20 _ = _
  congr 1
  obtain ⟨h0, h1⟩ := idx0 t
  funext a; apply Fin.ext
  match a with
  | ⟨0, _⟩ => show win0_0.index t (0 : Fin 2) * 1024 + 1 * r.val = 1024 * t.val + r.val; rw [h0]; omega
  | ⟨1, _⟩ => show win0_0.index t (1 : Fin 2) * 40 + 1 * x.val = x.val; rw [h1]; omega

theorem blk1 (t : Fin cfg0.N) (r : Fin 40) (x : Fin 64) :
    (iblk m c 1 t : Vec Ideal S40x64 .f32) (ix2 r x) = (V m c main_v23 : Vec Ideal S40x64 .f32) (ix2 r x) := by
  unfold iblk
  rw [View.read_apply]
  show V m c main_v23 _ = _
  congr 1
  obtain ⟨h0, h1⟩ := idx1 t
  funext a; apply Fin.ext
  match a with
  | ⟨0, _⟩ => show win0_1.index t (0 : Fin 2) * 40 + 1 * r.val = r.val; rw [h0]; omega
  | ⟨1, _⟩ => show win0_1.index t (1 : Fin 2) * 64 + 1 * x.val = x.val; rw [h1]; omega

theorem blk2 (t : Fin cfg0.N) (r : Fin 1) (x : Fin 64) :
    (iblk m c 2 t : Vec Ideal S1x64 .f32) (ix2 r x) = (V m c main_v24 : Vec Ideal S1x64 .f32) (ix2 r x) := by
  unfold iblk
  rw [View.read_apply]
  show V m c main_v24 _ = _
  congr 1
  obtain ⟨h0, h1⟩ := idx2 t
  funext a; apply Fin.ext
  match a with
  | ⟨0, _⟩ => show win0_2.index t (0 : Fin 2) * 1 + 1 * r.val = r.val; rw [h0]; omega
  | ⟨1, _⟩ => show win0_2.index t (1 : Fin 2) * 64 + 1 * x.val = x.val; rw [h1]; omega

theorem blk3 (t : Fin cfg0.N) (r : Fin 1) (x : Fin 64) :
    (iblk m c 3 t : Vec Ideal S1x64 .f32) (ix2 r x) = (V m c main_v25 : Vec Ideal S1x64 .f32) (ix2 r x) := by
  unfold iblk
  rw [View.read_apply]
  show V m c main_v25 _ = _
  congr 1
  obtain ⟨h0, h1⟩ := idx3 t
  funext a; apply Fin.ext
  match a with
  | ⟨0, _⟩ => show win0_3.index t (0 : Fin 2) * 1 + 1 * r.val = r.val; rw [h0]; omega
  | ⟨1, _⟩ => show win0_3.index t (1 : Fin 2) * 64 + 1 * x.val = x.val; rw [h1]; omega

theorem blk4 (t : Fin cfg0.N) (r : Fin 64) (x : Fin 64) :
    (iblk m c 4 t : Vec Ideal S64x64 .f32) (ix2 r x) = (V m c main_arg3 : Vec Ideal S64x64 .f32) (ix2 r x) := by
  unfold iblk
  rw [View.read_apply]
  show V m c main_arg3 _ = _
  congr 1
  obtain ⟨h0, h1⟩ := idx4 t
  funext a; apply Fin.ext
  match a with
  | ⟨0, _⟩ => show win0_4.index t (0 : Fin 2) * 64 + 1 * r.val = r.val; rw [h0]; omega
  | ⟨1, _⟩ => show win0_4.index t (1 : Fin 2) * 64 + 1 * x.val = x.val; rw [h1]; omega

theorem blk5 (t : Fin cfg0.N) (r : Fin 1) (x : Fin 64) :
    (iblk m c 5 t : Vec Ideal S1x64 .f32) (ix2 r x) = (V m c main_v26 : Vec Ideal S1x64 .f32) (ix2 r x) := by
  unfold iblk
  rw [View.read_apply]
  show V m c main_v26 _ = _
  congr 1
  obtain ⟨h0, h1⟩ := idx5 t
  funext a; apply Fin.ext
  match a with
  | ⟨0, _⟩ => show win0_5.index t (0 : Fin 2) * 1 + 1 * r.val = r.val; rw [h0]; omega
  | ⟨1, _⟩ => show win0_5.index t (1 : Fin 2) * 64 + 1 * x.val = x.val; rw [h1]; omega

theorem blk6 (t : Fin cfg0.N) (r : Fin 64) (x : Fin 1024) :
    (iblk m c 6 t : Vec Ideal S64x1024 .f32) (ix2 r x) = (V m c main_arg5 : Vec Ideal S64x1024 .f32) (ix2 r x) := by
  unfold iblk
  rw [View.read_apply]
  show V m c main_arg5 _ = _
  congr 1
  obtain ⟨h0, h1⟩ := idx6 t
  funext a; apply Fin.ext
  match a with
  | ⟨0, _⟩ => show win0_6.index t (0 : Fin 2) * 64 + 1 * r.val = r.val; rw [h0]; omega
  | ⟨1, _⟩ => show win0_6.index t (1 : Fin 2) * 1024 + 1 * x.val = x.val; rw [h1]; omega

theorem blk7 (t : Fin cfg0.N) (r : Fin 1) (x : Fin 1024) :
    (iblk m c 7 t : Vec Ideal S1x1024 .f32) (ix2 r x) = (V m c main_v27 : Vec Ideal S1x1024 .f32) (ix2 r x) := by
  unfold iblk
  rw [View.read_apply]
  show V m c main_v27 _ = _
  congr 1
  obtain ⟨h0, h1⟩ := idx7 t
  funext a; apply Fin.ext
  match a with
  | ⟨0, _⟩ => show win0_7.index t (0 : Fin 2) * 1 + 1 * r.val = r.val; rw [h0]; omega
  | ⟨1, _⟩ => show win0_7.index t (1 : Fin 2) * 1024 + 1 * x.val = x.val; rw [h1]; omega

theorem blk8 (t : Fin cfg0.N) (r : Fin 1) (x : Fin 256) :
    (iblk m c 8 t : Vec Ideal S1x256 .f32) (ix2 r x) = (V m c main_v28 : Vec Ideal S1x256 .f32) (ix2 r x) := by
  unfold iblk
  rw [View.read_apply]
  show V m c main_v28 _ = _
  congr 1
  obtain ⟨h0, h1⟩ := idx8 t
  funext a; apply Fin.ext
  match a with
  | ⟨0, _⟩ => show win0_8.index t (0 : Fin 2) * 1 + 1 * r.val = r.val; rw [h0]; omega
  | ⟨1, _⟩ => show win0_8.index t (1 : Fin 2) * 256 + 1 * x.val = x.val; rw [h1]; omega

end Cert.Kernel8Ideal.Hand

end
-- ==== Proof.FilterPieces.lean ====
/-
  What the filters' body leaves at one point: two stores into each block of taps, and one into the row of sums.
-/
module

public import proofs.«01_k».proof.Proof.Gen.Kernel8Ideal.Value

@[expose] public section

set_option maxRecDepth 16384

noncomputable section

namespace Cert.Kernel8Ideal.Hand

open Idealize.ShloMosaic Idealize.ShloMosaic.TcCoe Idealize.ShloMosaic.Tactic
open Cert.Kernel8Ideal Cert.Kernel8Ideal.Gen

variable {F : FTy → Type} [FloatOps F]

/-- The network's outputs for the rows of a block. -/
abbrev netB (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) : FVec F S1024x1024 .f32 :=
  k0_pay3 x0 x3 x1 x2 x4 x5 x6 x7

/-- The stores of the forward taps, last first. -/
def fwdPieces (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) (x8 : Vec F S1x256 .f32) : List (View.Piece (Elt F) S1024x512 .f32) :=
  [⟨Rect.unit (s := S1024x512) ![0, 256] S1024x256.size inb_S1024x512_S1024x256_0_256, k0_pay9 (netB x0 x1 x2 x3 x4 x5 x6 x7) (k0_pay4 x0 x8)⟩,
   ⟨Rect.unit (s := S1024x512) ![0, 0] S1024x256.size inb_S1024x512_S1024x256_0_0, k0_pay7 (netB x0 x1 x2 x3 x4 x5 x6 x7) (k0_pay4 x0 x8)⟩]

/-- The stores of the backward taps, last first. -/
def bwdPieces (i : grid0.Coords) (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) (x8 : Vec F S1x256 .f32) : List (View.Piece (Elt F) S1024x512 .f32) :=
  [⟨Rect.unit (s := S1024x512) ![0, 256] S1024x256.size inb_S1024x512_S1024x256_0_256, k0_pay10 (BitVec.ofNat 32 (i 0).val) (netB x0 x1 x2 x3 x4 x5 x6 x7) (k0_pay4 x0 x8)⟩,
   ⟨Rect.unit (s := S1024x512) ![0, 0] S1024x256.size inb_S1024x512_S1024x256_0_0, k0_pay8 (BitVec.ofNat 32 (i 0).val) (netB x0 x1 x2 x3 x4 x5 x6 x7) (k0_pay4 x0 x8)⟩]

/-- The sums of a block's taps. -/
def sumB (i : grid0.Coords) (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) (x8 : Vec F S1x256 .f32) : FVec F S1x512 .f32 := k0_pay11 (BitVec.ofNat 32 (i 0).val) (netB x0 x1 x2 x3 x4 x5 x6 x7) (k0_pay4 x0 x8)

/-- A store of a whole row of sums. -/
abbrev rowPieces (v : FVec F S1x512 .f32) : List (View.Piece (Elt F) S1x512 .f32) :=
  [⟨Rect.unit (s := S1x512) ![0, 0] S1x512.size inb_S1x512_S1x512_0_0, v⟩]

/-- What a body reads back of a whole array that holds x. -/
abbrev ra {n : Fin 2 → Nat} (a : Memref sig .tc .vmem ⟨2, n⟩ .f32) (h : a.IsWhole) (inb : ∀ b, (![0, 0] : Fin 2 → Nat) b + n b ≤ n b) (x : Vec F ⟨2, n⟩ .f32) : Vec F ⟨2, n⟩ .f32 :=
  View.readAt (Elt F) a.view (Rect.unit (s := ⟨2, n⟩) ![0, 0] n inb).toLoadRect (h.unread x)

theorem rd {n : Fin 2 → Nat} (a : Memref sig .tc .vmem ⟨2, n⟩ .f32) (h : a.IsWhole) (inb : ∀ b, (![0, 0] : Fin 2 → Nat) b + n b ≤ n b) (x : Vec F ⟨2, n⟩ .f32) : ra a h inb x = x :=
  (congrArg (fun z => View.ld (Val := Elt F) (e' := .f32) z (Rect.unit (s := ⟨2, n⟩) ![0, 0] n inb)) (h.read_unread x)).trans (View.ld_unit_zero (show (![0, 0] : Fin 2 → Nat) = fun _ => 0 by decide) _ _)

theorem fwdPieces_congr {x0 y0 : Vec F S1024x40 .f32} {x1 y1 : Vec F S40x64 .f32} {x2 y2 : Vec F S1x64 .f32} {x3 y3 : Vec F S1x64 .f32} {x4 y4 : Vec F S64x64 .f32} {x5 y5 : Vec F S1x64 .f32} {x6 y6 : Vec F S64x1024 .f32} {x7 y7 : Vec F S1x1024 .f32} {x8 y8 : Vec F S1x256 .f32} (h0 : x0 = y0) (h1 : x1 = y1) (h2 : x2 = y2) (h3 : x3 = y3) (h4 : x4 = y4) (h5 : x5 = y5) (h6 : x6 = y6) (h7 : x7 = y7) (h8 : x8 = y8) :
    fwdPieces x0 x1 x2 x3 x4 x5 x6 x7 x8 = fwdPieces y0 y1 y2 y3 y4 y5 y6 y7 y8 := by
  subst h0 h1 h2 h3 h4 h5 h6 h7 h8; rfl

theorem bwdPieces_congr (i : grid0.Coords) {x0 y0 : Vec F S1024x40 .f32} {x1 y1 : Vec F S40x64 .f32} {x2 y2 : Vec F S1x64 .f32} {x3 y3 : Vec F S1x64 .f32} {x4 y4 : Vec F S64x64 .f32} {x5 y5 : Vec F S1x64 .f32} {x6 y6 : Vec F S64x1024 .f32} {x7 y7 : Vec F S1x1024 .f32} {x8 y8 : Vec F S1x256 .f32} (h0 : x0 = y0) (h1 : x1 = y1) (h2 : x2 = y2) (h3 : x3 = y3) (h4 : x4 = y4) (h5 : x5 = y5) (h6 : x6 = y6) (h7 : x7 = y7) (h8 : x8 = y8) :
    bwdPieces i x0 x1 x2 x3 x4 x5 x6 x7 x8 = bwdPieces i y0 y1 y2 y3 y4 y5 y6 y7 y8 := by
  subst h0 h1 h2 h3 h4 h5 h6 h7 h8; rfl

theorem sumB_congr (i : grid0.Coords) {x0 y0 : Vec F S1024x40 .f32} {x1 y1 : Vec F S40x64 .f32} {x2 y2 : Vec F S1x64 .f32} {x3 y3 : Vec F S1x64 .f32} {x4 y4 : Vec F S64x64 .f32} {x5 y5 : Vec F S1x64 .f32} {x6 y6 : Vec F S64x1024 .f32} {x7 y7 : Vec F S1x1024 .f32} {x8 y8 : Vec F S1x256 .f32} (h0 : x0 = y0) (h1 : x1 = y1) (h2 : x2 = y2) (h3 : x3 = y3) (h4 : x4 = y4) (h5 : x5 = y5) (h6 : x6 = y6) (h7 : x7 = y7) (h8 : x8 = y8) :
    sumB i x0 x1 x2 x3 x4 x5 x6 x7 x8 = sumB i y0 y1 y2 y3 y4 y5 y6 y7 y8 := by
  subst h0 h1 h2 h3 h4 h5 h6 h7 h8; rfl

variable (c : Dev nD) (i : grid0.Coords) (arg1 : Memref sig .tc .vmem S1024x40 .f32) (harg1 : arg1.IsWhole) (arg2 : Memref sig .tc .vmem S40x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x1024 .f32) (harg7 : arg7.IsWhole) (arg8 : Memref sig .tc .vmem S1x1024 .f32) (harg8 : arg8.IsWhole) (arg9 : Memref sig .tc .vmem S1x256 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1x512 .f32) (harg12 : arg12.IsWhole)

section first

variable (hc0 : cond0_0 i) (hc1 : ¬cond0_1 i)
  (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) (x8 : Vec F S1x256 .f32)

theorem fwdRawA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 = fwdPieces (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8) := by rfl

theorem fwdA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).1 = fwdPieces x0 x1 x2 x3 x4 x5 x6 x7 x8 := by
  exact (fwdRawA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).trans (fwdPieces_congr (rd _ _ _ _) (rd _ _ _ _) (rd _ _ _ _) (rd _ _ _ _) (rd _ _ _ _) (rd _ _ _ _) (rd _ _ _ _) (rd _ _ _ _) (rd _ _ _ _))

theorem bwdRawA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 = bwdPieces i (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8) := by rfl

theorem bwdA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.1 = bwdPieces i x0 x1 x2 x3 x4 x5 x6 x7 x8 := by
  exact (bwdRawA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).trans (bwdPieces_congr i (rd _ _ _ _) (rd _ _ _ _) (rd _ _ _ _) (rd _ _ _ _) (rd _ _ _ _) (rd _ _ _ _) (rd _ _ _ _) (rd _ _ _ _) (rd _ _ _ _))

theorem rowRawA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 = rowPieces (sumB i (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8)) := by rfl

theorem rowA :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).2.2.1 = rowPieces (sumB i x0 x1 x2 x3 x4 x5 x6 x7 x8) := by
  exact (rowRawA c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8).trans (congrArg rowPieces (sumB_congr i (rd _ _ _ _) (rd _ _ _ _) (rd _ _ _ _) (rd _ _ _ _) (rd _ _ _ _) (rd _ _ _ _) (rd _ _ _ _) (rd _ _ _ _) (rd _ _ _ _)))

end first

section later

variable (hc0 : ¬cond0_0 i) (hc1 : cond0_1 i)
  (x0 : Vec F S1024x40 .f32) (x1 : Vec F S40x64 .f32) (x2 : Vec F S1x64 .f32) (x3 : Vec F S1x64 .f32) (x4 : Vec F S64x64 .f32) (x5 : Vec F S1x64 .f32) (x6 : Vec F S64x1024 .f32) (x7 : Vec F S1x1024 .f32) (x8 : Vec F S1x256 .f32) (xo : Vec F S1x512 .f32)

theorem fwdRawB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).1 = fwdPieces (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8) := by rfl

theorem fwdB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).1 = fwdPieces x0 x1 x2 x3 x4 x5 x6 x7 x8 := by
  exact (fwdRawB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).trans (fwdPieces_congr (rd _ _ _ _) (rd _ _ _ _) (rd _ _ _ _) (rd _ _ _ _) (rd _ _ _ _) (rd _ _ _ _) (rd _ _ _ _) (rd _ _ _ _) (rd _ _ _ _))

theorem bwdRawB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).2.1 = bwdPieces i (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8) := by rfl

theorem bwdB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).2.1 = bwdPieces i x0 x1 x2 x3 x4 x5 x6 x7 x8 := by
  exact (bwdRawB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).trans (bwdPieces_congr i (rd _ _ _ _) (rd _ _ _ _) (rd _ _ _ _) (rd _ _ _ _) (rd _ _ _ _) (rd _ _ _ _) (rd _ _ _ _) (rd _ _ _ _) (rd _ _ _ _))

theorem rowRawB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).2.2.1 = rowPieces (k0_pay1 (sumB i (ra arg1 harg1 inb_S1024x40_S1024x40_0_0 x0) (ra arg2 harg2 inb_S40x64_S40x64_0_0 x1) (ra arg3 harg3 inb_S1x64_S1x64_0_0 x2) (ra arg4 harg4 inb_S1x64_S1x64_0_0 x3) (ra arg5 harg5 inb_S64x64_S64x64_0_0 x4) (ra arg6 harg6 inb_S1x64_S1x64_0_0 x5) (ra arg7 harg7 inb_S64x1024_S64x1024_0_0 x6) (ra arg8 harg8 inb_S1x1024_S1x1024_0_0 x7) (ra arg9 harg9 inb_S1x256_S1x256_0_0 x8)) (ra arg12 harg12 inb_S1x512_S1x512_0_0 xo)) := by rfl

theorem rowB :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).2.2.1 = rowPieces (k0_pay1 (sumB i x0 x1 x2 x3 x4 x5 x6 x7 x8) xo) := by
  exact (rowRawB c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 xo).trans (congrArg rowPieces (congrArg₂ k0_pay1 (sumB_congr i (rd _ _ _ _) (rd _ _ _ _) (rd _ _ _ _) (rd _ _ _ _) (rd _ _ _ _) (rd _ _ _ _) (rd _ _ _ _) (rd _ _ _ _) (rd _ _ _ _)) (rd _ _ _ _)))

end later

end Cert.Kernel8Ideal.Hand

end
-- ==== Proof.FilterPay.lean ====
/-
  The filters' block of rows, read at an index over the extended reals.
-/
module

public import proofs.«01_k».proof.Proof.FilterHost
public import proofs.«01_k».proof.Proof.FilterPieces

@[expose] public section

set_option maxRecDepth 16384

noncomputable section

namespace Cert.Kernel8Ideal.Hand

open Idealize.ShloMosaic Idealize.ShloMosaic.TcCoe Idealize.ShloMosaic.Tactic
open Cert.Kernel8Ideal Cert.Kernel8Ideal.Gen Cert.Kernel8Ideal.Value Cert.FilterSpec

theorem net_apply (x0 : Vec Ideal S1024x40 .f32) (x1 : Vec Ideal S40x64 .f32) (x2 x3 : Vec Ideal S1x64 .f32) (x4 : Vec Ideal S64x64 .f32) (x5 : Vec Ideal S1x64 .f32) (x6 : Vec Ideal S64x1024 .f32) (x7 : Vec Ideal S1x1024 .f32) (r j : Fin 1024) :
    netB x0 x1 x2 x3 x4 x5 x6 x7 (ix2 r j)
      = (∑ k : Fin 64, unitF (fun q => unitF (fun p : Fin 40 => x0 (ix2 r p)) (fun p => x1 (ix2 p q)) (x2 (ix2 0 q)) (x3 (ix2 0 q))) (fun q => x4 (ix2 q k)) (x5 (ix2 0 k)) (x3 (ix2 0 k)) * x6 (ix2 k j)) + x7 (ix2 0 j) := by
  unfold netB
  pointwise [k0_pay3, k0_pay2]
  rfl

theorem dec_apply (x0 : Vec Ideal S1024x40 .f32) (x8 : Vec Ideal S1x256 .f32) (r : Fin 1024) (j : Fin 256) :
    k0_pay4 x0 x8 (ix2 r j) = -(x0 (ix2 r 0)) * x8 (ix2 0 j) := by
  pointwise [k0_pay4, k0_pay2]
  rw [zero_sub]

theorem pay7_apply (N : FVec Ideal S1024x1024 .f32) (D : FVec Ideal S1024x256 .f32) (r : Fin 1024) (j : Fin 256) :
    k0_pay7 N D (ix2 r j) = N (ix2 r ⟨j.val, by omega⟩) * Ideal.exp (D (ix2 r j)) := by
  pointwise [k0_pay7, k0_pay5]

theorem pay9_apply (N : FVec Ideal S1024x1024 .f32) (D : FVec Ideal S1024x256 .f32) (r : Fin 1024) (j : Fin 256) :
    k0_pay9 N D (ix2 r j) = N (ix2 r ⟨512 + j.val, by omega⟩) * Ideal.exp (D (ix2 r j)) := by
  pointwise [k0_pay9, k0_pay5]

/-- Whether a lag is past the first. -/
theorem lag_bit : ∀ (n : Fin 8) (r : Fin 1024), IntOp.cmpi CmpIPredicate.sgt (IntOp.addi (Scalar.muli (BitVec.ofNat 32 n.val) 1024#32) (BitVec.ofNat 32 r.val)) 0#32 = if 0 < 1024 * n.val + r.val then 1#1 else 0#1 := by decide +kernel

theorem select_bit (p : Prop) [Decidable p] (w : BitVec 1) (h : w = if p then 1#1 else 0#1) (X Y : EReal) : Scalar.select w X Y = if p then X else Y := by
  by_cases hp : p
  · rw [if_pos hp] at h ⊢; exact WordCmp.select_of_eq_one h X Y
  · rw [if_neg hp] at h ⊢; exact WordCmp.select_of_eq_zero h X Y

theorem pay8_apply (n : Fin 8) (N : FVec Ideal S1024x1024 .f32) (D : FVec Ideal S1024x256 .f32) (r : Fin 1024) (j : Fin 256) :
    k0_pay8 (BitVec.ofNat 32 n.val) N D (ix2 r j) = if 0 < 1024 * n.val + r.val then N (ix2 r ⟨256 + j.val, by omega⟩) * Ideal.exp (D (ix2 r j)) else 0 := by
  pointwise [k0_pay8, k0_pay5, k0_pay6]
  exact select_bit _ _ (lag_bit n r) _ _

theorem pay10_apply (n : Fin 8) (N : FVec Ideal S1024x1024 .f32) (D : FVec Ideal S1024x256 .f32) (r : Fin 1024) (j : Fin 256) :
    k0_pay10 (BitVec.ofNat 32 n.val) N D (ix2 r j) = if 0 < 1024 * n.val + r.val then N (ix2 r ⟨768 + j.val, by omega⟩) * Ideal.exp (D (ix2 r j)) else 0 := by
  pointwise [k0_pay10, k0_pay5, k0_pay6]
  exact select_bit _ _ (lag_bit n r) _ _

theorem pay11_apply (w : BitVec 32) (N : FVec Ideal S1024x1024 .f32) (D : FVec Ideal S1024x256 .f32) (d : Fin 512) :
    k0_pay11 w N D (ix2 0 d) = if h : d.val < 256 then ∑ r : Fin 1024, (absE (k0_pay7 N D (ix2 r ⟨d.val, h⟩)) + absE (k0_pay8 w N D (ix2 r ⟨d.val, h⟩)))
      else ∑ r : Fin 1024, (absE (k0_pay9 N D (ix2 r ⟨d.val - 256, by omega⟩)) + absE (k0_pay10 w N D (ix2 r ⟨d.val - 256, by omega⟩))) := by
  pointwise [k0_pay11]
  rfl

end Cert.Kernel8Ideal.Hand

end
-- ==== Proof.FilterRun.lean ====
/-
  The filters' grid over the extended reals: what each point leaves, and what the result arrays hold.
-/
module

public import proofs.«01_k».proof.Proof.FilterPay

@[expose] public section

set_option maxRecDepth 16384

noncomputable section

namespace Cert.Kernel8Ideal.Hand

open Idealize.ShloMosaic Idealize.ShloMosaic.TcCoe Idealize.ShloMosaic.Tactic
open Cert.Kernel8Ideal Cert.Kernel8Ideal.Gen Cert.Kernel8Ideal.Value Cert.FilterSpec

variable (m : (ℓ : Loc nD τ sig) → Buf (Elt Ideal) ℓ) (c : Dev nD)

/-- The weights. -/
def netH : Net where
  w1 := fun k j => w1H m c (ix2 k j)
  b1 := fun j => (m ((c : Thread nD τ).loc main_arg1) : Vec Ideal S64 .f32) (ix1 j)
  fq := fun j => (m ((c : Thread nD τ).loc main_arg2) : Vec Ideal S64 .f32) (ix1 j)
  w2 := fun k j => (m ((c : Thread nD τ).loc main_arg3) : Vec Ideal S64x64 .f32) (ix2 k j)
  b2 := fun j => (m ((c : Thread nD τ).loc main_arg4) : Vec Ideal S64 .f32) (ix1 j)
  w3 := fun k j => (m ((c : Thread nD τ).loc main_arg5) : Vec Ideal S64x1024 .f32) (ix2 k j)
  b3 := fun j => (m ((c : Thread nD τ).loc main_arg6) : Vec Ideal S1024 .f32) (ix1 j)

/-- The network's outputs at a point. -/
abbrev netP (t : Fin cfg0.N) : FVec Ideal S1024x1024 .f32 := netB (F := Ideal) (iblk m c 0 t) (iblk m c 1 t) (iblk m c 2 t) (iblk m c 3 t) (iblk m c 4 t) (iblk m c 5 t) (iblk m c 6 t) (iblk m c 7 t)
/-- The decays' exponents at a point. -/
abbrev decP (t : Fin cfg0.N) : FVec Ideal S1024x256 .f32 := k0_pay4 (F := Ideal) (iblk m c 0 t) (iblk m c 8 t)

theorem net_of (N : Net) (f : Fin 33 → EReal) (x0 : Vec Ideal S1024x40 .f32) (x1 : Vec Ideal S40x64 .f32) (x2 x3 : Vec Ideal S1x64 .f32) (x4 : Vec Ideal S64x64 .f32) (x5 : Vec Ideal S1x64 .f32) (x6 : Vec Ideal S64x1024 .f32) (x7 : Vec Ideal S1x1024 .f32) (r j : Fin 1024)
    (e0 : ∀ p : Fin 40, x0 (ix2 r p) = if h : p.val < 33 then f ⟨p.val, h⟩ else 0) (e1 : ∀ (p : Fin 40) (q : Fin 64), x1 (ix2 p q) = if h : p.val < 33 then N.w1 ⟨p.val, h⟩ q else 0)
    (e2 : ∀ q : Fin 64, x2 (ix2 0 q) = N.b1 q) (e3 : ∀ q : Fin 64, x3 (ix2 0 q) = N.fq q) (e4 : ∀ k q : Fin 64, x4 (ix2 k q) = N.w2 k q) (e5 : ∀ q : Fin 64, x5 (ix2 0 q) = N.b2 q)
    (e6 : ∀ (k : Fin 64) (q : Fin 1024), x6 (ix2 k q) = N.w3 k q) (e7 : ∀ q : Fin 1024, x7 (ix2 0 q) = N.b3 q) : netB x0 x1 x2 x3 x4 x5 x6 x7 (ix2 r j) = netF N f j := by
  refine (net_apply _ _ _ _ _ _ _ _ r j).trans ?_
  have u := fun q : Fin 64 => unit40 f (fun p => N.w1 p q) (N.b1 q) (N.fq q)
  unfold netF
  simp only [e0, e1, e2, e3, e4, e5, e6, e7, u]

theorem netP_apply (t : Fin cfg0.N) (r j : Fin 1024) : netP m c t (ix2 r j) = netF (netH m c) (featH (ty t r)) j :=
  net_of (netH m c) (featH (ty t r)) _ _ _ _ _ _ _ _ r j
    (fun p => (blk0 m c t r p).trans (feat_pad m c _ p)) (fun k q => (blk1 m c t k q).trans (w1_pad m c k q))
    (fun q => (blk2 m c t 0 q).trans (V_v24 m c q)) (fun q => (blk3 m c t 0 q).trans (V_v25 m c q))
    (fun k q => (blk4 m c t k q).trans (congrArg (fun z : Vec Ideal S64x64 .f32 => z (ix2 k q)) (V_main_arg3 m c)))
    (fun q => (blk5 m c t 0 q).trans (V_v26 m c q))
    (fun k q => (blk6 m c t k q).trans (congrArg (fun z : Vec Ideal S64x1024 .f32 => z (ix2 k q)) (V_main_arg5 m c)))
    (fun q => (blk7 m c t 0 q).trans (V_v27 m c q))

theorem decP_apply (t : Fin cfg0.N) (r : Fin 1024) (j : Fin 256) : decP m c t (ix2 r j) = -(featH (ty t r) 0) * dlH j := by
  refine (dec_apply _ _ r j).trans ?_
  have e0 := (blk0 m c t r 0).trans (feat_pad m c _ 0)
  rw [dif_pos (show (0 : Fin 40).val < 33 by decide)] at e0
  have e8 := (blk8 m c t 0 j).trans (dl_flat m c j)
  rw [e0, e8]
  rfl

/-- A tap at a point. -/
theorem tapP (t : Fin cfg0.N) (r j : Fin 1024) (q : Fin 256) : netP m c t (ix2 r j) * Ideal.exp (decP m c t (ix2 r q)) = tapF (netH m c) (featH (ty t r)) (dlH q) j := by
  rw [netP_apply, decP_apply]
  rfl

/-- The forward taps of point t's block. -/
def fwdBlk (t : Fin cfg0.N) : Vec Ideal S1024x512 .f32 := fun y => fwdF (netH m c) featH dlH (ty t (y 0)) (y 1)
/-- The backward taps of point t's block. -/
def bwdBlk (t : Fin cfg0.N) : Vec Ideal S1024x512 .f32 := fun y => bwdF (netH m c) featH dlH (ty t (y 0)) (y 1)

theorem fwdBlk_at (t : Fin cfg0.N) (r : Fin 1024) (d : Fin 512) : fwdBlk m c t (ix2 r d) = fwdF (netH m c) featH dlH (ty t r) d := rfl
theorem bwdBlk_at (t : Fin cfg0.N) (r : Fin 1024) (d : Fin 512) : bwdBlk m c t (ix2 r d) = bwdF (netH m c) featH dlH (ty t r) d := rfl

/-- A word for a point's number. -/
theorem word_coord (t : Fin cfg0.N) : BitVec.ofNat 32 (grid0.coords t 0).val = BitVec.ofNat 32 (⟨t.val, tlt t⟩ : Fin 8).val := congrArg (BitVec.ofNat 32) (coord0 t)

theorem p7 (t : Fin cfg0.N) (r : Fin 1024) (j : Fin 256) (d : Fin 512) (h : d.val = j.val) : k0_pay7 (netP m c t) (decP m c t) (ix2 r j) = fwdF (netH m c) featH dlH (ty t r) d := by
  rw [fwd_lo _ _ _ _ d j h, pay7_apply, tapP]
theorem p9 (t : Fin cfg0.N) (r : Fin 1024) (j : Fin 256) (d : Fin 512) (h : d.val = 256 + j.val) : k0_pay9 (netP m c t) (decP m c t) (ix2 r j) = fwdF (netH m c) featH dlH (ty t r) d := by
  rw [fwd_hi _ _ _ _ d j h, pay9_apply, tapP]
theorem p8 (t : Fin cfg0.N) (r : Fin 1024) (j : Fin 256) (d : Fin 512) (h : d.val = j.val) : k0_pay8 (BitVec.ofNat 32 (grid0.coords t 0).val) (netP m c t) (decP m c t) (ix2 r j) = bwdF (netH m c) featH dlH (ty t r) d := by
  rw [bwd_lo _ _ _ _ d j h, word_coord, pay8_apply, tapP]
  rfl
theorem p10 (t : Fin cfg0.N) (r : Fin 1024) (j : Fin 256) (d : Fin 512) (h : d.val = 256 + j.val) : k0_pay10 (BitVec.ofNat 32 (grid0.coords t 0).val) (netP m c t) (decP m c t) (ix2 r j) = bwdF (netH m c) featH dlH (ty t r) d := by
  rw [bwd_hi _ _ _ _ d j h, word_coord, pay10_apply, tapP]
  rfl

theorem fwdPieces_eq (t : Fin cfg0.N) : ∀ p ∈ fwdPieces (F := Ideal) (iblk m c 0 t) (iblk m c 1 t) (iblk m c 2 t) (iblk m c 3 t) (iblk m c 4 t) (iblk m c 5 t) (iblk m c 6 t) (iblk m c 7 t) (iblk m c 8 t), ∀ x : p.1.shape.Idx, p.2 x = fwdBlk m c t (p.1.emb x) := by
  intro p hp
  simp only [fwdPieces, List.mem_cons, List.not_mem_nil, or_false] at hp
  rcases hp with rfl | rfl
  · intro x
    obtain ⟨r, j, rfl⟩ : ∃ (r : Fin 1024) (j : Fin 256), x = ix2 r j := ⟨x 0, x 1, by funext a; match a with | ⟨0, _⟩ => rfl | ⟨1, _⟩ => rfl⟩
    refine (p9 m c t r j ⟨256 + j.val, by omega⟩ rfl).trans ?_
    refine congrArg₂ (fwdF (netH m c) featH dlH) (congrArg (ty t) (Fin.ext ?_)) (Fin.ext ?_)
    · show r.val = 0 + 1 * r.val; omega
    · show 256 + j.val = 256 + 1 * j.val; omega
  · intro x
    obtain ⟨r, j, rfl⟩ : ∃ (r : Fin 1024) (j : Fin 256), x = ix2 r j := ⟨x 0, x 1, by funext a; match a with | ⟨0, _⟩ => rfl | ⟨1, _⟩ => rfl⟩
    refine (p7 m c t r j ⟨j.val, by omega⟩ rfl).trans ?_
    refine congrArg₂ (fwdF (netH m c) featH dlH) (congrArg (ty t) (Fin.ext ?_)) (Fin.ext ?_)
    · show r.val = 0 + 1 * r.val; omega
    · show j.val = 0 + 1 * j.val; omega

theorem bwdPieces_eq (t : Fin cfg0.N) : ∀ p ∈ bwdPieces (F := Ideal) (grid0.coords t) (iblk m c 0 t) (iblk m c 1 t) (iblk m c 2 t) (iblk m c 3 t) (iblk m c 4 t) (iblk m c 5 t) (iblk m c 6 t) (iblk m c 7 t) (iblk m c 8 t), ∀ x : p.1.shape.Idx, p.2 x = bwdBlk m c t (p.1.emb x) := by
  intro p hp
  simp only [bwdPieces, List.mem_cons, List.not_mem_nil, or_false] at hp
  rcases hp with rfl | rfl
  · intro x
    obtain ⟨r, j, rfl⟩ : ∃ (r : Fin 1024) (j : Fin 256), x = ix2 r j := ⟨x 0, x 1, by funext a; match a with | ⟨0, _⟩ => rfl | ⟨1, _⟩ => rfl⟩
    refine (p10 m c t r j ⟨256 + j.val, by omega⟩ rfl).trans ?_
    refine congrArg₂ (bwdF (netH m c) featH dlH) (congrArg (ty t) (Fin.ext ?_)) (Fin.ext ?_)
    · show r.val = 0 + 1 * r.val; omega
    · show 256 + j.val = 256 + 1 * j.val; omega
  · intro x
    obtain ⟨r, j, rfl⟩ : ∃ (r : Fin 1024) (j : Fin 256), x = ix2 r j := ⟨x 0, x 1, by funext a; match a with | ⟨0, _⟩ => rfl | ⟨1, _⟩ => rfl⟩
    refine (p8 m c t r j ⟨j.val, by omega⟩ rfl).trans ?_
    refine congrArg₂ (bwdF (netH m c) featH dlH) (congrArg (ty t) (Fin.ext ?_)) (Fin.ext ?_)
    · show r.val = 0 + 1 * r.val; omega
    · show j.val = 0 + 1 * j.val; omega

/-- The size of both taps of a channel at a lag. -/
def tapSize (d : Fin 512) (y : Fin 8192) : EReal := absE (fwdF (netH m c) featH dlH y d) + absE (bwdF (netH m c) featH dlH y d)

theorem sumP_apply (t : Fin cfg0.N) (d : Fin 512) : sumB (F := Ideal) (grid0.coords t) (iblk m c 0 t) (iblk m c 1 t) (iblk m c 2 t) (iblk m c 3 t) (iblk m c 4 t) (iblk m c 5 t) (iblk m c 6 t) (iblk m c 7 t) (iblk m c 8 t) (ix2 0 d) = runF (tapSize m c d) t.val := by
  have ht := tlt t
  unfold sumB
  refine (pay11_apply _ _ _ d).trans ?_
  unfold runF
  by_cases h : d.val < 256
  · rw [dif_pos h]
    refine Finset.sum_congr rfl fun r _ => ?_
    rw [dif_pos (show 1024 * t.val + r.val < 8192 by omega)]
    exact congrArg₂ (fun p q : EReal => absE p + absE q) (p7 m c t r ⟨d.val, h⟩ d rfl) (p8 m c t r ⟨d.val, h⟩ d rfl)
  · rw [dif_neg h]
    refine Finset.sum_congr rfl fun r _ => ?_
    rw [dif_pos (show 1024 * t.val + r.val < 8192 by omega)]
    exact congrArg₂ (fun p q : EReal => absE p + absE q) (p9 m c t r ⟨d.val - 256, by omega⟩ d (by show d.val = 256 + (d.val - 256); omega)) (p10 m c t r ⟨d.val - 256, by omega⟩ d (by show d.val = 256 + (d.val - 256); omega))

theorem pointA (t : Fin cfg0.N) (h0 : t.val % 8 = 0) (h1 : ¬1 ≤ t.val) : outsAt0 m c t.val t.isLt = (fwdBlk m c t, bwdBlk m c t, sumB (F := Ideal) (grid0.coords t) (iblk m c 0 t) (iblk m c 1 t) (iblk m c 2 t) (iblk m c 3 t) (iblk m c 4 t) (iblk m c 5 t) (iblk m c 6 t) (iblk m c 7 t) (iblk m c 8 t)) := by
  rw [outsAt0_A m c t h0 h1]
  have e1 := fwdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  have e2 := bwdA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  have e3 := rowA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  have c1 := cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  have c2 := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
  refine Prod.ext ?_ (Prod.ext ?_ ?_)
  · dsimp only
    unfold out0_A_9
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).1 = L at e1 c1 ⊢
    subst e1
    funext y
    exact View.read_writes_apply_of_pieces _ _ _ _ (fwdPieces_eq m c t) y (c1 y)
  · dsimp only
    unfold out0_A_10
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.1 = L at e2 c2 ⊢
    subst e2
    funext y
    exact View.read_writes_apply_of_pieces _ _ _ _ (bwdPieces_eq m c t) y (c2 y)
  · dsimp only
    unfold out0_A_11
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.1 = L at e3 ⊢
    subst e3
    funext y
    rw [View.read_writes_junk_apply_eq_canon, View.canon_cons_unit_zero (by decide)]

theorem pointB (t : Fin cfg0.N) (h0 : ¬t.val % 8 = 0) (h1 : 1 ≤ t.val) : outsAt0 m c t.val t.isLt = (fwdBlk m c t, bwdBlk m c t, k0_pay1 (sumB (F := Ideal) (grid0.coords t) (iblk m c 0 t) (iblk m c 1 t) (iblk m c 2 t) (iblk m c 3 t) (iblk m c 4 t) (iblk m c 5 t) (iblk m c 6 t) (iblk m c 7 t) (iblk m c 8 t)) (outsAt0 m c (t.val - 1) (Nat.lt_of_le_of_lt (Nat.sub_le _ _) t.isLt)).2.2) := by
  rw [outsAt0_B m c t h0 h1]
  generalize (outsAt0 m c (t.val - 1) (Nat.lt_of_le_of_lt (Nat.sub_le _ _) t.isLt)).2.2 = xs
  have e1 := fwdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs
  have e2 := bwdB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs
  have e3 := rowB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs
  have c1 := cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs
  have c2 := cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs
  refine Prod.ext ?_ (Prod.ext ?_ ?_)
  · dsimp only
    unfold out0_B_9
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs).1 = L at e1 c1 ⊢
    subst e1
    funext y
    exact View.read_writes_apply_of_pieces _ _ _ _ (fwdPieces_eq m c t) y (c1 y)
  · dsimp only
    unfold out0_B_10
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs).2.1 = L at e2 c2 ⊢
    subst e2
    funext y
    exact View.read_writes_apply_of_pieces _ _ _ _ (bwdPieces_eq m c t) y (c2 y)
  · dsimp only
    unfold out0_B_11
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) xs).2.2.1 = L at e3 ⊢
    subst e3
    funext y
    rw [View.read_writes_junk_apply_eq_canon, View.canon_cons_unit_zero (by decide)]

theorem row_run : ∀ (n : ℕ) (hn : n < cfg0.N) (d : Fin 512), (outsAt0 m c n hn).2.2 (ix2 0 d) = ∑ k ∈ Finset.range (n + 1), runF (tapSize m c d) k
  | 0, hn, d => by
    have h := congrArg (fun p : Vec Ideal S1024x512 .f32 × Vec Ideal S1024x512 .f32 × Vec Ideal S1x512 .f32 => p.2.2 (ix2 0 d)) (pointA m c ⟨0, hn⟩ rfl (by show ¬ 1 ≤ 0; omega))
    refine h.trans ((sumP_apply m c ⟨0, hn⟩ d).trans ?_)
    rw [Finset.sum_range_one]
  | n + 1, hn, d => by
    have hl : n + 1 < 8 := tlt ⟨n + 1, hn⟩
    have h := congrArg (fun p : Vec Ideal S1024x512 .f32 × Vec Ideal S1024x512 .f32 × Vec Ideal S1x512 .f32 => p.2.2 (ix2 0 d)) (pointB m c ⟨n + 1, hn⟩ (by show ¬ (n + 1) % 8 = 0; omega) (by show 1 ≤ n + 1; omega))
    refine h.trans ?_
    rw [Finset.sum_range_succ, ← row_run n (Nat.lt_of_succ_lt hn) d]
    refine Eq.trans ?_ (congrArg (fun z : EReal => (outsAt0 m c n (Nat.lt_of_succ_lt hn)).2.2 (ix2 0 d) + z) (sumP_apply m c ⟨n + 1, hn⟩ d))
    show k0_pay1 _ _ (ix2 0 d) = _
    pointwise [k0_pay1]
    rfl

/-! ## The results -/

theorem flush9 : ∀ t : Fin cfg0.N, (cfg0.win 9).flush t = true := (by decide +kernel : ∀ t : Fin grid0.N, win0_9.flush t = true)
theorem flush10 : ∀ t : Fin cfg0.N, (cfg0.win 10).flush t = true := (by decide +kernel : ∀ t : Fin grid0.N, win0_10.flush t = true)
theorem flush11 : ∀ t : Fin cfg0.N, (cfg0.win 11).flush t = true → t.val = 7 := (by decide +kernel : ∀ t : Fin grid0.N, win0_11.flush t = true → t.val = 7)
theorem flush11_last : ∀ t : Fin cfg0.N, t.val = 7 → (cfg0.win 11).flush t = true := (by decide +kernel : ∀ t : Fin grid0.N, t.val = 7 → win0_11.flush t = true)

theorem point_taps (t : Fin cfg0.N) : (outsAt0 m c t.val t.isLt).1 = fwdBlk m c t ∧ (outsAt0 m c t.val t.isLt).2.1 = bwdBlk m c t := by
  have ht := tlt t
  by_cases h : t.val = 0
  · rw [pointA m c t (by omega) (by omega)]
    exact ⟨rfl, rfl⟩
  · rw [pointB m c t (by omega) (by omega)]
    exact ⟨rfl, rfl⟩

theorem result9_at (t : Fin cfg0.N) (r : Fin 1024) (d : Fin 512) :
    ((dats m 0 c).arrAt 9 cfg0.N : Vec Ideal S8192x512 .f32) (ix2 (ty t r) d) = fwdF (netH m c) featH dlH (ty t r) d := by
  have h := congrFun ((blocks9 m c t (flush9 t)).trans (flushed9 m c t)) (ix2 r d)
  rw [View.read_apply, (point_taps m c t).1] at h
  refine Eq.trans (congrArg ((dats m 0 c).arrAt 9 cfg0.N : Vec Ideal S8192x512 .f32) ?_) (h.trans (Eq.trans (congrArg (fwdBlk m c t) (?_ : _ = ix2 r d)) (fwdBlk_at m c t r d)))
  · obtain ⟨h0, h1⟩ := idx9 t
    funext a; apply Fin.ext
    match a with
    | ⟨0, _⟩ => show 1024 * t.val + r.val = win0_9.index t (0 : Fin 2) * 1024 + 1 * r.val; rw [h0]; omega
    | ⟨1, _⟩ => show d.val = win0_9.index t (1 : Fin 2) * 512 + 1 * d.val; rw [h1]; omega
  · funext a; apply Fin.ext
    match a with
    | ⟨0, _⟩ => rfl
    | ⟨1, _⟩ => rfl

theorem result9_apply (y : Fin 8192) (d : Fin 512) :
    ((dats m 0 c).arrAt 9 cfg0.N : Vec Ideal S8192x512 .f32) (ix2 y d) = fwdF (netH m c) featH dlH y d := by
  have hN : y.val / 1024 < cfg0.N := lt_of_lt_of_eq (by omega) N_0.symm
  have h := result9_at m c ⟨y.val / 1024, hN⟩ ⟨y.val % 1024, by omega⟩ d
  have ey : ty ⟨y.val / 1024, hN⟩ ⟨y.val % 1024, by omega⟩ = y := Fin.ext (by show 1024 * (y.val / 1024) + y.val % 1024 = y.val; omega)
  rw [ey] at h
  exact h

theorem result10_at (t : Fin cfg0.N) (r : Fin 1024) (d : Fin 512) :
    ((dats m 0 c).arrAt 10 cfg0.N : Vec Ideal S8192x512 .f32) (ix2 (ty t r) d) = bwdF (netH m c) featH dlH (ty t r) d := by
  have h := congrFun ((blocks10 m c t (flush10 t)).trans (flushed10 m c t)) (ix2 r d)
  rw [View.read_apply, (point_taps m c t).2] at h
  refine Eq.trans (congrArg ((dats m 0 c).arrAt 10 cfg0.N : Vec Ideal S8192x512 .f32) ?_) (h.trans (Eq.trans (congrArg (bwdBlk m c t) (?_ : _ = ix2 r d)) (bwdBlk_at m c t r d)))
  · obtain ⟨h0, h1⟩ := idx10 t
    funext a; apply Fin.ext
    match a with
    | ⟨0, _⟩ => show 1024 * t.val + r.val = win0_10.index t (0 : Fin 2) * 1024 + 1 * r.val; rw [h0]; omega
    | ⟨1, _⟩ => show d.val = win0_10.index t (1 : Fin 2) * 512 + 1 * d.val; rw [h1]; omega
  · funext a; apply Fin.ext
    match a with
    | ⟨0, _⟩ => rfl
    | ⟨1, _⟩ => rfl

theorem result10_apply (y : Fin 8192) (d : Fin 512) :
    ((dats m 0 c).arrAt 10 cfg0.N : Vec Ideal S8192x512 .f32) (ix2 y d) = bwdF (netH m c) featH dlH y d := by
  have hN : y.val / 1024 < cfg0.N := lt_of_lt_of_eq (by omega) N_0.symm
  have h := result10_at m c ⟨y.val / 1024, hN⟩ ⟨y.val % 1024, by omega⟩ d
  have ey : ty ⟨y.val / 1024, hN⟩ ⟨y.val % 1024, by omega⟩ = y := Fin.ext (by show 1024 * (y.val / 1024) + y.val % 1024 = y.val; omega)
  rw [ey] at h
  exact h

theorem result11_apply (d : Fin 512) : ((dats m 0 c).arrAt 11 cfg0.N : Vec Ideal S1x512 .f32) (ix2 0 d) = sumF (netH m c) featH dlH d := by
  have hN : 7 < cfg0.N := lt_of_lt_of_eq (by omega) N_0.symm
  have h := congrFun (((dats m 0 c).read_blk_arrAt_eq_flushed 11 (fun t t' hf hf' hne => absurd (Fin.ext ((flush11 t hf).trans (flush11 t' hf').symm)) hne) cfg0.N ⟨7, hN⟩ hN (flush11_last ⟨7, hN⟩ rfl)).trans (flushed11 m c ⟨7, hN⟩)) (ix2 (0 : Fin 1) d)
  rw [View.read_apply] at h
  refine Eq.trans (congrArg ((dats m 0 c).arrAt 11 cfg0.N : Vec Ideal S1x512 .f32) ?_) (h.trans (Eq.trans (congrArg (outsAt0 m c 7 hN).2.2 ?_) ((row_run m c 7 hN d).trans (sum_runs (tapSize m c d)))))
  · obtain ⟨h0, h1⟩ := idx11 ⟨7, hN⟩
    funext a; apply Fin.ext
    match a with
    | ⟨0, _⟩ => show 0 = win0_11.index ⟨7, hN⟩ (0 : Fin 2) * 1 + 1 * 0; rw [h0]
    | ⟨1, _⟩ => show d.val = win0_11.index ⟨7, hN⟩ (1 : Fin 2) * 512 + 1 * d.val; rw [h1]; omega
  · funext a; apply Fin.ext
    match a with
    | ⟨0, _⟩ => rfl
    | ⟨1, _⟩ => rfl

end Cert.Kernel8Ideal.Hand

end
-- ==== Proof.FilterRef.lean ====
/-
  The convolution filters' reference, read at an index over the extended reals.
-/
module

public import proofs.«01_k».proof.Proof.Gen.Reference8Ideal.Run
public import proofs.«01_k».proof.Proof.FilterSpec
public import Idealize.ShloMosaic.Lib.Pipeline.ValueKit.Tiles
public import Idealize.ShloMosaic.Lib.StableHlo.ReadAt

@[expose] public section

set_option maxRecDepth 16384

noncomputable section

namespace Cert.Reference8Ideal.Hand

open Idealize.ShloMosaic Idealize.ShloMosaic.TcCoe Idealize.ShloMosaic.Tactic
open Cert.Reference8Ideal Cert.Reference8Ideal.Gen Cert.Reference8Ideal.Value Cert.FilterSpec

/-- The times of the lags. -/
def tT : FVec Ideal S8192 .f32 := (concatenate S8192 0 [⟨S8191, (addf (mulf (broadcastInDim S8191 ![0] bcast_S1_S8191_0 (shapeCast _ (id (constant S_ .f32 0x00000000#32)) shapeCasts_S_S1)) (subf (broadcastInDim S8191 ![] bcast_S_S8191 (constant S_ .f32 0x3F800000#32)) (Host.divf (sitofp .f32 (iotaInDim S8191 32 0)) (broadcastInDim S8191 ![] bcast_S_S8191 (constant S_ .f32 0x45FFF800#32))))) (mulf (broadcastInDim S8191 ![0] bcast_S1_S8191_0 (shapeCast _ (id (constant S_ .f32 0x3F800000#32)) shapeCasts_S_S1)) (Host.divf (sitofp .f32 (iotaInDim S8191 32 0)) (broadcastInDim S8191 ![] bcast_S_S8191 (constant S_ .f32 0x45FFF800#32)))))⟩, ⟨S1, (broadcastInDim S1 ![] bcast_S_S1 (id (constant S_ .f32 0x3F800000#32)))⟩] concatenates_S8191_S1_S8192_d0)
/-- The frequencies of the features. -/
def fT : FVec Ideal S16 .f32 := (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)
/-- The decays of the channels, before their sizes are taken. -/
def dT : FVec Ideal S256 .f32 := (concatenate S256 0 [⟨S255, (addf (mulf (broadcastInDim S255 ![0] bcast_S1_S255_0 (shapeCast _ (id (constant S_ .f32 0xC1759BEC#32)) shapeCasts_S_S1)) (subf (broadcastInDim S255 ![] bcast_S_S255 (constant S_ .f32 0x3F800000#32)) (Host.divf (sitofp .f32 (iotaInDim S255 32 0)) (broadcastInDim S255 ![] bcast_S_S255 (constant S_ .f32 0x437F0000#32))))) (mulf (broadcastInDim S255 ![0] bcast_S1_S255_0 (shapeCast _ (id (constant S_ .f32 0xC0447CBD#32)) shapeCasts_S_S1)) (Host.divf (sitofp .f32 (iotaInDim S255 32 0)) (broadcastInDim S255 ![] bcast_S_S255 (constant S_ .f32 0x437F0000#32)))))⟩, ⟨S1, (broadcastInDim S1 ![] bcast_S_S1 (id (constant S_ .f32 0xC0447CBD#32)))⟩] concatenates_S255_S1_S256_d0)
/-- The features of the lags. -/
def featT : FVec Ideal S8192x33 .f32 := ((concatenate S8192x33 1 [⟨S8192x1, ((broadcastInDim S8192x1 ![0] bcast_S8192_S8192x1_0 tT) : (⟨S8192x1, .f32⟩ : BufTy).Contents (Elt Ideal))⟩, ⟨S8192x16, ((Host.cos (mulf (broadcastInDim S8192x16 ![0, 1] bcast_S1x16_S8192x16_0_1 (broadcastInDim S1x16 ![1] bcast_S16_S1x16_1 fT)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32)))))) : (⟨S8192x16, .f32⟩ : BufTy).Contents (Elt Ideal))⟩, ⟨S8192x16, ((Host.negf (Host.sin (mulf (broadcastInDim S8192x16 ![0, 1] bcast_S1x16_S8192x16_0_1 (broadcastInDim S1x16 ![1] bcast_S16_S1x16_1 fT)) (broadcastInDim S8192x16 ![0, 1] bcast_S8192x1_S8192x16_0_1 (Host.divf (mulf (broadcastInDim S8192x1 ![] bcast_S_S8192x1 (constant S_ .f32 0x40C90FDB#32)) (broadcastInDim S8192x1 ![0] bcast_S8192_S8192x1_0 (sitofp .f32 (iotaInDim S8192 32 0)))) (broadcastInDim S8192x1 ![] bcast_S_S8192x1 (constant S_ .f32 0x46000000#32))))))) : (⟨S8192x16, .f32⟩ : BufTy).Contents (Elt Ideal))⟩] concatenates_S8192x1_S8192x16_S8192x16_S8192x33_d1 : (⟨S8192x33, .f32⟩ : BufTy).Contents (Elt Ideal)))

variable (m : (ℓ : Loc nD τ sig) → Buf (Elt Ideal) ℓ) (c : Dev nD)

/-- Argument 0 as an array of its shape. -/
def w1T : FVec Ideal S33x64 .f32 := m ((c.tc : Thread nD τ).loc main_arg0)
/-- Argument 1 as an array of its shape. -/
def b1T : FVec Ideal S64 .f32 := m ((c.tc : Thread nD τ).loc main_arg1)
/-- Argument 2 as an array of its shape. -/
def fqT : FVec Ideal S64 .f32 := m ((c.tc : Thread nD τ).loc main_arg2)
/-- Argument 3 as an array of its shape. -/
def w2T : FVec Ideal S64x64 .f32 := m ((c.tc : Thread nD τ).loc main_arg3)
/-- Argument 4 as an array of its shape. -/
def b2T : FVec Ideal S64 .f32 := m ((c.tc : Thread nD τ).loc main_arg4)
/-- Argument 5 as an array of its shape. -/
def w3T : FVec Ideal S64x1024 .f32 := m ((c.tc : Thread nD τ).loc main_arg5)
/-- Argument 6 as an array of its shape. -/
def b3T : FVec Ideal S1024 .f32 := m ((c.tc : Thread nD τ).loc main_arg6)
/-- The first layer. -/
def h1T : FVec Ideal S8192x64 .f32 := (Host.sin (mulf (broadcastInDim S8192x64 ![0, 1] bcast_S1x64_S8192x64_0_1 (broadcastInDim S1x64 ![1] bcast_S64_S1x64_1 (fqT m c))) (addf (Host.dotGeneral dot_S8192x33_S33x64_S8192x64_1_0_0_1_n_n none featT (w1T m c)) (broadcastInDim S8192x64 ![0, 1] bcast_S1x64_S8192x64_0_1 (broadcastInDim S1x64 ![1] bcast_S64_S1x64_1 (b1T m c))))))
/-- The second layer. -/
def h2T : FVec Ideal S8192x64 .f32 := (Host.sin (mulf (broadcastInDim S8192x64 ![0, 1] bcast_S1x64_S8192x64_0_1 (broadcastInDim S1x64 ![1] bcast_S64_S1x64_1 (fqT m c))) (addf (Host.dotGeneral dot_S8192x64_S64x64_S8192x64_1_0_0_1_n_n none (h1T m c) (w2T m c)) (broadcastInDim S8192x64 ![0, 1] bcast_S1x64_S8192x64_0_1 (broadcastInDim S1x64 ![1] bcast_S64_S1x64_1 (b2T m c))))))
/-- The network's outputs. -/
def filtT : FVec Ideal S8192x1024 .f32 := (addf (Host.dotGeneral dot_S8192x64_S64x1024_S8192x1024_1_0_0_1_n_n none (h2T m c) (w3T m c)) (broadcastInDim S8192x1024 ![0, 1] bcast_S1x1024_S8192x1024_0_1 (broadcastInDim S1x1024 ![1] bcast_S1024_S1x1024_1 (b3T m c))))
/-- The taps. -/
def tapT : FVec Ideal S8192x2x2x256 .f32 := (mulf (shapeCast _ (filtT m c) shapeCasts_S8192x1024_S8192x2x2x256) (broadcastInDim S8192x2x2x256 ![0, 1, 2, 3] bcast_S8192x1x1x256_S8192x2x2x256_0_1_2_3 (Host.exp (mulf (broadcastInDim S8192x1x1x256 ![0, 1, 2, 3] bcast_S8192x1x1x1_S8192x1x1x256_0_1_2_3 (Host.negf (broadcastInDim S8192x1x1x1 ![0, 1] bcast_S8192x1_S8192x1x1x1_0_1 (broadcastInDim S8192x1 ![0] bcast_S8192_S8192x1_0 tT)))) (broadcastInDim S8192x1x1x256 ![0, 1, 2, 3] bcast_S1x1x1x256_S8192x1x1x256_0_1_2_3 (broadcastInDim S1x1x1x256 ![3] bcast_S256_S1x1x1x256_3 (Host.absf dT)))))))
/-- The forward taps. -/
def hfT : FVec Ideal S8192x2x256 .f32 := (shapeCast _ (extractStridedSlice S8192x2x1x256 ![0, 0, 0, 0] (tapT m c) slices_S8192x2x2x256_S8192x2x1x256_0_0_0_0) shapeCasts_S8192x2x1x256_S8192x2x256)
/-- The backward taps from lag one. -/
def hbT : FVec Ideal S8191x2x256 .f32 := (extractStridedSlice S8191x2x256 ![1, 0, 0] (shapeCast _ (extractStridedSlice S8192x2x1x256 ![0, 0, 1, 0] (tapT m c) slices_S8192x2x2x256_S8192x2x1x256_0_0_1_0) shapeCasts_S8192x2x1x256_S8192x2x256) slices_S8192x2x256_S8191x2x256_1_0_0)
/-- A row of zeros. -/
def zT : FVec Ideal S1x2x256 .f32 := (broadcastInDim S1x2x256 ![] bcast_S_S1x2x256 (constant S_ .f32 0x00000000#32 : FVec Ideal S_ .f32))
/-- The forward taps, a zero, and the backward taps from the last. -/
def gT : FVec Ideal S16384x2x256 .f32 := ((concatenate S16384x2x256 0 [⟨S8192x2x256, ((hfT m c) : (⟨S8192x2x256, .f32⟩ : BufTy).Contents (Elt Ideal))⟩, ⟨S1x2x256, (zT : (⟨S1x2x256, .f32⟩ : BufTy).Contents (Elt Ideal))⟩, ⟨S8191x2x256, ((Host.reverse [0] (hbT m c)) : (⟨S8191x2x256, .f32⟩ : BufTy).Contents (Elt Ideal))⟩] concatenates_S8192x2x256_S1x2x256_S8191x2x256_S16384x2x256_d0 : (⟨S16384x2x256, .f32⟩ : BufTy).Contents (Elt Ideal)))

theorem res_v60 : (res_main_v60 m c : FVec Ideal S8192x512 .f32) = shapeCast _ (hfT m c) shapeCasts_S8192x2x256_S8192x512 := rfl

theorem res_v63 : (res_main_v63 m c : FVec Ideal S8192x512 .f32) = shapeCast _ (concatenate S8192x2x256 0 [⟨S1x2x256, zT⟩, ⟨S8191x2x256, (hbT m c)⟩] concatenates_S1x2x256_S8191x2x256_S8192x2x256_d0) shapeCasts_S8192x2x256_S8192x512 := rfl

theorem res_v67 : (res_main_v67 m c : FVec Ideal S1x512 .f32) = shapeCast _ (broadcastInDim S1x2x256 ![1, 2] bcast_S2x256_S1x2x256_1_2 (Host.reduceAdd (Host.absf (gT m c)) (constant S_ .f32 0x00000000#32) reducesTo_S16384x2x256_S2x256_d0 h_S_)) shapeCasts_S1x2x256_S1x512 := rfl

/-- The weights. -/
def net : Net where
  w1 := fun k j => w1T m c (ix2 k j)
  b1 := fun j => b1T m c (ix1 j)
  fq := fun j => fqT m c (ix1 j)
  w2 := fun k j => w2T m c (ix2 k j)
  b2 := fun j => b2T m c (ix1 j)
  w3 := fun k j => w3T m c (ix2 k j)
  b3 := fun j => b3T m c (ix1 j)

/-- The features, by lag. -/
def featR (y : Fin 8192) (k : Fin 33) : EReal := featT (ix2 y k)
/-- The decays, by channel. -/
def dlR (j : Fin 256) : EReal := absE (dT (ix1 j))

theorem h1_apply (y : Fin 8192) (j : Fin 64) : h1T m c (ix2 y j) = unitF (featR y) (fun p => (net m c).w1 p j) ((net m c).b1 j) ((net m c).fq j) := by
  unfold h1T
  pointwise
  rfl

theorem h2_apply (y : Fin 8192) (j : Fin 64) : h2T m c (ix2 y j) = unitF (fun q => h1T m c (ix2 y q)) (fun p => (net m c).w2 p j) ((net m c).b2 j) ((net m c).fq j) := by
  unfold h2T
  pointwise
  rfl

theorem filt_apply (y : Fin 8192) (j : Fin 1024) : filtT m c (ix2 y j) = netF (net m c) (featR y) j := by
  unfold filtT
  pointwise
  unfold netF
  simp only [h2_apply, h1_apply]
  rfl

theorem feat_zero (y : Fin 8192) : featR y 0 = tT (ix1 y) := by
  unfold featR featT
  pointwise

theorem tap_apply (y : Fin 8192) (o b : Fin 2) (j : Fin 256) : tapT m c (ix4 y o b j) = tapF (net m c) (featR y) (dlR j) ⟨512 * o.val + 256 * b.val + j.val, by omega⟩ := by
  unfold tapT
  pointwise
  rw [← feat_zero]
  unfold tapF
  refine congrArg₂ (fun p q : EReal => p * q) ((filt_apply m c y _).trans (congrArg (netF (net m c) (featR y)) (Fin.ext ?_))) rfl
  show o.val * 512 + b.val * 256 + j.val = 512 * o.val + 256 * b.val + j.val
  omega

theorem hf_apply (y : Fin 8192) (o : Fin 2) (j : Fin 256) : hfT m c (ix3 y o j) = tapT m c (ix4 y o 0 j) := by
  unfold hfT
  pointwise

theorem hb_apply (y : Fin 8191) (o : Fin 2) (j : Fin 256) : hbT m c (ix3 y o j) = tapT m c (ix4 ⟨1 + y.val, by omega⟩ o 1 j) := by
  unfold hbT
  pointwise

theorem z_apply (o : Fin 2) (j : Fin 256) : zT (ix3 0 o j) = 0 := by
  unfold zT
  pointwise

theorem hf_fwd (y : Fin 8192) (d : Fin 512) (p : d.val / 256 < 2) (q : d.val % 256 < 256) : hfT m c (ix3 y ⟨d.val / 256, p⟩ ⟨d.val % 256, q⟩) = fwdF (net m c) featR dlR y d := by
  rw [hf_apply, tap_apply]
  unfold fwdF
  refine congrArg (tapF (net m c) (featR y) _) (Fin.ext ?_)
  show 512 * (d.val / 256) + 256 * 0 + d.val % 256 = 512 * (d.val / 256) + d.val % 256
  omega

theorem hb_bwd (y : Fin 8191) (z : Fin 8192) (h : z.val = y.val + 1) (d : Fin 512) (p : d.val / 256 < 2) (q : d.val % 256 < 256) : hbT m c (ix3 y ⟨d.val / 256, p⟩ ⟨d.val % 256, q⟩) = bwdF (net m c) featR dlR z d := by
  have ez : (⟨1 + y.val, by omega⟩ : Fin 8192) = z := Fin.ext (by show 1 + y.val = z.val; omega)
  rw [hb_apply, tap_apply, ez]
  unfold bwdF
  rw [if_pos (by omega)]
  refine congrArg (tapF (net m c) (featR z) _) (Fin.ext ?_)
  show 512 * (d.val / 256) + 256 * 1 + d.val % 256 = 512 * (d.val / 256) + 256 + d.val % 256
  omega

set_option maxRecDepth 200000 in
theorem g_apply (y : Fin 16384) (o : Fin 2) (j : Fin 256) : gT m c (ix3 y o j) = if h : y.val < 8192 then hfT m c (ix3 ⟨y.val, h⟩ o j) else if h' : y.val < 8193 then 0 else hbT m c (ix3 ⟨16383 - y.val, by omega⟩ o j) := by
  unfold gT
  pointwise
  by_cases h : y.val < 8192
  · rw [dif_pos h, dif_pos h]
  · rw [dif_neg h, dif_neg h]
    by_cases h' : y.val < 8193
    · rw [dif_pos h', dif_pos (show y.val - 8192 < 1 by omega)]
      exact (congrArg zT (by congr 1; exact Fin.ext (by show y.val - 8192 = 0; omega))).trans (z_apply _ _)
    · rw [dif_neg h', dif_neg (show ¬ y.val - 8192 < 1 by omega)]
      refine congrArg (hbT m c) ?_
      have e : (⟨y.val - 8192 - 1, by omega⟩ : Fin 8191).rev = ⟨16383 - y.val, by omega⟩ := Fin.ext (by
        rw [Fin.val_rev]
        show 8191 - (y.val - 8192 - 1 + 1) = 16383 - y.val
        omega)
      exact congrArg (fun p : Fin 8191 => ix3 p o j) e

theorem res60_apply (y : Fin 8192) (d : Fin 512) : (res_main_v60 m c : FVec Ideal S8192x512 .f32) (ix2 y d) = fwdF (net m c) featR dlR y d := by
  rw [res_v60]
  pointwise
  exact hf_fwd m c y d _ _

theorem res63_apply (y : Fin 8192) (d : Fin 512) : (res_main_v63 m c : FVec Ideal S8192x512 .f32) (ix2 y d) = bwdF (net m c) featR dlR y d := by
  rw [res_v63]
  pointwise
  by_cases h : y.val < 1
  · rw [dif_pos h]
    unfold bwdF
    rw [if_neg (by omega)]
    exact (congrArg zT (by congr 1; exact Fin.ext (by show y.val = 0; omega))).trans (z_apply _ _)
  · rw [dif_neg h]
    exact hb_bwd m c _ y (by show y.val = y.val - 1 + 1; omega) d _ _

theorem res67_apply (d : Fin 512) : (res_main_v67 m c : FVec Ideal S1x512 .f32) (ix2 0 d) = sumF (net m c) featR dlR d := by
  rw [res_v67]
  pointwise
  refine sum_split _ (fun y => absE (fwdF (net m c) featR dlR y d)) (fun y => absE (bwdF (net m c) featR dlR y d)) (fun y => congrArg absE ?_) (congrArg absE ?_) (fun y => congrArg absE ?_)
  · rw [g_apply, dif_pos y.isLt]
    exact hf_fwd m c y d _ _
  · rw [g_apply, dif_neg (by show ¬ 8192 < 8192; omega), dif_pos (by show 8192 < 8193; omega)]
    unfold bwdF
    rw [if_neg (by show ¬ 0 < 0; omega)]
  · rw [g_apply, dif_neg (by show ¬ 8193 + y.val < 8192; omega), dif_neg (by show ¬ 8193 + y.val < 8193; omega)]
    exact hb_bwd m c _ _ (by show 8191 - y.val = 16383 - (8193 + y.val) + 1; omega) d _ _

end Cert.Reference8Ideal.Hand

end
-- ==== Proof.FilterClaim.lean ====
/-
  The conjuncts of the claim about the long convolution's filters: the reference's run leaves its arguments as they were, and
  the two programs end with the same arrays.
-/
module

public import proofs.«01_k».proof.Defs
public import proofs.«01_k».proof.Proof.FilterRun
public import proofs.«01_k».proof.Proof.FilterRef
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.SL.Sem

theorem quiescent_filter_reference : Cert.quiescent_Reference8Ideal := fun m g _ =>
  (θ_run Cert.Reference8Ideal.defs _ _).mono (fun r h => ⟨fun c => (h c).2.2.2, sem_eq_zero_of_no_sems (by decide) r.2⟩) (Cert.Reference8Ideal.Value.run (F := Ideal) m g)

/-- Both programs make the same features of a lag. -/
theorem filter_feat : Cert.Kernel8Ideal.Hand.featH = Cert.Reference8Ideal.Hand.featR := rfl
/-- Both programs make the same decay of a channel. -/
theorem filter_decay : Cert.Kernel8Ideal.Hand.dlH = Cert.Reference8Ideal.Hand.dlR := rfl

/-- The results are the same three arrays: the taps of both directions and the sums of their sizes. -/
theorem algebraic_filter : Cert.algebraic_Kernel8Ideal_Reference8Ideal := by
  intro m g m' g' _ hagree
  refine ⟨_, _, _, Cert.Kernel8Ideal.Value.run_blocks (F := Ideal) m g, ?_⟩
  have hnet : ∀ c, Cert.Reference8Ideal.Hand.net m' c = Cert.Kernel8Ideal.Hand.netH m c := by
    intro c
    obtain ⟨h0, h1, h2, h3, h4, h5, h6⟩ := hagree c
    unfold Cert.Reference8Ideal.Hand.net Cert.Reference8Ideal.Hand.w1T Cert.Reference8Ideal.Hand.b1T Cert.Reference8Ideal.Hand.fqT Cert.Reference8Ideal.Hand.w2T Cert.Reference8Ideal.Hand.b2T Cert.Reference8Ideal.Hand.w3T Cert.Reference8Ideal.Hand.b3T Cert.Kernel8Ideal.Hand.netH Cert.Kernel8Ideal.Hand.w1H
    rw [h0, h1, h2, h3, h4, h5, h6]
  refine (θ_run Cert.Reference8Ideal.defs _ _).mono (fun r h c => ⟨(h c).1.trans ?_, (h c).2.1.trans ?_, (h c).2.2.1.trans ?_, (h c).2.2.2⟩) (Cert.Reference8Ideal.Value.run (F := Ideal) m' g')
  · funext i
    obtain ⟨y, d, rfl⟩ : ∃ (y : Fin 8192) (d : Fin 512), i = ix2 y d := ⟨i 0, i 1, by funext a; match a with | ⟨0, _⟩ => rfl | ⟨1, _⟩ => rfl⟩
    refine (Cert.Reference8Ideal.Hand.res60_apply m' c y d).trans (Eq.trans ?_ (Cert.Kernel8Ideal.Hand.result9_apply m c y d).symm)
    rw [hnet c, filter_feat, filter_decay]
  · funext i
    obtain ⟨y, d, rfl⟩ : ∃ (y : Fin 8192) (d : Fin 512), i = ix2 y d := ⟨i 0, i 1, by funext a; match a with | ⟨0, _⟩ => rfl | ⟨1, _⟩ => rfl⟩
    refine (Cert.Reference8Ideal.Hand.res63_apply m' c y d).trans (Eq.trans ?_ (Cert.Kernel8Ideal.Hand.result10_apply m c y d).symm)
    rw [hnet c, filter_feat, filter_decay]
  · funext i
    obtain ⟨d, rfl⟩ : ∃ d : Fin 512, i = ix2 (0 : Fin 1) d := ⟨i 1, by funext a; match a with | ⟨0, _⟩ => exact Fin.ext (Nat.lt_one_iff.mp (i 0).isLt) | ⟨1, _⟩ => rfl⟩
    refine (Cert.Reference8Ideal.Hand.res67_apply m' c d).trans (Eq.trans ?_ (Cert.Kernel8Ideal.Hand.result11_apply m c d).symm)
    rw [hnet c, filter_feat, filter_decay]

end Cert.Proof

end
-- ==== Proof.GlbModel.lean ====
/-
  What one point of the backward GLA kernel computes, in the kernel's own operations: the same pieces as forward, with the
  running sums taken from a chunk's last row down, the chunks of a block last first, and after the scan the norm by head,
  the gain and the gate.
-/
module

public import proofs.«01_k».proof.Proof.GlaModel
public import proofs.«01_k».proof.Proof.Gen.Kernel9Ideal.Value

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen
open Cert.KernelIdeal.Hand (sg1 sg2 sg3 m128 m256 zG gG rowsG qs over64 midR headK headV headS rows128 rows256 stateOf bN getS putS)

variable {F : FTy → Type} [FloatOps F]

/-- The running sums from below of the eight items' three parts. -/
def cumG (g : FVec F S512x128 .f32) : FVec F S64x3072 .f32 :=
  matmul dot_S64x64_S64x3072_S64x3072_1_0_0_1_n_n none k0_pay19
    (concatenate S64x3072 1 [⟨S64x128, sg1 (rowsG 0 slices_S512x128_o0_0_S64x128 g)⟩, ⟨S64x128, sg2 (rowsG 0 slices_S512x128_o0_0_S64x128 g)⟩, ⟨S64x128, sg3 (rowsG 0 slices_S512x128_o0_0_S64x128 g)⟩, ⟨S64x128, sg1 (rowsG 64 slices_S512x128_o64_0_S64x128 g)⟩, ⟨S64x128, sg2 (rowsG 64 slices_S512x128_o64_0_S64x128 g)⟩, ⟨S64x128, sg3 (rowsG 64 slices_S512x128_o64_0_S64x128 g)⟩, ⟨S64x128, sg1 (rowsG 128 slices_S512x128_o128_0_S64x128 g)⟩, ⟨S64x128, sg2 (rowsG 128 slices_S512x128_o128_0_S64x128 g)⟩, ⟨S64x128, sg3 (rowsG 128 slices_S512x128_o128_0_S64x128 g)⟩, ⟨S64x128, sg1 (rowsG 192 slices_S512x128_o192_0_S64x128 g)⟩, ⟨S64x128, sg2 (rowsG 192 slices_S512x128_o192_0_S64x128 g)⟩, ⟨S64x128, sg3 (rowsG 192 slices_S512x128_o192_0_S64x128 g)⟩, ⟨S64x128, sg1 (rowsG 256 slices_S512x128_o256_0_S64x128 g)⟩, ⟨S64x128, sg2 (rowsG 256 slices_S512x128_o256_0_S64x128 g)⟩, ⟨S64x128, sg3 (rowsG 256 slices_S512x128_o256_0_S64x128 g)⟩, ⟨S64x128, sg1 (rowsG 320 slices_S512x128_o320_0_S64x128 g)⟩, ⟨S64x128, sg2 (rowsG 320 slices_S512x128_o320_0_S64x128 g)⟩, ⟨S64x128, sg3 (rowsG 320 slices_S512x128_o320_0_S64x128 g)⟩, ⟨S64x128, sg1 (rowsG 384 slices_S512x128_o384_0_S64x128 g)⟩, ⟨S64x128, sg2 (rowsG 384 slices_S512x128_o384_0_S64x128 g)⟩, ⟨S64x128, sg3 (rowsG 384 slices_S512x128_o384_0_S64x128 g)⟩, ⟨S64x128, sg1 (rowsG 448 slices_S512x128_o448_0_S64x128 g)⟩, ⟨S64x128, sg2 (rowsG 448 slices_S512x128_o448_0_S64x128 g)⟩, ⟨S64x128, sg3 (rowsG 448 slices_S512x128_o448_0_S64x128 g)⟩] concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x3072_d1)
    (constant S64x3072 .f32 0x00000000#32)

/-- The running sum's first row, which holds the chunk's whole sum. -/
abbrev topR (b : FVec F S64x128 .f32) : FVec F S1x128 .f32 := extractStridedSlice S1x128 ![0, 0] b slices_S64x128_o0_0_S1x128

/-- The scores against the later rows of a chunk, the heads side by side. -/
def scoresI (q k b : FVec F S64x128 .f32) : FVec F S64x256 .bf16 :=
  truncf .bf16 (select k0_pay18
    (matmul dot_S64x128_S256x128_S64x256_1_1_0_0_n_n none
      (truncf .bf16 (mulf (qs q) (exp (subf b (over64 (midR b))))) bitsLt_bf16_f32)
      (truncf .bf16 (select headK
        (concatenate S256x128 0 [⟨S64x128, mulf k (exp (subf (over64 (midR b)) b))⟩, ⟨S64x128, mulf k (exp (subf (over64 (midR b)) b))⟩, ⟨S64x128, mulf k (exp (subf (over64 (midR b)) b))⟩, ⟨S64x128, mulf k (exp (subf (over64 (midR b)) b))⟩] concatenates_S64x128_S64x128_S64x128_S64x128_S256x128_d0)
        (broadcast S256x128 (Scalar.ofBits .f32 0x00000000#32))) bitsLt_bf16_f32)
      (constant S64x256 .f32 0x00000000#32))
    (broadcast S64x256 (Scalar.ofBits .f32 0x00000000#32))) bitsLt_bf16_f32

/-- What an item reads from its own chunk. -/
def intraI (q k : FVec F S64x128 .f32) (v : FVec F S64x256 .f32) (b : FVec F S64x128 .f32) : FVec F S64x256 .f32 :=
  matmul dot_S64x256_S256x256_S64x256_1_0_0_1_n_n none (scoresI q k b)
    (truncf .bf16 (select headV
      (concatenate S256x256 0 [⟨S64x256, v⟩, ⟨S64x256, v⟩, ⟨S64x256, v⟩, ⟨S64x256, v⟩] concatenates_S64x256_S64x256_S64x256_S64x256_S256x256_d0)
      (broadcast S256x256 (Scalar.ofBits .f32 0x00000000#32))) bitsLt_bf16_f32)
    (constant S64x256 .f32 0x00000000#32)

/-- What an item gives: its own chunk's part and the state's part. -/
def outI (q k : FVec F S64x128 .f32) (v : FVec F S64x256 .f32) (b : FVec F S64x128 .f32) (S : FVec F S256x128 .f32) : FVec F S64x256 .f32 :=
  addf (intraI q k v b)
    (matmul dot_S64x128_S256x128_S64x256_1_1_0_0_n_n none (truncf .bf16 (mulf (qs q) (exp b)) bitsLt_bf16_f32)
      (truncf .bf16 S bitsLt_bf16_f32) (constant S64x256 .f32 0x00000000#32))

/-- The state after an item. -/
def stI (k : FVec F S64x128 .f32) (v : FVec F S64x256 .f32) (b : FVec F S64x128 .f32) (S : FVec F S256x128 .f32) : FVec F S256x128 .f32 :=
  addf (mulf S (broadcastTo S256x128 (exp (topR b)) broadcasts_S1x128_S256x128))
    (select headS
      (matmul dot_S64x256_S64x128_S256x128_0_0_1_1_n_n none (truncf .bf16 v bitsLt_bf16_f32)
        (truncf .bf16 (mulf k (exp (subf (over64 (topR b)) b))) bitsLt_bf16_f32) (constant S256x128 .f32 0x00000000#32))
      (broadcast S256x128 (Scalar.ofBits .f32 0x00000000#32)))

/-- Eight items on top of each other. -/
def cat8 (p : Fin 8 → FVec F S64x256 .f32) : FVec F S512x256 .f32 :=
  concatenate S512x256 0 [⟨S64x256, p 0⟩, ⟨S64x256, p 1⟩, ⟨S64x256, p 2⟩, ⟨S64x256, p 3⟩, ⟨S64x256, p 4⟩, ⟨S64x256, p 5⟩, ⟨S64x256, p 6⟩, ⟨S64x256, p 7⟩] concatenates_S64x256_S64x256_S64x256_S64x256_S64x256_S64x256_S64x256_S64x256_S512x256_d0

/-- The mean of the squares over each head, from the squares and the matrix of the means, the squares in two parts. -/
def msG (s : FVec F S512x256 .f32) (av : Vec F S256x256 .bf16) : FVec F S512x256 .f32 :=
  addf (matmul dot_S512x256_S256x256_S512x256_1_0_0_1_n_n none (truncf .bf16 s bitsLt_bf16_f32) av (constant S512x256 .f32 0x00000000#32))
    (matmul dot_S512x256_S256x256_S512x256_1_0_0_1_n_n none (truncf .bf16 (subf s (extf .f32 (truncf .bf16 s bitsLt_bf16_f32) bitsLt_bf16_f32)) bitsLt_bf16_f32) av (constant S512x256 .f32 0x00000000#32))

/-- The norm by head, the gain and the gate over a group of items. -/
def finG (o gt : FVec F S512x256 .f32) (gn : Vec F S1x256 .f32) (av : Vec F S256x256 .bf16) : FVec F S512x256 .f32 :=
  mulf (mulf (mulf o (rsqrt (addf (msG (mulf o o) av) (broadcast S512x256 (Scalar.ofBits .f32 0x358637BD#32)))))
      (broadcastTo S512x256 (shapeCast S1x256 gn shapeCasts_S1x256_S1x256) broadcasts_S1x256_S512x256))
    (mulf gt (logistic gt))

/-- One item's rows of a group, as they are stored. -/
abbrev putG (n : Nat) (h : S512x256.Slices ![n, 0] S64x256) (x : FVec F S512x256 .f32) : FVec F S1x64x256 .bf16 :=
  shapeCast S1x64x256 (truncf .bf16 (extractStridedSlice S64x256 ![n, 0] x h) bitsLt_bf16_f32) shapeCasts_S64x256_S1x64x256

variable (F) in
/-- The blocks a point reads. -/
structure Ins where
  q : Vec F S2x512x128 .f32
  k : Vec F S2x512x128 .f32
  v : Vec F S2x512x256 .f32
  lr : Vec F S2x512x128 .f32
  wd : Vec F S128x128 .f32
  bd : Vec F S1x128 .f32
  fw : Vec F S2x512x256 .f32
  gt : Vec F S2x512x256 .f32
  gn : Vec F S1x256 .f32
  av : Vec F S256x256 .bf16

variable (X : Ins F)

/-- The decay projection of the last four chunks' eight items … -/
def zA : FVec F S512x128 .f32 :=
  zG (rows128 X.lr 0 7) (rows128 X.lr 1 7) (rows128 X.lr 0 6) (rows128 X.lr 1 6) (rows128 X.lr 0 5) (rows128 X.lr 1 5) (rows128 X.lr 0 4) (rows128 X.lr 1 4) X.wd X.bd
/-- … and of the first four chunks' eight. -/
def zB : FVec F S512x128 .f32 :=
  zG (rows128 X.lr 0 3) (rows128 X.lr 1 3) (rows128 X.lr 0 2) (rows128 X.lr 1 2) (rows128 X.lr 0 1) (rows128 X.lr 1 1) (rows128 X.lr 0 0) (rows128 X.lr 1 0) X.wd X.bd

/-- The running sum from below of batch b's r-th chunk from the last. -/
def bT (b : Fin 2) (r : Fin 8) : FVec F S64x128 .f32 :=
  match r with
  | 0 => bN (2 * 0 + b.castLE (by omega)) (cumG (gG (zA X)))
  | 1 => bN (2 * 1 + b.castLE (by omega)) (cumG (gG (zA X)))
  | 2 => bN (2 * 2 + b.castLE (by omega)) (cumG (gG (zA X)))
  | 3 => bN (2 * 3 + b.castLE (by omega)) (cumG (gG (zA X)))
  | 4 => bN (2 * 0 + b.castLE (by omega)) (cumG (gG (zB X)))
  | 5 => bN (2 * 1 + b.castLE (by omega)) (cumG (gG (zB X)))
  | 6 => bN (2 * 2 + b.castLE (by omega)) (cumG (gG (zB X)))
  | 7 => bN (2 * 3 + b.castLE (by omega)) (cumG (gG (zB X)))

/-- The state of batch b after its r-th chunk from the last, from the state before it. -/
def stepT (b : Fin 2) (r : Fin 8) (S : FVec F S256x128 .f32) : FVec F S256x128 .f32 :=
  stI (m128 (rows128 X.k b r.rev)) (m256 (rows256 X.v b r.rev)) (bT X b r) S
/-- What the scan gives there. -/
def outT (b : Fin 2) (r : Fin 8) (S : FVec F S256x128 .f32) : FVec F S64x256 .f32 :=
  outI (m128 (rows128 X.q b r.rev)) (m128 (rows128 X.k b r.rev)) (m256 (rows256 X.v b r.rev)) (bT X b r) S

/-- Batch b's state after the point's last r chunks. -/
def stT (b : Fin 2) (S0 : FVec F S256x128 .f32) : ℕ → FVec F S256x128 .f32
  | 0 => S0
  | r + 1 => if h : r < 8 then stepT X b ⟨r, h⟩ (stT b S0 r) else stT b S0 r

/-- The scan's result with the forward one added. -/
def oT (S : Fin 2 → FVec F S256x128 .f32) (b : Fin 2) (r : Fin 8) : FVec F S64x256 .f32 :=
  addf (outT X b r (stT X b (S b) r.val)) (m256 (rows256 X.fw b r.rev))

/-- The two groups' items, a chunk's two batches side by side. -/
def oA (S : Fin 2 → FVec F S256x128 .f32) : Fin 8 → FVec F S64x256 .f32 :=
  ![oT X S 0 0, oT X S 1 0, oT X S 0 1, oT X S 1 1, oT X S 0 2, oT X S 1 2, oT X S 0 3, oT X S 1 3]
def oB (S : Fin 2 → FVec F S256x128 .f32) : Fin 8 → FVec F S64x256 .f32 :=
  ![oT X S 0 4, oT X S 1 4, oT X S 0 5, oT X S 1 5, oT X S 0 6, oT X S 1 6, oT X S 0 7, oT X S 1 7]
def gtA : Fin 8 → FVec F S64x256 .f32 :=
  ![m256 (rows256 X.gt 0 7), m256 (rows256 X.gt 1 7), m256 (rows256 X.gt 0 6), m256 (rows256 X.gt 1 6), m256 (rows256 X.gt 0 5), m256 (rows256 X.gt 1 5), m256 (rows256 X.gt 0 4), m256 (rows256 X.gt 1 4)]
def gtB : Fin 8 → FVec F S64x256 .f32 :=
  ![m256 (rows256 X.gt 0 3), m256 (rows256 X.gt 1 3), m256 (rows256 X.gt 0 2), m256 (rows256 X.gt 1 2), m256 (rows256 X.gt 0 1), m256 (rows256 X.gt 1 1), m256 (rows256 X.gt 0 0), m256 (rows256 X.gt 1 0)]
def finA (S : Fin 2 → FVec F S256x128 .f32) : FVec F S512x256 .f32 := finG (cat8 (oA X S)) (cat8 (gtA X)) X.gn X.av
def finB (S : Fin 2 → FVec F S256x128 .f32) : FVec F S512x256 .f32 := finG (cat8 (oB X S)) (cat8 (gtB X)) X.gn X.av

end Cert.Kernel9Ideal.Hand

end
-- ==== Proof.GlbPieces.lean ====
/-
  What the backward kernel's body leaves at one point: sixteen stores of 64 rows each, item by item, and the two states.
-/
module

public import proofs.«01_k».proof.Proof.GlbModel

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen
open Cert.KernelIdeal.Hand (sg1 sg2 sg3 m128 m256 zG gG rowsG qs over64 midR headK headV headS rows128 rows256 stateOf bN getS putS)

variable {F : FTy → Type} [FloatOps F]

/-- The sixteen stores of a point, last first, from the two states at its start. -/
def outPieces (X : Ins F) (S : Fin 2 → FVec F S256x128 .f32) : List (View.Piece (Elt F) S2x512x256 .bf16) :=
  [⟨Rect.unit (s := S2x512x256) ![1, 0, 0] ![1, 64, 256] inb_S2x512x256_S1x64x256_1_0_0, putG 448 slices_S512x256_o448_0_S64x256 (finB X S)⟩,
   ⟨Rect.unit (s := S2x512x256) ![0, 0, 0] ![1, 64, 256] inb_S2x512x256_S1x64x256_0_0_0, putG 384 slices_S512x256_o384_0_S64x256 (finB X S)⟩,
   ⟨Rect.unit (s := S2x512x256) ![1, 64, 0] ![1, 64, 256] inb_S2x512x256_S1x64x256_1_64_0, putG 320 slices_S512x256_o320_0_S64x256 (finB X S)⟩,
   ⟨Rect.unit (s := S2x512x256) ![0, 64, 0] ![1, 64, 256] inb_S2x512x256_S1x64x256_0_64_0, putG 256 slices_S512x256_o256_0_S64x256 (finB X S)⟩,
   ⟨Rect.unit (s := S2x512x256) ![1, 128, 0] ![1, 64, 256] inb_S2x512x256_S1x64x256_1_128_0, putG 192 slices_S512x256_o192_0_S64x256 (finB X S)⟩,
   ⟨Rect.unit (s := S2x512x256) ![0, 128, 0] ![1, 64, 256] inb_S2x512x256_S1x64x256_0_128_0, putG 128 slices_S512x256_o128_0_S64x256 (finB X S)⟩,
   ⟨Rect.unit (s := S2x512x256) ![1, 192, 0] ![1, 64, 256] inb_S2x512x256_S1x64x256_1_192_0, putG 64 slices_S512x256_o64_0_S64x256 (finB X S)⟩,
   ⟨Rect.unit (s := S2x512x256) ![0, 192, 0] ![1, 64, 256] inb_S2x512x256_S1x64x256_0_192_0, putG 0 slices_S512x256_o0_0_S64x256 (finB X S)⟩,
   ⟨Rect.unit (s := S2x512x256) ![1, 256, 0] ![1, 64, 256] inb_S2x512x256_S1x64x256_1_256_0, putG 448 slices_S512x256_o448_0_S64x256 (finA X S)⟩,
   ⟨Rect.unit (s := S2x512x256) ![0, 256, 0] ![1, 64, 256] inb_S2x512x256_S1x64x256_0_256_0, putG 384 slices_S512x256_o384_0_S64x256 (finA X S)⟩,
   ⟨Rect.unit (s := S2x512x256) ![1, 320, 0] ![1, 64, 256] inb_S2x512x256_S1x64x256_1_320_0, putG 320 slices_S512x256_o320_0_S64x256 (finA X S)⟩,
   ⟨Rect.unit (s := S2x512x256) ![0, 320, 0] ![1, 64, 256] inb_S2x512x256_S1x64x256_0_320_0, putG 256 slices_S512x256_o256_0_S64x256 (finA X S)⟩,
   ⟨Rect.unit (s := S2x512x256) ![1, 384, 0] ![1, 64, 256] inb_S2x512x256_S1x64x256_1_384_0, putG 192 slices_S512x256_o192_0_S64x256 (finA X S)⟩,
   ⟨Rect.unit (s := S2x512x256) ![0, 384, 0] ![1, 64, 256] inb_S2x512x256_S1x64x256_0_384_0, putG 128 slices_S512x256_o128_0_S64x256 (finA X S)⟩,
   ⟨Rect.unit (s := S2x512x256) ![1, 448, 0] ![1, 64, 256] inb_S2x512x256_S1x64x256_1_448_0, putG 64 slices_S512x256_o64_0_S64x256 (finA X S)⟩,
   ⟨Rect.unit (s := S2x512x256) ![0, 448, 0] ![1, 64, 256] inb_S2x512x256_S1x64x256_0_448_0, putG 0 slices_S512x256_o0_0_S64x256 (finA X S)⟩]

/-- The store that clears the state. -/
abbrev clearPieces : List (View.Piece (Elt F) S2x256x128 .f32) :=
  [⟨Rect.unit (s := S2x256x128) ![0, 0, 0] S2x256x128.size inb_S2x256x128_S2x256x128_0_0_0, k0_pay4⟩]

/-- The two states stored at the end of a point, last first. -/
def stPieces (X : Ins F) (S : Fin 2 → FVec F S256x128 .f32) : List (View.Piece (Elt F) S2x256x128 .f32) :=
  [⟨Rect.unit (s := S2x256x128) ![1, 0, 0] ![1, 256, 128] inb_S2x256x128_S1x256x128_1_0_0, putS (stT X 1 (S 1) 8)⟩,
   ⟨Rect.unit (s := S2x256x128) ![0, 0, 0] ![1, 256, 128] inb_S2x256x128_S1x256x128_0_0_0, putS (stT X 0 (S 0) 8)⟩]

/-- The state buffer after it was cleared whole. -/
theorem fresh_state (arg13 : Memref sig .tc .vmem S2x256x128 .f32) :
    arg13.view.read (Elt F) (arg13.view.writes (Elt F) arg13.view.junk (clearPieces (F := F))) = k0_pay4 := by
  funext y
  rw [View.read_writes_junk_apply_eq_canon, View.canon_cons_unit_zero (by decide)]

section
variable (c : Dev nD) (i : grid0.Coords) (arg2 : Memref sig .tc .vmem S2x512x128 .f32) (harg2 : arg2.IsWhole) (arg3 : Memref sig .tc .vmem S2x512x128 .f32) (harg3 : arg3.IsWhole) (arg4 : Memref sig .tc .vmem S2x512x256 .f32) (harg4 : arg4.IsWhole) (arg5 : Memref sig .tc .vmem S2x512x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2x512x256 .f32) (harg8 : arg8.IsWhole) (arg9 : Memref sig .tc .vmem S2x512x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S2x512x256 .bf16) (harg12 : arg12.IsWhole) (arg13 : Memref sig .tc .vmem S2x256x128 .f32) (harg13 : arg13.IsWhole)
  (x0 : Vec F S2x512x128 .f32) (x1 : Vec F S2x512x128 .f32) (x2 : Vec F S2x512x256 .f32) (x3 : Vec F S2x512x128 .f32) (x4 : Vec F S128x128 .f32) (x5 : Vec F S1x128 .f32) (x6 : Vec F S2x512x256 .f32) (x7 : Vec F S2x512x256 .f32) (x8 : Vec F S1x256 .f32) (x9 : Vec F S256x256 .bf16)

/-- The blocks as the body loads them. -/
abbrev raw : Ins F := ⟨arg2.view.read (Elt F) (harg2.unread x0), arg3.view.read (Elt F) (harg3.unread x1), arg4.view.read (Elt F) (harg4.unread x2), arg5.view.read (Elt F) (harg5.unread x3), View.readAt (Elt F) arg6.view (Rect.unit (s := S128x128) ![0, 0] S128x128.size inb_S128x128_S128x128_0_0).toLoadRect (harg6.unread x4), View.readAt (Elt F) arg7.view (Rect.unit (s := S1x128) ![0, 0] S1x128.size inb_S1x128_S1x128_0_0).toLoadRect (harg7.unread x5), arg8.view.read (Elt F) (harg8.unread x6), arg9.view.read (Elt F) (harg9.unread x7), View.readAt (Elt F) arg10.view (Rect.unit (s := S1x256) ![0, 0] S1x256.size inb_S1x256_S1x256_0_0).toLoadRect (harg10.unread x8), View.readAt (Elt F) arg11.view (Rect.unit (s := S256x256) ![0, 0] S256x256.size inb_S256x256_S256x256_0_0).toLoadRect (harg11.unread x9)⟩

theorem raw_eq : raw arg2 harg2 arg3 harg3 arg4 harg4 arg5 harg5 arg6 harg6 arg7 harg7 arg8 harg8 arg9 harg9 arg10 harg10 arg11 harg11 x0 x1 x2 x3 x4 x5 x6 x7 x8 x9 = ⟨x0, x1, x2, x3, x4, x5, x6, x7, x8, x9⟩ := by
  rw [Ins.mk.injEq]
  exact ⟨(harg2.read_unread x0), (harg3.read_unread x1), (harg4.read_unread x2), (harg5.read_unread x3), ((congrArg (fun z => View.ld (Val := Elt F) (e' := .f32) z (Rect.unit (s := S128x128) ![0, 0] S128x128.size inb_S128x128_S128x128_0_0)) (harg6.read_unread x4)).trans (View.ld_unit_zero (by decide) _ _)), ((congrArg (fun z => View.ld (Val := Elt F) (e' := .f32) z (Rect.unit (s := S1x128) ![0, 0] S1x128.size inb_S1x128_S1x128_0_0)) (harg7.read_unread x5)).trans (View.ld_unit_zero (by decide) _ _)), (harg8.read_unread x6), (harg9.read_unread x7), ((congrArg (fun z => View.ld (Val := Elt F) (e' := .f32) z (Rect.unit (s := S1x256) ![0, 0] S1x256.size inb_S1x256_S1x256_0_0)) (harg10.read_unread x8)).trans (View.ld_unit_zero (by decide) _ _)), ((congrArg (fun z => View.ld (Val := Elt F) (e' := .bf16) z (Rect.unit (s := S256x256) ![0, 0] S256x256.size inb_S256x256_S256x256_0_0)) (harg11.read_unread x9)).trans (View.ld_unit_zero (by decide) _ _))⟩

theorem rawPiecesA (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 = outPieces (raw arg2 harg2 arg3 harg3 arg4 harg4 arg5 harg5 arg6 harg6 arg7 harg7 arg8 harg8 arg9 harg9 arg10 harg10 arg11 harg11 x0 x1 x2 x3 x4 x5 x6 x7 x8 x9) (fun b => getS (stateOf (arg13.view.read (Elt F) (arg13.view.writes (Elt F) arg13.view.junk (clearPieces (F := F)))) b)) := by sl_kernel_rfl

theorem rawStoresA (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 = stPieces (raw arg2 harg2 arg3 harg3 arg4 harg4 arg5 harg5 arg6 harg6 arg7 harg7 arg8 harg8 arg9 harg9 arg10 harg10 arg11 harg11 x0 x1 x2 x3 x4 x5 x6 x7 x8 x9) (fun b => getS (stateOf (arg13.view.read (Elt F) (arg13.view.writes (Elt F) arg13.view.junk (clearPieces (F := F)))) b)) ++ clearPieces (F := F) := by sl_kernel_rfl

/-- The stores into the output block in case A. -/
theorem piecesA (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 = outPieces ⟨x0, x1, x2, x3, x4, x5, x6, x7, x8, x9⟩ (fun b => getS (stateOf k0_pay4 b)) := by
  rw [rawPiecesA, raw_eq, fresh_state arg13]

/-- The stores into the state buffer that remain in case A. -/
theorem storesA (hc0 : cond0_0 i) : (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 = stPieces ⟨x0, x1, x2, x3, x4, x5, x6, x7, x8, x9⟩ (fun b => getS (stateOf k0_pay4 b)) ++ clearPieces (F := F) := by
  rw [rawStoresA, raw_eq, fresh_state arg13]

theorem rawPiecesB (hc0 : ¬cond0_0 i) (xs0 : Vec F S2x256x128 .f32) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1 = outPieces (raw arg2 harg2 arg3 harg3 arg4 harg4 arg5 harg5 arg6 harg6 arg7 harg7 arg8 harg8 arg9 harg9 arg10 harg10 arg11 harg11 x0 x1 x2 x3 x4 x5 x6 x7 x8 x9) (fun b => getS (stateOf (arg13.view.read (Elt F) (harg13.unread xs0)) b)) := by sl_kernel_rfl

theorem rawStoresB (hc0 : ¬cond0_0 i) (xs0 : Vec F S2x256x128 .f32) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1 = stPieces (raw arg2 harg2 arg3 harg3 arg4 harg4 arg5 harg5 arg6 harg6 arg7 harg7 arg8 harg8 arg9 harg9 arg10 harg10 arg11 harg11 x0 x1 x2 x3 x4 x5 x6 x7 x8 x9) (fun b => getS (stateOf (arg13.view.read (Elt F) (harg13.unread xs0)) b)) := by sl_kernel_rfl

/-- The stores into the output block in case B. -/
theorem piecesB (hc0 : ¬cond0_0 i) (xs0 : Vec F S2x256x128 .f32) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1 = outPieces ⟨x0, x1, x2, x3, x4, x5, x6, x7, x8, x9⟩ (fun b => getS (stateOf xs0 b)) := by
  rw [rawPiecesB, raw_eq, harg13.read_unread xs0]

/-- The stores into the state buffer that remain in case B. -/
theorem storesB (hc0 : ¬cond0_0 i) (xs0 : Vec F S2x256x128 .f32) : (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1 = stPieces ⟨x0, x1, x2, x3, x4, x5, x6, x7, x8, x9⟩ (fun b => getS (stateOf xs0 b)) := by
  rw [rawStoresB, raw_eq, harg13.read_unread xs0]
end

end Cert.Kernel9Ideal.Hand

end
-- ==== Proof.GlbSpec.lean ====
/-
  Gated linear attention read from the last row to the first, in two spellings: over the rows turned round, which is what
  the reference does, and over the rows as they lie, with the decay summed from below, which is what the kernel does.  The
  two agree where the log decays are real, and what they give is real where the inputs are.  Also the norm by head.
-/
module

public import proofs.«01_k».proof.Proof.GlaSpec

@[expose] public section

noncomputable section

namespace Cert.GlbSpec

open Idealize.ShloMosaic Cert.GlaSpec

/-! ## Real numbers among the extended ones -/

def Rl (x : EReal) : Prop := ∃ r : ℝ, x = (r : EReal)

theorem Rl.zero : Rl 0 := ⟨0, rfl⟩
theorem Rl.add {x y : EReal} : Rl x → Rl y → Rl (x + y) | ⟨a, ha⟩, ⟨b, hb⟩ => ⟨a + b, by rw [ha, hb, EReal.coe_add]⟩
theorem Rl.sub {x y : EReal} : Rl x → Rl y → Rl (x - y) | ⟨a, ha⟩, ⟨b, hb⟩ => ⟨a - b, by rw [ha, hb, EReal.coe_sub]⟩
theorem Rl.mul {x y : EReal} : Rl x → Rl y → Rl (x * y) | ⟨a, ha⟩, ⟨b, hb⟩ => ⟨a * b, by rw [ha, hb, EReal.coe_mul]⟩
theorem Rl.exp {x : EReal} : Rl x → Rl (Ideal.exp x) | ⟨a, ha⟩ => ⟨Real.exp a, by rw [ha, Ideal.exp_coe]⟩
theorem Rl.ite {x y : EReal} (p : Prop) [Decidable p] (hx : Rl x) (hy : Rl y) : Rl (if p then x else y) := by
  by_cases h : p
  · rwa [if_pos h]
  · rwa [if_neg h]
theorem Rl.sum {ι : Type} [Fintype ι] {f : ι → EReal} (h : ∀ i, Rl (f i)) : Rl (∑ i, f i) := by
  choose r hr using h
  refine ⟨∑ i, r i, ?_⟩
  rw [show f = fun i => (r i : EReal) from funext hr]
  exact (map_sum (⟨⟨Real.toEReal, EReal.coe_zero⟩, EReal.coe_add⟩ : ℝ →+ EReal) r Finset.univ).symm
theorem Rl.sub_self {x : EReal} : Rl x → x - x = 0 | ⟨a, ha⟩ => by rw [ha, ← EReal.coe_sub, _root_.sub_self, EReal.coe_zero]
theorem Rl.sum_mul {ι : Type} [Fintype ι] {f : ι → EReal} {c : EReal} (h : ∀ i, Rl (f i)) (hc : Rl c) : (∑ i, f i * c) = (∑ i, f i) * c := by
  choose r hr using h
  obtain ⟨d, rfl⟩ := hc
  have e : ∀ g : ι → ℝ, (∑ i, (g i : EReal)) = ((∑ i, g i : ℝ) : EReal) := fun g =>
    (map_sum (⟨⟨Real.toEReal, EReal.coe_zero⟩, EReal.coe_add⟩ : ℝ →+ EReal) g Finset.univ).symm
  rw [show f = fun i => (r i : EReal) from funext hr, e]
  simp only [← EReal.coe_mul]
  rw [e, Finset.sum_mul]

/-- A product of two decays over a middle row is the decay between the ends. -/
theorem decay_mid {a b m x y : EReal} (ha : Rl a) (hb : Rl b) (hm : Rl m) :
    x * Ideal.exp (a - m) * (y * Ideal.exp (m - b)) = x * y * Ideal.exp (a - b) := by
  obtain ⟨a, rfl⟩ := ha
  obtain ⟨b, rfl⟩ := hb
  obtain ⟨m, rfl⟩ := hm
  rw [mul_mul_mul_comm, ← EReal.coe_sub, ← EReal.coe_sub, ← EReal.coe_sub, Ideal.exp_coe, Ideal.exp_coe, Ideal.exp_coe, ← EReal.coe_mul, ← Real.exp_add]
  congr 3
  ring

section
variable (s : EReal) (q k g : Fin 2 → ℕ → Fin 128 → EReal) (v : Fin 2 → ℕ → Fin 256 → EReal)

/-- Row i of the n-th chunk from the last. -/
def rw' (n : ℕ) (i : Fin 64) : ℕ := 64 * (127 - n) + i.val

/-- The log decay of the n-th chunk from the last, summed from its last row down to row i. -/
def bcR (b : Fin 2) (n : ℕ) (i : Fin 64) (c : Fin 128) : EReal := ∑ j : Fin 64, if i ≤ j then g b (rw' n j) c else 0

def scR (b : Fin 2) (n : ℕ) (h : Fin 4) (i j : Fin 64) : EReal :=
  ∑ κ : Fin 32, (q b (rw' n i) (hk h κ) * s * Ideal.exp (bcR g b n i (hk h κ) - bcR g b n 32 (hk h κ)))
    * (k b (rw' n j) (hk h κ) * Ideal.exp (bcR g b n 32 (hk h κ) - bcR g b n j (hk h κ)))

def stR (b : Fin 2) (h : Fin 4) (κ : Fin 32) (w : Fin 64) : ℕ → EReal
  | 0 => 0
  | n + 1 => stR b h κ w n * Ideal.exp (bcR g b n 0 (hk h κ))
      + ∑ j : Fin 64, v b (rw' n j) (hv h w) * (k b (rw' n j) (hk h κ) * Ideal.exp (bcR g b n 0 (hk h κ) - bcR g b n j (hk h κ)))

def outR (b : Fin 2) (n : ℕ) (i : Fin 64) (h : Fin 4) (w : Fin 64) : EReal :=
  (∑ j : Fin 64, (if i < j then scR s q k g b n h i j else 0) * v b (rw' n j) (hv h w))
    + ∑ κ : Fin 32, (q b (rw' n i) (hk h κ) * s * Ideal.exp (bcR g b n i (hk h κ))) * stR k g v b h κ w n

/-- What a row gives without its own key and value, over the rows in the order in which they are read. -/
def outS (b : Fin 2) (n : ℕ) (i : Fin 64) (h : Fin 4) (w : Fin 64) : EReal :=
  (∑ j : Fin 64, (if j < i then sc s q k g b n h i j else 0) * v b (64 * n + j.val) (hv h w))
    + ∑ κ : Fin 32, (q b (64 * n + i.val) (hk h κ) * s * Ideal.exp (bc g b n i (hk h κ))) * st k g v b h κ w n

/-- The rows turned round. -/
def fl {A : Type} (f : Fin 2 → ℕ → A → EReal) (b : Fin 2) (N : ℕ) (c : A) : EReal := f b (8191 - N) c

theorem fl_rev {A : Type} (f : Fin 2 → ℕ → A → EReal) (b : Fin 2) (n : ℕ) (hn : n < 128) (j : Fin 64) (c : A) :
    fl f b (64 * n + j.rev.val) c = f b (rw' n j) c := by
  unfold fl rw'
  rw [Fin.val_rev]
  congr 1
  omega

theorem sum_rev (f : Fin 64 → EReal) : ∑ j, f j = ∑ j : Fin 64, f j.rev := (Equiv.sum_comp Fin.revPerm f).symm

theorem bc_fl (b : Fin 2) (n : ℕ) (hn : n < 128) (i : Fin 64) (c : Fin 128) : bc (fl g) b n i.rev c = bcR g b n i c := by
  unfold bc bcR
  rw [sum_rev]
  refine Finset.sum_congr rfl fun j _ => ?_
  rw [fl_rev g b n hn]
  simp only [Fin.rev_le_rev]

theorem bcR_rl (hg : ∀ b N c, Rl (g b N c)) (b : Fin 2) (n : ℕ) (i : Fin 64) (c : Fin 128) : Rl (bcR g b n i c) :=
  Rl.sum fun _ => Rl.ite _ (hg _ _ _) Rl.zero

theorem sc_fl (hg : ∀ b N c, Rl (g b N c)) (b : Fin 2) (n : ℕ) (hn : n < 128) (h : Fin 4) (i j : Fin 64) :
    sc s (fl q) (fl k) (fl g) b n h i.rev j.rev = scR s q k g b n h i j := by
  unfold sc scR
  refine Finset.sum_congr rfl fun κ _ => ?_
  rw [fl_rev q b n hn, fl_rev k b n hn, bc_fl g b n hn, bc_fl g b n hn, show (32 : Fin 64) = (31 : Fin 64).rev from rfl, bc_fl g b n hn,
    decay_mid (bcR_rl g hg _ _ _ _) (bcR_rl g hg _ _ _ _) (bcR_rl g hg _ _ _ _), decay_mid (bcR_rl g hg _ _ _ _) (bcR_rl g hg _ _ _ _) (bcR_rl g hg _ _ _ _)]

theorem st_fl (b : Fin 2) (h : Fin 4) (κ : Fin 32) (w : Fin 64) : ∀ n : ℕ, n ≤ 128 → st (fl k) (fl g) (fl v) b h κ w n = stR k g v b h κ w n
  | 0, _ => rfl
  | n + 1, hn => by
    unfold st stR
    rw [st_fl b h κ w n (by omega), show (63 : Fin 64) = (0 : Fin 64).rev from rfl, bc_fl g b n (by omega), sum_rev]
    congr 1
    refine Finset.sum_congr rfl fun j _ => ?_
    rw [fl_rev v b n (by omega), fl_rev k b n (by omega), bc_fl g b n (by omega)]

theorem outS_fl (hg : ∀ b N c, Rl (g b N c)) (b : Fin 2) (n : ℕ) (hn : n < 128) (i : Fin 64) (h : Fin 4) (w : Fin 64) :
    outS s (fl q) (fl k) (fl g) (fl v) b n i.rev h w = outR s q k g v b n i h w := by
  unfold outS outR
  rw [sum_rev]
  congr 1
  · refine Finset.sum_congr rfl fun j _ => ?_
    rw [sc_fl s q k g hg b n hn, fl_rev v b n hn]
    simp only [Fin.rev_lt_rev]
  · refine Finset.sum_congr rfl fun κ _ => ?_
    rw [fl_rev q b n hn, bc_fl g b n hn, st_fl k g v b h κ w n (by omega)]

theorem stR_rl (hk' : ∀ b N c, Rl (k b N c)) (hg : ∀ b N c, Rl (g b N c)) (hv' : ∀ b N c, Rl (v b N c)) (b : Fin 2) (h : Fin 4) (κ : Fin 32) (w : Fin 64) :
    ∀ n : ℕ, Rl (stR k g v b h κ w n)
  | 0 => Rl.zero
  | n + 1 => ((stR_rl hk' hg hv' b h κ w n).mul (bcR_rl g hg _ _ _ _).exp).add
      (Rl.sum fun _ => (hv' _ _ _).mul ((hk' _ _ _).mul ((bcR_rl g hg _ _ _ _).sub (bcR_rl g hg _ _ _ _)).exp))

theorem outR_rl (hs : Rl s) (hq : ∀ b N c, Rl (q b N c)) (hk' : ∀ b N c, Rl (k b N c)) (hg : ∀ b N c, Rl (g b N c)) (hv' : ∀ b N c, Rl (v b N c))
    (b : Fin 2) (n : ℕ) (i : Fin 64) (h : Fin 4) (w : Fin 64) : Rl (outR s q k g v b n i h w) :=
  (Rl.sum fun _ => (Rl.ite _ (Rl.sum fun _ => (((hq _ _ _).mul hs).mul ((bcR_rl g hg _ _ _ _).sub (bcR_rl g hg _ _ _ _)).exp).mul
      ((hk' _ _ _).mul ((bcR_rl g hg _ _ _ _).sub (bcR_rl g hg _ _ _ _)).exp)) Rl.zero).mul (hv' _ _ _)).add
    (Rl.sum fun _ => (((hq _ _ _).mul hs).mul (bcR_rl g hg _ _ _ _).exp).mul (stR_rl k g v hk' hg hv' _ _ _ _ _))
end

/-! ## The norm by head -/

/-- A row's entry over the root of the mean of its head's squares. -/
def normR (o : Fin 4 → Fin 64 → EReal) (h : Fin 4) (w : Fin 64) : EReal :=
  o h w * Ideal.rsqrt (Ideal.div (∑ x : Fin 64, o h x * o h x) (Ideal.ofBits .f32 0x42800000#32) + Ideal.ofBits .f32 0x358637BD#32)

/-- The mean, as a sum of the squares times a sixty-fourth. -/
theorem mean_eq (o : Fin 64 → EReal) (ho : ∀ x, Rl (o x)) :
    (∑ x : Fin 64, o x * o x * Ideal.ofBits .bf16 0x3C80#16) = Ideal.div (∑ x : Fin 64, o x * o x) (Ideal.ofBits .f32 0x42800000#32) := by
  have h1 : Ideal.ofBits .bf16 0x3C80#16 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [Rl.sum_mul (fun x => (ho x).mul (ho x)) ⟨1 / 64, h1⟩, h1, h2]
  unfold Ideal.div
  rw [if_neg (by norm_num), ← EReal.coe_inv]
  norm_num

/-- What is stored: the normed row, times the gain, times the gated gate. -/
def fin (o : Fin 4 → Fin 64 → EReal) (gn gt : EReal) (h : Fin 4) (w : Fin 64) : EReal := normR o h w * gn * (gt * Ideal.logistic gt)

end Cert.GlbSpec

end
-- ==== Proof.GlbItem.lean ====
/-
  What one 64-row item of the backward kernel computes, and what the norm and the gate make of a group of items, read at an
  index over the extended reals.
-/
module

public import proofs.«01_k».proof.Proof.GlbPieces
public import proofs.«01_k».proof.Proof.GlbSpec
public import proofs.«01_k».proof.Proof.GlaPoint

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen Cert.GlaSpec Cert.GlbSpec
open Cert.KernelIdeal.Hand (sg1 sg2 sg3 sgr bG m128 m256 zG gG rowsG qs over64 midR headK headV headS rows128 rows256 stateOf bN getS putS
  cat4K128 cat4_128 cat4K256 cat4_256 parts cat24 cat24_apply split3 select_ite sum_head headK_apply headV_apply headS_apply rm rm_64)

theorem cmpi_sgt_small : ∀ a b : Fin 64, IntOp.cmpi .sgt (BitVec.ofNat 32 a.val) (BitVec.ofNat 32 b.val) = if b < a then 1#1 else 0#1 := by decide +kernel
theorem cmpi_sge_small : ∀ a b : Fin 64, IntOp.cmpi .sge (BitVec.ofNat 32 a.val) (BitVec.ofNat 32 b.val) = if b ≤ a then 1#1 else 0#1 := by decide +kernel

/-- The scores kept: those against a later row. -/
theorem keep_apply (r : Fin 64) (c : Fin 256) : k0_pay18 (ix2 r c) = if r.val < c.val % 64 then 1#1 else 0#1 := by
  have h : k0_pay18 (ix2 r c) = IntOp.cmpi .sgt (rm (BitVec.ofNat 32 c.val)) (BitVec.ofNat 32 r.val) := by
    pointwise [k0_pay18]; rfl
  rw [h, rm_64]
  have := cmpi_sgt_small ⟨c.val % 64, by omega⟩ r
  simpa only [Fin.lt_def] using this

theorem tri_apply (r c : Fin 64) : (k0_pay19 (F := Ideal)) (ix2 r c) = if r ≤ c then 1 else 0 := by
  pointwise [k0_pay19]
  rw [cmpi_sge_small]
  split_ifs <;> simp [Scalar.select, Scalar.ofBits, Ideal.ofBits_one_f32, Ideal.ofBits_zero_f32]

theorem cumG_eq (g : FVec Ideal S512x128 .f32) : cumG g
    = matmul dot_S64x64_S64x3072_S64x3072_1_0_0_1_n_n none k0_pay19 (cat24 (parts g)) (constant S64x3072 .f32 0x00000000#32) := rfl

theorem cumG_apply (g : FVec Ideal S512x128 .f32) (n : Fin 24) (i : Fin 64) (c : Fin 128) (x : Fin 3072) (hx : x.val = 128 * n.val + c.val) :
    cumG g (ix2 i x) = ∑ j : Fin 64, (if i ≤ j then (1 : EReal) else 0) * parts g n (ix2 j c) := by
  rw [cumG_eq]
  pointwise []
  simp only [cat24_apply _ n _ c x hx, tri_apply]

theorem sum3 (x : Fin 64 → EReal) (hx : ∀ j, x j ≠ ⊤) (i : Fin 64) :
    (∑ j : Fin 64, (if i ≤ j then (1 : EReal) else 0) * x j) + (∑ j : Fin 64, (if i ≤ j then (1 : EReal) else 0) * (x j - x j))
      + (∑ j : Fin 64, (if i ≤ j then (1 : EReal) else 0) * (x j - x j - (x j - x j)))
      = ∑ j : Fin 64, if i ≤ j then x j else 0 := by
  rw [← Finset.sum_add_distrib, ← Finset.sum_add_distrib]
  refine Finset.sum_congr rfl fun j _ => ?_
  split_ifs with h
  · rw [one_mul, one_mul, one_mul, split3 _ (hx j)]
  · simp

theorem bN_apply (g : FVec Ideal S512x128 .f32) (hg : ∀ x, g x ≠ (⊤ : EReal)) (n : Fin 8) (i : Fin 64) (c : Fin 128) :
    bN n (cumG g) (ix2 i c) = ∑ j : Fin 64, if i ≤ j then g (ix2 ⟨64 * n.val + j.val, by omega⟩ c) else 0 := by
  rw [← sum3 (fun j => g (ix2 ⟨64 * n.val + j.val, by omega⟩ c)) (fun j => hg _) i]
  have key : ∀ (a b d : Fin 3072) (m : Fin 24) (m' : Fin 24) (m'' : Fin 24), a.val = 128 * m.val + c.val → b.val = 128 * m'.val + c.val → d.val = 128 * m''.val + c.val →
      cumG g (ix2 i a) + cumG g (ix2 i b) + cumG g (ix2 i d) = (∑ j : Fin 64, (if i ≤ j then (1 : EReal) else 0) * parts g m (ix2 j c))
        + (∑ j : Fin 64, (if i ≤ j then (1 : EReal) else 0) * parts g m' (ix2 j c)) + (∑ j : Fin 64, (if i ≤ j then (1 : EReal) else 0) * parts g m'' (ix2 j c)) :=
    fun a b d m m' m'' ha hb hd => by rw [cumG_apply g m i c a ha, cumG_apply g m' i c b hb, cumG_apply g m'' i c d hd]
  match n with
  | 0 =>
    pointwise [bN, bG]
    rw [key _ _ _ 0 1 2 (by simp) (by simp) (by simp)]
    simp only [show ∀ j, parts g 0 (ix2 j c) = sg1 (rowsG 0 slices_S512x128_o0_0_S64x128 g) (ix2 j c) from fun _ => rfl, show ∀ j, parts g 1 (ix2 j c) = sg2 (rowsG 0 slices_S512x128_o0_0_S64x128 g) (ix2 j c) from fun _ => rfl, show ∀ j, parts g 2 (ix2 j c) = sg3 (rowsG 0 slices_S512x128_o0_0_S64x128 g) (ix2 j c) from fun _ => rfl]
    pointwise [sg1, sg2, sg3, sgr]
  | 1 =>
    pointwise [bN, bG]
    rw [key _ _ _ 3 4 5 (by simp) (by simp) (by simp)]
    simp only [show ∀ j, parts g 3 (ix2 j c) = sg1 (rowsG 64 slices_S512x128_o64_0_S64x128 g) (ix2 j c) from fun _ => rfl, show ∀ j, parts g 4 (ix2 j c) = sg2 (rowsG 64 slices_S512x128_o64_0_S64x128 g) (ix2 j c) from fun _ => rfl, show ∀ j, parts g 5 (ix2 j c) = sg3 (rowsG 64 slices_S512x128_o64_0_S64x128 g) (ix2 j c) from fun _ => rfl]
    pointwise [sg1, sg2, sg3, sgr]
  | 2 =>
    pointwise [bN, bG]
    rw [key _ _ _ 6 7 8 (by simp) (by simp) (by simp)]
    simp only [show ∀ j, parts g 6 (ix2 j c) = sg1 (rowsG 128 slices_S512x128_o128_0_S64x128 g) (ix2 j c) from fun _ => rfl, show ∀ j, parts g 7 (ix2 j c) = sg2 (rowsG 128 slices_S512x128_o128_0_S64x128 g) (ix2 j c) from fun _ => rfl, show ∀ j, parts g 8 (ix2 j c) = sg3 (rowsG 128 slices_S512x128_o128_0_S64x128 g) (ix2 j c) from fun _ => rfl]
    pointwise [sg1, sg2, sg3, sgr]
  | 3 =>
    pointwise [bN, bG]
    rw [key _ _ _ 9 10 11 (by simp) (by simp) (by simp)]
    simp only [show ∀ j, parts g 9 (ix2 j c) = sg1 (rowsG 192 slices_S512x128_o192_0_S64x128 g) (ix2 j c) from fun _ => rfl, show ∀ j, parts g 10 (ix2 j c) = sg2 (rowsG 192 slices_S512x128_o192_0_S64x128 g) (ix2 j c) from fun _ => rfl, show ∀ j, parts g 11 (ix2 j c) = sg3 (rowsG 192 slices_S512x128_o192_0_S64x128 g) (ix2 j c) from fun _ => rfl]
    pointwise [sg1, sg2, sg3, sgr]
  | 4 =>
    pointwise [bN, bG]
    rw [key _ _ _ 12 13 14 (by simp) (by simp) (by simp)]
    simp only [show ∀ j, parts g 12 (ix2 j c) = sg1 (rowsG 256 slices_S512x128_o256_0_S64x128 g) (ix2 j c) from fun _ => rfl, show ∀ j, parts g 13 (ix2 j c) = sg2 (rowsG 256 slices_S512x128_o256_0_S64x128 g) (ix2 j c) from fun _ => rfl, show ∀ j, parts g 14 (ix2 j c) = sg3 (rowsG 256 slices_S512x128_o256_0_S64x128 g) (ix2 j c) from fun _ => rfl]
    pointwise [sg1, sg2, sg3, sgr]
  | 5 =>
    pointwise [bN, bG]
    rw [key _ _ _ 15 16 17 (by simp) (by simp) (by simp)]
    simp only [show ∀ j, parts g 15 (ix2 j c) = sg1 (rowsG 320 slices_S512x128_o320_0_S64x128 g) (ix2 j c) from fun _ => rfl, show ∀ j, parts g 16 (ix2 j c) = sg2 (rowsG 320 slices_S512x128_o320_0_S64x128 g) (ix2 j c) from fun _ => rfl, show ∀ j, parts g 17 (ix2 j c) = sg3 (rowsG 320 slices_S512x128_o320_0_S64x128 g) (ix2 j c) from fun _ => rfl]
    pointwise [sg1, sg2, sg3, sgr]
  | 6 =>
    pointwise [bN, bG]
    rw [key _ _ _ 18 19 20 (by simp) (by simp) (by simp)]
    simp only [show ∀ j, parts g 18 (ix2 j c) = sg1 (rowsG 384 slices_S512x128_o384_0_S64x128 g) (ix2 j c) from fun _ => rfl, show ∀ j, parts g 19 (ix2 j c) = sg2 (rowsG 384 slices_S512x128_o384_0_S64x128 g) (ix2 j c) from fun _ => rfl, show ∀ j, parts g 20 (ix2 j c) = sg3 (rowsG 384 slices_S512x128_o384_0_S64x128 g) (ix2 j c) from fun _ => rfl]
    pointwise [sg1, sg2, sg3, sgr]
  | 7 =>
    pointwise [bN, bG]
    rw [key _ _ _ 21 22 23 (by simp) (by simp) (by simp)]
    simp only [show ∀ j, parts g 21 (ix2 j c) = sg1 (rowsG 448 slices_S512x128_o448_0_S64x128 g) (ix2 j c) from fun _ => rfl, show ∀ j, parts g 22 (ix2 j c) = sg2 (rowsG 448 slices_S512x128_o448_0_S64x128 g) (ix2 j c) from fun _ => rfl, show ∀ j, parts g 23 (ix2 j c) = sg3 (rowsG 448 slices_S512x128_o448_0_S64x128 g) (ix2 j c) from fun _ => rfl]
    pointwise [sg1, sg2, sg3, sgr]

theorem scoresI_eq (q k b : FVec Ideal S64x128 .f32) : scoresI q k b =
    truncf .bf16 (select k0_pay18
    (matmul dot_S64x128_S256x128_S64x256_1_1_0_0_n_n none
      (truncf .bf16 (mulf (qs q) (exp (subf b (over64 (midR b))))) bitsLt_bf16_f32)
      (truncf .bf16 (select headK (cat4K128 (mulf k (exp (subf (over64 (midR b)) b))))
        (broadcast S256x128 (Scalar.ofBits .f32 0x00000000#32))) bitsLt_bf16_f32)
      (constant S64x256 .f32 0x00000000#32))
    (broadcast S64x256 (Scalar.ofBits .f32 0x00000000#32))) bitsLt_bf16_f32 := rfl

theorem scoresI_apply (q k b : FVec Ideal S64x128 .f32) (i : Fin 64) (h : Fin 4) (j : Fin 64) :
    scoresI q k b (ix2 i (hv h j)) = if i < j then
      ∑ κ : Fin 32, (q (ix2 i (hk h κ)) * Ideal.ofBits .f32 0x3E3504F3#32 * Ideal.exp (b (ix2 i (hk h κ)) - b (ix2 32 (hk h κ))))
        * (k (ix2 j (hk h κ)) * Ideal.exp (b (ix2 32 (hk h κ)) - b (ix2 j (hk h κ)))) else 0 := by
  rw [scoresI_eq]
  have e : ∀ c : Fin 128, cat4K128 (mulf k (exp (subf (over64 (midR b)) b))) (ix2 (hv h j) c) = k (ix2 j c) * Ideal.exp (b (ix2 32 c) - b (ix2 j c)) := fun c => by
    rw [cat4_128]; pointwise [midR, over64]
  generalize cat4K128 (mulf k (exp (subf (over64 (midR b)) b))) = X at e ⊢
  pointwise [qs, midR, over64]
  simp only [e, keep_apply, headK_apply, hv_mod, hv_div, select_ite, sum_head, Fin.lt_def]

theorem intraI_eq (q k b : FVec Ideal S64x128 .f32) (v : FVec Ideal S64x256 .f32) : intraI q k v b =
  matmul dot_S64x256_S256x256_S64x256_1_0_0_1_n_n none (scoresI q k b)
    (truncf .bf16 (select headV (cat4K256 v)
      (broadcast S256x256 (Scalar.ofBits .f32 0x00000000#32))) bitsLt_bf16_f32)
    (constant S64x256 .f32 0x00000000#32) := rfl

theorem intraI_apply (q k b : FVec Ideal S64x128 .f32) (v : FVec Ideal S64x256 .f32) (i : Fin 64) (h : Fin 4) (w : Fin 64) :
    intraI q k v b (ix2 i (hv h w)) = ∑ j : Fin 64, scoresI q k b (ix2 i (hv h j)) * v (ix2 j (hv h w)) := by
  rw [intraI_eq]
  generalize scoresI q k b = Y
  pointwise []
  simp only [headV_apply, select_ite]
  rw [sum_hv, Finset.sum_eq_single h]
  · refine Finset.sum_congr rfl fun j _ => ?_
    simp only [hv_div, if_true, cat4_256]
  · intro h' _ hh
    refine Finset.sum_eq_zero fun j _ => ?_
    have hn : ¬h'.val = h.val := fun e => hh (Fin.ext e)
    simp only [hv_div, hn, if_false]
  · intro hh; exact absurd (Finset.mem_univ h) hh

theorem outI_apply (q k b : FVec Ideal S64x128 .f32) (v : FVec Ideal S64x256 .f32) (S : FVec Ideal S256x128 .f32)
    (hS : ∀ h w h' κ, h ≠ h' → S (ix2 (hv h w) (hk h' κ)) = (0 : EReal)) (i : Fin 64) (h : Fin 4) (w : Fin 64) :
    outI q k v b S (ix2 i (hv h w)) = (∑ j : Fin 64, scoresI q k b (ix2 i (hv h j)) * v (ix2 j (hv h w)))
      + ∑ κ : Fin 32, (q (ix2 i (hk h κ)) * Ideal.ofBits .f32 0x3E3504F3#32 * Ideal.exp (b (ix2 i (hk h κ)))) * S (ix2 (hv h w) (hk h κ)) := by
  rw [← intraI_apply]
  unfold outI
  generalize intraI q k v b = Y
  pointwise [qs]
  rw [sum_hk, Finset.sum_eq_single h]
  · intro h' _ hh
    refine Finset.sum_eq_zero fun κ _ => ?_
    rw [hS h w h' κ (Ne.symm hh), mul_zero]
  · intro hh; exact absurd (Finset.mem_univ h) hh

theorem stI_apply (k b : FVec Ideal S64x128 .f32) (v : FVec Ideal S64x256 .f32) (S : FVec Ideal S256x128 .f32) (h h' : Fin 4) (w : Fin 64) (κ : Fin 32) :
    stI k v b S (ix2 (hv h w) (hk h' κ)) = S (ix2 (hv h w) (hk h' κ)) * Ideal.exp (b (ix2 0 (hk h' κ)))
      + if h = h' then ∑ j : Fin 64, v (ix2 j (hv h w)) * (k (ix2 j (hk h' κ)) * Ideal.exp (b (ix2 0 (hk h' κ)) - b (ix2 j (hk h' κ)))) else 0 := by
  pointwise [stI, topR, over64]
  simp only [headS_apply, hv_div, hk_div, select_ite, Fin.ext_iff]

/-! ## The norm and the gate -/

theorem cat8_apply (p : Fin 8 → FVec Ideal S64x256 .f32) (n : Fin 8) (j : Fin 64) (c : Fin 256) :
    cat8 p (ix2 ⟨64 * n.val + j.val, by omega⟩ c) = p n (ix2 j c) :=
  concatenate_ofFn_apply (t := S512x256) (s₁ := S64x256) 0 (N := 8) p concatenates_S64x256_S64x256_S64x256_S64x256_S64x256_S64x256_S64x256_S64x256_S512x256_d0 rfl 64 rfl (ix2 ⟨64 * n.val + j.val, by omega⟩ c) n
      (by show (64 * n.val + j.val) / 64 = n.val; omega) (ix2 j c) (by show j.val = (64 * n.val + j.val) % 64; omega) (fun b hb => by
        match b, hb with
        | ⟨0, _⟩, hb => exact absurd rfl hb
        | ⟨1, _⟩, _ => rfl)

/-- The matrix of the means: a sixty-fourth within a head, zero elsewhere. -/
def IsMean (av : Vec Ideal S256x256 .bf16) : Prop :=
  ∀ x y : Fin 256, (av (ix2 x y) : EReal) = if x.val / 64 = y.val / 64 then Ideal.ofBits .bf16 0x3C80#16 else 0

theorem sum_mean (f : Fin 256 → EReal) (av : Vec Ideal S256x256 .bf16) (hav : IsMean av) (h : Fin 4) (w : Fin 64) :
    (∑ x : Fin 256, f x * (av (ix2 x (hv h w)) : EReal)) = ∑ x : Fin 64, f (hv h x) * Ideal.ofBits .bf16 0x3C80#16 := by
  rw [sum_hv, Finset.sum_eq_single h]
  · refine Finset.sum_congr rfl fun x _ => ?_
    rw [hav, if_pos (by rw [hv_div, hv_div])]
  · intro h' _ hh
    refine Finset.sum_eq_zero fun x _ => ?_
    rw [hav, if_neg (by rw [hv_div, hv_div]; exact fun e => hh (Fin.ext e)), mul_zero]
  · intro hh; exact absurd (Finset.mem_univ h) hh

theorem msG_apply (s : FVec Ideal S512x256 .f32) (av : Vec Ideal S256x256 .bf16) (hav : IsMean av) (i : Fin 512) (hs : ∀ x, Rl (s (ix2 i x))) (h : Fin 4) (w : Fin 64) :
    msG s av (ix2 i (hv h w)) = ∑ x : Fin 64, s (ix2 i (hv h x)) * Ideal.ofBits .bf16 0x3C80#16 := by
  have e : msG s av (ix2 i (hv h w)) = (∑ x : Fin 256, (fun p q : EReal => p * q) (s (ix2 i x)) (av (ix2 x (hv h w))))
      + ∑ x : Fin 256, (fun p q : EReal => (p - p) * q) (s (ix2 i x)) (av (ix2 x (hv h w))) := by
    pointwise [msG]
  rw [e]
  have z : (∑ x : Fin 256, (fun p q : EReal => (p - p) * q) (s (ix2 i x)) (av (ix2 x (hv h w)))) = 0 :=
    Finset.sum_eq_zero fun x _ => by
      show (s (ix2 i x) - s (ix2 i x) : EReal) * _ = 0
      rw [(hs x).sub_self, zero_mul]
  rw [z, add_zero]
  exact sum_mean (fun x => s (ix2 i x)) av hav h w

theorem finG_apply (o gt : FVec Ideal S512x256 .f32) (gn : Vec Ideal S1x256 .f32) (av : Vec Ideal S256x256 .bf16) (hav : IsMean av) (i : Fin 512)
    (ho : ∀ x, Rl (o (ix2 i x))) (h : Fin 4) (w : Fin 64) :
    finG o gt gn av (ix2 i (hv h w)) = fin (fun h w => o (ix2 i (hv h w))) (gn (ix2 0 (hv h w))) (gt (ix2 i (hv h w))) h w := by
  have e : msG (mulf o o) av (ix2 i (hv h w)) = Ideal.div (∑ x : Fin 64, (o (ix2 i (hv h x)) * o (ix2 i (hv h x)) : EReal)) (Ideal.ofBits .f32 0x42800000#32) := by
    rw [msG_apply _ av hav i (fun x => (ho x).mul (ho x))]
    exact mean_eq (fun x => o (ix2 i (hv h x))) (fun x => ho _)
  unfold finG
  generalize msG (mulf o o) av = Y at e ⊢
  pointwise []
  rw [e]
  rfl

end Cert.Kernel9Ideal.Hand

end
-- ==== Proof.GlbPoint.lean ====
/-
  One grid point of the backward kernel over the extended reals: from blocks that hold eight chunks, counted from the end of
  the sequence, and from the states that enter the first of them, the point leaves the chunks' rows with the forward result
  added, normed and gated, and the states that enter the next chunk.
-/
module

public import proofs.«01_k».proof.Proof.GlbItem

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen Cert.GlaSpec Cert.GlbSpec
open Cert.KernelIdeal.Hand (m128 m256 zG gG rows128 rows256 stateOf bN getS putS zG_apply gG_apply gG_ne_top gB m128_rows m256_rows IsSt stB stB_isSt isSt_stB clear_stB st_piece)

def pA (x3 : Vec Ideal S2x512x128 .f32) : Fin 8 → FVec Ideal S64x128 .f32 :=
  ![m128 (rows128 x3 0 7), m128 (rows128 x3 1 7), m128 (rows128 x3 0 6), m128 (rows128 x3 1 6), m128 (rows128 x3 0 5), m128 (rows128 x3 1 5), m128 (rows128 x3 0 4), m128 (rows128 x3 1 4)]
def pB (x3 : Vec Ideal S2x512x128 .f32) : Fin 8 → FVec Ideal S64x128 .f32 :=
  ![m128 (rows128 x3 0 3), m128 (rows128 x3 1 3), m128 (rows128 x3 0 2), m128 (rows128 x3 1 2), m128 (rows128 x3 0 1), m128 (rows128 x3 1 1), m128 (rows128 x3 0 0), m128 (rows128 x3 1 0)]

theorem kA (X : Ins Ideal) (n : Fin 8) (b : Fin 2) (r : Fin 8) (e : pA X.lr n = m128 (rows128 X.lr b r.rev)) (i : Fin 64) (c : Fin 128) :
    bN n (cumG (gG (zA X))) (ix2 i c) = ∑ j : Fin 64, if i ≤ j then gB X.lr X.wd X.bd b ⟨64 * r.rev.val + j.val, by omega⟩ c else 0 := by
  rw [bN_apply _ (gG_ne_top _)]
  refine Finset.sum_congr rfl fun j _ => ?_
  have hz := zG_apply (pA X.lr) (rows128 X.lr 0 7) (rows128 X.lr 1 7) (rows128 X.lr 0 6) (rows128 X.lr 1 6) (rows128 X.lr 0 5) (rows128 X.lr 1 5) (rows128 X.lr 0 4) (rows128 X.lr 1 4) X.wd X.bd
    rfl rfl rfl rfl rfl rfl rfl rfl n j c
  rw [gG_apply, zA, hz, e]
  simp only [m128_rows, gB]

theorem kB (X : Ins Ideal) (n : Fin 8) (b : Fin 2) (r : Fin 8) (e : pB X.lr n = m128 (rows128 X.lr b r.rev)) (i : Fin 64) (c : Fin 128) :
    bN n (cumG (gG (zB X))) (ix2 i c) = ∑ j : Fin 64, if i ≤ j then gB X.lr X.wd X.bd b ⟨64 * r.rev.val + j.val, by omega⟩ c else 0 := by
  rw [bN_apply _ (gG_ne_top _)]
  refine Finset.sum_congr rfl fun j _ => ?_
  have hz := zG_apply (pB X.lr) (rows128 X.lr 0 3) (rows128 X.lr 1 3) (rows128 X.lr 0 2) (rows128 X.lr 1 2) (rows128 X.lr 0 1) (rows128 X.lr 1 1) (rows128 X.lr 0 0) (rows128 X.lr 1 0) X.wd X.bd
    rfl rfl rfl rfl rfl rfl rfl rfl n j c
  rw [gG_apply, zB, hz, e]
  simp only [m128_rows, gB]

theorem bT_apply (X : Ins Ideal) (b : Fin 2) (r : Fin 8) (i : Fin 64) (c : Fin 128) :
    bT X b r (ix2 i c) = ∑ j : Fin 64, if i ≤ j then gB X.lr X.wd X.bd b ⟨64 * r.rev.val + j.val, by omega⟩ c else 0 := by
  match b, r with
  | 0, 0 => exact kA X 0 0 0 rfl i c
  | 0, 1 => exact kA X 2 0 1 rfl i c
  | 0, 2 => exact kA X 4 0 2 rfl i c
  | 0, 3 => exact kA X 6 0 3 rfl i c
  | 0, 4 => exact kB X 0 0 4 rfl i c
  | 0, 5 => exact kB X 2 0 5 rfl i c
  | 0, 6 => exact kB X 4 0 6 rfl i c
  | 0, 7 => exact kB X 6 0 7 rfl i c
  | 1, 0 => exact kA X 1 1 0 rfl i c
  | 1, 1 => exact kA X 3 1 1 rfl i c
  | 1, 2 => exact kA X 5 1 2 rfl i c
  | 1, 3 => exact kA X 7 1 3 rfl i c
  | 1, 4 => exact kB X 1 1 4 rfl i c
  | 1, 5 => exact kB X 3 1 5 rfl i c
  | 1, 6 => exact kB X 5 1 6 rfl i c
  | 1, 7 => exact kB X 7 1 7 rfl i c

section
variable (Q K G : Fin 2 → ℕ → Fin 128 → EReal) (W Fw T : Fin 2 → ℕ → Fin 256 → EReal) (gn : Fin 256 → EReal)

/-- The blocks of a point hold eight chunks from chunk n on, the chunks counted from the end. -/
structure Blocks (n : ℕ) (X : Ins Ideal) : Prop where
  hn : n ≤ 120
  hq : ∀ b y c, X.q (ix3 b y c) = Q b (64 * (120 - n) + y.val) c
  hk : ∀ b y c, X.k (ix3 b y c) = K b (64 * (120 - n) + y.val) c
  hv : ∀ b y c, X.v (ix3 b y c) = W b (64 * (120 - n) + y.val) c
  hg : ∀ b y c, gB X.lr X.wd X.bd b y c = G b (64 * (120 - n) + y.val) c
  hf : ∀ b y c, X.fw (ix3 b y c) = Fw b (64 * (120 - n) + y.val) c
  ht : ∀ b y c, X.gt (ix3 b y c) = T b (64 * (120 - n) + y.val) c
  hgn : ∀ c, X.gn (ix2 0 c) = gn c
  hav : IsMean X.av

/-- Row i of chunk n from the end, both directions added. -/
def both (b : Fin 2) (n : ℕ) (i : Fin 64) (h : Fin 4) (w : Fin 64) : EReal :=
  outR (Ideal.ofBits .f32 0x3E3504F3#32) Q K G W b n i h w + Fw b (rw' n i) (hv h w)

/-- … and normed and gated. -/
def res (b : Fin 2) (n : ℕ) (i : Fin 64) (h : Fin 4) (w : Fin 64) : EReal :=
  fin (both Q K G W Fw b n i) (gn (hv h w)) (T b (rw' n i) (hv h w)) h w

/-- The block of rows that eight chunks from chunk n on give. -/
def outB (n : ℕ) : S2x512x256.Idx → EReal := fun y =>
  res Q K G W Fw T gn (y 0) (n + (7 - (y 1).val / 64)) ⟨(y 1).val % 64, Nat.mod_lt _ (by decide)⟩
    ⟨(y 2).val / 64, by have : (y 2).val < 256 := (y 2).isLt; omega⟩ ⟨(y 2).val % 64, Nat.mod_lt _ (by decide)⟩

variable {Q K G W Fw T gn}
variable {n : ℕ} {X : Ins Ideal} (H : Blocks Q K G W Fw T gn n X)
include H

theorem row_eq (r : Fin 8) (i : Fin 64) : 64 * (120 - n) + (64 * r.rev.val + i.val) = rw' (n + r.val) i := by
  have := H.hn
  have e : r.rev.val = 7 - r.val := by show 8 - (r.val + 1) = _; omega
  unfold rw'; rw [e]; omega

theorem bT_bc (b : Fin 2) (r : Fin 8) (i : Fin 64) (c : Fin 128) : bT X b r (ix2 i c) = bcR G b (n + r.val) i c := by
  rw [bT_apply, bcR]
  refine Finset.sum_congr rfl fun j _ => ?_
  rw [H.hg]
  simp only [row_eq H]

theorem q_row (b : Fin 2) (r : Fin 8) (i : Fin 64) (c : Fin 128) : m128 (rows128 X.q b r.rev) (ix2 i c) = Q b (rw' (n + r.val) i) c := by
  rw [m128_rows, H.hq, ← row_eq H]
theorem k_row (b : Fin 2) (r : Fin 8) (i : Fin 64) (c : Fin 128) : m128 (rows128 X.k b r.rev) (ix2 i c) = K b (rw' (n + r.val) i) c := by
  rw [m128_rows, H.hk, ← row_eq H]
theorem v_row (b : Fin 2) (r : Fin 8) (i : Fin 64) (c : Fin 256) : m256 (rows256 X.v b r.rev) (ix2 i c) = W b (rw' (n + r.val) i) c := by
  rw [m256_rows, H.hv, ← row_eq H]
theorem f_row (b : Fin 2) (r : Fin 8) (i : Fin 64) (c : Fin 256) : m256 (rows256 X.fw b r.rev) (ix2 i c) = Fw b (rw' (n + r.val) i) c := by
  rw [m256_rows, H.hf, ← row_eq H]
theorem t_row (b : Fin 2) (r : Fin 8) (i : Fin 64) (c : Fin 256) : m256 (rows256 X.gt b r.rev) (ix2 i c) = T b (rw' (n + r.val) i) c := by
  rw [m256_rows, H.ht, ← row_eq H]

theorem stepT_isSt (b : Fin 2) (r : Fin 8) (S : FVec Ideal S256x128 .f32) (hS : IsSt (fl K) (fl G) (fl W) b (n + r.val) S) :
    IsSt (fl K) (fl G) (fl W) b (n + r.val + 1) (stepT X b r S) where
  same h w κ := by
    have := H.hn
    rw [st_fl K G W b h κ w _ (by omega), stepT, stI_apply, if_pos rfl, hS.same, st_fl K G W b h κ w _ (by omega), stR]
    simp only [bT_bc H, k_row H, v_row H]
  off h w h' κ hh := by
    rw [stepT, stI_apply, if_neg hh, hS.off h w h' κ hh, zero_mul, zero_add]

theorem stT_isSt (b : Fin 2) (S : FVec Ideal S256x128 .f32) (hS : IsSt (fl K) (fl G) (fl W) b n S) : ∀ r : ℕ, r ≤ 8 → IsSt (fl K) (fl G) (fl W) b (n + r) (stT X b S r)
  | 0, _ => hS
  | r + 1, h => by
    have := stepT_isSt H b ⟨r, h⟩ _ (stT_isSt b S hS r (by omega))
    rw [stT, dif_pos (show r < 8 from h)]
    exact this

theorem outT_out (b : Fin 2) (r : Fin 8) (S : FVec Ideal S256x128 .f32) (hS : IsSt (fl K) (fl G) (fl W) b (n + r.val) S) (i : Fin 64) (h : Fin 4) (w : Fin 64) :
    outT X b r S (ix2 i (hv h w)) = outR (Ideal.ofBits .f32 0x3E3504F3#32) Q K G W b (n + r.val) i h w := by
  have hn := H.hn
  rw [outT, outI_apply _ _ _ _ _ hS.off, outR]
  simp only [scoresI_apply, hS.same, bT_bc H, q_row H, k_row H, v_row H, scR]
  simp only [fun (h : Fin 4) (κ : Fin 32) (w : Fin 64) => st_fl K G W b h κ w (n + r.val) (by omega)]

variable (S : Fin 2 → FVec Ideal S256x128 .f32) (hS : ∀ b, IsSt (fl K) (fl G) (fl W) b n (S b))
include hS

theorem oT_both (b : Fin 2) (r : Fin 8) (i : Fin 64) (h : Fin 4) (w : Fin 64) : oT X S b r (ix2 i (hv h w)) = both Q K G W Fw b (n + r.val) i h w := by
  have e : oT X S b r (ix2 i (hv h w)) = (fun p q : EReal => p + q) (outT X b r (stT X b (S b) r.val) (ix2 i (hv h w))) (m256 (rows256 X.fw b r.rev) (ix2 i (hv h w))) := rfl
  rw [e, f_row H, outT_out H b r _ (stT_isSt H b _ (hS b) r.val (by omega))]
  rfl

theorem fin_row (hR : ∀ b n i h w, Rl (both Q K G W Fw b n i h w)) (o gt : Fin 8 → FVec Ideal S64x256 .f32) (m : Fin 8) (b : Fin 2) (r : Fin 8)
    (ho : o m = oT X S b r) (hgt : gt m = m256 (rows256 X.gt b r.rev)) (i : Fin 64) (h : Fin 4) (w : Fin 64) :
    finG (cat8 o) (cat8 gt) X.gn X.av (ix2 ⟨64 * m.val + i.val, by omega⟩ (hv h w)) = res Q K G W Fw T gn b (n + r.val) i h w := by
  have ro : ∀ h w, cat8 o (ix2 ⟨64 * m.val + i.val, by omega⟩ (hv h w)) = both Q K G W Fw b (n + r.val) i h w := fun h w => by
    rw [cat8_apply, ho, oT_both H S hS]
  rw [finG_apply _ _ _ _ H.hav _ (fun x => by obtain ⟨h, w, rfl⟩ := exists_hv x; rw [ro]; exact hR _ _ _ _ _), H.hgn, cat8_apply, hgt, t_row H]
  simp only [ro]
  rfl

omit hS in
theorem out_piece (b : Fin 2) (r : Fin 8) (x : FVec Ideal S512x256 .f32) (m : Fin 8)
    (hx : ∀ i h w, x (ix2 ⟨64 * m.val + i.val, by omega⟩ (hv h w)) = res Q K G W Fw T gn b (n + r.val) i h w)
    (k : ℕ) (hk : k = 64 * m.val) (hsl : Shape.Slices S512x256 ![k, 0] S64x256)
    (off : Fin 3 → ℕ) (hoff : off = ![b.val, 64 * r.rev.val, 0])
    (inb : ∀ a, off a + (![1, 64, 256] : Fin 3 → ℕ) a ≤ S2x512x256.size a) (y : (Rect.unit (s := S2x512x256) off ![1, 64, 256] inb).shape.Idx) :
    putG k hsl x y = outB Q K G W Fw T gn n ((Rect.unit (s := S2x512x256) off ![1, 64, 256] inb).emb y) := by
  subst hoff hk
  obtain ⟨z, i, c, rfl⟩ : ∃ (z : Fin 1) (i : Fin 64) (c : Fin 256), y = ix3 z i c := ⟨y 0, y 1, y 2, by funext a; match a with | ⟨0, _⟩ => rfl | ⟨1, _⟩ => rfl | ⟨2, _⟩ => rfl⟩
  obtain ⟨h, w, rfl⟩ := exists_hv c
  have e : putG (64 * m.val) hsl x (ix3 z i (hv h w)) = x (ix2 ⟨64 * m.val + i.val, by omega⟩ (hv h w)) := by
    pointwise [putG]
  have hz : z.val = 0 := by omega
  refine e.trans ((hx i h w).trans ?_)
  unfold outB
  have er : r.rev.val = 7 - r.val := by show 8 - (r.val + 1) = _; omega
  have v0 : ((Rect.unit (s := S2x512x256) ![b.val, 64 * r.rev.val, 0] ![1, 64, 256] inb).emb (ix3 z i (hv h w)) 0).val = b.val := by
    show b.val + 1 * z.val = b.val; omega
  have v1 : ((Rect.unit (s := S2x512x256) ![b.val, 64 * r.rev.val, 0] ![1, 64, 256] inb).emb (ix3 z i (hv h w)) 1).val = 64 * r.rev.val + i.val := by
    show 64 * r.rev.val + 1 * i.val = _; omega
  have v2 : ((Rect.unit (s := S2x512x256) ![b.val, 64 * r.rev.val, 0] ![1, 64, 256] inb).emb (ix3 z i (hv h w)) 2).val = (hv h w).val := by
    show 0 + 1 * (hv h w).val = _; omega
  congr 1
  · exact Fin.ext v0.symm
  · rw [v1, er]; omega
  · exact Fin.ext (by show i.val = _ % 64; rw [v1]; omega)
  · exact Fin.ext (by show h.val = _ / 64; rw [v2, hv_div])
  · exact Fin.ext (by show w.val = _ % 64; rw [v2, hv_mod])

theorem outPieces_out (hR : ∀ b n i h w, Rl (both Q K G W Fw b n i h w)) :
    ∀ p ∈ outPieces X S, ∀ x : p.1.shape.Idx, p.2 x = outB Q K G W Fw T gn n (p.1.emb x) := by
  intro p hp
  simp only [outPieces, List.mem_cons, List.not_mem_nil, or_false] at hp
  rcases hp with rfl | rfl | rfl | rfl | rfl | rfl | rfl | rfl | rfl | rfl | rfl | rfl | rfl | rfl | rfl | rfl
  · exact out_piece H 1 7 _ 7 (fin_row H S hS hR (oB X S) (gtB X) 7 1 7 rfl rfl) _ rfl _ _ rfl inb_S2x512x256_S1x64x256_1_0_0
  · exact out_piece H 0 7 _ 6 (fin_row H S hS hR (oB X S) (gtB X) 6 0 7 rfl rfl) _ rfl _ _ rfl inb_S2x512x256_S1x64x256_0_0_0
  · exact out_piece H 1 6 _ 5 (fin_row H S hS hR (oB X S) (gtB X) 5 1 6 rfl rfl) _ rfl _ _ rfl inb_S2x512x256_S1x64x256_1_64_0
  · exact out_piece H 0 6 _ 4 (fin_row H S hS hR (oB X S) (gtB X) 4 0 6 rfl rfl) _ rfl _ _ rfl inb_S2x512x256_S1x64x256_0_64_0
  · exact out_piece H 1 5 _ 3 (fin_row H S hS hR (oB X S) (gtB X) 3 1 5 rfl rfl) _ rfl _ _ rfl inb_S2x512x256_S1x64x256_1_128_0
  · exact out_piece H 0 5 _ 2 (fin_row H S hS hR (oB X S) (gtB X) 2 0 5 rfl rfl) _ rfl _ _ rfl inb_S2x512x256_S1x64x256_0_128_0
  · exact out_piece H 1 4 _ 1 (fin_row H S hS hR (oB X S) (gtB X) 1 1 4 rfl rfl) _ rfl _ _ rfl inb_S2x512x256_S1x64x256_1_192_0
  · exact out_piece H 0 4 _ 0 (fin_row H S hS hR (oB X S) (gtB X) 0 0 4 rfl rfl) _ rfl _ _ rfl inb_S2x512x256_S1x64x256_0_192_0
  · exact out_piece H 1 3 _ 7 (fin_row H S hS hR (oA X S) (gtA X) 7 1 3 rfl rfl) _ rfl _ _ rfl inb_S2x512x256_S1x64x256_1_256_0
  · exact out_piece H 0 3 _ 6 (fin_row H S hS hR (oA X S) (gtA X) 6 0 3 rfl rfl) _ rfl _ _ rfl inb_S2x512x256_S1x64x256_0_256_0
  · exact out_piece H 1 2 _ 5 (fin_row H S hS hR (oA X S) (gtA X) 5 1 2 rfl rfl) _ rfl _ _ rfl inb_S2x512x256_S1x64x256_1_320_0
  · exact out_piece H 0 2 _ 4 (fin_row H S hS hR (oA X S) (gtA X) 4 0 2 rfl rfl) _ rfl _ _ rfl inb_S2x512x256_S1x64x256_0_320_0
  · exact out_piece H 1 1 _ 3 (fin_row H S hS hR (oA X S) (gtA X) 3 1 1 rfl rfl) _ rfl _ _ rfl inb_S2x512x256_S1x64x256_1_384_0
  · exact out_piece H 0 1 _ 2 (fin_row H S hS hR (oA X S) (gtA X) 2 0 1 rfl rfl) _ rfl _ _ rfl inb_S2x512x256_S1x64x256_0_384_0
  · exact out_piece H 1 0 _ 1 (fin_row H S hS hR (oA X S) (gtA X) 1 1 0 rfl rfl) _ rfl _ _ rfl inb_S2x512x256_S1x64x256_1_448_0
  · exact out_piece H 0 0 _ 0 (fin_row H S hS hR (oA X S) (gtA X) 0 0 0 rfl rfl) _ rfl _ _ rfl inb_S2x512x256_S1x64x256_0_448_0

theorem stPieces_st : ∀ p ∈ stPieces X S, ∀ x : p.1.shape.Idx, p.2 x = stB (fl K) (fl G) (fl W) (n + 8) (p.1.emb x) := by
  intro p hp
  simp only [stPieces, List.mem_cons, List.not_mem_nil, or_false] at hp
  rcases hp with rfl | rfl
  · exact st_piece 1 _ (stT_isSt H 1 _ (hS 1) 8 le_rfl) _ rfl inb_S2x256x128_S1x256x128_1_0_0
  · exact st_piece 0 _ (stT_isSt H 0 _ (hS 0) 8 le_rfl) _ rfl inb_S2x256x128_S1x256x128_0_0_0

omit H hS in
theorem stPieces_cover (y : S2x256x128.Idx) : ∃ p ∈ stPieces X S, y ∈ p.1.set :=
  View.cover_of_tiledL (stPieces X S) S1x256x128.size (by sl_kernel_rfl) y

end

theorem clear_stB' {K G : Fin 2 → ℕ → Fin 128 → EReal} {W : Fin 2 → ℕ → Fin 256 → EReal} : (k0_pay4 (F := Ideal)) = stB K G W 0 := clear_stB

end Cert.Kernel9Ideal.Hand

end
-- ==== Proof.GlbHost.lean ====
/-
  What the host lines before the backward kernel leave in the arrays it reads: the projection padded by zero columns, the
  decay weights of the backward direction among zero rows, its decay bias, the gain, and the matrix of the means.
-/
module

public import proofs.«01_k».proof.Proof.GlbPoint
public import proofs.«01_k».proof.Proof.Gen.Kernel9Ideal.Value
public import Idealize.ShloMosaic.Lib.StableHlo.ReadAt
public import Idealize.ShloMosaic.Lib.Routing.OpsPair
public import Idealize.ShloMosaic.Lib.Routing.OpsSet
public import Idealize.ShloMosaic.Lib.IdealHost

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen Cert.GlaSpec Cert.GlbSpec

variable (m : (ℓ : Loc nD τ sig) → Buf (Elt Ideal) ℓ) (c : Dev nD)

theorem V_v8 (x : Fin 128) : (V m c main_v8 : Vec Ideal S1x128 .f32) (ix2 0 x) = (m ((c : Thread nD τ).loc main_arg2) : Vec Ideal S2x128 .f32) (ix2 1 x) := by
  unfold V
  after_reads_at

theorem V_v0 (b : Fin 2) (y : Fin 8192) (x : Fin 896) : (V m c main_v0 : Vec Ideal S2x8192x896 .f32) (ix3 b y x) = if h : x.val < 800 then (m ((c : Thread nD τ).loc main_arg0) : Vec Ideal S2x8192x800 .f32) (ix3 b y ⟨x.val, h⟩) else (0 : EReal) := by
  unfold V
  after_reads_at
  have e : (FloatOps.sitofp (F := Ideal) FTy.f32 (0#32 : BitVec 32) : EReal) = 0 := by
    show (((0#32 : BitVec 32).toInt : ℝ) : EReal) = 0
    simp
  split
  · rfl
  · exact e

theorem V_v9 (x : Fin 256) : (V m c main_v9 : Vec Ideal S1x256 .f32) (ix2 0 x) = (m ((c : Thread nD τ).loc main_arg3) : Vec Ideal S256 .f32) (ix1 x) := by
  unfold V
  after_reads_at

/-! The literal: half a row of it is one of three, and a row is two halves. -/

theorem leafF (i : ℕ) : lit0t0_0 i = if i % 128 < 64 then 0x3C80#16 else 0#16 := by
  have e : lit0t0_0 i = lit0t0_0 (i % 128) := by unfold lit0t0_0; rw [Nat.mod_mod]
  rw [e]
  exact (by decide +kernel : ∀ j : Fin 128, lit0t0_0 j.val = if j.val < 64 then 0x3C80#16 else 0#16) ⟨i % 128, Nat.mod_lt _ (by decide)⟩
theorem leafZ (i : ℕ) : lit0t0_1 i = 0#16 := by
  have e : lit0t0_1 i = lit0t0_1 (i % 128) := by unfold lit0t0_1; rw [Nat.mod_mod]
  rw [e]
  exact (by decide +kernel : ∀ j : Fin 128, lit0t0_1 j.val = 0#16) ⟨i % 128, Nat.mod_lt _ (by decide)⟩
theorem leafS (i : ℕ) : lit0t0_128 i = if i % 128 < 64 then 0#16 else 0x3C80#16 := by
  have e : lit0t0_128 i = lit0t0_128 (i % 128) := by unfold lit0t0_128; rw [Nat.mod_mod]
  rw [e]
  exact (by decide +kernel : ∀ j : Fin 128, lit0t0_128 j.val = if j.val < 64 then 0#16 else 0x3C80#16) ⟨i % 128, Nat.mod_lt _ (by decide)⟩

theorem mid0 (i : ℕ) : lit0t1_0 i = if (i / 128 % 128) % 2 = 0 then lit0t0_0 i else lit0t0_1 i := by
  unfold lit0t1_0
  have h : i / 128 % 128 < 128 := Nat.mod_lt _ (by decide)
  generalize i / 128 % 128 = q at h ⊢
  interval_cases q <;> rfl

theorem mid1 (i : ℕ) : lit0t1_1 i = if (i / 128 % 128) % 2 = 0 then lit0t0_128 i else lit0t0_1 i := by
  unfold lit0t1_1
  have h : i / 128 % 128 < 128 := Nat.mod_lt _ (by decide)
  generalize i / 128 % 128 = q at h ⊢
  interval_cases q <;> rfl

theorem mid2 (i : ℕ) : lit0t1_2 i = if (i / 128 % 128) % 2 = 0 then lit0t0_1 i else lit0t0_0 i := by
  unfold lit0t1_2
  have h : i / 128 % 128 < 128 := Nat.mod_lt _ (by decide)
  generalize i / 128 % 128 = q at h ⊢
  interval_cases q <;> rfl

theorem mid3 (i : ℕ) : lit0t1_3 i = if (i / 128 % 128) % 2 = 0 then lit0t0_1 i else lit0t0_128 i := by
  unfold lit0t1_3
  have h : i / 128 % 128 < 128 := Nat.mod_lt _ (by decide)
  generalize i / 128 % 128 = q at h ⊢
  interval_cases q <;> rfl

theorem lit_entry (r c : Fin 256) : lit0t (256 * r.val + c.val) = if r.val / 64 = c.val / 64 then 0x3C80#16 else 0#16 := by
  have q : (256 * r.val + c.val) / 16384 = r.val / 64 := by omega
  have h : (256 * r.val + c.val) / 128 % 128 % 2 = c.val / 128 := by omega
  have l : (256 * r.val + c.val) % 128 = c.val % 128 := by omega
  unfold lit0t
  rw [q]
  have hr : r.val / 64 < 4 := by omega
  generalize r.val / 64 = a at hr ⊢
  interval_cases a <;> simp only [mid0, mid1, mid2, mid3, leafF, leafZ, leafS, h, l] <;> split_ifs <;> first | rfl | omega

theorem V_cst : IsMean (V m c main_cst : Vec Ideal S256x256 .bf16) := by
  intro x y
  have e : (V m c main_cst : Vec Ideal S256x256 .bf16) (ix2 x y) = Ideal.ofBits .bf16 (lit0 (S256x256.rowMajor (ix2 x y))) := by
    unfold V
    after_reads_at
  refine e.trans ?_
  have l : lit0 (S256x256.rowMajor (ix2 x y)) = lit0t (256 * x.val + y.val) := by
    show lit0t (S256x256.rowMajor (ix2 x y)).val = _
    congr 1
    rw [Shape.rowMajor_val_two]
    show x.val * 256 + y.val = _
    omega
  rw [l, lit_entry]
  split_ifs
  · rfl
  · exact Ideal.ofBits_zero_bf16

/-- The host's zero matrix with the direction's sixteen rows of weights set from row sixteen on. -/
theorem scatter_rows (z : Vec Ideal S128x128 .f32) (u : Vec Ideal S16x128 .f32) (y x : Fin 128) :
    Host.scatter scatter_S128x128_S1_S16x128_01_n_0_0 (fun _ b => b) z (broadcastInDim S1 ![] bcast_S_S1 (constantI S_ 32 16#32)) u (ix2 y x)
      = if h : 16 ≤ y.val ∧ y.val < 32 then u (ix2 ⟨y.val - 16, by omega⟩ x) else z (ix2 y x) := by
  have hk : ∀ k : S16x128.Idx, scatter_S128x128_S1_S16x128_01_n_0_0.resultIdx? k (broadcastInDim S1 ![] bcast_S_S1 (constantI S_ 32 16#32)) = some (ix2 y x)
      ↔ (k 0).val + 16 = y.val ∧ (k 1).val = x.val := fun k => by
    have w0 : scatter_S128x128_S1_S16x128_01_n_0_0.window k (0 : Fin 2) = (k 0).val := rfl
    have w1 : scatter_S128x128_S1_S16x128_01_n_0_0.window k (1 : Fin 2) = (k 1).val := rfl
    have s0 : scatter_S128x128_S1_S16x128_01_n_0_0.start k (broadcastInDim S1 ![] bcast_S_S1 (constantI S_ 32 16#32)) (0 : Fin 2) = 16 := rfl
    have s1 : scatter_S128x128_S1_S16x128_01_n_0_0.start k (broadcastInDim S1 ![] bcast_S_S1 (constantI S_ 32 16#32)) (1 : Fin 2) = 0 := rfl
    refine (Routing.resultIdx?_ix2 _ k _ y x).trans ?_
    rw [w0, w1, s0, s1]
    omega
  by_cases h : 16 ≤ y.val ∧ y.val < 32
  · rw [dif_pos h]
    refine Routing.scatter_set_hit _ z _ u _ _ (fun k e => ?_) (ix2 ⟨y.val - 16, by omega⟩ x) ((hk _).mpr ⟨by show y.val - 16 + 16 = y.val; omega, rfl⟩)
    obtain ⟨e0, e1⟩ := (hk k).mp e
    congr 1
    funext a
    match a with
    | ⟨0, _⟩ => exact Fin.ext (by show (k 0).val = y.val - 16; omega)
    | ⟨1, _⟩ => exact Fin.ext e1
  · rw [dif_neg h]
    refine Routing.scatter_set_miss _ z _ u _ fun k e => ?_
    have e0 := ((hk k).mp e).1
    have : (k 0).val < 16 := (k 0).isLt
    omega

theorem V_v5 (y x : Fin 128) : (V m c main_v5 : Vec Ideal S128x128 .f32) (ix2 y x) = if h : 16 ≤ y.val ∧ y.val < 32 then (m ((c : Thread nD τ).loc main_arg1) : Vec Ideal S2x16x128 .f32) (ix3 1 ⟨y.val - 16, by omega⟩ x) else (0 : EReal) := by
  unfold V
  after_reads_at
  rw [scatter_rows]
  split
  · rfl
  · show Ideal.ofBits .f32 0x00000000#32 = 0
    exact Ideal.ofBits_zero_f32

end Cert.Kernel9Ideal.Hand

end
-- ==== Proof.GlbRun.lean ====
/-
  The backward kernel's grid over the extended reals: the blocks that each point reads, the rows and states that it leaves,
  and by induction over the sixteen points what the result array holds.
-/
module

public import proofs.«01_k».proof.Proof.GlbHost
public import proofs.«01_k».proof.Proof.GlaRun

@[expose] public section

set_option maxRecDepth 16384

noncomputable section

namespace Cert.Kernel9Ideal.Hand

open Idealize.ShloMosaic Idealize.ShloMosaic.TcCoe Idealize.ShloMosaic.Tactic
open Cert.Kernel9Ideal Cert.Kernel9Ideal.Gen Cert.Kernel9Ideal.Value Cert.GlaSpec Cert.GlbSpec
open Cert.KernelIdeal.Hand (rowN qN kN vN gf gB stateOf getS stB IsSt stB_isSt)

/-! ## The log decays, gates and forward results, row by row -/

section
variable (P : Fin 2 → Fin 8192 → Fin 800 → EReal) (w : Fin 16 → Fin 128 → EReal) (β : Fin 128 → EReal)

/-- The backward log decay of a row: the second sixteen low-rank columns through the decay weights, plus the bias. -/
def gN (b : Fin 2) (n : ℕ) (c : Fin 128) : EReal := gf ((∑ x : Fin 16, P b (rowN n) ⟨768 + (16 + x.val), by omega⟩ * w x c) + β c)
/-- The gate's column. -/
def tN (b : Fin 2) (n : ℕ) (c : Fin 256) : EReal := P b (rowN n) ⟨512 + c.val, by omega⟩
/-- A row of another array. -/
def fN (f : Fin 2 → Fin 8192 → Fin 256 → EReal) (b : Fin 2) (n : ℕ) (c : Fin 256) : EReal := f b (rowN n) c
end

variable (m : (ℓ : Loc nD τ sig) → Buf (Elt Ideal) ℓ) (c : Dev nD)

def pM (b : Fin 2) (y : Fin 8192) (x : Fin 800) : EReal := (m ((c : Thread nD τ).loc main_arg0) : Vec Ideal S2x8192x800 .f32) (ix3 b y x)
def wM (x : Fin 16) (y : Fin 128) : EReal := (m ((c : Thread nD τ).loc main_arg1) : Vec Ideal S2x16x128 .f32) (ix3 1 x y)
def βM (y : Fin 128) : EReal := (m ((c : Thread nD τ).loc main_arg2) : Vec Ideal S2x128 .f32) (ix2 1 y)
def nM (y : Fin 256) : EReal := (m ((c : Thread nD τ).loc main_arg3) : Vec Ideal S256 .f32) (ix1 y)
def fM (b : Fin 2) (y : Fin 8192) (x : Fin 256) : EReal := (m ((c : Thread nD τ).loc main_arg4) : Vec Ideal S2x8192x256 .f32) (ix3 b y x)

/-! ## The blocks -/

theorem idx0 : ∀ t : Fin cfg0.N, win0_0.index t (0 : Fin 3) = 0 ∧ win0_0.index t (1 : Fin 3) = 15 - t.val ∧ win0_0.index t (2 : Fin 3) = 0 := by decide +kernel
theorem idx1 : ∀ t : Fin cfg0.N, win0_1.index t (0 : Fin 3) = 0 ∧ win0_1.index t (1 : Fin 3) = 15 - t.val ∧ win0_1.index t (2 : Fin 3) = 1 := by decide +kernel
theorem idx2 : ∀ t : Fin cfg0.N, win0_2.index t (0 : Fin 3) = 0 ∧ win0_2.index t (1 : Fin 3) = 15 - t.val ∧ win0_2.index t (2 : Fin 3) = 1 := by decide +kernel
theorem idx3 : ∀ t : Fin cfg0.N, win0_3.index t (0 : Fin 3) = 0 ∧ win0_3.index t (1 : Fin 3) = 15 - t.val ∧ win0_3.index t (2 : Fin 3) = 6 := by decide +kernel
theorem idx6 : ∀ t : Fin cfg0.N, win0_6.index t (0 : Fin 3) = 0 ∧ win0_6.index t (1 : Fin 3) = 15 - t.val ∧ win0_6.index t (2 : Fin 3) = 0 := by decide +kernel
theorem idx7 : ∀ t : Fin cfg0.N, win0_7.index t (0 : Fin 3) = 0 ∧ win0_7.index t (1 : Fin 3) = 15 - t.val ∧ win0_7.index t (2 : Fin 3) = 2 := by decide +kernel
theorem idx10 : ∀ t : Fin cfg0.N, win0_10.index t (0 : Fin 3) = 0 ∧ win0_10.index t (1 : Fin 3) = 15 - t.val ∧ win0_10.index t (2 : Fin 3) = 0 := by decide +kernel
theorem idx4 : ∀ t : Fin cfg0.N, win0_4.index t (0 : Fin 2) = 0 ∧ win0_4.index t (1 : Fin 2) = 0 := by decide +kernel
theorem idx5 : ∀ t : Fin cfg0.N, win0_5.index t (0 : Fin 2) = 0 ∧ win0_5.index t (1 : Fin 2) = 0 := by decide +kernel
theorem idx8 : ∀ t : Fin cfg0.N, win0_8.index t (0 : Fin 2) = 0 ∧ win0_8.index t (1 : Fin 2) = 0 := by decide +kernel
theorem idx9 : ∀ t : Fin cfg0.N, win0_9.index t (0 : Fin 2) = 0 ∧ win0_9.index t (1 : Fin 2) = 0 := by decide +kernel

theorem tlt (t : Fin cfg0.N) : t.val < 16 := lt_of_lt_of_eq t.isLt N_0

/-- Row y of the block that point t reads. -/
def ry (t : Fin cfg0.N) (y : Fin 512) : Fin 8192 := ⟨512 * (15 - t.val) + y.val, by omega⟩

theorem blk0 (t : Fin cfg0.N) (b : Fin 2) (y : Fin 512) (x : Fin 128) :
    (iblk m c 0 t : Vec Ideal S2x512x128 .f32) (ix3 b y x) = (V m c main_v0 : Vec Ideal S2x8192x896 .f32) (ix3 b (ry t y) ⟨x.val, by omega⟩) := by
  unfold iblk
  rw [View.read_apply]
  show V m c main_v0 _ = _
  congr 1
  obtain ⟨h0, h1, h2⟩ := idx0 t
  funext a; apply Fin.ext
  match a with
  | ⟨0, _⟩ => show win0_0.index t (0 : Fin 3) * 2 + 1 * b.val = b.val; rw [h0]; omega
  | ⟨1, _⟩ => show win0_0.index t (1 : Fin 3) * 512 + 1 * y.val = 512 * (15 - t.val) + y.val; rw [h1]; omega
  | ⟨2, _⟩ => show win0_0.index t (2 : Fin 3) * 128 + 1 * x.val = x.val; rw [h2]; omega

theorem blk1 (t : Fin cfg0.N) (b : Fin 2) (y : Fin 512) (x : Fin 128) :
    (iblk m c 1 t : Vec Ideal S2x512x128 .f32) (ix3 b y x) = (V m c main_v0 : Vec Ideal S2x8192x896 .f32) (ix3 b (ry t y) ⟨128 + x.val, by omega⟩) := by
  unfold iblk
  rw [View.read_apply]
  show V m c main_v0 _ = _
  congr 1
  obtain ⟨h0, h1, h2⟩ := idx1 t
  funext a; apply Fin.ext
  match a with
  | ⟨0, _⟩ => show win0_1.index t (0 : Fin 3) * 2 + 1 * b.val = b.val; rw [h0]; omega
  | ⟨1, _⟩ => show win0_1.index t (1 : Fin 3) * 512 + 1 * y.val = 512 * (15 - t.val) + y.val; rw [h1]; omega
  | ⟨2, _⟩ => show win0_1.index t (2 : Fin 3) * 128 + 1 * x.val = 128 + x.val; rw [h2]; omega

theorem blk3 (t : Fin cfg0.N) (b : Fin 2) (y : Fin 512) (x : Fin 128) :
    (iblk m c 3 t : Vec Ideal S2x512x128 .f32) (ix3 b y x) = (V m c main_v0 : Vec Ideal S2x8192x896 .f32) (ix3 b (ry t y) ⟨768 + x.val, by omega⟩) := by
  unfold iblk
  rw [View.read_apply]
  show V m c main_v0 _ = _
  congr 1
  obtain ⟨h0, h1, h2⟩ := idx3 t
  funext a; apply Fin.ext
  match a with
  | ⟨0, _⟩ => show win0_3.index t (0 : Fin 3) * 2 + 1 * b.val = b.val; rw [h0]; omega
  | ⟨1, _⟩ => show win0_3.index t (1 : Fin 3) * 512 + 1 * y.val = 512 * (15 - t.val) + y.val; rw [h1]; omega
  | ⟨2, _⟩ => show win0_3.index t (2 : Fin 3) * 128 + 1 * x.val = 768 + x.val; rw [h2]; omega

theorem blk2 (t : Fin cfg0.N) (b : Fin 2) (y : Fin 512) (x : Fin 256) :
    (X0_2 m c t : Vec Ideal S2x512x256 .f32) (ix3 b y x) = (V m c main_v0 : Vec Ideal S2x8192x896 .f32) (ix3 b (ry t y) ⟨256 + x.val, by omega⟩) := by
  unfold X0_2 Pipeline.Window.fill
  rw [dif_pos (moved0_2 t _)]
  unfold iblk
  rw [View.read_apply]
  show V m c main_v0 _ = _
  congr 1
  obtain ⟨h0, h1, h2⟩ := idx2 t
  funext a; apply Fin.ext
  match a with
  | ⟨0, _⟩ => show win0_2.index t (0 : Fin 3) * 2 + 1 * b.val = b.val; rw [h0]; omega
  | ⟨1, _⟩ => show win0_2.index t (1 : Fin 3) * 512 + 1 * y.val = 512 * (15 - t.val) + y.val; rw [h1]; omega
  | ⟨2, _⟩ => show win0_2.index t (2 : Fin 3) * 256 + 1 * x.val = 256 + x.val; rw [h2]; omega

theorem blk7 (t : Fin cfg0.N) (b : Fin 2) (y : Fin 512) (x : Fin 256) :
    (X0_7 m c t : Vec Ideal S2x512x256 .f32) (ix3 b y x) = (V m c main_v0 : Vec Ideal S2x8192x896 .f32) (ix3 b (ry t y) ⟨512 + x.val, by omega⟩) := by
  unfold X0_7 Pipeline.Window.fill
  rw [dif_pos (moved0_7 t _)]
  unfold iblk
  rw [View.read_apply]
  show V m c main_v0 _ = _
  congr 1
  obtain ⟨h0, h1, h2⟩ := idx7 t
  funext a; apply Fin.ext
  match a with
  | ⟨0, _⟩ => show win0_7.index t (0 : Fin 3) * 2 + 1 * b.val = b.val; rw [h0]; omega
  | ⟨1, _⟩ => show win0_7.index t (1 : Fin 3) * 512 + 1 * y.val = 512 * (15 - t.val) + y.val; rw [h1]; omega
  | ⟨2, _⟩ => show win0_7.index t (2 : Fin 3) * 256 + 1 * x.val = 512 + x.val; rw [h2]; omega

theorem blk6 (t : Fin cfg0.N) (b : Fin 2) (y : Fin 512) (x : Fin 256) :
    (iblk m c 6 t : Vec Ideal S2x512x256 .f32) (ix3 b y x) = (V m c main_arg4 : Vec Ideal S2x8192x256 .f32) (ix3 b (ry t y) x) := by
  unfold iblk
  rw [View.read_apply]
  show V m c main_arg4 _ = _
  congr 1
  obtain ⟨h0, h1, h2⟩ := idx6 t
  funext a; apply Fin.ext
  match a with
  | ⟨0, _⟩ => show win0_6.index t (0 : Fin 3) * 2 + 1 * b.val = b.val; rw [h0]; omega
  | ⟨1, _⟩ => show win0_6.index t (1 : Fin 3) * 512 + 1 * y.val = 512 * (15 - t.val) + y.val; rw [h1]; omega
  | ⟨2, _⟩ => show win0_6.index t (2 : Fin 3) * 256 + 1 * x.val = x.val; rw [h2]; omega

theorem blk4 (t : Fin cfg0.N) (y : Fin 128) (x : Fin 128) :
    (iblk m c 4 t : Vec Ideal S128x128 .f32) (ix2 y x) = (V m c main_v5 : Vec Ideal S128x128 .f32) (ix2 y x) := by
  unfold iblk
  rw [View.read_apply]
  show V m c main_v5 _ = _
  congr 1
  obtain ⟨h0, h1⟩ := idx4 t
  funext a; apply Fin.ext
  match a with
  | ⟨0, _⟩ => show win0_4.index t (0 : Fin 2) * 128 + 1 * y.val = y.val; rw [h0]; omega
  | ⟨1, _⟩ => show win0_4.index t (1 : Fin 2) * 128 + 1 * x.val = x.val; rw [h1]; omega

theorem blk5 (t : Fin cfg0.N) (y : Fin 1) (x : Fin 128) :
    (iblk m c 5 t : Vec Ideal S1x128 .f32) (ix2 y x) = (V m c main_v8 : Vec Ideal S1x128 .f32) (ix2 y x) := by
  unfold iblk
  rw [View.read_apply]
  show V m c main_v8 _ = _
  congr 1
  obtain ⟨h0, h1⟩ := idx5 t
  funext a; apply Fin.ext
  match a with
  | ⟨0, _⟩ => show win0_5.index t (0 : Fin 2) * 1 + 1 * y.val = y.val; rw [h0]; omega
  | ⟨1, _⟩ => show win0_5.index t (1 : Fin 2) * 128 + 1 * x.val = x.val; rw [h1]; omega

theorem blk8 (t : Fin cfg0.N) (y : Fin 1) (x : Fin 256) :
    (iblk m c 8 t : Vec Ideal S1x256 .f32) (ix2 y x) = (V m c main_v9 : Vec Ideal S1x256 .f32) (ix2 y x) := by
  unfold iblk
  rw [View.read_apply]
  show V m c main_v9 _ = _
  congr 1
  obtain ⟨h0, h1⟩ := idx8 t
  funext a; apply Fin.ext
  match a with
  | ⟨0, _⟩ => show win0_8.index t (0 : Fin 2) * 1 + 1 * y.val = y.val; rw [h0]; omega
  | ⟨1, _⟩ => show win0_8.index t (1 : Fin 2) * 256 + 1 * x.val = x.val; rw [h1]; omega

theorem blk9 (t : Fin cfg0.N) (y : Fin 256) (x : Fin 256) :
    (iblk m c 9 t : Vec Ideal S256x256 .bf16) (ix2 y x) = (V m c main_cst : Vec Ideal S256x256 .bf16) (ix2 y x) := by
  unfold iblk
  rw [View.read_apply]
  show V m c main_cst _ = _
  congr 1
  obtain ⟨h0, h1⟩ := idx9 t
  funext a; apply Fin.ext
  match a with
  | ⟨0, _⟩ => show win0_9.index t (0 : Fin 2) * 256 + 1 * y.val = y.val; rw [h0]; omega
  | ⟨1, _⟩ => show win0_9.index t (1 : Fin 2) * 256 + 1 * x.val = x.val; rw [h1]; omega

theorem ry_eq (t : Fin cfg0.N) (y : Fin 512) : ry t y = rowN (64 * (120 - 8 * t.val) + y.val) :=
  Fin.ext (by show 512 * (15 - t.val) + y.val = (64 * (120 - 8 * t.val) + y.val) % 8192; have := tlt t; omega)

/-- The low-rank block and the decay weights' block of a point, as arrays. -/
def lrB (t : Fin cfg0.N) : Vec Ideal S2x512x128 .f32 := iblk m c 3 t
def wdB (t : Fin cfg0.N) : Vec Ideal S128x128 .f32 := iblk m c 4 t

/-- What a point reads. -/
abbrev insB (t : Fin cfg0.N) : Ins Ideal := ⟨iblk m c 0 t, iblk m c 1 t, X0_2 m c t, iblk m c 3 t, iblk m c 4 t, iblk m c 5 t, iblk m c 6 t, X0_7 m c t, iblk m c 8 t, iblk m c 9 t⟩

theorem blocks_hq (t : Fin cfg0.N) (b : Fin 2) (y : Fin 512) (x : Fin 128) :
    (iblk m c 0 t : Vec Ideal S2x512x128 .f32) (ix3 b y x) = qN (pM m c) b (64 * (120 - 8 * t.val) + y.val) x := by
  refine (blk0 m c t b y x).trans ?_
  rw [V_v0, dif_pos (show x.val < 800 by omega), ry_eq]; rfl

theorem blocks_hk (t : Fin cfg0.N) (b : Fin 2) (y : Fin 512) (x : Fin 128) :
    (iblk m c 1 t : Vec Ideal S2x512x128 .f32) (ix3 b y x) = kN (pM m c) b (64 * (120 - 8 * t.val) + y.val) x := by
  refine (blk1 m c t b y x).trans ?_
  rw [V_v0, dif_pos (show 128 + x.val < 800 by omega), ry_eq]; rfl

theorem blocks_hv (t : Fin cfg0.N) (b : Fin 2) (y : Fin 512) (x : Fin 256) :
    (X0_2 m c t : Vec Ideal S2x512x256 .f32) (ix3 b y x) = vN (pM m c) b (64 * (120 - 8 * t.val) + y.val) x := by
  refine (blk2 m c t b y x).trans ?_
  rw [V_v0, dif_pos (show 256 + x.val < 800 by omega), ry_eq]; rfl

theorem blocks_ht (t : Fin cfg0.N) (b : Fin 2) (y : Fin 512) (x : Fin 256) :
    (X0_7 m c t : Vec Ideal S2x512x256 .f32) (ix3 b y x) = tN (pM m c) b (64 * (120 - 8 * t.val) + y.val) x := by
  refine (blk7 m c t b y x).trans ?_
  rw [V_v0, dif_pos (show 512 + x.val < 800 by omega), ry_eq]; rfl

theorem blocks_hf (t : Fin cfg0.N) (b : Fin 2) (y : Fin 512) (x : Fin 256) :
    (iblk m c 6 t : Vec Ideal S2x512x256 .f32) (ix3 b y x) = fN (fM m c) b (64 * (120 - 8 * t.val) + y.val) x := by
  refine (blk6 m c t b y x).trans ?_
  rw [V_main_arg4, ry_eq]; rfl

theorem blocks_hg (t : Fin cfg0.N) (b : Fin 2) (y : Fin 512) (x : Fin 128) :
    gB (lrB m c t) (wdB m c t) (iblk m c 5 t : Vec Ideal S1x128 .f32) b y x = gN (pM m c) (wM m c) (βM m c) b (64 * (120 - 8 * t.val) + y.val) x := by
  unfold gB gN
  congr 1
  congr 1
  · have e : ∀ z : Fin 128, lrB m c t (ix3 b y z) * wdB m c t (ix2 z x)
        = if h : 16 ≤ z.val ∧ z.val < 32 then pM m c b (rowN (64 * (120 - 8 * t.val) + y.val)) ⟨768 + z.val, by omega⟩ * wM m c ⟨z.val - 16, by omega⟩ x else (0 : EReal) := fun z => by
      rw [lrB, wdB, blk3, blk4, V_v5, V_v0, ry_eq]
      by_cases h : 16 ≤ z.val ∧ z.val < 32
      · rw [dif_pos h, dif_pos h, dif_pos (show 768 + z.val < 800 by omega)]; rfl
      · rw [dif_neg h, dif_neg h]; exact mul_zero _
    refine (Finset.sum_congr rfl fun z _ => e z).trans ?_
    refine (Fin.sum_univ_add (a := 16) (b := 16 + 96) (fun z : Fin (16 + (16 + 96)) => if h : 16 ≤ z.val ∧ z.val < 32 then pM m c b (rowN (64 * (120 - 8 * t.val) + y.val)) ⟨768 + z.val, by omega⟩ * wM m c ⟨z.val - 16, by omega⟩ x else (0 : EReal))).trans ?_
    refine (congrArg₂ (· + ·) (Finset.sum_eq_zero fun z _ => ?_) (Fin.sum_univ_add _)).trans ((zero_add _).trans ((congrArg₂ (· + ·) (Finset.sum_congr rfl fun z _ => ?_) (Finset.sum_eq_zero fun z _ => ?_)).trans (add_zero _)))
    · exact dif_neg (by show ¬ (16 ≤ z.val ∧ z.val < 32); omega)
    · refine (dif_pos (show 16 ≤ 16 + z.val ∧ 16 + z.val < 32 by omega)).trans ?_
      show pM m c b _ ⟨768 + (16 + z.val), _⟩ * wM m c ⟨16 + z.val - 16, _⟩ x = pM m c b _ ⟨768 + (16 + z.val), _⟩ * wM m c z x
      congr 2
      exact Fin.ext (by show 16 + z.val - 16 = z.val; omega)
    · exact dif_neg (by show ¬ (16 ≤ 16 + (16 + z.val) ∧ 16 + (16 + z.val) < 32); omega)
  · refine (blk5 m c t 0 x).trans ?_
    rw [V_v8]; rfl

theorem blocks_hg' (t : Fin cfg0.N) (b : Fin 2) (y : Fin 512) (x : Fin 128) :
    gB (iblk m c 3 t : Vec Ideal S2x512x128 .f32) (iblk m c 4 t : Vec Ideal S128x128 .f32) (iblk m c 5 t : Vec Ideal S1x128 .f32) b y x = gN (pM m c) (wM m c) (βM m c) b (64 * (120 - 8 * t.val) + y.val) x := by
  have h := blocks_hg m c t b y x
  unfold lrB wdB at h
  exact h
theorem blocks_hav (t : Fin cfg0.N) : IsMean (iblk m c 9 t : Vec Ideal S256x256 .bf16) := by
  have e : (iblk m c 9 t : Vec Ideal S256x256 .bf16) = (V m c main_cst : Vec Ideal S256x256 .bf16) := by
    funext i
    obtain ⟨x, y, rfl⟩ : ∃ (x y : Fin 256), i = ix2 x y := ⟨i 0, i 1, by funext a; match a with | ⟨0, _⟩ => rfl | ⟨1, _⟩ => rfl⟩
    exact blk9 m c t x y
  rw [e]
  exact V_cst m c

/-- Every point's blocks hold eight chunks of the padded projection's rows. -/
theorem blocks (t : Fin cfg0.N) :
    Blocks (qN (pM m c)) (kN (pM m c)) (gN (pM m c) (wM m c) (βM m c)) (vN (pM m c)) (fN (fM m c)) (tN (pM m c)) (nM m c) (8 * t.val) (insB m c t) where
  hn := by have := tlt t; omega
  hq := by exact blocks_hq m c t
  hk := by exact blocks_hk m c t
  hv := by exact blocks_hv m c t
  ht := by exact blocks_ht m c t
  hf := by exact blocks_hf m c t
  hgn := by exact fun x => (blk8 m c t 0 x).trans (V_v9 m c x)
  hav := by
    have h := blocks_hav m c t
    dsimp only
    exact h
  hg b y x := by
    have h := blocks_hg' m c t b y x
    dsimp only
    exact h

/-! ## What a point leaves -/

section
variable {Q K G : Fin 2 → ℕ → Fin 128 → EReal} {W Fw T : Fin 2 → ℕ → Fin 256 → EReal} {gn : Fin 256 → EReal} {n : ℕ}
variable (t : Fin cfg0.N) (H : Blocks Q K G W Fw T gn n (insB m c t)) (hR : ∀ b n i h w, Rl (both Q K G W Fw b n i h w))
include H hR

theorem pointA (h0 : t.val % 16 = 0) (hn : n = 0) : outsAt0 m c t.val t.isLt = (outB Q K G W Fw T gn n, stB (fl K) (fl G) (fl W) (n + 8)) := by
  rw [outsAt0_A m c t h0]
  have hs : ∀ b, IsSt (fl K) (fl G) (fl W) b n (getS (stateOf (k0_pay4 (F := Ideal)) b)) := fun b => stB_isSt _ b n (by rw [hn]; exact clear_stB')
  have e1 := piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (X0_2 m c t) (iblk m c 3 t) (iblk m c 4 t) (iblk m c 5 t) (iblk m c 6 t) (X0_7 m c t) (iblk m c 8 t) (iblk m c 9 t) ((hcond0_0 t).mpr h0)
  have e2 := storesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (X0_2 m c t) (iblk m c 3 t) (iblk m c 4 t) (iblk m c 5 t) (iblk m c 6 t) (X0_7 m c t) (iblk m c 8 t) (iblk m c 9 t) ((hcond0_0 t).mpr h0)
  have c1 := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (X0_2 m c t) (iblk m c 3 t) (iblk m c 4 t) (iblk m c 5 t) (iblk m c 6 t) (X0_7 m c t) (iblk m c 8 t) (iblk m c 9 t)
  refine Prod.ext ?_ ?_
  · dsimp only
    unfold out0_A_10
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (X0_2 m c t) (iblk m c 3 t) (iblk m c 4 t) (iblk m c 5 t) (iblk m c 6 t) (X0_7 m c t) (iblk m c 8 t) (iblk m c 9 t)).1 = L at e1 c1 ⊢
    subst e1
    funext y
    exact View.read_writes_apply_of_pieces _ _ _ _ (outPieces_out H _ hs hR) y (c1 y)
  · dsimp only
    unfold sout0_A_0
    generalize (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (X0_2 m c t) (iblk m c 3 t) (iblk m c 4 t) (iblk m c 5 t) (iblk m c 6 t) (X0_7 m c t) (iblk m c 8 t) (iblk m c 9 t)).2.1 = L at e2 ⊢
    subst e2
    funext y
    refine (View.read_writes_junk_apply_eq_canon _ y _).trans ?_
    exact View.canon_append_of_pieces _ _ _ (stPieces_st H _ hs) y (stPieces_cover (X := insB m c t) _ y)

theorem pointB (h0 : ¬ t.val % 16 = 0) (hp : (outsAt0 m c (t.val - 1) (Nat.lt_of_le_of_lt (Nat.sub_le _ _) t.isLt)).2 = stB (fl K) (fl G) (fl W) n) :
    outsAt0 m c t.val t.isLt = (outB Q K G W Fw T gn n, stB (fl K) (fl G) (fl W) (n + 8)) := by
  rw [outsAt0_B m c t h0]
  generalize (outsAt0 m c (t.val - 1) (Nat.lt_of_le_of_lt (Nat.sub_le _ _) t.isLt)).2 = xs at hp ⊢
  have hs : ∀ b, IsSt (fl K) (fl G) (fl W) b n (getS (stateOf xs b)) := fun b => stB_isSt _ b n hp
  have e1 := piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (X0_2 m c t) (iblk m c 3 t) (iblk m c 4 t) (iblk m c 5 t) (iblk m c 6 t) (X0_7 m c t) (iblk m c 8 t) (iblk m c 9 t) (fun h => h0 ((hcond0_0 t).mp h)) xs
  have e2 := storesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (X0_2 m c t) (iblk m c 3 t) (iblk m c 4 t) (iblk m c 5 t) (iblk m c 6 t) (X0_7 m c t) (iblk m c 8 t) (iblk m c 9 t) (fun h => h0 ((hcond0_0 t).mp h)) xs
  have c1 := cover0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (X0_2 m c t) (iblk m c 3 t) (iblk m c 4 t) (iblk m c 5 t) (iblk m c 6 t) (X0_7 m c t) (iblk m c 8 t) (iblk m c 9 t) xs
  refine Prod.ext ?_ ?_
  · dsimp only
    unfold out0_B_10
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (X0_2 m c t) (iblk m c 3 t) (iblk m c 4 t) (iblk m c 5 t) (iblk m c 6 t) (X0_7 m c t) (iblk m c 8 t) (iblk m c 9 t) xs).1 = L at e1 c1 ⊢
    subst e1
    funext y
    exact View.read_writes_apply_of_pieces _ _ _ _ (outPieces_out H _ hs hR) y (c1 y)
  · dsimp only
    unfold sout0_B_0
    generalize (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (X0_2 m c t) (iblk m c 3 t) (iblk m c 4 t) (iblk m c 5 t) (iblk m c 6 t) (X0_7 m c t) (iblk m c 8 t) (iblk m c 9 t) xs).2.1 = L at e2 ⊢
    subst e2
    funext y
    exact View.read_writes_apply_of_pieces _ _ _ _ (stPieces_st H _ hs) y (stPieces_cover (X := insB m c t) _ y)
end

/-- The blocks' functions, of a program's arguments. -/
abbrev hReal : Prop := ∀ b n i h w, Rl (both (qN (pM m c)) (kN (pM m c)) (gN (pM m c) (wM m c) (βM m c)) (vN (pM m c)) (fN (fM m c)) b n i h w)

variable (hR : hReal m c)
include hR

/-- What the buffers hold after each point: its rows, and the states that enter the next chunk. -/
theorem outsAt_eq : ∀ (n : ℕ) (hn : n < cfg0.N), outsAt0 m c n hn
    = (outB (qN (pM m c)) (kN (pM m c)) (gN (pM m c) (wM m c) (βM m c)) (vN (pM m c)) (fN (fM m c)) (tN (pM m c)) (nM m c) (8 * n),
        stB (fl (kN (pM m c))) (fl (gN (pM m c) (wM m c) (βM m c))) (fl (vN (pM m c))) (8 * n + 8))
  | 0, hn => pointA m c ⟨0, hn⟩ (blocks m c ⟨0, hn⟩) hR rfl rfl
  | n + 1, hn => pointB m c ⟨n + 1, hn⟩ (blocks m c ⟨n + 1, hn⟩) hR (by have h : n + 1 < 16 := tlt ⟨n + 1, hn⟩; show ¬ (n + 1) % 16 = 0; omega)
      (by
        show (outsAt0 m c n _).2 = _
        rw [outsAt_eq n]
        rfl)

omit hR in
theorem flush10 : ∀ t : Fin cfg0.N, (cfg0.win 10).flush t = true := (by decide +kernel : ∀ t : Fin grid0.N, win0_10.flush t = true)

theorem result_at (t : Fin cfg0.N) (b : Fin 2) (r : Fin 512) (d : Fin 256) :
    ((dats m 0 c).arrAt 10 cfg0.N : Vec Ideal S2x8192x256 .bf16) (ix3 b (ry t r) d)
      = outB (qN (pM m c)) (kN (pM m c)) (gN (pM m c) (wM m c) (βM m c)) (vN (pM m c)) (fN (fM m c)) (tN (pM m c)) (nM m c) (8 * t.val) (ix3 b r d) := by
  have h := congrFun ((blocks10 m c t (flush10 t)).trans (flushed10 m c t)) (ix3 b r d)
  rw [outsAt_eq m c hR t.val t.isLt] at h
  rw [View.read_apply] at h
  refine Eq.trans (congrArg ((dats m 0 c).arrAt 10 cfg0.N : Vec Ideal S2x8192x256 .bf16) ?_) (h.trans (congrArg (outB (qN (pM m c)) (kN (pM m c)) (gN (pM m c) (wM m c) (βM m c)) (vN (pM m c)) (fN (fM m c)) (tN (pM m c)) (nM m c) (8 * t.val)) ?_))
  · obtain ⟨h0, h1, h2⟩ := idx10 t
    funext a; apply Fin.ext
    match a with
    | ⟨0, _⟩ => show b.val = win0_10.index t (0 : Fin 3) * 2 + 1 * b.val; rw [h0]; omega
    | ⟨1, _⟩ => show 512 * (15 - t.val) + r.val = win0_10.index t (1 : Fin 3) * 512 + 1 * r.val; rw [h1]; omega
    | ⟨2, _⟩ => show d.val = win0_10.index t (2 : Fin 3) * 256 + 1 * d.val; rw [h2]; omega
  · funext a; apply Fin.ext
    match a with
    | ⟨0, _⟩ => rfl
    | ⟨1, _⟩ => rfl
    | ⟨2, _⟩ => rfl

/-- The result array, at an index. -/
theorem result_apply (b : Fin 2) (y : Fin 8192) (x : Fin 256) : ((dats m 0 c).arrAt 10 cfg0.N : Vec Ideal S2x8192x256 .bf16) (ix3 b y x)
    = res (qN (pM m c)) (kN (pM m c)) (gN (pM m c) (wM m c) (βM m c)) (vN (pM m c)) (fN (fM m c)) (tN (pM m c)) (nM m c) b (127 - y.val / 64) ⟨y.val % 64, Nat.mod_lt _ (by decide)⟩
        ⟨x.val / 64, by omega⟩ ⟨x.val % 64, Nat.mod_lt _ (by decide)⟩ := by
  have hN : 15 - y.val / 512 < cfg0.N := lt_of_lt_of_eq (by omega) N_0.symm
  have h := result_at m c hR ⟨15 - y.val / 512, hN⟩ b ⟨y.val % 512, by omega⟩ x
  have ey : ry ⟨15 - y.val / 512, hN⟩ ⟨y.val % 512, by omega⟩ = y := Fin.ext (by show 512 * (15 - (15 - y.val / 512)) + y.val % 512 = y.val; omega)
  rw [ey] at h
  rw [h]
  unfold outB
  congr 1
  · show 8 * (15 - y.val / 512) + (7 - y.val % 512 / 64) = 127 - y.val / 64
    omega
  · exact Fin.ext (by show y.val % 512 % 64 = y.val % 64; omega)

end Cert.Kernel9Ideal.Hand

end
-- ==== Proof.GlbPre.lean ====
/-
  What the precondition of the backward recurrence says, entry by entry: the arrays it reads hold real numbers.  From
  that the log decays, the recurrence's rows and their sums with the forward rows are real.
-/
module

public import proofs.«01_k».proof.Proof.GlbRun
public import proofs.«01_k».proof.Proof.Gen.Pre_finite9
public import Idealize.ShloMosaic.Lib.ReduceAll
public import Idealize.ShloMosaic.Lib.Pointwise

@[expose] public section

set_option maxRecDepth 16384

noncomputable section

namespace Cert.GlbPre

open Idealize.ShloMosaic
open Cert.GlaSpec Cert.GlbSpec
open Cert.KernelIdeal.Hand (gf qN kN vN rowN)
open Cert.Kernel9Ideal.Hand (gN tN fN both)

/-! ## Real values -/

theorem rl_ofBits (w : BitVec 32) (r : ℝ) (h : Ideal.ofBits .f32 w = (r : EReal)) : Rl (Ideal.ofBits .f32 w) := ⟨r, h⟩

theorem rl_scale : Rl (Ideal.ofBits .f32 0x3E3504F3#32) := by
  simp only [Ideal.ofBits, Ideal.ieee]
  norm_num
  exact ⟨_, rfl⟩
theorem rl_sixteenth : Rl (Ideal.ofBits .f32 0x3D800000#32) := by
  simp only [Ideal.ofBits, Ideal.ieee]
  norm_num
  exact ⟨_, rfl⟩

theorem rl_min {x y : EReal} : Rl x → Rl y → Rl (min x y) := fun hx hy => by
  rcases min_choice x y with h | h <;> rw [h] <;> assumption
theorem rl_max {x y : EReal} : Rl x → Rl y → Rl (max x y) := fun hx hy => by
  rcases max_choice x y with h | h <;> rw [h] <;> assumption
theorem rl_neg {x : EReal} : Rl x → Rl (-x) | ⟨a, ha⟩ => ⟨-a, by rw [ha, EReal.coe_neg]⟩

/-- The logarithm of one plus an exponential of a real number is real. -/
theorem rl_log1p_exp {x : EReal} : Rl x → Rl (Ideal.log1p (Ideal.exp x)) := by
  rintro ⟨a, ha⟩
  refine ⟨Real.log (1 + Real.exp a), ?_⟩
  unfold Ideal.log1p
  rw [ha, Ideal.exp_coe, show (1 : EReal) + ((Real.exp a : ℝ) : EReal) = ((1 + Real.exp a : ℝ) : EReal) from by rw [EReal.coe_add]; rfl, Ideal.log_coe, if_neg (by have := Real.exp_pos a; linarith)]

/-- A log decay is real where its logit is. -/
theorem rl_gf {z : EReal} (h : Rl z) : Rl (gf z) := by
  unfold gf
  exact ((rl_min h Rl.zero).sub (rl_log1p_exp (Rl.zero.sub (rl_max h (rl_neg h))))).mul rl_sixteenth

/-! ## The precondition's words -/

theorem top_word : Ideal.ofBits .f32 0x7F800000#32 = ⊤ := by simp [Ideal.ofBits, Ideal.ieee]

theorem rl_of_lt (x : EReal) (h : Ideal.cmp .olt (max x (-x)) (Ideal.ofBits .f32 0x7F800000#32) = 1#1) : Rl x := by
  rw [top_word] at h
  unfold Ideal.cmp at h
  by_cases e : max x (-x) < ⊤
  · rw [max_lt_iff] at e
    induction x with
    | bot => exact absurd e.2 (by simp)
    | top => exact absurd e.1 (by simp)
    | coe r => exact ⟨r, rfl⟩
  · exact absurd h (by simp [e])

theorem and_one : ∀ a b : BitVec 1, IntOp.andi a b = 1#1 → a = 1#1 ∧ b = 1#1 := by decide

instance : Subsingleton Cert.Pre_finite9.S_.Idx := ⟨fun a b => funext fun i => i.elim0⟩

/-- An array whose every magnitude is below infinity holds real numbers. -/
theorem all_rl {s : Shape} {axes : List (Fin s.rank)} (x : FVec Ideal s .f32) (hb : Cert.Pre_finite9.S_.BroadcastsInDim s (![] : Fin 0 → Fin s.rank))
    (h : s.ReducesTo axes Cert.Pre_finite9.S_) (hu : 0 < Cert.Pre_finite9.S_.numel)
    (e : Host.reduce IntOp.andi (cmpf .olt (Host.absf x) (broadcastInDim s ![] hb (constant Cert.Pre_finite9.S_ .f32 0x7F800000#32))) (constantI Cert.Pre_finite9.S_ 1 1#1) h hu ix0 = 1#1)
    (i : s.Idx) : Rl (x i) :=
  rl_of_lt (x i) (Host.reduce_andi_all _ _ h hu ix0 e i)

section
variable (A0 : FVec Ideal Cert.Pre_finite9.S2x8192x800 .f32) (A1 : FVec Ideal Cert.Pre_finite9.S2x16x128 .f32) (A2 : FVec Ideal Cert.Pre_finite9.S2x128 .f32)
  (A3 : FVec Ideal Cert.Pre_finite9.S256 .f32) (A4 : FVec Ideal Cert.Pre_finite9.S2x8192x256 .f32)
  (H : Cert.Pre_finite9.fn (F := Ideal) A0 A1 A2 A3 A4 = fun _ => 1#1)
include H

theorem words : (∀ i, Rl (extractStridedSlice Cert.Pre_finite9.S2x8192x512 ![0, 0, 0] A0 Cert.Pre_finite9.Facts.slices_S2x8192x800_S2x8192x512_0_0_0 i))
    ∧ (∀ i, Rl (extractStridedSlice Cert.Pre_finite9.S2x8192x16 ![0, 0, 784] A0 Cert.Pre_finite9.Facts.slices_S2x8192x800_S2x8192x16_0_0_784 i))
    ∧ (∀ i, Rl (shapeCast Cert.Pre_finite9.S16x128 (extractStridedSlice Cert.Pre_finite9.S1x16x128 ![1, 0, 0] A1 Cert.Pre_finite9.Facts.slices_S2x16x128_S1x16x128_1_0_0) Cert.Pre_finite9.Facts.shapeCasts_S1x16x128_S16x128 i))
    ∧ (∀ i, Rl (shapeCast Cert.Pre_finite9.S128 (extractStridedSlice Cert.Pre_finite9.S1x128 ![1, 0] A2 Cert.Pre_finite9.Facts.slices_S2x128_S1x128_1_0) Cert.Pre_finite9.Facts.shapeCasts_S1x128_S128 i))
    ∧ ∀ i, Rl (A4 i) := by
  have h := congrFun H ix0
  unfold Cert.Pre_finite9.fn Cert.Pre_finite9.fn_part1 at h
  obtain ⟨h, h5⟩ := and_one _ _ h
  obtain ⟨h, h4⟩ := and_one _ _ h
  obtain ⟨h, h3⟩ := and_one _ _ h
  obtain ⟨h1, h2⟩ := and_one _ _ h
  exact ⟨all_rl _ _ _ _ h1, all_rl _ _ _ _ h2, all_rl _ _ _ _ h3, all_rl _ _ _ _ h4, all_rl _ _ _ _ h5⟩

theorem rl_head (b : Fin 2) (y : Fin 8192) (x : Fin 800) (hx : x.val < 512) : Rl (A0 (ix3 b y x)) := by
  have h := (words A0 A1 A2 A3 A4 H).1 (ix3 b y ⟨x.val, hx⟩)
  have e : extractStridedSlice Cert.Pre_finite9.S2x8192x512 ![0, 0, 0] A0 Cert.Pre_finite9.Facts.slices_S2x8192x800_S2x8192x512_0_0_0 (ix3 b y ⟨x.val, hx⟩) = A0 (ix3 b y x) := by
    pointwise
  rwa [e] at h
theorem rl_low (b : Fin 2) (y : Fin 8192) (x : Fin 16) : Rl (A0 (ix3 b y ⟨768 + (16 + x.val), by omega⟩)) := by
  have h := (words A0 A1 A2 A3 A4 H).2.1 (ix3 b y x)
  have e : extractStridedSlice Cert.Pre_finite9.S2x8192x16 ![0, 0, 784] A0 Cert.Pre_finite9.Facts.slices_S2x8192x800_S2x8192x16_0_0_784 (ix3 b y x) = A0 (ix3 b y ⟨768 + (16 + x.val), by omega⟩) := by
    pointwise
    exact congrArg (fun z : Fin 800 => A0 (ix3 b y z)) (Fin.ext (by show 784 + x.val = 768 + (16 + x.val); omega))
  rwa [e] at h
theorem rl_w (x : Fin 16) (y : Fin 128) : Rl (A1 (ix3 1 x y)) := by
  have h := (words A0 A1 A2 A3 A4 H).2.2.1 (ix2 x y)
  have e : shapeCast Cert.Pre_finite9.S16x128 (extractStridedSlice Cert.Pre_finite9.S1x16x128 ![1, 0, 0] A1 Cert.Pre_finite9.Facts.slices_S2x16x128_S1x16x128_1_0_0) Cert.Pre_finite9.Facts.shapeCasts_S1x16x128_S16x128 (ix2 x y) = A1 (ix3 1 x y) := by
    pointwise
  rwa [e] at h
theorem rl_b (y : Fin 128) : Rl (A2 (ix2 1 y)) := by
  have h := (words A0 A1 A2 A3 A4 H).2.2.2.1 (ix1 y)
  have e : shapeCast Cert.Pre_finite9.S128 (extractStridedSlice Cert.Pre_finite9.S1x128 ![1, 0] A2 Cert.Pre_finite9.Facts.slices_S2x128_S1x128_1_0) Cert.Pre_finite9.Facts.shapeCasts_S1x128_S128 (ix1 y) = A2 (ix2 1 y) := by
    pointwise
  rwa [e] at h
theorem rl_f (b : Fin 2) (y : Fin 8192) (x : Fin 256) : Rl (A4 (ix3 b y x)) := (words A0 A1 A2 A3 A4 H).2.2.2.2 _
end

/-! ## What follows of the recurrence's rows -/

section
open Cert.Kernel9Ideal.Hand (pM wM βM fM hReal)
variable (m : (ℓ : Loc Cert.Kernel9Ideal.nD Cert.Kernel9Ideal.τ Cert.Kernel9Ideal.sig) → Buf (Elt Ideal) ℓ) (c : Dev Cert.Kernel9Ideal.nD)
  (hP : ∀ b y x, x.val < 512 → Rl (pM m c b y x)) (hL : ∀ b y (x : Fin 16), Rl (pM m c b y ⟨768 + (16 + x.val), by omega⟩)) (hW : ∀ x y, Rl (wM m c x y)) (hB : ∀ y, Rl (βM m c y)) (hF : ∀ b y x, Rl (fM m c b y x))

include hL hW hB in
theorem rl_gN (b : Fin 2) (N : ℕ) (x : Fin 128) : Rl (gN (pM m c) (wM m c) (βM m c) b N x) :=
  rl_gf ((Rl.sum fun _ => (hL _ _ _).mul (hW _ _)).add (hB _))

include hP in
theorem rl_qN (b : Fin 2) (N : ℕ) (x : Fin 128) : Rl (qN (pM m c) b N x) := hP b (rowN N) ⟨x.val, by omega⟩ (by show x.val < 512; omega)
include hP in
theorem rl_kN (b : Fin 2) (N : ℕ) (x : Fin 128) : Rl (kN (pM m c) b N x) := hP b (rowN N) ⟨128 + x.val, by omega⟩ (by show 128 + x.val < 512; omega)
include hP in
theorem rl_vN (b : Fin 2) (N : ℕ) (x : Fin 256) : Rl (vN (pM m c) b N x) := hP b (rowN N) ⟨256 + x.val, by omega⟩ (by show 256 + x.val < 512; omega)

include hP hL hW hB hF in
theorem hReal_of : hReal m c := fun b n i h w =>
  (outR_rl _ _ _ _ _ rl_scale (rl_qN m c hP) (rl_kN m c hP) (rl_gN m c hL hW hB) (rl_vN m c hP) b n i h w).add (hF _ _ _)
end

end Cert.GlbPre

end
-- ==== Proof.GlbRefA.lean ====
/-
  The lines of the backward reference around its scan over the chunks, read at an index one stretch at a time: the
  projections' columns, the log decays, the reversed rows, their running sums within a chunk, the scores strictly below
  the diagonal, and the last lines, which turn the rows back, add the forward scan, normalise and gate.
-/
module

public import proofs.«01_k».proof.Proof.GlaRefA
public import proofs.«01_k».proof.Proof.GlbSpec
public import proofs.«01_k».proof.Proof.Gen.Reference9Ideal.Run
public import Idealize.ShloMosaic.Lib.StableHlo.ReadAt

@[expose] public section

set_option maxRecDepth 16384

noncomputable section

namespace Cert.Reference9Ideal.Hand

open Idealize.ShloMosaic Idealize.ShloMosaic.TcCoe Idealize.ShloMosaic.Tactic
open Cert.Reference9Ideal Cert.Reference9Ideal.Gen Cert.Reference9Ideal.Value Cert.GlaSpec Cert.GlbSpec
open Idealize.ShloMosaic.StableHlo (after)
open Cert.ReferenceIdeal.Hand (cum_apply lsg)

theorem rev_row (n : Fin 128) (i : Fin 64) (h : n.val * 64 + i.val < 8192) (h' : 8191 - (n.val * 64 + i.val) < 8192) : (⟨n.val * 64 + i.val, h⟩ : Fin 8192).rev = ⟨8191 - (n.val * 64 + i.val), h'⟩ := by
  apply Fin.ext; rw [Fin.val_rev]; show 8192 - (n.val * 64 + i.val + 1) = 8191 - (n.val * 64 + i.val); omega

variable (V : (b : DevRef τ sig) → b.ty.Contents (Elt Ideal))

/-! ## Before the scan -/

theorem a_v7 (b : Fin 2) (y : Fin 8192) (h : Fin 4) (κ : Fin 32) : (after hostOps0 V (Proc.devRef .tc main_v7) : Vec Ideal S2x8192x4x32 .f32) (ix4 b y h κ)
    = (fun p : EReal => p * Ideal.ofBits .f32 0x3E3504F3#32) ((V (Proc.devRef .tc main_arg0) : Vec Ideal S2x8192x800 .f32) (ix3 b y ⟨32 * h.val + κ.val, by omega⟩)) := by
  after_reads_at
  simp only [show h.val * 32 + κ.val = 32 * h.val + κ.val by omega]
theorem a_v8 (b : Fin 2) (y : Fin 8192) (h : Fin 4) (κ : Fin 32) : (after hostOps0 V (Proc.devRef .tc main_v8) : Vec Ideal S2x8192x4x32 .f32) (ix4 b y h κ)
    = (V (Proc.devRef .tc main_arg0) : Vec Ideal S2x8192x800 .f32) (ix3 b y ⟨128 + (32 * h.val + κ.val), by omega⟩) := by
  after_reads_at
  simp only [show h.val * 32 + κ.val = 32 * h.val + κ.val by omega]
theorem a_v9 (b : Fin 2) (y : Fin 8192) (h : Fin 4) (κ : Fin 64) : (after hostOps0 V (Proc.devRef .tc main_v9) : Vec Ideal S2x8192x4x64 .f32) (ix4 b y h κ)
    = (V (Proc.devRef .tc main_arg0) : Vec Ideal S2x8192x800 .f32) (ix3 b y ⟨256 + (64 * h.val + κ.val), by omega⟩) := by
  after_reads_at
  simp only [show h.val * 64 + κ.val = 64 * h.val + κ.val by omega]
/-- The projected log decays of the backward direction. -/
theorem a_v15 (b : Fin 2) (y : Fin 8192) (x : Fin 128) : (after hostOps0 V (Proc.devRef .tc main_v15) : Vec Ideal S2x8192x2x128 .f32) (ix4 b y 1 x)
    = (∑ r : Fin 16, (fun p q : EReal => p * q) ((V (Proc.devRef .tc main_arg1) : Vec Ideal S2x16x128 .f32) (ix3 1 r x)) ((V (Proc.devRef .tc main_arg0) : Vec Ideal S2x8192x800 .f32) (ix3 b y ⟨768 + (16 + r.val), by omega⟩)))
      + (fun p : EReal => p) ((V (Proc.devRef .tc main_arg2) : Vec Ideal S2x128 .f32) (ix2 1 x)) := by
  after_reads_at

theorem a_v16 (b : Fin 2) (y : Fin 8192) (d : Fin 2) (x : Fin 128) : (after hostOps0_1 V (Proc.devRef .tc main_v16) : Vec Ideal S2x8192x2x128 .f32) (ix4 b y d x)
    = lsg ((V (Proc.devRef .tc main_v15) : Vec Ideal S2x8192x2x128 .f32) (ix4 b y d x)) := by
  after_reads_at
  rw [if_neg (fun h => h rfl)]
  rfl

theorem a_v28 (b : Fin 2) (n : Fin 128) (i : Fin 64) (h : Fin 4) (κ : Fin 32) : (after hostOps0_2 V (Proc.devRef .tc main_v28) : Vec Ideal S2x128x64x4x32 .f32) (ix5 b n i h κ)
    = Ideal.div ((V (Proc.devRef .tc main_v16) : Vec Ideal S2x8192x2x128 .f32) (ix4 b ⟨8191 - (n.val * 64 + i.val), by omega⟩ 1 (hk h κ))) (Ideal.ofBits .f32 0x41800000#32) := by
  after_reads_at
  refine Eq.trans (b := Ideal.div ((V (Proc.devRef .tc main_v16) : Vec Ideal S2x8192x2x128 .f32) (ix4 b (Fin.rev ⟨n.val * 64 + i.val, by omega⟩) 1 ⟨h.val * 32 + κ.val, by omega⟩)) (Ideal.ofBits .f32 0x41800000#32)) rfl ?_
  rw [rev_row]
  simp only [show h.val * 32 + κ.val = 32 * h.val + κ.val by omega]
  rfl
theorem a_v26 (b : Fin 2) (n : Fin 128) (i : Fin 64) (h : Fin 4) (κ : Fin 32) : (after hostOps0_2 V (Proc.devRef .tc main_v26) : Vec Ideal S2x128x64x4x32 .f32) (ix5 b n i h κ)
    = (V (Proc.devRef .tc main_v7) : Vec Ideal S2x8192x4x32 .f32) (ix4 b ⟨8191 - (n.val * 64 + i.val), by omega⟩ h κ) := by
  after_reads_at
  refine Eq.trans (b := (V (Proc.devRef .tc main_v7) : Vec Ideal S2x8192x4x32 .f32) (ix4 b (Fin.rev ⟨n.val * 64 + i.val, by omega⟩) h κ)) rfl ?_
  rw [rev_row]
theorem a_v27 (b : Fin 2) (n : Fin 128) (i : Fin 64) (h : Fin 4) (κ : Fin 32) : (after hostOps0_2 V (Proc.devRef .tc main_v27) : Vec Ideal S2x128x64x4x32 .f32) (ix5 b n i h κ)
    = (V (Proc.devRef .tc main_v8) : Vec Ideal S2x8192x4x32 .f32) (ix4 b ⟨8191 - (n.val * 64 + i.val), by omega⟩ h κ) := by
  after_reads_at
  refine Eq.trans (b := (V (Proc.devRef .tc main_v8) : Vec Ideal S2x8192x4x32 .f32) (ix4 b (Fin.rev ⟨n.val * 64 + i.val, by omega⟩) h κ)) rfl ?_
  rw [rev_row]
theorem a_v29 (b : Fin 2) (n : Fin 128) (i : Fin 64) (h : Fin 4) (w : Fin 64) : (after hostOps0_2 V (Proc.devRef .tc main_v29) : Vec Ideal S2x128x64x4x64 .f32) (ix5 b n i h w)
    = (V (Proc.devRef .tc main_v9) : Vec Ideal S2x8192x4x64 .f32) (ix4 b ⟨8191 - (n.val * 64 + i.val), by omega⟩ h w) := by
  after_reads_at
  refine Eq.trans (b := (V (Proc.devRef .tc main_v9) : Vec Ideal S2x8192x4x64 .f32) (ix4 b (Fin.rev ⟨n.val * 64 + i.val, by omega⟩) h w)) rfl ?_
  rw [rev_row]
theorem a_v30 (b : Fin 2) (n : Fin 128) (i : Fin 64) (h : Fin 4) (κ : Fin 32) : (after hostOps0_3 V (Proc.devRef .tc main_v30) : Vec Ideal S2x128x64x4x32 .f32) (ix5 b n i h κ)
    = ∑ j : Fin 64, (if j ≤ i then (V (Proc.devRef .tc main_v28) : Vec Ideal S2x128x64x4x32 .f32) (ix5 b n j h κ) else 0 : EReal) := by
  after_reads_simp
  exact cum_apply _ _ Ideal.ofBits_zero_f32 b n i h κ

theorem a_v41 (b : Fin 2) (n : Fin 128) (i j : Fin 64) (h : Fin 4) : (after hostOps0_4 V (Proc.devRef .tc main_v41) : Vec Ideal S2x128x4x64x64 .f32) (ix5 b n h i j)
    = ∑ x : Fin 32, (fun q k b0 bi bj : EReal => q * Ideal.exp (bi - b0) * (k * Ideal.exp (b0 - bj)))
        ((V (Proc.devRef .tc main_v26) : Vec Ideal S2x128x64x4x32 .f32) (ix5 b n i h x)) ((V (Proc.devRef .tc main_v27) : Vec Ideal S2x128x64x4x32 .f32) (ix5 b n j h x))
        ((V (Proc.devRef .tc main_v30) : Vec Ideal S2x128x64x4x32 .f32) (ix5 b n 32 h x)) ((V (Proc.devRef .tc main_v30) : Vec Ideal S2x128x64x4x32 .f32) (ix5 b n i h x))
        ((V (Proc.devRef .tc main_v30) : Vec Ideal S2x128x64x4x32 .f32) (ix5 b n j h x)) := by
  after_reads_at
theorem a_v32 (b : Fin 2) (n : Fin 128) (i : Fin 1) (h : Fin 4) (κ : Fin 32) : (after hostOps0_4 V (Proc.devRef .tc main_v32) : Vec Ideal S2x128x1x4x32 .f32) (ix5 b n i h κ)
    = (V (Proc.devRef .tc main_v30) : Vec Ideal S2x128x64x4x32 .f32) (ix5 b n 63 h κ) := by
  after_reads_at
theorem a_v42 (i j : Fin 64) : (after hostOps0_4 V (Proc.devRef .tc main_v42) : Vec Ideal S64x64 .i1) (ix2 i j) = 1#1 := by
  after_reads_at
theorem stril_word (i j : Fin 64) : Scalar.select (IntOp.cmpi CmpIPredicate.sge (IntOp.addi (BitVec.ofNat 32 i.val) 4294967295#32) (BitVec.ofNat 32 j.val)) (1#1) (0#1) = if j < i then 1#1 else 0#1 := by
  revert i j
  decide +kernel
theorem a_v43 (i j : Fin 64) (h1 : (V (Proc.devRef .tc main_v42) : Vec Ideal S64x64 .i1) (ix2 i j) = 1#1) : (after hostOps0_5 V (Proc.devRef .tc main_v43) : Vec Ideal S64x64 .i1) (ix2 i j) = if j < i then 1#1 else 0#1 := by
  after_reads_at
  rw [h1]
  exact stril_word i j
theorem a_v44 (b : Fin 2) (n : Fin 128) (h : Fin 4) (i j : Fin 64) : (after hostOps0_7 V (Proc.devRef .tc main_v44) : Vec Ideal S2x128x4x64x64 .f32) (ix5 b n h i j)
    = if (V (Proc.devRef .tc main_v43) : Vec Ideal S64x64 .i1) (ix2 i j) = 1#1 then (V (Proc.devRef .tc main_v41) : Vec Ideal S2x128x4x64x64 .f32) (ix5 b n h i j) else (V (Proc.devRef .tc main_cst_1) : Vec Ideal S_ .f32) ix0 := by
  after_reads_at
  rfl
theorem a_cst1 : (after hostOps0_6 V (Proc.devRef .tc main_cst_1) : Vec Ideal S_ .f32) ix0 = (0 : EReal) := by
  after_reads_at

theorem a_v46 (b : Fin 2) (n : Fin 128) (i : Fin 64) (h : Fin 4) (w : Fin 64) : (after hostOps0_8 V (Proc.devRef .tc main_v46) : Vec Ideal S2x128x64x4x64 .f32) (ix5 b n i h w)
    = ∑ x : Fin 64, (fun p q : EReal => p * q) ((V (Proc.devRef .tc main_v29) : Vec Ideal S2x128x64x4x64 .f32) (ix5 b n x h w)) ((V (Proc.devRef .tc main_v44) : Vec Ideal S2x128x4x64x64 .f32) (ix5 b n h i x)) := by
  after_reads_at
theorem a_v570 (n : Fin 128) (b : Fin 2) (h : Fin 4) (κ : Fin 32) : (after hostOps0_8 V (Proc.devRef .tc main_v57_0) : Vec Ideal S128x2x4x32 .f32) (ix4 n b h κ)
    = Ideal.exp ((V (Proc.devRef .tc main_v32) : Vec Ideal S2x128x1x4x32 .f32) (ix5 b n 0 h κ)) := by
  after_reads_simp
  simp only [id]
  pointwise []
theorem a_v571 (n : Fin 128) (b : Fin 2) (h : Fin 4) (κ : Fin 32) (w : Fin 64) : (after hostOps0_8 V (Proc.devRef .tc main_v57_1) : Vec Ideal S128x2x4x32x64 .f32) (ix5 n b h κ w)
    = ∑ j : Fin 64, (fun k bl bj v : EReal => k * Ideal.exp (bl - bj) * v)
        ((V (Proc.devRef .tc main_v27) : Vec Ideal S2x128x64x4x32 .f32) (ix5 b n j h κ)) ((V (Proc.devRef .tc main_v32) : Vec Ideal S2x128x1x4x32 .f32) (ix5 b n 0 h κ))
        ((V (Proc.devRef .tc main_v30) : Vec Ideal S2x128x64x4x32 .f32) (ix5 b n j h κ)) ((V (Proc.devRef .tc main_v29) : Vec Ideal S2x128x64x4x64 .f32) (ix5 b n j h w)) := by
  after_reads_simp
  simp only [id]
  pointwise []
theorem a_v573 (b : Fin 2) (h : Fin 4) (κ : Fin 32) (w : Fin 64) : (after hostOps0_8 V (Proc.devRef .tc main_v57_3) : Vec Ideal S2x4x32x64 .f32) (ix4 b h κ w) = (0 : EReal) := by
  after_reads_simp
  simp only [id]
  pointwise []

/-! ## After the scan -/

theorem a_v66 (b : Fin 2) (y : Fin 8192) (h : Fin 4) (w : Fin 64) : (after hostOps0_9 V (Proc.devRef .tc main_v66) : Vec Ideal S2x8192x4x64 .f32) (ix4 b y h w)
    = (fun f p q : EReal => f + (p + q)) ((V (Proc.devRef .tc main_arg4) : Vec Ideal S2x8192x256 .f32) (ix3 b y (hv h w)))
      ((V (Proc.devRef .tc main_v46) : Vec Ideal S2x128x64x4x64 .f32) (ix5 b ⟨y.rev.val / 64, by omega⟩ ⟨y.rev.val % 64, by omega⟩ h w))
      (∑ κ : Fin 32, (fun s q e : EReal => s * (q * Ideal.exp e)) ((V (Proc.devRef .tc main_v57_4) : Vec Ideal S128x2x4x32x64 .f32) (ix5 ⟨y.rev.val / 64, by omega⟩ b h κ w))
        ((V (Proc.devRef .tc main_v26) : Vec Ideal S2x128x64x4x32 .f32) (ix5 b ⟨y.rev.val / 64, by omega⟩ ⟨y.rev.val % 64, by omega⟩ h κ))
        ((V (Proc.devRef .tc main_v30) : Vec Ideal S2x128x64x4x32 .f32) (ix5 b ⟨y.rev.val / 64, by omega⟩ ⟨y.rev.val % 64, by omega⟩ h κ))) := by
  after_reads_at
  simp only [show h.val * 64 + w.val = 64 * h.val + w.val by omega]
  rfl
theorem a_v80 (b : Fin 2) (y : Fin 8192) (x : Fin 256) : (after hostOps0_9 V (Proc.devRef .tc main_v80) : Vec Ideal S2x8192x256 .f32) (ix3 b y x)
    = normR (fun h w => (after hostOps0_9 V (Proc.devRef .tc main_v66) : Vec Ideal S2x8192x4x64 .f32) (ix4 b y h w)) ⟨x.val / 64, by omega⟩ ⟨x.val % 64, by omega⟩ * (V (Proc.devRef .tc main_arg3) : Vec Ideal S256 .f32) (ix1 x) := by
  after_reads_at
  unfold normR
  rfl
theorem a_v81 (b : Fin 2) (y : Fin 8192) (x : Fin 256) : (after hostOps0_10 V (Proc.devRef .tc main_v81) : Vec Ideal S2x8192x256 .f32) (ix3 b y x)
    = (fun g : EReal => g * Ideal.logistic g) ((V (Proc.devRef .tc main_v3) : Vec Ideal S2x8192x256 .f32) (ix3 b y x)) := by
  after_reads_at
  rfl
theorem a_v83 (b : Fin 2) (y : Fin 8192) (x : Fin 256) : (after hostOps0_11 V (Proc.devRef .tc main_v83) : Vec Ideal S2x8192x256 .bf16) (ix3 b y x)
    = (fun p q : EReal => p * q) ((V (Proc.devRef .tc main_v80) : Vec Ideal S2x8192x256 .f32) (ix3 b y x)) ((V (Proc.devRef .tc main_v81) : Vec Ideal S2x8192x256 .f32) (ix3 b y x)) := by
  after_reads_at
theorem a_v3 (b : Fin 2) (y : Fin 8192) (x : Fin 256) : (after hostOps0 V (Proc.devRef .tc main_v3) : Vec Ideal S2x8192x256 .f32) (ix3 b y x)
    = (V (Proc.devRef .tc main_arg0) : Vec Ideal S2x8192x800 .f32) (ix3 b y ⟨512 + x.val, by omega⟩) := by
  after_reads_at

end Cert.Reference9Ideal.Hand

end
-- ==== Proof.GlbRefLoop.lean ====
/-
  The backward reference's scan over the chunks: before trip `k` the carried array is the state carried into chunk `k`, and the
  first `k` chunks of the array it stacks hold the states carried into them.
-/
module

public import proofs.«01_k».proof.Proof.GlbRefA
public import proofs.«01_k».proof.Proof.GlaRefLoop
public import Idealize.ShloMosaic.Lib.WordCmp

@[expose] public section

set_option maxRecDepth 16384

noncomputable section

namespace Cert.Reference9Ideal.Hand

open Idealize.ShloMosaic Idealize.ShloMosaic.TcCoe Idealize.ShloMosaic.Tactic
open Cert.Reference9Ideal Cert.Reference9Ideal.Gen Cert.Reference9Ideal.Value Cert.GlaSpec
open Idealize.ShloMosaic.StableHlo
open Cert.ReferenceIdeal.Hand (scanSt)
open Idealize.ShloMosaic.WordCmp (toInt_ofNat_of_lt dynamicSlice_eq_extract dynamicUpdateSlice_eq_update)

variable (V : (b : DevRef τ sig) → b.ty.Contents (Elt Ideal))

/-- The carried array after a trip at counter `k`. -/
theorem step3_apply (k : Nat) (hk : k < 128) (hc : V (Proc.devRef .tc main_v57_2) = fun _ => BitVec.ofNat 32 k) (b : Fin 2) (h : Fin 4) (κ : Fin 32) (w : Fin 64) :
    (step_main_v57_3 V : Vec Ideal S2x4x32x64 .f32) (ix4 b h κ w)
      = (fun d s u : EReal => d * s + u) ((V (Proc.devRef .tc main_v57_0) : Vec Ideal S128x2x4x32 .f32) (ix4 ⟨k, hk⟩ b h κ))
          ((V (Proc.devRef .tc main_v57_3) : Vec Ideal S2x4x32x64 .f32) (ix4 b h κ w)) ((V (Proc.devRef .tc main_v57_1) : Vec Ideal S128x2x4x32x64 .f32) (ix5 ⟨k, hk⟩ b h κ w)) := by
  have e : (BitVec.ofNat 32 k).toInt = (k : Int) := toInt_ofNat_of_lt (by omega)
  unfold step_main_v57_3
  rw [dynamicSlice_eq_extract (s := S128x2x4x32) S1x2x4x32 _ _ _ ![k, 0, 0, 0] ⟨rfl, by intro a; fin_cases a <;> simp <;> omega⟩ (by
      intro a; fin_cases a
      · show ((V (Proc.devRef .tc main_v57_2) : Vec Ideal S_ .i32) _).toInt = _
        rw [hc]; exact e
      · rfl
      · rfl
      · rfl),
    dynamicSlice_eq_extract (s := S128x2x4x32x64) S1x2x4x32x64 _ _ _ ![k, 0, 0, 0, 0] ⟨rfl, by intro a; fin_cases a <;> simp <;> omega⟩ (by
      intro a; fin_cases a
      · show ((V (Proc.devRef .tc main_v57_2) : Vec Ideal S_ .i32) _).toInt = _
        rw [hc]; exact e
      · rfl
      · rfl
      · rfl
      · rfl)]
  simp only [id]
  pointwise []

/-- The stacked array after a trip at counter `k`. -/
theorem step4_apply (k : Nat) (hk : k < 128) (hc : V (Proc.devRef .tc main_v57_2) = fun _ => BitVec.ofNat 32 k) (n : Fin 128) (b : Fin 2) (h : Fin 4) (κ : Fin 32) (w : Fin 64) :
    (step_main_v57_4 V : Vec Ideal S128x2x4x32x64 .f32) (ix5 n b h κ w)
      = if n.val = k then (V (Proc.devRef .tc main_v57_3) : Vec Ideal S2x4x32x64 .f32) (ix4 b h κ w) else (V (Proc.devRef .tc main_v57_4) : Vec Ideal S128x2x4x32x64 .f32) (ix5 n b h κ w) := by
  have e : (BitVec.ofNat 32 k).toInt = (k : Int) := toInt_ofNat_of_lt (by omega)
  unfold step_main_v57_4
  rw [dynamicUpdateSlice_eq_update (s := S128x2x4x32x64) (u := S1x2x4x32x64) _ _ _ _ ![k, 0, 0, 0, 0] ⟨rfl, by intro a; fin_cases a <;> simp <;> omega⟩ (by
      intro a; fin_cases a
      · show ((V (Proc.devRef .tc main_v57_2) : Vec Ideal S_ .i32) _).toInt = _
        rw [hc]; exact e
      · rfl
      · rfl
      · rfl
      · rfl)]
  simp only [id]
  unfold updateSlice
  by_cases hn : n.val = k
  · rw [if_pos hn, dif_pos]
    · pointwise []
    · intro a
      match a with
      | ⟨0, _⟩ => show k ≤ n.val ∧ n.val < k + 1; omega
      | ⟨1, _⟩ => show 0 ≤ b.val ∧ b.val < 0 + 2; omega
      | ⟨2, _⟩ => show 0 ≤ h.val ∧ h.val < 0 + 4; omega
      | ⟨3, _⟩ => show 0 ≤ κ.val ∧ κ.val < 0 + 32; omega
      | ⟨4, _⟩ => show 0 ≤ w.val ∧ w.val < 0 + 64; omega
  · rw [if_neg hn, dif_neg]
    intro hin
    have h0 : k ≤ n.val ∧ n.val < k + 1 := hin ⟨0, Nat.zero_lt_succ 4⟩
    omega

variable (m : (ℓ : Loc nD τ sig) → Buf (Elt Ideal) ℓ) (c : Dev nD)

/-- A buffer that neither the condition nor the body writes is as it was at the loop's entry. -/
theorem loop_keeps (r : Ref sig .tc) (h : ∀ V : Valuation τ sig (Elt Ideal), after condOps V (Proc.devRef .tc r) = V (Proc.devRef .tc r) ∧ afterL bodyI V (Proc.devRef .tc r) = V (Proc.devRef .tc r)) :
    ∀ k : ℕ, atK m k c (Proc.devRef .tc r) = entryContents preI m c (Proc.devRef .tc r)
  | 0 => rfl
  | k + 1 => by
    rw [show atK m (k + 1) c = afterL bodyI (after condOps (atK m k c)) from rfl, (h _).2, (h _).1, loop_keeps r h k]

theorem atK_step (k : ℕ) (j : Ref sig .tc) (hj : j ∈ carriedRefs) : atK m (k + 1) c (Proc.devRef .tc j) = STEP (atK m k c) (Proc.devRef .tc j) :=
  trip_agree (atK m k c) j hj

theorem atK_counter (k : ℕ) : atK m k c (Proc.devRef .tc main_v57_2) = fun _ => BitVec.ofNat 32 k := by
  rw [atK_ctr]; funext _; simp [Scf.iv]

theorem atK_v570 : ∀ k : ℕ, atK m k c (Proc.devRef .tc main_v57_0) = entryContents preI m c (Proc.devRef .tc main_v57_0)
  | 0 => rfl
  | k + 1 => by rw [atK_step m c k _ (by decide), STEP_main_v57_0, atK_v570 k]

theorem atK_v571 : ∀ k : ℕ, atK m k c (Proc.devRef .tc main_v57_1) = entryContents preI m c (Proc.devRef .tc main_v57_1)
  | 0 => rfl
  | k + 1 => by rw [atK_step m c k _ (by decide), STEP_main_v57_1, atK_v571 k]

/-- The decay of chunk `k` and what it adds, as the loop's entry holds them. -/
def decay (b : Fin 2) (h : Fin 4) (κ : Fin 32) (k : ℕ) : EReal :=
  (entryContents preI m c (Proc.devRef .tc main_v57_0) : Vec Ideal S128x2x4x32 .f32) (ix4 ⟨k % 128, Nat.mod_lt _ (by decide)⟩ b h κ)
def added (b : Fin 2) (h : Fin 4) (κ : Fin 32) (w : Fin 64) (k : ℕ) : EReal :=
  (entryContents preI m c (Proc.devRef .tc main_v57_1) : Vec Ideal S128x2x4x32x64 .f32) (ix5 ⟨k % 128, Nat.mod_lt _ (by decide)⟩ b h κ w)

/-- Before trip `k` the carried array holds the state carried into chunk `k`. -/
theorem atK_v573 (h0 : ∀ b h κ w, (entryContents preI m c (Proc.devRef .tc main_v57_3) : Vec Ideal S2x4x32x64 .f32) (ix4 b h κ w) = (0 : EReal)) (b : Fin 2) (h : Fin 4) (κ : Fin 32) (w : Fin 64) :
    ∀ k : ℕ, k ≤ 128 → (atK m k c (Proc.devRef .tc main_v57_3) : Vec Ideal S2x4x32x64 .f32) (ix4 b h κ w) = scanSt (decay m c b h κ) (added m c b h κ w) k
  | 0, _ => h0 b h κ w
  | k + 1, hk => by
    rw [atK_step m c k _ (by decide), STEP_main_v57_3]
    refine (step3_apply (atK m k c) k (by omega) (atK_counter m c k) b h κ w).trans ?_
    rw [atK_v573 h0 b h κ w k (by omega), atK_v570, atK_v571]
    show _ = decay m c b h κ k * _ + added m c b h κ w k
    unfold decay added
    simp only [Nat.mod_eq_of_lt (show k < 128 by omega)]

/-- Before trip `k` the stacked array's first `k` chunks hold the states carried into them. -/
theorem atK_v574 (h0 : ∀ b h κ w, (entryContents preI m c (Proc.devRef .tc main_v57_3) : Vec Ideal S2x4x32x64 .f32) (ix4 b h κ w) = (0 : EReal)) (n : Fin 128) (b : Fin 2) (h : Fin 4) (κ : Fin 32) (w : Fin 64) :
    ∀ k : ℕ, k ≤ 128 → n.val < k → (atK m k c (Proc.devRef .tc main_v57_4) : Vec Ideal S128x2x4x32x64 .f32) (ix5 n b h κ w) = scanSt (decay m c b h κ) (added m c b h κ w) n.val
  | 0, _, hn => absurd hn (Nat.not_lt_zero _)
  | k + 1, hk, hn => by
    rw [atK_step m c k _ (by decide), STEP_main_v57_4]
    refine (step4_apply (atK m k c) k (by omega) (atK_counter m c k) n b h κ w).trans ?_
    by_cases e : n.val = k
    · rw [if_pos e, atK_v573 m c h0 b h κ w k (by omega), e]
    · rw [if_neg e, atK_v574 h0 n b h κ w k (by omega) (by omega)]

theorem keep_all (r : Ref sig .tc) (h1 : r ∉ condOps_W) (h2 : r ∉ while0Ops0_W) (h3 : r ∉ while0Ops0_1_W) (h4 : r ∉ while0Ops0_2_W) (h5 : r ∉ while0Ops0_3_W) (h6 : r ∉ while0Ops0_4_W) (k : ℕ) :
    atK m k c (Proc.devRef .tc r) = entryContents preI m c (Proc.devRef .tc r) := by
  refine loop_keeps m c r (fun V => ⟨after_of_writes_sub condOps V condOps_writes h1, ?_⟩) k
  simp only [afterL_cons, afterL_nil]
  rw [after_of_writes_sub while0Ops0_4 _ while0Ops0_4_writes h6, after_of_writes_sub while0Ops0_3 _ while0Ops0_3_writes h5, after_of_writes_sub while0Ops0_2 _ while0Ops0_2_writes h4,
    after_of_writes_sub while0Ops0_1 _ while0Ops0_1_writes h3, after_of_writes_sub while0Ops0 _ while0Ops0_writes h2]

end Cert.Reference9Ideal.Hand

end
-- ==== Proof.GlbRefB.lean ====
/-
  What the backward reference computes: read stretch by stretch from its arguments, its result at an index is the forward
  result plus the recurrence over the reversed rows, normed and gated.
-/
module

public import proofs.«01_k».proof.Proof.GlbRefLoop
public import proofs.«01_k».proof.Proof.GlbRun
public import proofs.«01_k».proof.Proof.GlaRefB

@[expose] public section

set_option maxRecDepth 16384

noncomputable section

namespace Cert.Reference9Ideal.Hand

open Idealize.ShloMosaic Idealize.ShloMosaic.TcCoe Idealize.ShloMosaic.Tactic
open Cert.Reference9Ideal Cert.Reference9Ideal.Gen Cert.Reference9Ideal.Value Cert.GlaSpec
open Idealize.ShloMosaic.StableHlo
open Cert.KernelIdeal.Hand (gf qN kN vN rowN)
open Cert.Kernel9Ideal.Hand (gN tN fN)
open Cert.ReferenceIdeal.Hand (scanSt sum_eq gate_eq)
open Cert.GlbSpec

variable (V : Valuation τ sig (Elt Ideal))

/-- The reference's arguments as functions of their indices. -/
def aP (b : Fin 2) (y : Fin 8192) (x : Fin 800) : EReal := (V (Proc.devRef .tc main_arg0) : Vec Ideal S2x8192x800 .f32) (ix3 b y x)
def aW (r : Fin 16) (x : Fin 128) : EReal := (V (Proc.devRef .tc main_arg1) : Vec Ideal S2x16x128 .f32) (ix3 1 r x)
def aB (x : Fin 128) : EReal := (V (Proc.devRef .tc main_arg2) : Vec Ideal S2x128 .f32) (ix2 1 x)

def aN (x : Fin 256) : EReal := (V (Proc.devRef .tc main_arg3) : Vec Ideal S256 .f32) (ix1 x)
def aF (b : Fin 2) (y : Fin 8192) (x : Fin 256) : EReal := (V (Proc.devRef .tc main_arg4) : Vec Ideal S2x8192x256 .f32) (ix3 b y x)

/-! The contents after each stretch before the scan. -/
def U1 := after hostOps0 V
def U2 := after hostOps0_1 (U1 V)
def U3 := after hostOps0_2 (U2 V)
def U4 := after hostOps0_3 (U3 V)
def U5 := after hostOps0_4 (U4 V)
def U6 := after hostOps0_5 (U5 V)
def U7 := after hostOps0_6 (U6 V)
def U8 := after hostOps0_7 (U7 V)
def U9 := after hostOps0_8 (U8 V)

theorem k2 (r : Ref sig .tc) (h : r ∉ hostOps0_1_W) : U2 V (Proc.devRef .tc r) = U1 V (Proc.devRef .tc r) := after_of_writes_sub _ _ hostOps0_1_writes h
theorem k3 (r : Ref sig .tc) (h : r ∉ hostOps0_2_W) : U3 V (Proc.devRef .tc r) = U2 V (Proc.devRef .tc r) := after_of_writes_sub _ _ hostOps0_2_writes h
theorem k4 (r : Ref sig .tc) (h : r ∉ hostOps0_3_W) : U4 V (Proc.devRef .tc r) = U3 V (Proc.devRef .tc r) := after_of_writes_sub _ _ hostOps0_3_writes h
theorem k5 (r : Ref sig .tc) (h : r ∉ hostOps0_4_W) : U5 V (Proc.devRef .tc r) = U4 V (Proc.devRef .tc r) := after_of_writes_sub _ _ hostOps0_4_writes h
theorem k6 (r : Ref sig .tc) (h : r ∉ hostOps0_5_W) : U6 V (Proc.devRef .tc r) = U5 V (Proc.devRef .tc r) := after_of_writes_sub _ _ hostOps0_5_writes h
theorem k7 (r : Ref sig .tc) (h : r ∉ hostOps0_6_W) : U7 V (Proc.devRef .tc r) = U6 V (Proc.devRef .tc r) := after_of_writes_sub _ _ hostOps0_6_writes h
theorem k8 (r : Ref sig .tc) (h : r ∉ hostOps0_7_W) : U8 V (Proc.devRef .tc r) = U7 V (Proc.devRef .tc r) := after_of_writes_sub _ _ hostOps0_7_writes h
theorem k9 (r : Ref sig .tc) (h : r ∉ hostOps0_8_W) : U9 V (Proc.devRef .tc r) = U8 V (Proc.devRef .tc r) := after_of_writes_sub _ _ hostOps0_8_writes h

/-- From the third stretch to the loop's entry a buffer no later stretch writes is unchanged. -/
theorem k38 (r : Ref sig .tc) (h4 : r ∉ hostOps0_3_W) (h5 : r ∉ hostOps0_4_W) (h6 : r ∉ hostOps0_5_W) (h7 : r ∉ hostOps0_6_W) (h8 : r ∉ hostOps0_7_W) :
    U8 V (Proc.devRef .tc r) = U3 V (Proc.devRef .tc r) := by
  rw [k8 V r h8, k7 V r h7, k6 V r h6, k5 V r h5, k4 V r h4]

theorem row_eq (n : Fin 128) (i : Fin 64) (h : 8191 - (n.val * 64 + i.val) < 8192) : (⟨8191 - (n.val * 64 + i.val), h⟩ : Fin 8192) = rowN (8191 - (64 * n.val + i.val)) := by
  apply Fin.ext; show 8191 - (n.val * 64 + i.val) = (8191 - (64 * n.val + i.val)) % 8192; omega

theorem u_v26 (b : Fin 2) (n : Fin 128) (i : Fin 64) (h : Fin 4) (κ : Fin 32) : (U3 V (Proc.devRef .tc main_v26) : Vec Ideal S2x128x64x4x32 .f32) (ix5 b n i h κ)
    = (fun p : EReal => p * Ideal.ofBits .f32 0x3E3504F3#32) (fl (qN (aP V)) b (64 * n.val + i.val) (hk h κ)) := by
  refine (a_v26 (U2 V) b n i h κ).trans ?_
  rw [k2 V _ (by decide), row_eq]
  exact a_v7 V b _ h κ
theorem u_v27 (b : Fin 2) (n : Fin 128) (i : Fin 64) (h : Fin 4) (κ : Fin 32) : (U3 V (Proc.devRef .tc main_v27) : Vec Ideal S2x128x64x4x32 .f32) (ix5 b n i h κ)
    = fl (kN (aP V)) b (64 * n.val + i.val) (hk h κ) := by
  refine (a_v27 (U2 V) b n i h κ).trans ?_
  rw [k2 V _ (by decide), row_eq]
  exact a_v8 V b _ h κ
theorem u_v29 (b : Fin 2) (n : Fin 128) (i : Fin 64) (h : Fin 4) (w : Fin 64) : (U3 V (Proc.devRef .tc main_v29) : Vec Ideal S2x128x64x4x64 .f32) (ix5 b n i h w)
    = fl (vN (aP V)) b (64 * n.val + i.val) (hv h w) := by
  refine (a_v29 (U2 V) b n i h w).trans ?_
  rw [k2 V _ (by decide), row_eq]
  exact a_v9 V b _ h w
theorem u_v28 (b : Fin 2) (n : Fin 128) (i : Fin 64) (h : Fin 4) (κ : Fin 32) : (U3 V (Proc.devRef .tc main_v28) : Vec Ideal S2x128x64x4x32 .f32) (ix5 b n i h κ)
    = fl (gN (aP V) (aW V) (aB V)) b (64 * n.val + i.val) (hk h κ) := by
  refine (a_v28 (U2 V) b n i h κ).trans ?_
  rw [show (U2 V (Proc.devRef .tc main_v16) : Vec Ideal S2x8192x2x128 .f32) (ix4 b ⟨8191 - (n.val * 64 + i.val), by omega⟩ 1 (hk h κ)) = _ from a_v16 (U1 V) b _ 1 (hk h κ), gate_eq, row_eq,
    show (U1 V (Proc.devRef .tc main_v15) : Vec Ideal S2x8192x2x128 .f32) (ix4 b (rowN (8191 - (64 * n.val + i.val))) 1 (hk h κ)) = _ from a_v15 V b _ (hk h κ)]
  unfold fl gN
  congr 2
  exact Finset.sum_congr rfl fun r _ => mul_comm (aW V r (hk h κ)) (aP V b (rowN (8191 - (64 * n.val + i.val))) ⟨768 + (16 + r.val), by omega⟩)

theorem u_v30 (b : Fin 2) (n : Fin 128) (i : Fin 64) (h : Fin 4) (κ : Fin 32) : (U4 V (Proc.devRef .tc main_v30) : Vec Ideal S2x128x64x4x32 .f32) (ix5 b n i h κ)
    = bc (fl (gN (aP V) (aW V) (aB V))) b n.val i (hk h κ) := by
  refine (a_v30 (U3 V) b n i h κ).trans ?_
  unfold bc
  refine sum_eq fun j => ?_
  rw [u_v28]

theorem u_v41 (b : Fin 2) (n : Fin 128) (i j : Fin 64) (h : Fin 4) : (U5 V (Proc.devRef .tc main_v41) : Vec Ideal S2x128x4x64x64 .f32) (ix5 b n h i j)
    = sc (Ideal.ofBits .f32 0x3E3504F3#32) (fl (qN (aP V))) (fl (kN (aP V))) (fl (gN (aP V) (aW V) (aB V))) b n.val h i j := by
  refine (a_v41 (U4 V) b n i j h).trans ?_
  unfold sc
  refine sum_eq fun x => ?_
  rw [u_v30, u_v30, u_v30, k4 V main_v26 (by decide), k4 V main_v27 (by decide), u_v26, u_v27]
theorem u_v32 (b : Fin 2) (n : Fin 128) (i : Fin 1) (h : Fin 4) (κ : Fin 32) : (U5 V (Proc.devRef .tc main_v32) : Vec Ideal S2x128x1x4x32 .f32) (ix5 b n i h κ)
    = bc (fl (gN (aP V) (aW V) (aB V))) b n.val 63 (hk h κ) :=
  (a_v32 (U4 V) b n i h κ).trans (u_v30 V b n 63 h κ)
theorem u_v43 (i j : Fin 64) : (U7 V (Proc.devRef .tc main_v43) : Vec Ideal S64x64 .i1) (ix2 i j) = if j < i then 1#1 else 0#1 := by
  rw [k7 V _ (by decide)]
  exact a_v43 (U5 V) i j (a_v42 (U4 V) i j)
theorem u_v44 (b : Fin 2) (n : Fin 128) (h : Fin 4) (i j : Fin 64) : (U8 V (Proc.devRef .tc main_v44) : Vec Ideal S2x128x4x64x64 .f32) (ix5 b n h i j)
    = (if j < i then sc (Ideal.ofBits .f32 0x3E3504F3#32) (fl (qN (aP V))) (fl (kN (aP V))) (fl (gN (aP V) (aW V) (aB V))) b n.val h i j else 0 : EReal) := by
  refine (a_v44 (U7 V) b n h i j).trans ?_
  rw [u_v43, k7 V main_v41 (by decide), k6 V main_v41 (by decide), u_v41, show (U7 V (Proc.devRef .tc main_cst_1) : Vec Ideal S_ .f32) ix0 = (0 : EReal) from a_cst1 (U6 V)]
  by_cases e : j < i
  · rw [if_pos e, if_pos e, if_pos rfl]
  · rw [if_neg e, if_neg e, if_neg (fun h => absurd h (by decide : ¬ (0#1 : BitVec 1) = 1#1))]
theorem u_v46 (b : Fin 2) (n : Fin 128) (i : Fin 64) (h : Fin 4) (w : Fin 64) : (U9 V (Proc.devRef .tc main_v46) : Vec Ideal S2x128x64x4x64 .f32) (ix5 b n i h w)
    = ∑ j : Fin 64, (if j < i then sc (Ideal.ofBits .f32 0x3E3504F3#32) (fl (qN (aP V))) (fl (kN (aP V))) (fl (gN (aP V) (aW V) (aB V))) b n.val h i j else 0) * fl (vN (aP V)) b (64 * n.val + j.val) (hv h w) := by
  refine (a_v46 (U8 V) b n i h w).trans ?_
  refine sum_eq fun x => ?_
  rw [u_v44, k38 V main_v29 (by decide) (by decide) (by decide) (by decide) (by decide), u_v29]
  exact mul_comm _ _
theorem u_v570 (n : Fin 128) (b : Fin 2) (h : Fin 4) (κ : Fin 32) : (U9 V (Proc.devRef .tc main_v57_0) : Vec Ideal S128x2x4x32 .f32) (ix4 n b h κ)
    = Ideal.exp (bc (fl (gN (aP V) (aW V) (aB V))) b n.val 63 (hk h κ)) := by
  refine (a_v570 (U8 V) n b h κ).trans ?_
  rw [k8 V main_v32 (by decide), k7 V main_v32 (by decide), k6 V main_v32 (by decide), u_v32]
theorem u_v571 (n : Fin 128) (b : Fin 2) (h : Fin 4) (κ : Fin 32) (w : Fin 64) : (U9 V (Proc.devRef .tc main_v57_1) : Vec Ideal S128x2x4x32x64 .f32) (ix5 n b h κ w)
    = ∑ j : Fin 64, fl (vN (aP V)) b (64 * n.val + j.val) (hv h w) * (fl (kN (aP V)) b (64 * n.val + j.val) (hk h κ) * Ideal.exp (bc (fl (gN (aP V) (aW V) (aB V))) b n.val 63 (hk h κ) - bc (fl (gN (aP V) (aW V) (aB V))) b n.val j (hk h κ))) := by
  refine (a_v571 (U8 V) n b h κ w).trans ?_
  refine sum_eq fun j => ?_
  rw [k8 V main_v32 (by decide), k7 V main_v32 (by decide), k6 V main_v32 (by decide), u_v32, k38 V main_v27 (by decide) (by decide) (by decide) (by decide) (by decide), u_v27,
    k38 V main_v29 (by decide) (by decide) (by decide) (by decide) (by decide), u_v29, k8 V main_v30 (by decide), k7 V main_v30 (by decide), k6 V main_v30 (by decide), k5 V main_v30 (by decide), u_v30]
  exact mul_comm _ _

variable (m : (ℓ : Loc nD τ sig) → Buf (Elt Ideal) ℓ) (c : Dev nD)

theorem entry_eq : entryContents preI m c = U9 (launchContents m c) := rfl

theorem scan_eq (b : Fin 2) (h : Fin 4) (κ : Fin 32) (w : Fin 64) : ∀ k : ℕ, k ≤ 128 → scanSt (decay m c b h κ) (added m c b h κ w) k
    = st (fl (kN (aP (launchContents m c)))) (fl (gN (aP (launchContents m c)) (aW (launchContents m c)) (aB (launchContents m c)))) (fl (vN (aP (launchContents m c)))) b h κ w k
  | 0, _ => rfl
  | k + 1, hk => by
    unfold scanSt st
    rw [scan_eq b h κ w k (by omega)]
    unfold decay added
    simp only [Nat.mod_eq_of_lt (show k < 128 by omega)]
    rw [entry_eq, u_v570, u_v571, mul_comm]

/-- The scan's result on the reversed rows, and the forward one. -/
theorem ref_both (b : Fin 2) (y : Fin 8192) (h : Fin 4) (w : Fin 64) : (after hostOps0_9 (after condOps (atK m 128 c)) (Proc.devRef .tc main_v66) : Vec Ideal S2x8192x4x64 .f32) (ix4 b y h w)
    = aF (launchContents m c) b y (hv h w) + outS (Ideal.ofBits .f32 0x3E3504F3#32) (fl (qN (aP (launchContents m c)))) (fl (kN (aP (launchContents m c)))) (fl (gN (aP (launchContents m c)) (aW (launchContents m c)) (aB (launchContents m c)))) (fl (vN (aP (launchContents m c))))
        b (y.rev.val / 64) ⟨y.rev.val % 64, by omega⟩ h w := by
  have kc : ∀ r : Ref sig .tc, r ∉ condOps_W → after condOps (atK m 128 c) (Proc.devRef .tc r) = atK m 128 c (Proc.devRef .tc r) := fun r h => after_of_writes_sub condOps _ condOps_writes h
  have eF : (after condOps (atK m 128 c) (Proc.devRef .tc main_arg4) : Vec Ideal S2x8192x256 .f32) = launchContents m c (Proc.devRef .tc main_arg4) := by
    rw [kc _ (by decide), keep_all m c main_arg4 (by decide) (by decide) (by decide) (by decide) (by decide) (by decide), entry_eq, k9 _ _ (by decide), k38 _ _ (by decide) (by decide) (by decide) (by decide) (by decide), k3 _ _ (by decide), k2 _ _ (by decide)]
    exact after_of_writes_sub _ _ hostOps0_writes (by decide)
  have e46 : (after condOps (atK m 128 c) (Proc.devRef .tc main_v46) : Vec Ideal S2x128x64x4x64 .f32) = U9 (launchContents m c) (Proc.devRef .tc main_v46) := by
    rw [kc _ (by decide), keep_all m c main_v46 (by decide) (by decide) (by decide) (by decide) (by decide) (by decide), entry_eq]
  have e26 : (after condOps (atK m 128 c) (Proc.devRef .tc main_v26) : Vec Ideal S2x128x64x4x32 .f32) = U3 (launchContents m c) (Proc.devRef .tc main_v26) := by
    rw [kc _ (by decide), keep_all m c main_v26 (by decide) (by decide) (by decide) (by decide) (by decide) (by decide), entry_eq, k9 _ _ (by decide), k38 _ _ (by decide) (by decide) (by decide) (by decide) (by decide)]
  have e30 : (after condOps (atK m 128 c) (Proc.devRef .tc main_v30) : Vec Ideal S2x128x64x4x32 .f32) = U4 (launchContents m c) (Proc.devRef .tc main_v30) := by
    rw [kc _ (by decide), keep_all m c main_v30 (by decide) (by decide) (by decide) (by decide) (by decide) (by decide), entry_eq, k9 _ _ (by decide), k8 _ _ (by decide), k7 _ _ (by decide), k6 _ _ (by decide), k5 _ _ (by decide)]
  refine (a_v66 _ b y h w).trans ?_
  rw [eF, e46, e26, e30, kc main_v57_4 (by decide), u_v46]
  unfold outS
  refine congrArg₂ (fun p q : EReal => p + q) rfl (congrArg₂ (fun p q : EReal => p + q) rfl (sum_eq fun κ => ?_))
  rw [u_v26, u_v30, atK_v574 m c (fun b h κ w => by rw [entry_eq]; exact a_v573 (U8 (launchContents m c)) b h κ w) _ b _ κ _ 128 le_rfl (by show y.rev.val / 64 < 128; omega), scan_eq _ _ _ _ _ _ _ (by show y.rev.val / 64 ≤ 128; omega)]
  exact mul_comm _ _

/-- The reference's result. -/
theorem ref_apply (b : Fin 2) (y : Fin 8192) (x : Fin 256) : (finalContents condOps preI bodyI postI 128 m c (Proc.devRef .tc main_v83) : Vec Ideal S2x8192x256 .bf16) (ix3 b y x)
    = fin (fun h w => aF (launchContents m c) b y (hv h w) + outS (Ideal.ofBits .f32 0x3E3504F3#32) (fl (qN (aP (launchContents m c)))) (fl (kN (aP (launchContents m c)))) (fl (gN (aP (launchContents m c)) (aW (launchContents m c)) (aB (launchContents m c)))) (fl (vN (aP (launchContents m c))))
        b (y.rev.val / 64) ⟨y.rev.val % 64, by omega⟩ h w) (aN (launchContents m c) x) (aP (launchContents m c) b y ⟨512 + x.val, by omega⟩) ⟨x.val / 64, by omega⟩ ⟨x.val % 64, by omega⟩ := by
  have kc : ∀ r : Ref sig .tc, r ∉ condOps_W → after condOps (atK m 128 c) (Proc.devRef .tc r) = atK m 128 c (Proc.devRef .tc r) := fun r h => after_of_writes_sub condOps _ condOps_writes h
  have eN : (after condOps (atK m 128 c) (Proc.devRef .tc main_arg3) : Vec Ideal S256 .f32) = launchContents m c (Proc.devRef .tc main_arg3) := by
    rw [kc _ (by decide), keep_all m c main_arg3 (by decide) (by decide) (by decide) (by decide) (by decide) (by decide), entry_eq, k9 _ _ (by decide), k38 _ _ (by decide) (by decide) (by decide) (by decide) (by decide), k3 _ _ (by decide), k2 _ _ (by decide)]
    exact after_of_writes_sub _ _ hostOps0_writes (by decide)
  have e3 : (after condOps (atK m 128 c) (Proc.devRef .tc main_v3) : Vec Ideal S2x8192x256 .f32) = U1 (launchContents m c) (Proc.devRef .tc main_v3) := by
    rw [kc _ (by decide), keep_all m c main_v3 (by decide) (by decide) (by decide) (by decide) (by decide) (by decide), entry_eq, k9 _ _ (by decide), k38 _ _ (by decide) (by decide) (by decide) (by decide) (by decide), k3 _ _ (by decide), k2 _ _ (by decide)]
  rw [show finalContents condOps preI bodyI postI 128 m c = afterL postI (after condOps (atK m 128 c)) from rfl]
  simp only [afterL_cons, afterL_nil]
  have n9 : ∀ W : Valuation τ sig (Elt Ideal), after hostOps0_9 W (Proc.devRef .tc main_v3) = W (Proc.devRef .tc main_v3) := fun W => by after_reads_simp
  have n10 : ∀ W : Valuation τ sig (Elt Ideal), after hostOps0_10 W (Proc.devRef .tc main_v80) = W (Proc.devRef .tc main_v80) := fun W => by after_reads_simp
  refine (a_v83 _ b y x).trans ?_
  rw [n10, a_v81, n9, e3, a_v80, eN, show (U1 (launchContents m c) (Proc.devRef .tc main_v3) : Vec Ideal S2x8192x256 .f32) (ix3 b y x) = _ from a_v3 (launchContents m c) b y x]
  exact congrArg (fun f : Fin 4 → Fin 64 → EReal => fin f (aN (launchContents m c) x) (aP (launchContents m c) b y ⟨512 + x.val, by omega⟩) ⟨x.val / 64, by omega⟩ ⟨x.val % 64, by omega⟩)
    (funext fun h => funext fun w => ref_both m c b y h w)

end Cert.Reference9Ideal.Hand

end
-- ==== Proof.GlbClaim.lean ====
/-
  The conjuncts of the claim about the backward recurrence: the reference's run leaves its arguments as they were, and
  where the precondition holds the two programs end with the same array.
-/
module

public import proofs.«01_k».proof.Defs
public import proofs.«01_k».proof.Proof.GlbPre
public import proofs.«01_k».proof.Proof.GlbRefB
public import Idealize.ShloMosaic.Lib.Quiescent
public import Idealize.ShloMosaic.Lib.Claim
public import Idealize.ShloMosaic.Lib.StableHlo.RunRead

@[expose] public section

set_option maxRecDepth 16384

noncomputable section

namespace Cert.Reference9Ideal.Hand

open Idealize.ShloMosaic Idealize.ShloMosaic.TcCoe Idealize.SL.Sem
open Cert.Reference9Ideal Cert.Reference9Ideal.Gen Cert.Reference9Ideal.Value
open Idealize.ShloMosaic.StableHlo

variable (m : (ℓ : Loc nD τ sig) → Buf (Elt Ideal) ℓ) (c : Dev nD)

/-- A buffer that no operation of the reference writes ends as it started. -/
theorem kept (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W)
    (h6 : r ∉ hostOps0_6_W) (h7 : r ∉ hostOps0_7_W) (h8 : r ∉ hostOps0_8_W) (h9 : ∀ V : Valuation τ sig (Elt Ideal), after hostOps0_9 V (Proc.devRef .tc r) = V (Proc.devRef .tc r))
    (h10 : ∀ V : Valuation τ sig (Elt Ideal), after hostOps0_10 V (Proc.devRef .tc r) = V (Proc.devRef .tc r)) (h11 : ∀ V : Valuation τ sig (Elt Ideal), after hostOps0_11 V (Proc.devRef .tc r) = V (Proc.devRef .tc r))
    (hc : r ∉ condOps_W) (b0 : r ∉ while0Ops0_W) (b1 : r ∉ while0Ops0_1_W)
    (b2 : r ∉ while0Ops0_2_W) (b3 : r ∉ while0Ops0_3_W) (b4 : r ∉ while0Ops0_4_W) :
    finalContents condOps preI bodyI postI 128 m c (Proc.devRef .tc r) = launchContents m c (Proc.devRef .tc r) := by
  rw [show finalContents condOps preI bodyI postI 128 m c = afterL postI (after condOps (atK m 128 c)) from rfl]
  simp only [afterL_cons, afterL_nil]
  rw [h11, h10, h9, after_of_writes_sub condOps _ condOps_writes hc, keep_all m c r hc b0 b1 b2 b3 b4, entry_eq, k9 _ _ h8, k8 _ _ h7, k7 _ _ h6, k6 _ _ h5, k5 _ _ h4,
    k4 _ _ h3, k3 _ _ h2, k2 _ _ h1]
  exact after_of_writes_sub _ _ hostOps0_writes h0

theorem kept0 : finalContents condOps preI bodyI postI 128 m c (Proc.devRef .tc main_arg0) = m ((c.tc : Thread nD τ).loc main_arg0) :=
  kept m c _ (by decide) (by decide) (by decide) (by decide) (by decide) (by decide) (by decide) (by decide) (by decide) (fun V => by after_reads_simp) (fun V => by after_reads_simp) (fun V => by after_reads_simp) (by decide) (by decide) (by decide) (by decide) (by decide) (by decide)
theorem kept1 : finalContents condOps preI bodyI postI 128 m c (Proc.devRef .tc main_arg1) = m ((c.tc : Thread nD τ).loc main_arg1) :=
  kept m c _ (by decide) (by decide) (by decide) (by decide) (by decide) (by decide) (by decide) (by decide) (by decide) (fun V => by after_reads_simp) (fun V => by after_reads_simp) (fun V => by after_reads_simp) (by decide) (by decide) (by decide) (by decide) (by decide) (by decide)
theorem kept2 : finalContents condOps preI bodyI postI 128 m c (Proc.devRef .tc main_arg2) = m ((c.tc : Thread nD τ).loc main_arg2) :=
  kept m c _ (by decide) (by decide) (by decide) (by decide) (by decide) (by decide) (by decide) (by decide) (by decide) (fun V => by after_reads_simp) (fun V => by after_reads_simp) (fun V => by after_reads_simp) (by decide) (by decide) (by decide) (by decide) (by decide) (by decide)
theorem kept3 : finalContents condOps preI bodyI postI 128 m c (Proc.devRef .tc main_arg3) = m ((c.tc : Thread nD τ).loc main_arg3) :=
  kept m c _ (by decide) (by decide) (by decide) (by decide) (by decide) (by decide) (by decide) (by decide) (by decide) (fun V => by after_reads_simp) (fun V => by after_reads_simp) (fun V => by after_reads_simp) (by decide) (by decide) (by decide) (by decide) (by decide) (by decide)
theorem kept4 : finalContents condOps preI bodyI postI 128 m c (Proc.devRef .tc main_arg4) = m ((c.tc : Thread nD τ).loc main_arg4) :=
  kept m c _ (by decide) (by decide) (by decide) (by decide) (by decide) (by decide) (by decide) (by decide) (by decide) (fun V => by after_reads_simp) (fun V => by after_reads_simp) (fun V => by after_reads_simp) (by decide) (by decide) (by decide) (by decide) (by decide) (by decide)

/-- The reference's run: its result is the last stretch's, its arguments are as they were. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v83) = finalContents condOps preI bodyI postI 128 m c (Proc.devRef .tc main_v83)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => ⟨h c main_v83 (by decide), (h c main_arg0 (by decide)).trans (kept0 m c), (h c main_arg1 (by decide)).trans (kept1 m c), (h c main_arg2 (by decide)).trans (kept2 m c),
    (h c main_arg3 (by decide)).trans (kept3 m c), (h c main_arg4 (by decide)).trans (kept4 m c)⟩)
    (run_fold m g)

end Cert.Reference9Ideal.Hand

namespace Cert.Proof

open Idealize.ShloMosaic Idealize.ShloMosaic.TcCoe Idealize.SL.Sem
open Cert.GlaSpec Cert.GlbSpec Cert.GlbPre

theorem quiescent_glb_reference : Cert.quiescent_Reference9Ideal := fun m g _ =>
  (θ_run Cert.Reference9Ideal.defs _ _).mono (fun r h => ⟨fun c => (h c).2, sem_eq_zero_of_no_sems (by decide) r.2⟩) (Cert.Reference9Ideal.Hand.run m g)

theorem quiescent_glb_reference_pre : Cert.quiescent_Reference9Ideal_pre_finite9 := fun m g _ =>
  (θ_run Cert.Reference9Ideal.defs _ _).mono (fun r h => ⟨fun c => (h c).2, sem_eq_zero_of_no_sems (by decide) r.2⟩) (Cert.Reference9Ideal.Hand.run m g)

/-- The reference's row of the reversed scan is the kernel's row of the scan from the last row down. -/
theorem scan_row (s : EReal) (q k g : Fin 2 → ℕ → Fin 128 → EReal) (v : Fin 2 → ℕ → Fin 256 → EReal) (hg : ∀ b N c, Rl (g b N c)) (b : Fin 2) (y : Fin 8192) (h : Fin 4) (w : Fin 64) :
    outS s (fl q) (fl k) (fl g) (fl v) b (y.rev.val / 64) ⟨y.rev.val % 64, Nat.mod_lt _ (by decide)⟩ h w
      = outR s q k g v b (127 - y.val / 64) ⟨y.val % 64, Nat.mod_lt _ (by decide)⟩ h w := by
  have hy := y.isLt
  have e1 : y.rev.val / 64 = 127 - y.val / 64 := by rw [Fin.val_rev]; omega
  have e2 : (⟨y.rev.val % 64, Nat.mod_lt _ (by decide)⟩ : Fin 64) = (⟨y.val % 64, Nat.mod_lt _ (by decide)⟩ : Fin 64).rev := by
    apply Fin.ext
    rw [Fin.val_rev]
    show y.rev.val % 64 = 64 - (y.val % 64 + 1)
    rw [Fin.val_rev]
    omega
  rw [e1, e2]
  exact outS_fl s q k g v hg b _ (by omega) _ h w

/-- The two results are one array: both are the recurrence's specification at the same arguments. -/
theorem algebraic_glb : Cert.algebraic_Kernel9Ideal_Reference9Ideal_pre_finite9 := by
  intro m g m' g' hpre hagree
  refine ⟨fun c => (Cert.Kernel9Ideal.Gen.dats m 0 c).arrAt 10 Cert.Kernel9Ideal.cfg0.N, Cert.Kernel9Ideal.Value.run_blocks (F := Ideal) m g, ?_⟩
  refine (θ_run Cert.Reference9Ideal.defs _ _).mono (fun r h c => ⟨(h c).1.trans ?_, (h c).2⟩) (Cert.Reference9Ideal.Hand.run m' g')
  have eP : Cert.Reference9Ideal.Hand.aP (StableHlo.launchContents m' c) = Cert.Kernel9Ideal.Hand.pM m c := by
    funext b y x; exact congrFun (hagree c).1 (ix3 b y x)
  have eW : Cert.Reference9Ideal.Hand.aW (StableHlo.launchContents m' c) = Cert.Kernel9Ideal.Hand.wM m c := by
    funext y x; exact congrFun (hagree c).2.1 (ix3 1 y x)
  have eB : Cert.Reference9Ideal.Hand.aB (StableHlo.launchContents m' c) = Cert.Kernel9Ideal.Hand.βM m c := by
    funext x; exact congrFun (hagree c).2.2.1 (ix2 1 x)
  have eN : Cert.Reference9Ideal.Hand.aN (StableHlo.launchContents m' c) = Cert.Kernel9Ideal.Hand.nM m c := by
    funext x; exact congrFun (hagree c).2.2.2.1 (ix1 x)
  have eF : Cert.Reference9Ideal.Hand.aF (StableHlo.launchContents m' c) = Cert.Kernel9Ideal.Hand.fM m c := by
    funext b y x; exact congrFun (hagree c).2.2.2.2 (ix3 b y x)
  have hp := hpre c
  have hL : ∀ b y (x : Fin 16), Rl (Cert.Kernel9Ideal.Hand.pM m c b y ⟨768 + (16 + x.val), by omega⟩) := fun b y x => rl_low _ _ _ _ _ hp b y x
  have hW : ∀ x y, Rl (Cert.Kernel9Ideal.Hand.wM m c x y) := fun x y => rl_w _ _ _ _ _ hp x y
  have hB : ∀ y, Rl (Cert.Kernel9Ideal.Hand.βM m c y) := fun y => rl_b _ _ _ _ _ hp y
  have hR : Cert.Kernel9Ideal.Hand.hReal m c := hReal_of m c (fun b y x hx => rl_head _ _ _ _ _ hp b y x hx) hL hW hB (fun b y x => rl_f _ _ _ _ _ hp b y x)
  have hg := rl_gN m c hL hW hB
  funext i
  obtain ⟨b, y, x, rfl⟩ : ∃ (b : Fin 2) (y : Fin 8192) (x : Fin 256), i = ix3 b y x := ⟨i 0, i 1, i 2, by funext a; match a with | ⟨0, _⟩ => rfl | ⟨1, _⟩ => rfl | ⟨2, _⟩ => rfl⟩
  refine (Cert.Reference9Ideal.Hand.ref_apply m' c b y x).trans (Eq.trans ?_ (Cert.Kernel9Ideal.Hand.result_apply m c hR b y x).symm)
  rw [eP, eW, eB, eN, eF]
  unfold Cert.Kernel9Ideal.Hand.res
  have hy := y.isLt
  have hx := x.isLt
  have er : Cert.KernelIdeal.Hand.rowN (rw' (127 - y.val / 64) ⟨y.val % 64, Nat.mod_lt _ (by decide)⟩) = y := by
    apply Fin.ext
    show (64 * (127 - (127 - y.val / 64)) + y.val % 64) % 8192 = y.val
    omega
  have ev : hv ⟨x.val / 64, by omega⟩ ⟨x.val % 64, Nat.mod_lt _ (by decide)⟩ = x := by
    apply Fin.ext
    show 64 * (x.val / 64) + x.val % 64 = x.val
    omega
  unfold Cert.Kernel9Ideal.Hand.tN
  rw [ev]
  congr 1
  · funext h w
    unfold Cert.Kernel9Ideal.Hand.both Cert.Kernel9Ideal.Hand.fN
    rw [er, add_comm, scan_row _ _ _ _ _ hg]
  · rw [er]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite9
public import proofs.«01_k».proof.Proof.GlaClaim
public import proofs.«01_k».proof.Proof.MergeClaim
public import proofs.«01_k».proof.Proof.FfnClaim
public import proofs.«01_k».proof.Proof.FfnSampleClaim
public import proofs.«01_k».proof.Proof.InClaim
public import proofs.«01_k».proof.Proof.ModClaim
public import proofs.«01_k».proof.Proof.ConvClaim
public import proofs.«01_k».proof.Proof.FilterClaim
public import proofs.«01_k».proof.Proof.GlbClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite9.Gen.facts, by
  exact ⟨fun m ρ _ => Cert.Kernel.Gen.frame m ρ, fun m ρ _ => Cert.KernelIdeal.Gen.frame m ρ, quiescent_gla_reference,
    fun m ρ _ => Cert.Kernel2.Gen.frame m ρ, fun m ρ _ => Cert.Kernel2Ideal.Gen.frame m ρ, quiescent_merge_reference,
    fun m ρ _ => Cert.Kernel3.Gen.frame m ρ, fun m ρ _ => Cert.Kernel3Ideal.Gen.frame m ρ, quiescent_ffn_reference,
    fun m ρ _ => Cert.Kernel4.Gen.frame m ρ, fun m ρ _ => Cert.Kernel4Ideal.Gen.frame m ρ, quiescent_ffn_sample_reference,
    fun m ρ _ => Cert.Kernel5.Gen.frame m ρ, fun m ρ _ => Cert.Kernel5Ideal.Gen.frame m ρ, quiescent_inproj_reference,
    fun m ρ _ => Cert.Kernel6.Gen.frame m ρ, fun m ρ _ => Cert.Kernel6Ideal.Gen.frame m ρ, quiescent_modulation_reference,
    fun m ρ _ => Cert.Kernel7.Gen.frame m ρ, fun m ρ _ => Cert.Kernel7Ideal.Gen.frame m ρ, quiescent_conv_reference,
    fun m ρ _ => Cert.Kernel8.Gen.frame m ρ, fun m ρ _ => Cert.Kernel8Ideal.Gen.frame m ρ, quiescent_filter_reference,
    fun m ρ _ => Cert.Kernel9.Gen.frame m ρ, fun m ρ _ => Cert.Kernel9Ideal.Gen.frame m ρ, fun m ρ _ => Cert.Kernel9Ideal.Gen.frame m ρ, quiescent_glb_reference, quiescent_glb_reference_pre,
    trivial, algebraic_gla, trivial, algebraic_merge, trivial, algebraic_ffn, trivial, algebraic_ffn_sample, trivial, algebraic_inproj,
    trivial, algebraic_modulation, trivial, algebraic_conv, trivial, algebraic_filter, trivial, algebraic_glb⟩⟩

end Cert.Proof

end
